-- ==== Defs.lean ====
def Pre_KPle (m : (ℓ : Loc Cert.KPle.nD Cert.KPle.τ Cert.KPle.sig) → Buf (Elt Bits) ℓ) : Prop :=
  True

def Pre_KPleIdeal (m : (ℓ : Loc Cert.KPleIdeal.nD Cert.KPleIdeal.τ Cert.KPleIdeal.sig) → Buf (Elt Ideal) ℓ) : Prop :=
  True

def Pre_RPleIdeal (m : (ℓ : Loc Cert.RPleIdeal.nD Cert.RPleIdeal.τ Cert.RPleIdeal.sig) → Buf (Elt Ideal) ℓ) : Prop :=
  True

def Pre_KFfn (m : (ℓ : Loc Cert.KFfn.nD Cert.KFfn.τ Cert.KFfn.sig) → Buf (Elt Bits) ℓ) : Prop :=
  True

def Pre_KFfnIdeal (m : (ℓ : Loc Cert.KFfnIdeal.nD Cert.KFfnIdeal.τ Cert.KFfnIdeal.sig) → Buf (Elt Ideal) ℓ) : Prop :=
  True

def Pre_RFfnIdeal (m : (ℓ : Loc Cert.RFfnIdeal.nD Cert.RFfnIdeal.τ Cert.RFfnIdeal.sig) → Buf (Elt Ideal) ℓ) : Prop :=
  True

def Pre_KInproj (m : (ℓ : Loc Cert.KInproj.nD Cert.KInproj.τ Cert.KInproj.sig) → Buf (Elt Bits) ℓ) : Prop :=
  True

def Pre_KInprojIdeal (m : (ℓ : Loc Cert.KInprojIdeal.nD Cert.KInprojIdeal.τ Cert.KInprojIdeal.sig) → Buf (Elt Ideal) ℓ) : Prop :=
  True

def Pre_RInprojIdeal (m : (ℓ : Loc Cert.RInprojIdeal.nD Cert.RInprojIdeal.τ Cert.RInprojIdeal.sig) → Buf (Elt Ideal) ℓ) : Prop :=
  True

def Pre_KFgate (m : (ℓ : Loc Cert.KFgate.nD Cert.KFgate.τ Cert.KFgate.sig) → Buf (Elt Bits) ℓ) : Prop :=
  True

def Pre_KFgateIdeal (m : (ℓ : Loc Cert.KFgateIdeal.nD Cert.KFgateIdeal.τ Cert.KFgateIdeal.sig) → Buf (Elt Ideal) ℓ) : Prop :=
  True

def Pre_RFgateIdeal (m : (ℓ : Loc Cert.RFgateIdeal.nD Cert.RFgateIdeal.τ Cert.RFgateIdeal.sig) → Buf (Elt Ideal) ℓ) : Prop :=
  True

def Pre_KMix (m : (ℓ : Loc Cert.KMix.nD Cert.KMix.τ Cert.KMix.sig) → Buf (Elt Bits) ℓ) : Prop :=
  True

def Pre_KMixIdeal (m : (ℓ : Loc Cert.KMixIdeal.nD Cert.KMixIdeal.τ Cert.KMixIdeal.sig) → Buf (Elt Ideal) ℓ) : Prop :=
  True

def Pre_RMixIdeal (m : (ℓ : Loc Cert.RMixIdeal.nD Cert.RMixIdeal.τ Cert.RMixIdeal.sig) → Buf (Elt Ideal) ℓ) : Prop :=
  True

def Pre_KAttn (m : (ℓ : Loc Cert.KAttn.nD Cert.KAttn.τ Cert.KAttn.sig) → Buf (Elt Bits) ℓ) : Prop :=
  True

def Pre_KAttnIdeal (m : (ℓ : Loc Cert.KAttnIdeal.nD Cert.KAttnIdeal.τ Cert.KAttnIdeal.sig) → Buf (Elt Ideal) ℓ) : Prop :=
  True

def Pre_KAttnIdeal_finite_attn [hPre_finite_attn : Cert.Pre_finite_attn.Facts] (m : (ℓ : Loc Cert.KAttnIdeal.nD Cert.KAttnIdeal.τ Cert.KAttnIdeal.sig) → Buf (Elt Ideal) ℓ) : Prop :=
  ∀ c : Dev Cert.KAttnIdeal.nD,
    (Cert.Pre_finite_attn.fn (F := Ideal) (m ((c.tc : Thread Cert.KAttnIdeal.nD Cert.KAttnIdeal.τ).loc Cert.KAttnIdeal.main_arg0)) (m ((c.tc : Thread Cert.KAttnIdeal.nD Cert.KAttnIdeal.τ).loc Cert.KAttnIdeal.main_arg1)) (m ((c.tc : Thread Cert.KAttnIdeal.nD Cert.KAttnIdeal.τ).loc Cert.KAttnIdeal.main_arg2)) (m ((c.tc : Thread Cert.KAttnIdeal.nD Cert.KAttnIdeal.τ).loc Cert.KAttnIdeal.main_arg3)) (m ((c.tc : Thread Cert.KAttnIdeal.nD Cert.KAttnIdeal.τ).loc Cert.KAttnIdeal.main_arg4))) = (fun _ => 1#1)

def Pre_RAttnIdeal (m : (ℓ : Loc Cert.RAttnIdeal.nD Cert.RAttnIdeal.τ Cert.RAttnIdeal.sig) → Buf (Elt Ideal) ℓ) : Prop :=
  True

def Pre_RAttnIdeal_finite_attn [hPre_finite_attn : Cert.Pre_finite_attn.Facts] (m : (ℓ : Loc Cert.RAttnIdeal.nD Cert.RAttnIdeal.τ Cert.RAttnIdeal.sig) → Buf (Elt Ideal) ℓ) : Prop :=
  ∀ c : Dev Cert.RAttnIdeal.nD,
    (Cert.Pre_finite_attn.fn (F := Ideal) (m ((c.tc : Thread Cert.RAttnIdeal.nD Cert.RAttnIdeal.τ).loc Cert.RAttnIdeal.main_arg0)) (m ((c.tc : Thread Cert.RAttnIdeal.nD Cert.RAttnIdeal.τ).loc Cert.RAttnIdeal.main_arg1)) (m ((c.tc : Thread Cert.RAttnIdeal.nD Cert.RAttnIdeal.τ).loc Cert.RAttnIdeal.main_arg2)) (m ((c.tc : Thread Cert.RAttnIdeal.nD Cert.RAttnIdeal.τ).loc Cert.RAttnIdeal.main_arg3)) (m ((c.tc : Thread Cert.RAttnIdeal.nD Cert.RAttnIdeal.τ).loc Cert.RAttnIdeal.main_arg4))) = (fun _ => 1#1)

def Pre_KFfnf (m : (ℓ : Loc Cert.KFfnf.nD Cert.KFfnf.τ Cert.KFfnf.sig) → Buf (Elt Bits) ℓ) : Prop :=
  True

def Pre_KFfnfIdeal (m : (ℓ : Loc Cert.KFfnfIdeal.nD Cert.KFfnfIdeal.τ Cert.KFfnfIdeal.sig) → Buf (Elt Ideal) ℓ) : Prop :=
  True

def Pre_RFfnfIdeal (m : (ℓ : Loc Cert.RFfnfIdeal.nD Cert.RFfnfIdeal.τ Cert.RFfnfIdeal.sig) → Buf (Elt Ideal) ℓ) : Prop :=
  True

def Pre_KInprojf (m : (ℓ : Loc Cert.KInprojf.nD Cert.KInprojf.τ Cert.KInprojf.sig) → Buf (Elt Bits) ℓ) : Prop :=
  True

def Pre_KInprojfIdeal (m : (ℓ : Loc Cert.KInprojfIdeal.nD Cert.KInprojfIdeal.τ Cert.KInprojfIdeal.sig) → Buf (Elt Ideal) ℓ) : Prop :=
  True

def Pre_RInprojfIdeal (m : (ℓ : Loc Cert.RInprojfIdeal.nD Cert.RInprojfIdeal.τ Cert.RInprojfIdeal.sig) → Buf (Elt Ideal) ℓ) : Prop :=
  True

def quiescent_KPle [hKPle : Cert.KPle.Facts] : Prop :=
  ∀ (m : (ℓ : Loc Cert.KPle.nD Cert.KPle.τ Cert.KPle.sig) → Buf (Elt Bits) ℓ) (g : Dev Cert.KPle.nD → PrngReg), Pre_KPle m →
    θ_run (Cert.KPle.defs (F := Bits)) (onTc (τ := Cert.KPle.τ) (Cert.KPle.main (F := Bits))) ⟨m, fun _ => 0, g⟩ (fun r => (∀ c : Dev Cert.KPle.nD,
      r.2.mem ((c.tc : Thread Cert.KPle.nD Cert.KPle.τ).loc Cert.KPle.main_arg0) = m ((c.tc : Thread Cert.KPle.nD Cert.KPle.τ).loc Cert.KPle.main_arg0)
      ∧ r.2.mem ((c.tc : Thread Cert.KPle.nD Cert.KPle.τ).loc Cert.KPle.main_arg1) = m ((c.tc : Thread Cert.KPle.nD Cert.KPle.τ).loc Cert.KPle.main_arg1)
      ∧ r.2.mem ((c.tc : Thread Cert.KPle.nD Cert.KPle.τ).loc Cert.KPle.main_arg2) = m ((c.tc : Thread Cert.KPle.nD Cert.KPle.τ).loc Cert.KPle.main_arg2)
      ∧ r.2.mem ((c.tc : Thread Cert.KPle.nD Cert.KPle.τ).loc Cert.KPle.main_arg3) = m ((c.tc : Thread Cert.KPle.nD Cert.KPle.τ).loc Cert.KPle.main_arg3)
      ∧ r.2.mem ((c.tc : Thread Cert.KPle.nD Cert.KPle.τ).loc Cert.KPle.main_arg4) = m ((c.tc : Thread Cert.KPle.nD Cert.KPle.τ).loc Cert.KPle.main_arg4)
      ∧ r.2.mem ((c.tc : Thread Cert.KPle.nD Cert.KPle.τ).loc Cert.KPle.main_arg5) = m ((c.tc : Thread Cert.KPle.nD Cert.KPle.τ).loc Cert.KPle.main_arg5))
      ∧ r.2.sem = fun _ => 0)

def quiescent_KPleIdeal [hKPleIdeal : Cert.KPleIdeal.Facts] : Prop :=
  ∀ (m : (ℓ : Loc Cert.KPleIdeal.nD Cert.KPleIdeal.τ Cert.KPleIdeal.sig) → Buf (Elt Ideal) ℓ) (g : Dev Cert.KPleIdeal.nD → PrngReg), Pre_KPleIdeal m →
    θ_run (Cert.KPleIdeal.defs (F := Ideal)) (onTc (τ := Cert.KPleIdeal.τ) (Cert.KPleIdeal.main (F := Ideal))) ⟨m, fun _ => 0, g⟩ (fun r => (∀ c : Dev Cert.KPleIdeal.nD,
      r.2.mem ((c.tc : Thread Cert.KPleIdeal.nD Cert.KPleIdeal.τ).loc Cert.KPleIdeal.main_arg0) = m ((c.tc : Thread Cert.KPleIdeal.nD Cert.KPleIdeal.τ).loc Cert.KPleIdeal.main_arg0)
      ∧ r.2.mem ((c.tc : Thread Cert.KPleIdeal.nD Cert.KPleIdeal.τ).loc Cert.KPleIdeal.main_arg1) = m ((c.tc : Thread Cert.KPleIdeal.nD Cert.KPleIdeal.τ).loc Cert.KPleIdeal.main_arg1)
      ∧ r.2.mem ((c.tc : Thread Cert.KPleIdeal.nD Cert.KPleIdeal.τ).loc Cert.KPleIdeal.main_arg2) = m ((c.tc : Thread Cert.KPleIdeal.nD Cert.KPleIdeal.τ).loc Cert.KPleIdeal.main_arg2)
      ∧ r.2.mem ((c.tc : Thread Cert.KPleIdeal.nD Cert.KPleIdeal.τ).loc Cert.KPleIdeal.main_arg3) = m ((c.tc : Thread Cert.KPleIdeal.nD Cert.KPleIdeal.τ).loc Cert.KPleIdeal.main_arg3)
      ∧ r.2.mem ((c.tc : Thread Cert.KPleIdeal.nD Cert.KPleIdeal.τ).loc Cert.KPleIdeal.main_arg4) = m ((c.tc : Thread Cert.KPleIdeal.nD Cert.KPleIdeal.τ).loc Cert.KPleIdeal.main_arg4)
      ∧ r.2.mem ((c.tc : Thread Cert.KPleIdeal.nD Cert.KPleIdeal.τ).loc Cert.KPleIdeal.main_arg5) = m ((c.tc : Thread Cert.KPleIdeal.nD Cert.KPleIdeal.τ).loc Cert.KPleIdeal.main_arg5))
      ∧ r.2.sem = fun _ => 0)

def quiescent_RPleIdeal [hRPleIdeal : Cert.RPleIdeal.Facts] : Prop :=
  ∀ (m : (ℓ : Loc Cert.RPleIdeal.nD Cert.RPleIdeal.τ Cert.RPleIdeal.sig) → Buf (Elt Ideal) ℓ) (g : Dev Cert.RPleIdeal.nD → PrngReg), Pre_RPleIdeal m →
    θ_run (Cert.RPleIdeal.defs (F := Ideal)) (onTc (τ := Cert.RPleIdeal.τ) (Cert.RPleIdeal.main (F := Ideal))) ⟨m, fun _ => 0, g⟩ (fun r => (∀ c : Dev Cert.RPleIdeal.nD,
      r.2.mem ((c.tc : Thread Cert.RPleIdeal.nD Cert.RPleIdeal.τ).loc Cert.RPleIdeal.main_arg0) = m ((c.tc : Thread Cert.RPleIdeal.nD Cert.RPleIdeal.τ).loc Cert.RPleIdeal.main_arg0)
      ∧ r.2.mem ((c.tc : Thread Cert.RPleIdeal.nD Cert.RPleIdeal.τ).loc Cert.RPleIdeal.main_arg1) = m ((c.tc : Thread Cert.RPleIdeal.nD Cert.RPleIdeal.τ).loc Cert.RPleIdeal.main_arg1)
      ∧ r.2.mem ((c.tc : Thread Cert.RPleIdeal.nD Cert.RPleIdeal.τ).loc Cert.RPleIdeal.main_arg2) = m ((c.tc : Thread Cert.RPleIdeal.nD Cert.RPleIdeal.τ).loc Cert.RPleIdeal.main_arg2)
      ∧ r.2.mem ((c.tc : Thread Cert.RPleIdeal.nD Cert.RPleIdeal.τ).loc Cert.RPleIdeal.main_arg3) = m ((c.tc : Thread Cert.RPleIdeal.nD Cert.RPleIdeal.τ).loc Cert.RPleIdeal.main_arg3)
      ∧ r.2.mem ((c.tc : Thread Cert.RPleIdeal.nD Cert.RPleIdeal.τ).loc Cert.RPleIdeal.main_arg4) = m ((c.tc : Thread Cert.RPleIdeal.nD Cert.RPleIdeal.τ).loc Cert.RPleIdeal.main_arg4)
      ∧ r.2.mem ((c.tc : Thread Cert.RPleIdeal.nD Cert.RPleIdeal.τ).loc Cert.RPleIdeal.main_arg5) = m ((c.tc : Thread Cert.RPleIdeal.nD Cert.RPleIdeal.τ).loc Cert.RPleIdeal.main_arg5))
      ∧ r.2.sem = fun _ => 0)

def quiescent_KFfn [hKFfn : Cert.KFfn.Facts] : Prop :=
  ∀ (m : (ℓ : Loc Cert.KFfn.nD Cert.KFfn.τ Cert.KFfn.sig) → Buf (Elt Bits) ℓ) (g : Dev Cert.KFfn.nD → PrngReg), Pre_KFfn m →
    θ_run (Cert.KFfn.defs (F := Bits)) (onTc (τ := Cert.KFfn.τ) (Cert.KFfn.main (F := Bits))) ⟨m, fun _ => 0, g⟩ (fun r => (∀ c : Dev Cert.KFfn.nD,
      r.2.mem ((c.tc : Thread Cert.KFfn.nD Cert.KFfn.τ).loc Cert.KFfn.main_arg0) = m ((c.tc : Thread Cert.KFfn.nD Cert.KFfn.τ).loc Cert.KFfn.main_arg0)
      ∧ r.2.mem ((c.tc : Thread Cert.KFfn.nD Cert.KFfn.τ).loc Cert.KFfn.main_arg1) = m ((c.tc : Thread Cert.KFfn.nD Cert.KFfn.τ).loc Cert.KFfn.main_arg1)
      ∧ r.2.mem ((c.tc : Thread Cert.KFfn.nD Cert.KFfn.τ).loc Cert.KFfn.main_arg2) = m ((c.tc : Thread Cert.KFfn.nD Cert.KFfn.τ).loc Cert.KFfn.main_arg2)
      ∧ r.2.mem ((c.tc : Thread Cert.KFfn.nD Cert.KFfn.τ).loc Cert.KFfn.main_arg3) = m ((c.tc : Thread Cert.KFfn.nD Cert.KFfn.τ).loc Cert.KFfn.main_arg3)
      ∧ r.2.mem ((c.tc : Thread Cert.KFfn.nD Cert.KFfn.τ).loc Cert.KFfn.main_arg4) = m ((c.tc : Thread Cert.KFfn.nD Cert.KFfn.τ).loc Cert.KFfn.main_arg4)
      ∧ r.2.mem ((c.tc : Thread Cert.KFfn.nD Cert.KFfn.τ).loc Cert.KFfn.main_arg5) = m ((c.tc : Thread Cert.KFfn.nD Cert.KFfn.τ).loc Cert.KFfn.main_arg5))
      ∧ r.2.sem = fun _ => 0)

def quiescent_KFfnIdeal [hKFfnIdeal : Cert.KFfnIdeal.Facts] : Prop :=
  ∀ (m : (ℓ : Loc Cert.KFfnIdeal.nD Cert.KFfnIdeal.τ Cert.KFfnIdeal.sig) → Buf (Elt Ideal) ℓ) (g : Dev Cert.KFfnIdeal.nD → PrngReg), Pre_KFfnIdeal m →
    θ_run (Cert.KFfnIdeal.defs (F := Ideal)) (onTc (τ := Cert.KFfnIdeal.τ) (Cert.KFfnIdeal.main (F := Ideal))) ⟨m, fun _ => 0, g⟩ (fun r => (∀ c : Dev Cert.KFfnIdeal.nD,
      r.2.mem ((c.tc : Thread Cert.KFfnIdeal.nD Cert.KFfnIdeal.τ).loc Cert.KFfnIdeal.main_arg0) = m ((c.tc : Thread Cert.KFfnIdeal.nD Cert.KFfnIdeal.τ).loc Cert.KFfnIdeal.main_arg0)
      ∧ r.2.mem ((c.tc : Thread Cert.KFfnIdeal.nD Cert.KFfnIdeal.τ).loc Cert.KFfnIdeal.main_arg1) = m ((c.tc : Thread Cert.KFfnIdeal.nD Cert.KFfnIdeal.τ).loc Cert.KFfnIdeal.main_arg1)
      ∧ r.2.mem ((c.tc : Thread Cert.KFfnIdeal.nD Cert.KFfnIdeal.τ).loc Cert.KFfnIdeal.main_arg2) = m ((c.tc : Thread Cert.KFfnIdeal.nD Cert.KFfnIdeal.τ).loc Cert.KFfnIdeal.main_arg2)
      ∧ r.2.mem ((c.tc : Thread Cert.KFfnIdeal.nD Cert.KFfnIdeal.τ).loc Cert.KFfnIdeal.main_arg3) = m ((c.tc : Thread Cert.KFfnIdeal.nD Cert.KFfnIdeal.τ).loc Cert.KFfnIdeal.main_arg3)
      ∧ r.2.mem ((c.tc : Thread Cert.KFfnIdeal.nD Cert.KFfnIdeal.τ).loc Cert.KFfnIdeal.main_arg4) = m ((c.tc : Thread Cert.KFfnIdeal.nD Cert.KFfnIdeal.τ).loc Cert.KFfnIdeal.main_arg4)
      ∧ r.2.mem ((c.tc : Thread Cert.KFfnIdeal.nD Cert.KFfnIdeal.τ).loc Cert.KFfnIdeal.main_arg5) = m ((c.tc : Thread Cert.KFfnIdeal.nD Cert.KFfnIdeal.τ).loc Cert.KFfnIdeal.main_arg5))
      ∧ r.2.sem = fun _ => 0)

def quiescent_RFfnIdeal [hRFfnIdeal : Cert.RFfnIdeal.Facts] : Prop :=
  ∀ (m : (ℓ : Loc Cert.RFfnIdeal.nD Cert.RFfnIdeal.τ Cert.RFfnIdeal.sig) → Buf (Elt Ideal) ℓ) (g : Dev Cert.RFfnIdeal.nD → PrngReg), Pre_RFfnIdeal m →
    θ_run (Cert.RFfnIdeal.defs (F := Ideal)) (onTc (τ := Cert.RFfnIdeal.τ) (Cert.RFfnIdeal.main (F := Ideal))) ⟨m, fun _ => 0, g⟩ (fun r => (∀ c : Dev Cert.RFfnIdeal.nD,
      r.2.mem ((c.tc : Thread Cert.RFfnIdeal.nD Cert.RFfnIdeal.τ).loc Cert.RFfnIdeal.main_arg0) = m ((c.tc : Thread Cert.RFfnIdeal.nD Cert.RFfnIdeal.τ).loc Cert.RFfnIdeal.main_arg0)
      ∧ r.2.mem ((c.tc : Thread Cert.RFfnIdeal.nD Cert.RFfnIdeal.τ).loc Cert.RFfnIdeal.main_arg1) = m ((c.tc : Thread Cert.RFfnIdeal.nD Cert.RFfnIdeal.τ).loc Cert.RFfnIdeal.main_arg1)
      ∧ r.2.mem ((c.tc : Thread Cert.RFfnIdeal.nD Cert.RFfnIdeal.τ).loc Cert.RFfnIdeal.main_arg2) = m ((c.tc : Thread Cert.RFfnIdeal.nD Cert.RFfnIdeal.τ).loc Cert.RFfnIdeal.main_arg2)
      ∧ r.2.mem ((c.tc : Thread Cert.RFfnIdeal.nD Cert.RFfnIdeal.τ).loc Cert.RFfnIdeal.main_arg3) = m ((c.tc : Thread Cert.RFfnIdeal.nD Cert.RFfnIdeal.τ).loc Cert.RFfnIdeal.main_arg3)
      ∧ r.2.mem ((c.tc : Thread Cert.RFfnIdeal.nD Cert.RFfnIdeal.τ).loc Cert.RFfnIdeal.main_arg4) = m ((c.tc : Thread Cert.RFfnIdeal.nD Cert.RFfnIdeal.τ).loc Cert.RFfnIdeal.main_arg4)
      ∧ r.2.mem ((c.tc : Thread Cert.RFfnIdeal.nD Cert.RFfnIdeal.τ).loc Cert.RFfnIdeal.main_arg5) = m ((c.tc : Thread Cert.RFfnIdeal.nD Cert.RFfnIdeal.τ).loc Cert.RFfnIdeal.main_arg5))
      ∧ r.2.sem = fun _ => 0)

def quiescent_KInproj [hKInproj : Cert.KInproj.Facts] : Prop :=
  ∀ (m : (ℓ : Loc Cert.KInproj.nD Cert.KInproj.τ Cert.KInproj.sig) → Buf (Elt Bits) ℓ) (g : Dev Cert.KInproj.nD → PrngReg), Pre_KInproj m →
    θ_run (Cert.KInproj.defs (F := Bits)) (onTc (τ := Cert.KInproj.τ) (Cert.KInproj.main (F := Bits))) ⟨m, fun _ => 0, g⟩ (fun r => (∀ c : Dev Cert.KInproj.nD,
      r.2.mem ((c.tc : Thread Cert.KInproj.nD Cert.KInproj.τ).loc Cert.KInproj.main_arg0) = m ((c.tc : Thread Cert.KInproj.nD Cert.KInproj.τ).loc Cert.KInproj.main_arg0)
      ∧ r.2.mem ((c.tc : Thread Cert.KInproj.nD Cert.KInproj.τ).loc Cert.KInproj.main_arg1) = m ((c.tc : Thread Cert.KInproj.nD Cert.KInproj.τ).loc Cert.KInproj.main_arg1)
      ∧ r.2.mem ((c.tc : Thread Cert.KInproj.nD Cert.KInproj.τ).loc Cert.KInproj.main_arg2) = m ((c.tc : Thread Cert.KInproj.nD Cert.KInproj.τ).loc Cert.KInproj.main_arg2)
      ∧ r.2.mem ((c.tc : Thread Cert.KInproj.nD Cert.KInproj.τ).loc Cert.KInproj.main_arg3) = m ((c.tc : Thread Cert.KInproj.nD Cert.KInproj.τ).loc Cert.KInproj.main_arg3)
      ∧ r.2.mem ((c.tc : Thread Cert.KInproj.nD Cert.KInproj.τ).loc Cert.KInproj.main_arg4) = m ((c.tc : Thread Cert.KInproj.nD Cert.KInproj.τ).loc Cert.KInproj.main_arg4)
      ∧ r.2.mem ((c.tc : Thread Cert.KInproj.nD Cert.KInproj.τ).loc Cert.KInproj.main_arg5) = m ((c.tc : Thread Cert.KInproj.nD Cert.KInproj.τ).loc Cert.KInproj.main_arg5)
      ∧ r.2.mem ((c.tc : Thread Cert.KInproj.nD Cert.KInproj.τ).loc Cert.KInproj.main_arg6) = m ((c.tc : Thread Cert.KInproj.nD Cert.KInproj.τ).loc Cert.KInproj.main_arg6)
      ∧ r.2.mem ((c.tc : Thread Cert.KInproj.nD Cert.KInproj.τ).loc Cert.KInproj.main_arg7) = m ((c.tc : Thread Cert.KInproj.nD Cert.KInproj.τ).loc Cert.KInproj.main_arg7)
      ∧ r.2.mem ((c.tc : Thread Cert.KInproj.nD Cert.KInproj.τ).loc Cert.KInproj.main_arg8) = m ((c.tc : Thread Cert.KInproj.nD Cert.KInproj.τ).loc Cert.KInproj.main_arg8)
      ∧ r.2.mem ((c.tc : Thread Cert.KInproj.nD Cert.KInproj.τ).loc Cert.KInproj.main_arg9) = m ((c.tc : Thread Cert.KInproj.nD Cert.KInproj.τ).loc Cert.KInproj.main_arg9)
      ∧ r.2.mem ((c.tc : Thread Cert.KInproj.nD Cert.KInproj.τ).loc Cert.KInproj.main_arg10) = m ((c.tc : Thread Cert.KInproj.nD Cert.KInproj.τ).loc Cert.KInproj.main_arg10)
      ∧ r.2.mem ((c.tc : Thread Cert.KInproj.nD Cert.KInproj.τ).loc Cert.KInproj.main_arg11) = m ((c.tc : Thread Cert.KInproj.nD Cert.KInproj.τ).loc Cert.KInproj.main_arg11)
      ∧ r.2.mem ((c.tc : Thread Cert.KInproj.nD Cert.KInproj.τ).loc Cert.KInproj.main_arg12) = m ((c.tc : Thread Cert.KInproj.nD Cert.KInproj.τ).loc Cert.KInproj.main_arg12)
      ∧ r.2.mem ((c.tc : Thread Cert.KInproj.nD Cert.KInproj.τ).loc Cert.KInproj.main_arg13) = m ((c.tc : Thread Cert.KInproj.nD Cert.KInproj.τ).loc Cert.KInproj.main_arg13))
      ∧ r.2.sem = fun _ => 0)

def quiescent_KInprojIdeal [hKInprojIdeal : Cert.KInprojIdeal.Facts] : Prop :=
  ∀ (m : (ℓ : Loc Cert.KInprojIdeal.nD Cert.KInprojIdeal.τ Cert.KInprojIdeal.sig) → Buf (Elt Ideal) ℓ) (g : Dev Cert.KInprojIdeal.nD → PrngReg), Pre_KInprojIdeal m →
    θ_run (Cert.KInprojIdeal.defs (F := Ideal)) (onTc (τ := Cert.KInprojIdeal.τ) (Cert.KInprojIdeal.main (F := Ideal))) ⟨m, fun _ => 0, g⟩ (fun r => (∀ c : Dev Cert.KInprojIdeal.nD,
      r.2.mem ((c.tc : Thread Cert.KInprojIdeal.nD Cert.KInprojIdeal.τ).loc Cert.KInprojIdeal.main_arg0) = m ((c.tc : Thread Cert.KInprojIdeal.nD Cert.KInprojIdeal.τ).loc Cert.KInprojIdeal.main_arg0)
      ∧ r.2.mem ((c.tc : Thread Cert.KInprojIdeal.nD Cert.KInprojIdeal.τ).loc Cert.KInprojIdeal.main_arg1) = m ((c.tc : Thread Cert.KInprojIdeal.nD Cert.KInprojIdeal.τ).loc Cert.KInprojIdeal.main_arg1)
      ∧ r.2.mem ((c.tc : Thread Cert.KInprojIdeal.nD Cert.KInprojIdeal.τ).loc Cert.KInprojIdeal.main_arg2) = m ((c.tc : Thread Cert.KInprojIdeal.nD Cert.KInprojIdeal.τ).loc Cert.KInprojIdeal.main_arg2)
      ∧ r.2.mem ((c.tc : Thread Cert.KInprojIdeal.nD Cert.KInprojIdeal.τ).loc Cert.KInprojIdeal.main_arg3) = m ((c.tc : Thread Cert.KInprojIdeal.nD Cert.KInprojIdeal.τ).loc Cert.KInprojIdeal.main_arg3)
      ∧ r.2.mem ((c.tc : Thread Cert.KInprojIdeal.nD Cert.KInprojIdeal.τ).loc Cert.KInprojIdeal.main_arg4) = m ((c.tc : Thread Cert.KInprojIdeal.nD Cert.KInprojIdeal.τ).loc Cert.KInprojIdeal.main_arg4)
      ∧ r.2.mem ((c.tc : Thread Cert.KInprojIdeal.nD Cert.KInprojIdeal.τ).loc Cert.KInprojIdeal.main_arg5) = m ((c.tc : Thread Cert.KInprojIdeal.nD Cert.KInprojIdeal.τ).loc Cert.KInprojIdeal.main_arg5)
      ∧ r.2.mem ((c.tc : Thread Cert.KInprojIdeal.nD Cert.KInprojIdeal.τ).loc Cert.KInprojIdeal.main_arg6) = m ((c.tc : Thread Cert.KInprojIdeal.nD Cert.KInprojIdeal.τ).loc Cert.KInprojIdeal.main_arg6)
      ∧ r.2.mem ((c.tc : Thread Cert.KInprojIdeal.nD Cert.KInprojIdeal.τ).loc Cert.KInprojIdeal.main_arg7) = m ((c.tc : Thread Cert.KInprojIdeal.nD Cert.KInprojIdeal.τ).loc Cert.KInprojIdeal.main_arg7)
      ∧ r.2.mem ((c.tc : Thread Cert.KInprojIdeal.nD Cert.KInprojIdeal.τ).loc Cert.KInprojIdeal.main_arg8) = m ((c.tc : Thread Cert.KInprojIdeal.nD Cert.KInprojIdeal.τ).loc Cert.KInprojIdeal.main_arg8)
      ∧ r.2.mem ((c.tc : Thread Cert.KInprojIdeal.nD Cert.KInprojIdeal.τ).loc Cert.KInprojIdeal.main_arg9) = m ((c.tc : Thread Cert.KInprojIdeal.nD Cert.KInprojIdeal.τ).loc Cert.KInprojIdeal.main_arg9)
      ∧ r.2.mem ((c.tc : Thread Cert.KInprojIdeal.nD Cert.KInprojIdeal.τ).loc Cert.KInprojIdeal.main_arg10) = m ((c.tc : Thread Cert.KInprojIdeal.nD Cert.KInprojIdeal.τ).loc Cert.KInprojIdeal.main_arg10)
      ∧ r.2.mem ((c.tc : Thread Cert.KInprojIdeal.nD Cert.KInprojIdeal.τ).loc Cert.KInprojIdeal.main_arg11) = m ((c.tc : Thread Cert.KInprojIdeal.nD Cert.KInprojIdeal.τ).loc Cert.KInprojIdeal.main_arg11)
      ∧ r.2.mem ((c.tc : Thread Cert.KInprojIdeal.nD Cert.KInprojIdeal.τ).loc Cert.KInprojIdeal.main_arg12) = m ((c.tc : Thread Cert.KInprojIdeal.nD Cert.KInprojIdeal.τ).loc Cert.KInprojIdeal.main_arg12)
      ∧ r.2.mem ((c.tc : Thread Cert.KInprojIdeal.nD Cert.KInprojIdeal.τ).loc Cert.KInprojIdeal.main_arg13) = m ((c.tc : Thread Cert.KInprojIdeal.nD Cert.KInprojIdeal.τ).loc Cert.KInprojIdeal.main_arg13))
      ∧ r.2.sem = fun _ => 0)

def quiescent_RInprojIdeal [hRInprojIdeal : Cert.RInprojIdeal.Facts] : Prop :=
  ∀ (m : (ℓ : Loc Cert.RInprojIdeal.nD Cert.RInprojIdeal.τ Cert.RInprojIdeal.sig) → Buf (Elt Ideal) ℓ) (g : Dev Cert.RInprojIdeal.nD → PrngReg), Pre_RInprojIdeal m →
    θ_run (Cert.RInprojIdeal.defs (F := Ideal)) (onTc (τ := Cert.RInprojIdeal.τ) (Cert.RInprojIdeal.main (F := Ideal))) ⟨m, fun _ => 0, g⟩ (fun r => (∀ c : Dev Cert.RInprojIdeal.nD,
      r.2.mem ((c.tc : Thread Cert.RInprojIdeal.nD Cert.RInprojIdeal.τ).loc Cert.RInprojIdeal.main_arg0) = m ((c.tc : Thread Cert.RInprojIdeal.nD Cert.RInprojIdeal.τ).loc Cert.RInprojIdeal.main_arg0)
      ∧ r.2.mem ((c.tc : Thread Cert.RInprojIdeal.nD Cert.RInprojIdeal.τ).loc Cert.RInprojIdeal.main_arg1) = m ((c.tc : Thread Cert.RInprojIdeal.nD Cert.RInprojIdeal.τ).loc Cert.RInprojIdeal.main_arg1)
      ∧ r.2.mem ((c.tc : Thread Cert.RInprojIdeal.nD Cert.RInprojIdeal.τ).loc Cert.RInprojIdeal.main_arg2) = m ((c.tc : Thread Cert.RInprojIdeal.nD Cert.RInprojIdeal.τ).loc Cert.RInprojIdeal.main_arg2)
      ∧ r.2.mem ((c.tc : Thread Cert.RInprojIdeal.nD Cert.RInprojIdeal.τ).loc Cert.RInprojIdeal.main_arg3) = m ((c.tc : Thread Cert.RInprojIdeal.nD Cert.RInprojIdeal.τ).loc Cert.RInprojIdeal.main_arg3)
      ∧ r.2.mem ((c.tc : Thread Cert.RInprojIdeal.nD Cert.RInprojIdeal.τ).loc Cert.RInprojIdeal.main_arg4) = m ((c.tc : Thread Cert.RInprojIdeal.nD Cert.RInprojIdeal.τ).loc Cert.RInprojIdeal.main_arg4)
      ∧ r.2.mem ((c.tc : Thread Cert.RInprojIdeal.nD Cert.RInprojIdeal.τ).loc Cert.RInprojIdeal.main_arg5) = m ((c.tc : Thread Cert.RInprojIdeal.nD Cert.RInprojIdeal.τ).loc Cert.RInprojIdeal.main_arg5)
      ∧ r.2.mem ((c.tc : Thread Cert.RInprojIdeal.nD Cert.RInprojIdeal.τ).loc Cert.RInprojIdeal.main_arg6) = m ((c.tc : Thread Cert.RInprojIdeal.nD Cert.RInprojIdeal.τ).loc Cert.RInprojIdeal.main_arg6)
      ∧ r.2.mem ((c.tc : Thread Cert.RInprojIdeal.nD Cert.RInprojIdeal.τ).loc Cert.RInprojIdeal.main_arg7) = m ((c.tc : Thread Cert.RInprojIdeal.nD Cert.RInprojIdeal.τ).loc Cert.RInprojIdeal.main_arg7)
      ∧ r.2.mem ((c.tc : Thread Cert.RInprojIdeal.nD Cert.RInprojIdeal.τ).loc Cert.RInprojIdeal.main_arg8) = m ((c.tc : Thread Cert.RInprojIdeal.nD Cert.RInprojIdeal.τ).loc Cert.RInprojIdeal.main_arg8)
      ∧ r.2.mem ((c.tc : Thread Cert.RInprojIdeal.nD Cert.RInprojIdeal.τ).loc Cert.RInprojIdeal.main_arg9) = m ((c.tc : Thread Cert.RInprojIdeal.nD Cert.RInprojIdeal.τ).loc Cert.RInprojIdeal.main_arg9)
      ∧ r.2.mem ((c.tc : Thread Cert.RInprojIdeal.nD Cert.RInprojIdeal.τ).loc Cert.RInprojIdeal.main_arg10) = m ((c.tc : Thread Cert.RInprojIdeal.nD Cert.RInprojIdeal.τ).loc Cert.RInprojIdeal.main_arg10)
      ∧ r.2.mem ((c.tc : Thread Cert.RInprojIdeal.nD Cert.RInprojIdeal.τ).loc Cert.RInprojIdeal.main_arg11) = m ((c.tc : Thread Cert.RInprojIdeal.nD Cert.RInprojIdeal.τ).loc Cert.RInprojIdeal.main_arg11)
      ∧ r.2.mem ((c.tc : Thread Cert.RInprojIdeal.nD Cert.RInprojIdeal.τ).loc Cert.RInprojIdeal.main_arg12) = m ((c.tc : Thread Cert.RInprojIdeal.nD Cert.RInprojIdeal.τ).loc Cert.RInprojIdeal.main_arg12)
      ∧ r.2.mem ((c.tc : Thread Cert.RInprojIdeal.nD Cert.RInprojIdeal.τ).loc Cert.RInprojIdeal.main_arg13) = m ((c.tc : Thread Cert.RInprojIdeal.nD Cert.RInprojIdeal.τ).loc Cert.RInprojIdeal.main_arg13))
      ∧ r.2.sem = fun _ => 0)

def quiescent_KFgate [hKFgate : Cert.KFgate.Facts] : Prop :=
  ∀ (m : (ℓ : Loc Cert.KFgate.nD Cert.KFgate.τ Cert.KFgate.sig) → Buf (Elt Bits) ℓ) (g : Dev Cert.KFgate.nD → PrngReg), Pre_KFgate m →
    θ_run (Cert.KFgate.defs (F := Bits)) (onTc (τ := Cert.KFgate.τ) (Cert.KFgate.main (F := Bits))) ⟨m, fun _ => 0, g⟩ (fun r => (∀ c : Dev Cert.KFgate.nD,
      r.2.mem ((c.tc : Thread Cert.KFgate.nD Cert.KFgate.τ).loc Cert.KFgate.main_arg0) = m ((c.tc : Thread Cert.KFgate.nD Cert.KFgate.τ).loc Cert.KFgate.main_arg0)
      ∧ r.2.mem ((c.tc : Thread Cert.KFgate.nD Cert.KFgate.τ).loc Cert.KFgate.main_arg1) = m ((c.tc : Thread Cert.KFgate.nD Cert.KFgate.τ).loc Cert.KFgate.main_arg1)
      ∧ r.2.mem ((c.tc : Thread Cert.KFgate.nD Cert.KFgate.τ).loc Cert.KFgate.main_arg2) = m ((c.tc : Thread Cert.KFgate.nD Cert.KFgate.τ).loc Cert.KFgate.main_arg2)
      ∧ r.2.mem ((c.tc : Thread Cert.KFgate.nD Cert.KFgate.τ).loc Cert.KFgate.main_arg3) = m ((c.tc : Thread Cert.KFgate.nD Cert.KFgate.τ).loc Cert.KFgate.main_arg3))
      ∧ r.2.sem = fun _ => 0)

def quiescent_KFgateIdeal [hKFgateIdeal : Cert.KFgateIdeal.Facts] : Prop :=
  ∀ (m : (ℓ : Loc Cert.KFgateIdeal.nD Cert.KFgateIdeal.τ Cert.KFgateIdeal.sig) → Buf (Elt Ideal) ℓ) (g : Dev Cert.KFgateIdeal.nD → PrngReg), Pre_KFgateIdeal m →
    θ_run (Cert.KFgateIdeal.defs (F := Ideal)) (onTc (τ := Cert.KFgateIdeal.τ) (Cert.KFgateIdeal.main (F := Ideal))) ⟨m, fun _ => 0, g⟩ (fun r => (∀ c : Dev Cert.KFgateIdeal.nD,
      r.2.mem ((c.tc : Thread Cert.KFgateIdeal.nD Cert.KFgateIdeal.τ).loc Cert.KFgateIdeal.main_arg0) = m ((c.tc : Thread Cert.KFgateIdeal.nD Cert.KFgateIdeal.τ).loc Cert.KFgateIdeal.main_arg0)
      ∧ r.2.mem ((c.tc : Thread Cert.KFgateIdeal.nD Cert.KFgateIdeal.τ).loc Cert.KFgateIdeal.main_arg1) = m ((c.tc : Thread Cert.KFgateIdeal.nD Cert.KFgateIdeal.τ).loc Cert.KFgateIdeal.main_arg1)
      ∧ r.2.mem ((c.tc : Thread Cert.KFgateIdeal.nD Cert.KFgateIdeal.τ).loc Cert.KFgateIdeal.main_arg2) = m ((c.tc : Thread Cert.KFgateIdeal.nD Cert.KFgateIdeal.τ).loc Cert.KFgateIdeal.main_arg2)
      ∧ r.2.mem ((c.tc : Thread Cert.KFgateIdeal.nD Cert.KFgateIdeal.τ).loc Cert.KFgateIdeal.main_arg3) = m ((c.tc : Thread Cert.KFgateIdeal.nD Cert.KFgateIdeal.τ).loc Cert.KFgateIdeal.main_arg3))
      ∧ r.2.sem = fun _ => 0)

def quiescent_RFgateIdeal [hRFgateIdeal : Cert.RFgateIdeal.Facts] : Prop :=
  ∀ (m : (ℓ : Loc Cert.RFgateIdeal.nD Cert.RFgateIdeal.τ Cert.RFgateIdeal.sig) → Buf (Elt Ideal) ℓ) (g : Dev Cert.RFgateIdeal.nD → PrngReg), Pre_RFgateIdeal m →
    θ_run (Cert.RFgateIdeal.defs (F := Ideal)) (onTc (τ := Cert.RFgateIdeal.τ) (Cert.RFgateIdeal.main (F := Ideal))) ⟨m, fun _ => 0, g⟩ (fun r => (∀ c : Dev Cert.RFgateIdeal.nD,
      r.2.mem ((c.tc : Thread Cert.RFgateIdeal.nD Cert.RFgateIdeal.τ).loc Cert.RFgateIdeal.main_arg0) = m ((c.tc : Thread Cert.RFgateIdeal.nD Cert.RFgateIdeal.τ).loc Cert.RFgateIdeal.main_arg0)
      ∧ r.2.mem ((c.tc : Thread Cert.RFgateIdeal.nD Cert.RFgateIdeal.τ).loc Cert.RFgateIdeal.main_arg1) = m ((c.tc : Thread Cert.RFgateIdeal.nD Cert.RFgateIdeal.τ).loc Cert.RFgateIdeal.main_arg1)
      ∧ r.2.mem ((c.tc : Thread Cert.RFgateIdeal.nD Cert.RFgateIdeal.τ).loc Cert.RFgateIdeal.main_arg2) = m ((c.tc : Thread Cert.RFgateIdeal.nD Cert.RFgateIdeal.τ).loc Cert.RFgateIdeal.main_arg2)
      ∧ r.2.mem ((c.tc : Thread Cert.RFgateIdeal.nD Cert.RFgateIdeal.τ).loc Cert.RFgateIdeal.main_arg3) = m ((c.tc : Thread Cert.RFgateIdeal.nD Cert.RFgateIdeal.τ).loc Cert.RFgateIdeal.main_arg3))
      ∧ r.2.sem = fun _ => 0)

def quiescent_KMix [hKMix : Cert.KMix.Facts] : Prop :=
  ∀ (m : (ℓ : Loc Cert.KMix.nD Cert.KMix.τ Cert.KMix.sig) → Buf (Elt Bits) ℓ) (g : Dev Cert.KMix.nD → PrngReg), Pre_KMix m →
    θ_run (Cert.KMix.defs (F := Bits)) (onTc (τ := Cert.KMix.τ) (Cert.KMix.main (F := Bits))) ⟨m, fun _ => 0, g⟩ (fun r => (∀ c : Dev Cert.KMix.nD,
      r.2.mem ((c.tc : Thread Cert.KMix.nD Cert.KMix.τ).loc Cert.KMix.main_arg0) = m ((c.tc : Thread Cert.KMix.nD Cert.KMix.τ).loc Cert.KMix.main_arg0)
      ∧ r.2.mem ((c.tc : Thread Cert.KMix.nD Cert.KMix.τ).loc Cert.KMix.main_arg1) = m ((c.tc : Thread Cert.KMix.nD Cert.KMix.τ).loc Cert.KMix.main_arg1)
      ∧ r.2.mem ((c.tc : Thread Cert.KMix.nD Cert.KMix.τ).loc Cert.KMix.main_arg2) = m ((c.tc : Thread Cert.KMix.nD Cert.KMix.τ).loc Cert.KMix.main_arg2)
      ∧ r.2.mem ((c.tc : Thread Cert.KMix.nD Cert.KMix.τ).loc Cert.KMix.main_arg3) = m ((c.tc : Thread Cert.KMix.nD Cert.KMix.τ).loc Cert.KMix.main_arg3)
      ∧ r.2.mem ((c.tc : Thread Cert.KMix.nD Cert.KMix.τ).loc Cert.KMix.main_arg4) = m ((c.tc : Thread Cert.KMix.nD Cert.KMix.τ).loc Cert.KMix.main_arg4)
      ∧ r.2.mem ((c.tc : Thread Cert.KMix.nD Cert.KMix.τ).loc Cert.KMix.main_arg5) = m ((c.tc : Thread Cert.KMix.nD Cert.KMix.τ).loc Cert.KMix.main_arg5)
      ∧ r.2.mem ((c.tc : Thread Cert.KMix.nD Cert.KMix.τ).loc Cert.KMix.main_arg6) = m ((c.tc : Thread Cert.KMix.nD Cert.KMix.τ).loc Cert.KMix.main_arg6)
      ∧ r.2.mem ((c.tc : Thread Cert.KMix.nD Cert.KMix.τ).loc Cert.KMix.main_arg7) = m ((c.tc : Thread Cert.KMix.nD Cert.KMix.τ).loc Cert.KMix.main_arg7)
      ∧ r.2.mem ((c.tc : Thread Cert.KMix.nD Cert.KMix.τ).loc Cert.KMix.main_arg8) = m ((c.tc : Thread Cert.KMix.nD Cert.KMix.τ).loc Cert.KMix.main_arg8)
      ∧ r.2.mem ((c.tc : Thread Cert.KMix.nD Cert.KMix.τ).loc Cert.KMix.main_arg9) = m ((c.tc : Thread Cert.KMix.nD Cert.KMix.τ).loc Cert.KMix.main_arg9)
      ∧ r.2.mem ((c.tc : Thread Cert.KMix.nD Cert.KMix.τ).loc Cert.KMix.main_arg10) = m ((c.tc : Thread Cert.KMix.nD Cert.KMix.τ).loc Cert.KMix.main_arg10)
      ∧ r.2.mem ((c.tc : Thread Cert.KMix.nD Cert.KMix.τ).loc Cert.KMix.main_arg11) = m ((c.tc : Thread Cert.KMix.nD Cert.KMix.τ).loc Cert.KMix.main_arg11)
      ∧ r.2.mem ((c.tc : Thread Cert.KMix.nD Cert.KMix.τ).loc Cert.KMix.main_arg12) = m ((c.tc : Thread Cert.KMix.nD Cert.KMix.τ).loc Cert.KMix.main_arg12)
      ∧ r.2.mem ((c.tc : Thread Cert.KMix.nD Cert.KMix.τ).loc Cert.KMix.main_arg13) = m ((c.tc : Thread Cert.KMix.nD Cert.KMix.τ).loc Cert.KMix.main_arg13))
      ∧ r.2.sem = fun _ => 0)

def quiescent_KMixIdeal [hKMixIdeal : Cert.KMixIdeal.Facts] : Prop :=
  ∀ (m : (ℓ : Loc Cert.KMixIdeal.nD Cert.KMixIdeal.τ Cert.KMixIdeal.sig) → Buf (Elt Ideal) ℓ) (g : Dev Cert.KMixIdeal.nD → PrngReg), Pre_KMixIdeal m →
    θ_run (Cert.KMixIdeal.defs (F := Ideal)) (onTc (τ := Cert.KMixIdeal.τ) (Cert.KMixIdeal.main (F := Ideal))) ⟨m, fun _ => 0, g⟩ (fun r => (∀ c : Dev Cert.KMixIdeal.nD,
      r.2.mem ((c.tc : Thread Cert.KMixIdeal.nD Cert.KMixIdeal.τ).loc Cert.KMixIdeal.main_arg0) = m ((c.tc : Thread Cert.KMixIdeal.nD Cert.KMixIdeal.τ).loc Cert.KMixIdeal.main_arg0)
      ∧ r.2.mem ((c.tc : Thread Cert.KMixIdeal.nD Cert.KMixIdeal.τ).loc Cert.KMixIdeal.main_arg1) = m ((c.tc : Thread Cert.KMixIdeal.nD Cert.KMixIdeal.τ).loc Cert.KMixIdeal.main_arg1)
      ∧ r.2.mem ((c.tc : Thread Cert.KMixIdeal.nD Cert.KMixIdeal.τ).loc Cert.KMixIdeal.main_arg2) = m ((c.tc : Thread Cert.KMixIdeal.nD Cert.KMixIdeal.τ).loc Cert.KMixIdeal.main_arg2)
      ∧ r.2.mem ((c.tc : Thread Cert.KMixIdeal.nD Cert.KMixIdeal.τ).loc Cert.KMixIdeal.main_arg3) = m ((c.tc : Thread Cert.KMixIdeal.nD Cert.KMixIdeal.τ).loc Cert.KMixIdeal.main_arg3)
      ∧ r.2.mem ((c.tc : Thread Cert.KMixIdeal.nD Cert.KMixIdeal.τ).loc Cert.KMixIdeal.main_arg4) = m ((c.tc : Thread Cert.KMixIdeal.nD Cert.KMixIdeal.τ).loc Cert.KMixIdeal.main_arg4)
      ∧ r.2.mem ((c.tc : Thread Cert.KMixIdeal.nD Cert.KMixIdeal.τ).loc Cert.KMixIdeal.main_arg5) = m ((c.tc : Thread Cert.KMixIdeal.nD Cert.KMixIdeal.τ).loc Cert.KMixIdeal.main_arg5)
      ∧ r.2.mem ((c.tc : Thread Cert.KMixIdeal.nD Cert.KMixIdeal.τ).loc Cert.KMixIdeal.main_arg6) = m ((c.tc : Thread Cert.KMixIdeal.nD Cert.KMixIdeal.τ).loc Cert.KMixIdeal.main_arg6)
      ∧ r.2.mem ((c.tc : Thread Cert.KMixIdeal.nD Cert.KMixIdeal.τ).loc Cert.KMixIdeal.main_arg7) = m ((c.tc : Thread Cert.KMixIdeal.nD Cert.KMixIdeal.τ).loc Cert.KMixIdeal.main_arg7)
      ∧ r.2.mem ((c.tc : Thread Cert.KMixIdeal.nD Cert.KMixIdeal.τ).loc Cert.KMixIdeal.main_arg8) = m ((c.tc : Thread Cert.KMixIdeal.nD Cert.KMixIdeal.τ).loc Cert.KMixIdeal.main_arg8)
      ∧ r.2.mem ((c.tc : Thread Cert.KMixIdeal.nD Cert.KMixIdeal.τ).loc Cert.KMixIdeal.main_arg9) = m ((c.tc : Thread Cert.KMixIdeal.nD Cert.KMixIdeal.τ).loc Cert.KMixIdeal.main_arg9)
      ∧ r.2.mem ((c.tc : Thread Cert.KMixIdeal.nD Cert.KMixIdeal.τ).loc Cert.KMixIdeal.main_arg10) = m ((c.tc : Thread Cert.KMixIdeal.nD Cert.KMixIdeal.τ).loc Cert.KMixIdeal.main_arg10)
      ∧ r.2.mem ((c.tc : Thread Cert.KMixIdeal.nD Cert.KMixIdeal.τ).loc Cert.KMixIdeal.main_arg11) = m ((c.tc : Thread Cert.KMixIdeal.nD Cert.KMixIdeal.τ).loc Cert.KMixIdeal.main_arg11)
      ∧ r.2.mem ((c.tc : Thread Cert.KMixIdeal.nD Cert.KMixIdeal.τ).loc Cert.KMixIdeal.main_arg12) = m ((c.tc : Thread Cert.KMixIdeal.nD Cert.KMixIdeal.τ).loc Cert.KMixIdeal.main_arg12)
      ∧ r.2.mem ((c.tc : Thread Cert.KMixIdeal.nD Cert.KMixIdeal.τ).loc Cert.KMixIdeal.main_arg13) = m ((c.tc : Thread Cert.KMixIdeal.nD Cert.KMixIdeal.τ).loc Cert.KMixIdeal.main_arg13))
      ∧ r.2.sem = fun _ => 0)

def quiescent_RMixIdeal [hRMixIdeal : Cert.RMixIdeal.Facts] : Prop :=
  ∀ (m : (ℓ : Loc Cert.RMixIdeal.nD Cert.RMixIdeal.τ Cert.RMixIdeal.sig) → Buf (Elt Ideal) ℓ) (g : Dev Cert.RMixIdeal.nD → PrngReg), Pre_RMixIdeal m →
    θ_run (Cert.RMixIdeal.defs (F := Ideal)) (onTc (τ := Cert.RMixIdeal.τ) (Cert.RMixIdeal.main (F := Ideal))) ⟨m, fun _ => 0, g⟩ (fun r => (∀ c : Dev Cert.RMixIdeal.nD,
      r.2.mem ((c.tc : Thread Cert.RMixIdeal.nD Cert.RMixIdeal.τ).loc Cert.RMixIdeal.main_arg0) = m ((c.tc : Thread Cert.RMixIdeal.nD Cert.RMixIdeal.τ).loc Cert.RMixIdeal.main_arg0)
      ∧ r.2.mem ((c.tc : Thread Cert.RMixIdeal.nD Cert.RMixIdeal.τ).loc Cert.RMixIdeal.main_arg1) = m ((c.tc : Thread Cert.RMixIdeal.nD Cert.RMixIdeal.τ).loc Cert.RMixIdeal.main_arg1)
      ∧ r.2.mem ((c.tc : Thread Cert.RMixIdeal.nD Cert.RMixIdeal.τ).loc Cert.RMixIdeal.main_arg2) = m ((c.tc : Thread Cert.RMixIdeal.nD Cert.RMixIdeal.τ).loc Cert.RMixIdeal.main_arg2)
      ∧ r.2.mem ((c.tc : Thread Cert.RMixIdeal.nD Cert.RMixIdeal.τ).loc Cert.RMixIdeal.main_arg3) = m ((c.tc : Thread Cert.RMixIdeal.nD Cert.RMixIdeal.τ).loc Cert.RMixIdeal.main_arg3)
      ∧ r.2.mem ((c.tc : Thread Cert.RMixIdeal.nD Cert.RMixIdeal.τ).loc Cert.RMixIdeal.main_arg4) = m ((c.tc : Thread Cert.RMixIdeal.nD Cert.RMixIdeal.τ).loc Cert.RMixIdeal.main_arg4)
      ∧ r.2.mem ((c.tc : Thread Cert.RMixIdeal.nD Cert.RMixIdeal.τ).loc Cert.RMixIdeal.main_arg5) = m ((c.tc : Thread Cert.RMixIdeal.nD Cert.RMixIdeal.τ).loc Cert.RMixIdeal.main_arg5)
      ∧ r.2.mem ((c.tc : Thread Cert.RMixIdeal.nD Cert.RMixIdeal.τ).loc Cert.RMixIdeal.main_arg6) = m ((c.tc : Thread Cert.RMixIdeal.nD Cert.RMixIdeal.τ).loc Cert.RMixIdeal.main_arg6)
      ∧ r.2.mem ((c.tc : Thread Cert.RMixIdeal.nD Cert.RMixIdeal.τ).loc Cert.RMixIdeal.main_arg7) = m ((c.tc : Thread Cert.RMixIdeal.nD Cert.RMixIdeal.τ).loc Cert.RMixIdeal.main_arg7)
      ∧ r.2.mem ((c.tc : Thread Cert.RMixIdeal.nD Cert.RMixIdeal.τ).loc Cert.RMixIdeal.main_arg8) = m ((c.tc : Thread Cert.RMixIdeal.nD Cert.RMixIdeal.τ).loc Cert.RMixIdeal.main_arg8)
      ∧ r.2.mem ((c.tc : Thread Cert.RMixIdeal.nD Cert.RMixIdeal.τ).loc Cert.RMixIdeal.main_arg9) = m ((c.tc : Thread Cert.RMixIdeal.nD Cert.RMixIdeal.τ).loc Cert.RMixIdeal.main_arg9)
      ∧ r.2.mem ((c.tc : Thread Cert.RMixIdeal.nD Cert.RMixIdeal.τ).loc Cert.RMixIdeal.main_arg10) = m ((c.tc : Thread Cert.RMixIdeal.nD Cert.RMixIdeal.τ).loc Cert.RMixIdeal.main_arg10)
      ∧ r.2.mem ((c.tc : Thread Cert.RMixIdeal.nD Cert.RMixIdeal.τ).loc Cert.RMixIdeal.main_arg11) = m ((c.tc : Thread Cert.RMixIdeal.nD Cert.RMixIdeal.τ).loc Cert.RMixIdeal.main_arg11)
      ∧ r.2.mem ((c.tc : Thread Cert.RMixIdeal.nD Cert.RMixIdeal.τ).loc Cert.RMixIdeal.main_arg12) = m ((c.tc : Thread Cert.RMixIdeal.nD Cert.RMixIdeal.τ).loc Cert.RMixIdeal.main_arg12)
      ∧ r.2.mem ((c.tc : Thread Cert.RMixIdeal.nD Cert.RMixIdeal.τ).loc Cert.RMixIdeal.main_arg13) = m ((c.tc : Thread Cert.RMixIdeal.nD Cert.RMixIdeal.τ).loc Cert.RMixIdeal.main_arg13))
      ∧ r.2.sem = fun _ => 0)

def quiescent_KAttn [hKAttn : Cert.KAttn.Facts] : Prop :=
  ∀ (m : (ℓ : Loc Cert.KAttn.nD Cert.KAttn.τ Cert.KAttn.sig) → Buf (Elt Bits) ℓ) (g : Dev Cert.KAttn.nD → PrngReg), Pre_KAttn m →
    θ_run (Cert.KAttn.defs (F := Bits)) (onTc (τ := Cert.KAttn.τ) (Cert.KAttn.main (F := Bits))) ⟨m, fun _ => 0, g⟩ (fun r => (∀ c : Dev Cert.KAttn.nD,
      r.2.mem ((c.tc : Thread Cert.KAttn.nD Cert.KAttn.τ).loc Cert.KAttn.main_arg0) = m ((c.tc : Thread Cert.KAttn.nD Cert.KAttn.τ).loc Cert.KAttn.main_arg0)
      ∧ r.2.mem ((c.tc : Thread Cert.KAttn.nD Cert.KAttn.τ).loc Cert.KAttn.main_arg1) = m ((c.tc : Thread Cert.KAttn.nD Cert.KAttn.τ).loc Cert.KAttn.main_arg1)
      ∧ r.2.mem ((c.tc : Thread Cert.KAttn.nD Cert.KAttn.τ).loc Cert.KAttn.main_arg2) = m ((c.tc : Thread Cert.KAttn.nD Cert.KAttn.τ).loc Cert.KAttn.main_arg2)
      ∧ r.2.mem ((c.tc : Thread Cert.KAttn.nD Cert.KAttn.τ).loc Cert.KAttn.main_arg3) = m ((c.tc : Thread Cert.KAttn.nD Cert.KAttn.τ).loc Cert.KAttn.main_arg3)
      ∧ r.2.mem ((c.tc : Thread Cert.KAttn.nD Cert.KAttn.τ).loc Cert.KAttn.main_arg4) = m ((c.tc : Thread Cert.KAttn.nD Cert.KAttn.τ).loc Cert.KAttn.main_arg4))
      ∧ r.2.sem = fun _ => 0)

def quiescent_KAttnIdeal [hKAttnIdeal : Cert.KAttnIdeal.Facts] : Prop :=
  ∀ (m : (ℓ : Loc Cert.KAttnIdeal.nD Cert.KAttnIdeal.τ Cert.KAttnIdeal.sig) → Buf (Elt Ideal) ℓ) (g : Dev Cert.KAttnIdeal.nD → PrngReg), Pre_KAttnIdeal m →
    θ_run (Cert.KAttnIdeal.defs (F := Ideal)) (onTc (τ := Cert.KAttnIdeal.τ) (Cert.KAttnIdeal.main (F := Ideal))) ⟨m, fun _ => 0, g⟩ (fun r => (∀ c : Dev Cert.KAttnIdeal.nD,
      r.2.mem ((c.tc : Thread Cert.KAttnIdeal.nD Cert.KAttnIdeal.τ).loc Cert.KAttnIdeal.main_arg0) = m ((c.tc : Thread Cert.KAttnIdeal.nD Cert.KAttnIdeal.τ).loc Cert.KAttnIdeal.main_arg0)
      ∧ r.2.mem ((c.tc : Thread Cert.KAttnIdeal.nD Cert.KAttnIdeal.τ).loc Cert.KAttnIdeal.main_arg1) = m ((c.tc : Thread Cert.KAttnIdeal.nD Cert.KAttnIdeal.τ).loc Cert.KAttnIdeal.main_arg1)
      ∧ r.2.mem ((c.tc : Thread Cert.KAttnIdeal.nD Cert.KAttnIdeal.τ).loc Cert.KAttnIdeal.main_arg2) = m ((c.tc : Thread Cert.KAttnIdeal.nD Cert.KAttnIdeal.τ).loc Cert.KAttnIdeal.main_arg2)
      ∧ r.2.mem ((c.tc : Thread Cert.KAttnIdeal.nD Cert.KAttnIdeal.τ).loc Cert.KAttnIdeal.main_arg3) = m ((c.tc : Thread Cert.KAttnIdeal.nD Cert.KAttnIdeal.τ).loc Cert.KAttnIdeal.main_arg3)
      ∧ r.2.mem ((c.tc : Thread Cert.KAttnIdeal.nD Cert.KAttnIdeal.τ).loc Cert.KAttnIdeal.main_arg4) = m ((c.tc : Thread Cert.KAttnIdeal.nD Cert.KAttnIdeal.τ).loc Cert.KAttnIdeal.main_arg4))
      ∧ r.2.sem = fun _ => 0)

def quiescent_KAttnIdeal_pre_finite_attn [hKAttnIdeal : Cert.KAttnIdeal.Facts] [hPre_finite_attn : Cert.Pre_finite_attn.Facts] : Prop :=
  ∀ (m : (ℓ : Loc Cert.KAttnIdeal.nD Cert.KAttnIdeal.τ Cert.KAttnIdeal.sig) → Buf (Elt Ideal) ℓ) (g : Dev Cert.KAttnIdeal.nD → PrngReg), Pre_KAttnIdeal_finite_attn m →
    θ_run (Cert.KAttnIdeal.defs (F := Ideal)) (onTc (τ := Cert.KAttnIdeal.τ) (Cert.KAttnIdeal.main (F := Ideal))) ⟨m, fun _ => 0, g⟩ (fun r => (∀ c : Dev Cert.KAttnIdeal.nD,
      r.2.mem ((c.tc : Thread Cert.KAttnIdeal.nD Cert.KAttnIdeal.τ).loc Cert.KAttnIdeal.main_arg0) = m ((c.tc : Thread Cert.KAttnIdeal.nD Cert.KAttnIdeal.τ).loc Cert.KAttnIdeal.main_arg0)
      ∧ r.2.mem ((c.tc : Thread Cert.KAttnIdeal.nD Cert.KAttnIdeal.τ).loc Cert.KAttnIdeal.main_arg1) = m ((c.tc : Thread Cert.KAttnIdeal.nD Cert.KAttnIdeal.τ).loc Cert.KAttnIdeal.main_arg1)
      ∧ r.2.mem ((c.tc : Thread Cert.KAttnIdeal.nD Cert.KAttnIdeal.τ).loc Cert.KAttnIdeal.main_arg2) = m ((c.tc : Thread Cert.KAttnIdeal.nD Cert.KAttnIdeal.τ).loc Cert.KAttnIdeal.main_arg2)
      ∧ r.2.mem ((c.tc : Thread Cert.KAttnIdeal.nD Cert.KAttnIdeal.τ).loc Cert.KAttnIdeal.main_arg3) = m ((c.tc : Thread Cert.KAttnIdeal.nD Cert.KAttnIdeal.τ).loc Cert.KAttnIdeal.main_arg3)
      ∧ r.2.mem ((c.tc : Thread Cert.KAttnIdeal.nD Cert.KAttnIdeal.τ).loc Cert.KAttnIdeal.main_arg4) = m ((c.tc : Thread Cert.KAttnIdeal.nD Cert.KAttnIdeal.τ).loc Cert.KAttnIdeal.main_arg4))
      ∧ r.2.sem = fun _ => 0)

def quiescent_RAttnIdeal [hRAttnIdeal : Cert.RAttnIdeal.Facts] : Prop :=
  ∀ (m : (ℓ : Loc Cert.RAttnIdeal.nD Cert.RAttnIdeal.τ Cert.RAttnIdeal.sig) → Buf (Elt Ideal) ℓ) (g : Dev Cert.RAttnIdeal.nD → PrngReg), Pre_RAttnIdeal m →
    θ_run (Cert.RAttnIdeal.defs (F := Ideal)) (onTc (τ := Cert.RAttnIdeal.τ) (Cert.RAttnIdeal.main (F := Ideal))) ⟨m, fun _ => 0, g⟩ (fun r => (∀ c : Dev Cert.RAttnIdeal.nD,
      r.2.mem ((c.tc : Thread Cert.RAttnIdeal.nD Cert.RAttnIdeal.τ).loc Cert.RAttnIdeal.main_arg0) = m ((c.tc : Thread Cert.RAttnIdeal.nD Cert.RAttnIdeal.τ).loc Cert.RAttnIdeal.main_arg0)
      ∧ r.2.mem ((c.tc : Thread Cert.RAttnIdeal.nD Cert.RAttnIdeal.τ).loc Cert.RAttnIdeal.main_arg1) = m ((c.tc : Thread Cert.RAttnIdeal.nD Cert.RAttnIdeal.τ).loc Cert.RAttnIdeal.main_arg1)
      ∧ r.2.mem ((c.tc : Thread Cert.RAttnIdeal.nD Cert.RAttnIdeal.τ).loc Cert.RAttnIdeal.main_arg2) = m ((c.tc : Thread Cert.RAttnIdeal.nD Cert.RAttnIdeal.τ).loc Cert.RAttnIdeal.main_arg2)
      ∧ r.2.mem ((c.tc : Thread Cert.RAttnIdeal.nD Cert.RAttnIdeal.τ).loc Cert.RAttnIdeal.main_arg3) = m ((c.tc : Thread Cert.RAttnIdeal.nD Cert.RAttnIdeal.τ).loc Cert.RAttnIdeal.main_arg3)
      ∧ r.2.mem ((c.tc : Thread Cert.RAttnIdeal.nD Cert.RAttnIdeal.τ).loc Cert.RAttnIdeal.main_arg4) = m ((c.tc : Thread Cert.RAttnIdeal.nD Cert.RAttnIdeal.τ).loc Cert.RAttnIdeal.main_arg4))
      ∧ r.2.sem = fun _ => 0)

def quiescent_RAttnIdeal_pre_finite_attn [hRAttnIdeal : Cert.RAttnIdeal.Facts] [hPre_finite_attn : Cert.Pre_finite_attn.Facts] : Prop :=
  ∀ (m : (ℓ : Loc Cert.RAttnIdeal.nD Cert.RAttnIdeal.τ Cert.RAttnIdeal.sig) → Buf (Elt Ideal) ℓ) (g : Dev Cert.RAttnIdeal.nD → PrngReg), Pre_RAttnIdeal_finite_attn m →
    θ_run (Cert.RAttnIdeal.defs (F := Ideal)) (onTc (τ := Cert.RAttnIdeal.τ) (Cert.RAttnIdeal.main (F := Ideal))) ⟨m, fun _ => 0, g⟩ (fun r => (∀ c : Dev Cert.RAttnIdeal.nD,
      r.2.mem ((c.tc : Thread Cert.RAttnIdeal.nD Cert.RAttnIdeal.τ).loc Cert.RAttnIdeal.main_arg0) = m ((c.tc : Thread Cert.RAttnIdeal.nD Cert.RAttnIdeal.τ).loc Cert.RAttnIdeal.main_arg0)
      ∧ r.2.mem ((c.tc : Thread Cert.RAttnIdeal.nD Cert.RAttnIdeal.τ).loc Cert.RAttnIdeal.main_arg1) = m ((c.tc : Thread Cert.RAttnIdeal.nD Cert.RAttnIdeal.τ).loc Cert.RAttnIdeal.main_arg1)
      ∧ r.2.mem ((c.tc : Thread Cert.RAttnIdeal.nD Cert.RAttnIdeal.τ).loc Cert.RAttnIdeal.main_arg2) = m ((c.tc : Thread Cert.RAttnIdeal.nD Cert.RAttnIdeal.τ).loc Cert.RAttnIdeal.main_arg2)
      ∧ r.2.mem ((c.tc : Thread Cert.RAttnIdeal.nD Cert.RAttnIdeal.τ).loc Cert.RAttnIdeal.main_arg3) = m ((c.tc : Thread Cert.RAttnIdeal.nD Cert.RAttnIdeal.τ).loc Cert.RAttnIdeal.main_arg3)
      ∧ r.2.mem ((c.tc : Thread Cert.RAttnIdeal.nD Cert.RAttnIdeal.τ).loc Cert.RAttnIdeal.main_arg4) = m ((c.tc : Thread Cert.RAttnIdeal.nD Cert.RAttnIdeal.τ).loc Cert.RAttnIdeal.main_arg4))
      ∧ r.2.sem = fun _ => 0)

def quiescent_KFfnf [hKFfnf : Cert.KFfnf.Facts] : Prop :=
  ∀ (m : (ℓ : Loc Cert.KFfnf.nD Cert.KFfnf.τ Cert.KFfnf.sig) → Buf (Elt Bits) ℓ) (g : Dev Cert.KFfnf.nD → PrngReg), Pre_KFfnf m →
    θ_run (Cert.KFfnf.defs (F := Bits)) (onTc (τ := Cert.KFfnf.τ) (Cert.KFfnf.main (F := Bits))) ⟨m, fun _ => 0, g⟩ (fun r => (∀ c : Dev Cert.KFfnf.nD,
      r.2.mem ((c.tc : Thread Cert.KFfnf.nD Cert.KFfnf.τ).loc Cert.KFfnf.main_arg0) = m ((c.tc : Thread Cert.KFfnf.nD Cert.KFfnf.τ).loc Cert.KFfnf.main_arg0)
      ∧ r.2.mem ((c.tc : Thread Cert.KFfnf.nD Cert.KFfnf.τ).loc Cert.KFfnf.main_arg1) = m ((c.tc : Thread Cert.KFfnf.nD Cert.KFfnf.τ).loc Cert.KFfnf.main_arg1)
      ∧ r.2.mem ((c.tc : Thread Cert.KFfnf.nD Cert.KFfnf.τ).loc Cert.KFfnf.main_arg2) = m ((c.tc : Thread Cert.KFfnf.nD Cert.KFfnf.τ).loc Cert.KFfnf.main_arg2)
      ∧ r.2.mem ((c.tc : Thread Cert.KFfnf.nD Cert.KFfnf.τ).loc Cert.KFfnf.main_arg3) = m ((c.tc : Thread Cert.KFfnf.nD Cert.KFfnf.τ).loc Cert.KFfnf.main_arg3)
      ∧ r.2.mem ((c.tc : Thread Cert.KFfnf.nD Cert.KFfnf.τ).loc Cert.KFfnf.main_arg4) = m ((c.tc : Thread Cert.KFfnf.nD Cert.KFfnf.τ).loc Cert.KFfnf.main_arg4))
      ∧ r.2.sem = fun _ => 0)

def quiescent_KFfnfIdeal [hKFfnfIdeal : Cert.KFfnfIdeal.Facts] : Prop :=
  ∀ (m : (ℓ : Loc Cert.KFfnfIdeal.nD Cert.KFfnfIdeal.τ Cert.KFfnfIdeal.sig) → Buf (Elt Ideal) ℓ) (g : Dev Cert.KFfnfIdeal.nD → PrngReg), Pre_KFfnfIdeal m →
    θ_run (Cert.KFfnfIdeal.defs (F := Ideal)) (onTc (τ := Cert.KFfnfIdeal.τ) (Cert.KFfnfIdeal.main (F := Ideal))) ⟨m, fun _ => 0, g⟩ (fun r => (∀ c : Dev Cert.KFfnfIdeal.nD,
      r.2.mem ((c.tc : Thread Cert.KFfnfIdeal.nD Cert.KFfnfIdeal.τ).loc Cert.KFfnfIdeal.main_arg0) = m ((c.tc : Thread Cert.KFfnfIdeal.nD Cert.KFfnfIdeal.τ).loc Cert.KFfnfIdeal.main_arg0)
      ∧ r.2.mem ((c.tc : Thread Cert.KFfnfIdeal.nD Cert.KFfnfIdeal.τ).loc Cert.KFfnfIdeal.main_arg1) = m ((c.tc : Thread Cert.KFfnfIdeal.nD Cert.KFfnfIdeal.τ).loc Cert.KFfnfIdeal.main_arg1)
      ∧ r.2.mem ((c.tc : Thread Cert.KFfnfIdeal.nD Cert.KFfnfIdeal.τ).loc Cert.KFfnfIdeal.main_arg2) = m ((c.tc : Thread Cert.KFfnfIdeal.nD Cert.KFfnfIdeal.τ).loc Cert.KFfnfIdeal.main_arg2)
      ∧ r.2.mem ((c.tc : Thread Cert.KFfnfIdeal.nD Cert.KFfnfIdeal.τ).loc Cert.KFfnfIdeal.main_arg3) = m ((c.tc : Thread Cert.KFfnfIdeal.nD Cert.KFfnfIdeal.τ).loc Cert.KFfnfIdeal.main_arg3)
      ∧ r.2.mem ((c.tc : Thread Cert.KFfnfIdeal.nD Cert.KFfnfIdeal.τ).loc Cert.KFfnfIdeal.main_arg4) = m ((c.tc : Thread Cert.KFfnfIdeal.nD Cert.KFfnfIdeal.τ).loc Cert.KFfnfIdeal.main_arg4))
      ∧ r.2.sem = fun _ => 0)

def quiescent_RFfnfIdeal [hRFfnfIdeal : Cert.RFfnfIdeal.Facts] : Prop :=
  ∀ (m : (ℓ : Loc Cert.RFfnfIdeal.nD Cert.RFfnfIdeal.τ Cert.RFfnfIdeal.sig) → Buf (Elt Ideal) ℓ) (g : Dev Cert.RFfnfIdeal.nD → PrngReg), Pre_RFfnfIdeal m →
    θ_run (Cert.RFfnfIdeal.defs (F := Ideal)) (onTc (τ := Cert.RFfnfIdeal.τ) (Cert.RFfnfIdeal.main (F := Ideal))) ⟨m, fun _ => 0, g⟩ (fun r => (∀ c : Dev Cert.RFfnfIdeal.nD,
      r.2.mem ((c.tc : Thread Cert.RFfnfIdeal.nD Cert.RFfnfIdeal.τ).loc Cert.RFfnfIdeal.main_arg0) = m ((c.tc : Thread Cert.RFfnfIdeal.nD Cert.RFfnfIdeal.τ).loc Cert.RFfnfIdeal.main_arg0)
      ∧ r.2.mem ((c.tc : Thread Cert.RFfnfIdeal.nD Cert.RFfnfIdeal.τ).loc Cert.RFfnfIdeal.main_arg1) = m ((c.tc : Thread Cert.RFfnfIdeal.nD Cert.RFfnfIdeal.τ).loc Cert.RFfnfIdeal.main_arg1)
      ∧ r.2.mem ((c.tc : Thread Cert.RFfnfIdeal.nD Cert.RFfnfIdeal.τ).loc Cert.RFfnfIdeal.main_arg2) = m ((c.tc : Thread Cert.RFfnfIdeal.nD Cert.RFfnfIdeal.τ).loc Cert.RFfnfIdeal.main_arg2)
      ∧ r.2.mem ((c.tc : Thread Cert.RFfnfIdeal.nD Cert.RFfnfIdeal.τ).loc Cert.RFfnfIdeal.main_arg3) = m ((c.tc : Thread Cert.RFfnfIdeal.nD Cert.RFfnfIdeal.τ).loc Cert.RFfnfIdeal.main_arg3)
      ∧ r.2.mem ((c.tc : Thread Cert.RFfnfIdeal.nD Cert.RFfnfIdeal.τ).loc Cert.RFfnfIdeal.main_arg4) = m ((c.tc : Thread Cert.RFfnfIdeal.nD Cert.RFfnfIdeal.τ).loc Cert.RFfnfIdeal.main_arg4))
      ∧ r.2.sem = fun _ => 0)

def quiescent_KInprojf [hKInprojf : Cert.KInprojf.Facts] : Prop :=
  ∀ (m : (ℓ : Loc Cert.KInprojf.nD Cert.KInprojf.τ Cert.KInprojf.sig) → Buf (Elt Bits) ℓ) (g : Dev Cert.KInprojf.nD → PrngReg), Pre_KInprojf m →
    θ_run (Cert.KInprojf.defs (F := Bits)) (onTc (τ := Cert.KInprojf.τ) (Cert.KInprojf.main (F := Bits))) ⟨m, fun _ => 0, g⟩ (fun r => (∀ c : Dev Cert.KInprojf.nD,
      r.2.mem ((c.tc : Thread Cert.KInprojf.nD Cert.KInprojf.τ).loc Cert.KInprojf.main_arg0) = m ((c.tc : Thread Cert.KInprojf.nD Cert.KInprojf.τ).loc Cert.KInprojf.main_arg0)
      ∧ r.2.mem ((c.tc : Thread Cert.KInprojf.nD Cert.KInprojf.τ).loc Cert.KInprojf.main_arg1) = m ((c.tc : Thread Cert.KInprojf.nD Cert.KInprojf.τ).loc Cert.KInprojf.main_arg1)
      ∧ r.2.mem ((c.tc : Thread Cert.KInprojf.nD Cert.KInprojf.τ).loc Cert.KInprojf.main_arg2) = m ((c.tc : Thread Cert.KInprojf.nD Cert.KInprojf.τ).loc Cert.KInprojf.main_arg2))
      ∧ r.2.sem = fun _ => 0)

def quiescent_KInprojfIdeal [hKInprojfIdeal : Cert.KInprojfIdeal.Facts] : Prop :=
  ∀ (m : (ℓ : Loc Cert.KInprojfIdeal.nD Cert.KInprojfIdeal.τ Cert.KInprojfIdeal.sig) → Buf (Elt Ideal) ℓ) (g : Dev Cert.KInprojfIdeal.nD → PrngReg), Pre_KInprojfIdeal m →
    θ_run (Cert.KInprojfIdeal.defs (F := Ideal)) (onTc (τ := Cert.KInprojfIdeal.τ) (Cert.KInprojfIdeal.main (F := Ideal))) ⟨m, fun _ => 0, g⟩ (fun r => (∀ c : Dev Cert.KInprojfIdeal.nD,
      r.2.mem ((c.tc : Thread Cert.KInprojfIdeal.nD Cert.KInprojfIdeal.τ).loc Cert.KInprojfIdeal.main_arg0) = m ((c.tc : Thread Cert.KInprojfIdeal.nD Cert.KInprojfIdeal.τ).loc Cert.KInprojfIdeal.main_arg0)
      ∧ r.2.mem ((c.tc : Thread Cert.KInprojfIdeal.nD Cert.KInprojfIdeal.τ).loc Cert.KInprojfIdeal.main_arg1) = m ((c.tc : Thread Cert.KInprojfIdeal.nD Cert.KInprojfIdeal.τ).loc Cert.KInprojfIdeal.main_arg1)
      ∧ r.2.mem ((c.tc : Thread Cert.KInprojfIdeal.nD Cert.KInprojfIdeal.τ).loc Cert.KInprojfIdeal.main_arg2) = m ((c.tc : Thread Cert.KInprojfIdeal.nD Cert.KInprojfIdeal.τ).loc Cert.KInprojfIdeal.main_arg2))
      ∧ r.2.sem = fun _ => 0)

def quiescent_RInprojfIdeal [hRInprojfIdeal : Cert.RInprojfIdeal.Facts] : Prop :=
  ∀ (m : (ℓ : Loc Cert.RInprojfIdeal.nD Cert.RInprojfIdeal.τ Cert.RInprojfIdeal.sig) → Buf (Elt Ideal) ℓ) (g : Dev Cert.RInprojfIdeal.nD → PrngReg), Pre_RInprojfIdeal m →
    θ_run (Cert.RInprojfIdeal.defs (F := Ideal)) (onTc (τ := Cert.RInprojfIdeal.τ) (Cert.RInprojfIdeal.main (F := Ideal))) ⟨m, fun _ => 0, g⟩ (fun r => (∀ c : Dev Cert.RInprojfIdeal.nD,
      r.2.mem ((c.tc : Thread Cert.RInprojfIdeal.nD Cert.RInprojfIdeal.τ).loc Cert.RInprojfIdeal.main_arg0) = m ((c.tc : Thread Cert.RInprojfIdeal.nD Cert.RInprojfIdeal.τ).loc Cert.RInprojfIdeal.main_arg0)
      ∧ r.2.mem ((c.tc : Thread Cert.RInprojfIdeal.nD Cert.RInprojfIdeal.τ).loc Cert.RInprojfIdeal.main_arg1) = m ((c.tc : Thread Cert.RInprojfIdeal.nD Cert.RInprojfIdeal.τ).loc Cert.RInprojfIdeal.main_arg1)
      ∧ r.2.mem ((c.tc : Thread Cert.RInprojfIdeal.nD Cert.RInprojfIdeal.τ).loc Cert.RInprojfIdeal.main_arg2) = m ((c.tc : Thread Cert.RInprojfIdeal.nD Cert.RInprojfIdeal.τ).loc Cert.RInprojfIdeal.main_arg2))
      ∧ r.2.sem = fun _ => 0)

def preserves_KPle_KPleIdeal : Prop :=
  True

def algebraic_KPleIdeal_RPleIdeal [hKPleIdeal : Cert.KPleIdeal.Facts] [hRPleIdeal : Cert.RPleIdeal.Facts] : Prop :=
  ∀ (m : (ℓ : Loc Cert.KPleIdeal.nD Cert.KPleIdeal.τ Cert.KPleIdeal.sig) → Buf (Elt Ideal) ℓ) (g : Dev Cert.KPleIdeal.nD → PrngReg)
    (m' : (ℓ : Loc Cert.RPleIdeal.nD Cert.RPleIdeal.τ Cert.RPleIdeal.sig) → Buf (Elt Ideal) ℓ) (g' : Dev Cert.RPleIdeal.nD → PrngReg), Pre_KPleIdeal m →
    (∀ c : Dev Cert.KPleIdeal.nD,
      m' ((c.tc : Thread Cert.RPleIdeal.nD Cert.RPleIdeal.τ).loc Cert.RPleIdeal.main_arg0) = m ((c.tc : Thread Cert.KPleIdeal.nD Cert.KPleIdeal.τ).loc Cert.KPleIdeal.main_arg0)
      ∧ m' ((c.tc : Thread Cert.RPleIdeal.nD Cert.RPleIdeal.τ).loc Cert.RPleIdeal.main_arg1) = m ((c.tc : Thread Cert.KPleIdeal.nD Cert.KPleIdeal.τ).loc Cert.KPleIdeal.main_arg1)
      ∧ m' ((c.tc : Thread Cert.RPleIdeal.nD Cert.RPleIdeal.τ).loc Cert.RPleIdeal.main_arg2) = m ((c.tc : Thread Cert.KPleIdeal.nD Cert.KPleIdeal.τ).loc Cert.KPleIdeal.main_arg2)
      ∧ m' ((c.tc : Thread Cert.RPleIdeal.nD Cert.RPleIdeal.τ).loc Cert.RPleIdeal.main_arg3) = m ((c.tc : Thread Cert.KPleIdeal.nD Cert.KPleIdeal.τ).loc Cert.KPleIdeal.main_arg3)
      ∧ m' ((c.tc : Thread Cert.RPleIdeal.nD Cert.RPleIdeal.τ).loc Cert.RPleIdeal.main_arg4) = m ((c.tc : Thread Cert.KPleIdeal.nD Cert.KPleIdeal.τ).loc Cert.KPleIdeal.main_arg4)
      ∧ m' ((c.tc : Thread Cert.RPleIdeal.nD Cert.RPleIdeal.τ).loc Cert.RPleIdeal.main_arg5) = m ((c.tc : Thread Cert.KPleIdeal.nD Cert.KPleIdeal.τ).loc Cert.KPleIdeal.main_arg5)) →
    ∃ (v0 : (c : Dev Cert.KPleIdeal.nD) → Buf (Elt Ideal) ((c.tc : Thread Cert.KPleIdeal.nD Cert.KPleIdeal.τ).loc Cert.KPleIdeal.main_v2_0)) (v1 : (c : Dev Cert.KPleIdeal.nD) → Buf (Elt Ideal) ((c.tc : Thread Cert.KPleIdeal.nD Cert.KPleIdeal.τ).loc Cert.KPleIdeal.main_v2_1)) (v2 : (c : Dev Cert.KPleIdeal.nD) → Buf (Elt Ideal) ((c.tc : Thread Cert.KPleIdeal.nD Cert.KPleIdeal.τ).loc Cert.KPleIdeal.main_v2_2)) (v3 : (c : Dev Cert.KPleIdeal.nD) → Buf (Elt Ideal) ((c.tc : Thread Cert.KPleIdeal.nD Cert.KPleIdeal.τ).loc Cert.KPleIdeal.main_v2_3)) (v4 : (c : Dev Cert.KPleIdeal.nD) → Buf (Elt Ideal) ((c.tc : Thread Cert.KPleIdeal.nD Cert.KPleIdeal.τ).loc Cert.KPleIdeal.main_v2_4)),
      θ_run (Cert.KPleIdeal.defs (F := Ideal)) (onTc (τ := Cert.KPleIdeal.τ) (Cert.KPleIdeal.main (F := Ideal))) ⟨m, fun _ => 0, g⟩ (fun r => ∀ c : Dev Cert.KPleIdeal.nD,
          r.2.mem ((c.tc : Thread Cert.KPleIdeal.nD Cert.KPleIdeal.τ).loc Cert.KPleIdeal.main_v2_0) = v0 c
          ∧ r.2.mem ((c.tc : Thread Cert.KPleIdeal.nD Cert.KPleIdeal.τ).loc Cert.KPleIdeal.main_v2_1) = v1 c
          ∧ r.2.mem ((c.tc : Thread Cert.KPleIdeal.nD Cert.KPleIdeal.τ).loc Cert.KPleIdeal.main_v2_2) = v2 c
          ∧ r.2.mem ((c.tc : Thread Cert.KPleIdeal.nD Cert.KPleIdeal.τ).loc Cert.KPleIdeal.main_v2_3) = v3 c
          ∧ r.2.mem ((c.tc : Thread Cert.KPleIdeal.nD Cert.KPleIdeal.τ).loc Cert.KPleIdeal.main_v2_4) = v4 c
          ∧ r.2.mem ((c.tc : Thread Cert.KPleIdeal.nD Cert.KPleIdeal.τ).loc Cert.KPleIdeal.main_arg0) = m ((c.tc : Thread Cert.KPleIdeal.nD Cert.KPleIdeal.τ).loc Cert.KPleIdeal.main_arg0)
          ∧ r.2.mem ((c.tc : Thread Cert.KPleIdeal.nD Cert.KPleIdeal.τ).loc Cert.KPleIdeal.main_arg1) = m ((c.tc : Thread Cert.KPleIdeal.nD Cert.KPleIdeal.τ).loc Cert.KPleIdeal.main_arg1)
          ∧ r.2.mem ((c.tc : Thread Cert.KPleIdeal.nD Cert.KPleIdeal.τ).loc Cert.KPleIdeal.main_arg2) = m ((c.tc : Thread Cert.KPleIdeal.nD Cert.KPleIdeal.τ).loc Cert.KPleIdeal.main_arg2)
          ∧ r.2.mem ((c.tc : Thread Cert.KPleIdeal.nD Cert.KPleIdeal.τ).loc Cert.KPleIdeal.main_arg3) = m ((c.tc : Thread Cert.KPleIdeal.nD Cert.KPleIdeal.τ).loc Cert.KPleIdeal.main_arg3)
          ∧ r.2.mem ((c.tc : Thread Cert.KPleIdeal.nD Cert.KPleIdeal.τ).loc Cert.KPleIdeal.main_arg4) = m ((c.tc : Thread Cert.KPleIdeal.nD Cert.KPleIdeal.τ).loc Cert.KPleIdeal.main_arg4)
          ∧ r.2.mem ((c.tc : Thread Cert.KPleIdeal.nD Cert.KPleIdeal.τ).loc Cert.KPleIdeal.main_arg5) = m ((c.tc : Thread Cert.KPleIdeal.nD Cert.KPleIdeal.τ).loc Cert.KPleIdeal.main_arg5))
      ∧ θ_run (Cert.RPleIdeal.defs (F := Ideal)) (onTc (τ := Cert.RPleIdeal.τ) (Cert.RPleIdeal.main (F := Ideal))) ⟨m', fun _ => 0, g'⟩ (fun r => ∀ c : Dev Cert.RPleIdeal.nD,
          r.2.mem ((c.tc : Thread Cert.RPleIdeal.nD Cert.RPleIdeal.τ).loc Cert.RPleIdeal.main_v40) = v0 c
          ∧ r.2.mem ((c.tc : Thread Cert.RPleIdeal.nD Cert.RPleIdeal.τ).loc Cert.RPleIdeal.main_v36) = v1 c
          ∧ r.2.mem ((c.tc : Thread Cert.RPleIdeal.nD Cert.RPleIdeal.τ).loc Cert.RPleIdeal.main_v42) = v2 c
          ∧ r.2.mem ((c.tc : Thread Cert.RPleIdeal.nD Cert.RPleIdeal.τ).loc Cert.RPleIdeal.main_v38) = v3 c
          ∧ r.2.mem ((c.tc : Thread Cert.RPleIdeal.nD Cert.RPleIdeal.τ).loc Cert.RPleIdeal.main_v33) = v4 c
          ∧ r.2.mem ((c.tc : Thread Cert.RPleIdeal.nD Cert.RPleIdeal.τ).loc Cert.RPleIdeal.main_arg0) = m' ((c.tc : Thread Cert.RPleIdeal.nD Cert.RPleIdeal.τ).loc Cert.RPleIdeal.main_arg0)
          ∧ r.2.mem ((c.tc : Thread Cert.RPleIdeal.nD Cert.RPleIdeal.τ).loc Cert.RPleIdeal.main_arg1) = m' ((c.tc : Thread Cert.RPleIdeal.nD Cert.RPleIdeal.τ).loc Cert.RPleIdeal.main_arg1)
          ∧ r.2.mem ((c.tc : Thread Cert.RPleIdeal.nD Cert.RPleIdeal.τ).loc Cert.RPleIdeal.main_arg2) = m' ((c.tc : Thread Cert.RPleIdeal.nD Cert.RPleIdeal.τ).loc Cert.RPleIdeal.main_arg2)
          ∧ r.2.mem ((c.tc : Thread Cert.RPleIdeal.nD Cert.RPleIdeal.τ).loc Cert.RPleIdeal.main_arg3) = m' ((c.tc : Thread Cert.RPleIdeal.nD Cert.RPleIdeal.τ).loc Cert.RPleIdeal.main_arg3)
          ∧ r.2.mem ((c.tc : Thread Cert.RPleIdeal.nD Cert.RPleIdeal.τ).loc Cert.RPleIdeal.main_arg4) = m' ((c.tc : Thread Cert.RPleIdeal.nD Cert.RPleIdeal.τ).loc Cert.RPleIdeal.main_arg4)
          ∧ r.2.mem ((c.tc : Thread Cert.RPleIdeal.nD Cert.RPleIdeal.τ).loc Cert.RPleIdeal.main_arg5) = m' ((c.tc : Thread Cert.RPleIdeal.nD Cert.RPleIdeal.τ).loc Cert.RPleIdeal.main_arg5))

def preserves_KFfn_KFfnIdeal : Prop :=
  True

def algebraic_KFfnIdeal_RFfnIdeal [hKFfnIdeal : Cert.KFfnIdeal.Facts] [hRFfnIdeal : Cert.RFfnIdeal.Facts] : Prop :=
  ∀ (m : (ℓ : Loc Cert.KFfnIdeal.nD Cert.KFfnIdeal.τ Cert.KFfnIdeal.sig) → Buf (Elt Ideal) ℓ) (g : Dev Cert.KFfnIdeal.nD → PrngReg)
    (m' : (ℓ : Loc Cert.RFfnIdeal.nD Cert.RFfnIdeal.τ Cert.RFfnIdeal.sig) → Buf (Elt Ideal) ℓ) (g' : Dev Cert.RFfnIdeal.nD → PrngReg), Pre_KFfnIdeal m →
    (∀ c : Dev Cert.KFfnIdeal.nD,
      m' ((c.tc : Thread Cert.RFfnIdeal.nD Cert.RFfnIdeal.τ).loc Cert.RFfnIdeal.main_arg0) = m ((c.tc : Thread Cert.KFfnIdeal.nD Cert.KFfnIdeal.τ).loc Cert.KFfnIdeal.main_arg0)
      ∧ m' ((c.tc : Thread Cert.RFfnIdeal.nD Cert.RFfnIdeal.τ).loc Cert.RFfnIdeal.main_arg1) = m ((c.tc : Thread Cert.KFfnIdeal.nD Cert.KFfnIdeal.τ).loc Cert.KFfnIdeal.main_arg1)
      ∧ m' ((c.tc : Thread Cert.RFfnIdeal.nD Cert.RFfnIdeal.τ).loc Cert.RFfnIdeal.main_arg2) = m ((c.tc : Thread Cert.KFfnIdeal.nD Cert.KFfnIdeal.τ).loc Cert.KFfnIdeal.main_arg2)
      ∧ m' ((c.tc : Thread Cert.RFfnIdeal.nD Cert.RFfnIdeal.τ).loc Cert.RFfnIdeal.main_arg3) = m ((c.tc : Thread Cert.KFfnIdeal.nD Cert.KFfnIdeal.τ).loc Cert.KFfnIdeal.main_arg3)
      ∧ m' ((c.tc : Thread Cert.RFfnIdeal.nD Cert.RFfnIdeal.τ).loc Cert.RFfnIdeal.main_arg4) = m ((c.tc : Thread Cert.KFfnIdeal.nD Cert.KFfnIdeal.τ).loc Cert.KFfnIdeal.main_arg4)
      ∧ m' ((c.tc : Thread Cert.RFfnIdeal.nD Cert.RFfnIdeal.τ).loc Cert.RFfnIdeal.main_arg5) = m ((c.tc : Thread Cert.KFfnIdeal.nD Cert.KFfnIdeal.τ).loc Cert.KFfnIdeal.main_arg5)) →
    ∃ (v0 : (c : Dev Cert.KFfnIdeal.nD) → Buf (Elt Ideal) ((c.tc : Thread Cert.KFfnIdeal.nD Cert.KFfnIdeal.τ).loc Cert.KFfnIdeal.main_v22_0)) (v1 : (c : Dev Cert.KFfnIdeal.nD) → Buf (Elt Ideal) ((c.tc : Thread Cert.KFfnIdeal.nD Cert.KFfnIdeal.τ).loc Cert.KFfnIdeal.main_v22_1)) (v2 : (c : Dev Cert.KFfnIdeal.nD) → Buf (Elt Ideal) ((c.tc : Thread Cert.KFfnIdeal.nD Cert.KFfnIdeal.τ).loc Cert.KFfnIdeal.main_v22_2)) (v3 : (c : Dev Cert.KFfnIdeal.nD) → Buf (Elt Ideal) ((c.tc : Thread Cert.KFfnIdeal.nD Cert.KFfnIdeal.τ).loc Cert.KFfnIdeal.main_v22_3)) (v4 : (c : Dev Cert.KFfnIdeal.nD) → Buf (Elt Ideal) ((c.tc : Thread Cert.KFfnIdeal.nD Cert.KFfnIdeal.τ).loc Cert.KFfnIdeal.main_v22_4)),
      θ_run (Cert.KFfnIdeal.defs (F := Ideal)) (onTc (τ := Cert.KFfnIdeal.τ) (Cert.KFfnIdeal.main (F := Ideal))) ⟨m, fun _ => 0, g⟩ (fun r => ∀ c : Dev Cert.KFfnIdeal.nD,
          r.2.mem ((c.tc : Thread Cert.KFfnIdeal.nD Cert.KFfnIdeal.τ).loc Cert.KFfnIdeal.main_v22_0) = v0 c
          ∧ r.2.mem ((c.tc : Thread Cert.KFfnIdeal.nD Cert.KFfnIdeal.τ).loc Cert.KFfnIdeal.main_v22_1) = v1 c
          ∧ r.2.mem ((c.tc : Thread Cert.KFfnIdeal.nD Cert.KFfnIdeal.τ).loc Cert.KFfnIdeal.main_v22_2) = v2 c
          ∧ r.2.mem ((c.tc : Thread Cert.KFfnIdeal.nD Cert.KFfnIdeal.τ).loc Cert.KFfnIdeal.main_v22_3) = v3 c
          ∧ r.2.mem ((c.tc : Thread Cert.KFfnIdeal.nD Cert.KFfnIdeal.τ).loc Cert.KFfnIdeal.main_v22_4) = v4 c
          ∧ r.2.mem ((c.tc : Thread Cert.KFfnIdeal.nD Cert.KFfnIdeal.τ).loc Cert.KFfnIdeal.main_arg0) = m ((c.tc : Thread Cert.KFfnIdeal.nD Cert.KFfnIdeal.τ).loc Cert.KFfnIdeal.main_arg0)
          ∧ r.2.mem ((c.tc : Thread Cert.KFfnIdeal.nD Cert.KFfnIdeal.τ).loc Cert.KFfnIdeal.main_arg1) = m ((c.tc : Thread Cert.KFfnIdeal.nD Cert.KFfnIdeal.τ).loc Cert.KFfnIdeal.main_arg1)
          ∧ r.2.mem ((c.tc : Thread Cert.KFfnIdeal.nD Cert.KFfnIdeal.τ).loc Cert.KFfnIdeal.main_arg2) = m ((c.tc : Thread Cert.KFfnIdeal.nD Cert.KFfnIdeal.τ).loc Cert.KFfnIdeal.main_arg2)
          ∧ r.2.mem ((c.tc : Thread Cert.KFfnIdeal.nD Cert.KFfnIdeal.τ).loc Cert.KFfnIdeal.main_arg3) = m ((c.tc : Thread Cert.KFfnIdeal.nD Cert.KFfnIdeal.τ).loc Cert.KFfnIdeal.main_arg3)
          ∧ r.2.mem ((c.tc : Thread Cert.KFfnIdeal.nD Cert.KFfnIdeal.τ).loc Cert.KFfnIdeal.main_arg4) = m ((c.tc : Thread Cert.KFfnIdeal.nD Cert.KFfnIdeal.τ).loc Cert.KFfnIdeal.main_arg4)
          ∧ r.2.mem ((c.tc : Thread Cert.KFfnIdeal.nD Cert.KFfnIdeal.τ).loc Cert.KFfnIdeal.main_arg5) = m ((c.tc : Thread Cert.KFfnIdeal.nD Cert.KFfnIdeal.τ).loc Cert.KFfnIdeal.main_arg5))
      ∧ θ_run (Cert.RFfnIdeal.defs (F := Ideal)) (onTc (τ := Cert.RFfnIdeal.τ) (Cert.RFfnIdeal.main (F := Ideal))) ⟨m', fun _ => 0, g'⟩ (fun r => ∀ c : Dev Cert.RFfnIdeal.nD,
          r.2.mem ((c.tc : Thread Cert.RFfnIdeal.nD Cert.RFfnIdeal.τ).loc Cert.RFfnIdeal.main_v84) = v0 c
          ∧ r.2.mem ((c.tc : Thread Cert.RFfnIdeal.nD Cert.RFfnIdeal.τ).loc Cert.RFfnIdeal.main_v85) = v1 c
          ∧ r.2.mem ((c.tc : Thread Cert.RFfnIdeal.nD Cert.RFfnIdeal.τ).loc Cert.RFfnIdeal.main_v86) = v2 c
          ∧ r.2.mem ((c.tc : Thread Cert.RFfnIdeal.nD Cert.RFfnIdeal.τ).loc Cert.RFfnIdeal.main_v43) = v3 c
          ∧ r.2.mem ((c.tc : Thread Cert.RFfnIdeal.nD Cert.RFfnIdeal.τ).loc Cert.RFfnIdeal.main_v67) = v4 c
          ∧ r.2.mem ((c.tc : Thread Cert.RFfnIdeal.nD Cert.RFfnIdeal.τ).loc Cert.RFfnIdeal.main_arg0) = m' ((c.tc : Thread Cert.RFfnIdeal.nD Cert.RFfnIdeal.τ).loc Cert.RFfnIdeal.main_arg0)
          ∧ r.2.mem ((c.tc : Thread Cert.RFfnIdeal.nD Cert.RFfnIdeal.τ).loc Cert.RFfnIdeal.main_arg1) = m' ((c.tc : Thread Cert.RFfnIdeal.nD Cert.RFfnIdeal.τ).loc Cert.RFfnIdeal.main_arg1)
          ∧ r.2.mem ((c.tc : Thread Cert.RFfnIdeal.nD Cert.RFfnIdeal.τ).loc Cert.RFfnIdeal.main_arg2) = m' ((c.tc : Thread Cert.RFfnIdeal.nD Cert.RFfnIdeal.τ).loc Cert.RFfnIdeal.main_arg2)
          ∧ r.2.mem ((c.tc : Thread Cert.RFfnIdeal.nD Cert.RFfnIdeal.τ).loc Cert.RFfnIdeal.main_arg3) = m' ((c.tc : Thread Cert.RFfnIdeal.nD Cert.RFfnIdeal.τ).loc Cert.RFfnIdeal.main_arg3)
          ∧ r.2.mem ((c.tc : Thread Cert.RFfnIdeal.nD Cert.RFfnIdeal.τ).loc Cert.RFfnIdeal.main_arg4) = m' ((c.tc : Thread Cert.RFfnIdeal.nD Cert.RFfnIdeal.τ).loc Cert.RFfnIdeal.main_arg4)
          ∧ r.2.mem ((c.tc : Thread Cert.RFfnIdeal.nD Cert.RFfnIdeal.τ).loc Cert.RFfnIdeal.main_arg5) = m' ((c.tc : Thread Cert.RFfnIdeal.nD Cert.RFfnIdeal.τ).loc Cert.RFfnIdeal.main_arg5))

def preserves_KInproj_KInprojIdeal : Prop :=
  True

def algebraic_KInprojIdeal_RInprojIdeal [hKInprojIdeal : Cert.KInprojIdeal.Facts] [hRInprojIdeal : Cert.RInprojIdeal.Facts] : Prop :=
  ∀ (m : (ℓ : Loc Cert.KInprojIdeal.nD Cert.KInprojIdeal.τ Cert.KInprojIdeal.sig) → Buf (Elt Ideal) ℓ) (g : Dev Cert.KInprojIdeal.nD → PrngReg)
    (m' : (ℓ : Loc Cert.RInprojIdeal.nD Cert.RInprojIdeal.τ Cert.RInprojIdeal.sig) → Buf (Elt Ideal) ℓ) (g' : Dev Cert.RInprojIdeal.nD → PrngReg), Pre_KInprojIdeal m →
    (∀ c : Dev Cert.KInprojIdeal.nD,
      m' ((c.tc : Thread Cert.RInprojIdeal.nD Cert.RInprojIdeal.τ).loc Cert.RInprojIdeal.main_arg0) = m ((c.tc : Thread Cert.KInprojIdeal.nD Cert.KInprojIdeal.τ).loc Cert.KInprojIdeal.main_arg0)
      ∧ m' ((c.tc : Thread Cert.RInprojIdeal.nD Cert.RInprojIdeal.τ).loc Cert.RInprojIdeal.main_arg1) = m ((c.tc : Thread Cert.KInprojIdeal.nD Cert.KInprojIdeal.τ).loc Cert.KInprojIdeal.main_arg1)
      ∧ m' ((c.tc : Thread Cert.RInprojIdeal.nD Cert.RInprojIdeal.τ).loc Cert.RInprojIdeal.main_arg2) = m ((c.tc : Thread Cert.KInprojIdeal.nD Cert.KInprojIdeal.τ).loc Cert.KInprojIdeal.main_arg2)
      ∧ m' ((c.tc : Thread Cert.RInprojIdeal.nD Cert.RInprojIdeal.τ).loc Cert.RInprojIdeal.main_arg3) = m ((c.tc : Thread Cert.KInprojIdeal.nD Cert.KInprojIdeal.τ).loc Cert.KInprojIdeal.main_arg3)
      ∧ m' ((c.tc : Thread Cert.RInprojIdeal.nD Cert.RInprojIdeal.τ).loc Cert.RInprojIdeal.main_arg4) = m ((c.tc : Thread Cert.KInprojIdeal.nD Cert.KInprojIdeal.τ).loc Cert.KInprojIdeal.main_arg4)
      ∧ m' ((c.tc : Thread Cert.RInprojIdeal.nD Cert.RInprojIdeal.τ).loc Cert.RInprojIdeal.main_arg5) = m ((c.tc : Thread Cert.KInprojIdeal.nD Cert.KInprojIdeal.τ).loc Cert.KInprojIdeal.main_arg5)
      ∧ m' ((c.tc : Thread Cert.RInprojIdeal.nD Cert.RInprojIdeal.τ).loc Cert.RInprojIdeal.main_arg6) = m ((c.tc : Thread Cert.KInprojIdeal.nD Cert.KInprojIdeal.τ).loc Cert.KInprojIdeal.main_arg6)
      ∧ m' ((c.tc : Thread Cert.RInprojIdeal.nD Cert.RInprojIdeal.τ).loc Cert.RInprojIdeal.main_arg7) = m ((c.tc : Thread Cert.KInprojIdeal.nD Cert.KInprojIdeal.τ).loc Cert.KInprojIdeal.main_arg7)
      ∧ m' ((c.tc : Thread Cert.RInprojIdeal.nD Cert.RInprojIdeal.τ).loc Cert.RInprojIdeal.main_arg8) = m ((c.tc : Thread Cert.KInprojIdeal.nD Cert.KInprojIdeal.τ).loc Cert.KInprojIdeal.main_arg8)
      ∧ m' ((c.tc : Thread Cert.RInprojIdeal.nD Cert.RInprojIdeal.τ).loc Cert.RInprojIdeal.main_arg9) = m ((c.tc : Thread Cert.KInprojIdeal.nD Cert.KInprojIdeal.τ).loc Cert.KInprojIdeal.main_arg9)
      ∧ m' ((c.tc : Thread Cert.RInprojIdeal.nD Cert.RInprojIdeal.τ).loc Cert.RInprojIdeal.main_arg10) = m ((c.tc : Thread Cert.KInprojIdeal.nD Cert.KInprojIdeal.τ).loc Cert.KInprojIdeal.main_arg10)
      ∧ m' ((c.tc : Thread Cert.RInprojIdeal.nD Cert.RInprojIdeal.τ).loc Cert.RInprojIdeal.main_arg11) = m ((c.tc : Thread Cert.KInprojIdeal.nD Cert.KInprojIdeal.τ).loc Cert.KInprojIdeal.main_arg11)
      ∧ m' ((c.tc : Thread Cert.RInprojIdeal.nD Cert.RInprojIdeal.τ).loc Cert.RInprojIdeal.main_arg12) = m ((c.tc : Thread Cert.KInprojIdeal.nD Cert.KInprojIdeal.τ).loc Cert.KInprojIdeal.main_arg12)
      ∧ m' ((c.tc : Thread Cert.RInprojIdeal.nD Cert.RInprojIdeal.τ).loc Cert.RInprojIdeal.main_arg13) = m ((c.tc : Thread Cert.KInprojIdeal.nD Cert.KInprojIdeal.τ).loc Cert.KInprojIdeal.main_arg13)) →
    ∃ (v0 : (c : Dev Cert.KInprojIdeal.nD) → Buf (Elt Ideal) ((c.tc : Thread Cert.KInprojIdeal.nD Cert.KInprojIdeal.τ).loc Cert.KInprojIdeal.main_v14_0)) (v1 : (c : Dev Cert.KInprojIdeal.nD) → Buf (Elt Ideal) ((c.tc : Thread Cert.KInprojIdeal.nD Cert.KInprojIdeal.τ).loc Cert.KInprojIdeal.main_v14_1)) (v2 : (c : Dev Cert.KInprojIdeal.nD) → Buf (Elt Ideal) ((c.tc : Thread Cert.KInprojIdeal.nD Cert.KInprojIdeal.τ).loc Cert.KInprojIdeal.main_v14_2)) (v3 : (c : Dev Cert.KInprojIdeal.nD) → Buf (Elt Ideal) ((c.tc : Thread Cert.KInprojIdeal.nD Cert.KInprojIdeal.τ).loc Cert.KInprojIdeal.main_v14_3)) (v4 : (c : Dev Cert.KInprojIdeal.nD) → Buf (Elt Ideal) ((c.tc : Thread Cert.KInprojIdeal.nD Cert.KInprojIdeal.τ).loc Cert.KInprojIdeal.main_v14_4)) (v5 : (c : Dev Cert.KInprojIdeal.nD) → Buf (Elt Ideal) ((c.tc : Thread Cert.KInprojIdeal.nD Cert.KInprojIdeal.τ).loc Cert.KInprojIdeal.main_v14_5)),
      θ_run (Cert.KInprojIdeal.defs (F := Ideal)) (onTc (τ := Cert.KInprojIdeal.τ) (Cert.KInprojIdeal.main (F := Ideal))) ⟨m, fun _ => 0, g⟩ (fun r => ∀ c : Dev Cert.KInprojIdeal.nD,
          r.2.mem ((c.tc : Thread Cert.KInprojIdeal.nD Cert.KInprojIdeal.τ).loc Cert.KInprojIdeal.main_v14_0) = v0 c
          ∧ r.2.mem ((c.tc : Thread Cert.KInprojIdeal.nD Cert.KInprojIdeal.τ).loc Cert.KInprojIdeal.main_v14_1) = v1 c
          ∧ r.2.mem ((c.tc : Thread Cert.KInprojIdeal.nD Cert.KInprojIdeal.τ).loc Cert.KInprojIdeal.main_v14_2) = v2 c
          ∧ r.2.mem ((c.tc : Thread Cert.KInprojIdeal.nD Cert.KInprojIdeal.τ).loc Cert.KInprojIdeal.main_v14_3) = v3 c
          ∧ r.2.mem ((c.tc : Thread Cert.KInprojIdeal.nD Cert.KInprojIdeal.τ).loc Cert.KInprojIdeal.main_v14_4) = v4 c
          ∧ r.2.mem ((c.tc : Thread Cert.KInprojIdeal.nD Cert.KInprojIdeal.τ).loc Cert.KInprojIdeal.main_v14_5) = v5 c
          ∧ r.2.mem ((c.tc : Thread Cert.KInprojIdeal.nD Cert.KInprojIdeal.τ).loc Cert.KInprojIdeal.main_arg0) = m ((c.tc : Thread Cert.KInprojIdeal.nD Cert.KInprojIdeal.τ).loc Cert.KInprojIdeal.main_arg0)
          ∧ r.2.mem ((c.tc : Thread Cert.KInprojIdeal.nD Cert.KInprojIdeal.τ).loc Cert.KInprojIdeal.main_arg1) = m ((c.tc : Thread Cert.KInprojIdeal.nD Cert.KInprojIdeal.τ).loc Cert.KInprojIdeal.main_arg1)
          ∧ r.2.mem ((c.tc : Thread Cert.KInprojIdeal.nD Cert.KInprojIdeal.τ).loc Cert.KInprojIdeal.main_arg2) = m ((c.tc : Thread Cert.KInprojIdeal.nD Cert.KInprojIdeal.τ).loc Cert.KInprojIdeal.main_arg2)
          ∧ r.2.mem ((c.tc : Thread Cert.KInprojIdeal.nD Cert.KInprojIdeal.τ).loc Cert.KInprojIdeal.main_arg3) = m ((c.tc : Thread Cert.KInprojIdeal.nD Cert.KInprojIdeal.τ).loc Cert.KInprojIdeal.main_arg3)
          ∧ r.2.mem ((c.tc : Thread Cert.KInprojIdeal.nD Cert.KInprojIdeal.τ).loc Cert.KInprojIdeal.main_arg4) = m ((c.tc : Thread Cert.KInprojIdeal.nD Cert.KInprojIdeal.τ).loc Cert.KInprojIdeal.main_arg4)
          ∧ r.2.mem ((c.tc : Thread Cert.KInprojIdeal.nD Cert.KInprojIdeal.τ).loc Cert.KInprojIdeal.main_arg5) = m ((c.tc : Thread Cert.KInprojIdeal.nD Cert.KInprojIdeal.τ).loc Cert.KInprojIdeal.main_arg5)
          ∧ r.2.mem ((c.tc : Thread Cert.KInprojIdeal.nD Cert.KInprojIdeal.τ).loc Cert.KInprojIdeal.main_arg6) = m ((c.tc : Thread Cert.KInprojIdeal.nD Cert.KInprojIdeal.τ).loc Cert.KInprojIdeal.main_arg6)
          ∧ r.2.mem ((c.tc : Thread Cert.KInprojIdeal.nD Cert.KInprojIdeal.τ).loc Cert.KInprojIdeal.main_arg7) = m ((c.tc : Thread Cert.KInprojIdeal.nD Cert.KInprojIdeal.τ).loc Cert.KInprojIdeal.main_arg7)
          ∧ r.2.mem ((c.tc : Thread Cert.KInprojIdeal.nD Cert.KInprojIdeal.τ).loc Cert.KInprojIdeal.main_arg8) = m ((c.tc : Thread Cert.KInprojIdeal.nD Cert.KInprojIdeal.τ).loc Cert.KInprojIdeal.main_arg8)
          ∧ r.2.mem ((c.tc : Thread Cert.KInprojIdeal.nD Cert.KInprojIdeal.τ).loc Cert.KInprojIdeal.main_arg9) = m ((c.tc : Thread Cert.KInprojIdeal.nD Cert.KInprojIdeal.τ).loc Cert.KInprojIdeal.main_arg9)
          ∧ r.2.mem ((c.tc : Thread Cert.KInprojIdeal.nD Cert.KInprojIdeal.τ).loc Cert.KInprojIdeal.main_arg10) = m ((c.tc : Thread Cert.KInprojIdeal.nD Cert.KInprojIdeal.τ).loc Cert.KInprojIdeal.main_arg10)
          ∧ r.2.mem ((c.tc : Thread Cert.KInprojIdeal.nD Cert.KInprojIdeal.τ).loc Cert.KInprojIdeal.main_arg11) = m ((c.tc : Thread Cert.KInprojIdeal.nD Cert.KInprojIdeal.τ).loc Cert.KInprojIdeal.main_arg11)
          ∧ r.2.mem ((c.tc : Thread Cert.KInprojIdeal.nD Cert.KInprojIdeal.τ).loc Cert.KInprojIdeal.main_arg12) = m ((c.tc : Thread Cert.KInprojIdeal.nD Cert.KInprojIdeal.τ).loc Cert.KInprojIdeal.main_arg12)
          ∧ r.2.mem ((c.tc : Thread Cert.KInprojIdeal.nD Cert.KInprojIdeal.τ).loc Cert.KInprojIdeal.main_arg13) = m ((c.tc : Thread Cert.KInprojIdeal.nD Cert.KInprojIdeal.τ).loc Cert.KInprojIdeal.main_arg13))
      ∧ θ_run (Cert.RInprojIdeal.defs (F := Ideal)) (onTc (τ := Cert.RInprojIdeal.τ) (Cert.RInprojIdeal.main (F := Ideal))) ⟨m', fun _ => 0, g'⟩ (fun r => ∀ c : Dev Cert.RInprojIdeal.nD,
          r.2.mem ((c.tc : Thread Cert.RInprojIdeal.nD Cert.RInprojIdeal.τ).loc Cert.RInprojIdeal.main_v43) = v0 c
          ∧ r.2.mem ((c.tc : Thread Cert.RInprojIdeal.nD Cert.RInprojIdeal.τ).loc Cert.RInprojIdeal.main_v26) = v1 c
          ∧ r.2.mem ((c.tc : Thread Cert.RInprojIdeal.nD Cert.RInprojIdeal.τ).loc Cert.RInprojIdeal.main_v44) = v2 c
          ∧ r.2.mem ((c.tc : Thread Cert.RInprojIdeal.nD Cert.RInprojIdeal.τ).loc Cert.RInprojIdeal.main_v68) = v3 c
          ∧ r.2.mem ((c.tc : Thread Cert.RInprojIdeal.nD Cert.RInprojIdeal.τ).loc Cert.RInprojIdeal.main_v49) = v4 c
          ∧ r.2.mem ((c.tc : Thread Cert.RInprojIdeal.nD Cert.RInprojIdeal.τ).loc Cert.RInprojIdeal.main_v55) = v5 c
          ∧ r.2.mem ((c.tc : Thread Cert.RInprojIdeal.nD Cert.RInprojIdeal.τ).loc Cert.RInprojIdeal.main_arg0) = m' ((c.tc : Thread Cert.RInprojIdeal.nD Cert.RInprojIdeal.τ).loc Cert.RInprojIdeal.main_arg0)
          ∧ r.2.mem ((c.tc : Thread Cert.RInprojIdeal.nD Cert.RInprojIdeal.τ).loc Cert.RInprojIdeal.main_arg1) = m' ((c.tc : Thread Cert.RInprojIdeal.nD Cert.RInprojIdeal.τ).loc Cert.RInprojIdeal.main_arg1)
          ∧ r.2.mem ((c.tc : Thread Cert.RInprojIdeal.nD Cert.RInprojIdeal.τ).loc Cert.RInprojIdeal.main_arg2) = m' ((c.tc : Thread Cert.RInprojIdeal.nD Cert.RInprojIdeal.τ).loc Cert.RInprojIdeal.main_arg2)
          ∧ r.2.mem ((c.tc : Thread Cert.RInprojIdeal.nD Cert.RInprojIdeal.τ).loc Cert.RInprojIdeal.main_arg3) = m' ((c.tc : Thread Cert.RInprojIdeal.nD Cert.RInprojIdeal.τ).loc Cert.RInprojIdeal.main_arg3)
          ∧ r.2.mem ((c.tc : Thread Cert.RInprojIdeal.nD Cert.RInprojIdeal.τ).loc Cert.RInprojIdeal.main_arg4) = m' ((c.tc : Thread Cert.RInprojIdeal.nD Cert.RInprojIdeal.τ).loc Cert.RInprojIdeal.main_arg4)
          ∧ r.2.mem ((c.tc : Thread Cert.RInprojIdeal.nD Cert.RInprojIdeal.τ).loc Cert.RInprojIdeal.main_arg5) = m' ((c.tc : Thread Cert.RInprojIdeal.nD Cert.RInprojIdeal.τ).loc Cert.RInprojIdeal.main_arg5)
          ∧ r.2.mem ((c.tc : Thread Cert.RInprojIdeal.nD Cert.RInprojIdeal.τ).loc Cert.RInprojIdeal.main_arg6) = m' ((c.tc : Thread Cert.RInprojIdeal.nD Cert.RInprojIdeal.τ).loc Cert.RInprojIdeal.main_arg6)
          ∧ r.2.mem ((c.tc : Thread Cert.RInprojIdeal.nD Cert.RInprojIdeal.τ).loc Cert.RInprojIdeal.main_arg7) = m' ((c.tc : Thread Cert.RInprojIdeal.nD Cert.RInprojIdeal.τ).loc Cert.RInprojIdeal.main_arg7)
          ∧ r.2.mem ((c.tc : Thread Cert.RInprojIdeal.nD Cert.RInprojIdeal.τ).loc Cert.RInprojIdeal.main_arg8) = m' ((c.tc : Thread Cert.RInprojIdeal.nD Cert.RInprojIdeal.τ).loc Cert.RInprojIdeal.main_arg8)
          ∧ r.2.mem ((c.tc : Thread Cert.RInprojIdeal.nD Cert.RInprojIdeal.τ).loc Cert.RInprojIdeal.main_arg9) = m' ((c.tc : Thread Cert.RInprojIdeal.nD Cert.RInprojIdeal.τ).loc Cert.RInprojIdeal.main_arg9)
          ∧ r.2.mem ((c.tc : Thread Cert.RInprojIdeal.nD Cert.RInprojIdeal.τ).loc Cert.RInprojIdeal.main_arg10) = m' ((c.tc : Thread Cert.RInprojIdeal.nD Cert.RInprojIdeal.τ).loc Cert.RInprojIdeal.main_arg10)
          ∧ r.2.mem ((c.tc : Thread Cert.RInprojIdeal.nD Cert.RInprojIdeal.τ).loc Cert.RInprojIdeal.main_arg11) = m' ((c.tc : Thread Cert.RInprojIdeal.nD Cert.RInprojIdeal.τ).loc Cert.RInprojIdeal.main_arg11)
          ∧ r.2.mem ((c.tc : Thread Cert.RInprojIdeal.nD Cert.RInprojIdeal.τ).loc Cert.RInprojIdeal.main_arg12) = m' ((c.tc : Thread Cert.RInprojIdeal.nD Cert.RInprojIdeal.τ).loc Cert.RInprojIdeal.main_arg12)
          ∧ r.2.mem ((c.tc : Thread Cert.RInprojIdeal.nD Cert.RInprojIdeal.τ).loc Cert.RInprojIdeal.main_arg13) = m' ((c.tc : Thread Cert.RInprojIdeal.nD Cert.RInprojIdeal.τ).loc Cert.RInprojIdeal.main_arg13))

def preserves_KFgate_KFgateIdeal : Prop :=
  True

def algebraic_KFgateIdeal_RFgateIdeal [hKFgateIdeal : Cert.KFgateIdeal.Facts] [hRFgateIdeal : Cert.RFgateIdeal.Facts] : Prop :=
  ∀ (m : (ℓ : Loc Cert.KFgateIdeal.nD Cert.KFgateIdeal.τ Cert.KFgateIdeal.sig) → Buf (Elt Ideal) ℓ) (g : Dev Cert.KFgateIdeal.nD → PrngReg)
    (m' : (ℓ : Loc Cert.RFgateIdeal.nD Cert.RFgateIdeal.τ Cert.RFgateIdeal.sig) → Buf (Elt Ideal) ℓ) (g' : Dev Cert.RFgateIdeal.nD → PrngReg), Pre_KFgateIdeal m →
    (∀ c : Dev Cert.KFgateIdeal.nD,
      m' ((c.tc : Thread Cert.RFgateIdeal.nD Cert.RFgateIdeal.τ).loc Cert.RFgateIdeal.main_arg0) = m ((c.tc : Thread Cert.KFgateIdeal.nD Cert.KFgateIdeal.τ).loc Cert.KFgateIdeal.main_arg0)
      ∧ m' ((c.tc : Thread Cert.RFgateIdeal.nD Cert.RFgateIdeal.τ).loc Cert.RFgateIdeal.main_arg1) = m ((c.tc : Thread Cert.KFgateIdeal.nD Cert.KFgateIdeal.τ).loc Cert.KFgateIdeal.main_arg1)
      ∧ m' ((c.tc : Thread Cert.RFgateIdeal.nD Cert.RFgateIdeal.τ).loc Cert.RFgateIdeal.main_arg2) = m ((c.tc : Thread Cert.KFgateIdeal.nD Cert.KFgateIdeal.τ).loc Cert.KFgateIdeal.main_arg2)
      ∧ m' ((c.tc : Thread Cert.RFgateIdeal.nD Cert.RFgateIdeal.τ).loc Cert.RFgateIdeal.main_arg3) = m ((c.tc : Thread Cert.KFgateIdeal.nD Cert.KFgateIdeal.τ).loc Cert.KFgateIdeal.main_arg3)) →
    ∃ (v0 : (c : Dev Cert.KFgateIdeal.nD) → Buf (Elt Ideal) ((c.tc : Thread Cert.KFgateIdeal.nD Cert.KFgateIdeal.τ).loc Cert.KFgateIdeal.main_v4_0)) (v1 : (c : Dev Cert.KFgateIdeal.nD) → Buf (Elt Ideal) ((c.tc : Thread Cert.KFgateIdeal.nD Cert.KFgateIdeal.τ).loc Cert.KFgateIdeal.main_v4_1)),
      θ_run (Cert.KFgateIdeal.defs (F := Ideal)) (onTc (τ := Cert.KFgateIdeal.τ) (Cert.KFgateIdeal.main (F := Ideal))) ⟨m, fun _ => 0, g⟩ (fun r => ∀ c : Dev Cert.KFgateIdeal.nD,
          r.2.mem ((c.tc : Thread Cert.KFgateIdeal.nD Cert.KFgateIdeal.τ).loc Cert.KFgateIdeal.main_v4_0) = v0 c
          ∧ r.2.mem ((c.tc : Thread Cert.KFgateIdeal.nD Cert.KFgateIdeal.τ).loc Cert.KFgateIdeal.main_v4_1) = v1 c
          ∧ r.2.mem ((c.tc : Thread Cert.KFgateIdeal.nD Cert.KFgateIdeal.τ).loc Cert.KFgateIdeal.main_arg0) = m ((c.tc : Thread Cert.KFgateIdeal.nD Cert.KFgateIdeal.τ).loc Cert.KFgateIdeal.main_arg0)
          ∧ r.2.mem ((c.tc : Thread Cert.KFgateIdeal.nD Cert.KFgateIdeal.τ).loc Cert.KFgateIdeal.main_arg1) = m ((c.tc : Thread Cert.KFgateIdeal.nD Cert.KFgateIdeal.τ).loc Cert.KFgateIdeal.main_arg1)
          ∧ r.2.mem ((c.tc : Thread Cert.KFgateIdeal.nD Cert.KFgateIdeal.τ).loc Cert.KFgateIdeal.main_arg2) = m ((c.tc : Thread Cert.KFgateIdeal.nD Cert.KFgateIdeal.τ).loc Cert.KFgateIdeal.main_arg2)
          ∧ r.2.mem ((c.tc : Thread Cert.KFgateIdeal.nD Cert.KFgateIdeal.τ).loc Cert.KFgateIdeal.main_arg3) = m ((c.tc : Thread Cert.KFgateIdeal.nD Cert.KFgateIdeal.τ).loc Cert.KFgateIdeal.main_arg3))
      ∧ θ_run (Cert.RFgateIdeal.defs (F := Ideal)) (onTc (τ := Cert.RFgateIdeal.τ) (Cert.RFgateIdeal.main (F := Ideal))) ⟨m', fun _ => 0, g'⟩ (fun r => ∀ c : Dev Cert.RFgateIdeal.nD,
          r.2.mem ((c.tc : Thread Cert.RFgateIdeal.nD Cert.RFgateIdeal.τ).loc Cert.RFgateIdeal.main_v10) = v0 c
          ∧ r.2.mem ((c.tc : Thread Cert.RFgateIdeal.nD Cert.RFgateIdeal.τ).loc Cert.RFgateIdeal.main_v11) = v1 c
          ∧ r.2.mem ((c.tc : Thread Cert.RFgateIdeal.nD Cert.RFgateIdeal.τ).loc Cert.RFgateIdeal.main_arg0) = m' ((c.tc : Thread Cert.RFgateIdeal.nD Cert.RFgateIdeal.τ).loc Cert.RFgateIdeal.main_arg0)
          ∧ r.2.mem ((c.tc : Thread Cert.RFgateIdeal.nD Cert.RFgateIdeal.τ).loc Cert.RFgateIdeal.main_arg1) = m' ((c.tc : Thread Cert.RFgateIdeal.nD Cert.RFgateIdeal.τ).loc Cert.RFgateIdeal.main_arg1)
          ∧ r.2.mem ((c.tc : Thread Cert.RFgateIdeal.nD Cert.RFgateIdeal.τ).loc Cert.RFgateIdeal.main_arg2) = m' ((c.tc : Thread Cert.RFgateIdeal.nD Cert.RFgateIdeal.τ).loc Cert.RFgateIdeal.main_arg2)
          ∧ r.2.mem ((c.tc : Thread Cert.RFgateIdeal.nD Cert.RFgateIdeal.τ).loc Cert.RFgateIdeal.main_arg3) = m' ((c.tc : Thread Cert.RFgateIdeal.nD Cert.RFgateIdeal.τ).loc Cert.RFgateIdeal.main_arg3))

def preserves_KMix_KMixIdeal : Prop :=
  True

def algebraic_KMixIdeal_RMixIdeal [hKMixIdeal : Cert.KMixIdeal.Facts] [hRMixIdeal : Cert.RMixIdeal.Facts] : Prop :=
  ∀ (m : (ℓ : Loc Cert.KMixIdeal.nD Cert.KMixIdeal.τ Cert.KMixIdeal.sig) → Buf (Elt Ideal) ℓ) (g : Dev Cert.KMixIdeal.nD → PrngReg)
    (m' : (ℓ : Loc Cert.RMixIdeal.nD Cert.RMixIdeal.τ Cert.RMixIdeal.sig) → Buf (Elt Ideal) ℓ) (g' : Dev Cert.RMixIdeal.nD → PrngReg), Pre_KMixIdeal m →
    (∀ c : Dev Cert.KMixIdeal.nD,
      m' ((c.tc : Thread Cert.RMixIdeal.nD Cert.RMixIdeal.τ).loc Cert.RMixIdeal.main_arg0) = m ((c.tc : Thread Cert.KMixIdeal.nD Cert.KMixIdeal.τ).loc Cert.KMixIdeal.main_arg0)
      ∧ m' ((c.tc : Thread Cert.RMixIdeal.nD Cert.RMixIdeal.τ).loc Cert.RMixIdeal.main_arg1) = m ((c.tc : Thread Cert.KMixIdeal.nD Cert.KMixIdeal.τ).loc Cert.KMixIdeal.main_arg1)
      ∧ m' ((c.tc : Thread Cert.RMixIdeal.nD Cert.RMixIdeal.τ).loc Cert.RMixIdeal.main_arg2) = m ((c.tc : Thread Cert.KMixIdeal.nD Cert.KMixIdeal.τ).loc Cert.KMixIdeal.main_arg2)
      ∧ m' ((c.tc : Thread Cert.RMixIdeal.nD Cert.RMixIdeal.τ).loc Cert.RMixIdeal.main_arg3) = m ((c.tc : Thread Cert.KMixIdeal.nD Cert.KMixIdeal.τ).loc Cert.KMixIdeal.main_arg3)
      ∧ m' ((c.tc : Thread Cert.RMixIdeal.nD Cert.RMixIdeal.τ).loc Cert.RMixIdeal.main_arg4) = m ((c.tc : Thread Cert.KMixIdeal.nD Cert.KMixIdeal.τ).loc Cert.KMixIdeal.main_arg4)
      ∧ m' ((c.tc : Thread Cert.RMixIdeal.nD Cert.RMixIdeal.τ).loc Cert.RMixIdeal.main_arg5) = m ((c.tc : Thread Cert.KMixIdeal.nD Cert.KMixIdeal.τ).loc Cert.KMixIdeal.main_arg5)
      ∧ m' ((c.tc : Thread Cert.RMixIdeal.nD Cert.RMixIdeal.τ).loc Cert.RMixIdeal.main_arg6) = m ((c.tc : Thread Cert.KMixIdeal.nD Cert.KMixIdeal.τ).loc Cert.KMixIdeal.main_arg6)
      ∧ m' ((c.tc : Thread Cert.RMixIdeal.nD Cert.RMixIdeal.τ).loc Cert.RMixIdeal.main_arg7) = m ((c.tc : Thread Cert.KMixIdeal.nD Cert.KMixIdeal.τ).loc Cert.KMixIdeal.main_arg7)
      ∧ m' ((c.tc : Thread Cert.RMixIdeal.nD Cert.RMixIdeal.τ).loc Cert.RMixIdeal.main_arg8) = m ((c.tc : Thread Cert.KMixIdeal.nD Cert.KMixIdeal.τ).loc Cert.KMixIdeal.main_arg8)
      ∧ m' ((c.tc : Thread Cert.RMixIdeal.nD Cert.RMixIdeal.τ).loc Cert.RMixIdeal.main_arg9) = m ((c.tc : Thread Cert.KMixIdeal.nD Cert.KMixIdeal.τ).loc Cert.KMixIdeal.main_arg9)
      ∧ m' ((c.tc : Thread Cert.RMixIdeal.nD Cert.RMixIdeal.τ).loc Cert.RMixIdeal.main_arg10) = m ((c.tc : Thread Cert.KMixIdeal.nD Cert.KMixIdeal.τ).loc Cert.KMixIdeal.main_arg10)
      ∧ m' ((c.tc : Thread Cert.RMixIdeal.nD Cert.RMixIdeal.τ).loc Cert.RMixIdeal.main_arg11) = m ((c.tc : Thread Cert.KMixIdeal.nD Cert.KMixIdeal.τ).loc Cert.KMixIdeal.main_arg11)
      ∧ m' ((c.tc : Thread Cert.RMixIdeal.nD Cert.RMixIdeal.τ).loc Cert.RMixIdeal.main_arg12) = m ((c.tc : Thread Cert.KMixIdeal.nD Cert.KMixIdeal.τ).loc Cert.KMixIdeal.main_arg12)
      ∧ m' ((c.tc : Thread Cert.RMixIdeal.nD Cert.RMixIdeal.τ).loc Cert.RMixIdeal.main_arg13) = m ((c.tc : Thread Cert.KMixIdeal.nD Cert.KMixIdeal.τ).loc Cert.KMixIdeal.main_arg13)) →
    ∃ (v0 : (c : Dev Cert.KMixIdeal.nD) → Buf (Elt Ideal) ((c.tc : Thread Cert.KMixIdeal.nD Cert.KMixIdeal.τ).loc Cert.KMixIdeal.main_v97_3)) (v1 : (c : Dev Cert.KMixIdeal.nD) → Buf (Elt Ideal) ((c.tc : Thread Cert.KMixIdeal.nD Cert.KMixIdeal.τ).loc Cert.KMixIdeal.main_v97_8)) (v2 : (c : Dev Cert.KMixIdeal.nD) → Buf (Elt Ideal) ((c.tc : Thread Cert.KMixIdeal.nD Cert.KMixIdeal.τ).loc Cert.KMixIdeal.main_v97_10)),
      θ_run (Cert.KMixIdeal.defs (F := Ideal)) (onTc (τ := Cert.KMixIdeal.τ) (Cert.KMixIdeal.main (F := Ideal))) ⟨m, fun _ => 0, g⟩ (fun r => ∀ c : Dev Cert.KMixIdeal.nD,
          r.2.mem ((c.tc : Thread Cert.KMixIdeal.nD Cert.KMixIdeal.τ).loc Cert.KMixIdeal.main_v97_3) = v0 c
          ∧ r.2.mem ((c.tc : Thread Cert.KMixIdeal.nD Cert.KMixIdeal.τ).loc Cert.KMixIdeal.main_v97_8) = v1 c
          ∧ r.2.mem ((c.tc : Thread Cert.KMixIdeal.nD Cert.KMixIdeal.τ).loc Cert.KMixIdeal.main_v97_10) = v2 c
          ∧ r.2.mem ((c.tc : Thread Cert.KMixIdeal.nD Cert.KMixIdeal.τ).loc Cert.KMixIdeal.main_arg0) = m ((c.tc : Thread Cert.KMixIdeal.nD Cert.KMixIdeal.τ).loc Cert.KMixIdeal.main_arg0)
          ∧ r.2.mem ((c.tc : Thread Cert.KMixIdeal.nD Cert.KMixIdeal.τ).loc Cert.KMixIdeal.main_arg1) = m ((c.tc : Thread Cert.KMixIdeal.nD Cert.KMixIdeal.τ).loc Cert.KMixIdeal.main_arg1)
          ∧ r.2.mem ((c.tc : Thread Cert.KMixIdeal.nD Cert.KMixIdeal.τ).loc Cert.KMixIdeal.main_arg2) = m ((c.tc : Thread Cert.KMixIdeal.nD Cert.KMixIdeal.τ).loc Cert.KMixIdeal.main_arg2)
          ∧ r.2.mem ((c.tc : Thread Cert.KMixIdeal.nD Cert.KMixIdeal.τ).loc Cert.KMixIdeal.main_arg3) = m ((c.tc : Thread Cert.KMixIdeal.nD Cert.KMixIdeal.τ).loc Cert.KMixIdeal.main_arg3)
          ∧ r.2.mem ((c.tc : Thread Cert.KMixIdeal.nD Cert.KMixIdeal.τ).loc Cert.KMixIdeal.main_arg4) = m ((c.tc : Thread Cert.KMixIdeal.nD Cert.KMixIdeal.τ).loc Cert.KMixIdeal.main_arg4)
          ∧ r.2.mem ((c.tc : Thread Cert.KMixIdeal.nD Cert.KMixIdeal.τ).loc Cert.KMixIdeal.main_arg5) = m ((c.tc : Thread Cert.KMixIdeal.nD Cert.KMixIdeal.τ).loc Cert.KMixIdeal.main_arg5)
          ∧ r.2.mem ((c.tc : Thread Cert.KMixIdeal.nD Cert.KMixIdeal.τ).loc Cert.KMixIdeal.main_arg6) = m ((c.tc : Thread Cert.KMixIdeal.nD Cert.KMixIdeal.τ).loc Cert.KMixIdeal.main_arg6)
          ∧ r.2.mem ((c.tc : Thread Cert.KMixIdeal.nD Cert.KMixIdeal.τ).loc Cert.KMixIdeal.main_arg7) = m ((c.tc : Thread Cert.KMixIdeal.nD Cert.KMixIdeal.τ).loc Cert.KMixIdeal.main_arg7)
          ∧ r.2.mem ((c.tc : Thread Cert.KMixIdeal.nD Cert.KMixIdeal.τ).loc Cert.KMixIdeal.main_arg8) = m ((c.tc : Thread Cert.KMixIdeal.nD Cert.KMixIdeal.τ).loc Cert.KMixIdeal.main_arg8)
          ∧ r.2.mem ((c.tc : Thread Cert.KMixIdeal.nD Cert.KMixIdeal.τ).loc Cert.KMixIdeal.main_arg9) = m ((c.tc : Thread Cert.KMixIdeal.nD Cert.KMixIdeal.τ).loc Cert.KMixIdeal.main_arg9)
          ∧ r.2.mem ((c.tc : Thread Cert.KMixIdeal.nD Cert.KMixIdeal.τ).loc Cert.KMixIdeal.main_arg10) = m ((c.tc : Thread Cert.KMixIdeal.nD Cert.KMixIdeal.τ).loc Cert.KMixIdeal.main_arg10)
          ∧ r.2.mem ((c.tc : Thread Cert.KMixIdeal.nD Cert.KMixIdeal.τ).loc Cert.KMixIdeal.main_arg11) = m ((c.tc : Thread Cert.KMixIdeal.nD Cert.KMixIdeal.τ).loc Cert.KMixIdeal.main_arg11)
          ∧ r.2.mem ((c.tc : Thread Cert.KMixIdeal.nD Cert.KMixIdeal.τ).loc Cert.KMixIdeal.main_arg12) = m ((c.tc : Thread Cert.KMixIdeal.nD Cert.KMixIdeal.τ).loc Cert.KMixIdeal.main_arg12)
          ∧ r.2.mem ((c.tc : Thread Cert.KMixIdeal.nD Cert.KMixIdeal.τ).loc Cert.KMixIdeal.main_arg13) = m ((c.tc : Thread Cert.KMixIdeal.nD Cert.KMixIdeal.τ).loc Cert.KMixIdeal.main_arg13))
      ∧ θ_run (Cert.RMixIdeal.defs (F := Ideal)) (onTc (τ := Cert.RMixIdeal.τ) (Cert.RMixIdeal.main (F := Ideal))) ⟨m', fun _ => 0, g'⟩ (fun r => ∀ c : Dev Cert.RMixIdeal.nD,
          r.2.mem ((c.tc : Thread Cert.RMixIdeal.nD Cert.RMixIdeal.τ).loc Cert.RMixIdeal.main_v122) = v0 c
          ∧ r.2.mem ((c.tc : Thread Cert.RMixIdeal.nD Cert.RMixIdeal.τ).loc Cert.RMixIdeal.main_v128) = v1 c
          ∧ r.2.mem ((c.tc : Thread Cert.RMixIdeal.nD Cert.RMixIdeal.τ).loc Cert.RMixIdeal.main_v104) = v2 c
          ∧ r.2.mem ((c.tc : Thread Cert.RMixIdeal.nD Cert.RMixIdeal.τ).loc Cert.RMixIdeal.main_arg0) = m' ((c.tc : Thread Cert.RMixIdeal.nD Cert.RMixIdeal.τ).loc Cert.RMixIdeal.main_arg0)
          ∧ r.2.mem ((c.tc : Thread Cert.RMixIdeal.nD Cert.RMixIdeal.τ).loc Cert.RMixIdeal.main_arg1) = m' ((c.tc : Thread Cert.RMixIdeal.nD Cert.RMixIdeal.τ).loc Cert.RMixIdeal.main_arg1)
          ∧ r.2.mem ((c.tc : Thread Cert.RMixIdeal.nD Cert.RMixIdeal.τ).loc Cert.RMixIdeal.main_arg2) = m' ((c.tc : Thread Cert.RMixIdeal.nD Cert.RMixIdeal.τ).loc Cert.RMixIdeal.main_arg2)
          ∧ r.2.mem ((c.tc : Thread Cert.RMixIdeal.nD Cert.RMixIdeal.τ).loc Cert.RMixIdeal.main_arg3) = m' ((c.tc : Thread Cert.RMixIdeal.nD Cert.RMixIdeal.τ).loc Cert.RMixIdeal.main_arg3)
          ∧ r.2.mem ((c.tc : Thread Cert.RMixIdeal.nD Cert.RMixIdeal.τ).loc Cert.RMixIdeal.main_arg4) = m' ((c.tc : Thread Cert.RMixIdeal.nD Cert.RMixIdeal.τ).loc Cert.RMixIdeal.main_arg4)
          ∧ r.2.mem ((c.tc : Thread Cert.RMixIdeal.nD Cert.RMixIdeal.τ).loc Cert.RMixIdeal.main_arg5) = m' ((c.tc : Thread Cert.RMixIdeal.nD Cert.RMixIdeal.τ).loc Cert.RMixIdeal.main_arg5)
          ∧ r.2.mem ((c.tc : Thread Cert.RMixIdeal.nD Cert.RMixIdeal.τ).loc Cert.RMixIdeal.main_arg6) = m' ((c.tc : Thread Cert.RMixIdeal.nD Cert.RMixIdeal.τ).loc Cert.RMixIdeal.main_arg6)
          ∧ r.2.mem ((c.tc : Thread Cert.RMixIdeal.nD Cert.RMixIdeal.τ).loc Cert.RMixIdeal.main_arg7) = m' ((c.tc : Thread Cert.RMixIdeal.nD Cert.RMixIdeal.τ).loc Cert.RMixIdeal.main_arg7)
          ∧ r.2.mem ((c.tc : Thread Cert.RMixIdeal.nD Cert.RMixIdeal.τ).loc Cert.RMixIdeal.main_arg8) = m' ((c.tc : Thread Cert.RMixIdeal.nD Cert.RMixIdeal.τ).loc Cert.RMixIdeal.main_arg8)
          ∧ r.2.mem ((c.tc : Thread Cert.RMixIdeal.nD Cert.RMixIdeal.τ).loc Cert.RMixIdeal.main_arg9) = m' ((c.tc : Thread Cert.RMixIdeal.nD Cert.RMixIdeal.τ).loc Cert.RMixIdeal.main_arg9)
          ∧ r.2.mem ((c.tc : Thread Cert.RMixIdeal.nD Cert.RMixIdeal.τ).loc Cert.RMixIdeal.main_arg10) = m' ((c.tc : Thread Cert.RMixIdeal.nD Cert.RMixIdeal.τ).loc Cert.RMixIdeal.main_arg10)
          ∧ r.2.mem ((c.tc : Thread Cert.RMixIdeal.nD Cert.RMixIdeal.τ).loc Cert.RMixIdeal.main_arg11) = m' ((c.tc : Thread Cert.RMixIdeal.nD Cert.RMixIdeal.τ).loc Cert.RMixIdeal.main_arg11)
          ∧ r.2.mem ((c.tc : Thread Cert.RMixIdeal.nD Cert.RMixIdeal.τ).loc Cert.RMixIdeal.main_arg12) = m' ((c.tc : Thread Cert.RMixIdeal.nD Cert.RMixIdeal.τ).loc Cert.RMixIdeal.main_arg12)
          ∧ r.2.mem ((c.tc : Thread Cert.RMixIdeal.nD Cert.RMixIdeal.τ).loc Cert.RMixIdeal.main_arg13) = m' ((c.tc : Thread Cert.RMixIdeal.nD Cert.RMixIdeal.τ).loc Cert.RMixIdeal.main_arg13))

def preserves_KAttn_KAttnIdeal : Prop :=
  True

def algebraic_KAttnIdeal_RAttnIdeal_pre_finite_attn [hKAttnIdeal : Cert.KAttnIdeal.Facts] [hRAttnIdeal : Cert.RAttnIdeal.Facts] [hPre_finite_attn : Cert.Pre_finite_attn.Facts] : Prop :=
  ∀ (m : (ℓ : Loc Cert.KAttnIdeal.nD Cert.KAttnIdeal.τ Cert.KAttnIdeal.sig) → Buf (Elt Ideal) ℓ) (g : Dev Cert.KAttnIdeal.nD → PrngReg)
    (m' : (ℓ : Loc Cert.RAttnIdeal.nD Cert.RAttnIdeal.τ Cert.RAttnIdeal.sig) → Buf (Elt Ideal) ℓ) (g' : Dev Cert.RAttnIdeal.nD → PrngReg), Pre_KAttnIdeal_finite_attn m →
    (∀ c : Dev Cert.KAttnIdeal.nD,
      m' ((c.tc : Thread Cert.RAttnIdeal.nD Cert.RAttnIdeal.τ).loc Cert.RAttnIdeal.main_arg0) = m ((c.tc : Thread Cert.KAttnIdeal.nD Cert.KAttnIdeal.τ).loc Cert.KAttnIdeal.main_arg0)
      ∧ m' ((c.tc : Thread Cert.RAttnIdeal.nD Cert.RAttnIdeal.τ).loc Cert.RAttnIdeal.main_arg1) = m ((c.tc : Thread Cert.KAttnIdeal.nD Cert.KAttnIdeal.τ).loc Cert.KAttnIdeal.main_arg1)
      ∧ m' ((c.tc : Thread Cert.RAttnIdeal.nD Cert.RAttnIdeal.τ).loc Cert.RAttnIdeal.main_arg2) = m ((c.tc : Thread Cert.KAttnIdeal.nD Cert.KAttnIdeal.τ).loc Cert.KAttnIdeal.main_arg2)
      ∧ m' ((c.tc : Thread Cert.RAttnIdeal.nD Cert.RAttnIdeal.τ).loc Cert.RAttnIdeal.main_arg3) = m ((c.tc : Thread Cert.KAttnIdeal.nD Cert.KAttnIdeal.τ).loc Cert.KAttnIdeal.main_arg3)
      ∧ m' ((c.tc : Thread Cert.RAttnIdeal.nD Cert.RAttnIdeal.τ).loc Cert.RAttnIdeal.main_arg4) = m ((c.tc : Thread Cert.KAttnIdeal.nD Cert.KAttnIdeal.τ).loc Cert.KAttnIdeal.main_arg4)) →
    ∃ (v0 : (c : Dev Cert.KAttnIdeal.nD) → Buf (Elt Ideal) ((c.tc : Thread Cert.KAttnIdeal.nD Cert.KAttnIdeal.τ).loc Cert.KAttnIdeal.main_v127_0)) (v1 : (c : Dev Cert.KAttnIdeal.nD) → Buf (Elt Ideal) ((c.tc : Thread Cert.KAttnIdeal.nD Cert.KAttnIdeal.τ).loc Cert.KAttnIdeal.main_v127_1)) (v2 : (c : Dev Cert.KAttnIdeal.nD) → Buf (Elt Ideal) ((c.tc : Thread Cert.KAttnIdeal.nD Cert.KAttnIdeal.τ).loc Cert.KAttnIdeal.main_v127_2)) (v3 : (c : Dev Cert.KAttnIdeal.nD) → Buf (Elt Ideal) ((c.tc : Thread Cert.KAttnIdeal.nD Cert.KAttnIdeal.τ).loc Cert.KAttnIdeal.main_v127_3)) (v4 : (c : Dev Cert.KAttnIdeal.nD) → Buf (Elt Ideal) ((c.tc : Thread Cert.KAttnIdeal.nD Cert.KAttnIdeal.τ).loc Cert.KAttnIdeal.main_v127_4)),
      θ_run (Cert.KAttnIdeal.defs (F := Ideal)) (onTc (τ := Cert.KAttnIdeal.τ) (Cert.KAttnIdeal.main (F := Ideal))) ⟨m, fun _ => 0, g⟩ (fun r => ∀ c : Dev Cert.KAttnIdeal.nD,
          r.2.mem ((c.tc : Thread Cert.KAttnIdeal.nD Cert.KAttnIdeal.τ).loc Cert.KAttnIdeal.main_v127_0) = v0 c
          ∧ r.2.mem ((c.tc : Thread Cert.KAttnIdeal.nD Cert.KAttnIdeal.τ).loc Cert.KAttnIdeal.main_v127_1) = v1 c
          ∧ r.2.mem ((c.tc : Thread Cert.KAttnIdeal.nD Cert.KAttnIdeal.τ).loc Cert.KAttnIdeal.main_v127_2) = v2 c
          ∧ r.2.mem ((c.tc : Thread Cert.KAttnIdeal.nD Cert.KAttnIdeal.τ).loc Cert.KAttnIdeal.main_v127_3) = v3 c
          ∧ r.2.mem ((c.tc : Thread Cert.KAttnIdeal.nD Cert.KAttnIdeal.τ).loc Cert.KAttnIdeal.main_v127_4) = v4 c
          ∧ r.2.mem ((c.tc : Thread Cert.KAttnIdeal.nD Cert.KAttnIdeal.τ).loc Cert.KAttnIdeal.main_arg0) = m ((c.tc : Thread Cert.KAttnIdeal.nD Cert.KAttnIdeal.τ).loc Cert.KAttnIdeal.main_arg0)
          ∧ r.2.mem ((c.tc : Thread Cert.KAttnIdeal.nD Cert.KAttnIdeal.τ).loc Cert.KAttnIdeal.main_arg1) = m ((c.tc : Thread Cert.KAttnIdeal.nD Cert.KAttnIdeal.τ).loc Cert.KAttnIdeal.main_arg1)
          ∧ r.2.mem ((c.tc : Thread Cert.KAttnIdeal.nD Cert.KAttnIdeal.τ).loc Cert.KAttnIdeal.main_arg2) = m ((c.tc : Thread Cert.KAttnIdeal.nD Cert.KAttnIdeal.τ).loc Cert.KAttnIdeal.main_arg2)
          ∧ r.2.mem ((c.tc : Thread Cert.KAttnIdeal.nD Cert.KAttnIdeal.τ).loc Cert.KAttnIdeal.main_arg3) = m ((c.tc : Thread Cert.KAttnIdeal.nD Cert.KAttnIdeal.τ).loc Cert.KAttnIdeal.main_arg3)
          ∧ r.2.mem ((c.tc : Thread Cert.KAttnIdeal.nD Cert.KAttnIdeal.τ).loc Cert.KAttnIdeal.main_arg4) = m ((c.tc : Thread Cert.KAttnIdeal.nD Cert.KAttnIdeal.τ).loc Cert.KAttnIdeal.main_arg4))
      ∧ θ_run (Cert.RAttnIdeal.defs (F := Ideal)) (onTc (τ := Cert.RAttnIdeal.τ) (Cert.RAttnIdeal.main (F := Ideal))) ⟨m', fun _ => 0, g'⟩ (fun r => ∀ c : Dev Cert.RAttnIdeal.nD,
          r.2.mem ((c.tc : Thread Cert.RAttnIdeal.nD Cert.RAttnIdeal.τ).loc Cert.RAttnIdeal.main_v73) = v0 c
          ∧ r.2.mem ((c.tc : Thread Cert.RAttnIdeal.nD Cert.RAttnIdeal.τ).loc Cert.RAttnIdeal.main_v74) = v1 c
          ∧ r.2.mem ((c.tc : Thread Cert.RAttnIdeal.nD Cert.RAttnIdeal.τ).loc Cert.RAttnIdeal.main_v75) = v2 c
          ∧ r.2.mem ((c.tc : Thread Cert.RAttnIdeal.nD Cert.RAttnIdeal.τ).loc Cert.RAttnIdeal.main_v76) = v3 c
          ∧ r.2.mem ((c.tc : Thread Cert.RAttnIdeal.nD Cert.RAttnIdeal.τ).loc Cert.RAttnIdeal.main_v77) = v4 c
          ∧ r.2.mem ((c.tc : Thread Cert.RAttnIdeal.nD Cert.RAttnIdeal.τ).loc Cert.RAttnIdeal.main_arg0) = m' ((c.tc : Thread Cert.RAttnIdeal.nD Cert.RAttnIdeal.τ).loc Cert.RAttnIdeal.main_arg0)
          ∧ r.2.mem ((c.tc : Thread Cert.RAttnIdeal.nD Cert.RAttnIdeal.τ).loc Cert.RAttnIdeal.main_arg1) = m' ((c.tc : Thread Cert.RAttnIdeal.nD Cert.RAttnIdeal.τ).loc Cert.RAttnIdeal.main_arg1)
          ∧ r.2.mem ((c.tc : Thread Cert.RAttnIdeal.nD Cert.RAttnIdeal.τ).loc Cert.RAttnIdeal.main_arg2) = m' ((c.tc : Thread Cert.RAttnIdeal.nD Cert.RAttnIdeal.τ).loc Cert.RAttnIdeal.main_arg2)
          ∧ r.2.mem ((c.tc : Thread Cert.RAttnIdeal.nD Cert.RAttnIdeal.τ).loc Cert.RAttnIdeal.main_arg3) = m' ((c.tc : Thread Cert.RAttnIdeal.nD Cert.RAttnIdeal.τ).loc Cert.RAttnIdeal.main_arg3)
          ∧ r.2.mem ((c.tc : Thread Cert.RAttnIdeal.nD Cert.RAttnIdeal.τ).loc Cert.RAttnIdeal.main_arg4) = m' ((c.tc : Thread Cert.RAttnIdeal.nD Cert.RAttnIdeal.τ).loc Cert.RAttnIdeal.main_arg4))

def preserves_KFfnf_KFfnfIdeal : Prop :=
  True

def algebraic_KFfnfIdeal_RFfnfIdeal [hKFfnfIdeal : Cert.KFfnfIdeal.Facts] [hRFfnfIdeal : Cert.RFfnfIdeal.Facts] : Prop :=
  ∀ (m : (ℓ : Loc Cert.KFfnfIdeal.nD Cert.KFfnfIdeal.τ Cert.KFfnfIdeal.sig) → Buf (Elt Ideal) ℓ) (g : Dev Cert.KFfnfIdeal.nD → PrngReg)
    (m' : (ℓ : Loc Cert.RFfnfIdeal.nD Cert.RFfnfIdeal.τ Cert.RFfnfIdeal.sig) → Buf (Elt Ideal) ℓ) (g' : Dev Cert.RFfnfIdeal.nD → PrngReg), Pre_KFfnfIdeal m →
    (∀ c : Dev Cert.KFfnfIdeal.nD,
      m' ((c.tc : Thread Cert.RFfnfIdeal.nD Cert.RFfnfIdeal.τ).loc Cert.RFfnfIdeal.main_arg0) = m ((c.tc : Thread Cert.KFfnfIdeal.nD Cert.KFfnfIdeal.τ).loc Cert.KFfnfIdeal.main_arg0)
      ∧ m' ((c.tc : Thread Cert.RFfnfIdeal.nD Cert.RFfnfIdeal.τ).loc Cert.RFfnfIdeal.main_arg1) = m ((c.tc : Thread Cert.KFfnfIdeal.nD Cert.KFfnfIdeal.τ).loc Cert.KFfnfIdeal.main_arg1)
      ∧ m' ((c.tc : Thread Cert.RFfnfIdeal.nD Cert.RFfnfIdeal.τ).loc Cert.RFfnfIdeal.main_arg2) = m ((c.tc : Thread Cert.KFfnfIdeal.nD Cert.KFfnfIdeal.τ).loc Cert.KFfnfIdeal.main_arg2)
      ∧ m' ((c.tc : Thread Cert.RFfnfIdeal.nD Cert.RFfnfIdeal.τ).loc Cert.RFfnfIdeal.main_arg3) = m ((c.tc : Thread Cert.KFfnfIdeal.nD Cert.KFfnfIdeal.τ).loc Cert.KFfnfIdeal.main_arg3)
      ∧ m' ((c.tc : Thread Cert.RFfnfIdeal.nD Cert.RFfnfIdeal.τ).loc Cert.RFfnfIdeal.main_arg4) = m ((c.tc : Thread Cert.KFfnfIdeal.nD Cert.KFfnfIdeal.τ).loc Cert.KFfnfIdeal.main_arg4)) →
    ∃ (v0 : (c : Dev Cert.KFfnfIdeal.nD) → Buf (Elt Ideal) ((c.tc : Thread Cert.KFfnfIdeal.nD Cert.KFfnfIdeal.τ).loc Cert.KFfnfIdeal.main_v5_0)) (v1 : (c : Dev Cert.KFfnfIdeal.nD) → Buf (Elt Ideal) ((c.tc : Thread Cert.KFfnfIdeal.nD Cert.KFfnfIdeal.τ).loc Cert.KFfnfIdeal.main_v5_1)) (v2 : (c : Dev Cert.KFfnfIdeal.nD) → Buf (Elt Ideal) ((c.tc : Thread Cert.KFfnfIdeal.nD Cert.KFfnfIdeal.τ).loc Cert.KFfnfIdeal.main_v5_2)) (v3 : (c : Dev Cert.KFfnfIdeal.nD) → Buf (Elt Ideal) ((c.tc : Thread Cert.KFfnfIdeal.nD Cert.KFfnfIdeal.τ).loc Cert.KFfnfIdeal.main_v5_3)),
      θ_run (Cert.KFfnfIdeal.defs (F := Ideal)) (onTc (τ := Cert.KFfnfIdeal.τ) (Cert.KFfnfIdeal.main (F := Ideal))) ⟨m, fun _ => 0, g⟩ (fun r => ∀ c : Dev Cert.KFfnfIdeal.nD,
          r.2.mem ((c.tc : Thread Cert.KFfnfIdeal.nD Cert.KFfnfIdeal.τ).loc Cert.KFfnfIdeal.main_v5_0) = v0 c
          ∧ r.2.mem ((c.tc : Thread Cert.KFfnfIdeal.nD Cert.KFfnfIdeal.τ).loc Cert.KFfnfIdeal.main_v5_1) = v1 c
          ∧ r.2.mem ((c.tc : Thread Cert.KFfnfIdeal.nD Cert.KFfnfIdeal.τ).loc Cert.KFfnfIdeal.main_v5_2) = v2 c
          ∧ r.2.mem ((c.tc : Thread Cert.KFfnfIdeal.nD Cert.KFfnfIdeal.τ).loc Cert.KFfnfIdeal.main_v5_3) = v3 c
          ∧ r.2.mem ((c.tc : Thread Cert.KFfnfIdeal.nD Cert.KFfnfIdeal.τ).loc Cert.KFfnfIdeal.main_arg0) = m ((c.tc : Thread Cert.KFfnfIdeal.nD Cert.KFfnfIdeal.τ).loc Cert.KFfnfIdeal.main_arg0)
          ∧ r.2.mem ((c.tc : Thread Cert.KFfnfIdeal.nD Cert.KFfnfIdeal.τ).loc Cert.KFfnfIdeal.main_arg1) = m ((c.tc : Thread Cert.KFfnfIdeal.nD Cert.KFfnfIdeal.τ).loc Cert.KFfnfIdeal.main_arg1)
          ∧ r.2.mem ((c.tc : Thread Cert.KFfnfIdeal.nD Cert.KFfnfIdeal.τ).loc Cert.KFfnfIdeal.main_arg2) = m ((c.tc : Thread Cert.KFfnfIdeal.nD Cert.KFfnfIdeal.τ).loc Cert.KFfnfIdeal.main_arg2)
          ∧ r.2.mem ((c.tc : Thread Cert.KFfnfIdeal.nD Cert.KFfnfIdeal.τ).loc Cert.KFfnfIdeal.main_arg3) = m ((c.tc : Thread Cert.KFfnfIdeal.nD Cert.KFfnfIdeal.τ).loc Cert.KFfnfIdeal.main_arg3)
          ∧ r.2.mem ((c.tc : Thread Cert.KFfnfIdeal.nD Cert.KFfnfIdeal.τ).loc Cert.KFfnfIdeal.main_arg4) = m ((c.tc : Thread Cert.KFfnfIdeal.nD Cert.KFfnfIdeal.τ).loc Cert.KFfnfIdeal.main_arg4))
      ∧ θ_run (Cert.RFfnfIdeal.defs (F := Ideal)) (onTc (τ := Cert.RFfnfIdeal.τ) (Cert.RFfnfIdeal.main (F := Ideal))) ⟨m', fun _ => 0, g'⟩ (fun r => ∀ c : Dev Cert.RFfnfIdeal.nD,
          r.2.mem ((c.tc : Thread Cert.RFfnfIdeal.nD Cert.RFfnfIdeal.τ).loc Cert.RFfnfIdeal.main_v16) = v0 c
          ∧ r.2.mem ((c.tc : Thread Cert.RFfnfIdeal.nD Cert.RFfnfIdeal.τ).loc Cert.RFfnfIdeal.main_v17) = v1 c
          ∧ r.2.mem ((c.tc : Thread Cert.RFfnfIdeal.nD Cert.RFfnfIdeal.τ).loc Cert.RFfnfIdeal.main_v15) = v2 c
          ∧ r.2.mem ((c.tc : Thread Cert.RFfnfIdeal.nD Cert.RFfnfIdeal.τ).loc Cert.RFfnfIdeal.main_v30) = v3 c
          ∧ r.2.mem ((c.tc : Thread Cert.RFfnfIdeal.nD Cert.RFfnfIdeal.τ).loc Cert.RFfnfIdeal.main_arg0) = m' ((c.tc : Thread Cert.RFfnfIdeal.nD Cert.RFfnfIdeal.τ).loc Cert.RFfnfIdeal.main_arg0)
          ∧ r.2.mem ((c.tc : Thread Cert.RFfnfIdeal.nD Cert.RFfnfIdeal.τ).loc Cert.RFfnfIdeal.main_arg1) = m' ((c.tc : Thread Cert.RFfnfIdeal.nD Cert.RFfnfIdeal.τ).loc Cert.RFfnfIdeal.main_arg1)
          ∧ r.2.mem ((c.tc : Thread Cert.RFfnfIdeal.nD Cert.RFfnfIdeal.τ).loc Cert.RFfnfIdeal.main_arg2) = m' ((c.tc : Thread Cert.RFfnfIdeal.nD Cert.RFfnfIdeal.τ).loc Cert.RFfnfIdeal.main_arg2)
          ∧ r.2.mem ((c.tc : Thread Cert.RFfnfIdeal.nD Cert.RFfnfIdeal.τ).loc Cert.RFfnfIdeal.main_arg3) = m' ((c.tc : Thread Cert.RFfnfIdeal.nD Cert.RFfnfIdeal.τ).loc Cert.RFfnfIdeal.main_arg3)
          ∧ r.2.mem ((c.tc : Thread Cert.RFfnfIdeal.nD Cert.RFfnfIdeal.τ).loc Cert.RFfnfIdeal.main_arg4) = m' ((c.tc : Thread Cert.RFfnfIdeal.nD Cert.RFfnfIdeal.τ).loc Cert.RFfnfIdeal.main_arg4))

def preserves_KInprojf_KInprojfIdeal : Prop :=
  True

def algebraic_KInprojfIdeal_RInprojfIdeal [hKInprojfIdeal : Cert.KInprojfIdeal.Facts] [hRInprojfIdeal : Cert.RInprojfIdeal.Facts] : Prop :=
  ∀ (m : (ℓ : Loc Cert.KInprojfIdeal.nD Cert.KInprojfIdeal.τ Cert.KInprojfIdeal.sig) → Buf (Elt Ideal) ℓ) (g : Dev Cert.KInprojfIdeal.nD → PrngReg)
    (m' : (ℓ : Loc Cert.RInprojfIdeal.nD Cert.RInprojfIdeal.τ Cert.RInprojfIdeal.sig) → Buf (Elt Ideal) ℓ) (g' : Dev Cert.RInprojfIdeal.nD → PrngReg), Pre_KInprojfIdeal m →
    (∀ c : Dev Cert.KInprojfIdeal.nD,
      m' ((c.tc : Thread Cert.RInprojfIdeal.nD Cert.RInprojfIdeal.τ).loc Cert.RInprojfIdeal.main_arg0) = m ((c.tc : Thread Cert.KInprojfIdeal.nD Cert.KInprojfIdeal.τ).loc Cert.KInprojfIdeal.main_arg0)
      ∧ m' ((c.tc : Thread Cert.RInprojfIdeal.nD Cert.RInprojfIdeal.τ).loc Cert.RInprojfIdeal.main_arg1) = m ((c.tc : Thread Cert.KInprojfIdeal.nD Cert.KInprojfIdeal.τ).loc Cert.KInprojfIdeal.main_arg1)
      ∧ m' ((c.tc : Thread Cert.RInprojfIdeal.nD Cert.RInprojfIdeal.τ).loc Cert.RInprojfIdeal.main_arg2) = m ((c.tc : Thread Cert.KInprojfIdeal.nD Cert.KInprojfIdeal.τ).loc Cert.KInprojfIdeal.main_arg2)) →
    ∃ (v0 : (c : Dev Cert.KInprojfIdeal.nD) → Buf (Elt Ideal) ((c.tc : Thread Cert.KInprojfIdeal.nD Cert.KInprojfIdeal.τ).loc Cert.KInprojfIdeal.main_v7_0)) (v1 : (c : Dev Cert.KInprojfIdeal.nD) → Buf (Elt Ideal) ((c.tc : Thread Cert.KInprojfIdeal.nD Cert.KInprojfIdeal.τ).loc Cert.KInprojfIdeal.main_v7_1)) (v2 : (c : Dev Cert.KInprojfIdeal.nD) → Buf (Elt Ideal) ((c.tc : Thread Cert.KInprojfIdeal.nD Cert.KInprojfIdeal.τ).loc Cert.KInprojfIdeal.main_v7_2)) (v3 : (c : Dev Cert.KInprojfIdeal.nD) → Buf (Elt Ideal) ((c.tc : Thread Cert.KInprojfIdeal.nD Cert.KInprojfIdeal.τ).loc Cert.KInprojfIdeal.main_v7_3)) (v4 : (c : Dev Cert.KInprojfIdeal.nD) → Buf (Elt Ideal) ((c.tc : Thread Cert.KInprojfIdeal.nD Cert.KInprojfIdeal.τ).loc Cert.KInprojfIdeal.main_v7_4)) (v5 : (c : Dev Cert.KInprojfIdeal.nD) → Buf (Elt Ideal) ((c.tc : Thread Cert.KInprojfIdeal.nD Cert.KInprojfIdeal.τ).loc Cert.KInprojfIdeal.main_v7_5)),
      θ_run (Cert.KInprojfIdeal.defs (F := Ideal)) (onTc (τ := Cert.KInprojfIdeal.τ) (Cert.KInprojfIdeal.main (F := Ideal))) ⟨m, fun _ => 0, g⟩ (fun r => ∀ c : Dev Cert.KInprojfIdeal.nD,
          r.2.mem ((c.tc : Thread Cert.KInprojfIdeal.nD Cert.KInprojfIdeal.τ).loc Cert.KInprojfIdeal.main_v7_0) = v0 c
          ∧ r.2.mem ((c.tc : Thread Cert.KInprojfIdeal.nD Cert.KInprojfIdeal.τ).loc Cert.KInprojfIdeal.main_v7_1) = v1 c
          ∧ r.2.mem ((c.tc : Thread Cert.KInprojfIdeal.nD Cert.KInprojfIdeal.τ).loc Cert.KInprojfIdeal.main_v7_2) = v2 c
          ∧ r.2.mem ((c.tc : Thread Cert.KInprojfIdeal.nD Cert.KInprojfIdeal.τ).loc Cert.KInprojfIdeal.main_v7_3) = v3 c
          ∧ r.2.mem ((c.tc : Thread Cert.KInprojfIdeal.nD Cert.KInprojfIdeal.τ).loc Cert.KInprojfIdeal.main_v7_4) = v4 c
          ∧ r.2.mem ((c.tc : Thread Cert.KInprojfIdeal.nD Cert.KInprojfIdeal.τ).loc Cert.KInprojfIdeal.main_v7_5) = v5 c
          ∧ r.2.mem ((c.tc : Thread Cert.KInprojfIdeal.nD Cert.KInprojfIdeal.τ).loc Cert.KInprojfIdeal.main_arg0) = m ((c.tc : Thread Cert.KInprojfIdeal.nD Cert.KInprojfIdeal.τ).loc Cert.KInprojfIdeal.main_arg0)
          ∧ r.2.mem ((c.tc : Thread Cert.KInprojfIdeal.nD Cert.KInprojfIdeal.τ).loc Cert.KInprojfIdeal.main_arg1) = m ((c.tc : Thread Cert.KInprojfIdeal.nD Cert.KInprojfIdeal.τ).loc Cert.KInprojfIdeal.main_arg1)
          ∧ r.2.mem ((c.tc : Thread Cert.KInprojfIdeal.nD Cert.KInprojfIdeal.τ).loc Cert.KInprojfIdeal.main_arg2) = m ((c.tc : Thread Cert.KInprojfIdeal.nD Cert.KInprojfIdeal.τ).loc Cert.KInprojfIdeal.main_arg2))
      ∧ θ_run (Cert.RInprojfIdeal.defs (F := Ideal)) (onTc (τ := Cert.RInprojfIdeal.τ) (Cert.RInprojfIdeal.main (F := Ideal))) ⟨m', fun _ => 0, g'⟩ (fun r => ∀ c : Dev Cert.RInprojfIdeal.nD,
          r.2.mem ((c.tc : Thread Cert.RInprojfIdeal.nD Cert.RInprojfIdeal.τ).loc Cert.RInprojfIdeal.main_v23) = v0 c
          ∧ r.2.mem ((c.tc : Thread Cert.RInprojfIdeal.nD Cert.RInprojfIdeal.τ).loc Cert.RInprojfIdeal.main_v26) = v1 c
          ∧ r.2.mem ((c.tc : Thread Cert.RInprojfIdeal.nD Cert.RInprojfIdeal.τ).loc Cert.RInprojfIdeal.main_v28) = v2 c
          ∧ r.2.mem ((c.tc : Thread Cert.RInprojfIdeal.nD Cert.RInprojfIdeal.τ).loc Cert.RInprojfIdeal.main_v29) = v3 c
          ∧ r.2.mem ((c.tc : Thread Cert.RInprojfIdeal.nD Cert.RInprojfIdeal.τ).loc Cert.RInprojfIdeal.main_v21) = v4 c
          ∧ r.2.mem ((c.tc : Thread Cert.RInprojfIdeal.nD Cert.RInprojfIdeal.τ).loc Cert.RInprojfIdeal.main_v30) = v5 c
          ∧ r.2.mem ((c.tc : Thread Cert.RInprojfIdeal.nD Cert.RInprojfIdeal.τ).loc Cert.RInprojfIdeal.main_arg0) = m' ((c.tc : Thread Cert.RInprojfIdeal.nD Cert.RInprojfIdeal.τ).loc Cert.RInprojfIdeal.main_arg0)
          ∧ r.2.mem ((c.tc : Thread Cert.RInprojfIdeal.nD Cert.RInprojfIdeal.τ).loc Cert.RInprojfIdeal.main_arg1) = m' ((c.tc : Thread Cert.RInprojfIdeal.nD Cert.RInprojfIdeal.τ).loc Cert.RInprojfIdeal.main_arg1)
          ∧ r.2.mem ((c.tc : Thread Cert.RInprojfIdeal.nD Cert.RInprojfIdeal.τ).loc Cert.RInprojfIdeal.main_arg2) = m' ((c.tc : Thread Cert.RInprojfIdeal.nD Cert.RInprojfIdeal.τ).loc Cert.RInprojfIdeal.main_arg2))

def Claim : Prop :=
  ∃ (hKPle : Cert.KPle.Facts) (hKPleIdeal : Cert.KPleIdeal.Facts) (hRPleIdeal : Cert.RPleIdeal.Facts) (hKFfn : Cert.KFfn.Facts) (hKFfnIdeal : Cert.KFfnIdeal.Facts) (hRFfnIdeal : Cert.RFfnIdeal.Facts) (hKInproj : Cert.KInproj.Facts) (hKInprojIdeal : Cert.KInprojIdeal.Facts) (hRInprojIdeal : Cert.RInprojIdeal.Facts) (hKFgate : Cert.KFgate.Facts) (hKFgateIdeal : Cert.KFgateIdeal.Facts) (hRFgateIdeal : Cert.RFgateIdeal.Facts) (hKMix : Cert.KMix.Facts) (hKMixIdeal : Cert.KMixIdeal.Facts) (hRMixIdeal : Cert.RMixIdeal.Facts) (hKAttn : Cert.KAttn.Facts) (hKAttnIdeal : Cert.KAttnIdeal.Facts) (hRAttnIdeal : Cert.RAttnIdeal.Facts) (hKFfnf : Cert.KFfnf.Facts) (hKFfnfIdeal : Cert.KFfnfIdeal.Facts) (hRFfnfIdeal : Cert.RFfnfIdeal.Facts) (hKInprojf : Cert.KInprojf.Facts) (hKInprojfIdeal : Cert.KInprojfIdeal.Facts) (hRInprojfIdeal : Cert.RInprojfIdeal.Facts) (hPre_finite_attn : Cert.Pre_finite_attn.Facts),
    quiescent_KPle (hKPle := hKPle)
    ∧ quiescent_KPleIdeal (hKPleIdeal := hKPleIdeal)
    ∧ quiescent_RPleIdeal (hRPleIdeal := hRPleIdeal)
    ∧ quiescent_KFfn (hKFfn := hKFfn)
    ∧ quiescent_KFfnIdeal (hKFfnIdeal := hKFfnIdeal)
    ∧ quiescent_RFfnIdeal (hRFfnIdeal := hRFfnIdeal)
    ∧ quiescent_KInproj (hKInproj := hKInproj)
    ∧ quiescent_KInprojIdeal (hKInprojIdeal := hKInprojIdeal)
    ∧ quiescent_RInprojIdeal (hRInprojIdeal := hRInprojIdeal)
    ∧ quiescent_KFgate (hKFgate := hKFgate)
    ∧ quiescent_KFgateIdeal (hKFgateIdeal := hKFgateIdeal)
    ∧ quiescent_RFgateIdeal (hRFgateIdeal := hRFgateIdeal)
    ∧ quiescent_KMix (hKMix := hKMix)
    ∧ quiescent_KMixIdeal (hKMixIdeal := hKMixIdeal)
    ∧ quiescent_RMixIdeal (hRMixIdeal := hRMixIdeal)
    ∧ quiescent_KAttn (hKAttn := hKAttn)
    ∧ quiescent_KAttnIdeal (hKAttnIdeal := hKAttnIdeal)
    ∧ quiescent_KAttnIdeal_pre_finite_attn (hKAttnIdeal := hKAttnIdeal) (hPre_finite_attn := hPre_finite_attn)
    ∧ quiescent_RAttnIdeal (hRAttnIdeal := hRAttnIdeal)
    ∧ quiescent_RAttnIdeal_pre_finite_attn (hRAttnIdeal := hRAttnIdeal) (hPre_finite_attn := hPre_finite_attn)
    ∧ quiescent_KFfnf (hKFfnf := hKFfnf)
    ∧ quiescent_KFfnfIdeal (hKFfnfIdeal := hKFfnfIdeal)
    ∧ quiescent_RFfnfIdeal (hRFfnfIdeal := hRFfnfIdeal)
    ∧ quiescent_KInprojf (hKInprojf := hKInprojf)
    ∧ quiescent_KInprojfIdeal (hKInprojfIdeal := hKInprojfIdeal)
    ∧ quiescent_RInprojfIdeal (hRInprojfIdeal := hRInprojfIdeal)
    ∧ preserves_KPle_KPleIdeal
    ∧ algebraic_KPleIdeal_RPleIdeal (hKPleIdeal := hKPleIdeal) (hRPleIdeal := hRPleIdeal)
    ∧ preserves_KFfn_KFfnIdeal
    ∧ algebraic_KFfnIdeal_RFfnIdeal (hKFfnIdeal := hKFfnIdeal) (hRFfnIdeal := hRFfnIdeal)
    ∧ preserves_KInproj_KInprojIdeal
    ∧ algebraic_KInprojIdeal_RInprojIdeal (hKInprojIdeal := hKInprojIdeal) (hRInprojIdeal := hRInprojIdeal)
    ∧ preserves_KFgate_KFgateIdeal
    ∧ algebraic_KFgateIdeal_RFgateIdeal (hKFgateIdeal := hKFgateIdeal) (hRFgateIdeal := hRFgateIdeal)
    ∧ preserves_KMix_KMixIdeal
    ∧ algebraic_KMixIdeal_RMixIdeal (hKMixIdeal := hKMixIdeal) (hRMixIdeal := hRMixIdeal)
    ∧ preserves_KAttn_KAttnIdeal
    ∧ algebraic_KAttnIdeal_RAttnIdeal_pre_finite_attn (hKAttnIdeal := hKAttnIdeal) (hRAttnIdeal := hRAttnIdeal) (hPre_finite_attn := hPre_finite_attn)
    ∧ preserves_KFfnf_KFfnfIdeal
    ∧ algebraic_KFfnfIdeal_RFfnfIdeal (hKFfnfIdeal := hKFfnfIdeal) (hRFfnfIdeal := hRFfnfIdeal)
    ∧ preserves_KInprojf_KInprojfIdeal
    ∧ algebraic_KInprojfIdeal_RInprojfIdeal (hKInprojfIdeal := hKInprojfIdeal) (hRInprojfIdeal := hRInprojfIdeal)
-- ==== Pre_finite_attn.lean ====
abbrev S8192x512 : Shape := ⟨2, ![8192, 512]⟩
abbrev S8192x8 : Shape := ⟨2, ![8192, 8]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8 : S_.BroadcastsInDim S8192x8 (![] : Fin 0 → Fin S8192x8.rank)
  reducesTo_S8192x8_S_d0_1 : S8192x8.ReducesTo [0, 1] S_

variable [Facts]

def fn_part1 {F : FTy → Type} [FloatOps F] (main_arg4 : FVec F S8192x512 .f32) (main_v13 : IVec S_ 1) (main_v16 : IVec S8192x8 1) : IVec S_ 1 :=
  let main_c_5 : IVec S_ 1 := constantI S_ 1 1#1
  let main_v17 : IVec S_ 1 := (fun x v => Host.reduce IntOp.andi x v reducesTo_S8192x8_S_d0_1 h_S_) main_v16 main_c_5
  let main_v18 : IVec S_ 1 := andi main_v13 main_v17
  let main_v19 : FVec F S8192x512 .f32 := Host.absf main_arg4
  let main_cst_6 : FVec F S_ .f32 := constant S_ .f32 0x7F800000#32
  let main_v20 : FVec F S8192x512 .f32 := broadcastInDim S8192x512 ![] bcast_S_S8192x512 main_cst_6
  let main_v21 : IVec S8192x512 1 := cmpf .olt main_v19 main_v20
  let main_c_7 : IVec S_ 1 := constantI S_ 1 1#1
  let main_v22 : IVec S_ 1 := (fun x v => Host.reduce IntOp.andi x v reducesTo_S8192x512_S_d0_1 h_S_) main_v21 main_c_7
  let main_v23 : IVec S_ 1 := andi main_v18 main_v22
  main_v23

def fn {F : FTy → Type} [FloatOps F] (main_arg0 : FVec F S8192x512 .f32) (main_arg1 : FVec F S8192x512 .f32) (main_arg2 : FVec F S8192x512 .f32) (main_arg3 : FVec F S8192x8 .f32) (main_arg4 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S8192x8 .f32 := Host.absf main_arg3
  let main_cst_4 : FVec F S_ .f32 := constant S_ .f32 0x7F800000#32
  let main_v15 : FVec F S8192x8 .f32 := broadcastInDim S8192x8 ![] bcast_S_S8192x8 main_cst_4
  let main_v16 : IVec S8192x8 1 := cmpf .olt main_v14 main_v15
  fn_part1 (F := F) main_arg4 main_v13 main_v16
-- ==== KPle.lean ====
abbrev S8192x1024 : Shape := ⟨2, ![8192, 1024]⟩
abbrev S8192x256 : Shape := ⟨2, ![8192, 256]⟩
abbrev S1024x1024 : Shape := ⟨2, ![1024, 1024]⟩
abbrev S1x1024 : Shape := ⟨2, ![1, 1024]⟩
abbrev S256x1024 : Shape := ⟨2, ![256, 1024]⟩
abbrev S8x128 : Shape := ⟨2, ![8, 128]⟩
abbrev S512x1024 : Shape := ⟨2, ![512, 1024]⟩
abbrev S512x256 : Shape := ⟨2, ![512, 256]⟩
abbrev S1x512x1024 : Shape := ⟨3, ![1, 512, 1024]⟩
abbrev S1 : Shape := ⟨1, ![1]⟩
abbrev S1x1x1 : Shape := ⟨3, ![1, 1, 1]⟩
abbrev S1024 : Shape := ⟨1, ![1024]⟩
abbrev S1024x512 : Shape := ⟨2, ![1024, 512]⟩
abbrev S256x512 : Shape := ⟨2, ![256, 512]⟩

abbrev nBuf : Space → Nat
  | .hbm => 13
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x1024, .f32⟩
  | .hbm, ⟨3, _⟩ => ⟨S1024x1024, .f32⟩
  | .hbm, ⟨4, _⟩ => ⟨S1x1024, .f32⟩
  | .hbm, ⟨5, _⟩ => ⟨S256x1024, .f32⟩
  | .hbm, ⟨6, _⟩ => ⟨S1024x1024, .bf16⟩
  | .hbm, ⟨7, _⟩ => ⟨S256x1024, .bf16⟩
  | .hbm, ⟨8, _⟩ => ⟨S8192x1024, .f32⟩
  | .hbm, ⟨9, _⟩ => ⟨S1x1024, .f32⟩
  | .hbm, ⟨10, _⟩ => ⟨S8x128, .f32⟩
  | .hbm, ⟨11, _⟩ => ⟨S1024x1024, .f32⟩
  | .hbm, ⟨12, _⟩ => ⟨S256x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1024, .f32⟩
  | .local _ .vmem, ⟨8, _⟩ => ⟨S256x1024, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S8x128, .f32⟩
  | .local _ .vmem, ⟨13, _⟩ => ⟨S1024x1024, .f32⟩
  | .local _ .vmem, ⟨14, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem10_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== RPleIdeal.lean ====
abbrev S8192x1024 : Shape := ⟨2, ![8192, 1024]⟩
abbrev S8192x256 : Shape := ⟨2, ![8192, 256]⟩
abbrev S1024x1024 : Shape := ⟨2, ![1024, 1024]⟩
abbrev S1x1024 : Shape := ⟨2, ![1, 1024]⟩
abbrev S256x1024 : Shape := ⟨2, ![256, 1024]⟩
abbrev S_ : Shape := ⟨0, ![]⟩
abbrev S8192 : Shape := ⟨1, ![8192]⟩
abbrev S1024x256 : Shape := ⟨2, ![1024, 256]⟩
abbrev S1024 : Shape := ⟨1, ![1024]⟩
abbrev S8x128 : Shape := ⟨2, ![8, 128]⟩

abbrev nBuf : Space → Nat
  | .hbm => 62
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x1024, .f32⟩
  | .hbm, ⟨3, _⟩ => ⟨S1024x1024, .f32⟩
  | .hbm, ⟨4, _⟩ => ⟨S1x1024, .f32⟩
  | .hbm, ⟨5, _⟩ => ⟨S256x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S1024x256, .f32⟩
  | .hbm, ⟨50, _⟩ => ⟨S256x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S1024x1024, .f32⟩
  | .hbm, ⟨56, _⟩ => ⟨S1024x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S_, .f32⟩
  | .hbm, ⟨61, _⟩ => ⟨S8x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_cst_7 : Ref sig .tc := ⟨.hbm, 38, rfl⟩
abbrev main_cst_8 : Ref sig .tc := ⟨.hbm, 39, rfl⟩
abbrev main_v24 : Ref sig .tc := ⟨.hbm, 40, rfl⟩
abbrev main_v25 : Ref sig .tc := ⟨.hbm, 41, rfl⟩
abbrev main_cst_9 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_10 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_11 : Ref sig .tc := ⟨.hbm, 59, rfl⟩
abbrev main_v41 : Ref sig .tc := ⟨.hbm, 60, rfl⟩
abbrev main_v42 : Ref sig .tc := ⟨.hbm, 61, rfl⟩

abbrev nD : Nat := 1
abbrev τ : Topo := Topo.v7x

variable {F : FTy → Type} [FloatOps F]
-- ==== KFfn.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S1024x8x512 : Shape := ⟨3, ![1024, 8, 512]⟩
abbrev S8x1024x512 : Shape := ⟨3, ![8, 1024, 512]⟩
abbrev S8x512x1024 : Shape := ⟨3, ![8, 512, 1024]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1024 : Shape := ⟨1, ![1024]⟩
abbrev S1x512x1024 : Shape := ⟨3, ![1, 512, 1024]⟩
abbrev S512x512 : Shape := ⟨2, ![512, 512]⟩
abbrev S1x1024x512 : Shape := ⟨3, ![1, 1024, 512]⟩
abbrev S1024x512 : Shape := ⟨2, ![1024, 512]⟩

abbrev nBuf : Space → Nat
  | .hbm => 38
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024x4096, .f32⟩
  | .hbm, ⟨4, _⟩ => ⟨S4096x1024, .f32⟩
  | .hbm, ⟨5, _⟩ => ⟨S1x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x4096, .f32⟩
  | .hbm, ⟨22, _⟩ => ⟨S_, .f32⟩
  | .hbm, ⟨23, _⟩ => ⟨S8192x4096, .f32⟩
  | .hbm, ⟨24, _⟩ => ⟨S8192x4096, .f32⟩
  | .hbm, ⟨25, _⟩ => ⟨S8192x4096, .f32⟩
  | .hbm, ⟨26, _⟩ => ⟨S8192x1024, .f32⟩
  | .hbm, ⟨27, _⟩ => ⟨S1024x4096, .bf16⟩
  | .hbm, ⟨28, _⟩ => ⟨S1024x8x512, .bf16⟩
  | .hbm, ⟨29, _⟩ => ⟨S8x1024x512, .bf16⟩
  | .hbm, ⟨30, _⟩ => ⟨S4096x1024, .bf16⟩
  | .hbm, ⟨31, _⟩ => ⟨S8x512x1024, .bf16⟩
  | .hbm, ⟨32, _⟩ => ⟨S8192x4096, .bf16⟩
  | .hbm, ⟨33, _⟩ => ⟨S8192x1024, .bf16⟩
  | .hbm, ⟨34, _⟩ => ⟨S8192x4096, .bf16⟩
  | .hbm, ⟨35, _⟩ => ⟨S8192x1024, .f32⟩
  | .hbm, ⟨36, _⟩ => ⟨S1x1024, .f32⟩
  | .hbm, ⟨37, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x4096, .bf16⟩
  | .local _ .vmem, ⟨7, _⟩ => ⟨S512x4096, .bf16⟩
  | .local _ .vmem, ⟨8, _⟩ => ⟨S8x1024x512, .bf16⟩
  | .local _ .vmem, ⟨9, _⟩ => ⟨S8x512x1024, .bf16⟩
  | .local _ .vmem, ⟨10, _⟩ => ⟨S1x1024, .f32⟩
  | .local _ .vmem, ⟨11, _⟩ => ⟨S1x1024, .f32⟩
  | .local _ .vmem, ⟨12, _⟩ => ⟨S512x1024, .bf16⟩
  | .local _ .vmem, ⟨13, _⟩ => ⟨S512x1024, .bf16⟩
  | .local _ .vmem, ⟨14, _⟩ => ⟨S512x4096, .bf16⟩
  | .local _ .vmem, ⟨15, _⟩ => ⟨S512x4096, .bf16⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | .local _ .vmem, ⟨19, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_cst : Ref sig .tc := ⟨.hbm, 22, rfl⟩
abbrev main_call0_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22_0 : Ref sig .tc := ⟨.hbm, 33, rfl⟩
abbrev main_v22_1 : Ref sig .tc := ⟨.hbm, 34, rfl⟩
abbrev main_v22_2 : Ref sig .tc := ⟨.hbm, 35, rfl⟩
abbrev main_v22_3 : Ref sig .tc := ⟨.hbm, 36, rfl⟩
abbrev main_v22_4 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== RFfnIdeal.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S1024 : Shape := ⟨1, ![1024]⟩

abbrev nBuf : Space → Nat
  | .hbm => 115
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024x4096, .f32⟩
  | .hbm, ⟨4, _⟩ => ⟨S4096x1024, .f32⟩
  | .hbm, ⟨5, _⟩ => ⟨S1x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x4096, .f32⟩
  | .hbm, ⟨26, _⟩ => ⟨S_, .f32⟩
  | .hbm, ⟨27, _⟩ => ⟨S8192x4096, .f32⟩
  | .hbm, ⟨28, _⟩ => ⟨S8192x4096, .f32⟩
  | .hbm, ⟨29, _⟩ => ⟨S_, .f32⟩
  | .hbm, ⟨30, _⟩ => ⟨S8192x4096, .f32⟩
  | .hbm, ⟨31, _⟩ => ⟨S8192x4096, .i1⟩
  | .hbm, ⟨32, _⟩ => ⟨S_, .f32⟩
  | .hbm, ⟨33, _⟩ => ⟨S8192x4096, .f32⟩
  | .hbm, ⟨34, _⟩ => ⟨S8192x4096, .f32⟩
  | .hbm, ⟨35, _⟩ => ⟨S_, .f32⟩
  | .hbm, ⟨36, _⟩ => ⟨S8192x4096, .f32⟩
  | .hbm, ⟨37, _⟩ => ⟨S8192x4096, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S_, .f32⟩
  | .hbm, ⟨68, _⟩ => ⟨S8192, .f32⟩
  | .hbm, ⟨69, _⟩ => ⟨S8192x1, .f32⟩
  | .hbm, ⟨70, _⟩ => ⟨S8192x1024, .f32⟩
  | .hbm, ⟨71, _⟩ => ⟨S8192x1024, .f32⟩
  | .hbm, ⟨72, _⟩ => ⟨S8192x1, .f32⟩
  | .hbm, ⟨73, _⟩ => ⟨S_, .f32⟩
  | .hbm, ⟨74, _⟩ => ⟨S8192x1, .f32⟩
  | .hbm, ⟨75, _⟩ => ⟨S8192x1, .f32⟩
  | .hbm, ⟨76, _⟩ => ⟨S_, .f32⟩
  | .hbm, ⟨77, _⟩ => ⟨S8192, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S8192x4096, .f32⟩
  | .hbm, ⟨84, _⟩ => ⟨S8192x4096, .f32⟩
  | .hbm, ⟨85, _⟩ => ⟨S_, .f32⟩
  | .hbm, ⟨86, _⟩ => ⟨S8192x4096, .f32⟩
  | .hbm, ⟨87, _⟩ => ⟨S8192x4096, .f32⟩
  | .hbm, ⟨88, _⟩ => ⟨S8192x1024, .f32⟩
  | .hbm, ⟨89, _⟩ => ⟨S8192x1024, .f32⟩
  | .hbm, ⟨90, _⟩ => ⟨S_, .f32⟩
  | .hbm, ⟨91, _⟩ => ⟨S1024, .f32⟩
  | .hbm, ⟨92, _⟩ => ⟨S1x1024, .f32⟩
  | .hbm, ⟨93, _⟩ => ⟨S8192x1024, .f32⟩
  | .hbm, ⟨94, _⟩ => ⟨S8192x1024, .f32⟩
  | .hbm, ⟨95, _⟩ => ⟨S8192x1024, .f32⟩
  | .hbm, ⟨96, _⟩ => ⟨S_, .f32⟩
  | .hbm, ⟨97, _⟩ => ⟨S8192, .f32⟩
  | .hbm, ⟨98, _⟩ => ⟨S8192x1, .f32⟩
  | .hbm, ⟨99, _⟩ => ⟨S8192x1024, .f32⟩
  | .hbm, ⟨100, _⟩ => ⟨S8192x1024, .f32⟩
  | .hbm, ⟨101, _⟩ => ⟨S8192x1, .f32⟩
  | .hbm, ⟨102, _⟩ => ⟨S_, .f32⟩
  | .hbm, ⟨103, _⟩ => ⟨S8192x1, .f32⟩
  | .hbm, ⟨104, _⟩ => ⟨S8192x1, .f32⟩
  | .hbm, ⟨105, _⟩ => ⟨S_, .f32⟩
  | .hbm, ⟨106, _⟩ => ⟨S8192, .f32⟩
  | .hbm, ⟨107, _⟩ => ⟨S8192x1024, .f32⟩
  | .hbm, ⟨108, _⟩ => ⟨S8192x1024, .f32⟩
  | .hbm, ⟨109, _⟩ => ⟨S8192x1024, .f32⟩
  | .hbm, ⟨110, _⟩ => ⟨S8192x1024, .f32⟩
  | .hbm, ⟨111, _⟩ => ⟨S8192x1024, .f32⟩
  | .hbm, ⟨112, _⟩ => ⟨S8192x1024, .bf16⟩
  | .hbm, ⟨113, _⟩ => ⟨S8192x4096, .bf16⟩
  | .hbm, ⟨114, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_cst : Ref sig .tc := ⟨.hbm, 26, rfl⟩
abbrev main_call0_v0 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_9 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_10 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_11 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_12 : Ref sig .tc := ⟨.hbm, 73, rfl⟩
abbrev main_v52 : Ref sig .tc := ⟨.hbm, 74, rfl⟩
abbrev main_v53 : Ref sig .tc := ⟨.hbm, 75, rfl⟩
abbrev main_cst_13 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_14 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_15 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_16 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_17 : Ref sig .tc := ⟨.hbm, 102, rfl⟩
abbrev main_v76 : Ref sig .tc := ⟨.hbm, 103, rfl⟩
abbrev main_v77 : Ref sig .tc := ⟨.hbm, 104, rfl⟩
abbrev main_cst_18 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩

abbrev nD : Nat := 1
abbrev τ : Topo := Topo.v7x

variable {F : FTy → Type} [FloatOps F]
-- ==== KInproj.lean ====
abbrev S8192x512 : Shape := ⟨2, ![8192, 512]⟩
abbrev S8192x8 : Shape := ⟨2, ![8192, 8]⟩
abbrev S8192x1024 : Shape := ⟨2, ![8192, 1024]⟩
abbrev S1x1024 : Shape := ⟨2, ![1, 1024]⟩
abbrev S1024x2568 : Shape := ⟨2, ![1024, 2568]⟩
abbrev S8x512x1024 : Shape := ⟨3, ![8, 512, 1024]⟩
abbrev S512x1024 : Shape := ⟨2, ![512, 1024]⟩
abbrev S2568x1024 : Shape := ⟨2, ![2568, 1024]⟩
abbrev S1536x1024 : Shape := ⟨2, ![1536, 1024]⟩
abbrev S1024x1024 : Shape := ⟨2, ![1024, 1024]⟩
abbrev S8x1024 : Shape := ⟨2, ![8, 1024]⟩
abbrev S_ : Shape := ⟨0, ![]⟩
abbrev S120x1024 : Shape := ⟨2, ![120, 1024]⟩
abbrev S2688x1024 : Shape := ⟨2, ![2688, 1024]⟩
abbrev S8192x128 : Shape := ⟨2, ![8192, 128]⟩
abbrev S512x8192 : Shape := ⟨2, ![512, 8192]⟩
abbrev S512x512 : Shape := ⟨2, ![512, 512]⟩
abbrev S512x128 : Shape := ⟨2, ![512, 128]⟩
abbrev S8x32x1024 : Shape := ⟨3, ![8, 32, 1024]⟩
abbrev S32x1024 : Shape := ⟨2, ![32, 1024]⟩
abbrev S1x32x1024 : Shape := ⟨3, ![1, 32, 1024]⟩
abbrev S128x1024 : Shape := ⟨2, ![128, 1024]⟩
abbrev S512 : Shape := ⟨1, ![512]⟩
abbrev S512x1 : Shape := ⟨2, ![512, 1]⟩
abbrev S1024 : Shape := ⟨1, ![1024]⟩

abbrev nBuf : Space → Nat
  | .hbm => 37
  | .vmem => 35
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x8, .f32⟩
  | .hbm, ⟨4, _⟩ => ⟨S8192x512, .f32⟩
  | .hbm, ⟨5, _⟩ => ⟨S8192x512, .f32⟩
  | .hbm, ⟨6, _⟩ => ⟨S8192x1024, .f32⟩
  | .hbm, ⟨7, _⟩ => ⟨S8192x1024, .f32⟩
  | .hbm, ⟨8, _⟩ => ⟨S1x1024, .f32⟩
  | .hbm, ⟨9, _⟩ => ⟨S1024x2568, .f32⟩
  | .hbm, ⟨10, _⟩ => ⟨S8x512x1024, .f32⟩
  | .hbm, ⟨11, _⟩ => ⟨S512x1024, .f32⟩
  | .hbm, ⟨12, _⟩ => ⟨S512x1024, .f32⟩
  | .hbm, ⟨13, _⟩ => ⟨S512x1024, .f32⟩
  | .hbm, ⟨14, _⟩ => ⟨S2568x1024, .f32⟩
  | .hbm, ⟨15, _⟩ => ⟨S2568x1024, .bf16⟩
  | .hbm, ⟨16, _⟩ => ⟨S1536x1024, .bf16⟩
  | .hbm, ⟨17, _⟩ => ⟨S1024x1024, .bf16⟩
  | .hbm, ⟨18, _⟩ => ⟨S8x1024, .bf16⟩
  | .hbm, ⟨19, _⟩ => ⟨S_, .bf16⟩
  | .hbm, ⟨20, _⟩ => ⟨S120x1024, .bf16⟩
  | .hbm, ⟨21, _⟩ => ⟨S2688x1024, .bf16⟩
  | .hbm, ⟨22, _⟩ => ⟨S8192x1024, .f32⟩
  | .hbm, ⟨23, _⟩ => ⟨S8192x1024, .bf16⟩
  | .hbm, ⟨24, _⟩ => ⟨S_, .i32⟩
  | .hbm, ⟨25, _⟩ => ⟨S_, .f32⟩
  | .hbm, ⟨26, _⟩ => ⟨S8192x128, .f32⟩
  | .hbm, ⟨27, _⟩ => ⟨S8192x128, .bf16⟩
  | .hbm, ⟨28, _⟩ => ⟨S512x8192, .f32⟩
  | .hbm, ⟨29, _⟩ => ⟨S8192x512, .bf16⟩
  | .hbm, ⟨30, _⟩ => ⟨S8192x512, .bf16⟩
  | .hbm, ⟨31, _⟩ => ⟨S8192x1024, .f32⟩
  | .hbm, ⟨32, _⟩ => ⟨S1x1024, .f32⟩
  | .hbm, ⟨33, _⟩ => ⟨S512x1024, .f32⟩
  | .hbm, ⟨34, _⟩ => ⟨S512x1024, .f32⟩
  | .hbm, ⟨35, _⟩ => ⟨S512x1024, .f32⟩
  | .hbm, ⟨36, _⟩ => ⟨S512x1024, .f32⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x128, .bf16⟩
  | .local _ .vmem, ⟨9, _⟩ => ⟨S512x128, .bf16⟩
  | .local _ .vmem, ⟨10, _⟩ => ⟨S2688x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S8x32x1024, .f32⟩
  | .local _ .vmem, ⟨17, _⟩ => ⟨S8x32x1024, .f32⟩
  | .local _ .vmem, ⟨18, _⟩ => ⟨S32x1024, .f32⟩
  | .local _ .vmem, ⟨19, _⟩ => ⟨S32x1024, .f32⟩
  | .local _ .vmem, ⟨20, _⟩ => ⟨S32x1024, .f32⟩
  | .local _ .vmem, ⟨21, _⟩ => ⟨S32x1024, .f32⟩
  | .local _ .vmem, ⟨22, _⟩ => ⟨S32x1024, .f32⟩
  | .local _ .vmem, ⟨23, _⟩ => ⟨S32x1024, .f32⟩
  | .local _ .vmem, ⟨24, _⟩ => ⟨S512x1024, .f32⟩
  | .local _ .vmem, ⟨25, _⟩ => ⟨S512x1024, .f32⟩
  | .local _ .vmem, ⟨26, _⟩ => ⟨S1x1024, .f32⟩
  | .local _ .vmem, ⟨27, _⟩ => ⟨S32x1024, .f32⟩
  | .local _ .vmem, ⟨28, _⟩ => ⟨S32x1024, .f32⟩
  | .local _ .vmem, ⟨29, _⟩ => ⟨S32x1024, .f32⟩
  | .local _ .vmem, ⟨30, _⟩ => ⟨S32x1024, .f32⟩
  | .local _ .vmem, ⟨31, _⟩ => ⟨S32x1024, .f32⟩
  | .local _ .vmem, ⟨32, _⟩ => ⟨S32x1024, .f32⟩
  | .local _ .vmem, ⟨33, _⟩ => ⟨S32x1024, .f32⟩
  | .local _ .vmem, ⟨34, _⟩ => ⟨S32x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c : Ref sig .tc := ⟨.hbm, 24, rfl⟩
abbrev main_call0_v0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14_0 : Ref sig .tc := ⟨.hbm, 31, rfl⟩
abbrev main_v14_1 : Ref sig .tc := ⟨.hbm, 32, rfl⟩
abbrev main_v14_2 : Ref sig .tc := ⟨.hbm, 33, rfl⟩
abbrev main_v14_3 : Ref sig .tc := ⟨.hbm, 34, rfl⟩
abbrev main_v14_4 : Ref sig .tc := ⟨.hbm, 35, rfl⟩
abbrev main_v14_5 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2688x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8x32x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S32x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S32x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S32x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S32x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S32x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== RInprojIdeal.lean ====
abbrev S8192x512 : Shape := ⟨2, ![8192, 512]⟩
abbrev S8192x8 : Shape := ⟨2, ![8192, 8]⟩
abbrev S8192x1024 : Shape := ⟨2, ![8192, 1024]⟩
abbrev S1x1024 : Shape := ⟨2, ![1, 1024]⟩
abbrev S1024x2568 : Shape := ⟨2, ![1024, 2568]⟩
abbrev S8x512x1024 : Shape := ⟨3, ![8, 512, 1024]⟩
abbrev S512x1024 : Shape := ⟨2, ![512, 1024]⟩
abbrev S_ : Shape := ⟨0, ![]⟩
abbrev S8192 : Shape := ⟨1, ![8192]⟩
abbrev S8192x1 : Shape := ⟨2, ![8192, 1]⟩
abbrev S8192x2568 : Shape := ⟨2, ![8192, 2568]⟩
abbrev S1024 : Shape := ⟨1, ![1024]⟩

abbrev nBuf : Space → Nat
  | .hbm => 101
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x8, .f32⟩
  | .hbm, ⟨4, _⟩ => ⟨S8192x512, .f32⟩
  | .hbm, ⟨5, _⟩ => ⟨S8192x512, .f32⟩
  | .hbm, ⟨6, _⟩ => ⟨S8192x1024, .f32⟩
  | .hbm, ⟨7, _⟩ => ⟨S8192x1024, .f32⟩
  | .hbm, ⟨8, _⟩ => ⟨S1x1024, .f32⟩
  | .hbm, ⟨9, _⟩ => ⟨S1024x2568, .f32⟩
  | .hbm, ⟨10, _⟩ => ⟨S8x512x1024, .f32⟩
  | .hbm, ⟨11, _⟩ => ⟨S512x1024, .f32⟩
  | .hbm, ⟨12, _⟩ => ⟨S512x1024, .f32⟩
  | .hbm, ⟨13, _⟩ => ⟨S512x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x2568, .f32⟩
  | .hbm, ⟨34, _⟩ => ⟨S8192x512, .f32⟩
  | .hbm, ⟨35, _⟩ => ⟨S8192x512, .f32⟩
  | .hbm, ⟨36, _⟩ => ⟨S8192x512, .f32⟩
  | .hbm, ⟨37, _⟩ => ⟨S8192x8, .f32⟩
  | .hbm, ⟨38, _⟩ => ⟨S8192x512, .f32⟩
  | .hbm, ⟨39, _⟩ => ⟨S8192x512, .f32⟩
  | .hbm, ⟨40, _⟩ => ⟨S8192x2568, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S_, .f32⟩
  | .hbm, ⟨60, _⟩ => ⟨S8192, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S512x1024, .f32⟩
  | .hbm, ⟨68, _⟩ => ⟨S_, .f32⟩
  | .hbm, ⟨69, _⟩ => ⟨S512x1024, .f32⟩
  | .hbm, ⟨70, _⟩ => ⟨S512x1024, .f32⟩
  | .hbm, ⟨71, _⟩ => ⟨S_, .f32⟩
  | .hbm, ⟨72, _⟩ => ⟨S512x1024, .f32⟩
  | .hbm, ⟨73, _⟩ => ⟨S512x1024, .f32⟩
  | .hbm, ⟨74, _⟩ => ⟨S512x1024, .f32⟩
  | .hbm, ⟨75, _⟩ => ⟨S_, .f32⟩
  | .hbm, ⟨76, _⟩ => ⟨S512x1024, .f32⟩
  | .hbm, ⟨77, _⟩ => ⟨S512x1024, .f32⟩
  | .hbm, ⟨78, _⟩ => ⟨S512x1024, .f32⟩
  | .hbm, ⟨79, _⟩ => ⟨S_, .f32⟩
  | .hbm, ⟨80, _⟩ => ⟨S512x1024, .f32⟩
  | .hbm, ⟨81, _⟩ => ⟨S512x1024, .f32⟩
  | .hbm, ⟨82, _⟩ => ⟨S512x1024, .f32⟩
  | .hbm, ⟨83, _⟩ => ⟨S_, .f32⟩
  | .hbm, ⟨84, _⟩ => ⟨S512x1024, .f32⟩
  | .hbm, ⟨85, _⟩ => ⟨S512x1024, .f32⟩
  | .hbm, ⟨86, _⟩ => ⟨S_, .f32⟩
  | .hbm, ⟨87, _⟩ => ⟨S512x1024, .f32⟩
  | .hbm, ⟨88, _⟩ => ⟨S512x1024, .f32⟩
  | .hbm, ⟨89, _⟩ => ⟨S512x1024, .f32⟩
  | .hbm, ⟨90, _⟩ => ⟨S_, .f32⟩
  | .hbm, ⟨91, _⟩ => ⟨S512x1024, .f32⟩
  | .hbm, ⟨92, _⟩ => ⟨S512x1024, .f32⟩
  | .hbm, ⟨93, _⟩ => ⟨S512x1024, .f32⟩
  | .hbm, ⟨94, _⟩ => ⟨S_, .f32⟩
  | .hbm, ⟨95, _⟩ => ⟨S512x1024, .f32⟩
  | .hbm, ⟨96, _⟩ => ⟨S512x1024, .f32⟩
  | .hbm, ⟨97, _⟩ => ⟨S512x1024, .f32⟩
  | .hbm, ⟨98, _⟩ => ⟨S_, .f32⟩
  | .hbm, ⟨99, _⟩ => ⟨S512x1024, .f32⟩
  | .hbm, ⟨100, _⟩ => ⟨S512x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_4 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_5 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_7 : Ref sig .tc := ⟨.hbm, 66, rfl⟩
abbrev main_v44 : Ref sig .tc := ⟨.hbm, 67, rfl⟩
abbrev main_cst_8 : Ref sig .tc := ⟨.hbm, 68, rfl⟩
abbrev main_v45 : Ref sig .tc := ⟨.hbm, 69, rfl⟩
abbrev main_v46 : Ref sig .tc := ⟨.hbm, 70, rfl⟩
abbrev main_cst_9 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_10 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_11 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_12 : Ref sig .tc := ⟨.hbm, 83, rfl⟩
abbrev main_v56 : Ref sig .tc := ⟨.hbm, 84, rfl⟩
abbrev main_v57 : Ref sig .tc := ⟨.hbm, 85, rfl⟩
abbrev main_cst_13 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_14 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_15 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_16 : Ref sig .tc := ⟨.hbm, 98, rfl⟩
abbrev main_v67 : Ref sig .tc := ⟨.hbm, 99, rfl⟩
abbrev main_v68 : Ref sig .tc := ⟨.hbm, 100, rfl⟩

abbrev nD : Nat := 1
abbrev τ : Topo := Topo.v7x

variable {F : FTy → Type} [FloatOps F]
-- ==== KFgate.lean ====
abbrev S8192x8 : Shape := ⟨2, ![8192, 8]⟩
abbrev S1x8 : Shape := ⟨2, ![1, 8]⟩
abbrev S_ : Shape := ⟨0, ![]⟩
abbrev S8192x128 : Shape := ⟨2, ![8192, 128]⟩
abbrev S1x128 : Shape := ⟨2, ![1, 128]⟩
abbrev S8x8192 : Shape := ⟨2, ![8, 8192]⟩
abbrev S8x2048 : Shape := ⟨2, ![8, 2048]⟩
abbrev S2048x128 : Shape := ⟨2, ![2048, 128]⟩
abbrev S8x128 : Shape := ⟨2, ![8, 128]⟩
abbrev S128x128 : Shape := ⟨2, ![128, 128]⟩
abbrev S128 : Shape := ⟨1, ![128]⟩

abbrev nBuf : Space → Nat
  | .hbm => 16
  | .vmem => 11
  | .smem => 0
  | _ => 0

abbrev bufTy : (tb : Table) → Fin (tcTables nBuf tb) → BufTy
  | .hbm, ⟨0, _⟩ => ⟨S8192x8, .f32⟩
  | .hbm, ⟨1, _⟩ => ⟨S8192x8, .f32⟩
  | .hbm, ⟨2, _⟩ => ⟨S8192x8, .f32⟩
  | .hbm, ⟨3, _⟩ => ⟨S1x8, .f32⟩
  | .hbm, ⟨4, _⟩ => ⟨S_, .i32⟩
  | .hbm, ⟨5, _⟩ => ⟨S_, .f32⟩
  | .hbm, ⟨6, _⟩ => ⟨S8192x128, .f32⟩
  | .hbm, ⟨7, _⟩ => ⟨S_, .i32⟩
  | .hbm, ⟨8, _⟩ => ⟨S_, .f32⟩
  | .hbm, ⟨9, _⟩ => ⟨S1x128, .f32⟩
  | .hbm, ⟨10, _⟩ => ⟨S8x8192, .f32⟩
  | .hbm, ⟨11, _⟩ => ⟨S_, .i32⟩
  | .hbm, ⟨12, _⟩ => ⟨S_, .f32⟩
  | .hbm, ⟨13, _⟩ => ⟨S8192x128, .f32⟩
  | .hbm, ⟨14, _⟩ => ⟨S8192x128, .bf16⟩
  | .hbm, ⟨15, _⟩ => ⟨S1x128, .f32⟩
  | .local _ .vmem, ⟨0, _⟩ => ⟨S8x2048, .f32⟩
  | .local _ .vmem, ⟨1, _⟩ => ⟨S8x2048, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S1x128, .f32⟩
  | .local _ .vmem, ⟨7, _⟩ => ⟨S2048x128, .bf16⟩
  | .local _ .vmem, ⟨8, _⟩ => ⟨S2048x128, .bf16⟩
  | .local _ .vmem, ⟨9, _⟩ => ⟨S1x128, .f32⟩
  | .local _ .vmem, ⟨10, _⟩ => ⟨S1x128, .f32⟩
  | _, _ => ⟨S8192x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_v2 : Ref sig .tc := ⟨.hbm, 10, rfl⟩
abbrev main_c_1 : Ref sig .tc := ⟨.hbm, 11, rfl⟩
abbrev main_call2_v0 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RFgateIdeal.lean ====
abbrev S8192x8 : Shape := ⟨2, ![8192, 8]⟩
abbrev S1x8 : Shape := ⟨2, ![1, 8]⟩
abbrev S_ : Shape := ⟨0, ![]⟩
abbrev S8 : Shape := ⟨1, ![8]⟩
abbrev S8192x128 : Shape := ⟨2, ![8192, 128]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S8192x8, .f32⟩
  | .hbm, ⟨1, _⟩ => ⟨S8192x8, .f32⟩
  | .hbm, ⟨2, _⟩ => ⟨S8192x8, .f32⟩
  | .hbm, ⟨3, _⟩ => ⟨S1x8, .f32⟩
  | .hbm, ⟨4, _⟩ => ⟨S8192x8, .f32⟩
  | .hbm, ⟨5, _⟩ => ⟨S8192x8, .f32⟩
  | .hbm, ⟨6, _⟩ => ⟨S8192x8, .f32⟩
  | .hbm, ⟨7, _⟩ => ⟨S_, .f32⟩
  | .hbm, ⟨8, _⟩ => ⟨S8192x8, .f32⟩
  | .hbm, ⟨9, _⟩ => ⟨S8192x8, .f32⟩
  | .hbm, ⟨10, _⟩ => ⟨S8192x8, .f32⟩
  | .hbm, ⟨11, _⟩ => ⟨S8192x8, .f32⟩
  | .hbm, ⟨12, _⟩ => ⟨S8192x8, .i1⟩
  | .hbm, ⟨13, _⟩ => ⟨S8192x8, .f32⟩
  | .hbm, ⟨14, _⟩ => ⟨S8192x8, .f32⟩
  | .hbm, ⟨15, _⟩ => ⟨S8192x8, .f32⟩
  | .hbm, ⟨16, _⟩ => ⟨S8192x8, .f32⟩
  | .hbm, ⟨17, _⟩ => ⟨S8192x8, .f32⟩
  | .hbm, ⟨18, _⟩ => ⟨S8192x8, .f32⟩
  | .hbm, ⟨19, _⟩ => ⟨S8192x8, .f32⟩
  | .hbm, ⟨20, _⟩ => ⟨S8192x8, .f32⟩
  | .hbm, ⟨21, _⟩ => ⟨S_, .f32⟩
  | .hbm, ⟨22, _⟩ => ⟨S8192x8, .f32⟩
  | .hbm, ⟨23, _⟩ => ⟨S8192x8, .i1⟩
  | .hbm, ⟨24, _⟩ => ⟨S_, .f32⟩
  | .hbm, ⟨25, _⟩ => ⟨S8192x8, .f32⟩
  | .hbm, ⟨26, _⟩ => ⟨S8192x8, .f32⟩
  | .hbm, ⟨27, _⟩ => ⟨S_, .f32⟩
  | .hbm, ⟨28, _⟩ => ⟨S8192x8, .f32⟩
  | .hbm, ⟨29, _⟩ => ⟨S8192x8, .i1⟩
  | .hbm, ⟨30, _⟩ => ⟨S_, .f32⟩
  | .hbm, ⟨31, _⟩ => ⟨S8192x8, .f32⟩
  | .hbm, ⟨32, _⟩ => ⟨S8192x8, .f32⟩
  | .hbm, ⟨33, _⟩ => ⟨S8192x8, .f32⟩
  | .hbm, ⟨34, _⟩ => ⟨S8192x8, .f32⟩
  | .hbm, ⟨35, _⟩ => ⟨S_, .f32⟩
  | .hbm, ⟨36, _⟩ => ⟨S_, .f32⟩
  | .hbm, ⟨37, _⟩ => ⟨S_, .i1⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S8192x8, .f32⟩
  | .hbm, ⟨43, _⟩ => ⟨S8192x8, .i1⟩
  | .hbm, ⟨44, _⟩ => ⟨S_, .f32⟩
  | .hbm, ⟨45, _⟩ => ⟨S8192x8, .f32⟩
  | .hbm, ⟨46, _⟩ => ⟨S8192x8, .f32⟩
  | .hbm, ⟨47, _⟩ => ⟨S8192x8, .f32⟩
  | .hbm, ⟨48, _⟩ => ⟨S8192x8, .f32⟩
  | .hbm, ⟨49, _⟩ => ⟨S8192x8, .f32⟩
  | .hbm, ⟨50, _⟩ => ⟨S_, .f32⟩
  | .hbm, ⟨51, _⟩ => ⟨S8192x8, .f32⟩
  | .hbm, ⟨52, _⟩ => ⟨S8192x8, .f32⟩
  | .hbm, ⟨53, _⟩ => ⟨S8192x8, .f32⟩
  | .hbm, ⟨54, _⟩ => ⟨S_, .f32⟩
  | .hbm, ⟨55, _⟩ => ⟨S_, .f32⟩
  | .hbm, ⟨56, _⟩ => ⟨S8192x8, .f32⟩
  | .hbm, ⟨57, _⟩ => ⟨S8192x8, .f32⟩
  | .hbm, ⟨58, _⟩ => ⟨S_, .f32⟩
  | .hbm, ⟨59, _⟩ => ⟨S_, .f32⟩
  | .hbm, ⟨60, _⟩ => ⟨S8192x8, .f32⟩
  | .hbm, ⟨61, _⟩ => ⟨S8192x8, .f32⟩
  | .hbm, ⟨62, _⟩ => ⟨S8192x8, .f32⟩
  | .hbm, ⟨63, _⟩ => ⟨S8192x8, .f32⟩
  | .hbm, ⟨64, _⟩ => ⟨S_, .f32⟩
  | .hbm, ⟨65, _⟩ => ⟨S8, .f32⟩
  | .hbm, ⟨66, _⟩ => ⟨S1x8, .f32⟩
  | .hbm, ⟨67, _⟩ => ⟨S_, .i32⟩
  | .hbm, ⟨68, _⟩ => ⟨S_, .f32⟩
  | .hbm, ⟨69, _⟩ => ⟨S8192x128, .f32⟩
  | .hbm, ⟨70, _⟩ => ⟨S8192x128, .bf16⟩
  | .hbm, ⟨71, _⟩ => ⟨S_, .i32⟩
  | .hbm, ⟨72, _⟩ => ⟨S_, .f32⟩
  | .hbm, ⟨73, _⟩ => ⟨S1x128, .f32⟩
  | _, _ => ⟨S8192x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1_0 : Ref sig .tc := ⟨.hbm, 20, rfl⟩
abbrev main_call0_call0_cst_0 : Ref sig .tc := ⟨.hbm, 21, rfl⟩
abbrev main_call0_call0_v13 : Ref sig .tc := ⟨.hbm, 22, rfl⟩
abbrev main_call0_call0_v14 : Ref sig .tc := ⟨.hbm, 23, rfl⟩
abbrev main_call0_call0_cst_1 : Ref sig .tc := ⟨.hbm, 24, rfl⟩
abbrev main_call0_call0_v15 : Ref sig .tc := ⟨.hbm, 25, rfl⟩
abbrev main_call0_call0_v16 : Ref sig .tc := ⟨.hbm, 26, rfl⟩
abbrev main_call0_call0_cst_2 : Ref sig .tc := ⟨.hbm, 27, rfl⟩
abbrev main_call0_call0_v17 : Ref sig .tc := ⟨.hbm, 28, rfl⟩
abbrev main_call0_call0_v18 : Ref sig .tc := ⟨.hbm, 29, rfl⟩
abbrev main_call0_call0_cst_3 : Ref sig .tc := ⟨.hbm, 30, rfl⟩
abbrev main_call0_call0_v19 : Ref sig .tc := ⟨.hbm, 31, rfl⟩
abbrev main_call0_call0_v20 : Ref sig .tc := ⟨.hbm, 32, rfl⟩
abbrev main_call0_call0_v21 : Ref sig .tc := ⟨.hbm, 33, rfl⟩
abbrev main_v2_1 : Ref sig .tc := ⟨.hbm, 34, rfl⟩
abbrev main_call0_call0_cst_4 : Ref sig .tc := ⟨.hbm, 35, rfl⟩
abbrev main_call0_call0_cst_5 : Ref sig .tc := ⟨.hbm, 36, rfl⟩
abbrev main_call0_call0_v23 : Ref sig .tc := ⟨.hbm, 37, rfl⟩
abbrev main_call0_call0_cst_6 : Ref sig .tc := ⟨.hbm, 38, rfl⟩
abbrev main_call0_call0_cst_7 : Ref sig .tc := ⟨.hbm, 39, rfl⟩
abbrev main_call0_call0_v24 : Ref sig .tc := ⟨.hbm, 40, rfl⟩
abbrev main_call0_call0_cst_8 : Ref sig .tc := ⟨.hbm, 41, rfl⟩
abbrev main_call0_call0_v25 : Ref sig .tc := ⟨.hbm, 42, rfl⟩
abbrev main_call0_call0_v26 : Ref sig .tc := ⟨.hbm, 43, rfl⟩
abbrev main_call0_call0_cst_9 : Ref sig .tc := ⟨.hbm, 44, rfl⟩
abbrev main_call0_call0_v27 : Ref sig .tc := ⟨.hbm, 45, rfl⟩
abbrev main_call0_call0_v28 : Ref sig .tc := ⟨.hbm, 46, rfl⟩
abbrev main_call0_call0_v29 : Ref sig .tc := ⟨.hbm, 47, rfl⟩
abbrev main_call0_call0_v30 : Ref sig .tc := ⟨.hbm, 48, rfl⟩
abbrev main_call0_call0_v31 : Ref sig .tc := ⟨.hbm, 49, rfl⟩
abbrev main_call0_call0_cst_10 : Ref sig .tc := ⟨.hbm, 50, rfl⟩
abbrev main_call0_call0_v32 : Ref sig .tc := ⟨.hbm, 51, rfl⟩
abbrev main_v2_2 : Ref sig .tc := ⟨.hbm, 52, rfl⟩
abbrev main_v2_0 : Ref sig .tc := ⟨.hbm, 53, rfl⟩
abbrev main_call1_call0_cst : Ref sig .tc := ⟨.hbm, 54, rfl⟩
abbrev main_call1_call0_v0 : Ref sig .tc := ⟨.hbm, 55, rfl⟩
abbrev main_v3 : Ref sig .tc := ⟨.hbm, 56, rfl⟩
abbrev main_v4 : Ref sig .tc := ⟨.hbm, 57, rfl⟩
abbrev main_call2_call0_cst : Ref sig .tc := ⟨.hbm, 58, rfl⟩
abbrev main_call2_call0_v0 : Ref sig .tc := ⟨.hbm, 59, rfl⟩
abbrev main_v5 : Ref sig .tc := ⟨.hbm, 60, rfl⟩
abbrev main_call3_v0 : Ref sig .tc := ⟨.hbm, 61, rfl⟩
abbrev main_call3_v1 : Ref sig .tc := ⟨.hbm, 62, rfl⟩
abbrev main_v6 : Ref sig .tc := ⟨.hbm, 63, rfl⟩
abbrev main_cst : Ref sig .tc := ⟨.hbm, 64, rfl⟩
abbrev main_v7 : Ref sig .tc := ⟨.hbm, 65, rfl⟩
abbrev main_v8 : Ref sig .tc := ⟨.hbm, 66, rfl⟩
abbrev main_c : Ref sig .tc := ⟨.hbm, 67, rfl⟩
abbrev main_call4_v0 : Ref sig .tc := ⟨.hbm, 68, rfl⟩
abbrev main_v9 : Ref sig .tc := ⟨.hbm, 69, rfl⟩
abbrev main_v10 : Ref sig .tc := ⟨.hbm, 70, rfl⟩
abbrev main_c_0 : Ref sig .tc := ⟨.hbm, 71, rfl⟩
abbrev main_call5_v0 : Ref sig .tc := ⟨.hbm, 72, rfl⟩
abbrev main_v11 : Ref sig .tc := ⟨.hbm, 73, rfl⟩

abbrev nD : Nat := 1
abbrev τ : Topo := Topo.v7x

variable {F : FTy → Type} [FloatOps F]
-- ==== KMix.lean ====
abbrev S8192x1024 : Shape := ⟨2, ![8192, 1024]⟩
abbrev S8192x512 : Shape := ⟨2, ![8192, 512]⟩
abbrev S1x512 : Shape := ⟨2, ![1, 512]⟩
abbrev S8x128x128 : Shape := ⟨3, ![8, 128, 128]⟩
abbrev S8x128 : Shape := ⟨2, ![8, 128]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S64x128x512 : Shape := ⟨3, ![64, 128, 512]⟩
abbrev S128x128 : Shape := ⟨2, ![128, 128]⟩
abbrev S128x128x8 : Shape := ⟨3, ![128, 128, 8]⟩
abbrev S128x128x8x64 : Shape := ⟨4, ![128, 128, 8, 64]⟩
abbrev S128x128x512 : Shape := ⟨3, ![128, 128, 512]⟩
abbrev S1x128x128x512 : Shape := ⟨4, ![1, 128, 128, 512]⟩
abbrev S64x1x128x512 : Shape := ⟨4, ![64, 1, 128, 512]⟩
abbrev S64x128x128x512 : Shape := ⟨4, ![64, 128, 128, 512]⟩
abbrev S128x8 : Shape := ⟨2, ![128, 8]⟩
abbrev S128x8x64 : Shape := ⟨3, ![128, 8, 64]⟩
abbrev S128x512 : Shape := ⟨2, ![128, 512]⟩
abbrev S1x128x512 : Shape := ⟨3, ![1, 128, 512]⟩
abbrev S8192x2048 : Shape := ⟨2, ![8192, 2048]⟩
abbrev S512x1024 : Shape := ⟨2, ![512, 1024]⟩
abbrev S512x512 : Shape := ⟨2, ![512, 512]⟩
abbrev S512x2048 : Shape := ⟨2, ![512, 2048]⟩
abbrev S1x128 : Shape := ⟨2, ![1, 128]⟩
abbrev S512 : Shape := ⟨1, ![512]⟩
abbrev S512x1 : Shape := ⟨2, ![512, 1]⟩
abbrev S1024 : Shape := ⟨1, ![1024]⟩
abbrev S1024x512 : Shape := ⟨2, ![1024, 512]⟩
abbrev S512x128 : Shape := ⟨2, ![512, 128]⟩
abbrev S1x128x128 : Shape := ⟨3, ![1, 128, 128]⟩
abbrev S128x1 : Shape := ⟨2, ![128, 1]⟩
abbrev S128 : Shape := ⟨1, ![128]⟩

abbrev nBuf : Space → Nat
  | .hbm => 151
  | .vmem => 40
  | .smem => 0
  | _ => 0

abbrev hbmTy0_0 (i : Nat) : BufTy := match i % 128 with
  | 0 => ⟨S8192x1024, .f32⟩
  | 1 => ⟨S8192x512, .f32⟩
  | 2 => ⟨S8192x512, .f32⟩
  | 3 => ⟨S8192x512, .f32⟩
  | 4 => ⟨S8192x512, .f32⟩
  | 5 => ⟨S8192x512, .f32⟩
  | 6 => ⟨S1x512, .f32⟩
  | 7 => ⟨S1x512, .f32⟩
  | 8 => ⟨S8x128x128, .f32⟩
  | 9 => ⟨S8x128, .f32⟩
  | 10 => ⟨S1x512, .f32⟩
  | 11 => ⟨S1x512, .f32⟩
  | 12 => ⟨S1024x1024, .f32⟩
  | 13 => ⟨S1x1024, .f32⟩
  | 14 => ⟨S8192x512, .f32⟩
  | 15 => ⟨S8192x512, .f32⟩
  | 16 => ⟨S_, .f32⟩
  | 17 => ⟨S8192x512, .f32⟩
  | 18 => ⟨S8192x512, .f32⟩
  | 19 => ⟨S8192x512, .f32⟩
  | 20 => ⟨S_, .f32⟩
  | 21 => ⟨S8192x512, .f32⟩
  | 22 => ⟨S8192x512, .f32⟩
  | 23 => ⟨S8192x512, .f32⟩
  | 24 => ⟨S_, .f32⟩
  | 25 => ⟨S8192x512, .f32⟩
  | 26 => ⟨S8192x512, .f32⟩
  | 27 => ⟨S_, .f32⟩
  | 28 => ⟨S8192x512, .f32⟩
  | 29 => ⟨S8192x512, .f32⟩
  | 30 => ⟨S8192x512, .f32⟩
  | 31 => ⟨S_, .f32⟩
  | 32 => ⟨S8192, .f32⟩
  | 33 => ⟨S8192x1, .f32⟩
  | 34 => ⟨S_, .f32⟩
  | 35 => ⟨S8192x1, .f32⟩
  | 36 => ⟨S8192x1, .f32⟩
  | 37 => ⟨S8192x512, .f32⟩
  | 38 => ⟨S8192x512, .f32⟩
  | 39 => ⟨S8192x512, .f32⟩
  | 40 => ⟨S_, .f32⟩
  | 41 => ⟨S8192, .f32⟩
  | 42 => ⟨S8192x1, .f32⟩
  | 43 => ⟨S_, .f32⟩
  | 44 => ⟨S8192x1, .f32⟩
  | 45 => ⟨S8192x1, .f32⟩
  | 46 => ⟨S_, .f32⟩
  | 47 => ⟨S8192x1, .f32⟩
  | 48 => ⟨S8192x1, .f32⟩
  | 49 => ⟨S8192x1, .f32⟩
  | 50 => ⟨S8192x512, .f32⟩
  | 51 => ⟨S8192x512, .f32⟩
  | 52 => ⟨S8192x512, .f32⟩
  | 53 => ⟨S8192x512, .f32⟩
  | 54 => ⟨S8192x512, .f32⟩
  | 55 => ⟨S8192x512, .f32⟩
  | 56 => ⟨S64x128x512, .f32⟩
  | 57 => ⟨S128x128, .i32⟩
  | 58 => ⟨S_, .i32⟩
  | 59 => ⟨S128x128, .i32⟩
  | 60 => ⟨S128x128, .i32⟩
  | 61 => ⟨S128x128, .i32⟩
  | 62 => ⟨S128x128, .i1⟩
  | 63 => ⟨S8x128x128, .i1⟩
  | 64 => ⟨S_, .f32⟩
  | 65 => ⟨S8x128x128, .f32⟩
  | 66 => ⟨S8x128x128, .f32⟩
  | 67 => ⟨S128x128x8, .f32⟩
  | 68 => ⟨S128x128x8x64, .f32⟩
  | 69 => ⟨S128x128x512, .f32⟩
  | 70 => ⟨S1x128x128x512, .f32⟩
  | 71 => ⟨S64x1x128x512, .f32⟩
  | 72 => ⟨S64x128x128x512, .f32⟩
  | 73 => ⟨S64x128x128x512, .f32⟩
  | 74 => ⟨S64x128x128x512, .f32⟩
  | 75 => ⟨S_, .f32⟩
  | 76 => ⟨S64x128x512, .f32⟩
  | 77 => ⟨S128x8, .f32⟩
  | 78 => ⟨S128x8x64, .f32⟩
  | 79 => ⟨S128x512, .f32⟩
  | 80 => ⟨S1x128x512, .f32⟩
  | 81 => ⟨S64x128x512, .f32⟩
  | 82 => ⟨S64x128x512, .f32⟩
  | 83 => ⟨S8192x512, .f32⟩
  | 84 => ⟨S8192x512, .f32⟩
  | 85 => ⟨S_, .f32⟩
  | 86 => ⟨S8192x512, .f32⟩
  | 87 => ⟨S8192x512, .f32⟩
  | 88 => ⟨S8192x512, .f32⟩
  | 89 => ⟨S_, .f32⟩
  | 90 => ⟨S8192x512, .f32⟩
  | 91 => ⟨S8192x512, .f32⟩
  | 92 => ⟨S8192x512, .f32⟩
  | 93 => ⟨S_, .f32⟩
  | 94 => ⟨S8192x512, .f32⟩
  | 95 => ⟨S8192x512, .f32⟩
  | 96 => ⟨S_, .f32⟩
  | 97 => ⟨S8192x512, .f32⟩
  | 98 => ⟨S8192x512, .f32⟩
  | 99 => ⟨S8192x512, .f32⟩
  | 100 => ⟨S8192x512, .f32⟩
  | 101 => ⟨S8192x512, .f32⟩
  | 102 => ⟨S8192x512, .f32⟩
  | 103 => ⟨S_, .f32⟩
  | 104 => ⟨S8192, .f32⟩
  | 105 => ⟨S8192x1, .f32⟩
  | 106 => ⟨S_, .f32⟩
  | 107 => ⟨S8192x1, .f32⟩
  | 108 => ⟨S8192x1, .f32⟩
  | 109 => ⟨S_, .f32⟩
  | 110 => ⟨S8192x1, .f32⟩
  | 111 => ⟨S8192x1, .f32⟩
  | 112 => ⟨S8192x1, .f32⟩
  | 113 => ⟨S8192x512, .f32⟩
  | 114 => ⟨S8192x512, .f32⟩
  | 115 => ⟨S8192x512, .f32⟩
  | 116 => ⟨S8192x512, .f32⟩
  | 117 => ⟨S8192x512, .f32⟩
  | 118 => ⟨S_, .f32⟩
  | 119 => ⟨S8192, .f32⟩
  | 120 => ⟨S8192x1, .f32⟩
  | 121 => ⟨S_, .f32⟩
  | 122 => ⟨S8192x1, .f32⟩
  | 123 => ⟨S8192x1, .f32⟩
  | 124 => ⟨S_, .f32⟩
  | 125 => ⟨S8192x1, .f32⟩
  | 126 => ⟨S8192x1, .f32⟩
  | 127 => ⟨S8192x1, .f32⟩
  | _ => ⟨S8192x1024, .f32⟩

abbrev hbmTy0_1 (i : Nat) : BufTy := match i % 128 with
  | 0 => ⟨S8192x512, .f32⟩
  | 1 => ⟨S8192x512, .f32⟩
  | 2 => ⟨S8192x512, .f32⟩
  | 3 => ⟨S8192x512, .f32⟩
  | 4 => ⟨S8192x1024, .f32⟩
  | 5 => ⟨S8192x1024, .f32⟩
  | 6 => ⟨S8192x1024, .f32⟩
  | 7 => ⟨S8192x512, .bf16⟩
  | 8 => ⟨S8192x1024, .bf16⟩
  | 9 => ⟨S8x128x128, .f32⟩
  | 10 => ⟨S128x8, .f32⟩
  | 11 => ⟨S1024x1024, .bf16⟩
  | 12 => ⟨S8192x2048, .bf16⟩
  | 13 => ⟨S8192x2048, .bf16⟩
  | 14 => ⟨S8192x1024, .bf16⟩
  | 15 => ⟨S1024x1024, .f32⟩
  | 16 => ⟨S8x128x128, .f32⟩
  | 17 => ⟨S128x128, .f32⟩
  | 18 => ⟨S1x512, .f32⟩
  | 19 => ⟨S1x512, .f32⟩
  | 20 => ⟨S1x512, .f32⟩
  | 21 => ⟨S1x512, .f32⟩
  | 22 => ⟨S1x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x512, .f32⟩
  | .local _ .vmem, ⟨7, _⟩ => ⟨S512x512, .f32⟩
  | .local _ .vmem, ⟨8, _⟩ => ⟨S512x512, .bf16⟩
  | .local _ .vmem, ⟨9, _⟩ => ⟨S512x512, .bf16⟩
  | .local _ .vmem, ⟨10, _⟩ => ⟨S512x512, .f32⟩
  | .local _ .vmem, ⟨11, _⟩ => ⟨S512x512, .f32⟩
  | .local _ .vmem, ⟨12, _⟩ => ⟨S512x1024, .bf16⟩
  | .local _ .vmem, ⟨13, _⟩ => ⟨S512x1024, .bf16⟩
  | .local _ .vmem, ⟨14, _⟩ => ⟨S1x512, .f32⟩
  | .local _ .vmem, ⟨15, _⟩ => ⟨S1x512, .f32⟩
  | .local _ .vmem, ⟨16, _⟩ => ⟨S8x128x128, .f32⟩
  | .local _ .vmem, ⟨17, _⟩ => ⟨S8x128x128, .f32⟩
  | .local _ .vmem, ⟨18, _⟩ => ⟨S128x8, .f32⟩
  | .local _ .vmem, ⟨19, _⟩ => ⟨S1x512, .f32⟩
  | .local _ .vmem, ⟨20, _⟩ => ⟨S1x512, .f32⟩
  | .local _ .vmem, ⟨21, _⟩ => ⟨S1024x1024, .bf16⟩
  | .local _ .vmem, ⟨22, _⟩ => ⟨S1x1024, .f32⟩
  | .local _ .vmem, ⟨23, _⟩ => ⟨S512x2048, .bf16⟩
  | .local _ .vmem, ⟨24, _⟩ => ⟨S512x2048, .bf16⟩
  | .local _ .vmem, ⟨25, _⟩ => ⟨S512x2048, .bf16⟩
  | .local _ .vmem, ⟨26, _⟩ => ⟨S512x2048, .bf16⟩
  | .local _ .vmem, ⟨27, _⟩ => ⟨S512x1024, .bf16⟩
  | .local _ .vmem, ⟨28, _⟩ => ⟨S512x1024, .bf16⟩
  | .local _ .vmem, ⟨29, _⟩ => ⟨S1024x1024, .f32⟩
  | .local _ .vmem, ⟨30, _⟩ => ⟨S8x128x128, .f32⟩
  | .local _ .vmem, ⟨31, _⟩ => ⟨S128x128, .f32⟩
  | .local _ .vmem, ⟨32, _⟩ => ⟨S1x512, .f32⟩
  | .local _ .vmem, ⟨33, _⟩ => ⟨S1x512, .f32⟩
  | .local _ .vmem, ⟨34, _⟩ => ⟨S1x512, .f32⟩
  | .local _ .vmem, ⟨35, _⟩ => ⟨S1x512, .f32⟩
  | .local _ .vmem, ⟨36, _⟩ => ⟨S1x1024, .f32⟩
  | .local _ .vmem, ⟨37, _⟩ => ⟨S512x512, .f32⟩
  | .local _ .vmem, ⟨38, _⟩ => ⟨S512x512, .bf16⟩
  | .local _ .vmem, ⟨39, _⟩ => ⟨S512x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_3 : Ref sig .tc := ⟨.hbm, 31, rfl⟩
abbrev main_v13 : Ref sig .tc := ⟨.hbm, 32, rfl⟩
abbrev main_v14 : Ref sig .tc := ⟨.hbm, 33, rfl⟩
abbrev main_cst_4 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_5 : Ref sig .tc := ⟨.hbm, 40, rfl⟩
abbrev main_v20 : Ref sig .tc := ⟨.hbm, 41, rfl⟩
abbrev main_v21 : Ref sig .tc := ⟨.hbm, 42, rfl⟩
abbrev main_cst_6 : Ref sig .tc := ⟨.hbm, 43, rfl⟩
abbrev main_v22 : Ref sig .tc := ⟨.hbm, 44, rfl⟩
abbrev main_v23 : Ref sig .tc := ⟨.hbm, 45, rfl⟩
abbrev main_cst_7 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_call0_v0 : Ref sig .tc := ⟨.hbm, 57, rfl⟩
abbrev main_call0_c : Ref sig .tc := ⟨.hbm, 58, rfl⟩
abbrev main_call0_v1 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_call0_v5 : Ref sig .tc := ⟨.hbm, 63, rfl⟩
abbrev main_call0_cst : Ref sig .tc := ⟨.hbm, 64, rfl⟩
abbrev main_call0_v6 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_8 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_9 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_cst_10 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_11 : Ref sig .tc := ⟨.hbm, 93, rfl⟩
abbrev main_v58 : Ref sig .tc := ⟨.hbm, 94, rfl⟩
abbrev main_v59 : Ref sig .tc := ⟨.hbm, 95, rfl⟩
abbrev main_cst_12 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_cst_13 : Ref sig .tc := ⟨.hbm, 103, rfl⟩
abbrev main_v66 : Ref sig .tc := ⟨.hbm, 104, rfl⟩
abbrev main_v67 : Ref sig .tc := ⟨.hbm, 105, rfl⟩
abbrev main_cst_14 : Ref sig .tc := ⟨.hbm, 106, rfl⟩
abbrev main_v68 : Ref sig .tc := ⟨.hbm, 107, rfl⟩
abbrev main_v69 : Ref sig .tc := ⟨.hbm, 108, rfl⟩
abbrev main_cst_15 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_cst_16 : Ref sig .tc := ⟨.hbm, 118, rfl⟩
abbrev main_v78 : Ref sig .tc := ⟨.hbm, 119, rfl⟩
abbrev main_v79 : Ref sig .tc := ⟨.hbm, 120, rfl⟩
abbrev main_cst_17 : Ref sig .tc := ⟨.hbm, 121, rfl⟩
abbrev main_v80 : Ref sig .tc := ⟨.hbm, 122, rfl⟩
abbrev main_v81 : Ref sig .tc := ⟨.hbm, 123, rfl⟩
abbrev main_cst_18 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97_0 : Ref sig .tc := ⟨.hbm, 140, rfl⟩
abbrev main_v97_1 : Ref sig .tc := ⟨.hbm, 141, rfl⟩
abbrev main_v97_2 : Ref sig .tc := ⟨.hbm, 142, rfl⟩
abbrev main_v97_3 : Ref sig .tc := ⟨.hbm, 143, rfl⟩
abbrev main_v97_4 : Ref sig .tc := ⟨.hbm, 144, rfl⟩
abbrev main_v97_5 : Ref sig .tc := ⟨.hbm, 145, rfl⟩
abbrev main_v97_6 : Ref sig .tc := ⟨.hbm, 146, rfl⟩
abbrev main_v97_7 : Ref sig .tc := ⟨.hbm, 147, rfl⟩
abbrev main_v97_8 : Ref sig .tc := ⟨.hbm, 148, rfl⟩
abbrev main_v97_9 : Ref sig .tc := ⟨.hbm, 149, rfl⟩
abbrev main_v97_10 : Ref sig .tc := ⟨.hbm, 150, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg20_0 : Ref sig .tc := ⟨.vmem, 30, rfl⟩
abbrev cc0_stg21_0 : Ref sig .tc := ⟨.vmem, 31, rfl⟩
abbrev cc0_stg22_0 : Ref sig .tc := ⟨.vmem, 32, rfl⟩
abbrev cc0_stg23_0 : Ref sig .tc := ⟨.vmem, 33, rfl⟩
abbrev cc0_stg24_0 : Ref sig .tc := ⟨.vmem, 34, rfl⟩
abbrev cc0_stg25_0 : Ref sig .tc := ⟨.vmem, 35, rfl⟩
abbrev cc0_stg26_0 : Ref sig .tc := ⟨.vmem, 36, rfl⟩
abbrev cc0_scratch0 : Ref sig .tc := ⟨.vmem, 37, rfl⟩
abbrev cc0_scratch1 : Ref sig .tc := ⟨.vmem, 38, rfl⟩
abbrev cc0_scratch2 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem20_0 : DmaSem sig := 30
abbrev cc0_sem21_0 : DmaSem sig := 31
abbrev cc0_sem22_0 : DmaSem sig := 32
abbrev cc0_sem23_0 : DmaSem sig := 33
abbrev cc0_sem24_0 : DmaSem sig := 34
abbrev cc0_sem25_0 : DmaSem sig := 35
abbrev cc0_sem26_0 : DmaSem sig := 36

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S1024x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S8x128x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S128x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x512 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x512 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]
-- ==== RMixIdeal.lean ====
abbrev S8192x1024 : Shape := ⟨2, ![8192, 1024]⟩
abbrev S8192x512 : Shape := ⟨2, ![8192, 512]⟩
abbrev S1x512 : Shape := ⟨2, ![1, 512]⟩
abbrev S8x128x128 : Shape := ⟨3, ![8, 128, 128]⟩
abbrev S8x128 : Shape := ⟨2, ![8, 128]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S64x128x8x64 : Shape := ⟨4, ![64, 128, 8, 64]⟩
abbrev S128x128 : Shape := ⟨2, ![128, 128]⟩
abbrev S1x128x128 : Shape := ⟨3, ![1, 128, 128]⟩
abbrev S8x64x64x128 : Shape := ⟨4, ![8, 64, 64, 128]⟩
abbrev S128x8 : Shape := ⟨2, ![128, 8]⟩
abbrev S1x128x8x1 : Shape := ⟨4, ![1, 128, 8, 1]⟩
abbrev S1024 : Shape := ⟨1, ![1024]⟩
abbrev S512 : Shape := ⟨1, ![512]⟩

abbrev nBuf : Space → Nat
  | .hbm => 181
  | .vmem => 0
  | .smem => 0
  | _ => 0

abbrev hbmTy0_0 (i : Nat) : BufTy := match i % 128 with
  | 0 => ⟨S8192x1024, .f32⟩
  | 1 => ⟨S8192x512, .f32⟩
  | 2 => ⟨S8192x512, .f32⟩
  | 3 => ⟨S8192x512, .f32⟩
  | 4 => ⟨S8192x512, .f32⟩
  | 5 => ⟨S8192x512, .f32⟩
  | 6 => ⟨S1x512, .f32⟩
  | 7 => ⟨S1x512, .f32⟩
  | 8 => ⟨S8x128x128, .f32⟩
  | 9 => ⟨S8x128, .f32⟩
  | 10 => ⟨S1x512, .f32⟩
  | 11 => ⟨S1x512, .f32⟩
  | 12 => ⟨S1024x1024, .f32⟩
  | 13 => ⟨S1x1024, .f32⟩
  | 14 => ⟨S8192x512, .f32⟩
  | 15 => ⟨S8192x512, .f32⟩
  | 16 => ⟨S_, .f32⟩
  | 17 => ⟨S8192x512, .f32⟩
  | 18 => ⟨S8192x512, .f32⟩
  | 19 => ⟨S8192x512, .f32⟩
  | 20 => ⟨S_, .f32⟩
  | 21 => ⟨S8192x512, .f32⟩
  | 22 => ⟨S8192x512, .f32⟩
  | 23 => ⟨S8192x512, .f32⟩
  | 24 => ⟨S_, .f32⟩
  | 25 => ⟨S8192x512, .f32⟩
  | 26 => ⟨S8192x512, .f32⟩
  | 27 => ⟨S_, .f32⟩
  | 28 => ⟨S8192x512, .f32⟩
  | 29 => ⟨S8192x512, .f32⟩
  | 30 => ⟨S8192x512, .f32⟩
  | 31 => ⟨S8192x512, .f32⟩
  | 32 => ⟨S8192x512, .f32⟩
  | 33 => ⟨S_, .f32⟩
  | 34 => ⟨S8192x512, .f32⟩
  | 35 => ⟨S8192x512, .f32⟩
  | 36 => ⟨S8192x512, .f32⟩
  | 37 => ⟨S_, .f32⟩
  | 38 => ⟨S8192x512, .f32⟩
  | 39 => ⟨S8192x512, .f32⟩
  | 40 => ⟨S8192x512, .f32⟩
  | 41 => ⟨S_, .f32⟩
  | 42 => ⟨S8192x512, .f32⟩
  | 43 => ⟨S8192x512, .f32⟩
  | 44 => ⟨S_, .f32⟩
  | 45 => ⟨S8192x512, .f32⟩
  | 46 => ⟨S8192x512, .f32⟩
  | 47 => ⟨S8192x512, .f32⟩
  | 48 => ⟨S_, .f32⟩
  | 49 => ⟨S8192, .f32⟩
  | 50 => ⟨S8192x1, .f32⟩
  | 51 => ⟨S_, .f32⟩
  | 52 => ⟨S8192x1, .f32⟩
  | 53 => ⟨S8192x1, .f32⟩
  | 54 => ⟨S8192x512, .f32⟩
  | 55 => ⟨S8192x512, .f32⟩
  | 56 => ⟨S8192x512, .f32⟩
  | 57 => ⟨S_, .f32⟩
  | 58 => ⟨S8192, .f32⟩
  | 59 => ⟨S8192x1, .f32⟩
  | 60 => ⟨S_, .f32⟩
  | 61 => ⟨S8192x1, .f32⟩
  | 62 => ⟨S8192x1, .f32⟩
  | 63 => ⟨S_, .f32⟩
  | 64 => ⟨S8192x1, .f32⟩
  | 65 => ⟨S8192x1, .f32⟩
  | 66 => ⟨S8192x1, .f32⟩
  | 67 => ⟨S8192x512, .f32⟩
  | 68 => ⟨S8192x512, .f32⟩
  | 69 => ⟨S8192x512, .f32⟩
  | 70 => ⟨S8192x512, .f32⟩
  | 71 => ⟨S8192x512, .f32⟩
  | 72 => ⟨S8192x512, .f32⟩
  | 73 => ⟨S64x128x8x64, .f32⟩
  | 74 => ⟨S_, .f32⟩
  | 75 => ⟨S128x128, .f32⟩
  | 76 => ⟨S128x128, .i32⟩
  | 77 => ⟨S_, .i32⟩
  | 78 => ⟨S128x128, .i32⟩
  | 79 => ⟨S128x128, .i32⟩
  | 80 => ⟨S128x128, .i32⟩
  | 81 => ⟨S128x128, .i1⟩
  | 82 => ⟨S_, .f32⟩
  | 83 => ⟨S128x128, .f32⟩
  | 84 => ⟨S128x128, .f32⟩
  | 85 => ⟨S1x128x128, .f32⟩
  | 86 => ⟨S8x128x128, .f32⟩
  | 87 => ⟨S8x128x128, .f32⟩
  | 88 => ⟨S8x64x64x128, .f32⟩
  | 89 => ⟨S64x128x8x64, .f32⟩
  | 90 => ⟨S128x8, .f32⟩
  | 91 => ⟨S1x128x8x1, .f32⟩
  | 92 => ⟨S64x128x8x64, .f32⟩
  | 93 => ⟨S64x128x8x64, .f32⟩
  | 94 => ⟨S8192x512, .f32⟩
  | 95 => ⟨S8192x512, .f32⟩
  | 96 => ⟨S8192x512, .f32⟩
  | 97 => ⟨S_, .f32⟩
  | 98 => ⟨S8192, .f32⟩
  | 99 => ⟨S8192x1, .f32⟩
  | 100 => ⟨S_, .f32⟩
  | 101 => ⟨S8192x1, .f32⟩
  | 102 => ⟨S8192x1, .f32⟩
  | 103 => ⟨S_, .f32⟩
  | 104 => ⟨S8192x1, .f32⟩
  | 105 => ⟨S8192x1, .f32⟩
  | 106 => ⟨S8192x1, .f32⟩
  | 107 => ⟨S8192x512, .f32⟩
  | 108 => ⟨S8192x512, .f32⟩
  | 109 => ⟨S8192x512, .f32⟩
  | 110 => ⟨S8192x512, .f32⟩
  | 111 => ⟨S8192x512, .f32⟩
  | 112 => ⟨S_, .f32⟩
  | 113 => ⟨S8192, .f32⟩
  | 114 => ⟨S8192x1, .f32⟩
  | 115 => ⟨S_, .f32⟩
  | 116 => ⟨S8192x1, .f32⟩
  | 117 => ⟨S8192x1, .f32⟩
  | 118 => ⟨S_, .f32⟩
  | 119 => ⟨S8192x1, .f32⟩
  | 120 => ⟨S8192x1, .f32⟩
  | 121 => ⟨S8192x1, .f32⟩
  | 122 => ⟨S8192x512, .f32⟩
  | 123 => ⟨S8192x512, .f32⟩
  | 124 => ⟨S8192x512, .f32⟩
  | 125 => ⟨S8192x512, .f32⟩
  | 126 => ⟨S8192x1024, .f32⟩
  | 127 => ⟨S_, .f32⟩
  | _ => ⟨S8192x1024, .f32⟩

abbrev hbmTy0_1 (i : Nat) : BufTy := match i % 128 with
  | 0 => ⟨S8192x512, .f32⟩
  | 1 => ⟨S8192x1024, .f32⟩
  | 2 => ⟨S8192x1024, .f32⟩
  | 3 => ⟨S_, .f32⟩
  | 4 => ⟨S8192, .f32⟩
  | 5 => ⟨S8192x1, .f32⟩
  | 6 => ⟨S_, .f32⟩
  | 7 => ⟨S8192x1, .f32⟩
  | 8 => ⟨S8192x1, .f32⟩
  | 9 => ⟨S_, .f32⟩
  | 10 => ⟨S8192x1, .f32⟩
  | 11 => ⟨S8192x1, .f32⟩
  | 12 => ⟨S8192x1, .f32⟩
  | 13 => ⟨S8192x1, .f32⟩
  | 14 => ⟨S_, .f32⟩
  | 15 => ⟨S8192x1, .f32⟩
  | 16 => ⟨S8192x1, .f32⟩
  | 17 => ⟨S8192x1024, .f32⟩
  | 18 => ⟨S8192x1024, .f32⟩
  | 19 => ⟨S8192x1024, .f32⟩
  | 20 => ⟨S8192x1024, .f32⟩
  | 21 => ⟨S8192x1024, .f32⟩
  | 22 => ⟨S_, .f32⟩
  | 23 => ⟨S1024, .f32⟩
  | 24 => ⟨S1x1024, .f32⟩
  | 25 => ⟨S8192x1024, .f32⟩
  | 26 => ⟨S8192x1024, .f32⟩
  | 27 => ⟨S8192x1024, .f32⟩
  | 28 => ⟨S_, .f32⟩
  | 29 => ⟨S8192, .f32⟩
  | 30 => ⟨S8192x1, .f32⟩
  | 31 => ⟨S8192x1024, .f32⟩
  | 32 => ⟨S8192x1024, .f32⟩
  | 33 => ⟨S8192x1, .f32⟩
  | 34 => ⟨S_, .f32⟩
  | 35 => ⟨S8192x1, .f32⟩
  | 36 => ⟨S8192x1, .f32⟩
  | 37 => ⟨S_, .f32⟩
  | 38 => ⟨S8192, .f32⟩
  | 39 => ⟨S8192x1024, .f32⟩
  | 40 => ⟨S8192x1024, .f32⟩
  | 41 => ⟨S8192x1024, .f32⟩
  | 42 => ⟨S8192x1024, .f32⟩
  | 43 => ⟨S8192x1024, .f32⟩
  | 44 => ⟨S1024x1024, .f32⟩
  | 45 => ⟨S1024x1024, .f32⟩
  | 46 => ⟨S8192x1024, .f32⟩
  | 47 => ⟨S8192x512, .f32⟩
  | 48 => ⟨S8192x512, .f32⟩
  | 49 => ⟨S8192x512, .f32⟩
  | 50 => ⟨S_, .f32⟩
  | 51 => ⟨S512, .f32⟩
  | 52 => ⟨S1x512, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_5 : Ref sig .tc := ⟨.hbm, 41, rfl⟩
abbrev main_v21 : Ref sig .tc := ⟨.hbm, 42, rfl⟩
abbrev main_v22 : Ref sig .tc := ⟨.hbm, 43, rfl⟩
abbrev main_cst_6 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_7 : Ref sig .tc := ⟨.hbm, 48, rfl⟩
abbrev main_v26 : Ref sig .tc := ⟨.hbm, 49, rfl⟩
abbrev main_v27 : Ref sig .tc := ⟨.hbm, 50, rfl⟩
abbrev main_cst_8 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_9 : Ref sig .tc := ⟨.hbm, 57, rfl⟩
abbrev main_v33 : Ref sig .tc := ⟨.hbm, 58, rfl⟩
abbrev main_v34 : Ref sig .tc := ⟨.hbm, 59, rfl⟩
abbrev main_cst_10 : Ref sig .tc := ⟨.hbm, 60, rfl⟩
abbrev main_v35 : Ref sig .tc := ⟨.hbm, 61, rfl⟩
abbrev main_v36 : Ref sig .tc := ⟨.hbm, 62, rfl⟩
abbrev main_cst_11 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_12 : Ref sig .tc := ⟨.hbm, 74, rfl⟩
abbrev main_v47 : Ref sig .tc := ⟨.hbm, 75, rfl⟩
abbrev main_call0_v0 : Ref sig .tc := ⟨.hbm, 76, rfl⟩
abbrev main_call0_c : Ref sig .tc := ⟨.hbm, 77, rfl⟩
abbrev main_call0_v1 : Ref sig .tc := ⟨.hbm, 78, rfl⟩
abbrev main_call0_v2 : Ref sig .tc := ⟨.hbm, 79, rfl⟩
abbrev main_call0_v3 : Ref sig .tc := ⟨.hbm, 80, rfl⟩
abbrev main_call0_v4 : Ref sig .tc := ⟨.hbm, 81, rfl⟩
abbrev main_call0_cst : Ref sig .tc := ⟨.hbm, 82, rfl⟩
abbrev main_call0_v5 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_cst_13 : Ref sig .tc := ⟨.hbm, 97, rfl⟩
abbrev main_v61 : Ref sig .tc := ⟨.hbm, 98, rfl⟩
abbrev main_v62 : Ref sig .tc := ⟨.hbm, 99, rfl⟩
abbrev main_cst_14 : Ref sig .tc := ⟨.hbm, 100, rfl⟩
abbrev main_v63 : Ref sig .tc := ⟨.hbm, 101, rfl⟩
abbrev main_v64 : Ref sig .tc := ⟨.hbm, 102, rfl⟩
abbrev main_cst_15 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_cst_16 : Ref sig .tc := ⟨.hbm, 112, rfl⟩
abbrev main_v73 : Ref sig .tc := ⟨.hbm, 113, rfl⟩
abbrev main_v74 : Ref sig .tc := ⟨.hbm, 114, rfl⟩
abbrev main_cst_17 : Ref sig .tc := ⟨.hbm, 115, rfl⟩
abbrev main_v75 : Ref sig .tc := ⟨.hbm, 116, rfl⟩
abbrev main_v76 : Ref sig .tc := ⟨.hbm, 117, rfl⟩
abbrev main_cst_18 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_cst_19 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_cst_20 : Ref sig .tc := ⟨.hbm, 131, rfl⟩
abbrev main_v88 : Ref sig .tc := ⟨.hbm, 132, rfl⟩
abbrev main_v89 : Ref sig .tc := ⟨.hbm, 133, rfl⟩
abbrev main_cst_21 : Ref sig .tc := ⟨.hbm, 134, rfl⟩
abbrev main_v90 : Ref sig .tc := ⟨.hbm, 135, rfl⟩
abbrev main_v91 : Ref sig .tc := ⟨.hbm, 136, rfl⟩
abbrev main_cst_22 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_cst_23 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_cst_24 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_cst_25 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_cst_26 : Ref sig .tc := ⟨.hbm, 162, rfl⟩
abbrev main_v113 : Ref sig .tc := ⟨.hbm, 163, rfl⟩
abbrev main_v114 : Ref sig .tc := ⟨.hbm, 164, rfl⟩
abbrev main_cst_27 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_cst_28 : Ref sig .tc := ⟨.hbm, 178, rfl⟩
abbrev main_v127 : Ref sig .tc := ⟨.hbm, 179, rfl⟩
abbrev main_v128 : Ref sig .tc := ⟨.hbm, 180, rfl⟩

abbrev nD : Nat := 1
abbrev τ : Topo := Topo.v7x

variable {F : FTy → Type} [FloatOps F]
-- ==== KAttn.lean ====
abbrev S8192x512 : Shape := ⟨2, ![8192, 512]⟩
abbrev S8192x8 : Shape := ⟨2, ![8192, 8]⟩
abbrev S8192x8x64 : Shape := ⟨3, ![8192, 8, 64]⟩
abbrev S_ : Shape := ⟨0, ![]⟩
abbrev S8x8192x8192 : Shape := ⟨3, ![8, 8192, 8192]⟩
abbrev S8x8192 : Shape := ⟨2, ![8, 8192]⟩
abbrev S8x8192x1 : Shape := ⟨3, ![8, 8192, 1]⟩
abbrev S8x1x8192 : Shape := ⟨3, ![8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x64x8192 : Shape := ⟨3, ![8, 64, 8192]⟩
abbrev S1x8x1 : Shape := ⟨3, ![1, 8, 1]⟩
abbrev S8192x8x1 : Shape := ⟨3, ![8192, 8, 1]⟩
abbrev S8192x8x3 : Shape := ⟨3, ![8192, 8, 3]⟩
abbrev S8192x4x6 : Shape := ⟨3, ![8192, 4, 6]⟩
abbrev S8192x4x119 : Shape := ⟨3, ![8192, 4, 119]⟩
abbrev S8192x8x119 : Shape := ⟨3, ![8192, 8, 119]⟩
abbrev S8192x8x256 : Shape := ⟨3, ![8192, 8, 256]⟩
abbrev S8192x2048 : Shape := ⟨2, ![8192, 2048]⟩
abbrev S8192x8x6 : Shape := ⟨3, ![8192, 8, 6]⟩
abbrev S8192x4x128 : Shape := ⟨3, ![8192, 4, 128]⟩
abbrev S8192x4x3 : Shape := ⟨3, ![8192, 4, 3]⟩
abbrev S8192x4x256 : Shape := ⟨3, ![8192, 4, 256]⟩
abbrev S8192x1024 : Shape := ⟨2, ![8192, 1024]⟩
abbrev S512x8192 : Shape := ⟨2, ![512, 8192]⟩
abbrev S8x128 : Shape := ⟨2, ![8, 128]⟩
abbrev S8192x128 : Shape := ⟨2, ![8192, 128]⟩
abbrev S512x1024 : Shape := ⟨2, ![512, 1024]⟩
abbrev S512x512 : Shape := ⟨2, ![512, 512]⟩
abbrev S512x2048 : Shape := ⟨2, ![512, 2048]⟩
abbrev S512x128 : Shape := ⟨2, ![512, 128]⟩
abbrev S8x1 : Shape := ⟨2, ![8, 1]⟩
abbrev S1x128 : Shape := ⟨2, ![1, 128]⟩
abbrev S128x1 : Shape := ⟨2, ![128, 1]⟩
abbrev S512x256 : Shape := ⟨2, ![512, 256]⟩
abbrev S8x512 : Shape := ⟨2, ![8, 512]⟩
abbrev S128x512 : Shape := ⟨2, ![128, 512]⟩
abbrev S512 : Shape := ⟨1, ![512]⟩
abbrev S1x512 : Shape := ⟨2, ![1, 512]⟩
abbrev S512x1 : Shape := ⟨2, ![512, 1]⟩

abbrev nBuf : Space → Nat
  | .hbm => 180
  | .vmem => 22
  | .smem => 0
  | _ => 0

abbrev hbmTy0_0 (i : Nat) : BufTy := match i % 128 with
  | 0 => ⟨S8192x512, .f32⟩
  | 1 => ⟨S8192x512, .f32⟩
  | 2 => ⟨S8192x512, .f32⟩
  | 3 => ⟨S8192x8, .f32⟩
  | 4 => ⟨S8192x512, .f32⟩
  | 5 => ⟨S8192x8x64, .f32⟩
  | 6 => ⟨S_, .f32⟩
  | 7 => ⟨S8192x8x64, .f32⟩
  | 8 => ⟨S8192x8x64, .f32⟩
  | 9 => ⟨S8192x8x64, .f32⟩
  | 10 => ⟨S8x8192x8192, .f32⟩
  | 11 => ⟨S8x8192, .f32⟩
  | 12 => ⟨S8x8192x1, .f32⟩
  | 13 => ⟨S8x8192x8192, .f32⟩
  | 14 => ⟨S8x8192x8192, .f32⟩
  | 15 => ⟨S8x8192, .f32⟩
  | 16 => ⟨S8x1x8192, .f32⟩
  | 17 => ⟨S8x8192x8192, .f32⟩
  | 18 => ⟨S8x8192x8192, .f32⟩
  | 19 => ⟨S8192, .i32⟩
  | 20 => ⟨S1x8192, .i32⟩
  | 21 => ⟨S8192x1, .i32⟩
  | 22 => ⟨S8192x8192, .i32⟩
  | 23 => ⟨S8192x8192, .i32⟩
  | 24 => ⟨S8192x8192, .i1⟩
  | 25 => ⟨S1x8192x8192, .i1⟩
  | 26 => ⟨S_, .f32⟩
  | 27 => ⟨S_, .f32⟩
  | 28 => ⟨S8x8192x8192, .i1⟩
  | 29 => ⟨S8x8192x8192, .f32⟩
  | 30 => ⟨S8x8192x8192, .f32⟩
  | 31 => ⟨S_, .f32⟩
  | 32 => ⟨S8x8192, .f32⟩
  | 33 => ⟨S8x8192x1, .f32⟩
  | 34 => ⟨S8x8192x8192, .f32⟩
  | 35 => ⟨S8x8192x8192, .f32⟩
  | 36 => ⟨S8x8192x8192, .f32⟩
  | 37 => ⟨S_, .f32⟩
  | 38 => ⟨S8x8192, .f32⟩
  | 39 => ⟨S8x8192x1, .f32⟩
  | 40 => ⟨S8x8192x1, .f32⟩
  | 41 => ⟨S8x8192x1, .f32⟩
  | 42 => ⟨S8x8192, .f32⟩
  | 43 => ⟨S8192x8, .f32⟩
  | 44 => ⟨S8192x8, .f32⟩
  | 45 => ⟨S8x8192x8192, .f32⟩
  | 46 => ⟨S8x8192x8192, .f32⟩
  | 47 => ⟨S8192x8x64, .f32⟩
  | 48 => ⟨S8x64x8192, .f32⟩
  | 49 => ⟨S8192x8x64, .f32⟩
  | 50 => ⟨S8192x512, .f32⟩
  | 51 => ⟨S8192x512, .f32⟩
  | 52 => ⟨S8192x8x64, .f32⟩
  | 53 => ⟨S_, .f32⟩
  | 54 => ⟨S8192x8, .f32⟩
  | 55 => ⟨S1x8x1, .i32⟩
  | 56 => ⟨S_, .i32⟩
  | 57 => ⟨S1x8x1, .i32⟩
  | 58 => ⟨S1x8x1, .i32⟩
  | 59 => ⟨S_, .i32⟩
  | 60 => ⟨S1x8x1, .i32⟩
  | 61 => ⟨S1x8x1, .i1⟩
  | 62 => ⟨S8192x8, .bf16⟩
  | 63 => ⟨S8192x8, .f32⟩
  | 64 => ⟨S8192x8, .f32⟩
  | 65 => ⟨S8192x8, .bf16⟩
  | 66 => ⟨S8192x8, .f32⟩
  | 67 => ⟨S8192x8, .f32⟩
  | 68 => ⟨S8192x8, .bf16⟩
  | 69 => ⟨S8192x8, .f32⟩
  | 70 => ⟨S8192x8, .f32⟩
  | 71 => ⟨S8192x8, .f32⟩
  | 72 => ⟨S8192x8x1, .f32⟩
  | 73 => ⟨S8192x8x1, .f32⟩
  | 74 => ⟨S8192x8x1, .f32⟩
  | 75 => ⟨S8192x8x3, .f32⟩
  | 76 => ⟨S8192x4x6, .f32⟩
  | 77 => ⟨S8192x4x6, .f32⟩
  | 78 => ⟨S_, .f32⟩
  | 79 => ⟨S8192x4x119, .f32⟩
  | 80 => ⟨S_, .f32⟩
  | 81 => ⟨S8192x512, .f32⟩
  | 82 => ⟨S8192x512, .f32⟩
  | 83 => ⟨S_, .f32⟩
  | 84 => ⟨S8192x8x3, .f32⟩
  | 85 => ⟨S_, .f32⟩
  | 86 => ⟨S_, .f32⟩
  | 87 => ⟨S8192x8x3, .i1⟩
  | 88 => ⟨S8192x8x3, .f32⟩
  | 89 => ⟨S8192x8x3, .f32⟩
  | 90 => ⟨S_, .f32⟩
  | 91 => ⟨S_, .f32⟩
  | 92 => ⟨S8192x8x3, .i1⟩
  | 93 => ⟨S8192x8x3, .f32⟩
  | 94 => ⟨S8192x8x3, .f32⟩
  | 95 => ⟨S8192x8x64, .f32⟩
  | 96 => ⟨S_, .f32⟩
  | 97 => ⟨S_, .f32⟩
  | 98 => ⟨S8192x8x64, .i1⟩
  | 99 => ⟨S8192x8x64, .f32⟩
  | 100 => ⟨S8192x8x64, .f32⟩
  | 101 => ⟨S_, .f32⟩
  | 102 => ⟨S_, .f32⟩
  | 103 => ⟨S8192x8x64, .i1⟩
  | 104 => ⟨S8192x8x64, .f32⟩
  | 105 => ⟨S8192x8x64, .f32⟩
  | 106 => ⟨S8192x8, .f32⟩
  | 107 => ⟨S8192x8, .bf16⟩
  | 108 => ⟨S8192x8, .f32⟩
  | 109 => ⟨S8192x8, .f32⟩
  | 110 => ⟨S8192x8, .bf16⟩
  | 111 => ⟨S8192x8, .f32⟩
  | 112 => ⟨S8192x8, .f32⟩
  | 113 => ⟨S8192x8, .bf16⟩
  | 114 => ⟨S8192x8, .f32⟩
  | 115 => ⟨S8192x8, .f32⟩
  | 116 => ⟨S8192x8, .f32⟩
  | 117 => ⟨S8192x8x1, .f32⟩
  | 118 => ⟨S8192x8x1, .f32⟩
  | 119 => ⟨S8192x8x1, .f32⟩
  | 120 => ⟨S8192x8x3, .f32⟩
  | 121 => ⟨S_, .f32⟩
  | 122 => ⟨S8192x8x119, .f32⟩
  | 123 => ⟨S8192x8x256, .f32⟩
  | 124 => ⟨S8192x2048, .f32⟩
  | 125 => ⟨S_, .f32⟩
  | 126 => ⟨S8192x8x6, .f32⟩
  | 127 => ⟨S8192x8x64, .f32⟩
  | _ => ⟨S8192x512, .f32⟩

abbrev hbmTy0_1 (i : Nat) : BufTy := match i % 128 with
  | 0 => ⟨S_, .f32⟩
  | 1 => ⟨S_, .f32⟩
  | 2 => ⟨S8192x8x64, .i1⟩
  | 3 => ⟨S8192x8x64, .f32⟩
  | 4 => ⟨S8192x8x64, .f32⟩
  | 5 => ⟨S_, .f32⟩
  | 6 => ⟨S_, .f32⟩
  | 7 => ⟨S8192x8x64, .i1⟩
  | 8 => ⟨S8192x8x64, .f32⟩
  | 9 => ⟨S8192x8x64, .f32⟩
  | 10 => ⟨S8192x8, .f32⟩
  | 11 => ⟨S8192x8, .bf16⟩
  | 12 => ⟨S8192x8, .f32⟩
  | 13 => ⟨S8192x8, .f32⟩
  | 14 => ⟨S8192x8, .bf16⟩
  | 15 => ⟨S8192x8, .f32⟩
  | 16 => ⟨S8192x8, .f32⟩
  | 17 => ⟨S8192x8, .bf16⟩
  | 18 => ⟨S8192x8, .f32⟩
  | 19 => ⟨S8192x8, .f32⟩
  | 20 => ⟨S8192x8, .f32⟩
  | 21 => ⟨S8192x8x1, .f32⟩
  | 22 => ⟨S8192x8x1, .f32⟩
  | 23 => ⟨S8192x8x1, .f32⟩
  | 24 => ⟨S8192x8x3, .f32⟩
  | 25 => ⟨S_, .f32⟩
  | 26 => ⟨S8192x8x119, .f32⟩
  | 27 => ⟨S8192x8x256, .f32⟩
  | 28 => ⟨S8192x2048, .f32⟩
  | 29 => ⟨S8192x4x128, .f32⟩
  | 30 => ⟨S_, .f32⟩
  | 31 => ⟨S8192x4x3, .f32⟩
  | 32 => ⟨S8192x4x256, .f32⟩
  | 33 => ⟨S8192x1024, .f32⟩
  | 34 => ⟨S8192x1024, .bf16⟩
  | 35 => ⟨S8192x4x128, .f32⟩
  | 36 => ⟨S_, .f32⟩
  | 37 => ⟨S8192x4x3, .f32⟩
  | 38 => ⟨S8192x4x256, .f32⟩
  | 39 => ⟨S8192x1024, .f32⟩
  | 40 => ⟨S8192x1024, .bf16⟩
  | 41 => ⟨S8192x512, .bf16⟩
  | 42 => ⟨S512x8192, .bf16⟩
  | 43 => ⟨S8192x2048, .bf16⟩
  | 44 => ⟨S8192x2048, .bf16⟩
  | 45 => ⟨S_, .f32⟩
  | 46 => ⟨S8x128, .f32⟩
  | 47 => ⟨S512x8192, .f32⟩
  | 48 => ⟨S8x8192, .f32⟩
  | 49 => ⟨S8192x512, .bf16⟩
  | 50 => ⟨S8192x512, .bf16⟩
  | 51 => ⟨S8192x128, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S8x128, .f32⟩
  | .local _ .vmem, ⟨11, _⟩ => ⟨S512x8192, .f32⟩
  | .local _ .vmem, ⟨12, _⟩ => ⟨S8x8192, .f32⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x128, .f32⟩
  | .local _ .vmem, ⟨18, _⟩ => ⟨S512x128, .f32⟩
  | .local _ .vmem, ⟨19, _⟩ => ⟨S512x512, .f32⟩
  | .local _ .vmem, ⟨20, _⟩ => ⟨S512x512, .f32⟩
  | .local _ .vmem, ⟨21, _⟩ => ⟨S512x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_3 : Ref sig .tc := ⟨.hbm, 53, rfl⟩
abbrev main_v41 : Ref sig .tc := ⟨.hbm, 54, rfl⟩
abbrev main_v42 : Ref sig .tc := ⟨.hbm, 55, rfl⟩
abbrev main_c : Ref sig .tc := ⟨.hbm, 56, rfl⟩
abbrev main_v43 : Ref sig .tc := ⟨.hbm, 57, rfl⟩
abbrev main_v44 : Ref sig .tc := ⟨.hbm, 58, rfl⟩
abbrev main_c_4 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_5 : Ref sig .tc := ⟨.hbm, 78, rfl⟩
abbrev main_v63 : Ref sig .tc := ⟨.hbm, 79, rfl⟩
abbrev main_cst_6 : Ref sig .tc := ⟨.hbm, 80, rfl⟩
abbrev main_v64 : Ref sig .tc := ⟨.hbm, 81, rfl⟩
abbrev main_v65 : Ref sig .tc := ⟨.hbm, 82, rfl⟩
abbrev main_cst_7 : Ref sig .tc := ⟨.hbm, 83, rfl⟩
abbrev main_v66 : Ref sig .tc := ⟨.hbm, 84, rfl⟩
abbrev main_cst_8 : Ref sig .tc := ⟨.hbm, 85, rfl⟩
abbrev main_call1_v0 : Ref sig .tc := ⟨.hbm, 86, rfl⟩
abbrev main_call1_v1 : Ref sig .tc := ⟨.hbm, 87, rfl⟩
abbrev main_call1_v2 : Ref sig .tc := ⟨.hbm, 88, rfl⟩
abbrev main_v67 : Ref sig .tc := ⟨.hbm, 89, rfl⟩
abbrev main_cst_9 : Ref sig .tc := ⟨.hbm, 90, rfl⟩
abbrev main_call2_v0 : Ref sig .tc := ⟨.hbm, 91, rfl⟩
abbrev main_call2_v1 : Ref sig .tc := ⟨.hbm, 92, rfl⟩
abbrev main_call2_v2 : Ref sig .tc := ⟨.hbm, 93, rfl⟩
abbrev main_v68 : Ref sig .tc := ⟨.hbm, 94, rfl⟩
abbrev main_v69 : Ref sig .tc := ⟨.hbm, 95, rfl⟩
abbrev main_cst_10 : Ref sig .tc := ⟨.hbm, 96, rfl⟩
abbrev main_call3_v0 : Ref sig .tc := ⟨.hbm, 97, rfl⟩
abbrev main_call3_v1 : Ref sig .tc := ⟨.hbm, 98, rfl⟩
abbrev main_call3_v2 : Ref sig .tc := ⟨.hbm, 99, rfl⟩
abbrev main_v70 : Ref sig .tc := ⟨.hbm, 100, rfl⟩
abbrev main_cst_11 : Ref sig .tc := ⟨.hbm, 101, rfl⟩
abbrev main_call4_v0 : Ref sig .tc := ⟨.hbm, 102, rfl⟩
abbrev main_call4_v1 : Ref sig .tc := ⟨.hbm, 103, rfl⟩
abbrev main_call4_v2 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_12 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_13 : Ref sig .tc := ⟨.hbm, 125, rfl⟩
abbrev main_v90 : Ref sig .tc := ⟨.hbm, 126, rfl⟩
abbrev main_v91 : Ref sig .tc := ⟨.hbm, 127, rfl⟩
abbrev main_cst_14 : Ref sig .tc := ⟨.hbm, 128, rfl⟩
abbrev main_call5_v0 : Ref sig .tc := ⟨.hbm, 129, rfl⟩
abbrev main_call5_v1 : Ref sig .tc := ⟨.hbm, 130, rfl⟩
abbrev main_call5_v2 : Ref sig .tc := ⟨.hbm, 131, rfl⟩
abbrev main_v92 : Ref sig .tc := ⟨.hbm, 132, rfl⟩
abbrev main_cst_15 : Ref sig .tc := ⟨.hbm, 133, rfl⟩
abbrev main_call6_v0 : Ref sig .tc := ⟨.hbm, 134, rfl⟩
abbrev main_call6_v1 : Ref sig .tc := ⟨.hbm, 135, rfl⟩
abbrev main_call6_v2 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_cst_16 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_cst_17 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_cst_18 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_cst_19 : Ref sig .tc := ⟨.hbm, 173, rfl⟩
abbrev main_v126 : Ref sig .tc := ⟨.hbm, 174, rfl⟩
abbrev main_v127_0 : Ref sig .tc := ⟨.hbm, 175, rfl⟩
abbrev main_v127_1 : Ref sig .tc := ⟨.hbm, 176, rfl⟩
abbrev main_v127_2 : Ref sig .tc := ⟨.hbm, 177, rfl⟩
abbrev main_v127_3 : Ref sig .tc := ⟨.hbm, 178, rfl⟩
abbrev main_v127_4 : Ref sig .tc := ⟨.hbm, 179, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨3, ![1, 8, 17], ![false, false, false]⟩

def k0_cond3 (i : grid0.Coords) : BitVec 1 :=
  let arg2 : BitVec 32 := BitVec.ofNat 32 (i 2).val
  let c16_i32 : BitVec 32 := 16#32
  let arg1 : BitVec 32 := BitVec.ofNat 32 (i 1).val
  let v0 : BitVec 32 := Scalar.subi c16_i32 arg1
  let v1 : BitVec 1 := Scalar.cmpi .slt arg2 v0
  let v4 : BitVec 32 := Scalar.addi arg1 arg2
  let c15_i32_0 : BitVec 32 := 15#32
  let v5 : BitVec 32 := Scalar.subi c15_i32_0 arg1
  let c16_i32_1 : BitVec 32 := 16#32
  let v6 : BitVec 32 := Scalar.subi c16_i32_1 arg1
  let v7 : BitVec 32 := Scalar.subi arg2 v6
  let v8 : BitVec 32 := Scalar.addi v5 v7
  let v9 : BitVec 32 := Scalar.select v1 v4 v8
  let c15_i32 : BitVec 32 := 15#32
  let v2 : BitVec 32 := Scalar.subi c15_i32 arg1
  let v3 : BitVec 32 := Scalar.select v1 arg1 v2
  let v20 : BitVec 1 := Scalar.cmpi .sgt v9 v3
  let v21 : BitVec 32 := Scalar.extui v20
  let c0_i32_5 : BitVec 32 := 0#32
  let v22 : BitVec 1 := Scalar.cmpi .ne v21 c0_i32_5
  v22

def k0_mult1 (i : grid0.Coords) : BitVec 32 :=
  let arg2 : BitVec 32 := BitVec.ofNat 32 (i 2).val
  let c16_i32 : BitVec 32 := 16#32
  let arg1 : BitVec 32 := BitVec.ofNat 32 (i 1).val
  let v0 : BitVec 32 := Scalar.subi c16_i32 arg1
  let v1 : BitVec 1 := Scalar.cmpi .slt arg2 v0
  let v4 : BitVec 32 := Scalar.addi arg1 arg2
  let c15_i32_0 : BitVec 32 := 15#32
  let v5 : BitVec 32 := Scalar.subi c15_i32_0 arg1
  let c16_i32_1 : BitVec 32 := 16#32
  let v6 : BitVec 32 := Scalar.subi c16_i32_1 arg1
  let v7 : BitVec 32 := Scalar.subi arg2 v6
  let v8 : BitVec 32 := Scalar.addi v5 v7
  let v9 : BitVec 32 := Scalar.select v1 v4 v8
  let c512_i32 : BitVec 32 := 512#32
  let v29 : BitVec 32 := Scalar.muli v9 c512_i32
  v29
def k0_off1 (i : grid0.Coords) : Fin 2 → Nat :=
  let c0_75 : Index := 0#32
  let arg2 : BitVec 32 := BitVec.ofNat 32 (i 2).val
  let c16_i32 : BitVec 32 := 16#32
  let arg1 : BitVec 32 := BitVec.ofNat 32 (i 1).val
  let v0 : BitVec 32 := Scalar.subi c16_i32 arg1
  let v1 : BitVec 1 := Scalar.cmpi .slt arg2 v0
  let v4 : BitVec 32 := Scalar.addi arg1 arg2
  let c15_i32_0 : BitVec 32 := 15#32
  let v5 : BitVec 32 := Scalar.subi c15_i32_0 arg1
  let c16_i32_1 : BitVec 32 := 16#32
  let v6 : BitVec 32 := Scalar.subi c16_i32_1 arg1
  let v7 : BitVec 32 := Scalar.subi arg2 v6
  let v8 : BitVec 32 := Scalar.addi v5 v7
  let v9 : BitVec 32 := Scalar.select v1 v4 v8
  let c512_i32 : BitVec 32 := 512#32
  let v29 : BitVec 32 := Scalar.muli v9 c512_i32
  let v30 : BitVec 32 := v29
  let v154 : Index := Scalar.indexCast v30
  ![0, v154.toNat]
def k0_off2 (i : grid0.Coords) : Fin 2 → Nat :=
  let c128_131 : Index := 128#32
  let arg2 : BitVec 32 := BitVec.ofNat 32 (i 2).val
  let c16_i32 : BitVec 32 := 16#32
  let arg1 : BitVec 32 := BitVec.ofNat 32 (i 1).val
  let v0 : BitVec 32 := Scalar.subi c16_i32 arg1
  let v1 : BitVec 1 := Scalar.cmpi .slt arg2 v0
  let v4 : BitVec 32 := Scalar.addi arg1 arg2
  let c15_i32_0 : BitVec 32 := 15#32
  let v5 : BitVec 32 := Scalar.subi c15_i32_0 arg1
  let c16_i32_1 : BitVec 32 := 16#32
  let v6 : BitVec 32 := Scalar.subi c16_i32_1 arg1
  let v7 : BitVec 32 := Scalar.subi arg2 v6
  let v8 : BitVec 32 := Scalar.addi v5 v7
  let v9 : BitVec 32 := Scalar.select v1 v4 v8
  let c512_i32 : BitVec 32 := 512#32
  let v29 : BitVec 32 := Scalar.muli v9 c512_i32
  let v30 : BitVec 32 := v29
  let v275 : Index := Scalar.indexCast v30
  ![128, v275.toNat]
def k0_off3 (i : grid0.Coords) : Fin 2 → Nat :=
  let c256_189 : Index := 256#32
  let arg2 : BitVec 32 := BitVec.ofNat 32 (i 2).val
  let c16_i32 : BitVec 32 := 16#32
  let arg1 : BitVec 32 := BitVec.ofNat 32 (i 1).val
  let v0 : BitVec 32 := Scalar.subi c16_i32 arg1
  let v1 : BitVec 1 := Scalar.cmpi .slt arg2 v0
  let v4 : BitVec 32 := Scalar.addi arg1 arg2
  let c15_i32_0 : BitVec 32 := 15#32
  let v5 : BitVec 32 := Scalar.subi c15_i32_0 arg1
  let c16_i32_1 : BitVec 32 := 16#32
  let v6 : BitVec 32 := Scalar.subi c16_i32_1 arg1
  let v7 : BitVec 32 := Scalar.subi arg2 v6
  let v8 : BitVec 32 := Scalar.addi v5 v7
  let v9 : BitVec 32 := Scalar.select v1 v4 v8
  let c512_i32 : BitVec 32 := 512#32
  let v29 : BitVec 32 := Scalar.muli v9 c512_i32
  let v30 : BitVec 32 := v29
  let v396 : Index := Scalar.indexCast v30
  ![256, v396.toNat]
def k0_off4 (i : grid0.Coords) : Fin 2 → Nat :=
  let c384_237 : Index := 384#32
  let arg2 : BitVec 32 := BitVec.ofNat 32 (i 2).val
  let c16_i32 : BitVec 32 := 16#32
  let arg1 : BitVec 32 := BitVec.ofNat 32 (i 1).val
  let v0 : BitVec 32 := Scalar.subi c16_i32 arg1
  let v1 : BitVec 1 := Scalar.cmpi .slt arg2 v0
  let v4 : BitVec 32 := Scalar.addi arg1 arg2
  let c15_i32_0 : BitVec 32 := 15#32
  let v5 : BitVec 32 := Scalar.subi c15_i32_0 arg1
  let c16_i32_1 : BitVec 32 := 16#32
  let v6 : BitVec 32 := Scalar.subi c16_i32_1 arg1
  let v7 : BitVec 32 := Scalar.subi arg2 v6
  let v8 : BitVec 32 := Scalar.addi v5 v7
  let v9 : BitVec 32 := Scalar.select v1 v4 v8
  let c512_i32 : BitVec 32 := 512#32
  let v29 : BitVec 32 := Scalar.muli v9 c512_i32
  let v30 : BitVec 32 := v29
  let v507 : Index := Scalar.indexCast v30
  ![384, v507.toNat]
def k0_off5 (i : grid0.Coords) : Fin 2 → Nat :=
  let c0_244 : Index := 0#32
  let arg2 : BitVec 32 := BitVec.ofNat 32 (i 2).val
  let c16_i32 : BitVec 32 := 16#32
  let arg1 : BitVec 32 := BitVec.ofNat 32 (i 1).val
  let v0 : BitVec 32 := Scalar.subi c16_i32 arg1
  let v1 : BitVec 1 := Scalar.cmpi .slt arg2 v0
  let v4 : BitVec 32 := Scalar.addi arg1 arg2
  let c15_i32_0 : BitVec 32 := 15#32
  let v5 : BitVec 32 := Scalar.subi c15_i32_0 arg1
  let c16_i32_1 : BitVec 32 := 16#32
  let v6 : BitVec 32 := Scalar.subi c16_i32_1 arg1
  let v7 : BitVec 32 := Scalar.subi arg2 v6
  let v8 : BitVec 32 := Scalar.addi v5 v7
  let v9 : BitVec 32 := Scalar.select v1 v4 v8
  let c512_i32 : BitVec 32 := 512#32
  let v29 : BitVec 32 := Scalar.muli v9 c512_i32
  let v30 : BitVec 32 := v29
  let v523 : Index := Scalar.indexCast v30
  ![0, v523.toNat]
def k0_cond4 (i : grid0.Coords) : BitVec 1 :=
  let arg2 : BitVec 32 := BitVec.ofNat 32 (i 2).val
  let c16_i32 : BitVec 32 := 16#32
  let arg1 : BitVec 32 := BitVec.ofNat 32 (i 1).val
  let v0 : BitVec 32 := Scalar.subi c16_i32 arg1
  let v1 : BitVec 1 := Scalar.cmpi .slt arg2 v0
  let v4 : BitVec 32 := Scalar.addi arg1 arg2
  let c15_i32_0 : BitVec 32 := 15#32
  let v5 : BitVec 32 := Scalar.subi c15_i32_0 arg1
  let c16_i32_1 : BitVec 32 := 16#32
  let v6 : BitVec 32 := Scalar.subi c16_i32_1 arg1
  let v7 : BitVec 32 := Scalar.subi arg2 v6
  let v8 : BitVec 32 := Scalar.addi v5 v7
  let v9 : BitVec 32 := Scalar.select v1 v4 v8
  let c15_i32 : BitVec 32 := 15#32
  let v2 : BitVec 32 := Scalar.subi c15_i32 arg1
  let v3 : BitVec 32 := Scalar.select v1 arg1 v2
  let v23 : BitVec 1 := Scalar.cmpi .eq v9 v3
  let v24 : BitVec 32 := Scalar.extui v23
  let c0_i32_6 : BitVec 32 := 0#32
  let v25 : BitVec 1 := Scalar.cmpi .ne v24 c0_i32_6
  v25

def k0_mult2 (i : grid0.Coords) : BitVec 32 :=
  let arg2 : BitVec 32 := BitVec.ofNat 32 (i 2).val
  let c16_i32 : BitVec 32 := 16#32
  let arg1 : BitVec 32 := BitVec.ofNat 32 (i 1).val
  let v0 : BitVec 32 := Scalar.subi c16_i32 arg1
  let v1 : BitVec 1 := Scalar.cmpi .slt arg2 v0
  let v4 : BitVec 32 := Scalar.addi arg1 arg2
  let c15_i32_0 : BitVec 32 := 15#32
  let v5 : BitVec 32 := Scalar.subi c15_i32_0 arg1
  let c16_i32_1 : BitVec 32 := 16#32
  let v6 : BitVec 32 := Scalar.subi c16_i32_1 arg1
  let v7 : BitVec 32 := Scalar.subi arg2 v6
  let v8 : BitVec 32 := Scalar.addi v5 v7
  let v9 : BitVec 32 := Scalar.select v1 v4 v8
  let c512_i32 : BitVec 32 := 512#32
  let v29 : BitVec 32 := Scalar.muli v9 c512_i32
  v29
def k0_off6 (i : grid0.Coords) : Fin 2 → Nat :=
  let c0_77 : Index := 0#32
  let arg2 : BitVec 32 := BitVec.ofNat 32 (i 2).val
  let c16_i32 : BitVec 32 := 16#32
  let arg1 : BitVec 32 := BitVec.ofNat 32 (i 1).val
  let v0 : BitVec 32 := Scalar.subi c16_i32 arg1
  let v1 : BitVec 1 := Scalar.cmpi .slt arg2 v0
  let v4 : BitVec 32 := Scalar.addi arg1 arg2
  let c15_i32_0 : BitVec 32 := 15#32
  let v5 : BitVec 32 := Scalar.subi c15_i32_0 arg1
  let c16_i32_1 : BitVec 32 := 16#32
  let v6 : BitVec 32 := Scalar.subi c16_i32_1 arg1
  let v7 : BitVec 32 := Scalar.subi arg2 v6
  let v8 : BitVec 32 := Scalar.addi v5 v7
  let v9 : BitVec 32 := Scalar.select v1 v4 v8
  let c512_i32 : BitVec 32 := 512#32
  let v29 : BitVec 32 := Scalar.muli v9 c512_i32
  let v30 : BitVec 32 := v29
  let v161 : Index := Scalar.indexCast v30
  ![0, v161.toNat]
def k0_off7 (i : grid0.Coords) : Fin 2 → Nat :=
  let c128_135 : Index := 128#32
  let arg2 : BitVec 32 := BitVec.ofNat 32 (i 2).val
  let c16_i32 : BitVec 32 := 16#32
  let arg1 : BitVec 32 := BitVec.ofNat 32 (i 1).val
  let v0 : BitVec 32 := Scalar.subi c16_i32 arg1
  let v1 : BitVec 1 := Scalar.cmpi .slt arg2 v0
  let v4 : BitVec 32 := Scalar.addi arg1 arg2
  let c15_i32_0 : BitVec 32 := 15#32
  let v5 : BitVec 32 := Scalar.subi c15_i32_0 arg1
  let c16_i32_1 : BitVec 32 := 16#32
  let v6 : BitVec 32 := Scalar.subi c16_i32_1 arg1
  let v7 : BitVec 32 := Scalar.subi arg2 v6
  let v8 : BitVec 32 := Scalar.addi v5 v7
  let v9 : BitVec 32 := Scalar.select v1 v4 v8
  let c512_i32 : BitVec 32 := 512#32
  let v29 : BitVec 32 := Scalar.muli v9 c512_i32
  let v30 : BitVec 32 := v29
  let v286 : Index := Scalar.indexCast v30
  ![128, v286.toNat]
def k0_off8 (i : grid0.Coords) : Fin 2 → Nat :=
  let c256_195 : Index := 256#32
  let arg2 : BitVec 32 := BitVec.ofNat 32 (i 2).val
  let c16_i32 : BitVec 32 := 16#32
  let arg1 : BitVec 32 := BitVec.ofNat 32 (i 1).val
  let v0 : BitVec 32 := Scalar.subi c16_i32 arg1
  let v1 : BitVec 1 := Scalar.cmpi .slt arg2 v0
  let v4 : BitVec 32 := Scalar.addi arg1 arg2
  let c15_i32_0 : BitVec 32 := 15#32
  let v5 : BitVec 32 := Scalar.subi c15_i32_0 arg1
  let c16_i32_1 : BitVec 32 := 16#32
  let v6 : BitVec 32 := Scalar.subi c16_i32_1 arg1
  let v7 : BitVec 32 := Scalar.subi arg2 v6
  let v8 : BitVec 32 := Scalar.addi v5 v7
  let v9 : BitVec 32 := Scalar.select v1 v4 v8
  let c512_i32 : BitVec 32 := 512#32
  let v29 : BitVec 32 := Scalar.muli v9 c512_i32
  let v30 : BitVec 32 := v29
  let v411 : Index := Scalar.indexCast v30
  ![256, v411.toNat]
def k0_off9 (i : grid0.Coords) : Fin 2 → Nat :=
  let c384_245 : Index := 384#32
  let arg2 : BitVec 32 := BitVec.ofNat 32 (i 2).val
  let c16_i32 : BitVec 32 := 16#32
  let arg1 : BitVec 32 := BitVec.ofNat 32 (i 1).val
  let v0 : BitVec 32 := Scalar.subi c16_i32 arg1
  let v1 : BitVec 1 := Scalar.cmpi .slt arg2 v0
  let v4 : BitVec 32 := Scalar.addi arg1 arg2
  let c15_i32_0 : BitVec 32 := 15#32
  let v5 : BitVec 32 := Scalar.subi c15_i32_0 arg1
  let c16_i32_1 : BitVec 32 := 16#32
  let v6 : BitVec 32 := Scalar.subi c16_i32_1 arg1
  let v7 : BitVec 32 := Scalar.subi arg2 v6
  let v8 : BitVec 32 := Scalar.addi v5 v7
  let v9 : BitVec 32 := Scalar.select v1 v4 v8
  let c512_i32 : BitVec 32 := 512#32
  let v29 : BitVec 32 := Scalar.muli v9 c512_i32
  let v30 : BitVec 32 := v29
  let v526 : Index := Scalar.indexCast v30
  ![384, v526.toNat]
def k0_off10 (i : grid0.Coords) : Fin 2 → Nat :=
  let c0_252 : Index := 0#32
  let arg2 : BitVec 32 := BitVec.ofNat 32 (i 2).val
  let c16_i32 : BitVec 32 := 16#32
  let arg1 : BitVec 32 := BitVec.ofNat 32 (i 1).val
  let v0 : BitVec 32 := Scalar.subi c16_i32 arg1
  let v1 : BitVec 1 := Scalar.cmpi .slt arg2 v0
  let v4 : BitVec 32 := Scalar.addi arg1 arg2
  let c15_i32_0 : BitVec 32 := 15#32
  let v5 : BitVec 32 := Scalar.subi c15_i32_0 arg1
  let c16_i32_1 : BitVec 32 := 16#32
  let v6 : BitVec 32 := Scalar.subi c16_i32_1 arg1
  let v7 : BitVec 32 := Scalar.subi arg2 v6
  let v8 : BitVec 32 := Scalar.addi v5 v7
  let v9 : BitVec 32 := Scalar.select v1 v4 v8
  let c512_i32 : BitVec 32 := 512#32
  let v29 : BitVec 32 := Scalar.muli v9 c512_i32
  let v30 : BitVec 32 := v29
  let v542 : Index := Scalar.indexCast v30
  ![0, v542.toNat]
def k0_cond1 (i : grid0.Coords) : BitVec 1 :=
  let arg1 : BitVec 32 := BitVec.ofNat 32 (i 1).val
  let c0_i32 : BitVec 32 := 0#32
  let v12 : BitVec 1 := Scalar.cmpi .eq arg1 c0_i32
  let arg2 : BitVec 32 := BitVec.ofNat 32 (i 2).val
  let c0_i32_2 : BitVec 32 := 0#32
  let v13 : BitVec 1 := Scalar.cmpi .eq arg2 c0_i32_2
  let v14 : BitVec 1 := Scalar.andi v12 v13
  let v15 : BitVec 32 := Scalar.extui v14
  let c0_i32_3 : BitVec 32 := 0#32
  let v16 : BitVec 1 := Scalar.cmpi .ne v15 c0_i32_3
  v16

def k0_cond5 (i : grid0.Coords) : BitVec 1 :=
  let arg2 : BitVec 32 := BitVec.ofNat 32 (i 2).val
  let c16_i32 : BitVec 32 := 16#32
  let arg1 : BitVec 32 := BitVec.ofNat 32 (i 1).val
  let v0 : BitVec 32 := Scalar.subi c16_i32 arg1
  let v1 : BitVec 1 := Scalar.cmpi .slt arg2 v0
  let v4 : BitVec 32 := Scalar.addi arg1 arg2
  let c15_i32_0 : BitVec 32 := 15#32
  let v5 : BitVec 32 := Scalar.subi c15_i32_0 arg1
  let c16_i32_1 : BitVec 32 := 16#32
  let v6 : BitVec 32 := Scalar.subi c16_i32_1 arg1
  let v7 : BitVec 32 := Scalar.subi arg2 v6
  let v8 : BitVec 32 := Scalar.addi v5 v7
  let v9 : BitVec 32 := Scalar.select v1 v4 v8
  let c15_i32_7 : BitVec 32 := 15#32
  let v26 : BitVec 1 := Scalar.cmpi .eq v9 c15_i32_7
  let v27 : BitVec 32 := Scalar.extui v26
  let c0_i32_8 : BitVec 32 := 0#32
  let v28 : BitVec 1 := Scalar.cmpi .ne v27 c0_i32_8
  v28

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.subi c16_i32 arg1
  let v1 : BitVec 1 := Scalar.cmpi .slt arg2 v0
  let c15_i32 : BitVec 32 := 15#32
  let v2 : BitVec 32 := Scalar.subi c15_i32 arg1
  let v3 : BitVec 32 := Scalar.select v1 arg1 v2
  let v4 : BitVec 32 := Scalar.addi arg1 arg2
  let c15_i32_0 : BitVec 32 := 15#32
  let v5 : BitVec 32 := Scalar.subi c15_i32_0 arg1
  let c16_i32_1 : BitVec 32 := 16#32
  let v6 : BitVec 32 := Scalar.subi c16_i32_1 arg1
  let v7 : BitVec 32 := Scalar.subi arg2 v6
  let v8 : BitVec 32 := Scalar.addi v5 v7
  let v9 : BitVec 32 := Scalar.select v1 v4 v8
  let c0_i32 : BitVec 32 := 0#32
  ![v3.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.subi c16_i32 arg1
  let v1 : BitVec 1 := Scalar.cmpi .slt arg2 v0
  let c15_i32 : BitVec 32 := 15#32
  let v2 : BitVec 32 := Scalar.subi c15_i32 arg1
  let v3 : BitVec 32 := Scalar.select v1 arg1 v2
  let v4 : BitVec 32 := Scalar.addi arg1 arg2
  let c15_i32_0 : BitVec 32 := 15#32
  let v5 : BitVec 32 := Scalar.subi c15_i32_0 arg1
  let c16_i32_1 : BitVec 32 := 16#32
  let v6 : BitVec 32 := Scalar.subi c16_i32_1 arg1
  let v7 : BitVec 32 := Scalar.subi arg2 v6
  let v8 : BitVec 32 := Scalar.addi v5 v7
  let v9 : BitVec 32 := Scalar.select v1 v4 v8
  let c0_i32 : BitVec 32 := 0#32
  ![v3.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.subi c16_i32 arg1
  let v1 : BitVec 1 := Scalar.cmpi .slt arg2 v0
  let c15_i32 : BitVec 32 := 15#32
  let v2 : BitVec 32 := Scalar.subi c15_i32 arg1
  let v3 : BitVec 32 := Scalar.select v1 arg1 v2
  let v4 : BitVec 32 := Scalar.addi arg1 arg2
  let c15_i32_0 : BitVec 32 := 15#32
  let v5 : BitVec 32 := Scalar.subi c15_i32_0 arg1
  let c16_i32_1 : BitVec 32 := 16#32
  let v6 : BitVec 32 := Scalar.subi c16_i32_1 arg1
  let v7 : BitVec 32 := Scalar.subi arg2 v6
  let v8 : BitVec 32 := Scalar.addi v5 v7
  let v9 : BitVec 32 := Scalar.select v1 v4 v8
  let c0_i32 : BitVec 32 := 0#32
  ![arg0.toNat, v3.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.subi c16_i32 arg1
  let v1 : BitVec 1 := Scalar.cmpi .slt arg2 v0
  let c15_i32 : BitVec 32 := 15#32
  let v2 : BitVec 32 := Scalar.subi c15_i32 arg1
  let v3 : BitVec 32 := Scalar.select v1 arg1 v2
  let v4 : BitVec 32 := Scalar.addi arg1 arg2
  let c15_i32_0 : BitVec 32 := 15#32
  let v5 : BitVec 32 := Scalar.subi c15_i32_0 arg1
  let c16_i32_1 : BitVec 32 := 16#32
  let v6 : BitVec 32 := Scalar.subi c16_i32_1 arg1
  let v7 : BitVec 32 := Scalar.subi arg2 v6
  let v8 : BitVec 32 := Scalar.addi v5 v7
  let v9 : BitVec 32 := Scalar.select v1 v4 v8
  let c0_i32 : BitVec 32 := 0#32
  ![v9.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.subi c16_i32 arg1
  let v1 : BitVec 1 := Scalar.cmpi .slt arg2 v0
  let c15_i32 : BitVec 32 := 15#32
  let v2 : BitVec 32 := Scalar.subi c15_i32 arg1
  let v3 : BitVec 32 := Scalar.select v1 arg1 v2
  let v4 : BitVec 32 := Scalar.addi arg1 arg2
  let c15_i32_0 : BitVec 32 := 15#32
  let v5 : BitVec 32 := Scalar.subi c15_i32_0 arg1
  let c16_i32_1 : BitVec 32 := 16#32
  let v6 : BitVec 32 := Scalar.subi c16_i32_1 arg1
  let v7 : BitVec 32 := Scalar.subi arg2 v6
  let v8 : BitVec 32 := Scalar.addi v5 v7
  let v9 : BitVec 32 := Scalar.select v1 v4 v8
  let c0_i32 : BitVec 32 := 0#32
  ![v9.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.subi c16_i32 arg1
  let v1 : BitVec 1 := Scalar.cmpi .slt arg2 v0
  let c15_i32 : BitVec 32 := 15#32
  let v2 : BitVec 32 := Scalar.subi c15_i32 arg1
  let v3 : BitVec 32 := Scalar.select v1 arg1 v2
  let v4 : BitVec 32 := Scalar.addi arg1 arg2
  let c15_i32_0 : BitVec 32 := 15#32
  let v5 : BitVec 32 := Scalar.subi c15_i32_0 arg1
  let c16_i32_1 : BitVec 32 := 16#32
  let v6 : BitVec 32 := Scalar.subi c16_i32_1 arg1
  let v7 : BitVec 32 := Scalar.subi arg2 v6
  let v8 : BitVec 32 := Scalar.addi v5 v7
  let v9 : BitVec 32 := Scalar.select v1 v4 v8
  let c0_i32 : BitVec 32 := 0#32
  ![v3.toNat, arg0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.subi c16_i32 arg1
  let v1 : BitVec 1 := Scalar.cmpi .slt arg2 v0
  let c15_i32 : BitVec 32 := 15#32
  let v2 : BitVec 32 := Scalar.subi c15_i32 arg1
  let v3 : BitVec 32 := Scalar.select v1 arg1 v2
  let v4 : BitVec 32 := Scalar.addi arg1 arg2
  let c15_i32_0 : BitVec 32 := 15#32
  let v5 : BitVec 32 := Scalar.subi c15_i32_0 arg1
  let c16_i32_1 : BitVec 32 := 16#32
  let v6 : BitVec 32 := Scalar.subi c16_i32_1 arg1
  let v7 : BitVec 32 := Scalar.subi arg2 v6
  let v8 : BitVec 32 := Scalar.addi v5 v7
  let v9 : BitVec 32 := Scalar.select v1 v4 v8
  let c0_i32 : BitVec 32 := 0#32
  ![v3.toNat, arg0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.subi c16_i32 arg1
  let v1 : BitVec 1 := Scalar.cmpi .slt arg2 v0
  let c15_i32 : BitVec 32 := 15#32
  let v2 : BitVec 32 := Scalar.subi c15_i32 arg1
  let v3 : BitVec 32 := Scalar.select v1 arg1 v2
  let v4 : BitVec 32 := Scalar.addi arg1 arg2
  let c15_i32_0 : BitVec 32 := 15#32
  let v5 : BitVec 32 := Scalar.subi c15_i32_0 arg1
  let c16_i32_1 : BitVec 32 := 16#32
  let v6 : BitVec 32 := Scalar.subi c16_i32_1 arg1
  let v7 : BitVec 32 := Scalar.subi arg2 v6
  let v8 : BitVec 32 := Scalar.addi v5 v7
  let v9 : BitVec 32 := Scalar.select v1 v4 v8
  let c0_i32 : BitVec 32 := 0#32
  let c0_i32_2 : BitVec 32 := 0#32
  ![v3.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S512x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false, false]

abbrev stage0_7 : Fin 1 → Memref sig .tc .vmem S8x8192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true, true]
-- ==== RAttnIdeal.lean ====
abbrev S8192x512 : Shape := ⟨2, ![8192, 512]⟩
abbrev S8192x8 : Shape := ⟨2, ![8192, 8]⟩
abbrev S8192x8x64 : Shape := ⟨3, ![8192, 8, 64]⟩
abbrev S_ : Shape := ⟨0, ![]⟩
abbrev S8x8192x8192 : Shape := ⟨3, ![8, 8192, 8192]⟩
abbrev S8x8192 : Shape := ⟨2, ![8, 8192]⟩
abbrev S8x8192x1 : Shape := ⟨3, ![8, 8192, 1]⟩
abbrev S8x1x8192 : Shape := ⟨3, ![8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x64x8192 : Shape := ⟨3, ![8, 64, 8192]⟩
abbrev S8x8192x64 : Shape := ⟨3, ![8, 8192, 64]⟩
abbrev S512x8192 : Shape := ⟨2, ![512, 8192]⟩
abbrev S8192x128 : Shape := ⟨2, ![8192, 128]⟩

abbrev nBuf : Space → Nat
  | .hbm => 104
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x8, .f32⟩
  | .hbm, ⟨4, _⟩ => ⟨S8192x512, .f32⟩
  | .hbm, ⟨5, _⟩ => ⟨S8192x8x64, .f32⟩
  | .hbm, ⟨6, _⟩ => ⟨S_, .f32⟩
  | .hbm, ⟨7, _⟩ => ⟨S8192x8x64, .f32⟩
  | .hbm, ⟨8, _⟩ => ⟨S8192x8x64, .f32⟩
  | .hbm, ⟨9, _⟩ => ⟨S8192x8x64, .f32⟩
  | .hbm, ⟨10, _⟩ => ⟨S8x8192x8192, .f32⟩
  | .hbm, ⟨11, _⟩ => ⟨S8x8192, .f32⟩
  | .hbm, ⟨12, _⟩ => ⟨S8x8192x1, .f32⟩
  | .hbm, ⟨13, _⟩ => ⟨S8x8192x8192, .f32⟩
  | .hbm, ⟨14, _⟩ => ⟨S8x8192x8192, .f32⟩
  | .hbm, ⟨15, _⟩ => ⟨S8x8192, .f32⟩
  | .hbm, ⟨16, _⟩ => ⟨S8x1x8192, .f32⟩
  | .hbm, ⟨17, _⟩ => ⟨S8x8192x8192, .f32⟩
  | .hbm, ⟨18, _⟩ => ⟨S8x8192x8192, .f32⟩
  | .hbm, ⟨19, _⟩ => ⟨S8192, .i32⟩
  | .hbm, ⟨20, _⟩ => ⟨S1x8192, .i32⟩
  | .hbm, ⟨21, _⟩ => ⟨S8192x1, .i32⟩
  | .hbm, ⟨22, _⟩ => ⟨S8192x8192, .i32⟩
  | .hbm, ⟨23, _⟩ => ⟨S8192x8192, .i32⟩
  | .hbm, ⟨24, _⟩ => ⟨S8192x8192, .i1⟩
  | .hbm, ⟨25, _⟩ => ⟨S1x8192x8192, .i1⟩
  | .hbm, ⟨26, _⟩ => ⟨S_, .f32⟩
  | .hbm, ⟨27, _⟩ => ⟨S_, .f32⟩
  | .hbm, ⟨28, _⟩ => ⟨S8x8192x8192, .i1⟩
  | .hbm, ⟨29, _⟩ => ⟨S8x8192x8192, .f32⟩
  | .hbm, ⟨30, _⟩ => ⟨S8x8192x8192, .f32⟩
  | .hbm, ⟨31, _⟩ => ⟨S_, .f32⟩
  | .hbm, ⟨32, _⟩ => ⟨S8x8192x8192, .f32⟩
  | .hbm, ⟨33, _⟩ => ⟨S_, .f32⟩
  | .hbm, ⟨34, _⟩ => ⟨S8x8192, .f32⟩
  | .hbm, ⟨35, _⟩ => ⟨S8x8192x1, .f32⟩
  | .hbm, ⟨36, _⟩ => ⟨S8x8192x8192, .f32⟩
  | .hbm, ⟨37, _⟩ => ⟨S8x8192x8192, .f32⟩
  | .hbm, ⟨38, _⟩ => ⟨S8x8192x8192, .f32⟩
  | .hbm, ⟨39, _⟩ => ⟨S_, .f32⟩
  | .hbm, ⟨40, _⟩ => ⟨S8x8192, .f32⟩
  | .hbm, ⟨41, _⟩ => ⟨S8x8192x1, .f32⟩
  | .hbm, ⟨42, _⟩ => ⟨S8x8192x8192, .f32⟩
  | .hbm, ⟨43, _⟩ => ⟨S8x8192x8192, .f32⟩
  | .hbm, ⟨44, _⟩ => ⟨S8x8192x1, .f32⟩
  | .hbm, ⟨45, _⟩ => ⟨S_, .f32⟩
  | .hbm, ⟨46, _⟩ => ⟨S8x8192x1, .f32⟩
  | .hbm, ⟨47, _⟩ => ⟨S8x8192x1, .f32⟩
  | .hbm, ⟨48, _⟩ => ⟨S8192x8x64, .f32⟩
  | .hbm, ⟨49, _⟩ => ⟨S8x64x8192, .f32⟩
  | .hbm, ⟨50, _⟩ => ⟨S8192x8x64, .f32⟩
  | .hbm, ⟨51, _⟩ => ⟨S8192x512, .f32⟩
  | .hbm, ⟨52, _⟩ => ⟨S8192x8x64, .f32⟩
  | .hbm, ⟨53, _⟩ => ⟨S8x64x8192, .f32⟩
  | .hbm, ⟨54, _⟩ => ⟨S8x8192x8192, .f32⟩
  | .hbm, ⟨55, _⟩ => ⟨S8x64x8192, .f32⟩
  | .hbm, ⟨56, _⟩ => ⟨S8192x8x64, .f32⟩
  | .hbm, ⟨57, _⟩ => ⟨S8192x512, .f32⟩
  | .hbm, ⟨58, _⟩ => ⟨S8x8192x8192, .f32⟩
  | .hbm, ⟨59, _⟩ => ⟨S8x8192x8192, .f32⟩
  | .hbm, ⟨60, _⟩ => ⟨S8x8192x8192, .f32⟩
  | .hbm, ⟨61, _⟩ => ⟨S_, .f32⟩
  | .hbm, ⟨62, _⟩ => ⟨S8x8192, .f32⟩
  | .hbm, ⟨63, _⟩ => ⟨S8x8192x1, .f32⟩
  | .hbm, ⟨64, _⟩ => ⟨S8x8192x1, .f32⟩
  | .hbm, ⟨65, _⟩ => ⟨S8x8192x8192, .f32⟩
  | .hbm, ⟨66, _⟩ => ⟨S8x8192x8192, .f32⟩
  | .hbm, ⟨67, _⟩ => ⟨S_, .f32⟩
  | .hbm, ⟨68, _⟩ => ⟨S8x8192, .f32⟩
  | .hbm, ⟨69, _⟩ => ⟨S8x8192x8192, .f32⟩
  | .hbm, ⟨70, _⟩ => ⟨S8x8192x8192, .f32⟩
  | .hbm, ⟨71, _⟩ => ⟨S8x8192x8192, .f32⟩
  | .hbm, ⟨72, _⟩ => ⟨S_, .f32⟩
  | .hbm, ⟨73, _⟩ => ⟨S8x8192x8192, .f32⟩
  | .hbm, ⟨74, _⟩ => ⟨S8x8192x8192, .f32⟩
  | .hbm, ⟨75, _⟩ => ⟨S8x8192x8192, .f32⟩
  | .hbm, ⟨76, _⟩ => ⟨S_, .f32⟩
  | .hbm, ⟨77, _⟩ => ⟨S8x8192, .f32⟩
  | .hbm, ⟨78, _⟩ => ⟨S8x1x8192, .f32⟩
  | .hbm, ⟨79, _⟩ => ⟨S_, .f32⟩
  | .hbm, ⟨80, _⟩ => ⟨S8x8192, .f32⟩
  | .hbm, ⟨81, _⟩ => ⟨S8192x8, .f32⟩
  | .hbm, ⟨82, _⟩ => ⟨S_, .f32⟩
  | .hbm, ⟨83, _⟩ => ⟨S8x8192, .f32⟩
  | .hbm, ⟨84, _⟩ => ⟨S8x8192x1, .f32⟩
  | .hbm, ⟨85, _⟩ => ⟨S_, .f32⟩
  | .hbm, ⟨86, _⟩ => ⟨S8x8192, .f32⟩
  | .hbm, ⟨87, _⟩ => ⟨S8192x8, .f32⟩
  | .hbm, ⟨88, _⟩ => ⟨S8x8192x64, .f32⟩
  | .hbm, ⟨89, _⟩ => ⟨S8192x8x64, .f32⟩
  | .hbm, ⟨90, _⟩ => ⟨S8x8192x64, .f32⟩
  | .hbm, ⟨91, _⟩ => ⟨S8192x8x64, .f32⟩
  | .hbm, ⟨92, _⟩ => ⟨S8192x512, .f32⟩
  | .hbm, ⟨93, _⟩ => ⟨S_, .f32⟩
  | .hbm, ⟨94, _⟩ => ⟨S8192x8x64, .f32⟩
  | .hbm, ⟨95, _⟩ => ⟨S8192x8x64, .f32⟩
  | .hbm, ⟨96, _⟩ => ⟨S8192x512, .f32⟩
  | .hbm, ⟨97, _⟩ => ⟨S512x8192, .f32⟩
  | .hbm, ⟨98, _⟩ => ⟨S8x8192, .f32⟩
  | .hbm, ⟨99, _⟩ => ⟨S8192x512, .bf16⟩
  | .hbm, ⟨100, _⟩ => ⟨S8192x512, .bf16⟩
  | .hbm, ⟨101, _⟩ => ⟨S_, .i32⟩
  | .hbm, ⟨102, _⟩ => ⟨S_, .f32⟩
  | .hbm, ⟨103, _⟩ => ⟨S8192x128, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_call0_v0 : Ref sig .tc := ⟨.hbm, 27, rfl⟩
abbrev main_v20_1 : Ref sig .tc := ⟨.hbm, 28, rfl⟩
abbrev main_call0_v2 : Ref sig .tc := ⟨.hbm, 29, rfl⟩
abbrev main_v20_0 : Ref sig .tc := ⟨.hbm, 30, rfl⟩
abbrev main_call0_cst : Ref sig .tc := ⟨.hbm, 31, rfl⟩
abbrev main_v20_2 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_4 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_5 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_call1_cst : Ref sig .tc := ⟨.hbm, 72, rfl⟩
abbrev main_call1_v0 : Ref sig .tc := ⟨.hbm, 73, rfl⟩
abbrev main_v55 : Ref sig .tc := ⟨.hbm, 74, rfl⟩
abbrev main_v56 : Ref sig .tc := ⟨.hbm, 75, rfl⟩
abbrev main_cst_6 : Ref sig .tc := ⟨.hbm, 76, rfl⟩
abbrev main_v57 : Ref sig .tc := ⟨.hbm, 77, rfl⟩
abbrev main_v58 : Ref sig .tc := ⟨.hbm, 78, rfl⟩
abbrev main_cst_7 : Ref sig .tc := ⟨.hbm, 79, rfl⟩
abbrev main_v59 : Ref sig .tc := ⟨.hbm, 80, rfl⟩
abbrev main_v60 : Ref sig .tc := ⟨.hbm, 81, rfl⟩
abbrev main_cst_8 : Ref sig .tc := ⟨.hbm, 82, rfl⟩
abbrev main_v61 : Ref sig .tc := ⟨.hbm, 83, rfl⟩
abbrev main_v62 : Ref sig .tc := ⟨.hbm, 84, rfl⟩
abbrev main_cst_9 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_10 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_c : Ref sig .tc := ⟨.hbm, 101, rfl⟩
abbrev main_call2_v0 : Ref sig .tc := ⟨.hbm, 102, rfl⟩
abbrev main_v77 : Ref sig .tc := ⟨.hbm, 103, rfl⟩

abbrev nD : Nat := 1
abbrev τ : Topo := Topo.v7x

variable {F : FTy → Type} [FloatOps F]
-- ==== KFfnf.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩
abbrev S8x512x1024 : Shape := ⟨3, ![8, 512, 1024]⟩
abbrev S8192x4096 : Shape := ⟨2, ![8192, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩
abbrev S1x512x1024 : Shape := ⟨3, ![1, 512, 1024]⟩

abbrev nBuf : Space → Nat
  | .hbm => 14
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S1x1024, .f32⟩
  | .hbm, ⟨5, _⟩ => ⟨S1024x4096, .bf16⟩
  | .hbm, ⟨6, _⟩ => ⟨S1024x8x512, .bf16⟩
  | .hbm, ⟨7, _⟩ => ⟨S8x1024x512, .bf16⟩
  | .hbm, ⟨8, _⟩ => ⟨S4096x1024, .bf16⟩
  | .hbm, ⟨9, _⟩ => ⟨S8x512x1024, .bf16⟩
  | .hbm, ⟨10, _⟩ => ⟨S8192x1024, .bf16⟩
  | .hbm, ⟨11, _⟩ => ⟨S8192x4096, .bf16⟩
  | .hbm, ⟨12, _⟩ => ⟨S8192x1024, .f32⟩
  | .hbm, ⟨13, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x1024x512, .bf16⟩
  | .local _ .vmem, ⟨4, _⟩ => ⟨S8x512x1024, .bf16⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S512x4096, .bf16⟩
  | .local _ .vmem, ⟨9, _⟩ => ⟨S512x4096, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RFfnfIdeal.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩

abbrev nBuf : Space → Nat
  | .hbm => 44
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S1x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S8192x4096, .f32⟩
  | .hbm, ⟨25, _⟩ => ⟨S8192x1024, .f32⟩
  | .hbm, ⟨26, _⟩ => ⟨S8192x1024, .bf16⟩
  | .hbm, ⟨27, _⟩ => ⟨S8192x4096, .bf16⟩
  | .hbm, ⟨28, _⟩ => ⟨S8192x1024, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_cst : Ref sig .tc := ⟨.hbm, 21, rfl⟩
abbrev main_call0_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== KInprojf.lean ====
abbrev S8192x1024 : Shape := ⟨2, ![8192, 1024]⟩
abbrev S1x1024 : Shape := ⟨2, ![1, 1024]⟩
abbrev S1024x2568 : Shape := ⟨2, ![1024, 2568]⟩
abbrev S2568x1024 : Shape := ⟨2, ![2568, 1024]⟩
abbrev S1536x1024 : Shape := ⟨2, ![1536, 1024]⟩
abbrev S1024x1024 : Shape := ⟨2, ![1024, 1024]⟩
abbrev S8x1024 : Shape := ⟨2, ![8, 1024]⟩
abbrev S_ : Shape := ⟨0, ![]⟩
abbrev S120x1024 : Shape := ⟨2, ![120, 1024]⟩
abbrev S2688x1024 : Shape := ⟨2, ![2688, 1024]⟩
abbrev S8192x1536 : Shape := ⟨2, ![8192, 1536]⟩
abbrev S512x8192 : Shape := ⟨2, ![512, 8192]⟩
abbrev S1024x8192 : Shape := ⟨2, ![1024, 8192]⟩
abbrev S8192x128 : Shape := ⟨2, ![8192, 128]⟩
abbrev S512x1024 : Shape := ⟨2, ![512, 1024]⟩
abbrev S512x1536 : Shape := ⟨2, ![512, 1536]⟩
abbrev S512x512 : Shape := ⟨2, ![512, 512]⟩
abbrev S1024x512 : Shape := ⟨2, ![1024, 512]⟩
abbrev S512x128 : Shape := ⟨2, ![512, 128]⟩
abbrev S512 : Shape := ⟨1, ![512]⟩
abbrev S512x1 : Shape := ⟨2, ![512, 1]⟩
abbrev S64x512 : Shape := ⟨2, ![64, 512]⟩
abbrev S128x1024 : Shape := ⟨2, ![128, 1024]⟩

abbrev nBuf : Space → Nat
  | .hbm => 17
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2568, .f32⟩
  | .hbm, ⟨3, _⟩ => ⟨S2568x1024, .f32⟩
  | .hbm, ⟨4, _⟩ => ⟨S2568x1024, .bf16⟩
  | .hbm, ⟨5, _⟩ => ⟨S1536x1024, .bf16⟩
  | .hbm, ⟨6, _⟩ => ⟨S1024x1024, .bf16⟩
  | .hbm, ⟨7, _⟩ => ⟨S8x1024, .bf16⟩
  | .hbm, ⟨8, _⟩ => ⟨S_, .bf16⟩
  | .hbm, ⟨9, _⟩ => ⟨S120x1024, .bf16⟩
  | .hbm, ⟨10, _⟩ => ⟨S2688x1024, .bf16⟩
  | .hbm, ⟨11, _⟩ => ⟨S8192x1536, .bf16⟩
  | .hbm, ⟨12, _⟩ => ⟨S512x8192, .bf16⟩
  | .hbm, ⟨13, _⟩ => ⟨S1024x8192, .bf16⟩
  | .hbm, ⟨14, _⟩ => ⟨S8192x1024, .f32⟩
  | .hbm, ⟨15, _⟩ => ⟨S8192x128, .f32⟩
  | .hbm, ⟨16, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2688x1024, .bf16⟩
  | .local _ .vmem, ⟨4, _⟩ => ⟨S512x1536, .bf16⟩
  | .local _ .vmem, ⟨5, _⟩ => ⟨S512x1536, .bf16⟩
  | .local _ .vmem, ⟨6, _⟩ => ⟨S512x512, .bf16⟩
  | .local _ .vmem, ⟨7, _⟩ => ⟨S512x512, .bf16⟩
  | .local _ .vmem, ⟨8, _⟩ => ⟨S1024x512, .bf16⟩
  | .local _ .vmem, ⟨9, _⟩ => ⟨S1024x512, .bf16⟩
  | .local _ .vmem, ⟨10, _⟩ => ⟨S512x1024, .f32⟩
  | .local _ .vmem, ⟨11, _⟩ => ⟨S512x1024, .f32⟩
  | .local _ .vmem, ⟨12, _⟩ => ⟨S512x128, .f32⟩
  | .local _ .vmem, ⟨13, _⟩ => ⟨S512x128, .f32⟩
  | .local _ .vmem, ⟨14, _⟩ => ⟨S512x1024, .bf16⟩
  | .local _ .vmem, ⟨15, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v7_3 : Ref sig .tc := ⟨.hbm, 14, rfl⟩
abbrev main_v7_4 : Ref sig .tc := ⟨.hbm, 15, rfl⟩
abbrev main_v7_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2688x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RInprojfIdeal.lean ====
abbrev S8192x1024 : Shape := ⟨2, ![8192, 1024]⟩
abbrev S1x1024 : Shape := ⟨2, ![1, 1024]⟩
abbrev S1024x2568 : Shape := ⟨2, ![1024, 2568]⟩
abbrev S_ : Shape := ⟨0, ![]⟩
abbrev S8192 : Shape := ⟨1, ![8192]⟩
abbrev S8192x1 : Shape := ⟨2, ![8192, 1]⟩
abbrev S8192x2568 : Shape := ⟨2, ![8192, 2568]⟩
abbrev S8192x512 : Shape := ⟨2, ![8192, 512]⟩
abbrev S512x8192 : Shape := ⟨2, ![512, 8192]⟩
abbrev S8x64x8192 : Shape := ⟨3, ![8, 64, 8192]⟩
abbrev S8x1x8192 : Shape := ⟨3, ![8, 1, 8192]⟩
abbrev S8x63x8192 : Shape := ⟨3, ![8, 63, 8192]⟩
abbrev S8x128x8192 : Shape := ⟨3, ![8, 128, 8192]⟩
abbrev S8192x8 : Shape := ⟨2, ![8192, 8]⟩
abbrev S8192x120 : Shape := ⟨2, ![8192, 120]⟩
abbrev S8192x128 : Shape := ⟨2, ![8192, 128]⟩
abbrev S8192x1536 : Shape := ⟨2, ![8192, 1536]⟩
abbrev S1024x8192 : Shape := ⟨2, ![1024, 8192]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2568, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x2568, .f32⟩
  | .hbm, ⟨19, _⟩ => ⟨S8192x512, .f32⟩
  | .hbm, ⟨20, _⟩ => ⟨S512x8192, .f32⟩
  | .hbm, ⟨21, _⟩ => ⟨S8x64x8192, .f32⟩
  | .hbm, ⟨22, _⟩ => ⟨S_, .f32⟩
  | .hbm, ⟨23, _⟩ => ⟨S8x1x8192, .f32⟩
  | .hbm, ⟨24, _⟩ => ⟨S_, .f32⟩
  | .hbm, ⟨25, _⟩ => ⟨S8x63x8192, .f32⟩
  | .hbm, ⟨26, _⟩ => ⟨S8x128x8192, .f32⟩
  | .hbm, ⟨27, _⟩ => ⟨S8192x8, .f32⟩
  | .hbm, ⟨28, _⟩ => ⟨S_, .f32⟩
  | .hbm, ⟨29, _⟩ => ⟨S8192x120, .f32⟩
  | .hbm, ⟨30, _⟩ => ⟨S8192x128, .f32⟩
  | .hbm, ⟨31, _⟩ => ⟨S8192x1536, .f32⟩
  | .hbm, ⟨32, _⟩ => ⟨S8192x1536, .bf16⟩
  | .hbm, ⟨33, _⟩ => ⟨S8192x512, .f32⟩
  | .hbm, ⟨34, _⟩ => ⟨S512x8192, .f32⟩
  | .hbm, ⟨35, _⟩ => ⟨S512x8192, .bf16⟩
  | .hbm, ⟨36, _⟩ => ⟨S1024x8192, .f32⟩
  | .hbm, ⟨37, _⟩ => ⟨S1024x8192, .bf16⟩
  | .hbm, ⟨38, _⟩ => ⟨S8192x1024, .f32⟩
  | .hbm, ⟨39, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== Proof.Kit.lean ====
/- What the value proofs of this certificate share, none of it about one kernel: a sum over rows cut into equal
   blocks, an accumulator over a grid as the sum of its addends, a finite non-negative factor through a sum of
   extended reals, and the values of the constants the programs print. -/
module

public import Idealize.ShloMosaic.Lib.Pointwise

@[expose] public section

noncomputable section

namespace Cert.Kit

open Idealize.ShloMosaic

/-- A sum over `B * R` rows is the sum over the `B` blocks of the sums over their `R` rows. -/
theorem sum_blocks {M : Type*} [AddCommMonoid M] {N : ℕ} (B R : ℕ) (h : B * R = N) (f : Fin N → M) :
    ∑ t, f t = ∑ b : Fin B, ∑ r : Fin R, f ⟨b.val * R + r.val, by
      have := b.isLt; have := r.isLt
      calc b.val * R + r.val < b.val * R + R := by omega
        _ = (b.val + 1) * R := by ring
        _ ≤ B * R := Nat.mul_le_mul_right _ (by omega)
        _ = N := h⟩ := by
  subst h
  rw [← Fintype.sum_prod_type', ← Equiv.sum_comp finProdFinEquiv]
  refine Finset.sum_congr rfl fun p _ => congrArg f (Fin.ext ?_)
  show p.2.val + R * p.1.val = p.1.val * R + p.2.val
  ring

/-- What starts at the first addend and gains one addend a point is, after point `n`, the sum of the addends up to
    `n`. -/
theorem chain_eq_sum {M : Type*} [AddCommMonoid M] {N : ℕ} (o : (n : ℕ) → n < N → M) (a : Fin N → M)
    (h0 : ∀ h, o 0 h = a ⟨0, h⟩) (hs : ∀ n h, o (n + 1) h = o n (Nat.lt_of_succ_lt h) + a ⟨n + 1, h⟩) :
    ∀ (n : ℕ) (h : n < N), o n h = ∑ s : Fin (n + 1), a ⟨s.val, Nat.lt_of_lt_of_le s.isLt h⟩
  | 0, h => by rw [h0]; simp
  | n + 1, h => by rw [hs, chain_eq_sum o a h0 hs n, Fin.sum_univ_castSucc (n := n + 1)]; rfl

/-- A finite non-negative factor moves into a sum of extended reals, whatever the terms are. -/
theorem mul_sum_of_nonneg {ι : Type*} (s : Finset ι) (f : ι → EReal) {c : ℝ} (hc : 0 ≤ c) :
    (c : EReal) * ∑ i ∈ s, f i = ∑ i ∈ s, (c : EReal) * f i := by
  induction s using Finset.cons_induction with
  | empty => simp
  | cons a s ha ih =>
    rw [Finset.sum_cons, Finset.sum_cons, EReal.left_distrib_of_nonneg_of_ne_top (by exact_mod_cast hc) (EReal.coe_ne_top c), ih]

/-- Division by a real that is not zero is multiplication by its reciprocal. -/
theorem div_coe (x : EReal) {r : ℝ} (hr : r ≠ 0) : Ideal.div x (r : EReal) = x * ((r⁻¹ : ℝ) : EReal) := by
  unfold Ideal.div
  rw [if_neg (by exact_mod_cast hr), EReal.coe_inv]

theorem half : Ideal.ofBits .f32 0x3F000000#32 = ((1 / 2 : ℝ) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num
theorem c1024 : Ideal.ofBits .f32 0x44800000#32 = ((1024 : ℝ) : EReal) := by
  simp [Ideal.ofBits, Ideal.ieee, -EReal.coe_mul]; norm_num
theorem c2048 : Ideal.ofBits .f32 0x45000000#32 = ((2048 : ℝ) : EReal) := by
  simp [Ideal.ofBits, Ideal.ieee, -EReal.coe_mul]; norm_num
theorem c1024inv : Ideal.ofBits .f32 0x3A800000#32 = ((1 / 1024 : ℝ) : EReal) := by
  simp [Ideal.ofBits, Ideal.ieee, -EReal.coe_mul]; norm_num
theorem c1024recip : Ideal.ofBits .f32 0x3A800000#32 = ((1024⁻¹ : ℝ) : EReal) := by
  rw [c1024inv, one_div]
theorem neghalf : Ideal.ofBits .f32 0xBF000000#32 = ((-(1 / 2) : ℝ) : EReal) := by
  simp [Ideal.ofBits, Ideal.ieee, -EReal.coe_mul]; norm_num

/-! ## The backward of a root-mean-square norm -/

/-- The norms' epsilon. -/
def eps : EReal := Ideal.ofBits .f32 0x358637BD#32

theorem eps_pos : 0 < eps := by
  have : eps = ((8796093 * (2 : ℝ) ^ (-43 : ℤ) : ℝ) : EReal) := by
    simp [eps, Ideal.ofBits, Ideal.ieee, -EReal.coe_mul]
  rw [this]
  exact_mod_cast (by positivity : (0 : ℝ) < 8796093 * (2 : ℝ) ^ (-43 : ℤ))

/-- A square is not negative. -/
theorem mul_self_nonneg (x : EReal) : 0 ≤ x * x := by
  induction x with
  | bot => rw [EReal.bot_mul_bot]; exact le_top
  | coe r => exact_mod_cast _root_.mul_self_nonneg r
  | top => rw [EReal.top_mul_top]; exact le_top

variable {ι : Type*} [Fintype ι]

/-- What the norm divides by: the mean of the squares, over `n` entries, with the epsilon. -/
def var (n : ℝ) (x : ι → EReal) : EReal := (∑ k, x k * x k) * ((n⁻¹ : ℝ) : EReal) + eps
def rstd (n : ℝ) (x : ι → EReal) : EReal := Ideal.rsqrt (var n x)
/-- The gradient at the norm's input, from the gradient `u` at its normed row. -/
def rmsBack (n : ℝ) (x u : ι → EReal) (d : ι) : EReal :=
  rstd n x * u d - x d * (rstd n x * rstd n x * rstd n x * ((∑ k, x k * u k) * ((n⁻¹ : ℝ) : EReal)))

/-- The reciprocal root as the programs print it, over a row of 1024. -/
theorem rsqrt_1024 (x : ι → EReal) :
    Ideal.rsqrt (Ideal.div (∑ k, x k * x k) (Ideal.ofBits .f32 0x44800000#32) + Ideal.ofBits .f32 0x358637BD#32)
      = rstd 1024 x := by
  rw [c1024, div_coe _ (by norm_num)]
  rfl

theorem var_pos {n : ℝ} (hn : 0 < n) (x : ι → EReal) : 0 < var n x :=
  lt_of_lt_of_le eps_pos (le_add_of_nonneg_left (mul_nonneg (Finset.sum_nonneg fun k _ => mul_self_nonneg _)
    (by exact_mod_cast (inv_pos.mpr hn).le)))

theorem rsqrt_coe {r : ℝ} (hr : 0 < r) : Ideal.rsqrt (r : EReal) = (((Real.sqrt r)⁻¹ : ℝ) : EReal) := by
  show (if r < 0 then ⊥ else if r = 0 then ⊤ else (((Real.sqrt r)⁻¹ : ℝ) : EReal)) = _
  rw [if_neg (not_lt.mpr hr.le), if_neg hr.ne']

/-- Over what is positive, a reciprocal root divided by its argument is its cube. -/
theorem rsqrt_div {v : EReal} (hv : 0 < v) : Ideal.div (Ideal.rsqrt v) v = Ideal.rsqrt v * Ideal.rsqrt v * Ideal.rsqrt v := by
  induction v with
  | bot => exact absurd hv (by simp)
  | top => rw [show Ideal.rsqrt ⊤ = 0 from rfl]; simp [Ideal.div]
  | coe r =>
    have hr : (0 : ℝ) < r := by exact_mod_cast hv
    rw [div_coe _ hr.ne', rsqrt_coe hr, ← EReal.coe_mul, ← EReal.coe_mul, ← EReal.coe_mul]
    congr 1
    rw [mul_assoc, ← mul_inv (Real.sqrt r) (Real.sqrt r), Real.mul_self_sqrt hr.le]

theorem add_self (x : EReal) : x + x = ((2 : ℝ) : EReal) * x := by
  induction x with
  | bot => rw [EReal.coe_mul_bot_of_pos (by norm_num)]; rfl
  | coe r => exact_mod_cast (two_mul r).symm
  | top => rw [EReal.coe_mul_top_of_pos (by norm_num)]; rfl

/-- The norm's backward as the derivative of `x · rsqrt (mean x² + ε)` term by term. -/
theorem rmsBack_eq {n : ℝ} (hn : 0 < n) (x u : ι → EReal) (d : ι) (t : EReal)
    (ht : t = (∑ k, x k * u k) * (((-(1 / 2) : ℝ) : EReal) * Ideal.div (rstd n x) (var n x)) * ((n⁻¹ : ℝ) : EReal)) :
    u d * rstd n x + x d * t + t * x d = rmsBack n x u d := by
  subst ht
  unfold rstd rmsBack
  rw [rsqrt_div (var_pos hn x), mul_comm _ (x d), add_assoc, add_self, sub_eq_add_neg, mul_comm (u d)]
  congr 1
  set r := Ideal.rsqrt (var n x)
  rw [show ((2 : ℝ) : EReal) * (x d * ((∑ k, x k * u k) * (((-(1 / 2) : ℝ) : EReal) * (r * r * r)) * ((n⁻¹ : ℝ) : EReal)))
      = (((2 : ℝ) : EReal) * ((-(1 / 2) : ℝ) : EReal)) * (x d * (r * r * r * ((∑ k, x k * u k) * ((n⁻¹ : ℝ) : EReal)))) by ac_rfl,
    ← EReal.coe_mul, show (2 : ℝ) * -(1 / 2) = -1 by norm_num, EReal.coe_neg, EReal.coe_one, neg_one_mul]
  rfl

/-- Two matrices that agree at every row and column. -/
theorem mat_ext {a b : ℕ} {α : Type*} {f g : (⟨2, ![a, b]⟩ : Shape).Idx → α} (h : ∀ i j, f (ix2 i j) = g (ix2 i j)) : f = g := by
  funext x
  have e : x = ix2 (x 0) (x 1) := by
    funext k
    match k with
    | ⟨0, _⟩ => rfl
    | ⟨1, _⟩ => rfl
  rw [e]
  exact h _ _

end Cert.Kit

end
-- ==== Proof.Ple.Points.lean ====
/- The gate-and-embedding loss call, point by point: what each grid point leaves in its five output buffers, as the
   printed payloads of the blocks it reads (and, past the first point, of what the point before left). -/
module

public import proofs.«01_k».proof.Proof.Gen.KPleIdeal.Value

@[expose] public section

set_option maxRecDepth 16384

noncomputable section

namespace Cert.KPleIdeal.Points

open Cert.KPleIdeal Cert.KPleIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

theorem N16 : cfg0.N = 16 := N_0
theorem hz : (![0, 0] : Fin 2 → Nat) = fun _ => 0 := funext fun a => by fin_cases a <;> rfl

/-- The constant one the derivative of the gate reads. -/
abbrev one : F .f32 := Scalar.ofBits .f32 0x3F800000#32

section Blocks
variable (c : Dev nD) (t : Fin cfg0.N)

/-- The gate of point `t`'s rows. -/
abbrev gateB : FVec F S512x1024 .f32 := k0_pay12 (iblk m c 0 t) (iblk m c 3 t) (iblk m c 4 t)
/-- The gradient at the loss layer's output, point `t`'s rows. -/
abbrev dyB : FVec F S512x1024 .f32 :=
  k0_pay17 (iblk m c 0 t) (iblk m c 3 t) (iblk m c 4 t) (iblk m c 1 t) (iblk m c 5 t) (iblk m c 2 t)
/-- … and what of it reaches the gate. -/
abbrev dyEB : FVec F S512x1024 .f32 :=
  k0_pay18 (iblk m c 0 t) (iblk m c 3 t) (iblk m c 4 t) (iblk m c 1 t) (iblk m c 5 t) (iblk m c 2 t)

/-- The five buffers after point `t`, from what the four accumulated ones held before. -/
def step (b : FVec F S1x1024 .f32) (l : FVec F S8x128 .f32) (g : FVec F S1024x1024 .f32) (e : FVec F S256x1024 .f32) :
    Vec F S512x1024 .f32 × Vec F S1x1024 .f32 × Vec F S8x128 .f32 × Vec F S1024x1024 .f32 × Vec F S256x1024 .f32 :=
  ⟨k0_pay4 (gateB m c t) (dyB m c t) (dyEB m c t) one (iblk m c 3 t),
   k0_pay3 (gateB m c t) (dyEB m c t) one b,
   k0_pay16 (iblk m c 0 t) (iblk m c 3 t) (iblk m c 4 t) (iblk m c 1 t) (iblk m c 5 t) (iblk m c 2 t) l,
   k0_pay5 (k0_pay11 (iblk m c 0 t)) (gateB m c t) (dyEB m c t) one g,
   k0_pay6 (gateB m c t) (k0_pay13 (iblk m c 1 t)) (dyB m c t) e⟩

/-- The first point clears the four accumulated buffers before it adds to them. -/
theorem after_A (h0 : t.val % 16 = 0) :
    outsAt0 m c t.val t.isLt = step m c t k0_pay7 k0_pay8 k0_pay9 k0_pay10 := by
  rw [outsAt0_A m c t h0]
  unfold step
  refine Prod.ext ?_ (Prod.ext ?_ (Prod.ext ?_ (Prod.ext ?_ ?_))) <;> dsimp only
  · unfold out0_A_6
    rw [View.read_writes_eq_canon _ _ _ (fun y => cover0_A_6 (y := y) ..)]
    unfold kernelRun0_A
    dsimp only
    sl_unfold_words
    rw [View.canon_unit_zero (S := S512x1024) hz]
    simp only [View.readAt_eq_ld, (hs0_0 t).read_unread, (hs0_1 t).read_unread, (hs0_2 t).read_unread,
      (hs0_3 t).read_unread, (hs0_4 t).read_unread, (hs0_5 t).read_unread, View.ld_unit_zero (S := S512x1024) hz,
      View.ld_unit_zero (S := S512x256) hz, View.ld_unit_zero (S := S1024x1024) hz,
      View.ld_unit_zero (S := S1x1024) hz, View.ld_unit_zero (S := S256x1024) hz, View.ld_unit_zero (S := S8x128) hz]
  · unfold out0_A_7
    rw [View.read_writes_eq_canon _ _ _ (fun y => cover0_A_7 (y := y) ..)]
    unfold kernelRun0_A
    dsimp only
    sl_unfold_words
    rw [View.canon_cons_unit_zero (S := S1x1024) hz, View.readCov_unit_zero (S := S1x1024) _ hz]
    simp only [View.readAt_eq_ld, (hs0_0 t).read_unread, (hs0_1 t).read_unread, (hs0_2 t).read_unread,
      (hs0_3 t).read_unread, (hs0_4 t).read_unread, (hs0_5 t).read_unread, View.ld_unit_zero (S := S512x1024) hz,
      View.ld_unit_zero (S := S512x256) hz, View.ld_unit_zero (S := S1024x1024) hz,
      View.ld_unit_zero (S := S1x1024) hz, View.ld_unit_zero (S := S256x1024) hz, View.ld_unit_zero (S := S8x128) hz]
  · unfold out0_A_8
    rw [View.read_writes_eq_canon _ _ _ (fun y => cover0_A_8 (y := y) ..)]
    unfold kernelRun0_A
    dsimp only
    sl_unfold_words
    rw [View.canon_cons_unit_zero (S := S8x128) hz, View.readCov_unit_zero (S := S8x128) _ hz]
    simp only [View.readAt_eq_ld, (hs0_0 t).read_unread, (hs0_1 t).read_unread, (hs0_2 t).read_unread,
      (hs0_3 t).read_unread, (hs0_4 t).read_unread, (hs0_5 t).read_unread, View.ld_unit_zero (S := S512x1024) hz,
      View.ld_unit_zero (S := S512x256) hz, View.ld_unit_zero (S := S1024x1024) hz,
      View.ld_unit_zero (S := S1x1024) hz, View.ld_unit_zero (S := S256x1024) hz, View.ld_unit_zero (S := S8x128) hz]
  · unfold out0_A_9
    rw [View.read_writes_eq_canon _ _ _ (fun y => cover0_A_9 (y := y) ..)]
    unfold kernelRun0_A
    dsimp only
    sl_unfold_words
    rw [View.canon_cons_unit_zero (S := S1024x1024) hz, View.readCov_unit_zero (S := S1024x1024) _ hz]
    simp only [View.readAt_eq_ld, (hs0_0 t).read_unread, (hs0_1 t).read_unread, (hs0_2 t).read_unread,
      (hs0_3 t).read_unread, (hs0_4 t).read_unread, (hs0_5 t).read_unread, View.ld_unit_zero (S := S512x1024) hz,
      View.ld_unit_zero (S := S512x256) hz, View.ld_unit_zero (S := S1024x1024) hz,
      View.ld_unit_zero (S := S1x1024) hz, View.ld_unit_zero (S := S256x1024) hz, View.ld_unit_zero (S := S8x128) hz]
  · unfold out0_A_10
    rw [View.read_writes_eq_canon _ _ _ (fun y => cover0_A_10 (y := y) ..)]
    unfold kernelRun0_A
    dsimp only
    sl_unfold_words
    rw [View.canon_cons_unit_zero (S := S256x1024) hz, View.readCov_unit_zero (S := S256x1024) _ hz]
    simp only [View.readAt_eq_ld, (hs0_0 t).read_unread, (hs0_1 t).read_unread, (hs0_2 t).read_unread,
      (hs0_3 t).read_unread, (hs0_4 t).read_unread, (hs0_5 t).read_unread, View.ld_unit_zero (S := S512x1024) hz,
      View.ld_unit_zero (S := S512x256) hz, View.ld_unit_zero (S := S1024x1024) hz,
      View.ld_unit_zero (S := S1x1024) hz, View.ld_unit_zero (S := S256x1024) hz, View.ld_unit_zero (S := S8x128) hz]

/-- Every later point adds to what the point before left. -/
theorem after_B (h0 : ¬t.val % 16 = 0) (p) (hp : p = outsAt0 m c (t.val - 1) (Nat.lt_of_le_of_lt (Nat.sub_le _ _) t.isLt)) :
    outsAt0 m c t.val t.isLt = step m c t p.2.1 p.2.2.1 p.2.2.2.1 p.2.2.2.2 := by
  rw [outsAt0_B m c t h0, ← hp]
  unfold step
  refine Prod.ext ?_ (Prod.ext ?_ (Prod.ext ?_ (Prod.ext ?_ ?_))) <;> dsimp only
  · unfold out0_B_6
    rw [View.read_writes_eq_canon _ _ _ (fun y => cover0_B_6 (y := y) ..)]
    unfold kernelRun0_B
    dsimp only
    sl_unfold_words
    rw [View.canon_unit_zero (S := S512x1024) hz]
    simp only [View.readAt_eq_ld, (hs0_0 t).read_unread, (hs0_1 t).read_unread, (hs0_2 t).read_unread,
      (hs0_3 t).read_unread, (hs0_4 t).read_unread, (hs0_5 t).read_unread, View.ld_unit_zero (S := S512x1024) hz,
      View.ld_unit_zero (S := S512x256) hz, View.ld_unit_zero (S := S1024x1024) hz,
      View.ld_unit_zero (S := S1x1024) hz, View.ld_unit_zero (S := S256x1024) hz, View.ld_unit_zero (S := S8x128) hz]
  · unfold out0_B_7
    rw [View.read_writes_eq_canon _ _ _ (fun y => cover0_B_7 (y := y) ..)]
    unfold kernelRun0_B
    dsimp only
    sl_unfold_words
    rw [View.canon_unit_zero (S := S1x1024) hz]
    simp only [View.readAt_eq_ld, (hs0_0 t).read_unread, (hs0_1 t).read_unread, (hs0_2 t).read_unread,
      (hs0_3 t).read_unread, (hs0_4 t).read_unread, (hs0_5 t).read_unread, (hs0_7 t).read_unread, View.ld_unit_zero (S := S512x1024) hz,
      View.ld_unit_zero (S := S512x256) hz, View.ld_unit_zero (S := S1024x1024) hz,
      View.ld_unit_zero (S := S1x1024) hz, View.ld_unit_zero (S := S256x1024) hz, View.ld_unit_zero (S := S8x128) hz]
  · unfold out0_B_8
    rw [View.read_writes_eq_canon _ _ _ (fun y => cover0_B_8 (y := y) ..)]
    unfold kernelRun0_B
    dsimp only
    sl_unfold_words
    rw [View.canon_unit_zero (S := S8x128) hz]
    simp only [View.readAt_eq_ld, (hs0_0 t).read_unread, (hs0_1 t).read_unread, (hs0_2 t).read_unread,
      (hs0_3 t).read_unread, (hs0_4 t).read_unread, (hs0_5 t).read_unread, (hs0_8 t).read_unread, View.ld_unit_zero (S := S512x1024) hz,
      View.ld_unit_zero (S := S512x256) hz, View.ld_unit_zero (S := S1024x1024) hz,
      View.ld_unit_zero (S := S1x1024) hz, View.ld_unit_zero (S := S256x1024) hz, View.ld_unit_zero (S := S8x128) hz]
  · unfold out0_B_9
    rw [View.read_writes_eq_canon _ _ _ (fun y => cover0_B_9 (y := y) ..)]
    unfold kernelRun0_B
    dsimp only
    sl_unfold_words
    rw [View.canon_unit_zero (S := S1024x1024) hz]
    simp only [View.readAt_eq_ld, (hs0_0 t).read_unread, (hs0_1 t).read_unread, (hs0_2 t).read_unread,
      (hs0_3 t).read_unread, (hs0_4 t).read_unread, (hs0_5 t).read_unread, (hs0_9 t).read_unread, View.ld_unit_zero (S := S512x1024) hz,
      View.ld_unit_zero (S := S512x256) hz, View.ld_unit_zero (S := S1024x1024) hz,
      View.ld_unit_zero (S := S1x1024) hz, View.ld_unit_zero (S := S256x1024) hz, View.ld_unit_zero (S := S8x128) hz]
  · unfold out0_B_10
    rw [View.read_writes_eq_canon _ _ _ (fun y => cover0_B_10 (y := y) ..)]
    unfold kernelRun0_B
    dsimp only
    sl_unfold_words
    rw [View.canon_unit_zero (S := S256x1024) hz]
    simp only [View.readAt_eq_ld, (hs0_0 t).read_unread, (hs0_1 t).read_unread, (hs0_2 t).read_unread,
      (hs0_3 t).read_unread, (hs0_4 t).read_unread, (hs0_5 t).read_unread, (hs0_10 t).read_unread, View.ld_unit_zero (S := S512x1024) hz,
      View.ld_unit_zero (S := S512x256) hz, View.ld_unit_zero (S := S1024x1024) hz,
      View.ld_unit_zero (S := S1x1024) hz, View.ld_unit_zero (S := S256x1024) hz, View.ld_unit_zero (S := S8x128) hz]

end Blocks

end Cert.KPleIdeal.Points

end
-- ==== Proof.Ple.Value.lean ====
/- The gate-and-embedding loss call at the ideal instance: one row's gradient as a formula (`gate` … `dh`), the
   kernel's blocks as that formula of their rows, the accumulated outputs as sums over all 8192 rows. -/
module

public import proofs.«01_k».proof.Proof.Kit
public import proofs.«01_k».proof.Proof.Ple.Points

@[expose] public section

set_option maxRecDepth 16384

noncomputable section

/-! ## One row -/

namespace Cert.Ple

open Idealize.ShloMosaic

/-- The parameters of the layer, by coordinates. -/
structure Weights where
  w : Fin 1024 → Fin 1024 → EReal
  b : Fin 1024 → EReal
  e : Fin 256 → Fin 1024 → EReal

/-- One token: its hidden row, its embedding row, its target row. -/
structure Row where
  h : Fin 1024 → EReal
  p : Fin 256 → EReal
  y : Fin 1024 → EReal

variable (θ : Weights) (x : Row) (d : Fin 1024)

def gate : EReal := Ideal.logistic (∑ k, x.h k * θ.w k d + θ.b d)
def emb : EReal := ∑ k, x.p k * θ.e k d
/-- The layer's output less the target. -/
def err : EReal := x.h d + gate θ x d * emb θ x d - x.y d
/-- The gradient of half the mean square error at the layer's output. -/
def dy : EReal := err θ x d * ((1 / 1024 : ℝ) : EReal)
/-- … before the gate's logistic. -/
def du : EReal := dy θ x d * emb θ x d * (gate θ x d * (1 - gate θ x d))
/-- … at the hidden row. -/
def dh : EReal := dy θ x d + ∑ k, du θ x k * θ.w d k

end Cert.Ple

namespace Cert.KPleIdeal.Points

open Cert.KPleIdeal Cert.KPleIdeal.Gen Idealize.ShloMosaic Idealize.ShloMosaic.TcCoe Idealize.SL.Sem
open Cert.Ple

/-! ## The payloads at an index -/

section Payloads
variable (X : Vec Ideal S512x1024 .f32) (W : Vec Ideal S1024x1024 .bf16) (b : Vec Ideal S1x1024 .f32)
  (P : Vec Ideal S512x256 .f32) (E : Vec Ideal S256x1024 .bf16) (Y : Vec Ideal S512x1024 .f32)

abbrev weights : Weights := ⟨fun k d => W (ix2 k d), fun d => b (ix2 0 d), fun k d => E (ix2 k d)⟩
abbrev row (r : Fin 512) : Row := ⟨fun k => X (ix2 r k), fun k => P (ix2 r k), fun k => Y (ix2 r k)⟩

theorem gate_apply (r : Fin 512) (d : Fin 1024) :
    k0_pay12 (F := Ideal) X W b (ix2 r d) = gate (weights W b E) (row X P Y r) d := by
  pointwise [k0_pay12, k0_pay11]
  rfl

theorem emb_apply (r : Fin 512) (d : Fin 1024) :
    k0_pay14 (F := Ideal) P E (ix2 r d) = emb (weights W b E) (row X P Y r) d := by
  pointwise [k0_pay14, k0_pay13]
  rfl

theorem err_apply (r : Fin 512) (d : Fin 1024) :
    k0_pay15 (F := Ideal) X W b P E Y (ix2 r d) = err (weights W b E) (row X P Y r) d := by
  pointwise [k0_pay15]
  rw [gate_apply X W b P E Y, emb_apply X W b P E Y]
  rfl

theorem dy_apply (r : Fin 512) (d : Fin 1024) :
    k0_pay17 (F := Ideal) X W b P E Y (ix2 r d) = dy (weights W b E) (row X P Y r) d := by
  pointwise [k0_pay17]
  rw [err_apply, Kit.c1024inv]
  rfl

theorem dyE_apply (r : Fin 512) (d : Fin 1024) :
    k0_pay18 (F := Ideal) X W b P E Y (ix2 r d)
      = dy (weights W b E) (row X P Y r) d * emb (weights W b E) (row X P Y r) d := by
  pointwise [k0_pay18]
  rw [dy_apply, emb_apply X W b P E Y]

theorem dh_apply (r : Fin 512) (d : Fin 1024) :
    k0_pay4 (F := Ideal) (k0_pay12 X W b) (k0_pay17 X W b P E Y) (k0_pay18 X W b P E Y) one W (ix2 r d)
      = dh (weights W b E) (row X P Y r) d := by
  pointwise [k0_pay4, k0_pay2, k0_pay1]
  simp only [dy_apply, dyE_apply, gate_apply X W b P E Y]
  rfl

theorem dbg_apply (v : Vec Ideal S1x1024 .f32) (i : Fin 1) (d : Fin 1024) :
    k0_pay3 (F := Ideal) (k0_pay12 X W b) (k0_pay18 X W b P E Y) one v (ix2 i d)
      = v (ix2 i d) + ∑ r, du (weights W b E) (row X P Y r) d := by
  pointwise [k0_pay3, k0_pay1]
  simp only [dyE_apply, gate_apply X W b P E Y]
  rfl

theorem loss_apply (v : Vec Ideal S8x128 .f32) (i : Fin 8) (j : Fin 128) :
    k0_pay16 (F := Ideal) X W b P E Y v (ix2 i j)
      = v (ix2 i j) + ∑ r, ∑ d, err (weights W b E) (row X P Y r) d * err (weights W b E) (row X P Y r) d := by
  pointwise [k0_pay16]
  simp only [err_apply]

theorem dwg_apply (v : Vec Ideal S1024x1024 .f32) (k d : Fin 1024) :
    k0_pay5 (F := Ideal) (k0_pay11 X) (k0_pay12 X W b) (k0_pay18 X W b P E Y) one v (ix2 k d)
      = v (ix2 k d) + ∑ r, X (ix2 r k) * du (weights W b E) (row X P Y r) d := by
  pointwise [k0_pay5, k0_pay11, k0_pay2, k0_pay1]
  simp only [dyE_apply, gate_apply X W b P E Y]
  rfl

theorem dwpe_apply (v : Vec Ideal S256x1024 .f32) (k : Fin 256) (d : Fin 1024) :
    k0_pay6 (F := Ideal) (k0_pay12 X W b) (k0_pay13 P) (k0_pay17 X W b P E Y) v (ix2 k d)
      = v (ix2 k d) + ∑ r, P (ix2 r k) * (dy (weights W b E) (row X P Y r) d * gate (weights W b E) (row X P Y r) d) := by
  pointwise [k0_pay6, k0_pay13]
  simp only [dy_apply, gate_apply X W b P E Y]

theorem zero7 (i) : k0_pay7 (F := Ideal) i = 0 := by pointwise [k0_pay7]
theorem zero8 (i) : k0_pay8 (F := Ideal) i = 0 := by pointwise [k0_pay8]
theorem zero9 (i) : k0_pay9 (F := Ideal) i = 0 := by pointwise [k0_pay9]
theorem zero10 (i) : k0_pay10 (F := Ideal) i = 0 := by pointwise [k0_pay10]

end Payloads

/-! ## The blocks a point reads -/

variable (m : (ℓ : Loc nD τ sig) → Buf (Elt Ideal) ℓ) (c : Dev nD)

/-- Row `r` of point `t`'s block is this row of the array. -/
abbrev at_ (t : Fin cfg0.N) (r : Fin 512) : Fin 8192 :=
  ⟨t.val * 512 + r.val, by have := t.isLt; have := r.isLt; have : cfg0.N = 16 := N16; omega⟩

theorem idx_rows : ∀ t : Fin cfg0.N, (win0_0.index t 0 = t.val ∧ win0_0.index t 1 = 0) ∧
    (win0_1.index t 0 = t.val ∧ win0_1.index t 1 = 0) ∧
    (win0_2.index t 0 = t.val ∧ win0_2.index t 1 = 0) ∧
    (win0_6.index t 0 = t.val ∧ win0_6.index t 1 = 0) :=
  (by decide +kernel : ∀ t : Fin grid0.N, _)
theorem idx_whole : ∀ t : Fin cfg0.N, (win0_3.index t 0 = 0 ∧ win0_3.index t 1 = 0) ∧
    (win0_4.index t 0 = 0 ∧ win0_4.index t 1 = 0) ∧
    (win0_5.index t 0 = 0 ∧ win0_5.index t 1 = 0) ∧
    (win0_7.index t 0 = 0 ∧ win0_7.index t 1 = 0) ∧
    (win0_8.index t 0 = 0 ∧ win0_8.index t 1 = 0) ∧
    (win0_9.index t 0 = 0 ∧ win0_9.index t 1 = 0) ∧
    (win0_10.index t 0 = 0 ∧ win0_10.index t 1 = 0) :=
  (by decide +kernel : ∀ t : Fin grid0.N, _)

theorem iblk0 (t : Fin cfg0.N) (r : Fin 512) (k : Fin 1024) :
    iblk m c 0 t (ix2 r k) = m ((c : Thread nD τ).loc main_arg0) (ix2 (at_ t r) k) := by
  unfold iblk
  rw [View.read_apply]
  show V m c main_arg0 _ = _
  rw [V_main_arg0]
  congr 1
  funext a
  apply Fin.ext
  match a with
  | ⟨0, _⟩ => show win0_0.index t 0 * 512 + 1 * r.val = t.val * 512 + r.val; rw [(idx_rows t).1.1]; omega
  | ⟨1, _⟩ => show win0_0.index t 1 * 1024 + 1 * k.val = k.val; rw [(idx_rows t).1.2]; omega

theorem iblk1 (t : Fin cfg0.N) (r : Fin 512) (k : Fin 256) :
    iblk m c 1 t (ix2 r k) = m ((c : Thread nD τ).loc main_arg1) (ix2 (at_ t r) k) := by
  unfold iblk
  rw [View.read_apply]
  show V m c main_arg1 _ = _
  rw [V_main_arg1]
  congr 1
  funext a
  apply Fin.ext
  match a with
  | ⟨0, _⟩ => show win0_1.index t 0 * 512 + 1 * r.val = t.val * 512 + r.val; rw [(idx_rows t).2.1.1]; omega
  | ⟨1, _⟩ => show win0_1.index t 1 * 256 + 1 * k.val = k.val; rw [(idx_rows t).2.1.2]; omega

theorem iblk2 (t : Fin cfg0.N) (r : Fin 512) (k : Fin 1024) :
    iblk m c 2 t (ix2 r k) = m ((c : Thread nD τ).loc main_arg2) (ix2 (at_ t r) k) := by
  unfold iblk
  rw [View.read_apply]
  show V m c main_arg2 _ = _
  rw [V_main_arg2]
  congr 1
  funext a
  apply Fin.ext
  match a with
  | ⟨0, _⟩ => show win0_2.index t 0 * 512 + 1 * r.val = t.val * 512 + r.val; rw [(idx_rows t).2.2.1.1]; omega
  | ⟨1, _⟩ => show win0_2.index t 1 * 1024 + 1 * k.val = k.val; rw [(idx_rows t).2.2.1.2]; omega

theorem iblk3 (t : Fin cfg0.N) (k : Fin 1024) (d : Fin 1024) :
    iblk m c 3 t (ix2 k d) = m ((c : Thread nD τ).loc main_arg3) (ix2 k d) := by
  unfold iblk
  rw [View.read_apply]
  show V m c main_v0 _ = _
  have e : (V m c main_v0 : Vec Ideal S1024x1024 .bf16) = m ((c : Thread nD τ).loc main_arg3) := by
    unfold V hostOps0
    after_results_simp
    rfl
  rw [e]
  congr 1
  funext a
  apply Fin.ext
  match a with
  | ⟨0, _⟩ => show win0_3.index t 0 * 1024 + 1 * k.val = k.val; rw [(idx_whole t).1.1]; omega
  | ⟨1, _⟩ => show win0_3.index t 1 * 1024 + 1 * d.val = d.val; rw [(idx_whole t).1.2]; omega

theorem iblk4 (t : Fin cfg0.N) (k : Fin 1) (d : Fin 1024) :
    iblk m c 4 t (ix2 k d) = m ((c : Thread nD τ).loc main_arg4) (ix2 k d) := by
  unfold iblk
  rw [View.read_apply]
  show V m c main_arg4 _ = _
  rw [V_main_arg4]
  congr 1
  funext a
  apply Fin.ext
  match a with
  | ⟨0, _⟩ => show win0_4.index t 0 * 1 + 1 * k.val = k.val; rw [(idx_whole t).2.1.1]; omega
  | ⟨1, _⟩ => show win0_4.index t 1 * 1024 + 1 * d.val = d.val; rw [(idx_whole t).2.1.2]; omega

theorem iblk5 (t : Fin cfg0.N) (k : Fin 256) (d : Fin 1024) :
    iblk m c 5 t (ix2 k d) = m ((c : Thread nD τ).loc main_arg5) (ix2 k d) := by
  unfold iblk
  rw [View.read_apply]
  show V m c main_v1 _ = _
  have e : (V m c main_v1 : Vec Ideal S256x1024 .bf16) = m ((c : Thread nD τ).loc main_arg5) := by
    unfold V hostOps0
    after_results_simp
    rfl
  rw [e]
  congr 1
  funext a
  apply Fin.ext
  match a with
  | ⟨0, _⟩ => show win0_5.index t 0 * 256 + 1 * k.val = k.val; rw [(idx_whole t).2.2.1.1]; omega
  | ⟨1, _⟩ => show win0_5.index t 1 * 1024 + 1 * d.val = d.val; rw [(idx_whole t).2.2.1.2]; omega

/-- The layer's parameters and its token `i`, as the arguments hold them. -/
def wts : Weights := ⟨fun k d => m ((c : Thread nD τ).loc main_arg3) (ix2 k d),
  fun d => m ((c : Thread nD τ).loc main_arg4) (ix2 0 d), fun k d => m ((c : Thread nD τ).loc main_arg5) (ix2 k d)⟩
def tok (i : Fin 8192) : Row := ⟨fun k => m ((c : Thread nD τ).loc main_arg0) (ix2 i k),
  fun k => m ((c : Thread nD τ).loc main_arg1) (ix2 i k), fun k => m ((c : Thread nD τ).loc main_arg2) (ix2 i k)⟩

theorem weights_eq (t : Fin cfg0.N) : weights (iblk m c 3 t) (iblk m c 4 t) (iblk m c 5 t) = wts m c := by
  simp only [weights, iblk3, iblk4, iblk5]; rfl
theorem row_eq (t : Fin cfg0.N) (r : Fin 512) :
    row (iblk m c 0 t) (iblk m c 1 t) (iblk m c 2 t) r = tok m c (at_ t r) := by
  simp only [row, iblk0, iblk1, iblk2]; rfl

/-! ## The five results -/

/-- A window written back at the last point only has no second block to meet. -/
theorem last_only (w : Fin cfg0.W) (hf : ∀ t, (cfg0.win w).flush t = true → t.val % 16 = 15) (t t' : Fin cfg0.N)
    (h : (cfg0.win w).flush t = true) (h' : (cfg0.win w).flush t' = true) (e : t ≠ t') :
    Disjoint ((cfg0.win w).blk t).view.set ((cfg0.win w).blk t').view.set := by
  have := hf t h; have := hf t' h'; have := t.isLt; have := t'.isLt; have := N16
  exact absurd (Fin.ext (by omega)) e

/-- The last grid point. -/
abbrev last : Fin cfg0.N := ⟨15, by rw [N16]; decide⟩

/-- The hidden rows' gradient: every point writes its own rows. -/
theorem result6 (i : Fin 8192) (d : Fin 1024) : (dats m 0 c).arrAt 6 cfg0.N (ix2 i d) = dh (wts m c) (tok m c i) d := by
  have hN := N16
  have hi := i.isLt
  have ht : i.val / 512 < cfg0.N := by omega
  have h := (dats m 0 c).arrAt_emb_eq_flushed 6 Value.disjoint6 ⟨i.val / 512, ht⟩ (flush0_6 _)
    (ix2 ⟨i.val % 512, Nat.mod_lt _ (by decide)⟩ d)
  rw [Value.flushed6] at h
  have hv : ∀ t r, (outsAt0 m c t.val t.isLt).1 (ix2 r d) = dh (wts m c) (tok m c (at_ t r)) d := fun t r => by
    rw [← weights_eq m c t, ← row_eq]
    by_cases h0 : t.val % 16 = 0
    · rw [after_A m c t h0]; exact dh_apply ..
    · rw [after_B m c t h0 _ rfl]; exact dh_apply ..
  have e : i = at_ ⟨i.val / 512, ht⟩ ⟨i.val % 512, Nat.mod_lt _ (by decide)⟩ :=
    Fin.ext (by show i.val = i.val / 512 * 512 + i.val % 512; omega)
  refine (congrArg _ ?_).trans (h.trans ((hv ⟨i.val / 512, ht⟩ ⟨i.val % 512, Nat.mod_lt _ (by decide)⟩).trans (by rw [← e])))
  funext a
  apply Fin.ext
  match a with
  | ⟨0, _⟩ =>
    show i.val = win0_6.index _ 0 * 512 + 1 * (i.val % 512)
    rw [(idx_rows _).2.2.2.1]; show i.val = i.val / 512 * 512 + 1 * (i.val % 512); omega
  | ⟨1, _⟩ => show d.val = win0_6.index _ 1 * 1024 + 1 * d.val; rw [(idx_rows _).2.2.2.2]; omega

/-- The gate bias's gradient. -/
theorem result7 (i : Fin 1) (d : Fin 1024) : (dats m 0 c).arrAt 7 cfg0.N (ix2 i d)
    = (∑ i', du (wts m c) (tok m c (i')) d : EReal) := by
  have h := (dats m 0 c).arrAt_emb_eq_flushed 7 (last_only 7 fun t => (flush0_7 t).mp) last ((flush0_7 _).mpr rfl) (ix2 i d)
  rw [Value.flushed7] at h
  have hs := Kit.chain_eq_sum (fun n h => (outsAt0 m c n h).2.1 (ix2 i d))
    (fun t => (∑ r, du (wts m c) (tok m c (at_ t r)) d : EReal))
    (fun h => by
      rw [after_A m c ⟨0, h⟩ rfl]
      refine (dbg_apply ..).trans ?_
      rw [zero7, zero_add]
      simp only [weights_eq, row_eq, iblk0, iblk1]
      try rfl)
    (fun n h => by
      have hN := N16
      rw [after_B m c ⟨n + 1, h⟩ (by dsimp only; omega) _ rfl]
      refine (dbg_apply ..).trans ?_
      simp only [weights_eq, row_eq, iblk0, iblk1]
      rfl) 15 last.isLt
  rw [Kit.sum_blocks 16 512 rfl]
  refine Eq.trans (congrArg _ ?_) (h.trans hs)
  funext a
  apply Fin.ext
  match a with
  | ⟨0, _⟩ => show i.val = win0_7.index last 0 * 1 + 1 * i.val; rw [(idx_whole last).2.2.2.1.1]; omega
  | ⟨1, _⟩ => show d.val = win0_7.index last 1 * 1024 + 1 * d.val; rw [(idx_whole last).2.2.2.1.2]; omega

/-- The squared error of all tokens, in every lane. -/
theorem result8 (i : Fin 8) (d : Fin 128) : (dats m 0 c).arrAt 8 cfg0.N (ix2 i d)
    = (∑ i', ∑ k, err (wts m c) (tok m c (i')) k * err (wts m c) (tok m c (i')) k : EReal) := by
  have h := (dats m 0 c).arrAt_emb_eq_flushed 8 (last_only 8 fun t => (flush0_8 t).mp) last ((flush0_8 _).mpr rfl) (ix2 i d)
  rw [Value.flushed8] at h
  have hs := Kit.chain_eq_sum (fun n h => (outsAt0 m c n h).2.2.1 (ix2 i d))
    (fun t => (∑ r, ∑ k, err (wts m c) (tok m c (at_ t r)) k * err (wts m c) (tok m c (at_ t r)) k : EReal))
    (fun h => by
      rw [after_A m c ⟨0, h⟩ rfl]
      refine (loss_apply ..).trans ?_
      rw [zero8, zero_add]
      simp only [weights_eq, row_eq, iblk0, iblk1]
      try rfl)
    (fun n h => by
      have hN := N16
      rw [after_B m c ⟨n + 1, h⟩ (by dsimp only; omega) _ rfl]
      refine (loss_apply ..).trans ?_
      simp only [weights_eq, row_eq, iblk0, iblk1]
      rfl) 15 last.isLt
  rw [Kit.sum_blocks 16 512 rfl]
  refine Eq.trans (congrArg _ ?_) (h.trans hs)
  funext a
  apply Fin.ext
  match a with
  | ⟨0, _⟩ => show i.val = win0_8.index last 0 * 8 + 1 * i.val; rw [(idx_whole last).2.2.2.2.1.1]; omega
  | ⟨1, _⟩ => show d.val = win0_8.index last 1 * 128 + 1 * d.val; rw [(idx_whole last).2.2.2.2.1.2]; omega

/-- The gate weights' gradient. -/
theorem result9 (i : Fin 1024) (d : Fin 1024) : (dats m 0 c).arrAt 9 cfg0.N (ix2 i d)
    = (∑ i', (tok m c (i')).h i * du (wts m c) (tok m c (i')) d : EReal) := by
  have h := (dats m 0 c).arrAt_emb_eq_flushed 9 (last_only 9 fun t => (flush0_9 t).mp) last ((flush0_9 _).mpr rfl) (ix2 i d)
  rw [Value.flushed9] at h
  have hs := Kit.chain_eq_sum (fun n h => (outsAt0 m c n h).2.2.2.1 (ix2 i d))
    (fun t => (∑ r, (tok m c (at_ t r)).h i * du (wts m c) (tok m c (at_ t r)) d : EReal))
    (fun h => by
      rw [after_A m c ⟨0, h⟩ rfl]
      refine (dwg_apply ..).trans ?_
      rw [zero9, zero_add]
      simp only [weights_eq, row_eq, iblk0, iblk1]
      try rfl)
    (fun n h => by
      have hN := N16
      rw [after_B m c ⟨n + 1, h⟩ (by dsimp only; omega) _ rfl]
      refine (dwg_apply ..).trans ?_
      simp only [weights_eq, row_eq, iblk0, iblk1]
      rfl) 15 last.isLt
  rw [Kit.sum_blocks 16 512 rfl]
  refine Eq.trans (congrArg _ ?_) (h.trans hs)
  funext a
  apply Fin.ext
  match a with
  | ⟨0, _⟩ => show i.val = win0_9.index last 0 * 1024 + 1 * i.val; rw [(idx_whole last).2.2.2.2.2.1.1]; omega
  | ⟨1, _⟩ => show d.val = win0_9.index last 1 * 1024 + 1 * d.val; rw [(idx_whole last).2.2.2.2.2.1.2]; omega

/-- The embedding projection's gradient. -/
theorem result10 (i : Fin 256) (d : Fin 1024) : (dats m 0 c).arrAt 10 cfg0.N (ix2 i d)
    = (∑ i', (tok m c (i')).p i * (dy (wts m c) (tok m c (i')) d * gate (wts m c) (tok m c (i')) d) : EReal) := by
  have h := (dats m 0 c).arrAt_emb_eq_flushed 10 (last_only 10 fun t => (flush0_10 t).mp) last ((flush0_10 _).mpr rfl) (ix2 i d)
  rw [Value.flushed10] at h
  have hs := Kit.chain_eq_sum (fun n h => (outsAt0 m c n h).2.2.2.2 (ix2 i d))
    (fun t => (∑ r, (tok m c (at_ t r)).p i * (dy (wts m c) (tok m c (at_ t r)) d * gate (wts m c) (tok m c (at_ t r)) d) : EReal))
    (fun h => by
      rw [after_A m c ⟨0, h⟩ rfl]
      refine (dwpe_apply ..).trans ?_
      rw [zero10, zero_add]
      simp only [weights_eq, row_eq, iblk0, iblk1]
      try rfl)
    (fun n h => by
      have hN := N16
      rw [after_B m c ⟨n + 1, h⟩ (by dsimp only; omega) _ rfl]
      refine (dwpe_apply ..).trans ?_
      simp only [weights_eq, row_eq, iblk0, iblk1]
      rfl) 15 last.isLt
  rw [Kit.sum_blocks 16 512 rfl]
  refine Eq.trans (congrArg _ ?_) (h.trans hs)
  funext a
  apply Fin.ext
  match a with
  | ⟨0, _⟩ => show i.val = win0_10.index last 0 * 256 + 1 * i.val; rw [(idx_whole last).2.2.2.2.2.2.1]; omega
  | ⟨1, _⟩ => show d.val = win0_10.index last 1 * 1024 + 1 * d.val; rw [(idx_whole last).2.2.2.2.2.2.2]; omega

end Cert.KPleIdeal.Points

end
-- ==== Proof.Ple.Reference.lean ====
/- The reference's five results, read element by element as the formulas of `Ple/Value.lean`. Its stages are one
   expression each; `2·err·(1/2·1/1024)` is `err·(1/1024)` and the loss's factors cancel, at every extended real. -/
module

public import proofs.«01_k».proof.Proof.Ple.Value
public import proofs.«01_k».proof.Proof.Gen.RPleIdeal.Read

@[expose] public section

noncomputable section

namespace Cert.RPleIdeal.Points

open Cert.RPleIdeal Cert.RPleIdeal.Gen Cert.RPleIdeal.Read Cert.Ple Idealize.ShloMosaic

variable (x0 : Vec Ideal S8192x1024 .f32) (x1 : Vec Ideal S8192x256 .f32) (x2 : Vec Ideal S8192x1024 .f32)
  (x3 : Vec Ideal S1024x1024 .f32) (x4 : Vec Ideal S1x1024 .f32) (x5 : Vec Ideal S256x1024 .f32)

/-- The parameters and token `i`, as the reference's arguments hold them. -/
def wts : Weights := ⟨fun k d => x3 (ix2 k d), fun d => x4 (ix2 0 d), fun k d => x5 (ix2 k d)⟩
def tok (i : Fin 8192) : Row := ⟨fun k => x0 (ix2 i k), fun k => x1 (ix2 i k), fun k => x2 (ix2 i k)⟩

theorem gate_ref (i : Fin 8192) (d : Fin 1024) : val_main_v8 (F := Ideal) x0 x3 x4 (ix2 i d) = gate (wts x3 x4 x5) (tok x0 x1 x2 i) d := by
  pointwise [val_main_v8, val_main_v7, val_main_v6, val_main_v5, val_main_v4, val_main_v3, val_main_v2, val_main_v1, val_main_v0, val_main_cst, val_main_cst_0]
  rfl

theorem emb_ref (i : Fin 8192) (d : Fin 1024) : val_main_v12 (F := Ideal) x1 x5 (ix2 i d) = emb (wts x3 x4 x5) (tok x0 x1 x2 i) d := by
  pointwise [val_main_v12]
  rfl

theorem err_ref (i : Fin 8192) (d : Fin 1024) :
    val_main_v15 (F := Ideal) x0 x1 x2 x3 x4 x5 (ix2 i d) = err (wts x3 x4 x5) (tok x0 x1 x2 i) d := by
  pointwise [val_main_v15, val_main_v14, val_main_v13]
  rw [gate_ref x0 x1 x2 x3 x4 x5, emb_ref x0 x1 x2 x3 x4 x5]
  rfl

/-- `2·err`, times `1/2·1/1024`. -/
theorem dy_ref (i : Fin 8192) (d : Fin 1024) :
    val_main_v29 (F := Ideal) x0 x1 x2 x3 x4 x5 (ix2 i d) = dy (wts x3 x4 x5) (tok x0 x1 x2 i) d := by
  pointwise [val_main_v29, val_main_v28, val_main_v27, val_main_v26, val_main_v25, val_main_v24, val_main_v18, val_main_v17,
    val_main_cst_2, val_main_cst_7, val_main_cst_8, val_main_cst_9]
  rw [err_ref]
  rw [Kit.half, Kit.two, Kit.c1024, Kit.div_coe _ (by norm_num), ← mul_assoc, mul_comm _ (err _ _ _)]
  unfold dy
  congr 1
  norm_cast
  norm_num

theorem du_ref (i : Fin 8192) (d : Fin 1024) :
    val_main_v34 (F := Ideal) x0 x1 x2 x3 x4 x5 (ix2 i d) = du (wts x3 x4 x5) (tok x0 x1 x2 i) d := by
  pointwise [val_main_v34, val_main_v31, val_main_v11, val_main_v10, val_main_v9, val_main_cst_1]
  rw [gate_ref x0 x1 x2 x3 x4 x5, emb_ref x0 x1 x2 x3 x4 x5, dy_ref]
  rfl

theorem dh_ref (i : Fin 8192) (d : Fin 1024) :
    val_main_v40 (F := Ideal) x0 x1 x2 x3 x4 x5 (ix2 i d) = dh (wts x3 x4 x5) (tok x0 x1 x2 i) d := by
  pointwise [val_main_v40, val_main_v39]
  simp only [du_ref, dy_ref]
  rfl

theorem dbg_ref (i : Fin 1) (d : Fin 1024) :
    val_main_v36 (F := Ideal) x0 x1 x2 x3 x4 x5 (ix2 i d) = ∑ i', du (wts x3 x4 x5) (tok x0 x1 x2 i') d := by
  pointwise [val_main_v36, val_main_v35, val_main_cst_10]
  simp only [du_ref]

/-- The loss: `1/2` of the tokens' means, times `2048`. -/
theorem loss_ref (i : Fin 8) (d : Fin 128) : val_main_v42 (F := Ideal) x0 x1 x2 x3 x4 x5 (ix2 i d)
    = ∑ i', ∑ k, err (wts x3 x4 x5) (tok x0 x1 x2 i') k * err (wts x3 x4 x5) (tok x0 x1 x2 i') k := by
  pointwise [val_main_v42, val_main_v41, val_main_v23, val_main_v22, val_main_v21, val_main_v20, val_main_v19, val_main_v16,
    val_main_cst_3, val_main_cst_4, val_main_cst_5, val_main_cst_6, val_main_cst_11]
  simp only [err_ref]
  rw [Kit.half, Kit.c1024, Kit.c2048]
  simp only [Kit.div_coe _ (show (1024 : ℝ) ≠ 0 by norm_num)]
  rw [mul_comm (((1 / 2 : ℝ) : EReal) * _), ← mul_assoc, ← EReal.coe_mul, Kit.mul_sum_of_nonneg _ _ (by norm_num)]
  refine Finset.sum_congr rfl fun t _ => ?_
  rw [mul_comm, mul_assoc, ← EReal.coe_mul]
  norm_num

theorem dwg_ref (i d : Fin 1024) : val_main_v38 (F := Ideal) x0 x1 x2 x3 x4 x5 (ix2 i d)
    = ∑ i', (tok x0 x1 x2 i').h i * du (wts x3 x4 x5) (tok x0 x1 x2 i') d := by
  pointwise [val_main_v38, val_main_v37]
  simp only [du_ref]
  exact Finset.sum_congr rfl fun t _ => mul_comm _ _

theorem dwpe_ref (i : Fin 256) (d : Fin 1024) : val_main_v33 (F := Ideal) x0 x1 x2 x3 x4 x5 (ix2 i d)
    = ∑ i', (tok x0 x1 x2 i').p i * (dy (wts x3 x4 x5) (tok x0 x1 x2 i') d * gate (wts x3 x4 x5) (tok x0 x1 x2 i') d) := by
  pointwise [val_main_v33, val_main_v32, val_main_v30]
  simp only [dy_ref, gate_ref x0 x1 x2 x3 x4 x5]
  exact Finset.sum_congr rfl fun t _ => (mul_comm _ _).trans (congrArg _ (mul_comm _ _))

end Cert.RPleIdeal.Points

end
-- ==== Proof.Ple.Claim.lean ====
/- The claims about the backward of the layer's gated embedding and its loss: the frames are the generated runs', the
   value the five results of `Ple/Value.lean` against those of `Ple/Reference.lean`. -/
module

public import proofs.«01_k».proof.Defs
public import proofs.«01_k».proof.Proof.Gen.KPle.Frame
public import proofs.«01_k».proof.Proof.Gen.RPleIdeal.Run
public import proofs.«01_k».proof.Proof.Ple.Reference

@[expose] public section

noncomputable section

namespace Cert.Ple

open Idealize.ShloMosaic Idealize.ShloMosaic.TcCoe Idealize.SL.Sem

theorem frame_kernel : Cert.quiescent_KPle := fun m ρ _ => Cert.KPle.Gen.frame m ρ
theorem frame_ideal : Cert.quiescent_KPleIdeal := fun m ρ _ => Cert.KPleIdeal.Gen.frame m ρ
theorem frame_reference : Cert.quiescent_RPleIdeal := fun m ρ _ =>
  (θ_run Cert.RPleIdeal.defs _ _).mono (fun r h => ⟨fun c => (h c).2.2.2.2.2, sem_eq_zero_of_no_sems (by decide) r.2⟩)
    (Cert.RPleIdeal.Value.run (F := Ideal) m ρ)

theorem algebraic : Cert.algebraic_KPleIdeal_RPleIdeal := by
  intro m ρ m' ρ' _ hagree
  refine ⟨fun c => (Cert.KPleIdeal.Gen.dats m 0 c).arrAt 6 Cert.KPleIdeal.cfg0.N, fun c => (Cert.KPleIdeal.Gen.dats m 0 c).arrAt 7 Cert.KPleIdeal.cfg0.N,
    fun c => (Cert.KPleIdeal.Gen.dats m 0 c).arrAt 8 Cert.KPleIdeal.cfg0.N, fun c => (Cert.KPleIdeal.Gen.dats m 0 c).arrAt 9 Cert.KPleIdeal.cfg0.N,
    fun c => (Cert.KPleIdeal.Gen.dats m 0 c).arrAt 10 Cert.KPleIdeal.cfg0.N, Cert.KPleIdeal.Value.run_blocks m ρ,
    (θ_run Cert.RPleIdeal.defs _ _).mono (fun r h c => ?_) (Cert.RPleIdeal.Value.run (F := Ideal) m' ρ')⟩
  obtain ⟨h0, h1, h2, h3, h4, h⟩ := h c
  obtain ⟨a0, a1, a2, a3, a4, a5⟩ := hagree c
  refine ⟨h0.trans ((Cert.RPleIdeal.Read.val_main_v40_eq ..).trans (Kit.mat_ext fun i d => ?_)),
    h1.trans ((Cert.RPleIdeal.Read.val_main_v36_eq ..).trans (Kit.mat_ext fun i d => ?_)),
    h2.trans ((Cert.RPleIdeal.Read.val_main_v42_eq ..).trans (Kit.mat_ext fun i d => ?_)),
    h3.trans ((Cert.RPleIdeal.Read.val_main_v38_eq ..).trans (Kit.mat_ext fun i d => ?_)),
    h4.trans ((Cert.RPleIdeal.Read.val_main_v33_eq ..).trans (Kit.mat_ext fun i d => ?_)), h⟩
  all_goals rw [a0, a1, a2, a3, a4, a5]
  · exact (Cert.RPleIdeal.Points.dh_ref ..).trans (Cert.KPleIdeal.Points.result6 m c i d).symm
  · exact (Cert.RPleIdeal.Points.dbg_ref ..).trans (Cert.KPleIdeal.Points.result7 m c i d).symm
  · exact (Cert.RPleIdeal.Points.loss_ref ..).trans (Cert.KPleIdeal.Points.result8 m c i d).symm
  · exact (Cert.RPleIdeal.Points.dwg_ref ..).trans (Cert.KPleIdeal.Points.result9 m c i d).symm
  · exact (Cert.RPleIdeal.Points.dwpe_ref ..).trans (Cert.KPleIdeal.Points.result10 m c i d).symm

end Cert.Ple

end
-- ==== Proof.Ffn.Row.lean ====
/- The feed-forward backward call's row: its gradients as formulas (`dff` … `dh`) of the gradient at the block's output
   and of what the forward left, and the forward itself, as the reference computes it from the arguments. The hidden
   layer's 4096 entries are eight blocks of 512, named by block and column. -/
module

public import proofs.«01_k».proof.Proof.Kit
public import proofs.«01_k».proof.Proof.Gen.RFfnIdeal.Read

@[expose] public section

noncomputable section

/-! ## One row -/

namespace Cert.Ffn

open Idealize.ShloMosaic

/-- Column `q` of hidden block `j`. -/
abbrev col (j : Fin 8) (q : Fin 512) : Fin 4096 := ⟨j.val * 512 + q.val, by have := j.isLt; have := q.isLt; omega⟩

/-- The parameters of the block, by coordinates. -/
structure Weights where
  w1 : Fin 1024 → Fin 8 → Fin 512 → EReal
  w2 : Fin 8 → Fin 512 → Fin 1024 → EReal
  post : Fin 1024 → EReal
  pre : Fin 1024 → EReal

/-- One token: the gradient at the block's output, the block's input, and what its forward leaves there: the hidden
    layer before its square, the product before the norm. -/
structure Row where
  dy : Fin 1024 → EReal
  h : Fin 1024 → EReal
  f1 : Fin 8 → Fin 512 → EReal
  ff : Fin 1024 → EReal

variable (θ : Weights) (x : Row) (d : Fin 1024) (j : Fin 8) (q : Fin 512)

/-- The gradient at the product before the norm. -/
def dff : EReal := Kit.rmsBack 1024 x.ff (fun k => x.dy k * θ.post k) d
/-- … at the hidden layer before its square. -/
def df1 : EReal := (∑ k, dff θ x k * θ.w2 j q k) * (((2 : ℝ) : EReal) * max (x.f1 j q) 0)
/-- … at the hidden layer's normed input. -/
def dn : EReal := ∑ j, ∑ q, df1 θ x j q * θ.w1 d j q
/-- … at the block's input. -/
def dh : EReal := x.dy d + Kit.rmsBack 1024 x.h (fun k => dn θ x k * θ.pre k) d
/-- What the row adds to the gradients of the two norms' gains. -/
def dpost : EReal := x.dy d * (x.ff d * Kit.rstd 1024 x.ff)
def dpre : EReal := dn θ x d * (x.h d * Kit.rstd 1024 x.h)

/-- The forward's hidden layer and product, from the block's input. -/
def f1Of (h : Fin 1024 → EReal) : EReal := ∑ k, h k * Kit.rstd 1024 h * θ.pre k * θ.w1 k j q
def ffOf (h : Fin 1024 → EReal) : EReal :=
  ∑ j, ∑ q, max (f1Of θ j q h) 0 * max (f1Of θ j q h) 0 * θ.w2 j q d

/-! ## The arguments' rows, and the forward they determine -/

section Arguments
open Cert.RFfnIdeal Cert.RFfnIdeal.Gen Cert.RFfnIdeal.Read
variable (x0 x1 : Vec Ideal S8192x1024 .f32) (x2 : Vec Ideal S1x1024 .f32) (x3 : Vec Ideal S1024x4096 .f32)
  (x4 : Vec Ideal S4096x1024 .f32) (x5 : Vec Ideal S1x1024 .f32)

def wts : Weights := ⟨fun k j q => x3 (ix2 k (col j q)), fun j q k => x4 (ix2 (col j q) k), fun d => x5 (ix2 0 d),
  fun d => x2 (ix2 0 d)⟩
/-- Token `i`: the two rows given, and the forward of the block's input. -/
def tok (i : Fin 8192) : Row := ⟨fun k => x0 (ix2 i k), fun k => x1 (ix2 i k),
  fun j q => f1Of (wts x2 x3 x4 x5) j q fun k => x1 (ix2 i k), fun d => ffOf (wts x2 x3 x4 x5) d fun k => x1 (ix2 i k)⟩

theorem f1_ref (i : Fin 8192) (j : Fin 8) (q : Fin 512) :
    val_main_v15 (F := Ideal) x1 x2 x3 (ix2 i (col j q)) = (tok x0 x1 x2 x3 x4 x5 i).f1 j q := by
  pointwise [val_main_v15, val_main_v14, val_main_v13, val_main_v12, val_main_v11, val_main_v7, val_main_v6, val_main_v5,
    val_main_v4, val_main_v3, val_main_v2, val_main_v1, val_main_v0, val_main_cst, val_main_cst_0, val_main_cst_1]
  simp only [Kit.rsqrt_1024 fun k => x1 (ix2 i k)]
  rfl

theorem ff_ref (i : Fin 8192) (d : Fin 1024) :
    val_main_v23 (F := Ideal) x1 x2 x3 x4 (ix2 i d) = (tok x0 x1 x2 x3 x4 x5 i).ff d := by
  pointwise [val_main_v23, val_main_v20, val_main_v16, val_main_call0_v0, val_main_call0_cst]
  rw [Kit.sum_blocks 8 512 rfl]
  show _ = ∑ j, ∑ q, max ((tok x0 x1 x2 x3 x4 x5 i).f1 j q) 0 * max ((tok x0 x1 x2 x3 x4 x5 i).f1 j q) 0 * x4 (ix2 (col j q) d)
  refine Finset.sum_congr rfl fun j _ => Finset.sum_congr rfl fun q _ => ?_
  rw [f1_ref x0 x1 x2 x3 x4 x5 i j q]

end Arguments

end Cert.Ffn

end
-- ==== Proof.Ffn.Points.lean ====
/- The feed-forward backward call, point by point: what each grid point leaves in its five output buffers, as the
   printed payloads of the blocks it reads (and, past the first point, of what the point before left). A point walks
   the hidden layer in eight blocks of 512 columns: `w1s`, `w2s`, `cols` are the pieces of the blocks it reads then. -/
module

public import proofs.«01_k».proof.Proof.Ffn.Row
public import proofs.«01_k».proof.Proof.Gen.KFfnIdeal.Value

@[expose] public section

set_option maxRecDepth 16384

noncomputable section

namespace Cert.KFfnIdeal.Points

open Cert.KFfnIdeal Cert.KFfnIdeal.Gen Idealize.ShloMosaic Idealize.ShloMosaic.TcCoe Idealize.SL.Sem
open Idealize.ShloMosaic.Pipeline (Dat)
open Cert.Ffn (col)

variable {F : FTy → Type} [FloatOps F]
variable (m : (ℓ : Loc nD τ sig) → Buf (Elt F) ℓ)

theorem N16 : cfg0.N = 16 := N_0
theorem hz : (![0, 0] : Fin 2 → Nat) = fun _ => 0 := funext fun a => by fin_cases a <;> rfl

/-! ## The eight blocks of the hidden layer -/

def w1s (X : Vec F S8x1024x512 .bf16) (j : Fin 8) : Vec F S1x1024x512 .bf16 := fun i => X (ix3 j (i 1) (i 2))
def w2s (X : Vec F S8x512x1024 .bf16) (j : Fin 8) : Vec F S1x512x1024 .bf16 := fun i => X (ix3 j (i 1) (i 2))
def cols (X : Vec F S512x4096 .bf16) (j : Fin 8) : Vec F S512x512 .bf16 := fun i => X (ix2 (i 0) (col j (i 1)))

theorem ld_w1s (X : Vec F S8x1024x512 .bf16) (j : ℕ) (h) :
    View.ld X (Rect.unit (s := S8x1024x512) ![j, 0, 0] ![1, 1024, 512] h) = w1s X ⟨j, Nat.lt_of_succ_le (h 0)⟩ := by
  funext i
  refine congrArg X (funext fun a => Fin.ext ?_)
  match a with
  | ⟨0, _⟩ => show j + 1 * (i 0).val = j; have : (i 0).val < 1 := (i 0).isLt; omega
  | ⟨1, _⟩ => show 0 + 1 * (i 1).val = (i 1).val; omega
  | ⟨2, _⟩ => show 0 + 1 * (i 2).val = (i 2).val; omega

theorem ld_w2s (X : Vec F S8x512x1024 .bf16) (j : ℕ) (h) :
    View.ld X (Rect.unit (s := S8x512x1024) ![j, 0, 0] ![1, 512, 1024] h) = w2s X ⟨j, Nat.lt_of_succ_le (h 0)⟩ := by
  funext i
  refine congrArg X (funext fun a => Fin.ext ?_)
  match a with
  | ⟨0, _⟩ => show j + 1 * (i 0).val = j; have : (i 0).val < 1 := (i 0).isLt; omega
  | ⟨1, _⟩ => show 0 + 1 * (i 1).val = (i 1).val; omega
  | ⟨2, _⟩ => show 0 + 1 * (i 2).val = (i 2).val; omega

theorem ld_cols (X : Vec F S512x4096 .bf16) (j : Fin 8) (o : ℕ) (ho : o = j.val * 512) (h) :
    View.ld X (Rect.unit (s := S512x4096) ![0, o] ![512, 512] h) = cols X j := by
  funext i
  refine congrArg X (funext fun a => Fin.ext ?_)
  match a with
  | ⟨0, _⟩ => show 0 + 1 * (i 0).val = (i 0).val; omega
  | ⟨1, _⟩ => show o + 1 * (i 1).val = j.val * 512 + (i 1).val; omega

/-! ## One point -/

section Hidden
variable (B : FVec F S512x1024 .bf16) (F1 : Vec F S512x4096 .bf16) (W1 : Vec F S8x1024x512 .bf16) (W2 : Vec F S8x512x1024 .bf16)

/-- The gradient at hidden block 3's and 5's products, and the gradient so far at the hidden layer's input. -/
abbrev upto4 : FVec F S512x1024 .f32 :=
  k0_pay21 B (k0_pay15 B (k0_pay12 B (w2s W2 0) (cols F1 0) (w1s W1 0)) (k0_pay13 B (w2s W2 1) (cols F1 1)) (w1s W1 1)
      (w2s W2 2) (cols F1 2) (w1s W1 2))
    (k0_pay16 B (w2s W2 3)) (k0_pay17 (cols F1 3)) k0_pay18 (w1s W1 3) (w2s W2 4) (cols F1 4) (w1s W1 4)
abbrev upto6 : FVec F S512x1024 .f32 :=
  k0_pay26 B (upto4 B F1 W1 W2) (k0_pay22 B (w2s W2 5)) (k0_pay23 (cols F1 5)) (Scalar.ofBits .f32 0x00000000#32)
    (w1s W1 5) (w2s W2 6) (cols F1 6) (w1s W1 6)

/-- What a point stores of the hidden layer's gradient: a piece a block, the last one first. -/
abbrev pieces : List (View.Piece (Elt F) S512x4096 .bf16) :=
  [⟨Rect.unit ![0, 3584] ![512, 512] (by decide), k0_pay28 (k0_pay27 B (w2s W2 7)) (cols F1 7)⟩,
   ⟨Rect.unit ![0, 3072] ![512, 512] (by decide), k0_pay25 B (w2s W2 6) (cols F1 6)⟩,
   ⟨Rect.unit ![0, 2560] ![512, 512] (by decide),
     k0_pay24 (k0_pay22 B (w2s W2 5)) (k0_pay23 (cols F1 5)) (Scalar.ofBits .f32 0x00000000#32)⟩,
   ⟨Rect.unit ![0, 2048] ![512, 512] (by decide), k0_pay20 B (w2s W2 4) (cols F1 4)⟩,
   ⟨Rect.unit ![0, 1536] ![512, 512] (by decide), k0_pay19 (k0_pay16 B (w2s W2 3)) (k0_pay17 (cols F1 3)) k0_pay18⟩,
   ⟨Rect.unit ![0, 1024] ![512, 512] (by decide), k0_pay14 B (w2s W2 2) (cols F1 2)⟩,
   ⟨Rect.unit ![0, 512] ![512, 512] (by decide), k0_pay13 B (w2s W2 1) (cols F1 1)⟩,
   ⟨Rect.unit ![0, 0] ![512, 512] (by decide), k0_pay11 B (w2s W2 0) (cols F1 0)⟩]
/-- … as one block. -/
def hidden : Vec F S512x4096 .bf16 := View.canon (pieces B F1 W2)

end Hidden

section Blocks
variable (c : Dev nD) (t : Fin cfg0.N)

/-- The gradient at the block's output, point `t`'s rows. -/
abbrev dffB : FVec F S512x1024 .bf16 := k0_pay8 (iblk m c 0 t) (iblk m c 1 t) (iblk m c 6 t)

/-- The five buffers after point `t`, from what the two accumulated ones held before. -/
def step (b g : FVec F S1x1024 .f32) :
    Vec F S512x1024 .bf16 × Vec F S512x4096 .bf16 × Vec F S512x1024 .f32 × Vec F S1x1024 .f32 × Vec F S1x1024 .f32 :=
  ⟨dffB m c t, hidden (dffB m c t) (iblk m c 3 t) (iblk m c 5 t),
   k0_pay1 (iblk m c 0 t) (k0_pay31 (upto6 (dffB m c t) (iblk m c 3 t) (iblk m c 4 t) (iblk m c 5 t))
     (k0_pay27 (dffB m c t) (w2s (iblk m c 5 t) 7)) (cols (iblk m c 3 t) 7) (w1s (iblk m c 4 t) 7) (iblk m c 2 t) (iblk m c 7 t)),
   k0_pay10 (k0_pay7 (iblk m c 0 t) (iblk m c 1 t)) (k0_pay9 b),
   k0_pay2 (k0_pay32 (upto6 (dffB m c t) (iblk m c 3 t) (iblk m c 4 t) (iblk m c 5 t))
     (k0_pay27 (dffB m c t) (w2s (iblk m c 5 t) 7)) (cols (iblk m c 3 t) 7) (w1s (iblk m c 4 t) 7) (iblk m c 2 t)) g⟩

theorem step_hidden (b g : FVec F S1x1024 .f32) :
    (step m c t b g).2.1 = hidden (dffB m c t) (iblk m c 3 t) (iblk m c 5 t) := by
  unfold step
  dsimp only

/-- The first point clears the two accumulated buffers before it adds to them. -/
theorem after_A (h0 : t.val % 16 = 0) : outsAt0 m c t.val t.isLt = step m c t k0_pay3 k0_pay4 := by
  rw [outsAt0_A m c t h0]
  unfold step
  refine Prod.ext ?_ (Prod.ext ?_ (Prod.ext ?_ (Prod.ext ?_ ?_))) <;> dsimp only
  · unfold out0_A_8
    rw [View.read_writes_eq_canon _ _ _ (fun y => cover0_A_8 (y := y) ..)]
    unfold kernelRun0_A
    dsimp only
    sl_unfold_words
    rw [View.canon_unit_zero (S := S512x1024) hz]
    all_goals
      simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S512x1024) hz, View.ld_unit_zero (S := S1x1024) hz, ld_w1s,
        ld_w2s, ld_cols _ 0 0 rfl, ld_cols _ 1 512 rfl, ld_cols _ 2 1024 rfl, ld_cols _ 3 1536 rfl, ld_cols _ 4 2048 rfl,
        ld_cols _ 5 2560 rfl, ld_cols _ 6 3072 rfl, ld_cols _ 7 3584 rfl]
      try rfl
  · unfold out0_A_9
    rw [View.read_writes_eq_canon _ _ _ (fun y => cover0_A_9 (y := y) ..)]
    unfold kernelRun0_A
    dsimp only
    sl_unfold_words
    all_goals
      simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S512x1024) hz, View.ld_unit_zero (S := S1x1024) hz, ld_w1s,
        ld_w2s, ld_cols _ 0 0 rfl, ld_cols _ 1 512 rfl, ld_cols _ 2 1024 rfl, ld_cols _ 3 1536 rfl, ld_cols _ 4 2048 rfl,
        ld_cols _ 5 2560 rfl, ld_cols _ 6 3072 rfl, ld_cols _ 7 3584 rfl]
      try rfl
  · unfold out0_A_10
    rw [View.read_writes_eq_canon _ _ _ (fun y => cover0_A_10 (y := y) ..)]
    unfold kernelRun0_A
    dsimp only
    sl_unfold_words
    rw [View.canon_unit_zero (S := S512x1024) hz]
    all_goals
      simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S512x1024) hz, View.ld_unit_zero (S := S1x1024) hz, ld_w1s,
        ld_w2s, ld_cols _ 0 0 rfl, ld_cols _ 1 512 rfl, ld_cols _ 2 1024 rfl, ld_cols _ 3 1536 rfl, ld_cols _ 4 2048 rfl,
        ld_cols _ 5 2560 rfl, ld_cols _ 6 3072 rfl, ld_cols _ 7 3584 rfl]
      try rfl
  · unfold out0_A_11
    rw [View.read_writes_eq_canon _ _ _ (fun y => cover0_A_11 (y := y) ..)]
    unfold kernelRun0_A
    dsimp only
    sl_unfold_words
    rw [View.canon_cons_unit_zero (S := S1x1024) hz, View.readCov_unit_zero (S := S1x1024) _ hz]
    all_goals
      simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S512x1024) hz, View.ld_unit_zero (S := S1x1024) hz, ld_w1s,
        ld_w2s, ld_cols _ 0 0 rfl, ld_cols _ 1 512 rfl, ld_cols _ 2 1024 rfl, ld_cols _ 3 1536 rfl, ld_cols _ 4 2048 rfl,
        ld_cols _ 5 2560 rfl, ld_cols _ 6 3072 rfl, ld_cols _ 7 3584 rfl]
      try rfl
  · unfold out0_A_12
    rw [View.read_writes_eq_canon _ _ _ (fun y => cover0_A_12 (y := y) ..)]
    unfold kernelRun0_A
    dsimp only
    sl_unfold_words
    rw [View.canon_cons_unit_zero (S := S1x1024) hz, View.readCov_unit_zero (S := S1x1024) _ hz]
    all_goals
      simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S512x1024) hz, View.ld_unit_zero (S := S1x1024) hz, ld_w1s,
        ld_w2s, ld_cols _ 0 0 rfl, ld_cols _ 1 512 rfl, ld_cols _ 2 1024 rfl, ld_cols _ 3 1536 rfl, ld_cols _ 4 2048 rfl,
        ld_cols _ 5 2560 rfl, ld_cols _ 6 3072 rfl, ld_cols _ 7 3584 rfl]
      try rfl

/-- Every later point adds to what the point before left. -/
theorem after_B (h0 : ¬t.val % 16 = 0) (p) (hp : p = outsAt0 m c (t.val - 1) (Nat.lt_of_le_of_lt (Nat.sub_le _ _) t.isLt)) :
    outsAt0 m c t.val t.isLt = step m c t p.2.2.2.1 p.2.2.2.2 := by
  rw [outsAt0_B m c t h0, ← hp]
  unfold step
  refine Prod.ext ?_ (Prod.ext ?_ (Prod.ext ?_ (Prod.ext ?_ ?_))) <;> dsimp only
  · unfold out0_B_8
    rw [View.read_writes_eq_canon _ _ _ (fun y => cover0_B_8 (y := y) ..)]
    unfold kernelRun0_B
    dsimp only
    sl_unfold_words
    rw [View.canon_unit_zero (S := S512x1024) hz]
    all_goals
      simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_11 t).read_unread, (hs0_12 t).read_unread, View.ld_unit_zero (S := S512x1024) hz, View.ld_unit_zero (S := S1x1024) hz, ld_w1s,
        ld_w2s, ld_cols _ 0 0 rfl, ld_cols _ 1 512 rfl, ld_cols _ 2 1024 rfl, ld_cols _ 3 1536 rfl, ld_cols _ 4 2048 rfl,
        ld_cols _ 5 2560 rfl, ld_cols _ 6 3072 rfl, ld_cols _ 7 3584 rfl]
      try rfl
  · unfold out0_B_9
    rw [View.read_writes_eq_canon _ _ _ (fun y => cover0_B_9 (y := y) ..)]
    unfold kernelRun0_B
    dsimp only
    sl_unfold_words
    all_goals
      simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_11 t).read_unread, (hs0_12 t).read_unread, View.ld_unit_zero (S := S512x1024) hz, View.ld_unit_zero (S := S1x1024) hz, ld_w1s,
        ld_w2s, ld_cols _ 0 0 rfl, ld_cols _ 1 512 rfl, ld_cols _ 2 1024 rfl, ld_cols _ 3 1536 rfl, ld_cols _ 4 2048 rfl,
        ld_cols _ 5 2560 rfl, ld_cols _ 6 3072 rfl, ld_cols _ 7 3584 rfl]
      try rfl
  · unfold out0_B_10
    rw [View.read_writes_eq_canon _ _ _ (fun y => cover0_B_10 (y := y) ..)]
    unfold kernelRun0_B
    dsimp only
    sl_unfold_words
    rw [View.canon_unit_zero (S := S512x1024) hz]
    all_goals
      simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_11 t).read_unread, (hs0_12 t).read_unread, View.ld_unit_zero (S := S512x1024) hz, View.ld_unit_zero (S := S1x1024) hz, ld_w1s,
        ld_w2s, ld_cols _ 0 0 rfl, ld_cols _ 1 512 rfl, ld_cols _ 2 1024 rfl, ld_cols _ 3 1536 rfl, ld_cols _ 4 2048 rfl,
        ld_cols _ 5 2560 rfl, ld_cols _ 6 3072 rfl, ld_cols _ 7 3584 rfl]
      try rfl
  · unfold out0_B_11
    rw [View.read_writes_eq_canon _ _ _ (fun y => cover0_B_11 (y := y) ..)]
    unfold kernelRun0_B
    dsimp only
    sl_unfold_words
    rw [View.canon_unit_zero (S := S1x1024) hz]
    all_goals
      simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_11 t).read_unread, (hs0_12 t).read_unread, View.ld_unit_zero (S := S512x1024) hz, View.ld_unit_zero (S := S1x1024) hz, ld_w1s,
        ld_w2s, ld_cols _ 0 0 rfl, ld_cols _ 1 512 rfl, ld_cols _ 2 1024 rfl, ld_cols _ 3 1536 rfl, ld_cols _ 4 2048 rfl,
        ld_cols _ 5 2560 rfl, ld_cols _ 6 3072 rfl, ld_cols _ 7 3584 rfl]
      try rfl
  · unfold out0_B_12
    rw [View.read_writes_eq_canon _ _ _ (fun y => cover0_B_12 (y := y) ..)]
    unfold kernelRun0_B
    dsimp only
    sl_unfold_words
    rw [View.canon_unit_zero (S := S1x1024) hz]
    all_goals
      simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_11 t).read_unread, (hs0_12 t).read_unread, View.ld_unit_zero (S := S512x1024) hz, View.ld_unit_zero (S := S1x1024) hz, ld_w1s,
        ld_w2s, ld_cols _ 0 0 rfl, ld_cols _ 1 512 rfl, ld_cols _ 2 1024 rfl, ld_cols _ 3 1536 rfl, ld_cols _ 4 2048 rfl,
        ld_cols _ 5 2560 rfl, ld_cols _ 6 3072 rfl, ld_cols _ 7 3584 rfl]
      try rfl

end Blocks

end Cert.KFfnIdeal.Points

end
-- ==== Proof.Ffn.Value.lean ====
/- The feed-forward backward call at the ideal instance: the kernel's blocks as the formulas of `Ffn/Row.lean` of their
   rows, the accumulated outputs as sums over all 8192 rows. -/
module

public import proofs.«01_k».proof.Proof.Ffn.Points

@[expose] public section

set_option maxRecDepth 16384

noncomputable section

namespace Cert.KFfnIdeal.Points

open Cert.KFfnIdeal Cert.KFfnIdeal.Gen Idealize.ShloMosaic Idealize.ShloMosaic.TcCoe Idealize.SL.Sem
open Cert.Ffn

/-! ## The payloads at an index -/

section Payloads
variable (DY : Vec Ideal S512x1024 .f32) (FF : Vec Ideal S512x1024 .f32) (H : Vec Ideal S512x1024 .f32)
  (F1 : Vec Ideal S512x4096 .bf16) (W1 : Vec Ideal S8x1024x512 .bf16) (W2 : Vec Ideal S8x512x1024 .bf16)
  (gp : Vec Ideal S1x1024 .f32) (gq : Vec Ideal S1x1024 .f32)

abbrev weights : Weights := ⟨fun k j q => W1 (ix3 j k q), fun j q k => W2 (ix3 j q k), fun d => gp (ix2 0 d), fun d => gq (ix2 0 d)⟩
abbrev row (r : Fin 512) : Row :=
  ⟨fun k => DY (ix2 r k), fun k => H (ix2 r k), fun j q => F1 (ix2 r (col j q)), fun k => FF (ix2 r k)⟩

/-- The gradient at the product, as the point's first stage leaves it. -/
abbrev grad : FVec Ideal S512x1024 .bf16 := k0_pay8 DY FF gp
/-- … and at the hidden layer's normed input, as its last one does. -/
abbrev gradN : FVec Ideal S512x1024 .f32 :=
  k0_pay29 (upto6 (grad DY FF gp) F1 W1 W2) (k0_pay27 (grad DY FF gp) (w2s W2 7)) (cols F1 7) (w1s W1 7)

theorem w1s_apply (j : Fin 8) (a : Fin 1) (k : Fin 1024) (q : Fin 512) : w1s (F := Ideal) W1 j (ix3 a k q) = W1 (ix3 j k q) := rfl
theorem w2s_apply (j : Fin 8) (a : Fin 1) (q : Fin 512) (k : Fin 1024) : w2s (F := Ideal) W2 j (ix3 a q k) = W2 (ix3 j q k) := rfl
theorem cols_apply (j : Fin 8) (r q : Fin 512) : cols (F := Ideal) F1 j (ix2 r q) = F1 (ix2 r (col j q)) := rfl

theorem dff_apply (r : Fin 512) (d : Fin 1024) :
    k0_pay8 (F := Ideal) DY FF gp (ix2 r d) = dff (weights W1 W2 gp gq) (row DY FF H F1 r) d := by
  pointwise [k0_pay8, k0_pay6, k0_pay5]
  simp only [Kit.rsqrt_1024 fun k => FF (ix2 r k), Kit.c1024recip]
  rfl

/-- A block's column of the hidden layer's gradient, from the gradient `B` at the product. -/
def act (B : Vec Ideal S512x1024 .bf16) (r : Fin 512) (j : Fin 8) (q : Fin 512) : EReal :=
  (∑ k, B (ix2 r k) * W2 (ix3 j q k)) * (((2 : ℝ) : EReal) * max (F1 (ix2 r (col j q))) 0)

theorem sofar_apply (B : Vec Ideal S512x1024 .bf16) (r : Fin 512) (d : Fin 1024) :
    k0_pay29 (F := Ideal) (upto6 B F1 W1 W2) (k0_pay27 B (w2s W2 7)) (cols F1 7) (w1s W1 7) (ix2 r d)
      = ∑ j, ∑ q, act F1 W2 B r j q * W1 (ix3 j d q) := by
  pointwise [k0_pay29, k0_pay28, k0_pay27, k0_pay26, k0_pay25, k0_pay24, k0_pay23, k0_pay22, k0_pay21, k0_pay20, k0_pay19,
    k0_pay18, k0_pay17, k0_pay16, k0_pay15, k0_pay14, k0_pay13, k0_pay12, k0_pay11]
  simp only [w1s_apply, w2s_apply, cols_apply, Kit.two, Fin.sum_univ_eight]
  rfl

/-- The stored pieces of the hidden layer's gradient, at block `j`'s column `q`. -/
theorem pieces_apply (B : Vec Ideal S512x1024 .bf16) (r : Fin 512) (j : Fin 8) (q : Fin 512) :
    hidden (F := Ideal) B F1 W2 (ix2 r (col j q)) = act F1 W2 B r j q := by
  let G : S512x4096.Idx → EReal := fun y =>
    act F1 W2 B (y 0) ⟨(y 1).val / 512, by have : (y 1).val < 4096 := (y 1).isLt; omega⟩ ⟨(y 1).val % 512, Nat.mod_lt _ (by decide)⟩
  have hG : ∀ (o : ℕ) (h) (j : Fin 8) (_ : o = j.val * 512) (V : FVec Ideal S512x512 .bf16)
      (_ : ∀ r q, V (ix2 r q) = act F1 W2 B r j q) (x : S512x512.Idx),
      V x = G ((Rect.unit (s := S512x4096) ![0, o] ![512, 512] h).emb x) := by
    intro o h j ho V hV x
    have e0 : x = ix2 (x 0) (x 1) := by
      funext a
      match a with
      | ⟨0, _⟩ => rfl
      | ⟨1, _⟩ => rfl
    have l1 : (x 1).val < 512 := (x 1).isLt
    refine (congrArg V e0).trans ((hV _ _).trans ?_)
    show act F1 W2 B _ _ _ = act F1 W2 B _ _ _
    congr 1
    · exact Fin.ext (show (x 0).val = 0 + 1 * (x 0).val by omega)
    · exact Fin.ext (show j.val = (o + 1 * (x 1).val) / 512 by omega)
    · exact Fin.ext (show (x 1).val = (o + 1 * (x 1).val) % 512 by omega)
  refine (View.canon_apply_of_pieces (Val := Elt Ideal) G (pieces B F1 W2) ?_ _
    (View.cover_of_tiledL (pieces B F1 W2) S512x512.size (by sl_kernel_rfl) _)).trans ?_
  · intro p hp
    simp only [pieces, List.mem_cons, List.not_mem_nil, or_false] at hp
    rcases hp with rfl | rfl | rfl | rfl | rfl | rfl | rfl | rfl
    · exact hG 3584 (by decide) 7 rfl _ fun r q => by pointwise [k0_pay28, k0_pay27]; simp only [w2s_apply, cols_apply, Kit.two]; rfl
    · exact hG 3072 (by decide) 6 rfl _ fun r q => by pointwise [k0_pay25]; simp only [w2s_apply, cols_apply, Kit.two]; rfl
    · exact hG 2560 (by decide) 5 rfl _ fun r q => by
        pointwise [k0_pay24, k0_pay23, k0_pay22]; simp only [w2s_apply, cols_apply, Kit.two]; rfl
    · exact hG 2048 (by decide) 4 rfl _ fun r q => by pointwise [k0_pay20]; simp only [w2s_apply, cols_apply, Kit.two]; rfl
    · exact hG 1536 (by decide) 3 rfl _ fun r q => by
        pointwise [k0_pay19, k0_pay18, k0_pay17, k0_pay16]; simp only [w2s_apply, cols_apply, Kit.two]; rfl
    · exact hG 1024 (by decide) 2 rfl _ fun r q => by pointwise [k0_pay14]; simp only [w2s_apply, cols_apply, Kit.two]; rfl
    · exact hG 512 (by decide) 1 rfl _ fun r q => by pointwise [k0_pay13]; simp only [w2s_apply, cols_apply, Kit.two]; rfl
    · exact hG 0 (by decide) 0 rfl _ fun r q => by pointwise [k0_pay11]; simp only [w2s_apply, cols_apply, Kit.two]; rfl
  · show act F1 W2 B _ _ _ = act F1 W2 B _ _ _
    congr 1
    · exact Fin.ext (show (j.val * 512 + q.val) / 512 = j.val by have := q.isLt; omega)
    · exact Fin.ext (show (j.val * 512 + q.val) % 512 = q.val by have := q.isLt; omega)

theorem act_eq (r : Fin 512) (j : Fin 8) (q : Fin 512) :
    act F1 W2 (grad DY FF gp) r j q = df1 (weights W1 W2 gp gq) (row DY FF H F1 r) j q := by
  unfold act grad
  simp only [dff_apply DY FF H F1 W1 W2 gp gq]
  rfl

theorem dn_apply (r : Fin 512) (d : Fin 1024) :
    gradN DY FF F1 W1 W2 gp (ix2 r d) = dn (weights W1 W2 gp gq) (row DY FF H F1 r) d := by
  refine (sofar_apply ..).trans ?_
  simp only [act_eq DY FF H F1 W1 W2 gp gq]
  rfl

theorem dh_apply (r : Fin 512) (d : Fin 1024) :
    k0_pay1 (F := Ideal) DY (k0_pay31 (upto6 (grad DY FF gp) F1 W1 W2) (k0_pay27 (grad DY FF gp) (w2s W2 7)) (cols F1 7) (w1s W1 7) H gq)
      (ix2 r d) = dh (weights W1 W2 gp gq) (row DY FF H F1 r) d := by
  pointwise [k0_pay1, k0_pay31, k0_pay30]
  simp only [Kit.rsqrt_1024 fun k => H (ix2 r k), Kit.c1024recip, dn_apply DY FF H F1 W1 W2 gp gq]
  rfl

theorem dpost_apply (v : Vec Ideal S1x1024 .f32) (i : Fin 1) (d : Fin 1024) :
    k0_pay10 (F := Ideal) (k0_pay7 DY FF) (k0_pay9 v) (ix2 i d) = v (ix2 i d) + ∑ r, dpost (row DY FF H F1 r) d := by
  pointwise [k0_pay10, k0_pay9, k0_pay7, k0_pay6, k0_pay5]
  simp only [fun r => Kit.rsqrt_1024 fun k => FF (ix2 r k)]
  rfl

theorem dpre_apply (v : Vec Ideal S1x1024 .f32) (i : Fin 1) (d : Fin 1024) :
    k0_pay2 (F := Ideal) (k0_pay32 (upto6 (grad DY FF gp) F1 W1 W2) (k0_pay27 (grad DY FF gp) (w2s W2 7)) (cols F1 7) (w1s W1 7) H)
      v (ix2 i d) = v (ix2 i d) + ∑ r, dpre (weights W1 W2 gp gq) (row DY FF H F1 r) d := by
  pointwise [k0_pay2, k0_pay32, k0_pay30]
  simp only [fun r => Kit.rsqrt_1024 fun k => H (ix2 r k), dn_apply DY FF H F1 W1 W2 gp gq]
  rfl

theorem zero3 (i) : k0_pay3 (F := Ideal) i = 0 := by pointwise [k0_pay3]
theorem zero4 (i) : k0_pay4 (F := Ideal) i = 0 := by pointwise [k0_pay4]

end Payloads

/-! ## The blocks a point reads -/

variable (m : (ℓ : Loc nD τ sig) → Buf (Elt Ideal) ℓ) (c : Dev nD)

/-- Row `r` of point `t`'s block is this row of the array. -/
abbrev at_ (t : Fin cfg0.N) (r : Fin 512) : Fin 8192 :=
  ⟨t.val * 512 + r.val, by have := t.isLt; have := r.isLt; have : cfg0.N = 16 := N16; omega⟩

theorem idx_rows : ∀ t : Fin cfg0.N, (win0_0.index t 0 = t.val ∧ win0_0.index t 1 = 0) ∧
    (win0_1.index t 0 = t.val ∧ win0_1.index t 1 = 0) ∧
    (win0_2.index t 0 = t.val ∧ win0_2.index t 1 = 0) ∧
    (win0_3.index t 0 = t.val ∧ win0_3.index t 1 = 0) ∧
    (win0_8.index t 0 = t.val ∧ win0_8.index t 1 = 0) ∧
    (win0_9.index t 0 = t.val ∧ win0_9.index t 1 = 0) ∧
    (win0_10.index t 0 = t.val ∧ win0_10.index t 1 = 0) :=
  (by decide +kernel : ∀ t : Fin grid0.N, _)
theorem idx_whole : ∀ t : Fin cfg0.N, (win0_6.index t 0 = 0 ∧ win0_6.index t 1 = 0) ∧
    (win0_7.index t 0 = 0 ∧ win0_7.index t 1 = 0) ∧
    (win0_11.index t 0 = 0 ∧ win0_11.index t 1 = 0) ∧
    (win0_12.index t 0 = 0 ∧ win0_12.index t 1 = 0) ∧
    (win0_4.index t 0 = 0 ∧ win0_4.index t 1 = 0 ∧ win0_4.index t 2 = 0) ∧
    (win0_5.index t 0 = 0 ∧ win0_5.index t 1 = 0 ∧ win0_5.index t 2 = 0) :=
  (by decide +kernel : ∀ t : Fin grid0.N, _)

/-- The arguments. -/
abbrev A0 : Vec Ideal S8192x1024 .f32 := m ((c : Thread nD τ).loc main_arg0)
abbrev A1 : Vec Ideal S8192x1024 .f32 := m ((c : Thread nD τ).loc main_arg1)
abbrev A2 : Vec Ideal S1x1024 .f32 := m ((c : Thread nD τ).loc main_arg2)
abbrev A3 : Vec Ideal S1024x4096 .f32 := m ((c : Thread nD τ).loc main_arg3)
abbrev A4 : Vec Ideal S4096x1024 .f32 := m ((c : Thread nD τ).loc main_arg4)
abbrev A5 : Vec Ideal S1x1024 .f32 := m ((c : Thread nD τ).loc main_arg5)

theorem iblk0 (t : Fin cfg0.N) (r : Fin 512) (k : Fin 1024) :
    iblk m c 0 t (ix2 r k) = A0 m c (ix2 (at_ t r) k) := by
  unfold iblk
  rw [View.read_apply]
  show V m c main_arg0 _ = _
  rw [V_main_arg0]
  congr 1
  funext a
  apply Fin.ext
  match a with
  | ⟨0, _⟩ => show win0_0.index t 0 * 512 + 1 * r.val = t.val * 512 + r.val; rw [(idx_rows t).1.1]; omega
  | ⟨1, _⟩ => show win0_0.index t 1 * 1024 + 1 * k.val = k.val; rw [(idx_rows t).1.2]; omega

theorem iblk1 (t : Fin cfg0.N) (r : Fin 512) (k : Fin 1024) :
    iblk m c 1 t (ix2 r k) = Cert.RFfnIdeal.Read.val_main_v23 (F := Ideal) (A1 m c) (A2 m c) (A3 m c) (A4 m c) (ix2 (at_ t r) k) := by
  unfold iblk
  rw [View.read_apply]
  show V m c main_v15 _ = _
  have e : (V m c main_v15 : Vec Ideal S8192x1024 .f32) = Cert.RFfnIdeal.Read.val_main_v23 (F := Ideal) (A1 m c) (A2 m c) (A3 m c) (A4 m c) := by
    unfold V hostOps0 hostOps0_1 hostOps0_2
    after_results_simp
    rfl
  rw [e]
  congr 1
  funext a
  apply Fin.ext
  match a with
  | ⟨0, _⟩ => show win0_1.index t 0 * 512 + 1 * r.val = t.val * 512 + r.val; rw [(idx_rows t).2.1.1]; omega
  | ⟨1, _⟩ => show win0_1.index t 1 * 1024 + 1 * k.val = k.val; rw [(idx_rows t).2.1.2]; omega

theorem iblk2 (t : Fin cfg0.N) (r : Fin 512) (k : Fin 1024) :
    iblk m c 2 t (ix2 r k) = A1 m c (ix2 (at_ t r) k) := by
  unfold iblk
  rw [View.read_apply]
  show V m c main_arg1 _ = _
  rw [V_main_arg1]
  congr 1
  funext a
  apply Fin.ext
  match a with
  | ⟨0, _⟩ => show win0_2.index t 0 * 512 + 1 * r.val = t.val * 512 + r.val; rw [(idx_rows t).2.2.1.1]; omega
  | ⟨1, _⟩ => show win0_2.index t 1 * 1024 + 1 * k.val = k.val; rw [(idx_rows t).2.2.1.2]; omega

theorem iblk3 (t : Fin cfg0.N) (r : Fin 512) (n : Fin 4096) :
    iblk m c 3 t (ix2 r n) = Cert.RFfnIdeal.Read.val_main_v15 (F := Ideal) (A1 m c) (A2 m c) (A3 m c) (ix2 (at_ t r) n) := by
  unfold iblk
  rw [View.read_apply]
  show V m c main_v21 _ = _
  have e : (V m c main_v21 : Vec Ideal S8192x4096 .bf16) = Cert.RFfnIdeal.Read.val_main_v15 (F := Ideal) (A1 m c) (A2 m c) (A3 m c) := by
    unfold V hostOps0 hostOps0_1 hostOps0_2
    after_results_simp
    rfl
  rw [e]
  congr 1
  funext a
  apply Fin.ext
  match a with
  | ⟨0, _⟩ => show win0_3.index t 0 * 512 + 1 * r.val = t.val * 512 + r.val; rw [(idx_rows t).2.2.2.1.1]; omega
  | ⟨1, _⟩ => show win0_3.index t 1 * 4096 + 1 * n.val = n.val; rw [(idx_rows t).2.2.2.1.2]; omega

theorem iblk4 (t : Fin cfg0.N) (j : Fin 8) (k : Fin 1024) (q : Fin 512) :
    iblk m c 4 t (ix3 j k q) = A3 m c (ix2 k (col j q)) := by
  unfold iblk
  rw [View.read_apply]
  show V m c main_v18 _ = _
  have e : (V m c main_v18 : Vec Ideal S8x1024x512 .bf16) = transpose S8x1024x512 [1, 0, 2]
      (shapeCast S1024x8x512 (A3 m c) shapeCasts_S1024x4096_S1024x8x512) transposes_S1024x8x512_S8x1024x512_1_0_2 := by
    unfold V hostOps0 hostOps0_1 hostOps0_2
    after_results_simp
    rfl
  rw [e, show ((cfg0.win 4).blk t).view.emb (ix3 j k q) = ix3 j k q from ?_]
  · pointwise
  funext a
  apply Fin.ext
  match a with
  | ⟨0, _⟩ => show win0_4.index t 0 * 8 + 1 * j.val = j.val; rw [(idx_whole t).2.2.2.2.1.1]; omega
  | ⟨1, _⟩ => show win0_4.index t 1 * 1024 + 1 * k.val = k.val; rw [(idx_whole t).2.2.2.2.1.2.1]; omega
  | ⟨2, _⟩ => show win0_4.index t 2 * 512 + 1 * q.val = q.val; rw [(idx_whole t).2.2.2.2.1.2.2]; omega

theorem iblk5 (t : Fin cfg0.N) (j : Fin 8) (q : Fin 512) (k : Fin 1024) :
    iblk m c 5 t (ix3 j q k) = A4 m c (ix2 (col j q) k) := by
  unfold iblk
  rw [View.read_apply]
  show V m c main_v20 _ = _
  have e : (V m c main_v20 : Vec Ideal S8x512x1024 .bf16) = shapeCast S8x512x1024 (A4 m c) shapeCasts_S4096x1024_S8x512x1024 := by
    unfold V hostOps0 hostOps0_1 hostOps0_2
    after_results_simp
    rfl
  rw [e, show ((cfg0.win 5).blk t).view.emb (ix3 j q k) = ix3 j q k from ?_]
  · pointwise
  funext a
  apply Fin.ext
  match a with
  | ⟨0, _⟩ => show win0_5.index t 0 * 8 + 1 * j.val = j.val; rw [(idx_whole t).2.2.2.2.2.1]; omega
  | ⟨1, _⟩ => show win0_5.index t 1 * 512 + 1 * q.val = q.val; rw [(idx_whole t).2.2.2.2.2.2.1]; omega
  | ⟨2, _⟩ => show win0_5.index t 2 * 1024 + 1 * k.val = k.val; rw [(idx_whole t).2.2.2.2.2.2.2]; omega

theorem iblk6 (t : Fin cfg0.N) (k : Fin 1) (d : Fin 1024) : iblk m c 6 t (ix2 k d) = A5 m c (ix2 k d) := by
  unfold iblk
  rw [View.read_apply]
  show V m c main_arg5 _ = _
  rw [V_main_arg5]
  congr 1
  funext a
  apply Fin.ext
  match a with
  | ⟨0, _⟩ => show win0_6.index t 0 * 1 + 1 * k.val = k.val; rw [(idx_whole t).1.1]; omega
  | ⟨1, _⟩ => show win0_6.index t 1 * 1024 + 1 * d.val = d.val; rw [(idx_whole t).1.2]; omega

theorem iblk7 (t : Fin cfg0.N) (k : Fin 1) (d : Fin 1024) : iblk m c 7 t (ix2 k d) = A2 m c (ix2 k d) := by
  unfold iblk
  rw [View.read_apply]
  show V m c main_arg2 _ = _
  rw [V_main_arg2]
  congr 1
  funext a
  apply Fin.ext
  match a with
  | ⟨0, _⟩ => show win0_7.index t 0 * 1 + 1 * k.val = k.val; rw [(idx_whole t).2.1.1]; omega
  | ⟨1, _⟩ => show win0_7.index t 1 * 1024 + 1 * d.val = d.val; rw [(idx_whole t).2.1.2]; omega

/-- The block's parameters and its token `i`, as the arguments hold them. -/
abbrev ws : Weights := wts (A2 m c) (A3 m c) (A4 m c) (A5 m c)
abbrev tk (i : Fin 8192) : Row := tok (A0 m c) (A1 m c) (A2 m c) (A3 m c) (A4 m c) (A5 m c) i

theorem weights_eq (t : Fin cfg0.N) : weights (iblk m c 4 t) (iblk m c 5 t) (iblk m c 6 t) (iblk m c 7 t) = ws m c := by
  simp only [weights, iblk4, iblk5, iblk6, iblk7]; rfl
theorem row_eq (t : Fin cfg0.N) (r : Fin 512) :
    row (iblk m c 0 t) (iblk m c 1 t) (iblk m c 2 t) (iblk m c 3 t) r = tk m c (at_ t r) := by
  simp only [row, iblk0, iblk1, iblk2, iblk3, f1_ref (A0 m c) (A1 m c) (A2 m c) (A3 m c) (A4 m c) (A5 m c),
    ff_ref (A0 m c) (A1 m c) (A2 m c) (A3 m c) (A4 m c) (A5 m c)]
  rfl

/-! ## The five results -/

/-- A window written back at the last point only has no second block to meet. -/
theorem last_only (w : Fin cfg0.W) (hf : ∀ t, (cfg0.win w).flush t = true → t.val % 16 = 15) (t t' : Fin cfg0.N)
    (h : (cfg0.win w).flush t = true) (h' : (cfg0.win w).flush t' = true) (e : t ≠ t') :
    Disjoint ((cfg0.win w).blk t).view.set ((cfg0.win w).blk t').view.set := by
  have := hf t h; have := hf t' h'; have := t.isLt; have := t'.isLt; have := N16
  exact absurd (Fin.ext (by omega)) e

/-- The last grid point. -/
abbrev last : Fin cfg0.N := ⟨15, by rw [N16]; decide⟩

/-- The point whose block holds token `i`, and the token's row there. -/
abbrev pt (i : Fin 8192) : Fin cfg0.N := ⟨i.val / 512, by rw [N16]; have := i.isLt; omega⟩
abbrev rw_ (i : Fin 8192) : Fin 512 := ⟨i.val % 512, Nat.mod_lt _ (by decide)⟩
theorem at_pt (i : Fin 8192) : at_ (pt i) (rw_ i) = i := Fin.ext (by show i.val / 512 * 512 + i.val % 512 = i.val; omega)

theorem row_at (i : Fin 8192) :
    tk m c i = row (iblk m c 0 (pt i)) (iblk m c 1 (pt i)) (iblk m c 2 (pt i)) (iblk m c 3 (pt i)) (rw_ i) := by
  rw [row_eq, at_pt]

/-- Every point leaves its rows' formulas in the three windows it writes whole. -/
theorem after (t : Fin cfg0.N) : ∃ b g, outsAt0 m c t.val t.isLt = step m c t b g := by
  by_cases h0 : t.val % 16 = 0
  · exact ⟨_, _, after_A m c t h0⟩
  · exact ⟨_, _, after_B m c t h0 _ rfl⟩

theorem result8 (i : Fin 8192) (d : Fin 1024) : (dats m 0 c).arrAt 8 cfg0.N (ix2 i d) = dff (ws m c) (tk m c i) d := by
  have h := (dats m 0 c).arrAt_emb_eq_flushed 8 Value.disjoint8 (pt i) (flush0_8 _) (ix2 (rw_ i) d)
  rw [Value.flushed8] at h
  have hv : (outsAt0 m c (pt i).val (pt i).isLt).1 (ix2 (rw_ i) d) = dff (ws m c) (tk m c i) d := by
    obtain ⟨b, g, e⟩ := after m c (pt i)
    rw [e, ← weights_eq m c (pt i), row_at]
    exact dff_apply (iblk m c 0 (pt i)) (iblk m c 1 (pt i)) (iblk m c 2 (pt i)) (iblk m c 3 (pt i)) (iblk m c 4 (pt i)) (iblk m c 5 (pt i)) (iblk m c 6 (pt i))
      (iblk m c 7 (pt i)) (rw_ i) d
  refine (congrArg _ ?_).trans (h.trans hv)
  funext a
  apply Fin.ext
  match a with
  | ⟨0, _⟩ =>
    show i.val = win0_8.index _ 0 * 512 + 1 * (i.val % 512)
    rw [(idx_rows _).2.2.2.2.1.1]; show i.val = i.val / 512 * 512 + 1 * (i.val % 512); omega
  | ⟨1, _⟩ => show d.val = win0_8.index _ 1 * 1024 + 1 * d.val; rw [(idx_rows _).2.2.2.2.1.2]; omega

theorem result9 (i : Fin 8192) (j : Fin 8) (q : Fin 512) :
    (dats m 0 c).arrAt 9 cfg0.N (ix2 i (col j q)) = df1 (ws m c) (tk m c i) j q := by
  have h := (dats m 0 c).arrAt_emb_eq_flushed 9 Value.disjoint9 (pt i) (flush0_9 _) (ix2 (rw_ i) (col j q))
  rw [Value.flushed9] at h
  have hv : (outsAt0 m c (pt i).val (pt i).isLt).2.1 (ix2 (rw_ i) (col j q)) = df1 (ws m c) (tk m c i) j q := by
    obtain ⟨b, g, e⟩ := after m c (pt i)
    rw [e, ← weights_eq m c (pt i), row_at]
    rw [step_hidden, pieces_apply]
    exact act_eq (iblk m c 0 (pt i)) (iblk m c 1 (pt i)) (iblk m c 2 (pt i)) (iblk m c 3 (pt i)) (iblk m c 4 (pt i))
      (iblk m c 5 (pt i)) (iblk m c 6 (pt i)) (iblk m c 7 (pt i)) (rw_ i) j q
  refine (congrArg _ ?_).trans (h.trans hv)
  funext a
  apply Fin.ext
  match a with
  | ⟨0, _⟩ =>
    show i.val = win0_9.index _ 0 * 512 + 1 * (i.val % 512)
    rw [(idx_rows _).2.2.2.2.2.1.1]; show i.val = i.val / 512 * 512 + 1 * (i.val % 512); omega
  | ⟨1, _⟩ =>
    show (col j q).val = win0_9.index _ 1 * 4096 + 1 * (col j q).val
    rw [(idx_rows _).2.2.2.2.2.1.2]; omega

theorem result10 (i : Fin 8192) (d : Fin 1024) : (dats m 0 c).arrAt 10 cfg0.N (ix2 i d) = dh (ws m c) (tk m c i) d := by
  have h := (dats m 0 c).arrAt_emb_eq_flushed 10 Value.disjoint10 (pt i) (flush0_10 _) (ix2 (rw_ i) d)
  rw [Value.flushed10] at h
  have hv : (outsAt0 m c (pt i).val (pt i).isLt).2.2.1 (ix2 (rw_ i) d) = dh (ws m c) (tk m c i) d := by
    obtain ⟨b, g, e⟩ := after m c (pt i)
    rw [e, ← weights_eq m c (pt i), row_at]
    exact dh_apply (iblk m c 0 (pt i)) (iblk m c 1 (pt i)) (iblk m c 2 (pt i)) (iblk m c 3 (pt i)) (iblk m c 4 (pt i)) (iblk m c 5 (pt i)) (iblk m c 6 (pt i))
      (iblk m c 7 (pt i)) (rw_ i) d
  refine (congrArg _ ?_).trans (h.trans hv)
  funext a
  apply Fin.ext
  match a with
  | ⟨0, _⟩ =>
    show i.val = win0_10.index _ 0 * 512 + 1 * (i.val % 512)
    rw [(idx_rows _).2.2.2.2.2.2.1]; show i.val = i.val / 512 * 512 + 1 * (i.val % 512); omega
  | ⟨1, _⟩ => show d.val = win0_10.index _ 1 * 1024 + 1 * d.val; rw [(idx_rows _).2.2.2.2.2.2.2]; omega

/-- The gain of the norm after the block. -/
theorem result11 (i : Fin 1) (d : Fin 1024) : (dats m 0 c).arrAt 11 cfg0.N (ix2 i d) = (∑ i', dpost (tk m c i') d : EReal) := by
  have h := (dats m 0 c).arrAt_emb_eq_flushed 11 (last_only 11 fun t => (flush0_11 t).mp) last ((flush0_11 _).mpr rfl) (ix2 i d)
  rw [Value.flushed11] at h
  have hs := Kit.chain_eq_sum (fun n h => (outsAt0 m c n h).2.2.2.1 (ix2 i d))
    (fun t => (∑ r, dpost (tk m c (at_ t r)) d : EReal))
    (fun h => by
      rw [after_A m c ⟨0, h⟩ rfl]
      refine (dpost_apply _ _ (iblk m c 2 ⟨0, h⟩) (iblk m c 3 ⟨0, h⟩) ..).trans ?_
      rw [zero3, zero_add]
      simp only [row_eq])
    (fun n h => by
      have hN := N16
      rw [after_B m c ⟨n + 1, h⟩ (by dsimp only; omega) _ rfl]
      refine (dpost_apply _ _ (iblk m c 2 ⟨n + 1, h⟩) (iblk m c 3 ⟨n + 1, h⟩) ..).trans ?_
      simp only [row_eq]
      rfl) 15 last.isLt
  rw [Kit.sum_blocks 16 512 rfl]
  refine Eq.trans (congrArg _ ?_) (h.trans hs)
  funext a
  apply Fin.ext
  match a with
  | ⟨0, _⟩ => show i.val = win0_11.index last 0 * 1 + 1 * i.val; rw [(idx_whole last).2.2.1.1]; omega
  | ⟨1, _⟩ => show d.val = win0_11.index last 1 * 1024 + 1 * d.val; rw [(idx_whole last).2.2.1.2]; omega

/-- The gain of the norm before the block. -/
theorem result12 (i : Fin 1) (d : Fin 1024) :
    (dats m 0 c).arrAt 12 cfg0.N (ix2 i d) = (∑ i', dpre (ws m c) (tk m c i') d : EReal) := by
  have h := (dats m 0 c).arrAt_emb_eq_flushed 12 (last_only 12 fun t => (flush0_12 t).mp) last ((flush0_12 _).mpr rfl) (ix2 i d)
  rw [Value.flushed12] at h
  have hs := Kit.chain_eq_sum (fun n h => (outsAt0 m c n h).2.2.2.2 (ix2 i d))
    (fun t => (∑ r, dpre (ws m c) (tk m c (at_ t r)) d : EReal))
    (fun h => by
      rw [after_A m c ⟨0, h⟩ rfl]
      refine (dpre_apply _ _ _ _ _ _ _ (iblk m c 7 ⟨0, h⟩) ..).trans ?_
      rw [zero4, zero_add]
      simp only [weights_eq, row_eq])
    (fun n h => by
      have hN := N16
      rw [after_B m c ⟨n + 1, h⟩ (by dsimp only; omega) _ rfl]
      refine (dpre_apply _ _ _ _ _ _ _ (iblk m c 7 ⟨n + 1, h⟩) ..).trans ?_
      simp only [weights_eq, row_eq]
      rfl) 15 last.isLt
  rw [Kit.sum_blocks 16 512 rfl]
  refine Eq.trans (congrArg _ ?_) (h.trans hs)
  funext a
  apply Fin.ext
  match a with
  | ⟨0, _⟩ => show i.val = win0_12.index last 0 * 1 + 1 * i.val; rw [(idx_whole last).2.2.2.1.1]; omega
  | ⟨1, _⟩ => show d.val = win0_12.index last 1 * 1024 + 1 * d.val; rw [(idx_whole last).2.2.2.1.2]; omega

end Cert.KFfnIdeal.Points

end
-- ==== Proof.Ffn.Reference.lean ====
/- The reference's five results, read element by element as the formulas of `Ffn/Row.lean`: the derivative of each norm
   taken term by term is the kernel's, and the hidden layer's mask is the factor the kernel multiplies by, at every
   extended real. -/
module

public import proofs.«01_k».proof.Proof.Ffn.Row

@[expose] public section

noncomputable section

namespace Cert.RFfnIdeal.Points

open Cert.RFfnIdeal Cert.RFfnIdeal.Gen Cert.RFfnIdeal.Read Cert.Ffn Idealize.ShloMosaic

variable (x0 x1 : Vec Ideal S8192x1024 .f32) (x2 : Vec Ideal S1x1024 .f32) (x3 : Vec Ideal S1024x4096 .f32)
  (x4 : Vec Ideal S4096x1024 .f32) (x5 : Vec Ideal S1x1024 .f32)

theorem var_h (i : Fin 8192) (k : Fin 1) :
    val_main_v6 (F := Ideal) x1 (ix2 i k) = Kit.var 1024 (tok x0 x1 x2 x3 x4 x5 i).h := by
  pointwise [val_main_v6, val_main_v5, val_main_v4, val_main_v3, val_main_v2, val_main_v1, val_main_v0, val_main_cst,
    val_main_cst_0, val_main_cst_1]
  rw [Kit.c1024, Kit.div_coe _ (by norm_num)]
  rfl

theorem var_ff (i : Fin 8192) (k : Fin 1) :
    val_main_v30 (F := Ideal) x1 x2 x3 x4 (ix2 i k) = Kit.var 1024 (tok x0 x1 x2 x3 x4 x5 i).ff := by
  pointwise [val_main_v30, val_main_v29, val_main_v28, val_main_v27, val_main_v26, val_main_v25, val_main_v24, val_main_cst_6,
    val_main_cst_7, val_main_cst_8]
  simp only [ff_ref x0 x1 x2 x3 x4 x5]
  rw [Kit.c1024, Kit.div_coe _ (by norm_num)]
  rfl

theorem dff_ref (i : Fin 8192) (d : Fin 1024) :
    val_main_v59 (F := Ideal) x0 x1 x2 x3 x4 x5 (ix2 i d) = dff (wts x2 x3 x4 x5) (tok x0 x1 x2 x3 x4 x5 i) d := by
  pointwise [val_main_v59, val_main_v58, val_main_v57, val_main_v56, val_main_v55, val_main_v54, val_main_v53, val_main_v52,
    val_main_v51, val_main_v50, val_main_v49, val_main_v48, val_main_v47, val_main_v46, val_main_v45, val_main_v44,
    val_main_v40, val_main_v34, val_main_v33, val_main_v32, val_main_v31, val_main_cst_9, val_main_cst_11, val_main_cst_12,
    val_main_cst_13]
  simp only [ff_ref x0 x1 x2 x3 x4 x5, var_ff x0 x1 x2 x3 x4 x5]
  simp only [Finset.univ_unique, Finset.sum_singleton, Kit.neghalf, Kit.c1024, Kit.div_coe _ (show (1024 : ℝ) ≠ 0 by norm_num)]
  exact Kit.rmsBack_eq (n := 1024) (by norm_num) (tok x0 x1 x2 x3 x4 x5 i).ff (fun k => x0 (ix2 i k) * x5 (ix2 0 k)) d _ rfl

/-- The mask of the hidden layer: where it cuts, the factor is zero. -/
theorem df1_ref (i : Fin 8192) (j : Fin 8) (q : Fin 512) :
    val_main_v63 (F := Ideal) x0 x1 x2 x3 x4 x5 (ix2 i (col j q)) = df1 (wts x2 x3 x4 x5) (tok x0 x1 x2 x3 x4 x5 i) j q := by
  pointwise [val_main_v63, val_main_v62, val_main_v61, val_main_v60, val_main_v22, val_main_v21, val_main_v18, val_main_v17,
    val_main_v16, val_main_call0_v0, val_main_call0_cst, val_main_cst_3, val_main_cst_5, val_main_cst_14]
  simp only [dff_ref, f1_ref x0 x1 x2 x3 x4 x5 i j q, Kit.two]
  split
  · rfl
  · rename_i h
    unfold df1
    rw [max_eq_right (not_lt.mp h), mul_zero, mul_zero]

theorem dn_ref (i : Fin 8192) (d : Fin 1024) :
    val_main_v64 (F := Ideal) x0 x1 x2 x3 x4 x5 (ix2 i d) = dn (wts x2 x3 x4 x5) (tok x0 x1 x2 x3 x4 x5 i) d := by
  pointwise [val_main_v64]
  rw [Kit.sum_blocks 8 512 rfl]
  unfold dn
  refine Finset.sum_congr rfl fun j _ => Finset.sum_congr rfl fun q _ => ?_
  rw [df1_ref x0 x1 x2 x3 x4 x5 i j q]
  rfl

theorem dh_ref (i : Fin 8192) (d : Fin 1024) :
    val_main_v86 (F := Ideal) x0 x1 x2 x3 x4 x5 (ix2 i d) = dh (wts x2 x3 x4 x5) (tok x0 x1 x2 x3 x4 x5 i) d := by
  pointwise [val_main_v86, val_main_v83, val_main_v82, val_main_v81, val_main_v80, val_main_v79, val_main_v78, val_main_v77,
    val_main_v76, val_main_v75, val_main_v74, val_main_v73, val_main_v72, val_main_v71, val_main_v70, val_main_v69,
    val_main_v68, val_main_v10, val_main_v9, val_main_v8, val_main_v7, val_main_cst_2, val_main_cst_16, val_main_cst_17,
    val_main_cst_18]
  simp only [var_h x0 x1 x2 x3 x4 x5, dn_ref, Finset.univ_unique, Finset.sum_singleton, Kit.neghalf, Kit.c1024,
    Kit.div_coe _ (show (1024 : ℝ) ≠ 0 by norm_num)]
  show _ = x0 (ix2 i d) + _
  congr 1
  exact Kit.rmsBack_eq (n := 1024) (by norm_num) (tok x0 x1 x2 x3 x4 x5 i).h
    (fun k => dn (wts x2 x3 x4 x5) (tok x0 x1 x2 x3 x4 x5 i) k * x2 (ix2 0 k)) d _ rfl

theorem dpost_ref (i : Fin 1) (d : Fin 1024) : val_main_v43 (F := Ideal) x0 x1 x2 x3 x4 (ix2 i d)
    = (∑ i', dpost (tok x0 x1 x2 x3 x4 x5 i') d : EReal) := by
  pointwise [val_main_v43, val_main_v42, val_main_v41, val_main_v40, val_main_v36, val_main_v35, val_main_v31, val_main_cst_10]
  simp only [ff_ref x0 x1 x2 x3 x4 x5, var_ff x0 x1 x2 x3 x4 x5]
  exact Finset.sum_congr rfl fun t _ => mul_comm _ _

theorem dpre_ref (i : Fin 1) (d : Fin 1024) : val_main_v67 (F := Ideal) x0 x1 x2 x3 x4 x5 (ix2 i d)
    = (∑ i', dpre (wts x2 x3 x4 x5) (tok x0 x1 x2 x3 x4 x5 i') d : EReal) := by
  pointwise [val_main_v67, val_main_v66, val_main_v65, val_main_v12, val_main_v11, val_main_v7, val_main_cst_15]
  simp only [var_h x0 x1 x2 x3 x4 x5, dn_ref]
  exact Finset.sum_congr rfl fun t _ => mul_comm _ _

end Cert.RFfnIdeal.Points

end
-- ==== Proof.Ffn.Claim.lean ====
/- The claims about the feed-forward backward call: the frames are the generated runs', the value the five results of
   `Ffn/Value.lean` against those of `Ffn/Reference.lean`. -/
module

public import proofs.«01_k».proof.Defs
public import proofs.«01_k».proof.Proof.Gen.KFfn.Frame
public import proofs.«01_k».proof.Proof.Gen.RFfnIdeal.Run
public import proofs.«01_k».proof.Proof.Ffn.Value
public import proofs.«01_k».proof.Proof.Ffn.Reference

@[expose] public section

noncomputable section

namespace Cert.Ffn

open Idealize.ShloMosaic Idealize.ShloMosaic.TcCoe Idealize.SL.Sem
open Cert.KFfnIdeal (cfg0)
open Cert.KFfnIdeal.Gen (dats)

theorem frame_kernel : Cert.quiescent_KFfn := fun m ρ _ => Cert.KFfn.Gen.frame m ρ
theorem frame_ideal : Cert.quiescent_KFfnIdeal := fun m ρ _ => Cert.KFfnIdeal.Gen.frame m ρ
theorem frame_reference : Cert.quiescent_RFfnIdeal := fun m ρ _ =>
  (θ_run Cert.RFfnIdeal.defs _ _).mono (fun r h => ⟨fun c => (h c).2.2.2.2.2, sem_eq_zero_of_no_sems (by decide) r.2⟩)
    (Cert.RFfnIdeal.Value.run (F := Ideal) m ρ)

/-- A hidden column lies in one of the eight blocks. -/
theorem col_eq (n : Fin 4096) : n = col ⟨n.val / 512, by have := n.isLt; omega⟩ ⟨n.val % 512, Nat.mod_lt _ (by decide)⟩ :=
  Fin.ext (by show n.val = n.val / 512 * 512 + n.val % 512; omega)

theorem algebraic : Cert.algebraic_KFfnIdeal_RFfnIdeal := by
  intro m ρ m' ρ' _ hagree
  refine ⟨fun c => (dats m 0 c).arrAt 8 cfg0.N, fun c => (dats m 0 c).arrAt 9 cfg0.N, fun c => (dats m 0 c).arrAt 10 cfg0.N,
    fun c => (dats m 0 c).arrAt 11 cfg0.N, fun c => (dats m 0 c).arrAt 12 cfg0.N, Cert.KFfnIdeal.Value.run_blocks m ρ,
    (θ_run Cert.RFfnIdeal.defs _ _).mono (fun r h c => ?_) (Cert.RFfnIdeal.Value.run (F := Ideal) m' ρ')⟩
  obtain ⟨h0, h1, h2, h3, h4, h⟩ := h c
  obtain ⟨a0, a1, a2, a3, a4, a5⟩ := hagree c
  refine ⟨h0.trans ((Cert.RFfnIdeal.Read.val_main_v84_eq ..).trans (Kit.mat_ext fun i d => ?_)),
    h1.trans ((Cert.RFfnIdeal.Read.val_main_v85_eq ..).trans (Kit.mat_ext fun i n => ?_)),
    h2.trans ((Cert.RFfnIdeal.Read.val_main_v86_eq ..).trans (Kit.mat_ext fun i d => ?_)),
    h3.trans ((Cert.RFfnIdeal.Read.val_main_v43_eq ..).trans (Kit.mat_ext fun i d => ?_)),
    h4.trans ((Cert.RFfnIdeal.Read.val_main_v67_eq ..).trans (Kit.mat_ext fun i d => ?_)), h⟩
  all_goals simp only [a0, a1, a2, a3, a4, a5]
  · exact (Cert.RFfnIdeal.Points.dff_ref ..).trans (Cert.KFfnIdeal.Points.result8 m c i d).symm
  · rw [col_eq n]
    exact (Cert.RFfnIdeal.Points.df1_ref ..).trans (Cert.KFfnIdeal.Points.result9 m c i _ _).symm
  · exact (Cert.RFfnIdeal.Points.dh_ref ..).trans (Cert.KFfnIdeal.Points.result10 m c i d).symm
  · exact (Cert.RFfnIdeal.Points.dpost_ref ..).trans (Cert.KFfnIdeal.Points.result11 m c i d).symm
  · exact (Cert.RFfnIdeal.Points.dpre_ref ..).trans (Cert.KFfnIdeal.Points.result12 m c i d).symm

end Cert.Ffn

end
-- ==== Proof.Inproj.Points.lean ====
/- The in-projection's backward call, point by point: what each grid point leaves in its six output buffers, as the
   printed payloads of the blocks it reads (and, for the gain's gradient past the first point, of what the point before
   left). `part`, `rows` and their like are the pieces of the blocks a point reads in slices. -/
module

public import proofs.«01_k».proof.Proof.Kit
public import proofs.«01_k».proof.Proof.Gen.KInprojIdeal.Value

@[expose] public section

set_option maxRecDepth 16384

noncomputable section

namespace Cert.KInprojIdeal.Points

open Cert.KInprojIdeal Cert.KInprojIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

theorem N16 : cfg0.N = 16 := N_0
theorem hz : (![0, 0] : Fin 2 → Nat) = fun _ => 0 := funext fun a => by fin_cases a <;> rfl

/-! ## The slices a point reads -/

/-- Device `j`'s part of the gradient the point's optimiser step sums. -/
def part (X : Vec F S8x32x1024 .f32) (j : Fin 8) : Vec F S1x32x1024 .f32 := fun i => X (ix3 j (i 1) (i 2))
/-- Rows of the transposed weights from row `o` on: 512 of them, the gate's 1024, the forget gate's 128. -/
def rows (X : Vec F S2688x1024 .bf16) (o : ℕ) (h : o + 512 ≤ 2688) : Vec F S512x1024 .bf16 :=
  fun i => X (ix2 ⟨o + (i 0).val, by have : (i 0).val < 512 := (i 0).isLt; omega⟩ (i 1))
def gateRows (X : Vec F S2688x1024 .bf16) : Vec F S1024x1024 .bf16 :=
  fun i => X (ix2 ⟨1536 + (i 0).val, by have : (i 0).val < 1024 := (i 0).isLt; omega⟩ (i 1))
def forgetRows (X : Vec F S2688x1024 .bf16) : Vec F S128x1024 .bf16 :=
  fun i => X (ix2 ⟨2560 + (i 0).val, by have : (i 0).val < 128 := (i 0).isLt; omega⟩ (i 1))

theorem ld_part (X : Vec F S8x32x1024 .f32) (j : ℕ) (h) :
    View.ld X (Rect.unit (s := S8x32x1024) ![j, 0, 0] ![1, 32, 1024] h) = part X ⟨j, Nat.lt_of_succ_le (h 0)⟩ := by
  funext i
  refine congrArg X (funext fun a => Fin.ext ?_)
  match a with
  | ⟨0, _⟩ => show j + 1 * (i 0).val = j; have : (i 0).val < 1 := (i 0).isLt; omega
  | ⟨1, _⟩ => show 0 + 1 * (i 1).val = (i 1).val; omega
  | ⟨2, _⟩ => show 0 + 1 * (i 2).val = (i 2).val; omega

theorem ld_rows (X : Vec F S2688x1024 .bf16) (o : ℕ) (h) :
    View.ld X (Rect.unit (s := S2688x1024) ![o, 0] ![512, 1024] h) = rows X o (h 0) := by
  funext i
  refine congrArg X (funext fun a => Fin.ext ?_)
  match a with
  | ⟨0, _⟩ => show o + 1 * (i 0).val = o + (i 0).val; omega
  | ⟨1, _⟩ => show 0 + 1 * (i 1).val = (i 1).val; omega

theorem ld_gate (X : Vec F S2688x1024 .bf16) (h) :
    View.ld X (Rect.unit (s := S2688x1024) ![1536, 0] ![1024, 1024] h) = gateRows X := by
  funext i
  refine congrArg X (funext fun a => Fin.ext ?_)
  match a with
  | ⟨0, _⟩ => show 1536 + 1 * (i 0).val = 1536 + (i 0).val; omega
  | ⟨1, _⟩ => show 0 + 1 * (i 1).val = (i 1).val; omega

theorem ld_forget (X : Vec F S2688x1024 .bf16) (h) :
    View.ld X (Rect.unit (s := S2688x1024) ![2560, 0] ![128, 1024] h) = forgetRows X := by
  funext i
  refine congrArg X (funext fun a => Fin.ext ?_)
  match a with
  | ⟨0, _⟩ => show 2560 + 1 * (i 0).val = 2560 + (i 0).val; omega
  | ⟨1, _⟩ => show 0 + 1 * (i 1).val = (i 1).val; omega

/-! ## One point -/

section Blocks
variable (c : Dev nD) (t : Fin cfg0.N)

/-- The gradient at the normed rows: the five products' sum. -/
abbrev gradOf (DQ : Vec F S512x512 .f32) (DK DV : Vec F S512x512 .bf16) (DU : Vec F S512x1024 .bf16) (DF : Vec F S512x128 .bf16)
    (W : Vec F S2688x1024 .bf16) : FVec F S512x1024 .f32 :=
  k0_pay10 (k0_pay9 DQ) (rows W 0 (by decide)) DK (rows W 512 (by decide)) DV (rows W 1024 (by decide)) DU (gateRows W) DF (forgetRows W)
abbrev grad : FVec F S512x1024 .f32 := gradOf (iblk m c 0 t) (iblk m c 1 t) (iblk m c 2 t) (iblk m c 3 t) (iblk m c 4 t) (iblk m c 5 t)
/-- The optimiser's gradient: the sum of the devices' parts. -/
abbrev totalOf (P : Vec F S8x32x1024 .f32) : FVec F S32x1024 .f32 :=
  k0_pay4 (part P 0) (part P 1) (part P 2) (part P 3) (part P 4) (part P 5) (part P 6) (part P 7)
abbrev total : FVec F S32x1024 .f32 := totalOf (iblk m c 9 t)

/-- The six buffers after point `t`, from what the accumulated one held before. -/
def step (b : FVec F S1x1024 .f32) : Vec F S512x1024 .f32 × Vec F S1x1024 .f32 × Vec F S32x1024 .f32 × Vec F S32x1024 .f32
    × Vec F S32x1024 .f32 × Vec F S32x1024 .f32 :=
  ⟨k0_pay2 (grad m c t) (iblk m c 6 t) (iblk m c 8 t) (k0_pay11 (iblk m c 6 t)) (iblk m c 7 t),
   k0_pay3 (grad m c t) (iblk m c 6 t) (k0_pay11 (iblk m c 6 t)) b,
   total m c t, k0_pay7 (total m c t) (iblk m c 10 t) (iblk m c 11 t) (iblk m c 12 t), k0_pay5 (total m c t) (iblk m c 11 t),
   k0_pay6 (total m c t) (iblk m c 12 t)⟩

/-- The first point clears the accumulated buffer before it adds to it. -/
theorem after_A (h0 : t.val % 16 = 0) : outsAt0 m c t.val t.isLt = step m c t k0_pay8 := by
  rw [outsAt0_A m c t h0]
  unfold step
  refine Prod.ext ?_ (Prod.ext ?_ (Prod.ext ?_ (Prod.ext ?_ (Prod.ext ?_ ?_)))) <;> dsimp only
  on_goal 1 => unfold out0_A_13; rw [View.read_writes_eq_canon _ _ _ (fun y => cover0_A_13 (y := y) ..)]
  on_goal 2 => unfold out0_A_14; rw [View.read_writes_eq_canon _ _ _ (fun y => cover0_A_14 (y := y) ..)]
  on_goal 3 => unfold out0_A_15; rw [View.read_writes_eq_canon _ _ _ (fun y => cover0_A_15 (y := y) ..)]
  on_goal 4 => unfold out0_A_16; rw [View.read_writes_eq_canon _ _ _ (fun y => cover0_A_16 (y := y) ..)]
  on_goal 5 => unfold out0_A_17; rw [View.read_writes_eq_canon _ _ _ (fun y => cover0_A_17 (y := y) ..)]
  on_goal 6 => unfold out0_A_18; rw [View.read_writes_eq_canon _ _ _ (fun y => cover0_A_18 (y := y) ..)]
  all_goals
    unfold kernelRun0_A
    dsimp only
    sl_unfold_words
  on_goal 1 => rw [View.canon_unit_zero (S := S512x1024) hz]
  on_goal 2 => rw [View.canon_cons_unit_zero (S := S1x1024) hz, View.readCov_unit_zero (S := S1x1024) _ hz]
  on_goal 3 => rw [View.canon_unit_zero (S := S32x1024) hz]
  on_goal 4 => rw [View.canon_unit_zero (S := S32x1024) hz]
  on_goal 5 => rw [View.canon_unit_zero (S := S32x1024) hz]
  on_goal 6 => rw [View.canon_unit_zero (S := S32x1024) hz]
  all_goals
    simp only [View.readAt_eq_ld, (hs0_0 t).read_unread, (hs0_1 t).read_unread, (hs0_2 t).read_unread,
      (hs0_3 t).read_unread, (hs0_4 t).read_unread, (hs0_5 t).read_unread, (hs0_6 t).read_unread, (hs0_7 t).read_unread,
      (hs0_8 t).read_unread, (hs0_9 t).read_unread, (hs0_10 t).read_unread, (hs0_11 t).read_unread, (hs0_12 t).read_unread,
      View.ld_unit_zero (S := S512x1024) hz, View.ld_unit_zero (S := S1x1024) hz, View.ld_unit_zero (S := S32x1024) hz,
      View.ld_unit_zero (S := S512x512) hz, View.ld_unit_zero (S := S512x128) hz, ld_part, ld_rows, ld_gate, ld_forget]
    try rfl

/-- Every later point adds to what the point before left. -/
theorem after_B (h0 : ¬t.val % 16 = 0) (p) (hp : p = outsAt0 m c (t.val - 1) (Nat.lt_of_le_of_lt (Nat.sub_le _ _) t.isLt)) :
    outsAt0 m c t.val t.isLt = step m c t p.2.1 := by
  rw [outsAt0_B m c t h0, ← hp]
  unfold step
  refine Prod.ext ?_ (Prod.ext ?_ (Prod.ext ?_ (Prod.ext ?_ (Prod.ext ?_ ?_)))) <;> dsimp only
  on_goal 1 => unfold out0_B_13; rw [View.read_writes_eq_canon _ _ _ (fun y => cover0_B_13 (y := y) ..)]
  on_goal 2 => unfold out0_B_14; rw [View.read_writes_eq_canon _ _ _ (fun y => cover0_B_14 (y := y) ..)]
  on_goal 3 => unfold out0_B_15; rw [View.read_writes_eq_canon _ _ _ (fun y => cover0_B_15 (y := y) ..)]
  on_goal 4 => unfold out0_B_16; rw [View.read_writes_eq_canon _ _ _ (fun y => cover0_B_16 (y := y) ..)]
  on_goal 5 => unfold out0_B_17; rw [View.read_writes_eq_canon _ _ _ (fun y => cover0_B_17 (y := y) ..)]
  on_goal 6 => unfold out0_B_18; rw [View.read_writes_eq_canon _ _ _ (fun y => cover0_B_18 (y := y) ..)]
  all_goals
    unfold kernelRun0_B
    dsimp only
    sl_unfold_words
  on_goal 1 => rw [View.canon_unit_zero (S := S512x1024) hz]
  on_goal 2 => rw [View.canon_unit_zero (S := S1x1024) hz]
  on_goal 3 => rw [View.canon_unit_zero (S := S32x1024) hz]
  on_goal 4 => rw [View.canon_unit_zero (S := S32x1024) hz]
  on_goal 5 => rw [View.canon_unit_zero (S := S32x1024) hz]
  on_goal 6 => rw [View.canon_unit_zero (S := S32x1024) hz]
  all_goals
    simp only [View.readAt_eq_ld, (hs0_0 t).read_unread, (hs0_1 t).read_unread, (hs0_2 t).read_unread,
      (hs0_3 t).read_unread, (hs0_4 t).read_unread, (hs0_5 t).read_unread, (hs0_6 t).read_unread, (hs0_7 t).read_unread,
      (hs0_8 t).read_unread, (hs0_9 t).read_unread, (hs0_10 t).read_unread, (hs0_11 t).read_unread, (hs0_12 t).read_unread,
      (hs0_14 t).read_unread, View.ld_unit_zero (S := S512x1024) hz, View.ld_unit_zero (S := S1x1024) hz,
      View.ld_unit_zero (S := S32x1024) hz, View.ld_unit_zero (S := S512x512) hz, View.ld_unit_zero (S := S512x128) hz,
      ld_part, ld_rows, ld_gate, ld_forget]
    try rfl

end Blocks

end Cert.KInprojIdeal.Points

end
-- ==== Proof.Inproj.Row.lean ====
/- The in-projection's backward call as formulas: one token's gradients (`dn` at the normed row, `dx` at the input, `dg`
   at the gain) and one entry of the optimiser's step (`newM`, `newV`, `delta`). -/
module

public import proofs.«01_k».proof.Proof.Kit

@[expose] public section

noncomputable section

namespace Cert.Inproj

open Idealize.ShloMosaic

/-- One token: the gradients at the projection's six results, at the token's other use, and the token. -/
structure Row where
  dq : Fin 512 → EReal
  dk : Fin 512 → EReal
  dv : Fin 512 → EReal
  df : Fin 8 → EReal
  du : Fin 512 → EReal
  dvs : Fin 512 → EReal
  dh : Fin 1024 → EReal
  x : Fin 1024 → EReal

/-- Columns of the projection from column `o` on. -/
abbrev at_ {n : ℕ} (o : ℕ) (h : o + n ≤ 2568) (j : Fin n) : Fin 2568 := ⟨o + j.val, by have := j.isLt; omega⟩

variable (W : Fin 1024 → Fin 2568 → EReal) (g : Fin 1024 → EReal) (x : Row) (d : Fin 1024)

/-- The gradient at the normed row: a product for each result, in the order of the projection's columns. -/
def dn : EReal :=
  (∑ j, x.dq j * W d (at_ 0 (by decide) j)) + (∑ j, x.dk j * W d (at_ 512 (by decide) j))
    + (∑ j, x.dv j * W d (at_ 1024 (by decide) j)) + (∑ j, x.df j * W d (at_ 1536 (by decide) j))
    + (∑ j, x.du j * W d (at_ 1544 (by decide) j)) + (∑ j, x.dvs j * W d (at_ 2056 (by decide) j))
/-- … at the token. -/
def dx : EReal := x.dh d + Kit.rmsBack 1024 x.x (fun k => dn W x k * g k) d
/-- What the token adds to the gain's gradient. -/
def dg : EReal := dn W x d * (x.x d * Kit.rstd 1024 x.x)

/-! ## Sums in parts -/

/-- A finite sum whose tail is zero. -/
theorem sum_head {n k N : ℕ} (h : n + k = N) (f : Fin N → EReal) (hf : ∀ j : Fin N, n ≤ j.val → f j = 0) :
    ∑ j, f j = ∑ j : Fin n, f ⟨j.val, by have := j.isLt; omega⟩ := by
  subst h
  rw [Fin.sum_univ_add, Finset.sum_eq_zero (f := fun j : Fin k => f (Fin.natAdd n j)) fun j _ => hf _ (by simp), add_zero]
  rfl

/-- A finite sum in two parts. -/
theorem sum_cut {n k N : ℕ} (h : n + k = N) (f : Fin N → EReal) :
    ∑ j, f j = (∑ j : Fin n, f ⟨j.val, by have := j.isLt; omega⟩) + ∑ j : Fin k, f ⟨n + j.val, by have := j.isLt; omega⟩ := by
  subst h
  exact Fin.sum_univ_add f

/-- A sum over the projection's columns, result by result. -/
theorem sum_columns (f : Fin 2568 → EReal) :
    ∑ n, f n = (∑ j : Fin 512, f (at_ 0 (by decide) j)) + (∑ j : Fin 512, f (at_ 512 (by decide) j))
      + (∑ j : Fin 512, f (at_ 1024 (by decide) j)) + (∑ j : Fin 8, f (at_ 1536 (by decide) j))
      + (∑ j : Fin 512, f (at_ 1544 (by decide) j)) + (∑ j : Fin 512, f (at_ 2056 (by decide) j)) := by
  rw [sum_cut (n := 2056) (k := 512) rfl, sum_cut (n := 1544) (k := 512) rfl, sum_cut (n := 1536) (k := 8) rfl,
    sum_cut (n := 1024) (k := 512) rfl, sum_cut (n := 512) (k := 512) rfl]
  simp only [at_, Nat.zero_add]

/-! ## The optimiser's step -/

section Step
variable (w m v G : EReal)

abbrev k (b : BitVec 32) : EReal := Ideal.ofBits .f32 b
def newM : EReal := k 0x3F666666#32 * m + k 0x3DCCCCCD#32 * G
def newV : EReal := k 0x3F7FBE77#32 * v + k 0x3A83126F#32 * (G * G)
def delta : EReal := k 0xBA83126F#32 * (Ideal.div (Ideal.div (newM m G) (k 0x3F26BD02#32))
  (Ideal.sqrt (Ideal.div (newV v G) (k 0x3C231ACC#32)) + k 0x322BCC77#32) + k 0x3C23D70A#32 * w)

end Step

end Cert.Inproj

end
-- ==== Proof.Inproj.Reference.lean ====
/- The reference's six results, read element by element as the formulas of `Inproj/Row.lean`. -/
module

public import proofs.«01_k».proof.Proof.Inproj.Row
public import proofs.«01_k».proof.Proof.Gen.RInprojIdeal.Read

@[expose] public section

noncomputable section

namespace Cert.RInprojIdeal.Points

open Cert.RInprojIdeal Cert.RInprojIdeal.Gen Cert.RInprojIdeal.Read Cert.Inproj Idealize.ShloMosaic

variable (x0 x1 x2 : Vec Ideal S8192x512 .f32) (x3 : Vec Ideal S8192x8 .f32) (x4 x5 : Vec Ideal S8192x512 .f32)
  (x6 x7 : Vec Ideal S8192x1024 .f32) (x8 : Vec Ideal S1x1024 .f32) (x9 : Vec Ideal S1024x2568 .f32)

/-- Token `i`, and the projection's weights. -/
def tok (i : Fin 8192) : Row := ⟨fun j => x0 (ix2 i j), fun j => x1 (ix2 i j), fun j => x2 (ix2 i j), fun j => x3 (ix2 i j),
  fun j => x4 (ix2 i j), fun j => x5 (ix2 i j), fun j => x6 (ix2 i j), fun j => x7 (ix2 i j)⟩
abbrev wt (d : Fin 1024) (n : Fin 2568) : EReal := x9 (ix2 d n)

theorem var_x (i : Fin 8192) (k : Fin 1) :
    val_main_v6 (F := Ideal) x7 (ix2 i k) = Kit.var 1024 (tok x0 x1 x2 x3 x4 x5 x6 x7 i).x := by
  pointwise [val_main_v6, val_main_v5, val_main_v4, val_main_v3, val_main_v2, val_main_v1, val_main_v0, val_main_cst,
    val_main_cst_0, val_main_cst_1]
  rw [Kit.c1024, Kit.div_coe _ (by norm_num)]
  rfl

theorem dn_ref (i : Fin 8192) (d : Fin 1024) :
    val_main_v23 (F := Ideal) x0 x1 x2 x3 x4 x5 x9 (ix2 i d) = dn (wt x9) (tok x0 x1 x2 x3 x4 x5 x6 x7 i) d := by
  pointwise [val_main_v23, val_main_v22]
  rw [sum_columns]
  unfold dn
  congr 1

theorem dx_ref (i : Fin 8192) (d : Fin 1024) :
    val_main_v43 (F := Ideal) x0 x1 x2 x3 x4 x5 x6 x7 x8 x9 (ix2 i d)
      = dx (wt x9) (fun k => x8 (ix2 0 k)) (tok x0 x1 x2 x3 x4 x5 x6 x7 i) d := by
  pointwise [val_main_v43, val_main_v42, val_main_v41, val_main_v40, val_main_v39, val_main_v38, val_main_v37, val_main_v36,
    val_main_v35, val_main_v34, val_main_v33, val_main_v32, val_main_v31, val_main_v30, val_main_v29, val_main_v28,
    val_main_v27, val_main_v10, val_main_v9, val_main_v8, val_main_v7, val_main_cst_2, val_main_cst_4, val_main_cst_5,
    val_main_cst_6]
  simp only [var_x x0 x1 x2 x3 x4 x5 x6 x7, dn_ref x0 x1 x2 x3 x4 x5 x6 x7, Finset.univ_unique, Finset.sum_singleton, Kit.neghalf, Kit.c1024,
    Kit.div_coe _ (show (1024 : ℝ) ≠ 0 by norm_num)]
  rw [add_assoc, add_assoc]
  show _ = x6 (ix2 i d) + _
  congr 1
  rw [← add_assoc]
  exact Kit.rmsBack_eq (n := 1024) (by norm_num) (tok x0 x1 x2 x3 x4 x5 x6 x7 i).x
    (fun k => dn (wt x9) (tok x0 x1 x2 x3 x4 x5 x6 x7 i) k * x8 (ix2 0 k)) d _ rfl

theorem dg_ref (i : Fin 1) (d : Fin 1024) : val_main_v26 (F := Ideal) x0 x1 x2 x3 x4 x5 x7 x9 (ix2 i d)
    = (∑ i', dg (wt x9) (tok x0 x1 x2 x3 x4 x5 x6 x7 i') d : EReal) := by
  pointwise [val_main_v26, val_main_v25, val_main_v24, val_main_v12, val_main_v11, val_main_v7, val_main_cst_3]
  simp only [var_x x0 x1 x2 x3 x4 x5 x6 x7, dn_ref x0 x1 x2 x3 x4 x5 x6 x7]
  exact Finset.sum_congr rfl fun t _ => mul_comm _ _

section Step
variable (x10 : Vec Ideal S8x512x1024 .f32) (x11 x12 x13 : Vec Ideal S512x1024 .f32) (r : Fin 512) (d : Fin 1024)

/-- The devices' parts added up. -/
abbrev total : EReal := ∑ j, x10 (ix3 j r d)

theorem total_ref : val_main_v44 (F := Ideal) x10 (ix2 r d) = total x10 r d := by
  pointwise [val_main_v44, val_main_cst_7]

theorem newM_ref : val_main_v49 (F := Ideal) x10 x12 (ix2 r d) = newM (x12 (ix2 r d)) (total x10 r d) := by
  pointwise [val_main_v49, val_main_v48, val_main_v47, val_main_v46, val_main_v45, val_main_cst_8, val_main_cst_9]
  rw [total_ref]
  rfl

theorem newV_ref : val_main_v55 (F := Ideal) x10 x13 (ix2 r d) = newV (x13 (ix2 r d)) (total x10 r d) := by
  pointwise [val_main_v55, val_main_v54, val_main_v53, val_main_v52, val_main_v51, val_main_v50, val_main_cst_10, val_main_cst_11]
  rw [total_ref]
  rfl

theorem delta_ref : val_main_v68 (F := Ideal) x10 x11 x12 x13 (ix2 r d)
    = delta (x11 (ix2 r d)) (x12 (ix2 r d)) (x13 (ix2 r d)) (total x10 r d) := by
  pointwise [val_main_v68, val_main_v67, val_main_v66, val_main_v65, val_main_v64, val_main_v63, val_main_v62, val_main_v61,
    val_main_v60, val_main_v59, val_main_v58, val_main_v57, val_main_v56, val_main_cst_12, val_main_cst_13, val_main_cst_14,
    val_main_cst_15, val_main_cst_16]
  rw [newM_ref, newV_ref]
  rfl

end Step

end Cert.RInprojIdeal.Points

end
-- ==== Proof.Inproj.Value.lean ====
/- The in-projection's backward call at the ideal instance: the kernel's blocks as the formulas of `Inproj/Row.lean` of
   their rows, the gain's gradient as the sum over all 8192 rows. The transposed weights the kernel is given hold the
   forget gate's eight rows last, with 120 rows of zeros behind; its gradient carries as many columns of zeros. -/
module

public import proofs.«01_k».proof.Proof.Inproj.Points
public import proofs.«01_k».proof.Proof.Inproj.Reference

@[expose] public section

set_option maxRecDepth 16384

noncomputable section

namespace Cert.KInprojIdeal.Points

open Cert.KInprojIdeal Cert.KInprojIdeal.Gen Idealize.ShloMosaic Idealize.ShloMosaic.TcCoe Idealize.SL.Sem
open Cert.Inproj (Row dn dx dg newM newV delta)

/-! ## The payloads at an index -/

section Payloads
variable (DQ : Vec Ideal S512x512 .f32) (DK DV : Vec Ideal S512x512 .bf16) (DU : Vec Ideal S512x1024 .bf16)
  (DF : Vec Ideal S512x128 .bf16) (W : Vec Ideal S2688x1024 .bf16) (X DH : Vec Ideal S512x1024 .f32) (g : Vec Ideal S1x1024 .f32)
  (w : Fin 1024 → Fin 2568 → EReal) (x : Row) (r : Fin 512) (d : Fin 1024)

/-- The blocks hold the token `x` in row `r`, and the weights `w`. -/
structure Holds : Prop where
  dq : ∀ j, DQ (ix2 j r) = x.dq j
  dk : ∀ j, DK (ix2 r j) = x.dk j
  dv : ∀ j, DV (ix2 r j) = x.dv j
  dus : ∀ j, DU (ix2 r j) = if h : j.val < 512 then x.du ⟨j.val, h⟩ else x.dvs ⟨j.val - 512, by have := j.isLt; omega⟩
  df : ∀ j, DF (ix2 r j) = if h : j.val < 8 then x.df ⟨j.val, h⟩ else 0
  tok : ∀ k, X (ix2 r k) = x.x k
  dh : ∀ k, DH (ix2 r k) = x.dh k
  qkv : ∀ n (h : n < 1536) k, W (ix2 ⟨n, by omega⟩ k) = w k ⟨n, by omega⟩
  gate : ∀ n (h : n < 1024) k, W (ix2 ⟨1536 + n, by omega⟩ k) = w k ⟨1544 + n, by omega⟩
  forget : ∀ n (h : n < 8) k, W (ix2 ⟨2560 + n, by omega⟩ k) = w k ⟨1536 + n, by omega⟩

variable {DQ DK DV DU DF W X DH w x r} (H : Holds DQ DK DV DU DF W X DH w x r)

include H in
theorem grad_apply : gradOf DQ DK DV DU DF W (ix2 r d) = dn w x d := by
  pointwise [gradOf, k0_pay10, k0_pay9]
  simp only [rows, gateRows, forgetRows, H.dq, H.dk, H.dv, H.dus, H.df]
  rw [Cert.Inproj.sum_cut (n := 512) (k := 512) (N := 1024) rfl, Cert.Inproj.sum_head (n := 8) (k := 120) (N := 128) rfl]
  · refine (add_right_comm _ _ _).trans ?_
    rw [← add_assoc]
    refine congrArg₂ (· + ·) (congrArg₂ (· + ·) (congrArg₂ (· + ·) (congrArg₂ (· + ·) (congrArg₂ (· + ·) ?_ ?_) ?_) ?_) ?_) ?_ <;>
      refine Finset.sum_congr rfl fun j _ => congrArg₂ (· * ·) ?_ ?_
    · rfl
    · exact H.qkv (0 + j.val) (by have := j.isLt; omega) d
    · rfl
    · exact H.qkv (512 + j.val) (by have := j.isLt; omega) d
    · rfl
    · exact H.qkv (1024 + j.val) (by have := j.isLt; omega) d
    · exact dif_pos j.isLt
    · exact H.forget j.val j.isLt d
    · exact dif_pos j.isLt
    · exact H.gate j.val (by have := j.isLt; omega) d
    · refine (dif_neg (by dsimp only; omega)).trans (congrArg x.dvs (Fin.ext ?_))
      show 512 + j.val - 512 = j.val
      omega
    · refine (H.gate (512 + j.val) (by have := j.isLt; omega) d).trans (congrArg (w d) (Fin.ext ?_))
      show 1544 + (512 + j.val) = 2056 + j.val
      omega
  · intro j hj
    rw [dif_neg (by omega), zero_mul]

include H in
theorem dx_apply : k0_pay2 (F := Ideal) (gradOf DQ DK DV DU DF W) X g (k0_pay11 X) DH (ix2 r d) = dx w (fun k => g (ix2 0 k)) x d := by
  pointwise [k0_pay2, k0_pay1, k0_pay11]
  simp only [grad_apply _ H, H.tok, H.dh, Kit.rsqrt_1024 x.x, Kit.c1024recip]
  rfl

end Payloads

section Sums
variable (DQ : Vec Ideal S512x512 .f32) (DK DV : Vec Ideal S512x512 .bf16) (DU : Vec Ideal S512x1024 .bf16)
  (DF : Vec Ideal S512x128 .bf16) (W : Vec Ideal S2688x1024 .bf16) (X DH : Vec Ideal S512x1024 .f32)

theorem dg_apply (w : Fin 1024 → Fin 2568 → EReal) (x : Fin 512 → Row) (H : ∀ r, Holds DQ DK DV DU DF W X DH w (x r) r)
    (b : Vec Ideal S1x1024 .f32) (i : Fin 1) (d : Fin 1024) :
    k0_pay3 (F := Ideal) (gradOf DQ DK DV DU DF W) X (k0_pay11 X) b (ix2 i d) = b (ix2 i d) + ∑ r, dg w (x r) d := by
  pointwise [k0_pay3, k0_pay1, k0_pay11]
  simp only [fun r => grad_apply d (H r), fun r => (H r).tok, fun r => Kit.rsqrt_1024 (x r).x]
  rfl

theorem zero8 (i) : k0_pay8 (F := Ideal) i = 0 := by pointwise [k0_pay8]

variable (P : Vec Ideal S8x32x1024 .f32) (w m v : Vec Ideal S32x1024 .f32) (r : Fin 32) (d : Fin 1024)

theorem total_apply : totalOf (F := Ideal) P (ix2 r d) = ∑ j, P (ix3 j r d) := by
  pointwise [totalOf, k0_pay4]
  rw [Fin.sum_univ_eight]
  rfl
theorem newM_apply : k0_pay5 (F := Ideal) (totalOf P) m (ix2 r d) = newM (m (ix2 r d)) (∑ j, P (ix3 j r d)) := by
  rw [← total_apply]
  pointwise [k0_pay5]
  rfl
theorem newV_apply : k0_pay6 (F := Ideal) (totalOf P) v (ix2 r d) = newV (v (ix2 r d)) (∑ j, P (ix3 j r d)) := by
  rw [← total_apply]
  pointwise [k0_pay6]
  rfl
theorem delta_apply : k0_pay7 (F := Ideal) (totalOf P) w m v (ix2 r d)
    = delta (w (ix2 r d)) (m (ix2 r d)) (v (ix2 r d)) (∑ j, P (ix3 j r d)) := by
  rw [← total_apply]
  pointwise [k0_pay7, k0_pay6, k0_pay5]
  rfl

end Sums

/-! ## The blocks a point reads -/

variable (m : (ℓ : Loc nD τ sig) → Buf (Elt Ideal) ℓ) (c : Dev nD)

/-- Row `r` of point `t`'s block is this row of the array; row `r` of its optimiser block this one. -/
abbrev at_ (t : Fin cfg0.N) (r : Fin 512) : Fin 8192 :=
  ⟨t.val * 512 + r.val, by have := t.isLt; have := r.isLt; have : cfg0.N = 16 := N16; omega⟩
abbrev wat (t : Fin cfg0.N) (r : Fin 32) : Fin 512 :=
  ⟨t.val * 32 + r.val, by have := t.isLt; have := r.isLt; have : cfg0.N = 16 := N16; omega⟩

theorem idx1 : ∀ t : Fin cfg0.N, win0_1.index t 0 = t.val ∧ win0_1.index t 1 = 0 := (by decide +kernel : ∀ t : Fin grid0.N, _)
theorem idx2 : ∀ t : Fin cfg0.N, win0_2.index t 0 = t.val ∧ win0_2.index t 1 = 0 := (by decide +kernel : ∀ t : Fin grid0.N, _)
theorem idx3 : ∀ t : Fin cfg0.N, win0_3.index t 0 = t.val ∧ win0_3.index t 1 = 0 := (by decide +kernel : ∀ t : Fin grid0.N, _)
theorem idx4 : ∀ t : Fin cfg0.N, win0_4.index t 0 = t.val ∧ win0_4.index t 1 = 0 := (by decide +kernel : ∀ t : Fin grid0.N, _)
theorem idx6 : ∀ t : Fin cfg0.N, win0_6.index t 0 = t.val ∧ win0_6.index t 1 = 0 := (by decide +kernel : ∀ t : Fin grid0.N, _)
theorem idx7 : ∀ t : Fin cfg0.N, win0_7.index t 0 = t.val ∧ win0_7.index t 1 = 0 := (by decide +kernel : ∀ t : Fin grid0.N, _)
theorem idx10 : ∀ t : Fin cfg0.N, win0_10.index t 0 = t.val ∧ win0_10.index t 1 = 0 := (by decide +kernel : ∀ t : Fin grid0.N, _)
theorem idx11 : ∀ t : Fin cfg0.N, win0_11.index t 0 = t.val ∧ win0_11.index t 1 = 0 := (by decide +kernel : ∀ t : Fin grid0.N, _)
theorem idx12 : ∀ t : Fin cfg0.N, win0_12.index t 0 = t.val ∧ win0_12.index t 1 = 0 := (by decide +kernel : ∀ t : Fin grid0.N, _)
theorem idx13 : ∀ t : Fin cfg0.N, win0_13.index t 0 = t.val ∧ win0_13.index t 1 = 0 := (by decide +kernel : ∀ t : Fin grid0.N, _)
theorem idx15 : ∀ t : Fin cfg0.N, win0_15.index t 0 = t.val ∧ win0_15.index t 1 = 0 := (by decide +kernel : ∀ t : Fin grid0.N, _)
theorem idx16 : ∀ t : Fin cfg0.N, win0_16.index t 0 = t.val ∧ win0_16.index t 1 = 0 := (by decide +kernel : ∀ t : Fin grid0.N, _)
theorem idx17 : ∀ t : Fin cfg0.N, win0_17.index t 0 = t.val ∧ win0_17.index t 1 = 0 := (by decide +kernel : ∀ t : Fin grid0.N, _)
theorem idx18 : ∀ t : Fin cfg0.N, win0_18.index t 0 = t.val ∧ win0_18.index t 1 = 0 := (by decide +kernel : ∀ t : Fin grid0.N, _)
theorem idx5 : ∀ t : Fin cfg0.N, win0_5.index t 0 = 0 ∧ win0_5.index t 1 = 0 := (by decide +kernel : ∀ t : Fin grid0.N, _)
theorem idx8 : ∀ t : Fin cfg0.N, win0_8.index t 0 = 0 ∧ win0_8.index t 1 = 0 := (by decide +kernel : ∀ t : Fin grid0.N, _)
theorem idx14 : ∀ t : Fin cfg0.N, win0_14.index t 0 = 0 ∧ win0_14.index t 1 = 0 := (by decide +kernel : ∀ t : Fin grid0.N, _)
theorem idx0 : ∀ t : Fin cfg0.N, win0_0.index t 0 = 0 ∧ win0_0.index t 1 = t.val := (by decide +kernel : ∀ t : Fin grid0.N, _)
theorem idx9 : ∀ t : Fin cfg0.N, win0_9.index t 0 = 0 ∧ win0_9.index t 1 = t.val ∧ win0_9.index t 2 = 0 :=
  (by decide +kernel : ∀ t : Fin grid0.N, _)

/-- The arguments. -/
abbrev A0 : Vec Ideal S8192x512 .f32 := m ((c : Thread nD τ).loc main_arg0)
abbrev A1 : Vec Ideal S8192x512 .f32 := m ((c : Thread nD τ).loc main_arg1)
abbrev A2 : Vec Ideal S8192x512 .f32 := m ((c : Thread nD τ).loc main_arg2)
abbrev A3 : Vec Ideal S8192x8 .f32 := m ((c : Thread nD τ).loc main_arg3)
abbrev A4 : Vec Ideal S8192x512 .f32 := m ((c : Thread nD τ).loc main_arg4)
abbrev A5 : Vec Ideal S8192x512 .f32 := m ((c : Thread nD τ).loc main_arg5)
abbrev A6 : Vec Ideal S8192x1024 .f32 := m ((c : Thread nD τ).loc main_arg6)
abbrev A7 : Vec Ideal S8192x1024 .f32 := m ((c : Thread nD τ).loc main_arg7)
abbrev A8 : Vec Ideal S1x1024 .f32 := m ((c : Thread nD τ).loc main_arg8)
abbrev A9 : Vec Ideal S1024x2568 .f32 := m ((c : Thread nD τ).loc main_arg9)
abbrev A10 : Vec Ideal S8x512x1024 .f32 := m ((c : Thread nD τ).loc main_arg10)
abbrev A11 : Vec Ideal S512x1024 .f32 := m ((c : Thread nD τ).loc main_arg11)
abbrev A12 : Vec Ideal S512x1024 .f32 := m ((c : Thread nD τ).loc main_arg12)
abbrev A13 : Vec Ideal S512x1024 .f32 := m ((c : Thread nD τ).loc main_arg13)

theorem iblk6 (t : Fin cfg0.N) (r : Fin 512) (k : Fin 1024) : iblk m c 6 t (ix2 r k) = A7 m c (ix2 (at_ t r) k) := by
  unfold iblk
  rw [View.read_apply]
  show V m c main_arg7 _ = _
  rw [V_main_arg7]
  congr 1
  funext a
  apply Fin.ext
  match a with
  | ⟨0, _⟩ => show win0_6.index t 0 * 512 + 1 * r.val = t.val * 512 + r.val; rw [(idx6 t).1]; omega
  | ⟨1, _⟩ => show win0_6.index t 1 * 1024 + 1 * k.val = k.val; rw [(idx6 t).2]; omega

theorem iblk7 (t : Fin cfg0.N) (r : Fin 512) (k : Fin 1024) : iblk m c 7 t (ix2 r k) = A6 m c (ix2 (at_ t r) k) := by
  unfold iblk
  rw [View.read_apply]
  show V m c main_arg6 _ = _
  rw [V_main_arg6]
  congr 1
  funext a
  apply Fin.ext
  match a with
  | ⟨0, _⟩ => show win0_7.index t 0 * 512 + 1 * r.val = t.val * 512 + r.val; rw [(idx7 t).1]; omega
  | ⟨1, _⟩ => show win0_7.index t 1 * 1024 + 1 * k.val = k.val; rw [(idx7 t).2]; omega

theorem iblk8 (t : Fin cfg0.N) (r : Fin 1) (k : Fin 1024) : iblk m c 8 t (ix2 r k) = A8 m c (ix2 r k) := by
  unfold iblk
  rw [View.read_apply]
  show V m c main_arg8 _ = _
  rw [V_main_arg8]
  congr 1
  funext a
  apply Fin.ext
  match a with
  | ⟨0, _⟩ => show win0_8.index t 0 * 1 + 1 * r.val = r.val; rw [(idx8 t).1]; omega
  | ⟨1, _⟩ => show win0_8.index t 1 * 1024 + 1 * k.val = k.val; rw [(idx8 t).2]; omega

theorem iblk10 (t : Fin cfg0.N) (r : Fin 32) (k : Fin 1024) : iblk m c 10 t (ix2 r k) = A11 m c (ix2 (wat t r) k) := by
  unfold iblk
  rw [View.read_apply]
  show V m c main_arg11 _ = _
  rw [V_main_arg11]
  congr 1
  funext a
  apply Fin.ext
  match a with
  | ⟨0, _⟩ => show win0_10.index t 0 * 32 + 1 * r.val = t.val * 32 + r.val; rw [(idx10 t).1]; omega
  | ⟨1, _⟩ => show win0_10.index t 1 * 1024 + 1 * k.val = k.val; rw [(idx10 t).2]; omega

theorem iblk11 (t : Fin cfg0.N) (r : Fin 32) (k : Fin 1024) : iblk m c 11 t (ix2 r k) = A12 m c (ix2 (wat t r) k) := by
  unfold iblk
  rw [View.read_apply]
  show V m c main_arg12 _ = _
  rw [V_main_arg12]
  congr 1
  funext a
  apply Fin.ext
  match a with
  | ⟨0, _⟩ => show win0_11.index t 0 * 32 + 1 * r.val = t.val * 32 + r.val; rw [(idx11 t).1]; omega
  | ⟨1, _⟩ => show win0_11.index t 1 * 1024 + 1 * k.val = k.val; rw [(idx11 t).2]; omega

theorem iblk12 (t : Fin cfg0.N) (r : Fin 32) (k : Fin 1024) : iblk m c 12 t (ix2 r k) = A13 m c (ix2 (wat t r) k) := by
  unfold iblk
  rw [View.read_apply]
  show V m c main_arg13 _ = _
  rw [V_main_arg13]
  congr 1
  funext a
  apply Fin.ext
  match a with
  | ⟨0, _⟩ => show win0_12.index t 0 * 32 + 1 * r.val = t.val * 32 + r.val; rw [(idx12 t).1]; omega
  | ⟨1, _⟩ => show win0_12.index t 1 * 1024 + 1 * k.val = k.val; rw [(idx12 t).2]; omega

theorem iblk1 (t : Fin cfg0.N) (r : Fin 512) (k : Fin 512) : iblk m c 1 t (ix2 r k) = A1 m c (ix2 (at_ t r) k) := by
  unfold iblk
  rw [View.read_apply]
  show V m c main_v12 _ = _
  have e : (V m c main_v12 : Vec Ideal S8192x512 .bf16) = (truncf .bf16 (A1 m c) bitsLt_bf16_f32 : FVec Ideal S8192x512 .bf16) := by
    unfold V hostOps0 hostOps0_1 hostOps0_2
    after_results_simp
    rfl
  rw [e, show ((cfg0.win 1).blk t).view.emb (ix2 r k) = ix2 (at_ t r) k from ?_]
  · pointwise
  funext a
  apply Fin.ext
  match a with
  | ⟨0, _⟩ => show win0_1.index t 0 * 512 + 1 * r.val = t.val * 512 + r.val; rw [(idx1 t).1]; omega
  | ⟨1, _⟩ => show win0_1.index t 1 * 512 + 1 * k.val = k.val; rw [(idx1 t).2]; omega

theorem iblk2 (t : Fin cfg0.N) (r : Fin 512) (k : Fin 512) : iblk m c 2 t (ix2 r k) = A2 m c (ix2 (at_ t r) k) := by
  unfold iblk
  rw [View.read_apply]
  show V m c main_v13 _ = _
  have e : (V m c main_v13 : Vec Ideal S8192x512 .bf16) = (truncf .bf16 (A2 m c) bitsLt_bf16_f32 : FVec Ideal S8192x512 .bf16) := by
    unfold V hostOps0 hostOps0_1 hostOps0_2
    after_results_simp
    rfl
  rw [e, show ((cfg0.win 2).blk t).view.emb (ix2 r k) = ix2 (at_ t r) k from ?_]
  · pointwise
  funext a
  apply Fin.ext
  match a with
  | ⟨0, _⟩ => show win0_2.index t 0 * 512 + 1 * r.val = t.val * 512 + r.val; rw [(idx2 t).1]; omega
  | ⟨1, _⟩ => show win0_2.index t 1 * 512 + 1 * k.val = k.val; rw [(idx2 t).2]; omega

theorem iblk3 (t : Fin cfg0.N) (r : Fin 512) (k : Fin 1024) : iblk m c 3 t (ix2 r k) = if h : k.val < 512 then A4 m c (ix2 (at_ t r) ⟨k.val, h⟩)
    else A5 m c (ix2 (at_ t r) ⟨k.val - 512, by have := k.isLt; omega⟩) := by
  unfold iblk
  rw [View.read_apply]
  show V m c main_v8 _ = _
  have e : (V m c main_v8 : Vec Ideal S8192x1024 .bf16) = (truncf .bf16 (concatenate S8192x1024 1 [⟨S8192x512, A4 m c⟩, ⟨S8192x512, A5 m c⟩]
      concatenates_S8192x512_S8192x512_S8192x1024_d1) bitsLt_bf16_f32 : FVec Ideal S8192x1024 .bf16) := by
    unfold V hostOps0 hostOps0_1 hostOps0_2
    after_results_simp
    rfl
  rw [e, show ((cfg0.win 3).blk t).view.emb (ix2 r k) = ix2 (at_ t r) k from ?_]
  · pointwise
  funext a
  apply Fin.ext
  match a with
  | ⟨0, _⟩ => show win0_3.index t 0 * 512 + 1 * r.val = t.val * 512 + r.val; rw [(idx3 t).1]; omega
  | ⟨1, _⟩ => show win0_3.index t 1 * 1024 + 1 * k.val = k.val; rw [(idx3 t).2]; omega

theorem iblk4 (t : Fin cfg0.N) (r : Fin 512) (k : Fin 128) : iblk m c 4 t (ix2 r k) = if h : k.val < 8 then A3 m c (ix2 (at_ t r) ⟨k.val, h⟩) else 0 := by
  unfold iblk
  rw [View.read_apply]
  show V m c main_v10 _ = _
  have e : (V m c main_v10 : Vec Ideal S8192x128 .bf16) = (truncf .bf16 (pad S8192x128 ![0, 0] ![0, 120] ![0, 0] (A3 m c)
      (sitofp .f32 (constantI S_ 32 0#32)) pads_S8192x8_S8192x128_000_01200 h_S_) bitsLt_bf16_f32 : FVec Ideal S8192x128 .bf16) := by
    unfold V hostOps0 hostOps0_1 hostOps0_2
    after_results_simp
    rfl
  rw [e, show ((cfg0.win 4).blk t).view.emb (ix2 r k) = ix2 (at_ t r) k from ?_]
  · pointwise
    by_cases h : k.val < 8
    · rw [dif_pos ⟨(at_ t r).isLt, h⟩, dif_pos h]
    · rw [dif_neg fun e => h e.2, dif_neg h]
      show (((0#32 : BitVec 32).toInt : ℝ) : EReal) = 0
      simp
  funext a
  apply Fin.ext
  match a with
  | ⟨0, _⟩ => show win0_4.index t 0 * 512 + 1 * r.val = t.val * 512 + r.val; rw [(idx4 t).1]; omega
  | ⟨1, _⟩ => show win0_4.index t 1 * 128 + 1 * k.val = k.val; rw [(idx4 t).2]; omega

theorem iblk0 (t : Fin cfg0.N) (r : Fin 512) (k : Fin 512) : iblk m c 0 t (ix2 k r) = A0 m c (ix2 (at_ t r) k) := by
  unfold iblk
  rw [View.read_apply]
  show V m c main_v11 _ = _
  have e : (V m c main_v11 : Vec Ideal S512x8192 .f32) = transpose S512x8192 [1, 0] (A0 m c) transposes_S8192x512_S512x8192_1_0 := by
    unfold V hostOps0 hostOps0_1 hostOps0_2
    after_results_simp
    rfl
  rw [e, show ((cfg0.win 0).blk t).view.emb (ix2 k r) = ix2 k (at_ t r) from ?_]
  · pointwise
  funext a
  apply Fin.ext
  match a with
  | ⟨0, _⟩ => show win0_0.index t 0 * 512 + 1 * k.val = k.val; rw [(idx0 t).1]; omega
  | ⟨1, _⟩ => show win0_0.index t 1 * 512 + 1 * r.val = t.val * 512 + r.val; rw [(idx0 t).2]; omega

theorem iblk9 (t : Fin cfg0.N) (j : Fin 8) (r : Fin 32) (k : Fin 1024) : iblk m c 9 t (ix3 j r k) = A10 m c (ix3 j (wat t r) k) := by
  unfold iblk
  rw [View.read_apply]
  show V m c main_arg10 _ = _
  rw [V_main_arg10]
  congr 1
  funext a
  apply Fin.ext
  match a with
  | ⟨0, _⟩ => show win0_9.index t 0 * 8 + 1 * j.val = j.val; rw [(idx9 t).1]; omega
  | ⟨1, _⟩ => show win0_9.index t 1 * 32 + 1 * r.val = t.val * 32 + r.val; rw [(idx9 t).2.1]; omega
  | ⟨2, _⟩ => show win0_9.index t 2 * 1024 + 1 * k.val = k.val; rw [(idx9 t).2.2]; omega

/-- The transposed weights as the kernel is given them. -/
theorem iblk5 (t : Fin cfg0.N) (r : Fin 2688) (k : Fin 1024) : iblk m c 5 t (ix2 r k) =
    if h : r.val < 1536 then A9 m c (ix2 k ⟨r.val, by omega⟩) else
    if h : r.val - 1536 < 1024 then A9 m c (ix2 k ⟨1544 + (r.val - 1536), by omega⟩) else
    if h : r.val - 1536 - 1024 < 8 then A9 m c (ix2 k ⟨1536 + (r.val - 1536 - 1024), by omega⟩) else 0 := by
  unfold iblk
  rw [View.read_apply]
  show V m c main_v6 _ = _
  have e : (V m c main_v6 : Vec Ideal S2688x1024 .bf16) = concatenate S2688x1024 0
      [⟨S1536x1024, extractStridedSlice S1536x1024 ![0, 0] (truncf .bf16 (transpose S2568x1024 [1, 0] (A9 m c) transposes_S1024x2568_S2568x1024_1_0)
        bitsLt_bf16_f32 : FVec Ideal S2568x1024 .bf16) slices_S2568x1024_S1536x1024_0_0⟩,
       ⟨S1024x1024, extractStridedSlice S1024x1024 ![1544, 0] (truncf .bf16 (transpose S2568x1024 [1, 0] (A9 m c) transposes_S1024x2568_S2568x1024_1_0)
        bitsLt_bf16_f32 : FVec Ideal S2568x1024 .bf16) slices_S2568x1024_S1024x1024_1544_0⟩,
       ⟨S8x1024, extractStridedSlice S8x1024 ![1536, 0] (truncf .bf16 (transpose S2568x1024 [1, 0] (A9 m c) transposes_S1024x2568_S2568x1024_1_0)
        bitsLt_bf16_f32 : FVec Ideal S2568x1024 .bf16) slices_S2568x1024_S8x1024_1536_0⟩,
       ⟨S120x1024, broadcastInDim S120x1024 ![] bcast_S_S120x1024 (constant (F := Ideal) S_ .bf16 0x0000#16)⟩]
      concatenates_S1536x1024_S1024x1024_S8x1024_S120x1024_S2688x1024_d0 := by
    unfold V hostOps0 hostOps0_1 hostOps0_2
    after_results_simp
    rfl
  rw [e, show ((cfg0.win 5).blk t).view.emb (ix2 r k) = ix2 r k from ?_]
  · pointwise
  funext a
  apply Fin.ext
  match a with
  | ⟨0, _⟩ => show win0_5.index t 0 * 2688 + 1 * r.val = r.val; rw [(idx5 t).1]; omega
  | ⟨1, _⟩ => show win0_5.index t 1 * 1024 + 1 * k.val = k.val; rw [(idx5 t).2]; omega

abbrev wt (k : Fin 1024) (n : Fin 2568) : EReal := A9 m c (ix2 k n)
abbrev tk (i : Fin 8192) : Row :=
  Cert.RInprojIdeal.Points.tok (A0 m c) (A1 m c) (A2 m c) (A3 m c) (A4 m c) (A5 m c) (A6 m c) (A7 m c) i

theorem holds (t : Fin cfg0.N) (r : Fin 512) : Holds (iblk m c 0 t) (iblk m c 1 t) (iblk m c 2 t) (iblk m c 3 t) (iblk m c 4 t)
    (iblk m c 5 t) (iblk m c 6 t) (iblk m c 7 t) (wt m c) (tk m c (at_ t r)) r where
  dq _ := iblk0 ..
  dk _ := iblk1 ..
  dv _ := iblk2 ..
  dus _ := iblk3 ..
  df _ := iblk4 ..
  tok _ := iblk6 ..
  dh _ := iblk7 ..
  qkv n h k := (iblk5 ..).trans (dif_pos h)
  gate n h k := by
    rw [iblk5, dif_neg (by dsimp only; omega), dif_pos (by dsimp only; omega)]
    exact congrArg (wt m c k) (Fin.ext (by dsimp only; omega))
  forget n h k := by
    rw [iblk5, dif_neg (by dsimp only; omega), dif_neg (by dsimp only; omega), dif_pos (by dsimp only; omega)]
    exact congrArg (wt m c k) (Fin.ext (by dsimp only; omega))

theorem gain (t : Fin cfg0.N) : (fun k => iblk m c 8 t (ix2 0 k)) = fun k => A8 m c (ix2 0 k) := funext fun k => iblk8 ..

/-! ## The six results -/

/-- A window written back at the last point only has no second block to meet. -/
theorem last_only (w : Fin cfg0.W) (hf : ∀ t, (cfg0.win w).flush t = true → t.val % 16 = 15) (t t' : Fin cfg0.N)
    (h : (cfg0.win w).flush t = true) (h' : (cfg0.win w).flush t' = true) (e : t ≠ t') :
    Disjoint ((cfg0.win w).blk t).view.set ((cfg0.win w).blk t').view.set := by
  have := hf t h; have := hf t' h'; have := t.isLt; have := t'.isLt; have := N16
  exact absurd (Fin.ext (by omega)) e

/-- The last grid point. -/
abbrev last : Fin cfg0.N := ⟨15, by rw [N16]; decide⟩

/-- The point whose block holds token `i`, and the token's row there; the same of a row of the optimiser's. -/
abbrev pt (i : Fin 8192) : Fin cfg0.N := ⟨i.val / 512, by rw [N16]; have := i.isLt; omega⟩
abbrev rw_ (i : Fin 8192) : Fin 512 := ⟨i.val % 512, Nat.mod_lt _ (by decide)⟩
theorem at_pt (i : Fin 8192) : at_ (pt i) (rw_ i) = i := Fin.ext (by show i.val / 512 * 512 + i.val % 512 = i.val; omega)
abbrev wpt (i : Fin 512) : Fin cfg0.N := ⟨i.val / 32, by rw [N16]; have := i.isLt; omega⟩
abbrev wrw (i : Fin 512) : Fin 32 := ⟨i.val % 32, Nat.mod_lt _ (by decide)⟩
theorem wat_pt (i : Fin 512) : wat (wpt i) (wrw i) = i := Fin.ext (by show i.val / 32 * 32 + i.val % 32 = i.val; omega)

theorem after (t : Fin cfg0.N) : ∃ b, outsAt0 m c t.val t.isLt = step m c t b := by
  by_cases h0 : t.val % 16 = 0
  · exact ⟨_, after_A m c t h0⟩
  · exact ⟨_, after_B m c t h0 _ rfl⟩

theorem result13 (i : Fin 8192) (d : Fin 1024) : (dats m 0 c).arrAt 13 cfg0.N (ix2 i d)
    = dx (wt m c) (fun k => A8 m c (ix2 0 k)) (tk m c i) d := by
  have h := (dats m 0 c).arrAt_emb_eq_flushed 13 Value.disjoint13 (pt i) (flush0_13 _) (ix2 (rw_ i) d)
  rw [Value.flushed13] at h
  have hv : (outsAt0 m c (pt i).val (pt i).isLt).1 (ix2 (rw_ i) d) = dx (wt m c) (fun k => A8 m c (ix2 0 k)) (tk m c i) d := by
    obtain ⟨b, e⟩ := after m c (pt i)
    rw [e, ← gain m c (pt i)]
    refine (dx_apply _ _ (holds m c (pt i) (rw_ i))).trans ?_
    rw [at_pt]
  refine (congrArg _ ?_).trans (h.trans hv)
  funext a
  apply Fin.ext
  match a with
  | ⟨0, _⟩ =>
    show i.val = win0_13.index _ 0 * 512 + 1 * (i.val % 512)
    rw [(idx13 _).1]; show i.val = i.val / 512 * 512 + 1 * (i.val % 512); omega
  | ⟨1, _⟩ => show d.val = win0_13.index _ 1 * 1024 + 1 * d.val; rw [(idx13 _).2]; omega

/-- The gain of the norm. -/
theorem result14 (i : Fin 1) (d : Fin 1024) : (dats m 0 c).arrAt 14 cfg0.N (ix2 i d) = (∑ i', dg (wt m c) (tk m c i') d : EReal) := by
  have h := (dats m 0 c).arrAt_emb_eq_flushed 14 (last_only 14 fun t => (flush0_14 t).mp) last ((flush0_14 _).mpr rfl) (ix2 i d)
  rw [Value.flushed14] at h
  have hs := Kit.chain_eq_sum (fun n h => (outsAt0 m c n h).2.1 (ix2 i d))
    (fun t => (∑ r, dg (wt m c) (tk m c (at_ t r)) d : EReal))
    (fun h => by
      rw [after_A m c ⟨0, h⟩ rfl]
      refine (dg_apply _ _ _ _ _ _ _ _ _ _ (holds m c ⟨0, h⟩) ..).trans ?_
      rw [zero8, zero_add])
    (fun n h => by
      have hN := N16
      rw [after_B m c ⟨n + 1, h⟩ (by dsimp only; omega) _ rfl]
      refine (dg_apply _ _ _ _ _ _ _ _ _ _ (holds m c ⟨n + 1, h⟩) ..).trans ?_
      rfl) 15 last.isLt
  rw [Kit.sum_blocks 16 512 rfl]
  refine Eq.trans (congrArg _ ?_) (h.trans hs)
  funext a
  apply Fin.ext
  match a with
  | ⟨0, _⟩ => show i.val = win0_14.index last 0 * 1 + 1 * i.val; rw [(idx14 last).1]; omega
  | ⟨1, _⟩ => show d.val = win0_14.index last 1 * 1024 + 1 * d.val; rw [(idx14 last).2]; omega

/-- The devices' parts of the optimiser's gradient, added up. -/
abbrev summed (i : Fin 512) (d : Fin 1024) : EReal := ∑ j, A10 m c (ix3 j i d)
theorem parts (i : Fin 512) (d : Fin 1024) : (∑ j, iblk m c 9 (wpt i) (ix3 j (wrw i) d) : EReal) = summed m c i d :=
  Finset.sum_congr rfl fun j _ => by rw [iblk9, wat_pt]

theorem result15 (i : Fin 512) (d : Fin 1024) : (dats m 0 c).arrAt 15 cfg0.N (ix2 i d) = summed m c i d := by
  have h := (dats m 0 c).arrAt_emb_eq_flushed 15 Value.disjoint15 (wpt i) (flush0_15 _) (ix2 (wrw i) d)
  rw [Value.flushed15] at h
  have hv : (outsAt0 m c (wpt i).val (wpt i).isLt).2.2.1 (ix2 (wrw i) d) = summed m c i d := by
    obtain ⟨b, e⟩ := after m c (wpt i)
    rw [e]
    refine (total_apply ..).trans ?_
    simp only [parts, iblk10, iblk11, iblk12, wat_pt]
  refine (congrArg _ ?_).trans (h.trans hv)
  funext a
  apply Fin.ext
  match a with
  | ⟨0, _⟩ =>
    show i.val = win0_15.index _ 0 * 32 + 1 * (i.val % 32)
    rw [(idx15 _).1]; show i.val = i.val / 32 * 32 + 1 * (i.val % 32); omega
  | ⟨1, _⟩ => show d.val = win0_15.index _ 1 * 1024 + 1 * d.val; rw [(idx15 _).2]; omega

theorem result16 (i : Fin 512) (d : Fin 1024) : (dats m 0 c).arrAt 16 cfg0.N (ix2 i d) = delta (A11 m c (ix2 i d)) (A12 m c (ix2 i d)) (A13 m c (ix2 i d)) (summed m c i d) := by
  have h := (dats m 0 c).arrAt_emb_eq_flushed 16 Value.disjoint16 (wpt i) (flush0_16 _) (ix2 (wrw i) d)
  rw [Value.flushed16] at h
  have hv : (outsAt0 m c (wpt i).val (wpt i).isLt).2.2.2.1 (ix2 (wrw i) d) = delta (A11 m c (ix2 i d)) (A12 m c (ix2 i d)) (A13 m c (ix2 i d)) (summed m c i d) := by
    obtain ⟨b, e⟩ := after m c (wpt i)
    rw [e]
    refine (delta_apply ..).trans ?_
    simp only [parts, iblk10, iblk11, iblk12, wat_pt]
  refine (congrArg _ ?_).trans (h.trans hv)
  funext a
  apply Fin.ext
  match a with
  | ⟨0, _⟩ =>
    show i.val = win0_16.index _ 0 * 32 + 1 * (i.val % 32)
    rw [(idx16 _).1]; show i.val = i.val / 32 * 32 + 1 * (i.val % 32); omega
  | ⟨1, _⟩ => show d.val = win0_16.index _ 1 * 1024 + 1 * d.val; rw [(idx16 _).2]; omega

theorem result17 (i : Fin 512) (d : Fin 1024) : (dats m 0 c).arrAt 17 cfg0.N (ix2 i d) = newM (A12 m c (ix2 i d)) (summed m c i d) := by
  have h := (dats m 0 c).arrAt_emb_eq_flushed 17 Value.disjoint17 (wpt i) (flush0_17 _) (ix2 (wrw i) d)
  rw [Value.flushed17] at h
  have hv : (outsAt0 m c (wpt i).val (wpt i).isLt).2.2.2.2.1 (ix2 (wrw i) d) = newM (A12 m c (ix2 i d)) (summed m c i d) := by
    obtain ⟨b, e⟩ := after m c (wpt i)
    rw [e]
    refine (newM_apply ..).trans ?_
    simp only [parts, iblk10, iblk11, iblk12, wat_pt]
  refine (congrArg _ ?_).trans (h.trans hv)
  funext a
  apply Fin.ext
  match a with
  | ⟨0, _⟩ =>
    show i.val = win0_17.index _ 0 * 32 + 1 * (i.val % 32)
    rw [(idx17 _).1]; show i.val = i.val / 32 * 32 + 1 * (i.val % 32); omega
  | ⟨1, _⟩ => show d.val = win0_17.index _ 1 * 1024 + 1 * d.val; rw [(idx17 _).2]; omega

theorem result18 (i : Fin 512) (d : Fin 1024) : (dats m 0 c).arrAt 18 cfg0.N (ix2 i d) = newV (A13 m c (ix2 i d)) (summed m c i d) := by
  have h := (dats m 0 c).arrAt_emb_eq_flushed 18 Value.disjoint18 (wpt i) (flush0_18 _) (ix2 (wrw i) d)
  rw [Value.flushed18] at h
  have hv : (outsAt0 m c (wpt i).val (wpt i).isLt).2.2.2.2.2 (ix2 (wrw i) d) = newV (A13 m c (ix2 i d)) (summed m c i d) := by
    obtain ⟨b, e⟩ := after m c (wpt i)
    rw [e]
    refine (newV_apply ..).trans ?_
    simp only [parts, iblk10, iblk11, iblk12, wat_pt]
  refine (congrArg _ ?_).trans (h.trans hv)
  funext a
  apply Fin.ext
  match a with
  | ⟨0, _⟩ =>
    show i.val = win0_18.index _ 0 * 32 + 1 * (i.val % 32)
    rw [(idx18 _).1]; show i.val = i.val / 32 * 32 + 1 * (i.val % 32); omega
  | ⟨1, _⟩ => show d.val = win0_18.index _ 1 * 1024 + 1 * d.val; rw [(idx18 _).2]; omega

end Cert.KInprojIdeal.Points

end
-- ==== Proof.Inproj.Claim.lean ====
/- The claims about the in-projection's backward call: the frames are the generated runs', the value the six results of
   `Inproj/Value.lean` against those of `Inproj/Reference.lean`. -/
module

public import proofs.«01_k».proof.Defs
public import proofs.«01_k».proof.Proof.Gen.KInproj.Frame
public import proofs.«01_k».proof.Proof.Gen.RInprojIdeal.Run
public import proofs.«01_k».proof.Proof.Inproj.Value

@[expose] public section

noncomputable section

namespace Cert.Inproj

open Idealize.ShloMosaic Idealize.ShloMosaic.TcCoe Idealize.SL.Sem
open Cert.KInprojIdeal (cfg0)
open Cert.KInprojIdeal.Gen (dats)

theorem frame_kernel : Cert.quiescent_KInproj := fun m ρ _ => Cert.KInproj.Gen.frame m ρ
theorem frame_ideal : Cert.quiescent_KInprojIdeal := fun m ρ _ => Cert.KInprojIdeal.Gen.frame m ρ
theorem frame_reference : Cert.quiescent_RInprojIdeal := fun m ρ _ =>
  (θ_run Cert.RInprojIdeal.defs _ _).mono (fun r h => ⟨fun c => (h c).2.2.2.2.2.2, sem_eq_zero_of_no_sems (by decide) r.2⟩)
    (Cert.RInprojIdeal.Value.run (F := Ideal) m ρ)

theorem algebraic : Cert.algebraic_KInprojIdeal_RInprojIdeal := by
  intro m ρ m' ρ' _ hagree
  refine ⟨fun c => (dats m 0 c).arrAt 13 cfg0.N, fun c => (dats m 0 c).arrAt 14 cfg0.N, fun c => (dats m 0 c).arrAt 15 cfg0.N,
    fun c => (dats m 0 c).arrAt 16 cfg0.N, fun c => (dats m 0 c).arrAt 17 cfg0.N, fun c => (dats m 0 c).arrAt 18 cfg0.N,
    Cert.KInprojIdeal.Value.run_blocks m ρ,
    (θ_run Cert.RInprojIdeal.defs _ _).mono (fun r h c => ?_) (Cert.RInprojIdeal.Value.run (F := Ideal) m' ρ')⟩
  obtain ⟨h0, h1, h2, h3, h4, h5, h⟩ := h c
  obtain ⟨a0, a1, a2, a3, a4, a5, a6, a7, a8, a9, a10, a11, a12, a13⟩ := hagree c
  refine ⟨h0.trans ((Cert.RInprojIdeal.Read.val_main_v43_eq ..).trans (Kit.mat_ext fun i d => ?_)),
    h1.trans ((Cert.RInprojIdeal.Read.val_main_v26_eq ..).trans (Kit.mat_ext fun i d => ?_)),
    h2.trans ((Cert.RInprojIdeal.Read.val_main_v44_eq ..).trans (Kit.mat_ext fun i d => ?_)),
    h3.trans ((Cert.RInprojIdeal.Read.val_main_v68_eq ..).trans (Kit.mat_ext fun i d => ?_)),
    h4.trans ((Cert.RInprojIdeal.Read.val_main_v49_eq ..).trans (Kit.mat_ext fun i d => ?_)),
    h5.trans ((Cert.RInprojIdeal.Read.val_main_v55_eq ..).trans (Kit.mat_ext fun i d => ?_)), h⟩
  all_goals simp only [a0, a1, a2, a3, a4, a5, a6, a7, a8, a9, a10, a11, a12, a13]
  · exact (Cert.RInprojIdeal.Points.dx_ref ..).trans (Cert.KInprojIdeal.Points.result13 m c i d).symm
  · exact (Cert.RInprojIdeal.Points.dg_ref _ _ _ _ _ _ (m (c.tc.loc Cert.KInprojIdeal.main_arg6)) ..).trans
      (Cert.KInprojIdeal.Points.result14 m c i d).symm
  · exact (Cert.RInprojIdeal.Points.total_ref ..).trans (Cert.KInprojIdeal.Points.result15 m c i d).symm
  · exact (Cert.RInprojIdeal.Points.delta_ref ..).trans (Cert.KInprojIdeal.Points.result16 m c i d).symm
  · exact (Cert.RInprojIdeal.Points.newM_ref ..).trans (Cert.KInprojIdeal.Points.result17 m c i d).symm
  · exact (Cert.RInprojIdeal.Points.newV_ref ..).trans (Cert.KInprojIdeal.Points.result18 m c i d).symm

end Cert.Inproj

end
-- ==== Proof.Fgate.Points.lean ====
/- The forget gate's backward call, point by point: what each grid point leaves in its two output buffers and in the
   scratch it carries, as the printed payloads of the blocks it reads and of what the point before left. -/
module

public import proofs.«01_k».proof.Proof.Kit
public import proofs.«01_k».proof.Proof.Gen.KFgateIdeal.Value

@[expose] public section

set_option maxRecDepth 16384

noncomputable section

namespace Cert.KFgateIdeal.Points

open Cert.KFgateIdeal Cert.KFgateIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

theorem N4 : cfg0.N = 4 := N_0
theorem hz : (![0, 0] : Fin 2 → Nat) = fun _ => 0 := funext fun a => by fin_cases a <;> rfl

/-! ## The suffix sums of one block of 2048 rows, from what the blocks below it sum to -/

section Block
variable (X0 : Vec F S8x2048 .f32) (X1 : Vec F S2048x128 .f32) (s : Vec F S1x128 .f32)

/-- The gradient at the running sums: the queries' part transposed onto the keys'. -/
abbrev dc : FVec F S2048x128 .f32 := k0_pay7 X1 X0
/-- The running total after the lowest three and the lowest ten of the block's sixteen pieces. -/
abbrev run13 : FVec F S1x128 .f32 := k0_pay14 X1 X0 s
abbrev run6 : FVec F S1x128 .f32 := k0_pay36 (dc X0 X1) (run13 X0 X1 s) (k0_pay17 X1 X0)

/-- The sixteen pieces' suffix sums, top piece first. -/
def sums : FVec F S2048x128 .f32 :=
  concatenate S2048x128 0
    [⟨S128x128, k0_pay56 (dc X0 X1) (k0_pay8 (F := F)) (run6 X0 X1 s) (k0_pay37 (dc X0 X1))⟩,
     ⟨S128x128, k0_pay53 (dc X0 X1) (k0_pay8 (F := F)) (run6 X0 X1 s) (k0_pay37 (dc X0 X1))⟩,
     ⟨S128x128, k0_pay50 (dc X0 X1) (k0_pay8 (F := F)) (run6 X0 X1 s) (k0_pay37 (dc X0 X1))⟩,
     ⟨S128x128, k0_pay47 (dc X0 X1) (k0_pay8 (F := F)) (run6 X0 X1 s) (k0_pay37 (dc X0 X1))⟩,
     ⟨S128x128, k0_pay44 (dc X0 X1) (k0_pay8 (F := F)) (run6 X0 X1 s) (k0_pay37 (dc X0 X1))⟩,
     ⟨S128x128, k0_pay41 (dc X0 X1) (k0_pay8 (F := F)) (run6 X0 X1 s) (k0_pay37 (dc X0 X1))⟩,
     ⟨S128x128, k0_pay38 (dc X0 X1) (k0_pay8 (F := F)) (run13 X0 X1 s) (k0_pay17 X1 X0)⟩,
     ⟨S128x128, k0_pay35 (dc X0 X1) (k0_pay8 (F := F)) (run13 X0 X1 s) (k0_pay17 X1 X0)⟩,
     ⟨S128x128, k0_pay32 (dc X0 X1) (k0_pay8 (F := F)) (run13 X0 X1 s) (k0_pay17 X1 X0)⟩,
     ⟨S128x128, k0_pay29 (dc X0 X1) (k0_pay8 (F := F)) (run13 X0 X1 s) (k0_pay17 X1 X0)⟩,
     ⟨S128x128, k0_pay26 (dc X0 X1) (k0_pay8 (F := F)) (run13 X0 X1 s) (k0_pay17 X1 X0)⟩,
     ⟨S128x128, k0_pay23 (dc X0 X1) (k0_pay8 (F := F)) (run13 X0 X1 s) (k0_pay17 X1 X0)⟩,
     ⟨S128x128, k0_pay20 (dc X0 X1) (k0_pay8 (F := F)) (run13 X0 X1 s) (k0_pay17 X1 X0)⟩,
     ⟨S128x128, k0_pay16 X1 X0 s⟩, ⟨S128x128, k0_pay13 X1 X0 s⟩, ⟨S128x128, k0_pay10 X1 X0 s⟩]
    concatenates_S128x128_S128x128_S128x128_S128x128_S128x128_S128x128_S128x128_S128x128_S128x128_S128x128_S128x128_S128x128_S128x128_S128x128_S128x128_S128x128_S2048x128_d0

/-- The block's gradient. -/
def grad (X2 : Vec F S2048x128 .f32) (X3 : Vec F S1x128 .f32) : FVec F S2048x128 .f32 := k0_pay2 (sums X0 X1 s) X2 X3
/-- What the block leaves in the scratch: the total below the next block. -/
def below : FVec F S1x128 .f32 := k0_pay1 (k0_pay57 (dc X0 X1) (run6 X0 X1 s) (k0_pay37 (dc X0 X1)))

end Block

/-! ## One point -/

variable (c : Dev nD) (t : Fin cfg0.N)

/-- The two buffers and the scratch after point `t`, from what the accumulated buffer and the scratch held before. -/
def step (b s : FVec F S1x128 .f32) : Vec F S2048x128 .bf16 × Vec F S1x128 .f32 × Vec F S1x128 .f32 :=
  ⟨k0_pay3 (grad (iblk m c 0 t) (iblk m c 1 t) s (iblk m c 2 t) (iblk m c 3 t)),
   k0_pay4 (grad (iblk m c 0 t) (iblk m c 1 t) s (iblk m c 2 t) (iblk m c 3 t)) b, below (iblk m c 0 t) (iblk m c 1 t) s⟩

/-- The first point clears the accumulated buffer and the scratch before it uses them. -/
theorem after_A (h0 : t.val % 4 = 0) : outsAt0 m c t.val t.isLt = step m c t k0_pay6 k0_pay5 := by
  rw [outsAt0_A m c t h0]
  unfold step
  refine Prod.ext ?_ (Prod.ext ?_ ?_) <;> dsimp only
  on_goal 1 => unfold out0_A_4; rw [View.read_writes_eq_canon _ _ _ (fun y => cover0_A_4 (y := y) ..)]
  on_goal 2 => unfold out0_A_5; rw [View.read_writes_eq_canon _ _ _ (fun y => cover0_A_5 (y := y) ..)]
  on_goal 3 => unfold sout0_A_0; rw [View.read_writes_eq_canon _ _ _ (fun y => scover0_A_0 (y := y) ..)]
  all_goals
    unfold kernelRun0_A
    dsimp only
    sl_unfold_words
  on_goal 1 => rw [View.canon_unit_zero (S := S2048x128) hz]
  on_goal 2 => rw [View.canon_cons_unit_zero (S := S1x128) hz, View.readCov_unit_zero (S := S1x128) _ hz]
  on_goal 3 => rw [View.canon_cons_unit_zero (S := S1x128) hz]
  all_goals
    simp only [View.readAt_eq_ld]
    repeat rw [View.readCov_unit_zero (S := S1x128) _ hz]
    rw [(hs0_0 t).read_unread, (hs0_1 t).read_unread]
    try rw [(hs0_2 t).read_unread, (hs0_3 t).read_unread]
    repeat rw [View.ld_unit_zero (S := S8x2048) hz]
    repeat rw [View.ld_unit_zero (S := S1x128) hz]
    repeat rw [View.ld_unit_zero (S := S2048x128) hz]
    rfl

/-- Every later point goes on from what the point before left. -/
theorem after_B (h0 : ¬t.val % 4 = 0) (p) (hp : p = outsAt0 m c (t.val - 1) (Nat.lt_of_le_of_lt (Nat.sub_le _ _) t.isLt)) :
    outsAt0 m c t.val t.isLt = step m c t p.2.1 p.2.2 := by
  rw [outsAt0_B m c t h0, ← hp]
  unfold step
  refine Prod.ext ?_ (Prod.ext ?_ ?_) <;> dsimp only
  on_goal 1 => unfold out0_B_4; rw [View.read_writes_eq_canon _ _ _ (fun y => cover0_B_4 (y := y) ..)]
  on_goal 2 => unfold out0_B_5; rw [View.read_writes_eq_canon _ _ _ (fun y => cover0_B_5 (y := y) ..)]
  on_goal 3 => unfold sout0_B_0; rw [View.read_writes_eq_canon _ _ _ (fun y => scover0_B_0 (y := y) ..)]
  all_goals
    unfold kernelRun0_B
    dsimp only
    sl_unfold_words
  on_goal 1 => rw [View.canon_unit_zero (S := S2048x128) hz]
  on_goal 2 => rw [View.canon_unit_zero (S := S1x128) hz]
  on_goal 3 => rw [View.canon_unit_zero (S := S1x128) hz]
  all_goals
    simp only [View.readAt_eq_ld]
    rw [(hs0_0 t).read_unread, (hs0_1 t).read_unread, show View.read (Elt F) (View.whole cc0_scratch0)
      ((Memref.isWhole_whole cc0_scratch0).unread p.2.2) = p.2.2 from (Memref.isWhole_whole cc0_scratch0).read_unread _]
    try rw [(hs0_2 t).read_unread, (hs0_3 t).read_unread]
    try rw [(hs0_5 t).read_unread]
    repeat rw [View.ld_unit_zero (S := S8x2048) hz]
    repeat rw [View.ld_unit_zero (S := S1x128) hz]
    repeat rw [View.ld_unit_zero (S := S2048x128) hz]
    rfl

end Cert.KFgateIdeal.Points

end
-- ==== Proof.Fgate.Row.lean ====
/- The forget gate's gradient as a formula of its rows, and the cut of a suffix sum over rows into blocks. Head `h` of row
   `i` takes the sum of the incoming gradients of the rows from `i` on, times the logistic's tail. -/
module

public import proofs.«01_k».proof.Proof.Kit

@[expose] public section

noncomputable section

namespace Cert.Fgate

open Idealize.ShloMosaic

/-- The sum of the rows from `i` on. -/
def suffix {N : ℕ} (f : Fin N → EReal) (i : ℕ) : EReal := ∑ j, if i ≤ j.val then f j else 0

theorem lt_of_block {N : ℕ} (B R : ℕ) (h : B * R = N) (b : Fin B) (x : Fin R) : b.val * R + x.val < N := by
  have := b.isLt; have := x.isLt
  calc b.val * R + x.val < b.val * R + R := by omega
    _ = (b.val + 1) * R := by ring
    _ ≤ B * R := Nat.mul_le_mul_right _ (by omega)
    _ = N := h

/-- The rows from row `q` of block `n` on: the rest of the block, and the blocks after it. -/
theorem suffix_cut {N : ℕ} (B R : ℕ) (h : B * R = N) (f : Fin N → EReal) (n : Fin B) (q : Fin R) :
    suffix f (n.val * R + q.val) = suffix (fun x : Fin R => f ⟨n.val * R + x.val, lt_of_block B R h n x⟩) q.val
      + ∑ b : Fin B, if n < b then ∑ x : Fin R, f ⟨b.val * R + x.val, lt_of_block B R h b x⟩ else 0 := by
  unfold suffix
  rw [Kit.sum_blocks B R h]
  have key : ∀ b : Fin B, (∑ x : Fin R, if n.val * R + q.val ≤ b.val * R + x.val then f ⟨b.val * R + x.val, lt_of_block B R h b x⟩ else 0)
      = (if b = n then ∑ x : Fin R, (if q.val ≤ x.val then f ⟨b.val * R + x.val, lt_of_block B R h b x⟩ else 0) else 0)
        + (if n < b then ∑ x : Fin R, f ⟨b.val * R + x.val, lt_of_block B R h b x⟩ else 0) := by
    intro b
    rcases lt_trichotomy b n with hb | hb | hb
    · rw [if_neg hb.ne, if_neg hb.asymm, add_zero]
      refine Finset.sum_eq_zero fun x _ => if_neg ?_
      have h1 : (b.val + 1) * R ≤ n.val * R := Nat.mul_le_mul_right _ hb
      have h2 : (b.val + 1) * R = b.val * R + R := by ring
      have := x.isLt
      omega
    · subst hb
      rw [if_pos rfl, if_neg (lt_irrefl _), add_zero]
      refine Finset.sum_congr rfl fun x _ => ?_
      simp only [Nat.add_le_add_iff_left]
    · rw [if_neg hb.ne', if_pos hb, zero_add]
      refine Finset.sum_congr rfl fun x _ => if_pos ?_
      have h1 : (n.val + 1) * R ≤ b.val * R := Nat.mul_le_mul_right _ hb
      have h2 : (n.val + 1) * R = n.val * R + R := by ring
      have := q.isLt
      omega
  simp only [key]
  rw [Finset.sum_add_distrib, Finset.sum_ite_eq' Finset.univ n]
  simp

section Run
variable {N : ℕ} (B R : ℕ) (h : B * R = N) (f : Fin N → EReal) (s : EReal)

/-- The sum of block `b`. -/
def seg (b : Fin B) : EReal := ∑ x : Fin R, f ⟨b.val * R + x.val, lt_of_block B R h b x⟩

/-- The running total from `s` after the last `k` of the `B` blocks, the last block first. -/
def run : (k : ℕ) → k ≤ B → EReal
  | 0, _ => s
  | k + 1, hk => run k (Nat.le_of_succ_le hk) + seg B R h f ⟨B - 1 - k, by omega⟩

theorem run_eq : ∀ (k : ℕ) (hk : k ≤ B), run B R h f s k hk = s + ∑ b : Fin B, if B ≤ b.val + k then seg B R h f b else 0
  | 0, _ => by
    rw [run, Finset.sum_eq_zero fun b _ => if_neg (by have := b.isLt; omega), add_zero]
  | k + 1, hk => by
    have cut : ∀ b : Fin B, (if B ≤ b.val + (k + 1) then seg B R h f b else 0)
        = (if B ≤ b.val + k then seg B R h f b else 0) + (if b = ⟨B - 1 - k, by omega⟩ then seg B R h f b else 0) := by
      intro b
      by_cases e : b = ⟨B - 1 - k, by omega⟩
      · have : b.val = B - 1 - k := congrArg Fin.val e
        rw [if_pos (by omega), if_neg (by omega), if_pos e, zero_add]
      · have : b.val ≠ B - 1 - k := fun h => e (Fin.ext h)
        rw [if_neg e, add_zero]
        by_cases h' : B ≤ b.val + k
        · rw [if_pos h', if_pos (by omega)]
        · rw [if_neg h', if_neg (by omega)]
    rw [run, run_eq k, Finset.sum_congr rfl fun b _ => cut b, Finset.sum_add_distrib, Finset.sum_ite_eq' Finset.univ]
    simp [add_assoc]

/-- The rest of a block on top of the running total of the blocks after it: the rows from there on. -/
theorem run_suffix (n : Fin B) (q : Fin R) (k : ℕ) (hk : k = B - 1 - n.val) :
    suffix (fun x : Fin R => f ⟨n.val * R + x.val, lt_of_block B R h n x⟩) q.val + run B R h f s k (by omega)
      = s + suffix f (n.val * R + q.val) := by
  have hn := n.isLt
  rw [run_eq, suffix_cut B R h, add_left_comm]
  refine congrArg (s + ·) (congrArg (_ + ·) (Finset.sum_congr rfl fun b _ => ?_))
  have : B ≤ b.val + k ↔ n < b := by rw [Fin.lt_def]; omega
  simp only [this]
  rfl

theorem run_all : run B R h f s B le_rfl = s + ∑ j, f j := by
  rw [run_eq, Kit.sum_blocks B R h]
  exact congrArg (s + ·) (Finset.sum_congr rfl fun b _ => if_pos (by omega))

end Run

/-- A window that starts at row `i` and pads past the last row sums the rows from `i` on. -/
theorem suffix_window {N : ℕ} (f : Fin N → EReal) (i : ℕ) :
    (∑ w : Fin N, if h : i + w.val < N then f ⟨i + w.val, h⟩ else 0) = suffix f i := by
  have one : ∀ w : Fin N, (if h : i + w.val < N then f ⟨i + w.val, h⟩ else 0) = ∑ j : Fin N, if j.val = i + w.val then f j else 0 := by
    intro w
    split
    · rename_i h
      rw [Finset.sum_eq_single (⟨i + w.val, h⟩ : Fin N) (fun j _ hj => if_neg fun e => hj (Fin.ext e)) (by simp)]
      simp
    · rename_i h
      exact (Finset.sum_eq_zero fun j _ => if_neg fun e => h (by have := j.isLt; omega)).symm
  simp only [one]
  rw [Finset.sum_comm]
  refine Finset.sum_congr rfl fun j _ => ?_
  split
  · rename_i h
    have hj := j.isLt
    rw [Finset.sum_eq_single (⟨j.val - i, by omega⟩ : Fin N) (fun w _ hw => if_neg fun e => hw (Fin.ext (by dsimp only; omega)))
      (by simp)]
    exact if_pos (by dsimp only; omega)
  · rename_i h
    exact Finset.sum_eq_zero fun w _ => if_neg fun e => h (by omega)

/-- Adding up from the left is the first value and the sum of the rest. -/
theorem foldl_add {ι : Type*} (g : ι → EReal) : ∀ (l : List ι) (v : EReal), l.foldl (fun r n => r + g n) v = v + (l.map g).sum
  | [], v => by simp
  | a :: l, v => by rw [List.foldl_cons, foldl_add g l, List.map_cons, List.sum_cons, add_assoc]

/-- Every row's gradient at head `h`. -/
def df (dq dk f : Fin 8192 → Fin 8 → EReal) (b : Fin 8 → EReal) (i : Fin 8192) (h : Fin 8) : EReal :=
  suffix (fun j => dq j h + dk j h) i.val * Ideal.logistic (-(f i h + b h))

/-- The exponential of `a` less its softplus is the logistic, at both infinities too. -/
theorem exp_sub_softplus (a : EReal) :
    Ideal.exp ((if a = ⊤ then 0 else a)
      - (if max a 0 + Ideal.log1p (Ideal.exp (-(max a (-a)))) = ⊤ then 0 else max a 0 + Ideal.log1p (Ideal.exp (-(max a (-a))))))
      = Ideal.logistic a := by
  induction a with
  | bot => simp [Ideal.log1p]
  | top =>
    have e : Ideal.log1p 0 = 0 := by
      rw [Ideal.log1p, add_zero, ← EReal.coe_one, ← EReal.coe_zero]
      show (if (1 : ℝ) ≤ 0 then (⊥ : EReal) else ((Real.log 1 : ℝ) : EReal)) = _
      rw [if_neg (by norm_num), Real.log_one]
    have e' : Ideal.exp 0 = 1 := by rw [← EReal.coe_zero, Ideal.exp_coe, Real.exp_zero, EReal.coe_one]
    simp [e, e']
  | coe r =>
    have e1 : (max (r : EReal) (-(r : EReal))) = ((|r| : ℝ) : EReal) := by rw [← EReal.coe_neg, abs_eq_max_neg]; exact (EReal.coe_strictMono.monotone.map_max).symm
    have e2 : max (r : EReal) 0 = ((max r 0 : ℝ) : EReal) := (EReal.coe_strictMono.monotone.map_max (a := r) (b := 0)).symm
    have hp : 0 < 1 + Real.exp (-|r|) := by positivity
    have e3 : Ideal.log1p (Ideal.exp (-((|r| : ℝ) : EReal))) = ((Real.log (1 + Real.exp (-|r|)) : ℝ) : EReal) := by
      rw [← EReal.coe_neg, Ideal.exp_coe, Ideal.log1p, ← EReal.coe_one, ← EReal.coe_add]
      show (if _ then _ else _) = _
      rw [if_neg (not_le.mpr hp)]
    rw [e1, e2, e3, ← EReal.coe_add, if_neg (EReal.coe_ne_top _), if_neg (EReal.coe_ne_top _), ← EReal.coe_sub, Ideal.exp_coe,
      Ideal.logistic_coe]
    congr 1
    rw [Real.exp_sub, Real.exp_add, Real.exp_log hp]
    rcases le_total 0 r with h | h
    · rw [max_eq_left h, abs_of_nonneg h]
      field_simp
    · rw [max_eq_right h, abs_of_nonpos h, neg_neg, Real.exp_zero, Real.exp_neg]
      field_simp
      ring

end Cert.Fgate

end
-- ==== Proof.Fgate.Value.lean ====
/- The forget gate's backward call at the ideal instance: a block's sixteen pieces as suffix sums of the block, the scratch
   as the running total of the blocks after it, and the two results as the formula of `Fgate/Row.lean` of all 8192 rows. -/
module

public import proofs.«01_k».proof.Proof.Fgate.Points
public import proofs.«01_k».proof.Proof.Fgate.Row
public import Idealize.ShloMosaic.Lib.WordCmp

@[expose] public section

set_option maxRecDepth 16384

noncomputable section

namespace Cert.KFgateIdeal.Points

open Cert.KFgateIdeal Cert.KFgateIdeal.Gen Idealize.ShloMosaic Idealize.ShloMosaic.TcCoe Idealize.SL.Sem
open Cert.Fgate

/-! ## One block -/

section Block
variable (X0 : Vec Ideal S8x2048 .f32) (X1 : Vec Ideal S2048x128 .f32) (s : Vec Ideal S1x128 .f32) (d : Fin 128)

/-- The gradient at the running sums, column `d`. -/
abbrev col (r : Fin 2048) : EReal := dc X0 X1 (ix2 r d)

/-- The running total after the last `k` pieces. -/
abbrev after16 (k : ℕ) (hk : k ≤ 16) : EReal := Fgate.run 16 128 rfl (col X0 X1 d) (s (ix2 0 d)) k hk

theorem run13_apply (i : Fin 1) : run13 X0 X1 s (ix2 i d) = after16 X0 X1 s d 2 (by decide) := by
  rw [Subsingleton.elim i 0]
  pointwise [k0_pay14, k0_pay11, k0_pay12, k0_pay9]
  simp only [after16, Fgate.run]
  rfl

theorem run6_apply (i : Fin 1) : run6 X0 X1 s (ix2 i d) = after16 X0 X1 s d 9 (by decide) := by
  have h : ∀ (D : FVec Ideal S2048x128 .f32) (u v : Vec Ideal S1x128 .f32), k0_pay36 D u v (ix2 i d) = u (ix2 i d) + v (ix2 i d)
      + (∑ x : Fin 128, D (ix2 ⟨1536 + x.val, by omega⟩ d)) + (∑ x : Fin 128, D (ix2 ⟨1408 + x.val, by omega⟩ d))
      + (∑ x : Fin 128, D (ix2 ⟨1280 + x.val, by omega⟩ d)) + (∑ x : Fin 128, D (ix2 ⟨1152 + x.val, by omega⟩ d))
      + (∑ x : Fin 128, D (ix2 ⟨1024 + x.val, by omega⟩ d)) + (∑ x : Fin 128, D (ix2 ⟨896 + x.val, by omega⟩ d)) := by
    intro D u v
    pointwise [k0_pay36, k0_pay34, k0_pay33, k0_pay31, k0_pay30, k0_pay28, k0_pay27, k0_pay25, k0_pay24, k0_pay22, k0_pay21, k0_pay19, k0_pay18]
  have h17 : k0_pay17 X1 X0 (ix2 i d) = (∑ x : Fin 128, dc X0 X1 (ix2 ⟨1664 + x.val, by omega⟩ d) : EReal) := by
    pointwise [k0_pay17, k0_pay15]
  refine (h ..).trans ?_
  rw [run13_apply, h17]
  simp only [after16, Fgate.run]
  rfl

theorem below_apply (i : Fin 1) : below X0 X1 s (ix2 i d) = s (ix2 0 d) + ∑ r, col X0 X1 d r := by
  have h : ∀ (D : FVec Ideal S2048x128 .f32) (u : Vec Ideal S1x128 .f32), k0_pay1 (F := Ideal) (k0_pay57 D u (k0_pay37 D)) (ix2 i d) = u (ix2 i d)
      + (∑ x : Fin 128, D (ix2 ⟨768 + x.val, by omega⟩ d)) + (∑ x : Fin 128, D (ix2 ⟨640 + x.val, by omega⟩ d))
      + (∑ x : Fin 128, D (ix2 ⟨512 + x.val, by omega⟩ d)) + (∑ x : Fin 128, D (ix2 ⟨384 + x.val, by omega⟩ d))
      + (∑ x : Fin 128, D (ix2 ⟨256 + x.val, by omega⟩ d)) + (∑ x : Fin 128, D (ix2 ⟨128 + x.val, by omega⟩ d))
      + (∑ x : Fin 128, D (ix2 ⟨0 + x.val, by omega⟩ d)) := by
    intro D u
    pointwise [k0_pay1, k0_pay57, k0_pay55, k0_pay54, k0_pay52, k0_pay51, k0_pay49, k0_pay48, k0_pay46, k0_pay45, k0_pay43, k0_pay42, k0_pay40, k0_pay39, k0_pay37]
    try simp only [Nat.zero_add]
  unfold below
  refine (h ..).trans ?_
  rw [run6_apply, ← run_all 16 128 rfl]
  simp only [after16, Fgate.run]
  rfl

/-- The sixteen pieces, the lowest rows first. -/
def pieces (D : FVec Ideal S2048x128 .f32) (u v w : FVec Ideal S1x128 .f32) (p15 p14 p13 : FVec Ideal S128x128 .f32) : Fin 16 → FVec Ideal S128x128 .f32 :=
  ![k0_pay56 D (k0_pay8 (F := Ideal)) u (k0_pay37 D), k0_pay53 D (k0_pay8 (F := Ideal)) u (k0_pay37 D),
    k0_pay50 D (k0_pay8 (F := Ideal)) u (k0_pay37 D), k0_pay47 D (k0_pay8 (F := Ideal)) u (k0_pay37 D),
    k0_pay44 D (k0_pay8 (F := Ideal)) u (k0_pay37 D), k0_pay41 D (k0_pay8 (F := Ideal)) u (k0_pay37 D),
    k0_pay38 D (k0_pay8 (F := Ideal)) v w, k0_pay35 D (k0_pay8 (F := Ideal)) v w, k0_pay32 D (k0_pay8 (F := Ideal)) v w,
    k0_pay29 D (k0_pay8 (F := Ideal)) v w, k0_pay26 D (k0_pay8 (F := Ideal)) v w, k0_pay23 D (k0_pay8 (F := Ideal)) v w,
    k0_pay20 D (k0_pay8 (F := Ideal)) v w, p13, p14, p15]

/-- A lane's part of the product with the triangle. -/
theorem tri (q x : Fin 128) (e : EReal) :
    FloatOps.sitofp (F := Ideal) .f32 (BitVec.setWidth 32 (IntOp.cmpi .sge (BitVec.ofNat 32 x.val) (BitVec.ofNat 32 q.val))) * e
      = if q.val ≤ x.val then e else 0 := by
  have hq := q.isLt
  have hx := x.isLt
  rw [WordCmp.cmpi_sge_ofNat (by omega) (by omega)]
  show ((((BitVec.setWidth 32 (BitVec.ofBool (decide (q.val ≤ x.val)))).toInt : ℤ) : ℝ) : EReal) * e = _
  by_cases h : q.val ≤ x.val
  · simp [h]
  · simp [h]

theorem pieces_apply (n : Fin 16) (q : Fin 128) :
    pieces (dc X0 X1) (run6 X0 X1 s) (run13 X0 X1 s) (k0_pay17 X1 X0) (k0_pay10 X1 X0 s) (k0_pay13 X1 X0 s) (k0_pay16 X1 X0 s) n (ix2 q d)
      = s (ix2 0 d) + suffix (col X0 X1 d) (n.val * 128 + q.val) := by
  rw [← run_suffix 16 128 rfl (col X0 X1 d) (s (ix2 0 d)) n q (16 - 1 - n.val) rfl]
  have h6 := run6_apply X0 X1 s d 0
  have h13 := run13_apply X0 X1 s d 0
  have h17 : k0_pay17 X1 X0 (ix2 0 d) = (∑ x : Fin 128, dc X0 X1 (ix2 ⟨1664 + x.val, by omega⟩ d) : EReal) := by
    pointwise [k0_pay17, k0_pay15]
  match n with
  | ⟨0, _⟩ =>
    pointwise [pieces, k0_pay8, k0_pay56, k0_pay37, k0_pay40, k0_pay43, k0_pay46, k0_pay49, k0_pay52, k0_pay55, k0_pay39, k0_pay42, k0_pay45, k0_pay48, k0_pay51, k0_pay54]
    simp only [tri, h6, Fgate.run]
    rfl
  | ⟨1, _⟩ =>
    pointwise [pieces, k0_pay8, k0_pay53, k0_pay37, k0_pay40, k0_pay43, k0_pay46, k0_pay49, k0_pay52, k0_pay39, k0_pay42, k0_pay45, k0_pay48, k0_pay51]
    simp only [tri, h6, Fgate.run]
    rfl
  | ⟨2, _⟩ =>
    pointwise [pieces, k0_pay8, k0_pay50, k0_pay37, k0_pay40, k0_pay43, k0_pay46, k0_pay49, k0_pay39, k0_pay42, k0_pay45, k0_pay48]
    simp only [tri, h6, Fgate.run]
    rfl
  | ⟨3, _⟩ =>
    pointwise [pieces, k0_pay8, k0_pay47, k0_pay37, k0_pay40, k0_pay43, k0_pay46, k0_pay39, k0_pay42, k0_pay45]
    simp only [tri, h6, Fgate.run]
    rfl
  | ⟨4, _⟩ =>
    pointwise [pieces, k0_pay8, k0_pay44, k0_pay37, k0_pay40, k0_pay43, k0_pay39, k0_pay42]
    simp only [tri, h6, Fgate.run]
    rfl
  | ⟨5, _⟩ =>
    pointwise [pieces, k0_pay8, k0_pay41, k0_pay37, k0_pay40, k0_pay39]
    simp only [tri, h6, Fgate.run]
    rfl
  | ⟨6, _⟩ =>
    pointwise [pieces, k0_pay8, k0_pay38, k0_pay19, k0_pay18, k0_pay22, k0_pay21, k0_pay25, k0_pay24, k0_pay28, k0_pay27, k0_pay31, k0_pay30, k0_pay34, k0_pay33, k0_pay37, k0_pay36]
    simp only [tri, h13, h17, Fgate.run]
    rfl
  | ⟨7, _⟩ =>
    pointwise [pieces, k0_pay8, k0_pay35, k0_pay19, k0_pay18, k0_pay22, k0_pay21, k0_pay25, k0_pay24, k0_pay28, k0_pay27, k0_pay31, k0_pay30, k0_pay34, k0_pay33]
    simp only [tri, h13, h17, Fgate.run]
    rfl
  | ⟨8, _⟩ =>
    pointwise [pieces, k0_pay8, k0_pay32, k0_pay19, k0_pay18, k0_pay22, k0_pay21, k0_pay25, k0_pay24, k0_pay28, k0_pay27, k0_pay31, k0_pay30]
    simp only [tri, h13, h17, Fgate.run]
    rfl
  | ⟨9, _⟩ =>
    pointwise [pieces, k0_pay8, k0_pay29, k0_pay19, k0_pay18, k0_pay22, k0_pay21, k0_pay25, k0_pay24, k0_pay28, k0_pay27]
    simp only [tri, h13, h17, Fgate.run]
    rfl
  | ⟨10, _⟩ =>
    pointwise [pieces, k0_pay8, k0_pay26, k0_pay19, k0_pay18, k0_pay22, k0_pay21, k0_pay25, k0_pay24]
    simp only [tri, h13, h17, Fgate.run]
    rfl
  | ⟨11, _⟩ =>
    pointwise [pieces, k0_pay8, k0_pay23, k0_pay19, k0_pay18, k0_pay22, k0_pay21]
    simp only [tri, h13, h17, Fgate.run]
    rfl
  | ⟨12, _⟩ =>
    pointwise [pieces, k0_pay8, k0_pay20, k0_pay19, k0_pay18]
    simp only [tri, h13, h17, Fgate.run]
    rfl
  | ⟨13, _⟩ =>
    pointwise [pieces, k0_pay8, k0_pay16, k0_pay15]
    simp only [tri, h13, Fgate.run]
    rfl
  | ⟨14, _⟩ =>
    pointwise [pieces, k0_pay8, k0_pay13, k0_pay12, k0_pay11, k0_pay9]
    simp only [tri, Fgate.run]
    rfl
  | ⟨15, _⟩ =>
    pointwise [pieces, k0_pay8, k0_pay10, k0_pay9]
    simp only [tri, Fgate.run]
    rfl
  | ⟨_ + 16, h⟩ => exact absurd h (by omega)

/-- Row `r` of the block: its piece, from the row's place there. -/
theorem sums_apply (r : Fin 2048) : sums X0 X1 s (ix2 r d) = s (ix2 0 d) + suffix (col X0 X1 d) r.val := by
  have hr := r.isLt
  refine (concatenate_ofFn_apply (t := S2048x128) (s₁ := S128x128) 0
    (pieces (dc X0 X1) (run6 X0 X1 s) (run13 X0 X1 s) (k0_pay17 X1 X0) (k0_pay10 X1 X0 s) (k0_pay13 X1 X0 s) (k0_pay16 X1 X0 s))
    concatenates_S128x128_S128x128_S128x128_S128x128_S128x128_S128x128_S128x128_S128x128_S128x128_S128x128_S128x128_S128x128_S128x128_S128x128_S128x128_S128x128_S2048x128_d0
    rfl 128 rfl (ix2 r d) ⟨r.val / 128, by omega⟩ rfl (ix2 ⟨r.val % 128, Nat.mod_lt _ (by decide)⟩ d) rfl
    fun b hb => ?_).trans ((pieces_apply ..).trans ?_)
  · match b with
    | ⟨0, _⟩ => exact absurd rfl hb
    | ⟨1, _⟩ => rfl
  · refine congrArg (fun k => _ + suffix _ k) ?_
    show r.val / 128 * 128 + r.val % 128 = r.val
    omega

theorem col_apply (r : Fin 2048) (h : d.val < 8) : col X0 X1 d r = X0 (ix2 ⟨d.val, h⟩ r) + X1 (ix2 r d) := by
  show dc X0 X1 (ix2 r d) = _
  pointwise [k0_pay7]
  refine Eq.trans ?_ (add_comm _ _)
  refine congrArg (X1 (ix2 r d) + ·) ((Finset.sum_eq_single (⟨d.val, h⟩ : Fin 8) ?_ ?_).trans ?_)
  rotate_left 2
  · rw [WordCmp.cmpi_eq_ofNat (by omega) (by omega)]
    simp [Scalar.select]
  · intro x _ hx
    have : x.val ≠ d.val := fun e => hx (Fin.ext e)
    have := x.isLt
    rw [WordCmp.cmpi_eq_ofNat (by omega) (by omega)]
    simp [Scalar.select, *]
  · simp

variable (X2 : Vec Ideal S2048x128 .f32) (X3 : Vec Ideal S1x128 .f32) (r : Fin 2048)

theorem grad_head (h : d.val < 8) : grad X0 X1 s X2 X3 (ix2 r d)
    = (s (ix2 0 d) + suffix (col X0 X1 d) r.val) * Ideal.logistic (-(X2 (ix2 r d) + X3 (ix2 0 d))) := by
  pointwise [grad, k0_pay2]
  rw [sums_apply, zero_sub, WordCmp.cmpi_slt_ofNat (b := 8) (by omega) (by omega)]
  simp [Scalar.select, h]

theorem grad_pad (h : ¬d.val < 8) : grad X0 X1 s X2 X3 (ix2 r d) = 0 := by
  have := d.isLt
  pointwise [grad, k0_pay2]
  rw [WordCmp.cmpi_slt_ofNat (b := 8) (by omega) (by omega)]
  simp [Scalar.select, h]

theorem part_apply (G : FVec Ideal S2048x128 .f32) (b : Vec Ideal S1x128 .f32) (i : Fin 1) :
    k0_pay4 (F := Ideal) G b (ix2 i d) = b (ix2 i d) + ∑ r, G (ix2 r d) := by
  pointwise [k0_pay4]
theorem cast_apply (G : FVec Ideal S2048x128 .f32) : k0_pay3 (F := Ideal) G (ix2 r d) = G (ix2 r d) := by pointwise [k0_pay3]
theorem zero5 (i) : k0_pay5 (F := Ideal) i = 0 := by pointwise [k0_pay5]
theorem zero6 (i) : k0_pay6 (F := Ideal) i = 0 := by pointwise [k0_pay6]

end Block

/-! ## The blocks a point reads: the last rows first -/

variable (m : (ℓ : Loc nD τ sig) → Buf (Elt Ideal) ℓ) (c : Dev nD)

/-- Row `r` of point `t`'s block is this row of the array. -/
abbrev at_ (t : Fin cfg0.N) (r : Fin 2048) : Fin 8192 :=
  ⟨(3 - t.val) * 2048 + r.val, by have := t.isLt; have := r.isLt; have : cfg0.N = 4 := N4; omega⟩

theorem idx0 : ∀ t : Fin cfg0.N, win0_0.index t 0 = 0 ∧ win0_0.index t 1 = 3 - t.val := (by decide +kernel : ∀ t : Fin grid0.N, _)
theorem idx1 : ∀ t : Fin cfg0.N, win0_1.index t 0 = 3 - t.val ∧ win0_1.index t 1 = 0 := (by decide +kernel : ∀ t : Fin grid0.N, _)
theorem idx2 : ∀ t : Fin cfg0.N, win0_2.index t 0 = 3 - t.val ∧ win0_2.index t 1 = 0 := (by decide +kernel : ∀ t : Fin grid0.N, _)
theorem idx3 : ∀ t : Fin cfg0.N, win0_3.index t 0 = 0 ∧ win0_3.index t 1 = 0 := (by decide +kernel : ∀ t : Fin grid0.N, _)
theorem idx4 : ∀ t : Fin cfg0.N, win0_4.index t 0 = 3 - t.val ∧ win0_4.index t 1 = 0 := (by decide +kernel : ∀ t : Fin grid0.N, _)
theorem idx5 : ∀ t : Fin cfg0.N, win0_5.index t 0 = 0 ∧ win0_5.index t 1 = 0 := (by decide +kernel : ∀ t : Fin grid0.N, _)

/-- The arguments. -/
abbrev A0 : Vec Ideal S8192x8 .f32 := m ((c : Thread nD τ).loc main_arg0)
abbrev A1 : Vec Ideal S8192x8 .f32 := m ((c : Thread nD τ).loc main_arg1)
abbrev A2 : Vec Ideal S8192x8 .f32 := m ((c : Thread nD τ).loc main_arg2)
abbrev A3 : Vec Ideal S1x8 .f32 := m ((c : Thread nD τ).loc main_arg3)

theorem iblk0 (t : Fin cfg0.N) (r : Fin 2048) (k : Fin 8) : iblk m c 0 t (ix2 k r) = A0 m c (ix2 (at_ t r) k) := by
  unfold iblk
  rw [View.read_apply]
  show V m c main_v2 _ = _
  have e : (V m c main_v2 : Vec Ideal S8x8192 .f32) = transpose S8x8192 [1, 0] (A0 m c) transposes_S8192x8_S8x8192_1_0 := by
    unfold V hostOps0 hostOps0_1 hostOps0_2 hostOps0_3 hostOps0_4 hostOps0_5
    after_results_simp
    rfl
  rw [e, show ((cfg0.win 0).blk t).view.emb (ix2 k r) = ix2 k (at_ t r) from ?_]
  · pointwise
  funext a
  apply Fin.ext
  match a with
  | ⟨0, _⟩ => show win0_0.index t 0 * 8 + 1 * k.val = k.val; rw [(idx0 t).1]; omega
  | ⟨1, _⟩ => show win0_0.index t 1 * 2048 + 1 * r.val = (3 - t.val) * 2048 + r.val; rw [(idx0 t).2]; omega

/-- An array padded to the kernel's columns, read at one of its own. -/
theorem pad_read {R : ℕ} (x : Vec Ideal ⟨2, ![R, 8]⟩ .f32) (v : Vec Ideal S_ .f32)
    (hp : (⟨2, ![R, 8]⟩ : Shape).Pads ![0, 0] ![0, 120] ![0, 0] (⟨2, ![R, 128]⟩ : Shape)) (i : Fin R) (d : Fin 128) (h : d.val < 8) :
    pad ⟨2, ![R, 128]⟩ ![0, 0] ![0, 120] ![0, 0] x v hp h_S_ (ix2 i d) = x (ix2 i ⟨d.val, h⟩) := by
  pointwise
  rw [dif_pos h]
  congr 1
  funext a
  match a with
  | ⟨0, _⟩ => exact Fin.ext (Nat.div_one _)
  | ⟨1, _⟩ => exact Fin.ext (Nat.div_one _)

theorem iblk1 (t : Fin cfg0.N) (r : Fin 2048) (d : Fin 128) (h : d.val < 8) : iblk m c 1 t (ix2 r d) = A1 m c (ix2 (at_ t r) ⟨d.val, h⟩) := by
  unfold iblk
  rw [View.read_apply]
  show V m c main_v3 _ = _
  have e : (V m c main_v3 : Vec Ideal S8192x128 .f32) = pad S8192x128 ![0, 0] ![0, 120] ![0, 0] (A1 m c)
      (sitofp (F := Ideal) .f32 (constantI S_ 32 0#32)) pads_S8192x8_S8192x128_000_01200 h_S_ := by
    unfold V hostOps0 hostOps0_1 hostOps0_2 hostOps0_3 hostOps0_4 hostOps0_5
    after_results_simp
    rfl
  rw [e, show ((cfg0.win 1).blk t).view.emb (ix2 r d) = ix2 (at_ t r) d from ?_]
  · exact pad_read ..
  funext a
  apply Fin.ext
  match a with
  | ⟨0, _⟩ => show win0_1.index t 0 * 2048 + 1 * r.val = (3 - t.val) * 2048 + r.val; rw [(idx1 t).1]; omega
  | ⟨1, _⟩ => show win0_1.index t 1 * 128 + 1 * d.val = d.val; rw [(idx1 t).2]; omega

theorem iblk2 (t : Fin cfg0.N) (r : Fin 2048) (d : Fin 128) (h : d.val < 8) : iblk m c 2 t (ix2 r d) = A2 m c (ix2 (at_ t r) ⟨d.val, h⟩) := by
  unfold iblk
  rw [View.read_apply]
  show V m c main_v0 _ = _
  have e : (V m c main_v0 : Vec Ideal S8192x128 .f32) = pad S8192x128 ![0, 0] ![0, 120] ![0, 0] (A2 m c)
      (sitofp (F := Ideal) .f32 (constantI S_ 32 0#32)) pads_S8192x8_S8192x128_000_01200 h_S_ := by
    unfold V hostOps0 hostOps0_1 hostOps0_2 hostOps0_3 hostOps0_4 hostOps0_5
    after_results_simp
    rfl
  rw [e, show ((cfg0.win 2).blk t).view.emb (ix2 r d) = ix2 (at_ t r) d from ?_]
  · exact pad_read ..
  funext a
  apply Fin.ext
  match a with
  | ⟨0, _⟩ => show win0_2.index t 0 * 2048 + 1 * r.val = (3 - t.val) * 2048 + r.val; rw [(idx2 t).1]; omega
  | ⟨1, _⟩ => show win0_2.index t 1 * 128 + 1 * d.val = d.val; rw [(idx2 t).2]; omega

theorem iblk3 (t : Fin cfg0.N) (d : Fin 128) (h : d.val < 8) : iblk m c 3 t (ix2 0 d) = A3 m c (ix2 0 ⟨d.val, h⟩) := by
  unfold iblk
  rw [View.read_apply]
  show V m c main_v1 _ = _
  have e : (V m c main_v1 : Vec Ideal S1x128 .f32) = pad S1x128 ![0, 0] ![0, 120] ![0, 0] (A3 m c)
      (sitofp (F := Ideal) .f32 (constantI S_ 32 0#32)) pads_S1x8_S1x128_000_01200 h_S_ := by
    unfold V hostOps0 hostOps0_1 hostOps0_2 hostOps0_3 hostOps0_4 hostOps0_5
    after_results_simp
    rfl
  rw [e, show ((cfg0.win 3).blk t).view.emb (ix2 0 d) = ix2 0 d from ?_]
  · exact pad_read ..
  funext a
  apply Fin.ext
  match a with
  | ⟨0, _⟩ => show win0_3.index t 0 * 1 + 1 * 0 = 0; rw [(idx3 t).1]
  | ⟨1, _⟩ => show win0_3.index t 1 * 128 + 1 * d.val = d.val; rw [(idx3 t).2]; omega

/-! ## The scratch, and the two results -/

/-- Every row's gradient at the running sum of head `h`, and at the head's logit. -/
abbrev dsum (h : Fin 8) (j : Fin 8192) : EReal := A0 m c (ix2 j h) + A1 m c (ix2 j h)
abbrev dlogit (j : Fin 8192) (h : Fin 8) : EReal :=
  df (fun j h => A0 m c (ix2 j h)) (fun j h => A1 m c (ix2 j h)) (fun j h => A2 m c (ix2 j h)) (fun h => A3 m c (ix2 0 h)) j h

/-- What the scratch holds when point `t` starts. -/
abbrev carried (h : Fin 8) (k : ℕ) (hk : k ≤ 4) : EReal := Fgate.run 4 2048 rfl (dsum m c h) 0 k hk

theorem col_block (t : Fin cfg0.N) (d : Fin 128) (h : d.val < 8) :
    col (iblk m c 0 t) (iblk m c 1 t) d = fun r => dsum m c ⟨d.val, h⟩ (at_ t r) :=
  funext fun r => (col_apply _ _ d r h).trans (by rw [iblk0, iblk1 m c t r d h])

/-- Point `n` leaves the scratch with the rows of its block added. -/
theorem leaves (d : Fin 128) (h : d.val < 8) : ∀ (n : ℕ) (hn : n < cfg0.N),
    (outsAt0 m c n hn).2.2 (ix2 0 d) = carried m c ⟨d.val, h⟩ (n + 1) (by have := N4; omega)
  | 0, hn => by
    rw [after_A m c ⟨0, hn⟩ rfl]
    refine (below_apply ..).trans ?_
    rw [zero5, col_block m c _ d h]
    rfl
  | n + 1, hn => by
    have hN := N4
    rw [after_B m c ⟨n + 1, hn⟩ (by dsimp only; omega) _ rfl]
    refine (below_apply ..).trans ?_
    refine (congrArg (· + _) (leaves d h n (Nat.lt_of_succ_lt hn))).trans ?_
    rw [col_block m c _ d h]
    rfl

/-- Point `t` starts from a scratch that holds the running total of the rows after its block. -/
theorem starts (t : Fin cfg0.N) : ∃ b s, outsAt0 m c t.val t.isLt = step m c t b s
    ∧ ∀ (d : Fin 128) (h : d.val < 8), s (ix2 0 d) = carried m c ⟨d.val, h⟩ t.val (by have := t.isLt; have := N4; omega) := by
  obtain ⟨n, hn⟩ := t
  match n with
  | 0 => exact ⟨_, _, after_A m c ⟨0, hn⟩ rfl, fun d h => zero5 _⟩
  | n + 1 =>
    have hN := N4
    exact ⟨_, _, after_B m c ⟨n + 1, hn⟩ (by dsimp only; omega) _ rfl, fun d h => leaves m c d h n (Nat.lt_of_succ_lt hn)⟩

/-- A block's row of the gradient, in the array. -/
theorem row_value (t : Fin cfg0.N) (s : Vec Ideal S1x128 .f32)
    (hs : ∀ (d : Fin 128) (h : d.val < 8), s (ix2 0 d) = carried m c ⟨d.val, h⟩ t.val (by have := t.isLt; have := N4; omega))
    (r : Fin 2048) (d : Fin 128) : grad (iblk m c 0 t) (iblk m c 1 t) s (iblk m c 2 t) (iblk m c 3 t) (ix2 r d)
      = if h : d.val < 8 then dlogit m c (at_ t r) ⟨d.val, h⟩ else 0 := by
  have ht := t.isLt
  have hN : cfg0.N = 4 := N4
  by_cases h : d.val < 8
  · rw [grad_head _ _ _ _ _ _ _ h, dif_pos h, iblk2 m c t r d h, iblk3 m c t d h, hs d h, col_block m c t d h]
    refine congrArg (· * _) ((add_comm _ _).trans ?_)
    refine (run_suffix 4 2048 rfl (dsum m c ⟨d.val, h⟩) 0 ⟨3 - t.val, by omega⟩ r t.val (by dsimp only; omega)).trans ?_
    rw [zero_add]
  · rw [grad_pad _ _ _ _ _ _ _ h, dif_neg h]

theorem result4 (i : Fin 8192) (d : Fin 128) : (dats m 0 c).arrAt 4 cfg0.N (ix2 i d)
    = (if h : d.val < 8 then dlogit m c i ⟨d.val, h⟩ else 0 : EReal) := by
  have hi := i.isLt
  have hN : cfg0.N = 4 := N4
  let t : Fin cfg0.N := ⟨3 - i.val / 2048, by omega⟩
  let r : Fin 2048 := ⟨i.val % 2048, Nat.mod_lt _ (by decide)⟩
  have hat : at_ t r = i := Fin.ext (by show (3 - (3 - i.val / 2048)) * 2048 + i.val % 2048 = i.val; omega)
  have h := (dats m 0 c).arrAt_emb_eq_flushed 4 Value.disjoint4 t (flush0_4 _) (ix2 r d)
  rw [Value.flushed4] at h
  have hv : (outsAt0 m c t.val t.isLt).1 (ix2 r d) = (if h : d.val < 8 then dlogit m c i ⟨d.val, h⟩ else 0 : EReal) := by
    obtain ⟨b, s, e, hs⟩ := starts m c t
    rw [e]
    refine (cast_apply ..).trans ((row_value m c t s hs r d).trans ?_)
    rw [hat]
  refine (congrArg _ ?_).trans (h.trans hv)
  funext a
  apply Fin.ext
  match a with
  | ⟨0, _⟩ =>
    show i.val = win0_4.index t 0 * 2048 + 1 * (i.val % 2048)
    rw [(idx4 _).1]; show i.val = (3 - (3 - i.val / 2048)) * 2048 + 1 * (i.val % 2048); omega
  | ⟨1, _⟩ => show d.val = win0_4.index _ 1 * 128 + 1 * d.val; rw [(idx4 _).2]; omega

/-- A window written back at the last point only has no second block to meet. -/
theorem last_only (t t' : Fin cfg0.N) (h : (cfg0.win 5).flush t = true) (h' : (cfg0.win 5).flush t' = true) (e : t ≠ t') :
    Disjoint ((cfg0.win 5).blk t).view.set ((cfg0.win 5).blk t').view.set := by
  have := (flush0_5 t).mp h; have := (flush0_5 t').mp h'; have := t.isLt; have := t'.isLt; have := N4
  exact absurd (Fin.ext (by omega)) e

/-- The last grid point. -/
abbrev last : Fin cfg0.N := ⟨3, by rw [N4]; decide⟩

/-- The rows, the last block first. -/
theorem last_first (f : Fin 8192 → EReal) :
    ∑ j, f j = ∑ t : Fin 4, ∑ r : Fin 2048, f ⟨(3 - t.val) * 2048 + r.val, by have := t.isLt; have := r.isLt; omega⟩ := by
  rw [Kit.sum_blocks 4 2048 rfl, Fin.sum_univ_four, Fin.sum_univ_four]
  let S : Fin 4 → EReal := fun b => ∑ r : Fin 2048, f ⟨b.val * 2048 + r.val, by have := b.isLt; have := r.isLt; omega⟩
  show S 0 + S 1 + S 2 + S 3 = S 3 + S 2 + S 1 + S 0
  ac_rfl

/-- The bias. -/
theorem result5 (i : Fin 1) (d : Fin 128) : (dats m 0 c).arrAt 5 cfg0.N (ix2 i d)
    = (if h : d.val < 8 then ∑ j, dlogit m c j ⟨d.val, h⟩ else 0 : EReal) := by
  have hN : cfg0.N = 4 := N4
  have h := (dats m 0 c).arrAt_emb_eq_flushed 5 last_only last ((flush0_5 _).mpr rfl) (ix2 i d)
  rw [Value.flushed5] at h
  have hs := Kit.chain_eq_sum (fun n h => (outsAt0 m c n h).2.1 (ix2 i d))
    (fun t => (∑ r, if h : d.val < 8 then dlogit m c (at_ t r) ⟨d.val, h⟩ else 0 : EReal))
    (fun h => by
      rw [after_A m c ⟨0, h⟩ rfl]
      refine (part_apply ..).trans ?_
      rw [zero6, zero_add]
      exact Finset.sum_congr rfl fun r _ => row_value m c ⟨0, h⟩ _ (fun d h => zero5 _) r d)
    (fun n h => by
      rw [after_B m c ⟨n + 1, h⟩ (by dsimp only; omega) _ rfl]
      refine (part_apply ..).trans (congrArg (_ + ·) ?_)
      exact Finset.sum_congr rfl fun r _ =>
        row_value m c ⟨n + 1, h⟩ _ (fun d hd => leaves m c d hd n (Nat.lt_of_succ_lt h)) r d) 3 last.isLt
  refine Eq.trans (congrArg _ ?_) (h.trans (hs.trans ?_))
  · funext a
    apply Fin.ext
    match a with
    | ⟨0, _⟩ => show i.val = win0_5.index last 0 * 1 + 1 * i.val; rw [(idx5 last).1]; omega
    | ⟨1, _⟩ => show d.val = win0_5.index last 1 * 128 + 1 * d.val; rw [(idx5 last).2]; omega
  · by_cases hd : d.val < 8
    · simp only [dif_pos hd]
      exact (last_first fun j => dlogit m c j ⟨d.val, hd⟩).symm
    · simp [dif_neg hd]

end Cert.KFgateIdeal.Points

end
-- ==== Proof.Fgate.Reference.lean ====
/- The reference's two results, read element by element as the formula of `Fgate/Row.lean`: the derivative of the running
   sum is the window's suffix sum, and the derivative of the log-sigmoid the exponential of its argument less its
   softplus, which is the logistic at every extended real. -/
module

public import proofs.«01_k».proof.Proof.Fgate.Row
public import proofs.«01_k».proof.Proof.Gen.RFgateIdeal.Read

@[expose] public section

set_option maxRecDepth 16384

noncomputable section

namespace Cert.RFgateIdeal.Points

open Cert.RFgateIdeal Cert.RFgateIdeal.Gen Cert.RFgateIdeal.Read Cert.Fgate Idealize.ShloMosaic

variable (x0 x1 x2 : Vec Ideal S8192x8 .f32) (x3 : Vec Ideal S1x8 .f32)

/-- The word of the 32-bit infinity. -/
theorem ofBits_inf : Ideal.ofBits .f32 0x7F800000#32 = ⊤ := by
  simp [Ideal.ofBits, Ideal.ieee, -EReal.coe_mul]

/-- The padding's integer zero. -/
theorem zero_word : FloatOps.sitofp (F := Ideal) .f32 0#32 = 0 := by
  show (((0#32 : BitVec 32).toInt : ℝ) : EReal) = 0
  simp

/-- The host's window of `R` rows, padded past the last: the rows from its own on. -/
theorem window {R P C : ℕ} (x : FVec Ideal ⟨2, ![R, C]⟩ .f32) (v : FVec Ideal ⟨0, ![]⟩ .f32) (hv : ∀ i, v i = 0)
    (hw : (⟨2, ![R, C]⟩ : Shape).ReduceWindows ![R, 1] ![1, 1] ![0, 0] ![P, 0] ⟨2, ![R, C]⟩) (hu : 0 < (⟨0, ![]⟩ : Shape).numel)
    (i : Fin R) (c : Fin C) :
    Host.reduceWindowAdd ![R, 1] ![1, 1] ![0, 0] ![P, 0] x v hw hu (ix2 i c) = suffix (fun j => x (ix2 j c)) i.val := by
  rw [← suffix_window]
  show List.foldl _ _ (List.finRange _) = _
  refine (foldl_add (fun n => _) _ _).trans ?_
  rw [hv, zero_add, ← Fin.sum_univ_def]
  refine Eq.trans (Finset.sum_congr rfl fun n _ => ?_)
    ((Equiv.sum_comp (Shape.rowMajor (⟨2, ![R, 1]⟩ : Shape)).symm fun w : (⟨2, ![R, 1]⟩ : Shape).Idx =>
      if h : i.val + (w 0).val < R then x (ix2 ⟨i.val + (w 0).val, h⟩ c) else 0).trans ?_)
  · have hc := c.isLt
    have w1 : ((Shape.rowMajor (⟨2, ![R, 1]⟩ : Shape)).symm n 1).val = 0 := Nat.lt_one_iff.mp (Fin.isLt _)
    by_cases h : i.val + ((Shape.rowMajor (⟨2, ![R, 1]⟩ : Shape)).symm n 0).val < R
    · rw [dif_pos h]
      refine (dif_pos fun a => ?_).trans (congrArg x (funext fun a => ?_))
      · match a with
        | ⟨0, _⟩ => exact ⟨Nat.zero_le _, by show i.val * 1 + _ - 0 < R; rwa [Nat.mul_one]⟩
        | ⟨1, _⟩ => exact ⟨Nat.zero_le _, by show c.val * 1 + _ - 0 < C; rw [Nat.mul_one]; exact lt_of_eq_of_lt (congrArg (c.val + ·) w1) hc⟩
      · match a with
        | ⟨0, _⟩ => exact Fin.ext (by show i.val * 1 + _ - 0 = i.val + _; rw [Nat.mul_one]; rfl)
        | ⟨1, _⟩ => exact Fin.ext (by show c.val * 1 + _ - 0 = c.val; rw [Nat.mul_one]; exact congrArg (c.val + ·) w1)
    · rw [dif_neg h]
      refine (dif_neg fun hin => h ?_).trans rfl
      have := (hin 0).2
      change i.val * 1 + _ - 0 < R at this
      rwa [Nat.mul_one] at this
  · rw [sum_idx2]
    simp only [Finset.univ_unique, Finset.sum_singleton]
    rfl

theorem log_sigmoid (i : Fin 8192) (h : Fin 8) :
    val_main_v2_1 (F := Ideal) x2 x3 (ix2 i h) = Ideal.logistic (-(x2 (ix2 i h) + x3 (ix2 0 h))) := by
  pointwise [val_main_v2_1, val_main_call0_call0_v21, val_main_call0_call0_v20, val_main_call0_call0_v18, val_main_call0_call0_v16,
    val_main_call0_call0_v14, val_main_call0_v1_0, val_main_call0_call0_v4, val_main_call0_call0_v3, val_main_call0_call0_v6,
    val_main_call0_call0_v11, val_main_call0_call0_v10, val_main_call0_call0_v9, val_main_call0_call0_v8, val_main_call0_call0_v7,
    val_main_call0_call0_v1, val_main_call0_v0, val_main_v1, val_main_v0, val_main_call0_call0_v0, val_main_call0_call0_v2,
    val_main_call0_call0_v5, val_main_call0_call0_v13, val_main_call0_call0_v15, val_main_call0_call0_v17, val_main_call0_call0_v19,
    val_main_call0_call0_cst, val_main_call0_call0_cst_0, val_main_call0_call0_cst_1, val_main_call0_call0_cst_2,
    val_main_call0_call0_cst_3]
  rw [ofBits_inf, ← exp_sub_softplus]
  simp only [ne_eq, not_true_eq_false, if_false]
  rfl

theorem df_ref (i : Fin 8192) (h : Fin 8) : val_main_v6 (F := Ideal) x0 x1 x2 x3 (ix2 i h)
    = df (fun j h => x0 (ix2 j h)) (fun j h => x1 (ix2 j h)) (fun j h => x2 (ix2 j h)) (fun h => x3 (ix2 0 h)) i h := by
  pointwise [val_main_v6, val_main_call3_v1, val_main_call3_v0]
  rw [log_sigmoid, val_main_v5, window _ _ (fun i => by pointwise [val_main_call2_call0_v0, val_main_call2_call0_cst])]
  pointwise [val_main_v4]
  rw [EReal.neg_mul, neg_neg]
  rfl

theorem padded_ref (i : Fin 8192) (d : Fin 128) : val_main_v10 (F := Ideal) x0 x1 x2 x3 (ix2 i d)
    = if h : d.val < 8 then df (fun j h => x0 (ix2 j h)) (fun j h => x1 (ix2 j h)) (fun j h => x2 (ix2 j h)) (fun h => x3 (ix2 0 h)) i ⟨d.val, h⟩
      else 0 := by
  pointwise [val_main_v10, val_main_v9, val_main_call4_v0, val_main_c]
  split
  · simp only [df_ref]
  · exact zero_word

theorem bias_ref (i : Fin 1) (d : Fin 128) : val_main_v11 (F := Ideal) x0 x1 x2 x3 (ix2 i d)
    = if h : d.val < 8 then ∑ j, df (fun j h => x0 (ix2 j h)) (fun j h => x1 (ix2 j h)) (fun j h => x2 (ix2 j h)) (fun h => x3 (ix2 0 h)) j ⟨d.val, h⟩
      else 0 := by
  pointwise [val_main_v11, val_main_v8, val_main_v7, val_main_cst, val_main_call5_v0, val_main_c_0]
  split
  · simp only [df_ref]
  · exact zero_word

end Cert.RFgateIdeal.Points

end
-- ==== Proof.Fgate.Claim.lean ====
/- The claims about the forget gate's backward call: the frames are the generated runs', the value meets the reference's at
   the formula of `Fgate/Row.lean`. -/
module

public import proofs.«01_k».proof.Defs
public import proofs.«01_k».proof.Proof.Gen.KFgate.Frame
public import proofs.«01_k».proof.Proof.Fgate.Value
public import proofs.«01_k».proof.Proof.Fgate.Reference

@[expose] public section

noncomputable section

namespace Cert.Fgate

open Idealize.ShloMosaic Idealize.ShloMosaic.TcCoe Idealize.SL.Sem

theorem frame_kernel : Cert.quiescent_KFgate := fun m ρ _ => Cert.KFgate.Gen.frame m ρ
theorem frame_ideal : Cert.quiescent_KFgateIdeal := fun m ρ _ => Cert.KFgateIdeal.Gen.frame m ρ
theorem frame_reference : Cert.quiescent_RFgateIdeal := fun m ρ _ =>
  (θ_run Cert.RFgateIdeal.defs _ _).mono (fun r h => ⟨fun c => (h c).2.2, sem_eq_zero_of_no_sems (by decide) r.2⟩)
    (Cert.RFgateIdeal.Value.run (F := Ideal) m ρ)

theorem algebraic : Cert.algebraic_KFgateIdeal_RFgateIdeal := by
  intro m ρ m' ρ' _ hagree
  refine ⟨fun c => (Cert.KFgateIdeal.Gen.dats m 0 c).arrAt 4 Cert.KFgateIdeal.cfg0.N,
    fun c => (Cert.KFgateIdeal.Gen.dats m 0 c).arrAt 5 Cert.KFgateIdeal.cfg0.N,
    Cert.KFgateIdeal.Value.run_blocks m ρ, (θ_run Cert.RFgateIdeal.defs _ _).mono (fun r h c => ?_) (Cert.RFgateIdeal.Value.run (F := Ideal) m' ρ')⟩
  obtain ⟨h0, h1, h⟩ := h c
  obtain ⟨a0, a1, a2, a3⟩ := hagree c
  refine ⟨h0.trans ((Cert.RFgateIdeal.Read.val_main_v10_eq ..).trans (Kit.mat_ext fun i d => ?_)),
    h1.trans ((Cert.RFgateIdeal.Read.val_main_v11_eq ..).trans (Kit.mat_ext fun i d => ?_)), h⟩
  all_goals simp only [a0, a1, a2, a3]
  · exact (Cert.RFgateIdeal.Points.padded_ref ..).trans (Cert.KFgateIdeal.Points.result4 m c i d).symm
  · exact (Cert.RFgateIdeal.Points.bias_ref ..).trans (Cert.KFgateIdeal.Points.result5 m c i d).symm

end Cert.Fgate

end
-- ==== Proof.Mix.Points.lean ====
/- The mixers' backward call, point by point: what each grid point leaves in the three output buffers the value claim
   is about, as the printed payloads of the blocks it reads (and, past the first point, of what the point before left). -/
module

public import proofs.«01_k».proof.Proof.Kit
public import proofs.«01_k».proof.Proof.Gen.KMixIdeal.Value

@[expose] public section

set_option maxRecDepth 16384

noncomputable section

namespace Cert.KMixIdeal.Points

open Cert.KMixIdeal Cert.KMixIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

theorem N16 : cfg0.N = 16 := N_0
theorem hz : (![0, 0] : Fin 2 → Nat) = fun _ => 0 := funext fun a => by fin_cases a <;> rfl

variable (c : Dev nD) (t : Fin cfg0.N)

/-- The gradient at the product before the norm, point `t`'s rows. -/
abbrev grad : FVec F S512x1024 .f32 := k0_pay13 (iblk m c 0 t) (iblk m c 1 t) (iblk m c 15 t)

/-- The buffers of the three accumulated gradients after point `t`, from what they held before. -/
def wOut (p : FVec F S1024x1024 .f32) : FVec F S1024x1024 .f32 := k0_pay18 (grad m c t) p (iblk m c 6 t)
def attGain (p : FVec F S1x512 .f32) : FVec F S1x512 .f32 :=
  k0_pay26 (iblk m c 3 t) (k0_pay20 (grad m c t) (iblk m c 14 t)) (k0_pay21 (iblk m c 3 t)) p
def postGain (p : FVec F S1x1024 .f32) : FVec F S1x1024 .f32 :=
  k0_pay16 (k0_pay14 (iblk m c 0 t) (iblk m c 1 t)) (k0_pay15 p)

/-- The first point clears the buffers before it adds to them. -/
theorem wOut_A (h0 : t.val % 16 = 0) : (outsAt0 m c t.val t.isLt).2.2.2.1 = wOut m c t k0_pay2 := by
  rw [outsAt0_A m c t h0]
  dsimp only
  unfold wOut out0_A_19
  rw [View.read_writes_eq_canon _ _ _ (fun y => cover0_A_19 (y := y) ..)]
  unfold kernelRun0_A
  dsimp only
  sl_unfold_words
  rw [View.canon_cons_unit_zero (S := S1024x1024) hz, View.readCov_unit_zero (S := S1024x1024) _ hz]
  all_goals
    simp only [View.readAt_eq_ld, (hs0_19 t).read_unread, (hs0_24 t).read_unread, (hs0_26 t).read_unread,
      View.ld_unit_zero (S := S1x512) hz, (hs0_0 t).read_unread, (hs0_1 t).read_unread, (hs0_6 t).read_unread, (hs0_15 t).read_unread,
      View.ld_unit_zero (S := S512x1024) hz,
      View.ld_unit_zero (S := S1x1024) hz, View.ld_unit_zero (S := S512x512) hz, View.ld_unit_zero (S := S1024x1024) hz]
    try rfl

theorem attGain_A (h0 : t.val % 16 = 0) : (outsAt0 m c t.val t.isLt).2.2.2.2.2.2.2.2.1 = attGain m c t k0_pay7 := by
  rw [outsAt0_A m c t h0]
  dsimp only
  unfold attGain out0_A_24
  rw [View.read_writes_eq_canon _ _ _ (fun y => cover0_A_24 (y := y) ..)]
  unfold kernelRun0_A
  dsimp only
  sl_unfold_words
  rw [View.canon_cons_unit_zero (S := S1x512) hz, View.readCov_unit_zero (S := S1x512) _ hz]
  all_goals
    simp only [View.readAt_eq_ld, (hs0_19 t).read_unread, (hs0_24 t).read_unread, (hs0_26 t).read_unread,
      View.ld_unit_zero (S := S1x512) hz, (hs0_0 t).read_unread, (hs0_1 t).read_unread, (hs0_3 t).read_unread, (hs0_14 t).read_unread,
      (hs0_15 t).read_unread, View.ld_unit_zero (S := S512x1024) hz,
      View.ld_unit_zero (S := S1x1024) hz, View.ld_unit_zero (S := S512x512) hz, View.ld_unit_zero (S := S1024x1024) hz]
    try rfl

theorem postGain_A (h0 : t.val % 16 = 0) : (outsAt0 m c t.val t.isLt).2.2.2.2.2.2.2.2.2.2 = postGain m c t k0_pay9 := by
  rw [outsAt0_A m c t h0]
  dsimp only
  unfold postGain out0_A_26
  rw [View.read_writes_eq_canon _ _ _ (fun y => cover0_A_26 (y := y) ..)]
  unfold kernelRun0_A
  dsimp only
  sl_unfold_words
  rw [View.canon_cons_unit_zero (S := S1x1024) hz, View.readCov_unit_zero (S := S1x1024) _ hz]
  all_goals
    simp only [View.readAt_eq_ld, (hs0_19 t).read_unread, (hs0_24 t).read_unread, (hs0_26 t).read_unread,
      View.ld_unit_zero (S := S1x512) hz, (hs0_0 t).read_unread, (hs0_1 t).read_unread, View.ld_unit_zero (S := S512x1024) hz,
      View.ld_unit_zero (S := S1x1024) hz, View.ld_unit_zero (S := S512x512) hz, View.ld_unit_zero (S := S1024x1024) hz]
    try rfl

/-- Every later point adds to what the point before left. -/
theorem wOut_B (h0 : ¬t.val % 16 = 0) : (outsAt0 m c t.val t.isLt).2.2.2.1
    = wOut m c t (outsAt0 m c (t.val - 1) (Nat.lt_of_le_of_lt (Nat.sub_le _ _) t.isLt)).2.2.2.1 := by
  rw [outsAt0_B m c t h0]
  dsimp only
  generalize (outsAt0 m c (t.val - 1) (Nat.lt_of_le_of_lt (Nat.sub_le _ _) t.isLt)) = p
  unfold wOut out0_B_19
  rw [View.read_writes_eq_canon _ _ _ (fun y => cover0_B_19 (y := y) ..)]
  unfold kernelRun0_B
  dsimp only
  sl_unfold_words
  rw [View.canon_unit_zero (S := S1024x1024) hz]
  all_goals
    simp only [View.readAt_eq_ld, (hs0_19 t).read_unread, (hs0_24 t).read_unread, (hs0_26 t).read_unread,
      View.ld_unit_zero (S := S1x512) hz, (hs0_0 t).read_unread, (hs0_1 t).read_unread, (hs0_6 t).read_unread, (hs0_15 t).read_unread,
      View.ld_unit_zero (S := S512x1024) hz,
      View.ld_unit_zero (S := S1x1024) hz, View.ld_unit_zero (S := S512x512) hz, View.ld_unit_zero (S := S1024x1024) hz]
    try rfl

theorem attGain_B (h0 : ¬t.val % 16 = 0) : (outsAt0 m c t.val t.isLt).2.2.2.2.2.2.2.2.1
    = attGain m c t (outsAt0 m c (t.val - 1) (Nat.lt_of_le_of_lt (Nat.sub_le _ _) t.isLt)).2.2.2.2.2.2.2.2.1 := by
  rw [outsAt0_B m c t h0]
  dsimp only
  generalize (outsAt0 m c (t.val - 1) (Nat.lt_of_le_of_lt (Nat.sub_le _ _) t.isLt)) = p
  unfold attGain out0_B_24
  rw [View.read_writes_eq_canon _ _ _ (fun y => cover0_B_24 (y := y) ..)]
  unfold kernelRun0_B
  dsimp only
  sl_unfold_words
  rw [View.canon_unit_zero (S := S1x512) hz]
  all_goals
    simp only [View.readAt_eq_ld, (hs0_19 t).read_unread, (hs0_24 t).read_unread, (hs0_26 t).read_unread,
      View.ld_unit_zero (S := S1x512) hz, (hs0_0 t).read_unread, (hs0_1 t).read_unread, (hs0_3 t).read_unread, (hs0_14 t).read_unread,
      (hs0_15 t).read_unread, View.ld_unit_zero (S := S512x1024) hz,
      View.ld_unit_zero (S := S1x1024) hz, View.ld_unit_zero (S := S512x512) hz, View.ld_unit_zero (S := S1024x1024) hz]
    try rfl

theorem postGain_B (h0 : ¬t.val % 16 = 0) : (outsAt0 m c t.val t.isLt).2.2.2.2.2.2.2.2.2.2
    = postGain m c t (outsAt0 m c (t.val - 1) (Nat.lt_of_le_of_lt (Nat.sub_le _ _) t.isLt)).2.2.2.2.2.2.2.2.2.2 := by
  rw [outsAt0_B m c t h0]
  dsimp only
  generalize (outsAt0 m c (t.val - 1) (Nat.lt_of_le_of_lt (Nat.sub_le _ _) t.isLt)) = p
  unfold postGain out0_B_26
  rw [View.read_writes_eq_canon _ _ _ (fun y => cover0_B_26 (y := y) ..)]
  unfold kernelRun0_B
  dsimp only
  sl_unfold_words
  rw [View.canon_unit_zero (S := S1x1024) hz]
  all_goals
    simp only [View.readAt_eq_ld, (hs0_19 t).read_unread, (hs0_24 t).read_unread, (hs0_26 t).read_unread,
      View.ld_unit_zero (S := S1x512) hz, (hs0_0 t).read_unread, (hs0_1 t).read_unread, View.ld_unit_zero (S := S512x1024) hz,
      View.ld_unit_zero (S := S1x1024) hz, View.ld_unit_zero (S := S512x512) hz, View.ld_unit_zero (S := S1024x1024) hz]
    try rfl

end Cert.KMixIdeal.Points

end
-- ==== Proof.Mix.Row.lean ====
/- The three gradients the mixers' value claim is about, over one token's rows: `o` the product before the last norm, `dy`
   the gradient that reaches it, `gp` that norm's gain, `y` the attention's rows before their own norm. -/
module

public import proofs.«01_k».proof.Proof.Kit

@[expose] public section

noncomputable section

namespace Cert.Mix

open Idealize.ShloMosaic

theorem c512 : Ideal.ofBits .f32 0x44000000#32 = ((512 : ℝ) : EReal) := by
  simp [Ideal.ofBits, Ideal.ieee, -EReal.coe_mul]; norm_num

/-- The reciprocal root as the programs print it, over a row of 512. -/
theorem rsqrt_512 (x : Fin 512 → EReal) :
    Ideal.rsqrt (Ideal.div (∑ k, x k * x k) (Ideal.ofBits .f32 0x44000000#32) + Ideal.ofBits .f32 0x358637BD#32)
      = Kit.rstd 512 x := by
  rw [c512, Kit.div_coe _ (by norm_num)]
  rfl

variable (o dy gp : Fin 1024 → EReal)

/-- The gradient at the product. -/
def dProd (d : Fin 1024) : EReal := Kit.rmsBack 1024 o (fun k => dy k * gp k) d
/-- A token's share of the gradient at the last norm's gain … -/
def dPost (d : Fin 1024) : EReal := dy d * (o d * Kit.rstd 1024 o)
/-- … and at the attention's gain, `w` the output weight's row. -/
def dAtt (w : Fin 1024 → EReal) (y : Fin 512 → EReal) (d : Fin 512) : EReal :=
  (∑ k, dProd o dy gp k * w k) * (y d * Kit.rstd 512 y)

/-- A column of the attention's half of the product's rows. -/
abbrev left (d : Fin 512) : Fin 1024 := ⟨d.val, by have := d.isLt; omega⟩

end Cert.Mix

end
-- ==== Proof.Mix.Gating.lean ====
/- The spatial gating on the host. The kernel's host lines write the product over a chunk as the sum it is, over the
   lower triangle of the weights; the reference multiplies the weights by a mask and takes the product. -/
module

public import proofs.«01_k».proof.Proof.Gen.KMixIdeal
public import proofs.«01_k».proof.Proof.Kit
public import proofs.«01_k».proof.Proof.Gen.RMixIdeal.Read

@[expose] public section

set_option maxRecDepth 16384

noncomputable section

namespace Cert.Mix

open Cert.RMixIdeal Cert.RMixIdeal.Gen Cert.RMixIdeal.Read Idealize.ShloMosaic

/-- The weights below the diagonal, as the host lines cut them. -/
def lower (W : FVec Ideal S8x128x128 .f32) : FVec Ideal S8x128x128 .f32 :=
  select (broadcastInDim S8x128x128 ![1, 2] Cert.KMixIdeal.Facts₀.bcast_S128x128_S8x128x128_1_2 (val_main_call0_v4 (F := Ideal))) W
    (broadcastInDim S8x128x128 ![] Cert.KMixIdeal.Facts₀.bcast_S_S8x128x128 (constant S_ .f32 0x00000000#32))

/-- … multiplied by the rows `L` of each chunk, summed and shifted. -/
def mixedHost (L : FVec Ideal S8192x512 .f32) (W : FVec Ideal S8x128x128 .f32) (b : FVec Ideal S8x128 .f32) :
    FVec Ideal S8192x512 .f32 :=
  shapeCast S8192x512 (addf
    (Host.reduceAdd (mulf
      (broadcastInDim Cert.KMixIdeal.S64x128x128x512 ![0, 1, 2, 3] Cert.KMixIdeal.Facts₀.bcast_S1x128x128x512_S64x128x128x512_0_1_2_3
        (broadcastInDim Cert.KMixIdeal.S1x128x128x512 ![1, 2, 3] Cert.KMixIdeal.Facts₀.bcast_S128x128x512_S1x128x128x512_1_2_3
          (shapeCast Cert.KMixIdeal.S128x128x512
            (broadcastInDim Cert.KMixIdeal.S128x128x8x64 ![0, 1, 2] Cert.KMixIdeal.Facts₀.bcast_S128x128x8_S128x128x8x64_0_1_2
              (transpose Cert.KMixIdeal.S128x128x8 [1, 2, 0] (lower W) Cert.KMixIdeal.Facts₀.transposes_S8x128x128_S128x128x8_1_2_0))
            Cert.KMixIdeal.Facts₀.shapeCasts_S128x128x8x64_S128x128x512)))
      (broadcastInDim Cert.KMixIdeal.S64x128x128x512 ![0, 1, 2, 3] Cert.KMixIdeal.Facts₀.bcast_S64x1x128x512_S64x128x128x512_0_1_2_3
        (broadcastInDim Cert.KMixIdeal.S64x1x128x512 ![0, 2, 3] Cert.KMixIdeal.Facts₀.bcast_S64x128x512_S64x1x128x512_0_2_3
          (shapeCast Cert.KMixIdeal.S64x128x512 L Cert.KMixIdeal.Facts₀.shapeCasts_S8192x512_S64x128x512))))
      (constant S_ .f32 0x00000000#32) Cert.KMixIdeal.Facts₀.reducesTo_S64x128x128x512_S64x128x512_d2 Cert.KMixIdeal.Facts₀.h_S_)
    (broadcastInDim Cert.KMixIdeal.S64x128x512 ![0, 1, 2] Cert.KMixIdeal.Facts₀.bcast_S1x128x512_S64x128x512_0_1_2
      (broadcastInDim Cert.KMixIdeal.S1x128x512 ![1, 2] Cert.KMixIdeal.Facts₀.bcast_S128x512_S1x128x512_1_2
        (shapeCast Cert.KMixIdeal.S128x512
          (broadcastInDim Cert.KMixIdeal.S128x8x64 ![0, 1] Cert.KMixIdeal.Facts₀.bcast_S128x8_S128x8x64_0_1
            (transpose Cert.KMixIdeal.S128x8 [1, 0] b Cert.KMixIdeal.Facts₀.transposes_S8x128_S128x8_1_0))
          Cert.KMixIdeal.Facts₀.shapeCasts_S128x8x64_S128x512))))
    Cert.KMixIdeal.Facts₀.shapeCasts_S64x128x512_S8192x512

variable (L : FVec Ideal S8192x512 .f32) (W : FVec Ideal S8x128x128 .f32) (b : FVec Ideal S8x128 .f32)
  (i : Fin 8192) (d : Fin 512)

/-- Chunk and row of token `i`, head of column `d`. -/
abbrev chunk : Fin 64 := ⟨i.val / 128, by have := i.isLt; omega⟩
abbrev inChunk : Fin 128 := ⟨i.val % 128, Nat.mod_lt _ (by decide)⟩
abbrev headOf : Fin 8 := ⟨d.val / 64, by have := d.isLt; omega⟩
/-- Row `s` of the chunk that token `i` lies in. -/
abbrev rowOf (s : Fin 128) : Fin 8192 := ⟨i.val / 128 * 128 + s.val, by have := i.isLt; have := s.isLt; omega⟩

theorem mixedHost_apply : mixedHost L W b (ix2 i d)
    = (∑ s : Fin 128, lower W (ix3 (headOf d) (inChunk i) s) * L (ix2 (rowOf i s) d)) + b (ix2 (headOf d) (inChunk i)) := by
  pointwise [mixedHost]

theorem lower_apply (g : Fin 8) (t s : Fin 128) : lower W (ix3 g t s) = W (ix3 g t s) * val_main_v50 (F := Ideal) (ix3 g t s) := by
  pointwise [lower, val_main_v50, val_main_v49, val_main_v48, val_main_v47, val_main_cst_12, val_main_call0_v5, val_main_call0_cst]

/-- The host lines' mixed rows are the reference's. -/
theorem mixedHost_eq (x2 : FVec Ideal S8192x512 .f32) (x6 x7 : FVec Ideal S1x512 .f32) :
    mixedHost (val_main_v45 (F := Ideal) x2 x6 x7) W b = val_main_v58 (F := Ideal) x2 x6 x7 W b := by
  refine Cert.Kit.mat_ext fun i d => ?_
  have hi := i.isLt
  have hd := d.isLt
  rw [mixedHost_apply, val_main_v58_apply, val_main_v57_apply, val_main_v53_apply, val_main_v52_apply, val_main_v56_apply,
    val_main_v55_apply, val_main_v54_apply]
  show _ = (∑ k : Fin 128, _) + _
  congr 1
  · refine Finset.sum_congr rfl fun s _ => ?_
    have hs := s.isLt
    rw [lower_apply, val_main_v46_apply, val_main_v51_apply, mul_comm]
    show _ = _ * (_ * _)
    have e2 : idx_main_v46 (lidx_main_v52 (idx_main_v53 (idx_main_v58 (ix2 i d))) s) = ix2 (rowOf i s) d := by
      funext a
      refine Fin.ext ?_
      match a with
      | ⟨0, _⟩ =>
        show (((((i.val * 512 + d.val) / 65536) * 128 + s.val) * 8 + (i.val * 512 + d.val) / 64 % 8) * 64 + (i.val * 512 + d.val) % 64) / 512
          = i.val / 128 * 128 + s.val
        omega
      | ⟨1, _⟩ =>
        show (((((i.val * 512 + d.val) / 65536) * 128 + s.val) * 8 + (i.val * 512 + d.val) / 64 % 8) * 64 + (i.val * 512 + d.val) % 64) % 512
          = d.val
        omega
    have e3 : ridx_main_v52 (idx_main_v53 (idx_main_v58 (ix2 i d))) s = ix3 (headOf d) (inChunk i) s := by
      funext a
      refine Fin.ext ?_
      match a with
      | ⟨0, _⟩ => show (i.val * 512 + d.val) / 64 % 8 = d.val / 64; omega
      | ⟨1, _⟩ => show (i.val * 512 + d.val) / 512 % 128 = i.val % 128; omega
      | ⟨2, _⟩ => rfl
    rw [e2, e3]
  · refine congrArg b ?_
    funext a
    refine Fin.ext ?_
    match a with
    | ⟨0, _⟩ => show d.val / 64 = (i.val * 512 + d.val) / 64 % 8; omega
    | ⟨1, _⟩ => show i.val % 128 = (i.val * 512 + d.val) / 512 % 128; omega

end Cert.Mix

end
-- ==== Proof.Mix.Host.lean ====
/- What the host lines around the mixers' backward call leave for its windows: the concatenated mixers and their product
   with the output weight are the reference's. -/
module

public import proofs.«01_k».proof.Proof.Gen.KMixIdeal.Frame.Runs
public import proofs.«01_k».proof.Proof.Mix.Row
public import proofs.«01_k».proof.Proof.Mix.Gating

@[expose] public section

set_option maxRecDepth 16384

noncomputable section

namespace Cert.KMixIdeal.Points

open Cert.KMixIdeal Cert.KMixIdeal.Gen Idealize.ShloMosaic Idealize.ShloMosaic.TcCoe Idealize.SL.Sem
open Cert.Mix
open Cert.RMixIdeal.Read (val_main_v12 val_main_v45 val_main_v71 val_main_v83 val_main_v84 val_main_v86)

variable (m : (ℓ : Loc nD τ sig) → Buf (Elt Ideal) ℓ) (c : Dev nD)

/-- The arguments. -/
abbrev A0 : Vec Ideal S8192x1024 .f32 := m ((c : Thread nD τ).loc main_arg0)
abbrev A1 : Vec Ideal S8192x512 .f32 := m ((c : Thread nD τ).loc main_arg1)
abbrev A2 : Vec Ideal S8192x512 .f32 := m ((c : Thread nD τ).loc main_arg2)
abbrev A3 : Vec Ideal S8192x512 .f32 := m ((c : Thread nD τ).loc main_arg3)
abbrev A6 : Vec Ideal S1x512 .f32 := m ((c : Thread nD τ).loc main_arg6)
abbrev A7 : Vec Ideal S1x512 .f32 := m ((c : Thread nD τ).loc main_arg7)
abbrev A8 : Vec Ideal S8x128x128 .f32 := m ((c : Thread nD τ).loc main_arg8)
abbrev A9 : Vec Ideal S8x128 .f32 := m ((c : Thread nD τ).loc main_arg9)
abbrev A10 : Vec Ideal S1x512 .f32 := m ((c : Thread nD τ).loc main_arg10)
abbrev A11 : Vec Ideal S1x512 .f32 := m ((c : Thread nD τ).loc main_arg11)
abbrev A12 : Vec Ideal S1024x1024 .f32 := m ((c : Thread nD τ).loc main_arg12)
abbrev A13 : Vec Ideal S1x1024 .f32 := m ((c : Thread nD τ).loc main_arg13)

/-- The concatenated mixers, and their product with the output weight. -/
abbrev mixed : Vec Ideal S8192x1024 .f32 :=
  val_main_v84 (F := Ideal) (A1 m c) (A2 m c) (A3 m c) (A6 m c) (A7 m c) (A8 m c) (A9 m c) (A10 m c) (A11 m c)
abbrev prod : Vec Ideal S8192x1024 .f32 :=
  val_main_v86 (F := Ideal) (A1 m c) (A2 m c) (A3 m c) (A6 m c) (A7 m c) (A8 m c) (A9 m c) (A10 m c) (A11 m c) (A12 m c)

/-- The host lines after the gating: the norm of the gated rows `u` with its gain `g`, joined to the attention's `a`. -/
def joined (a : FVec Ideal S8192x512 .f32) (g : FVec Ideal S1x512 .f32) (u : FVec Ideal S8192x512 .f32) : FVec Ideal S8192x1024 .f32 :=
  concatenate S8192x1024 1 [⟨S8192x512, a⟩, ⟨S8192x512,
    mulf (mulf u (broadcastInDim S8192x512 ![0, 1] bcast_S8192x1_S8192x512_0_1 (Host.rsqrt (addf (Host.divf
      (broadcastInDim S8192x1 ![0] bcast_S8192_S8192x1_0
        (Host.reduceAdd (mulf u u) (constant S_ .f32 0x00000000#32) reducesTo_S8192x512_S8192_d1 h_S_))
      (broadcastInDim S8192x1 ![] bcast_S_S8192x1 (constant S_ .f32 0x44000000#32)))
      (broadcastInDim S8192x1 ![] bcast_S_S8192x1 (constant S_ .f32 0x358637BD#32))))))
      (broadcastInDim S8192x512 ![0, 1] bcast_S1x512_S8192x512_0_1 g)⟩] concatenates_S8192x512_S8192x512_S8192x1024_d1

/-- The host lines up to the concatenation. -/
abbrev host : FVec Ideal S8192x1024 .f32 :=
  joined (val_main_v71 (F := Ideal) (A3 m c) (A10 m c)) (A11 m c) (mulf (val_main_v12 (F := Ideal) (A1 m c))
    (mixedHost (val_main_v45 (F := Ideal) (A2 m c) (A6 m c) (A7 m c)) (A8 m c) (A9 m c)))
theorem host_eq : host m c = mixed m c := by
  unfold host
  rw [mixedHost_eq]
  rfl

/-- The host line of the product. -/
def times (Y : FVec Ideal S8192x1024 .f32) (W : FVec Ideal S1024x1024 .f32) : FVec Ideal S8192x1024 .f32 :=
  Host.dotGeneral dot_S8192x1024_S1024x1024_S8192x1024_1_0_0_1_n_n none Y W

set_option maxHeartbeats 4000000 in
theorem V_mixed16 : (V m c main_v93 : FVec Ideal S8192x1024 .bf16) = mixed m c := by
  have e : (V m c main_v93 : FVec Ideal S8192x1024 .bf16) = (host m c : FVec Ideal S8192x1024 .f32) := by
    unfold V hostOps0 hostOps0_1 hostOps0_2 host joined mixedHost lower
    after_results_simp
    rfl
  exact e.trans (host_eq m c)

set_option maxHeartbeats 4000000 in
theorem V_prod : (V m c main_v90 : FVec Ideal S8192x1024 .f32) = prod m c := by
  have e : (V m c main_v90 : FVec Ideal S8192x1024 .f32) = times (host m c) (A12 m c) := by
    unfold V hostOps0 hostOps0_1 hostOps0_2 times host joined mixedHost lower
    after_results_simp
    rfl
  rw [e, host_eq]
  rfl

theorem V_weight : (V m c main_v96 : FVec Ideal S1024x1024 .bf16) = A12 m c := by
  unfold V hostOps0 hostOps0_1 hostOps0_2
  after_results_simp
  rfl

end Cert.KMixIdeal.Points

end
-- ==== Proof.Mix.Value.lean ====
/- The mixers' backward call at the ideal instance: the payloads as the formulas of `Mix/Row.lean` of the blocks' rows, the
   three accumulated outputs as sums over all 8192 rows. -/
module

public import proofs.«01_k».proof.Proof.Mix.Points
public import proofs.«01_k».proof.Proof.Mix.Host

@[expose] public section

set_option maxRecDepth 16384

noncomputable section

namespace Cert.KMixIdeal.Points

open Cert.KMixIdeal Cert.KMixIdeal.Gen Idealize.ShloMosaic Idealize.ShloMosaic.TcCoe Idealize.SL.Sem
open Cert.Mix

/-! ## The payloads at an index -/

section Payloads
variable (DY O : Vec Ideal S512x1024 .f32) (gp : Vec Ideal S1x1024 .f32) (Y : Vec Ideal S512x1024 .bf16)
  (W : Vec Ideal S1024x1024 .bf16) (A : Vec Ideal S512x512 .f32)

theorem dProd_apply (r : Fin 512) (d : Fin 1024) : k0_pay13 (F := Ideal) DY O gp (ix2 r d)
    = dProd (fun k => O (ix2 r k)) (fun k => DY (ix2 r k)) (fun k => gp (ix2 0 k)) d := by
  pointwise [k0_pay13, k0_pay12, k0_pay11]
  simp only [Kit.rsqrt_1024 fun k => O (ix2 r k), Kit.c1024recip]
  rfl

theorem dOut_apply (v : Vec Ideal S1024x1024 .f32) (e d : Fin 1024) : k0_pay18 (F := Ideal) (k0_pay13 DY O gp) v Y (ix2 e d)
    = v (ix2 e d) + ∑ r, Y (ix2 r e) * dProd (fun k => O (ix2 r k)) (fun k => DY (ix2 r k)) (fun k => gp (ix2 0 k)) d := by
  pointwise [k0_pay18, k0_pay17]
  simp only [dProd_apply]

theorem dPost_apply (v : Vec Ideal S1x1024 .f32) (i : Fin 1) (d : Fin 1024) :
    k0_pay16 (F := Ideal) (k0_pay14 DY O) (k0_pay15 v) (ix2 i d)
      = v (ix2 i d) + ∑ r, dPost (fun k => O (ix2 r k)) (fun k => DY (ix2 r k)) d := by
  pointwise [k0_pay16, k0_pay15, k0_pay14, k0_pay12, k0_pay11]
  simp only [fun r => Kit.rsqrt_1024 fun k => O (ix2 r k)]
  rfl

theorem dAtt_apply (v : Vec Ideal S1x512 .f32) (i : Fin 1) (d : Fin 512) :
    k0_pay26 (F := Ideal) A (k0_pay20 (k0_pay13 DY O gp) W) (k0_pay21 A) v (ix2 i d)
      = v (ix2 i d) + ∑ r, dAtt (fun k => O (ix2 r k)) (fun k => DY (ix2 r k)) (fun k => gp (ix2 0 k))
          (fun k => W (ix2 (left d) k)) (fun k => A (ix2 r k)) d := by
  pointwise [k0_pay26, k0_pay21, k0_pay20, k0_pay19, k0_pay17]
  simp only [fun r => rsqrt_512 fun k => A (ix2 r k), dProd_apply]
  rfl

theorem zero2 (i) : k0_pay2 (F := Ideal) i = 0 := by pointwise [k0_pay2]
theorem zero7 (i) : k0_pay7 (F := Ideal) i = 0 := by pointwise [k0_pay7]
theorem zero9 (i) : k0_pay9 (F := Ideal) i = 0 := by pointwise [k0_pay9]

end Payloads

/-! ## The blocks a point reads -/

variable (m : (ℓ : Loc nD τ sig) → Buf (Elt Ideal) ℓ) (c : Dev nD)

/-- Row `r` of point `t`'s block is this row of the array. -/
abbrev at_ (t : Fin cfg0.N) (r : Fin 512) : Fin 8192 :=
  ⟨t.val * 512 + r.val, by have := t.isLt; have := r.isLt; have : cfg0.N = 16 := N16; omega⟩

theorem idx_rows : ∀ t : Fin cfg0.N, (win0_0.index t 0 = t.val ∧ win0_0.index t 1 = 0) ∧
    (win0_1.index t 0 = t.val ∧ win0_1.index t 1 = 0) ∧
    (win0_3.index t 0 = t.val ∧ win0_3.index t 1 = 0) ∧
    (win0_6.index t 0 = t.val ∧ win0_6.index t 1 = 0) :=
  (by decide +kernel : ∀ t : Fin grid0.N, _)
theorem idx_whole : ∀ t : Fin cfg0.N, (win0_14.index t 0 = 0 ∧ win0_14.index t 1 = 0) ∧
    (win0_15.index t 0 = 0 ∧ win0_15.index t 1 = 0) ∧
    (win0_19.index t 0 = 0 ∧ win0_19.index t 1 = 0) ∧
    (win0_24.index t 0 = 0 ∧ win0_24.index t 1 = 0) ∧
    (win0_26.index t 0 = 0 ∧ win0_26.index t 1 = 0) :=
  (by decide +kernel : ∀ t : Fin grid0.N, _)

theorem iblk0 (t : Fin cfg0.N) (r : Fin 512) (k : Fin 1024) : iblk m c 0 t (ix2 r k) = A0 m c (ix2 (at_ t r) k) := by
  unfold iblk
  rw [View.read_apply]
  show V m c main_arg0 _ = _
  rw [V_main_arg0]
  congr 1
  funext a
  apply Fin.ext
  match a with
  | ⟨0, _⟩ => show win0_0.index t 0 * 512 + 1 * r.val = t.val * 512 + r.val; rw [(idx_rows t).1.1]; omega
  | ⟨1, _⟩ => show win0_0.index t 1 * 1024 + 1 * k.val = k.val; rw [(idx_rows t).1.2]; omega

theorem iblk1 (t : Fin cfg0.N) (r : Fin 512) (k : Fin 1024) : iblk m c 1 t (ix2 r k) = prod m c (ix2 (at_ t r) k) := by
  unfold iblk
  rw [View.read_apply]
  show V m c main_v90 _ = _
  rw [V_prod]
  congr 1
  funext a
  apply Fin.ext
  match a with
  | ⟨0, _⟩ => show win0_1.index t 0 * 512 + 1 * r.val = t.val * 512 + r.val; rw [(idx_rows t).2.1.1]; omega
  | ⟨1, _⟩ => show win0_1.index t 1 * 1024 + 1 * k.val = k.val; rw [(idx_rows t).2.1.2]; omega

theorem iblk3 (t : Fin cfg0.N) (r : Fin 512) (k : Fin 512) : iblk m c 3 t (ix2 r k) = A3 m c (ix2 (at_ t r) k) := by
  unfold iblk
  rw [View.read_apply]
  show V m c main_arg3 _ = _
  rw [V_main_arg3]
  congr 1
  funext a
  apply Fin.ext
  match a with
  | ⟨0, _⟩ => show win0_3.index t 0 * 512 + 1 * r.val = t.val * 512 + r.val; rw [(idx_rows t).2.2.1.1]; omega
  | ⟨1, _⟩ => show win0_3.index t 1 * 512 + 1 * k.val = k.val; rw [(idx_rows t).2.2.1.2]; omega

theorem iblk6 (t : Fin cfg0.N) (r : Fin 512) (k : Fin 1024) : iblk m c 6 t (ix2 r k) = mixed m c (ix2 (at_ t r) k) := by
  unfold iblk
  rw [View.read_apply]
  show V m c main_v93 _ = _
  rw [V_mixed16]
  congr 1
  funext a
  apply Fin.ext
  match a with
  | ⟨0, _⟩ => show win0_6.index t 0 * 512 + 1 * r.val = t.val * 512 + r.val; rw [(idx_rows t).2.2.2.1]; omega
  | ⟨1, _⟩ => show win0_6.index t 1 * 1024 + 1 * k.val = k.val; rw [(idx_rows t).2.2.2.2]; omega

theorem iblk14 (t : Fin cfg0.N) (r : Fin 1024) (k : Fin 1024) : iblk m c 14 t (ix2 r k) = A12 m c (ix2 r k) := by
  unfold iblk
  rw [View.read_apply]
  show V m c main_v96 _ = _
  rw [V_weight]
  congr 1
  funext a
  apply Fin.ext
  match a with
  | ⟨0, _⟩ => show win0_14.index t 0 * 1024 + 1 * r.val = r.val; rw [(idx_whole t).1.1]; omega
  | ⟨1, _⟩ => show win0_14.index t 1 * 1024 + 1 * k.val = k.val; rw [(idx_whole t).1.2]; omega

theorem iblk15 (t : Fin cfg0.N) (r : Fin 1) (k : Fin 1024) : iblk m c 15 t (ix2 r k) = A13 m c (ix2 r k) := by
  unfold iblk
  rw [View.read_apply]
  show V m c main_arg13 _ = _
  rw [V_main_arg13]
  congr 1
  funext a
  apply Fin.ext
  match a with
  | ⟨0, _⟩ => show win0_15.index t 0 * 1 + 1 * r.val = r.val; rw [(idx_whole t).2.1.1]; omega
  | ⟨1, _⟩ => show win0_15.index t 1 * 1024 + 1 * k.val = k.val; rw [(idx_whole t).2.1.2]; omega

/-! ## The three results -/

/-- Token `i`'s row of the product, of the gradient that reaches it; the last norm's gain. -/
abbrev oRow (i : Fin 8192) : Fin 1024 → EReal := fun k => prod m c (ix2 i k)
abbrev dyRow (i : Fin 8192) : Fin 1024 → EReal := fun k => A0 m c (ix2 i k)
abbrev gpRow : Fin 1024 → EReal := fun k => A13 m c (ix2 0 k)

/-- A window written back at the last point only has no second block to meet. -/
theorem last_only (w : Fin cfg0.W) (hf : ∀ t, (cfg0.win w).flush t = true → t.val % 16 = 15) (t t' : Fin cfg0.N)
    (h : (cfg0.win w).flush t = true) (h' : (cfg0.win w).flush t' = true) (e : t ≠ t') :
    Disjoint ((cfg0.win w).blk t).view.set ((cfg0.win w).blk t').view.set := by
  have := hf t h; have := hf t' h'; have := t.isLt; have := t'.isLt; have := N16
  exact absurd (Fin.ext (by omega)) e

/-- The last grid point. -/
abbrev last : Fin cfg0.N := ⟨15, by rw [N16]; decide⟩

/-- The output weight. -/
theorem result19 (e : Fin 1024) (d : Fin 1024) : (dats m 0 c).arrAt 19 cfg0.N (ix2 e d) = (∑ i, mixed m c (ix2 i e) * dProd (oRow m c i) (dyRow m c i) (gpRow m c) d : EReal) := by
  have h := (dats m 0 c).arrAt_emb_eq_flushed 19 (last_only 19 fun t => (flush0_19 t).mp) last ((flush0_19 _).mpr rfl) (ix2 e d)
  rw [Value.flushed19] at h
  have hs := Kit.chain_eq_sum (fun n h => (outsAt0 m c n h).2.2.2.1 (ix2 e d))
    (fun t => (∑ r, mixed m c (ix2 (at_ t r) e) * dProd (oRow m c (at_ t r)) (dyRow m c (at_ t r)) (gpRow m c) d : EReal))
    (fun h => by
      rw [wOut_A m c ⟨0, h⟩ rfl]
      refine (dOut_apply ..).trans ?_
      rw [zero2, zero_add]
      simp only [iblk0, iblk1, iblk6, iblk15])
    (fun n h => by
      have hN := N16
      rw [wOut_B m c ⟨n + 1, h⟩ (by dsimp only; omega)]
      refine (dOut_apply ..).trans ?_
      simp only [iblk0, iblk1, iblk6, iblk15]
      rfl) 15 last.isLt
  rw [Kit.sum_blocks 16 512 rfl]
  refine Eq.trans (congrArg _ ?_) (h.trans hs)
  funext a
  apply Fin.ext
  match a with
  | ⟨0, _⟩ => show e.val = win0_19.index last 0 * 1024 + 1 * e.val; rw [(idx_whole last).2.2.1.1]; omega
  | ⟨1, _⟩ => show d.val = win0_19.index last 1 * 1024 + 1 * d.val; rw [(idx_whole last).2.2.1.2]; omega

/-- The gain of the attention's norm. -/
theorem result24 (e : Fin 1) (d : Fin 512) : (dats m 0 c).arrAt 24 cfg0.N (ix2 e d) = (∑ i, dAtt (oRow m c i) (dyRow m c i) (gpRow m c)
        (fun k => A12 m c (ix2 (left d) k)) (fun k => A3 m c (ix2 i k)) d : EReal) := by
  have h := (dats m 0 c).arrAt_emb_eq_flushed 24 (last_only 24 fun t => (flush0_24 t).mp) last ((flush0_24 _).mpr rfl) (ix2 e d)
  rw [Value.flushed24] at h
  have hs := Kit.chain_eq_sum (fun n h => (outsAt0 m c n h).2.2.2.2.2.2.2.2.1 (ix2 e d))
    (fun t => (∑ r, dAtt (oRow m c (at_ t r)) (dyRow m c (at_ t r)) (gpRow m c)
        (fun k => A12 m c (ix2 (left d) k)) (fun k => A3 m c (ix2 (at_ t r) k)) d : EReal))
    (fun h => by
      rw [attGain_A m c ⟨0, h⟩ rfl]
      refine (dAtt_apply ..).trans ?_
      rw [zero7, zero_add]
      simp only [iblk0, iblk1, iblk3, iblk14, iblk15])
    (fun n h => by
      have hN := N16
      rw [attGain_B m c ⟨n + 1, h⟩ (by dsimp only; omega)]
      refine (dAtt_apply ..).trans ?_
      simp only [iblk0, iblk1, iblk3, iblk14, iblk15]
      rfl) 15 last.isLt
  rw [Kit.sum_blocks 16 512 rfl]
  refine Eq.trans (congrArg _ ?_) (h.trans hs)
  funext a
  apply Fin.ext
  match a with
  | ⟨0, _⟩ => show e.val = win0_24.index last 0 * 1 + 1 * e.val; rw [(idx_whole last).2.2.2.1.1]; omega
  | ⟨1, _⟩ => show d.val = win0_24.index last 1 * 512 + 1 * d.val; rw [(idx_whole last).2.2.2.1.2]; omega

/-- The gain of the norm after the product. -/
theorem result26 (e : Fin 1) (d : Fin 1024) : (dats m 0 c).arrAt 26 cfg0.N (ix2 e d) = (∑ i, dPost (oRow m c i) (dyRow m c i) d : EReal) := by
  have h := (dats m 0 c).arrAt_emb_eq_flushed 26 (last_only 26 fun t => (flush0_26 t).mp) last ((flush0_26 _).mpr rfl) (ix2 e d)
  rw [Value.flushed26] at h
  have hs := Kit.chain_eq_sum (fun n h => (outsAt0 m c n h).2.2.2.2.2.2.2.2.2.2 (ix2 e d))
    (fun t => (∑ r, dPost (oRow m c (at_ t r)) (dyRow m c (at_ t r)) d : EReal))
    (fun h => by
      rw [postGain_A m c ⟨0, h⟩ rfl]
      refine (dPost_apply ..).trans ?_
      rw [zero9, zero_add]
      simp only [iblk0, iblk1])
    (fun n h => by
      have hN := N16
      rw [postGain_B m c ⟨n + 1, h⟩ (by dsimp only; omega)]
      refine (dPost_apply ..).trans ?_
      simp only [iblk0, iblk1]
      rfl) 15 last.isLt
  rw [Kit.sum_blocks 16 512 rfl]
  refine Eq.trans (congrArg _ ?_) (h.trans hs)
  funext a
  apply Fin.ext
  match a with
  | ⟨0, _⟩ => show e.val = win0_26.index last 0 * 1 + 1 * e.val; rw [(idx_whole last).2.2.2.2.1]; omega
  | ⟨1, _⟩ => show d.val = win0_26.index last 1 * 1024 + 1 * d.val; rw [(idx_whole last).2.2.2.2.2]; omega

end Cert.KMixIdeal.Points

end
-- ==== Proof.Mix.Reference.lean ====
/- The reference's three results, read element by element as the formulas of `Mix/Row.lean`: the derivative of the last
   norm taken term by term is the kernel's, at every extended real. -/
module

public import proofs.«01_k».proof.Proof.Mix.Row
public import proofs.«01_k».proof.Proof.Gen.RMixIdeal.Read

@[expose] public section

set_option maxRecDepth 16384

noncomputable section

namespace Cert.RMixIdeal.Points

open Cert.RMixIdeal Cert.RMixIdeal.Gen Cert.RMixIdeal.Read Cert.Mix Idealize.ShloMosaic

variable (x0 : Vec Ideal S8192x1024 .f32) (x1 x2 x3 : Vec Ideal S8192x512 .f32) (x6 x7 : Vec Ideal S1x512 .f32)
  (x8 : Vec Ideal S8x128x128 .f32) (x9 : Vec Ideal S8x128 .f32) (x10 x11 : Vec Ideal S1x512 .f32)
  (x12 : Vec Ideal S1024x1024 .f32) (x13 : Vec Ideal S1x1024 .f32)

/-- The concatenated mixers, and their product with the output weight. -/
abbrev mixed : Vec Ideal S8192x1024 .f32 := val_main_v84 (F := Ideal) x1 x2 x3 x6 x7 x8 x9 x10 x11
abbrev prod : Vec Ideal S8192x1024 .f32 := val_main_v86 (F := Ideal) x1 x2 x3 x6 x7 x8 x9 x10 x11 x12
/-- Token `i`'s row of it. -/
abbrev prodRow (i : Fin 8192) : Fin 1024 → EReal := fun k => prod x1 x2 x3 x6 x7 x8 x9 x10 x11 x12 (ix2 i k)

theorem var_prod (i : Fin 8192) (k : Fin 1) : val_main_v93 (F := Ideal) x1 x2 x3 x6 x7 x8 x9 x10 x11 x12 (ix2 i k)
    = Kit.var 1024 (prodRow x1 x2 x3 x6 x7 x8 x9 x10 x11 x12 i) := by
  pointwise [val_main_v93, val_main_v92, val_main_v91, val_main_v90, val_main_v89, val_main_v88, val_main_v87, val_main_cst_20,
    val_main_cst_21, val_main_cst_22]
  rw [Kit.c1024, Kit.div_coe _ (by norm_num)]
  rfl

theorem dProd_ref (i : Fin 8192) (d : Fin 1024) :
    val_main_v120 (F := Ideal) x0 x1 x2 x3 x6 x7 x8 x9 x10 x11 x12 x13 (ix2 i d)
      = dProd (prodRow x1 x2 x3 x6 x7 x8 x9 x10 x11 x12 i) (fun k => x0 (ix2 i k)) (fun k => x13 (ix2 0 k)) d := by
  pointwise [val_main_v120, val_main_v119, val_main_v118, val_main_v117, val_main_v116, val_main_v115, val_main_v114,
    val_main_v113, val_main_v112, val_main_v111, val_main_v110, val_main_v109, val_main_v108, val_main_v107, val_main_v106,
    val_main_v105, val_main_v97, val_main_v96, val_main_v95, val_main_v94, val_main_cst_23, val_main_cst_25, val_main_cst_26,
    val_main_cst_27]
  simp only [var_prod]
  simp only [Finset.univ_unique, Finset.sum_singleton, Kit.neghalf, Kit.c1024, Kit.div_coe _ (show (1024 : ℝ) ≠ 0 by norm_num)]
  exact Kit.rmsBack_eq (n := 1024) (by norm_num) (prodRow x1 x2 x3 x6 x7 x8 x9 x10 x11 x12 i)
    (fun k => x0 (ix2 i k) * x13 (ix2 0 k)) d _ rfl

/-- The gradient at the output weight. -/
theorem dOut_ref (e d : Fin 1024) :
    val_main_v122 (F := Ideal) x0 x1 x2 x3 x6 x7 x8 x9 x10 x11 x12 x13 (ix2 e d)
      = (∑ i : Fin 8192, mixed x1 x2 x3 x6 x7 x8 x9 x10 x11 (ix2 i e)
          * dProd (prodRow x1 x2 x3 x6 x7 x8 x9 x10 x11 x12 i) (fun k => x0 (ix2 i k)) (fun k => x13 (ix2 0 k)) d : EReal) := by
  pointwise [val_main_v122, val_main_v121]
  simp only [dProd_ref]
  exact Finset.sum_congr rfl fun t _ => mul_comm _ _

theorem dPost_ref (i : Fin 1) (d : Fin 1024) :
    val_main_v104 (F := Ideal) x0 x1 x2 x3 x6 x7 x8 x9 x10 x11 x12 (ix2 i d)
      = (∑ i' : Fin 8192, dPost (prodRow x1 x2 x3 x6 x7 x8 x9 x10 x11 x12 i') (fun k => x0 (ix2 i' k)) d : EReal) := by
  pointwise [val_main_v104, val_main_v103, val_main_v102, val_main_v99, val_main_v98, val_main_v94, val_main_cst_24]
  simp only [var_prod]
  exact Finset.sum_congr rfl fun t _ => mul_comm _ _

theorem dAtt_ref (i : Fin 1) (d : Fin 512) :
    val_main_v128 (F := Ideal) x0 x1 x2 x3 x6 x7 x8 x9 x10 x11 x12 x13 (ix2 i d)
      = (∑ i' : Fin 8192, dAtt (prodRow x1 x2 x3 x6 x7 x8 x9 x10 x11 x12 i') (fun k => x0 (ix2 i' k)) (fun k => x13 (ix2 0 k))
          (fun k => x12 (ix2 (left d) k)) (fun k => x3 (ix2 i' k)) d : EReal) := by
  pointwise [val_main_v128, val_main_v127, val_main_v126, val_main_v124, val_main_v123, val_main_v69, val_main_v68,
    val_main_v67, val_main_v66, val_main_v65, val_main_v64, val_main_v63, val_main_v62, val_main_v61, val_main_v60,
    val_main_cst_13, val_main_cst_14, val_main_cst_15, val_main_cst_28]
  simp only [dProd_ref, fun t => rsqrt_512 fun k => x3 (ix2 t k)]
  exact Finset.sum_congr rfl fun t _ => mul_comm _ _

end Cert.RMixIdeal.Points

end
-- ==== Proof.Mix.Claim.lean ====
/- The claims about the mixers' backward call: the frames are the generated runs'. -/
module

public import proofs.«01_k».proof.Defs
public import proofs.«01_k».proof.Proof.Gen.KMix.Frame
public import proofs.«01_k».proof.Proof.Gen.KMixIdeal.Frame
public import proofs.«01_k».proof.Proof.Gen.RMixIdeal.Run
public import proofs.«01_k».proof.Proof.Mix.Value
public import proofs.«01_k».proof.Proof.Mix.Reference

@[expose] public section

noncomputable section

namespace Cert.Mix

open Idealize.ShloMosaic Idealize.ShloMosaic.TcCoe Idealize.SL.Sem
open Cert.KMixIdeal (cfg0)
open Cert.KMixIdeal.Gen (dats)

theorem frame_kernel : Cert.quiescent_KMix := fun m ρ _ => Cert.KMix.Gen.frame m ρ
theorem frame_ideal : Cert.quiescent_KMixIdeal := fun m ρ _ => Cert.KMixIdeal.Gen.frame m ρ
theorem frame_reference : Cert.quiescent_RMixIdeal := fun m ρ _ =>
  (θ_run Cert.RMixIdeal.defs _ _).mono (fun r h => ⟨fun c => (h c).2.2.2, sem_eq_zero_of_no_sems (by decide) r.2⟩)
    (Cert.RMixIdeal.Value.run (F := Ideal) m ρ)

theorem algebraic : Cert.algebraic_KMixIdeal_RMixIdeal := by
  intro m ρ m' ρ' _ hagree
  refine ⟨fun c => (dats m 0 c).arrAt 19 cfg0.N, fun c => (dats m 0 c).arrAt 24 cfg0.N, fun c => (dats m 0 c).arrAt 26 cfg0.N,
    (θ_run Cert.KMixIdeal.defs _ _).mono (fun r h c => ?_) (Cert.KMixIdeal.Value.run_blocks m ρ),
    (θ_run Cert.RMixIdeal.defs _ _).mono (fun r h c => ?_) (Cert.RMixIdeal.Value.run (F := Ideal) m' ρ')⟩
  · obtain ⟨_, _, _, h3, _, _, _, _, h8, _, h10, h⟩ := h c
    exact ⟨h3, h8, h10, h⟩
  obtain ⟨h0, h1, h2, h⟩ := h c
  obtain ⟨a0, a1, a2, a3, a4, a5, a6, a7, a8, a9, a10, a11, a12, a13⟩ := hagree c
  refine ⟨h0.trans ((Cert.RMixIdeal.Read.val_main_v122_eq ..).trans (Kit.mat_ext fun i d => ?_)),
    h1.trans ((Cert.RMixIdeal.Read.val_main_v128_eq ..).trans (Kit.mat_ext fun i d => ?_)),
    h2.trans ((Cert.RMixIdeal.Read.val_main_v104_eq ..).trans (Kit.mat_ext fun i d => ?_)), h⟩
  all_goals simp only [a0, a1, a2, a3, a6, a7, a8, a9, a10, a11, a12, a13]
  · exact (Cert.RMixIdeal.Points.dOut_ref ..).trans (Cert.KMixIdeal.Points.result19 m c i d).symm
  · exact (Cert.RMixIdeal.Points.dAtt_ref ..).trans (Cert.KMixIdeal.Points.result24 m c i d).symm
  · exact (Cert.RMixIdeal.Points.dPost_ref ..).trans (Cert.KMixIdeal.Points.result26 m c i d).symm

end Cert.Mix

end
-- ==== Proof.Attn.Grid.lean ====
module

public import proofs.«01_k».proof.Proof.Gen.KAttnIdeal.Frame

@[expose] public section

noncomputable section

namespace Cert.KAttnIdeal.Gen

open Idealize.ShloMosaic Idealize.ShloMosaic.TcCoe Idealize.ShloMosaic.Tactic

/-! # The folded grid: which pair of blocks a point works on -/

/-- The point with row `a` of the fold and place `b` in that row. -/
def pt (a : Fin 8) (b : Fin 17) : grid0.Coords := fun d => match d with
  | 0 => (0 : Fin 1)
  | 1 => a
  | 2 => b

theorem eq_pt (i : grid0.Coords) : i = pt (i 1) (i 2) := by
  funext d
  match d with
  | 0 => exact Fin.ext (by have := (i 0).isLt; change (i 0).val < 1 at this; show (i 0).val = 0; omega)
  | 1 => rfl
  | 2 => rfl

/-- The block of queries at a point. -/
def qb (i : grid0.Coords) : ℕ := if (i 1).val + (i 2).val < 16 then (i 1).val + (i 2).val else (i 2).val - 1
/-- The block of keys at a point. -/
def kb (i : grid0.Coords) : ℕ := if (i 1).val + (i 2).val < 16 then (i 1).val else 15 - (i 1).val

/-- A statement about every point is a statement about the 136 pairs. -/
theorem forall_pt {P : grid0.Coords → Prop} (h : ∀ a b, P (pt a b)) (i : grid0.Coords) : P i := by
  rw [eq_pt i]; exact h _ _

theorem qb_lt (i : grid0.Coords) : qb i < 16 := forall_pt (P := fun i => qb i < 16) (by decide) i
theorem kb_lt (i : grid0.Coords) : kb i < 16 := forall_pt (P := fun i => kb i < 16) (by decide) i

theorem cond1_iff (i : grid0.Coords) : k0_cond1 i = 1#1 ↔ (i 1).val = 0 ∧ (i 2).val = 0 :=
  forall_pt (P := fun i => k0_cond1 i = 1#1 ↔ (i 1).val = 0 ∧ (i 2).val = 0) (by decide +kernel) i
theorem cond3_iff (i : grid0.Coords) : k0_cond3 i = 1#1 ↔ kb i < qb i :=
  forall_pt (P := fun i => k0_cond3 i = 1#1 ↔ kb i < qb i) (by decide +kernel) i
theorem cond4_iff (i : grid0.Coords) : k0_cond4 i = 1#1 ↔ qb i = kb i :=
  forall_pt (P := fun i => k0_cond4 i = 1#1 ↔ qb i = kb i) (by decide +kernel) i
theorem cond5_iff (i : grid0.Coords) : k0_cond5 i = 1#1 ↔ qb i = 15 :=
  forall_pt (P := fun i => k0_cond5 i = 1#1 ↔ qb i = 15) (by decide +kernel) i
theorem kb_le_qb (i : grid0.Coords) : kb i ≤ qb i := forall_pt (P := fun i => kb i ≤ qb i) (by decide) i

theorem off1_eq (i : grid0.Coords) : k0_off1 i = ![0, 512 * qb i] :=
  forall_pt (P := fun i => k0_off1 i = ![0, 512 * qb i]) (by decide +kernel) i
instance (i : grid0.Coords) : ClosedOff (k0_off1 i) := ⟨![0, 512 * qb i], off1_eq i⟩
theorem off2_eq (i : grid0.Coords) : k0_off2 i = ![128, 512 * qb i] :=
  forall_pt (P := fun i => k0_off2 i = ![128, 512 * qb i]) (by decide +kernel) i
instance (i : grid0.Coords) : ClosedOff (k0_off2 i) := ⟨![128, 512 * qb i], off2_eq i⟩
theorem off3_eq (i : grid0.Coords) : k0_off3 i = ![256, 512 * qb i] :=
  forall_pt (P := fun i => k0_off3 i = ![256, 512 * qb i]) (by decide +kernel) i
instance (i : grid0.Coords) : ClosedOff (k0_off3 i) := ⟨![256, 512 * qb i], off3_eq i⟩
theorem off4_eq (i : grid0.Coords) : k0_off4 i = ![384, 512 * qb i] :=
  forall_pt (P := fun i => k0_off4 i = ![384, 512 * qb i]) (by decide +kernel) i
instance (i : grid0.Coords) : ClosedOff (k0_off4 i) := ⟨![384, 512 * qb i], off4_eq i⟩
theorem off5_eq (i : grid0.Coords) : k0_off5 i = ![0, 512 * qb i] :=
  forall_pt (P := fun i => k0_off5 i = ![0, 512 * qb i]) (by decide +kernel) i
instance (i : grid0.Coords) : ClosedOff (k0_off5 i) := ⟨![0, 512 * qb i], off5_eq i⟩
theorem off6_eq (i : grid0.Coords) : k0_off6 i = ![0, 512 * qb i] :=
  forall_pt (P := fun i => k0_off6 i = ![0, 512 * qb i]) (by decide +kernel) i
instance (i : grid0.Coords) : ClosedOff (k0_off6 i) := ⟨![0, 512 * qb i], off6_eq i⟩
theorem off7_eq (i : grid0.Coords) : k0_off7 i = ![128, 512 * qb i] :=
  forall_pt (P := fun i => k0_off7 i = ![128, 512 * qb i]) (by decide +kernel) i
instance (i : grid0.Coords) : ClosedOff (k0_off7 i) := ⟨![128, 512 * qb i], off7_eq i⟩
theorem off8_eq (i : grid0.Coords) : k0_off8 i = ![256, 512 * qb i] :=
  forall_pt (P := fun i => k0_off8 i = ![256, 512 * qb i]) (by decide +kernel) i
instance (i : grid0.Coords) : ClosedOff (k0_off8 i) := ⟨![256, 512 * qb i], off8_eq i⟩
theorem off9_eq (i : grid0.Coords) : k0_off9 i = ![384, 512 * qb i] :=
  forall_pt (P := fun i => k0_off9 i = ![384, 512 * qb i]) (by decide +kernel) i
instance (i : grid0.Coords) : ClosedOff (k0_off9 i) := ⟨![384, 512 * qb i], off9_eq i⟩
theorem off10_eq (i : grid0.Coords) : k0_off10 i = ![0, 512 * qb i] :=
  forall_pt (P := fun i => k0_off10 i = ![0, 512 * qb i]) (by decide +kernel) i
instance (i : grid0.Coords) : ClosedOff (k0_off10 i) := ⟨![0, 512 * qb i], off10_eq i⟩

end Cert.KAttnIdeal.Gen

end
-- ==== Proof.Attn.RunM.lean ====
module

public import proofs.«01_k».proof.Proof.Gen.KAttnIdeal.Skeleton
public import proofs.«01_k».proof.Proof.Attn.Grid

@[expose] public section

set_option maxRecDepth 16384

noncomputable section

namespace Cert.KAttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- What the body leaves in each buffer it stores into at a point on the diagonal: the scratches start at zero, the step is masked, with
    the proof that it does. The run finds the contents; `y6` and `y7` are the two running gradients by query, `y8` … `y10` the
    gradients by key as they leave, `y11` … `y13` the same while they run. -/
def runM (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x512 .bf16) (harg5 : arg5.IsWhole) (arg6 : Memref sig .tc .vmem S512x2048 .bf16) (harg6 : arg6.IsWhole) (arg7 : Memref sig .tc .vmem S512x2048 .bf16) (harg7 : arg7.IsWhole) (arg8 : Memref sig .tc .vmem S8x128 .f32) (harg8 : arg8.IsWhole) (arg9 : Memref sig .tc .vmem S512x8192 .f32) (harg9 : arg9.IsWhole) (arg10 : Memref sig .tc .vmem S8x8192 .f32) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x128 .f32) (harg16 : arg16.IsWhole)
    (h3 : ¬k0_cond3 i = 1#1) (h4 : k0_cond4 i = 1#1) (x0 : Vec F S512x1024 .bf16) (x1 : Vec F S512x1024 .bf16) (x2 : Vec F S512x512 .bf16) (x3 : Vec F S512x2048 .bf16) (x4 : Vec F S512x2048 .bf16) (x5 : Vec F S8x128 .f32) (x6 : Vec F S512x8192 .f32) (x7 : Vec F S8x8192 .f32) (x8 : Vec F S512x512 .bf16) (x9 : Vec F S512x512 .bf16) (x10 : Vec F S512x128 .f32) (x11 : Vec F S512x512 .f32) (x12 : Vec F S512x512 .f32) (x13 : Vec F S512x128 .f32) :
    Σ' (y6 : Vec F S512x8192 .f32) (y7 : Vec F S8x8192 .f32) (y8 : Vec F S512x512 .bf16) (y9 : Vec F S512x512 .bf16) (y10 : Vec F S512x128 .f32)
      (y11 : Vec F S512x512 .f32) (y12 : Vec F S512x512 .f32), { y13 : Vec F S512x128 .f32 // ∀ (E : Set ℕ) (K : PUnit → sProp 𝕄),
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare y6 ∗ owns (c : Thread nD τ) arg10 fullShare y7 ∗ owns (c : Thread nD τ) arg11 fullShare y8 ∗ owns (c : Thread nD τ) arg12 fullShare y9 ∗ owns (c : Thread nD τ) arg13 fullShare y10 ∗ owns (c : Thread nD τ) arg14 fullShare y11 ∗ owns (c : Thread nD τ) arg15 fullShare y12 ∗ owns (c : Thread nD τ) arg16 fullShare y13) -∗ K ⟨⟩))
      ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, ?_, ?_, fun E K => ?run⟩
  case run =>
    simp only [cc0_attn_bwd_eq_skeleton]; unfold cc0_attn_bwd_skel
    simp only [k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13
    sl_exec (disch := first | sl_exact h3 | sl_exact h4)
    sl_step
    iapply Hk
    isplitl [H0]
    · iexists _; isplitr; swap; · iexact H0
      ipureintro; exact harg3.read_unread _
    isplitl [H1]
    · iexists _; isplitr; swap; · iexact H1
      ipureintro; exact harg4.read_unread _
    isplitl [H2]
    · iexists _; isplitr; swap; · iexact H2
      ipureintro; exact harg5.read_unread _
    isplitl [H3]
    · iexists _; isplitr; swap; · iexact H3
      ipureintro; exact harg6.read_unread _
    isplitl [H4]
    · iexists _; isplitr; swap; · iexact H4
      ipureintro; exact harg7.read_unread _
    isplitl [H5]
    · iexists _; isplitr; swap; · iexact H5
      ipureintro; exact harg8.read_unread _
    isplitl [H6]
    · iexists _; isplitr; swap; · iexact H6
      ipureintro; exact rfl
    isplitl [H7]
    · iexists _; isplitr; swap; · iexact H7
      ipureintro; exact rfl
    isplitl [H8]
    · iexists _; isplitr; swap; · iexact H8
      ipureintro; exact rfl
    isplitl [H9]
    · iexists _; isplitr; swap; · iexact H9
      ipureintro; exact rfl
    isplitl [H10]
    · iexists _; isplitr; swap; · iexact H10
      ipureintro; exact rfl
    isplitl [H11]
    · iexists _; isplitr; swap; · iexact H11
      ipureintro; exact rfl
    isplitl [H12]
    · iexists _; isplitr; swap; · iexact H12
      ipureintro; exact rfl
    iexists _; isplitr; swap; · iexact H13
    ipureintro; exact rfl

end Cert.KAttnIdeal.Gen

end
-- ==== Proof.Attn.Pieces.lean ====
module

public import proofs.«01_k».proof.Proof.Kit
public import Idealize.ShloMosaic.Lib.WritesUnit
public import Idealize.ShloMosaic.Lib.Pipeline.ReadBack
public import Idealize.ShloMosaic.Lib.Pipeline.FrameBody
public import Idealize.ShloMosaic.Lib.Pipeline.Value

@[expose] public section

/-! # What a few stores side by side leave -/

namespace Cert.Attn

open Idealize.ShloMosaic Idealize.ShloMosaic.Shape

variable {sig : RefSig} {κ : Kind} {sp : Space} {e : EltTy} {Val : EltTy → Type}

/-- Four blocks of 128 columns, side by side. -/
def glueCols {α : Type} {n : ℕ} (w : Fin 4 → (⟨2, ![n, 128]⟩ : Shape).Idx → α) : (⟨2, ![n, 512]⟩ : Shape).Idx → α :=
  fun y => w ⟨(y 1).val / 128, by have : (y 1).val < 512 := (y 1).isLt; omega⟩ (ix2 (y 0) ⟨(y 1).val % 128, Nat.mod_lt _ (by norm_num)⟩)

/-- Four blocks of 128 rows at the 512 columns from `o` on, over `base`. -/
def glueRows {α : Type} {C : ℕ} (o : ℕ) (base : (⟨2, ![512, C]⟩ : Shape).Idx → α) (w : Fin 4 → (⟨2, ![128, 512]⟩ : Shape).Idx → α) :
    (⟨2, ![512, C]⟩ : Shape).Idx → α := fun y =>
  if h : o ≤ (y 1).val ∧ (y 1).val < o + 512 then
    w ⟨(y 0).val / 128, by have : (y 0).val < 512 := (y 0).isLt; omega⟩ (ix2 ⟨(y 0).val % 128, Nat.mod_lt _ (by norm_num)⟩ ⟨(y 1).val - o, by omega⟩)
  else base y

/-- Eight rows at the 512 columns from `o` on, over `base`. -/
def glueAt {α : Type} {C : ℕ} (o : ℕ) (base : (⟨2, ![8, C]⟩ : Shape).Idx → α) (w : (⟨2, ![8, 512]⟩ : Shape).Idx → α) :
    (⟨2, ![8, C]⟩ : Shape).Idx → α := fun y =>
  if h : o ≤ (y 1).val ∧ (y 1).val < o + 512 then w (ix2 (y 0) ⟨(y 1).val - o, by omega⟩) else base y

/-- A store into an R × C rectangle read at an index inside it, -/
theorem read_hit {m n R C o₀ o₁ : ℕ} (v : View sig κ sp (⟨2, ![m, n]⟩ : Shape) e) (f : v.ty.Contents Val)
    (inb : ∀ a, (![o₀, o₁] : Fin 2 → ℕ) a + (![R, C] : Fin 2 → ℕ) a ≤ (⟨2, ![m, n]⟩ : Shape).size a)
    (w : (⟨2, ![R, C]⟩ : Shape).Idx → Val e) (L : List (View.Piece Val (⟨2, ![m, n]⟩ : Shape) e)) (y : (⟨2, ![m, n]⟩ : Shape).Idx)
    (a : Fin R) (b : Fin C) (ha : (y 0).val = o₀ + a.val) (hb : (y 1).val = o₁ + b.val) :
    v.read Val (v.writes Val f (⟨Rect.unit (s := (⟨2, ![m, n]⟩ : Shape)) ![o₀, o₁] ![R, C] inb, w⟩ :: L)) y = w (ix2 a b) := by
  refine View.read_writes_cons_unit_of_mem v f inb w L y (ix2 a b) rfl fun d => ?_
  match d with
  | ⟨0, _⟩ => exact ha
  | ⟨1, _⟩ => exact hb

/-- and at one outside it. -/
theorem read_miss {m n R C o₀ o₁ : ℕ} (v : View sig κ sp (⟨2, ![m, n]⟩ : Shape) e) (f : v.ty.Contents Val)
    (inb : ∀ a, (![o₀, o₁] : Fin 2 → ℕ) a + (![R, C] : Fin 2 → ℕ) a ≤ (⟨2, ![m, n]⟩ : Shape).size a)
    (w : (⟨2, ![R, C]⟩ : Shape).Idx → Val e) (L : List (View.Piece Val (⟨2, ![m, n]⟩ : Shape) e)) (y : (⟨2, ![m, n]⟩ : Shape).Idx)
    (h : ((y 0).val < o₀ ∨ o₀ + R ≤ (y 0).val) ∨ ((y 1).val < o₁ ∨ o₁ + C ≤ (y 1).val)) :
    v.read Val (v.writes Val f (⟨Rect.unit (s := (⟨2, ![m, n]⟩ : Shape)) ![o₀, o₁] ![R, C] inb, w⟩ :: L)) y = v.read Val (v.writes Val f L) y := by
  rcases h with h | h
  · exact View.read_writes_cons_unit_of_not_mem v f inb w L y rfl (0 : Fin 2) h
  · exact View.read_writes_cons_unit_of_not_mem v f inb w L y rfl (1 : Fin 2) h

theorem read_cols {n : ℕ} (v : View sig κ sp (⟨2, ![n, 512]⟩ : Shape) e) (f : v.ty.Contents Val)
    (i0 i1 i2 i3) (w0 w1 w2 w3 : (⟨2, ![n, 128]⟩ : Shape).Idx → Val e) (L : List (View.Piece Val (⟨2, ![n, 512]⟩ : Shape) e)) :
    v.read Val (v.writes Val f (⟨Rect.unit (s := (⟨2, ![n, 512]⟩ : Shape)) ![0, 384] ![n, 128] i3, w3⟩ ::
      ⟨Rect.unit (s := (⟨2, ![n, 512]⟩ : Shape)) ![0, 256] ![n, 128] i2, w2⟩ ::
      ⟨Rect.unit (s := (⟨2, ![n, 512]⟩ : Shape)) ![0, 128] ![n, 128] i1, w1⟩ ::
      ⟨Rect.unit (s := (⟨2, ![n, 512]⟩ : Shape)) ![0, 0] ![n, 128] i0, w0⟩ :: L)) = glueCols ![w0, w1, w2, w3] := by
  funext y
  have hlt : (y 1).val < 512 := (y 1).isLt
  have key : ∀ k : Fin 4, (y 1).val / 128 = k.val → glueCols ![w0, w1, w2, w3] y = (![w0, w1, w2, w3] : Fin 4 → _) k (ix2 (y 0) ⟨(y 1).val % 128, Nat.mod_lt _ (by norm_num)⟩) := by
    intro k hk; unfold glueCols; rw [show (⟨(y 1).val / 128, by omega⟩ : Fin 4) = k from Fin.ext hk]
  by_cases h3 : 384 ≤ (y 1).val
  · rw [read_hit v f i3 w3 _ y (y 0) ⟨(y 1).val % 128, Nat.mod_lt _ (by norm_num)⟩ (by omega) (by dsimp only; omega), key 3 (by show _ = 3; omega)]; rfl
  rw [read_miss v f i3 _ _ y (by omega)]
  by_cases h2 : 256 ≤ (y 1).val
  · rw [read_hit v f i2 w2 _ y (y 0) ⟨(y 1).val % 128, Nat.mod_lt _ (by norm_num)⟩ (by omega) (by dsimp only; omega), key 2 (by show _ = 2; omega)]; rfl
  rw [read_miss v f i2 _ _ y (by omega)]
  by_cases h1 : 128 ≤ (y 1).val
  · rw [read_hit v f i1 w1 _ y (y 0) ⟨(y 1).val % 128, Nat.mod_lt _ (by norm_num)⟩ (by omega) (by dsimp only; omega), key 1 (by show _ = 1; omega)]; rfl
  rw [read_miss v f i1 _ _ y (by omega)]
  rw [read_hit v f i0 w0 _ y (y 0) ⟨(y 1).val % 128, Nat.mod_lt _ (by norm_num)⟩ (by omega) (by dsimp only; omega), key 0 (by show _ = 0; omega)]; rfl

theorem read_rows {C o : ℕ} (v : View sig κ sp (⟨2, ![512, C]⟩ : Shape) e) (f : v.ty.Contents Val)
    {f0 f1 f2 f3 : Fin 2 → ℕ} (h0 : f0 = ![0, o]) (h1 : f1 = ![128, o]) (h2 : f2 = ![256, o]) (h3 : f3 = ![384, o])
    (i0 i1 i2 i3) (w0 w1 w2 w3 : (⟨2, ![128, 512]⟩ : Shape).Idx → Val e) :
    v.read Val (v.writes Val f [⟨Rect.unit (s := (⟨2, ![512, C]⟩ : Shape)) f3 ![128, 512] i3, w3⟩,
      ⟨Rect.unit (s := (⟨2, ![512, C]⟩ : Shape)) f2 ![128, 512] i2, w2⟩,
      ⟨Rect.unit (s := (⟨2, ![512, C]⟩ : Shape)) f1 ![128, 512] i1, w1⟩,
      ⟨Rect.unit (s := (⟨2, ![512, C]⟩ : Shape)) f0 ![128, 512] i0, w0⟩]) = glueRows o (v.read Val f) ![w0, w1, w2, w3] := by
  subst h0 h1 h2 h3
  funext y
  have hlt : (y 0).val < 512 := (y 0).isLt
  by_cases hm : o ≤ (y 1).val ∧ (y 1).val < o + 512
  · have hb : (y 1).val = o + (⟨(y 1).val - o, by omega⟩ : Fin 512).val := by dsimp only; omega
    have key : ∀ k : Fin 4, (y 0).val / 128 = k.val → glueRows o (v.read Val f) ![w0, w1, w2, w3] y = (![w0, w1, w2, w3] : Fin 4 → _) k (ix2 ⟨(y 0).val % 128, Nat.mod_lt _ (by norm_num)⟩ ⟨(y 1).val - o, by omega⟩) := by
      intro k hk; unfold glueRows; rw [dif_pos hm, show (⟨(y 0).val / 128, by omega⟩ : Fin 4) = k from Fin.ext hk]
    by_cases h3 : 384 ≤ (y 0).val
    · rw [read_hit v f i3 w3 _ y ⟨(y 0).val % 128, Nat.mod_lt _ (by norm_num)⟩ _ (by dsimp only; omega) hb, key 3 (by show _ = 3; omega)]; rfl
    rw [read_miss v f i3 _ _ y (by omega)]
    by_cases h2 : 256 ≤ (y 0).val
    · rw [read_hit v f i2 w2 _ y ⟨(y 0).val % 128, Nat.mod_lt _ (by norm_num)⟩ _ (by dsimp only; omega) hb, key 2 (by show _ = 2; omega)]; rfl
    rw [read_miss v f i2 _ _ y (by omega)]
    by_cases h1 : 128 ≤ (y 0).val
    · rw [read_hit v f i1 w1 _ y ⟨(y 0).val % 128, Nat.mod_lt _ (by norm_num)⟩ _ (by dsimp only; omega) hb, key 1 (by show _ = 1; omega)]; rfl
    rw [read_miss v f i1 _ _ y (by omega)]
    rw [read_hit v f i0 w0 _ y ⟨(y 0).val % 128, Nat.mod_lt _ (by norm_num)⟩ _ (by dsimp only; omega) hb, key 0 (by show _ = 0; omega)]; rfl
  · rw [read_miss v f i3 _ _ y (by omega), read_miss v f i2 _ _ y (by omega), read_miss v f i1 _ _ y (by omega), read_miss v f i0 _ _ y (by omega)]
    unfold glueRows; rw [dif_neg hm]; rfl

theorem read_at {C o : ℕ} (v : View sig κ sp (⟨2, ![8, C]⟩ : Shape) e) (f : v.ty.Contents Val)
    {f0 : Fin 2 → ℕ} (h0 : f0 = ![0, o]) (i0) (w0 : (⟨2, ![8, 512]⟩ : Shape).Idx → Val e) :
    v.read Val (v.writes Val f [⟨Rect.unit (s := (⟨2, ![8, C]⟩ : Shape)) f0 ![8, 512] i0, w0⟩]) = glueAt o (v.read Val f) w0 := by
  subst h0
  funext y
  by_cases hm : o ≤ (y 1).val ∧ (y 1).val < o + 512
  · rw [read_hit v f i0 w0 _ y (y 0) ⟨(y 1).val - o, by omega⟩ (by omega) (by dsimp only; omega)]
    unfold glueAt; rw [dif_pos hm]
  · rw [read_miss v f i0 _ _ y (by omega)]
    unfold glueAt; rw [dif_neg hm]; rfl

/-- A load of everything reads everything. -/
theorem ld_full {α : Type} {m n : ℕ} (x : (⟨2, ![m, n]⟩ : Shape).Idx → α) (inb) :
    (fun y => x ((Rect.unit (s := (⟨2, ![m, n]⟩ : Shape)) ![0, 0] ![m, n] inb).toLoadRect.idx y)) = x := by
  funext y
  congr 1
  funext d
  match d with
  | ⟨0, _⟩ => exact Fin.ext (by show 0 + 1 * (y 0).val = (y 0).val; omega)
  | ⟨1, _⟩ => exact Fin.ext (by show 0 + 1 * (y 1).val = (y 1).val; omega)

/-- A store of everything leaves what it stores. -/
theorem read_full {m n : ℕ} (v : View sig κ sp (⟨2, ![m, n]⟩ : Shape) e) (f : v.ty.Contents Val) (inb)
    (w : (⟨2, ![m, n]⟩ : Shape).Idx → Val e) (L : List (View.Piece Val (⟨2, ![m, n]⟩ : Shape) e)) :
    v.read Val (v.writes Val f (⟨Rect.unit (s := (⟨2, ![m, n]⟩ : Shape)) ![0, 0] ![m, n] inb, w⟩ :: L)) = w := by
  funext y
  rw [read_hit v f inb w L y (y 0) (y 1) (by omega) (by omega)]
  exact congrArg w (funext fun d => match d with | ⟨0, _⟩ => rfl | ⟨1, _⟩ => rfl)

theorem readCov_full [∀ e, Nonempty (Val e)] {m n : ℕ} (v : View sig κ sp (⟨2, ![m, n]⟩ : Shape) e) (inb inb')
    (w : (⟨2, ![m, n]⟩ : Shape).Idx → Val e) (L : List (View.Piece Val (⟨2, ![m, n]⟩ : Shape) e)) :
    v.readCov (⟨Rect.unit (s := (⟨2, ![m, n]⟩ : Shape)) ![0, 0] ![m, n] inb, w⟩ :: L) (Rect.unit (s := (⟨2, ![m, n]⟩ : Shape)) ![0, 0] ![m, n] inb').toLoadRect = w :=
  (ld_full (v.read Val (v.writes Val v.junk _)) inb').trans (read_full v _ inb w L)

theorem readCov_cols [∀ e, Nonempty (Val e)] {n : ℕ} (v : View sig κ sp (⟨2, ![n, 512]⟩ : Shape) e) (inb)
    (i0 i1 i2 i3) (w0 w1 w2 w3 : (⟨2, ![n, 128]⟩ : Shape).Idx → Val e) (L : List (View.Piece Val (⟨2, ![n, 512]⟩ : Shape) e)) :
    v.readCov (⟨Rect.unit (s := (⟨2, ![n, 512]⟩ : Shape)) ![0, 384] ![n, 128] i3, w3⟩ ::
      ⟨Rect.unit (s := (⟨2, ![n, 512]⟩ : Shape)) ![0, 256] ![n, 128] i2, w2⟩ ::
      ⟨Rect.unit (s := (⟨2, ![n, 512]⟩ : Shape)) ![0, 128] ![n, 128] i1, w1⟩ ::
      ⟨Rect.unit (s := (⟨2, ![n, 512]⟩ : Shape)) ![0, 0] ![n, 128] i0, w0⟩ :: L)
      (Rect.unit (s := (⟨2, ![n, 512]⟩ : Shape)) ![0, 0] ![n, 512] inb).toLoadRect = glueCols ![w0, w1, w2, w3] :=
  (ld_full (v.read Val (v.writes Val v.junk _)) inb).trans (read_cols v _ i0 i1 i2 i3 w0 w1 w2 w3 L)

/-- Blocks of columns further left are out of the way. -/
theorem disj_cols {n a b : ℕ} (h : a + 128 ≤ b) (i i') :
    LoadRect.disj (Rect.unit (s := (⟨2, ![n, 512]⟩ : Shape)) ![0, a] ![n, 128] i) (Rect.unit (s := (⟨2, ![n, 512]⟩ : Shape)) ![0, b] ![n, 128] i').toLoadRect = true :=
  decide_eq_true ⟨(1 : Fin 2), Or.inr (Or.inr (Or.inl (by show a + 1 * (128 - 1) < b; omega)))⟩

/-! Loads of a block of columns not stored into since the whole was filled. -/

theorem readCov_col0 [∀ e, Nonempty (Val e)] {n : ℕ} (v : View sig κ sp (⟨2, ![n, 512]⟩ : Shape) e) (j i) (z : (⟨2, ![n, 512]⟩ : Shape).Idx → Val e) :
    v.readCov ([⟨Rect.unit (s := (⟨2, ![n, 512]⟩ : Shape)) ![0, 0] ![n, 512] j, z⟩]) (Rect.unit (s := (⟨2, ![n, 512]⟩ : Shape)) ![0, 0] ![n, 128] i).toLoadRect
      = View.ld z (Rect.unit (s := (⟨2, ![n, 512]⟩ : Shape)) ![0, 0] ![n, 128] i) := by
  exact View.readCov_fill v j z [] _ fun d => match d with | ⟨0, _⟩ => rfl | ⟨1, _⟩ => rfl

theorem readCov_col1 [∀ e, Nonempty (Val e)] {n : ℕ} (v : View sig κ sp (⟨2, ![n, 512]⟩ : Shape) e) (j i) (i0) (z : (⟨2, ![n, 512]⟩ : Shape).Idx → Val e) (w0 : (⟨2, ![n, 128]⟩ : Shape).Idx → Val e) :
    v.readCov (⟨Rect.unit (s := (⟨2, ![n, 512]⟩ : Shape)) ![0, 0] ![n, 128] i0, w0⟩ :: [⟨Rect.unit (s := (⟨2, ![n, 512]⟩ : Shape)) ![0, 0] ![n, 512] j, z⟩]) (Rect.unit (s := (⟨2, ![n, 512]⟩ : Shape)) ![0, 128] ![n, 128] i).toLoadRect
      = View.ld z (Rect.unit (s := (⟨2, ![n, 512]⟩ : Shape)) ![0, 128] ![n, 128] i) := by
  rw [View.readCov_skip _ _ _ _ _ (disj_cols (by omega) _ _)]
  exact View.readCov_fill v j z [] _ fun d => match d with | ⟨0, _⟩ => rfl | ⟨1, _⟩ => rfl

theorem readCov_col2 [∀ e, Nonempty (Val e)] {n : ℕ} (v : View sig κ sp (⟨2, ![n, 512]⟩ : Shape) e) (j i) (i0 i1) (z : (⟨2, ![n, 512]⟩ : Shape).Idx → Val e) (w0 w1 : (⟨2, ![n, 128]⟩ : Shape).Idx → Val e) :
    v.readCov (⟨Rect.unit (s := (⟨2, ![n, 512]⟩ : Shape)) ![0, 128] ![n, 128] i1, w1⟩ :: ⟨Rect.unit (s := (⟨2, ![n, 512]⟩ : Shape)) ![0, 0] ![n, 128] i0, w0⟩ :: [⟨Rect.unit (s := (⟨2, ![n, 512]⟩ : Shape)) ![0, 0] ![n, 512] j, z⟩]) (Rect.unit (s := (⟨2, ![n, 512]⟩ : Shape)) ![0, 256] ![n, 128] i).toLoadRect
      = View.ld z (Rect.unit (s := (⟨2, ![n, 512]⟩ : Shape)) ![0, 256] ![n, 128] i) := by
  rw [View.readCov_skip _ _ _ _ _ (disj_cols (by omega) _ _)]
  rw [View.readCov_skip _ _ _ _ _ (disj_cols (by omega) _ _)]
  exact View.readCov_fill v j z [] _ fun d => match d with | ⟨0, _⟩ => rfl | ⟨1, _⟩ => rfl

theorem readCov_col3 [∀ e, Nonempty (Val e)] {n : ℕ} (v : View sig κ sp (⟨2, ![n, 512]⟩ : Shape) e) (j i) (i0 i1 i2) (z : (⟨2, ![n, 512]⟩ : Shape).Idx → Val e) (w0 w1 w2 : (⟨2, ![n, 128]⟩ : Shape).Idx → Val e) :
    v.readCov (⟨Rect.unit (s := (⟨2, ![n, 512]⟩ : Shape)) ![0, 256] ![n, 128] i2, w2⟩ :: ⟨Rect.unit (s := (⟨2, ![n, 512]⟩ : Shape)) ![0, 128] ![n, 128] i1, w1⟩ :: ⟨Rect.unit (s := (⟨2, ![n, 512]⟩ : Shape)) ![0, 0] ![n, 128] i0, w0⟩ :: [⟨Rect.unit (s := (⟨2, ![n, 512]⟩ : Shape)) ![0, 0] ![n, 512] j, z⟩]) (Rect.unit (s := (⟨2, ![n, 512]⟩ : Shape)) ![0, 384] ![n, 128] i).toLoadRect
      = View.ld z (Rect.unit (s := (⟨2, ![n, 512]⟩ : Shape)) ![0, 384] ![n, 128] i) := by
  rw [View.readCov_skip _ _ _ _ _ (disj_cols (by omega) _ _)]
  rw [View.readCov_skip _ _ _ _ _ (disj_cols (by omega) _ _)]
  rw [View.readCov_skip _ _ _ _ _ (disj_cols (by omega) _ _)]
  exact View.readCov_fill v j z [] _ fun d => match d with | ⟨0, _⟩ => rfl | ⟨1, _⟩ => rfl

end Cert.Attn
-- ==== Proof.Attn.Tile.lean ====
module

public import proofs.«01_k».proof.Proof.Gen.KAttnIdeal.Skeleton
public import proofs.«01_k».proof.Proof.Attn.Grid
public import proofs.«01_k».proof.Proof.Attn.Pieces

@[expose] public section

/-! # One step on a pair of blocks, as the kernel computes it

`x0` and `x1` are the block of packed keys and values, `x2` the keys transposed, `x3` and `x4` the block of packed queries and
output gradients; `pr` takes the logarithms to probabilities and is masked on the diagonal. -/

noncomputable section

namespace Cert.KAttnIdeal.Gen

open Idealize.ShloMosaic Idealize.ShloMosaic.TcCoe Idealize.ShloMosaic.Shape Idealize.SL.Sem Cert.Attn

variable {F : FTy → Type} [FloatOps F]

theorem off00 : (![0, 0] : Fin 2 → ℕ) = fun _ => 0 := funext fun d => match d with | ⟨0, _⟩ => rfl | ⟨1, _⟩ => rfl

/-- The 256 lanes of a pair of heads. -/
def kcol (x : Vec F S512x1024 .bf16) : Fin 4 → Vec F S512x256 .bf16
  | 0 => View.ld x (Rect.unit (s := S512x1024) ![0, 0] S512x256.size inb_S512x1024_S512x256_0_0)
  | 1 => View.ld x (Rect.unit (s := S512x1024) ![0, 256] S512x256.size inb_S512x1024_S512x256_0_256)
  | 2 => View.ld x (Rect.unit (s := S512x1024) ![0, 512] S512x256.size inb_S512x1024_S512x256_0_512)
  | 3 => View.ld x (Rect.unit (s := S512x1024) ![0, 768] S512x256.size inb_S512x1024_S512x256_0_768)

/-- The 256 lanes of a head. -/
def qcol (x : Vec F S512x2048 .bf16) : Fin 8 → Vec F S512x256 .bf16
  | 0 => View.ld x (Rect.unit (s := S512x2048) ![0, 0] S512x256.size inb_S512x2048_S512x256_0_0)
  | 1 => View.ld x (Rect.unit (s := S512x2048) ![0, 256] S512x256.size inb_S512x2048_S512x256_0_256)
  | 2 => View.ld x (Rect.unit (s := S512x2048) ![0, 512] S512x256.size inb_S512x2048_S512x256_0_512)
  | 3 => View.ld x (Rect.unit (s := S512x2048) ![0, 768] S512x256.size inb_S512x2048_S512x256_0_768)
  | 4 => View.ld x (Rect.unit (s := S512x2048) ![0, 1024] S512x256.size inb_S512x2048_S512x256_0_1024)
  | 5 => View.ld x (Rect.unit (s := S512x2048) ![0, 1280] S512x256.size inb_S512x2048_S512x256_0_1280)
  | 6 => View.ld x (Rect.unit (s := S512x2048) ![0, 1536] S512x256.size inb_S512x2048_S512x256_0_1536)
  | 7 => View.ld x (Rect.unit (s := S512x2048) ![0, 1792] S512x256.size inb_S512x2048_S512x256_0_1792)

/-- The 128 rows of a pair of heads, scaled. -/
def krow (x : Vec F S512x512 .bf16) : Fin 4 → Vec F S128x512 .bf16
  | 0 => View.ld x (Rect.unit (s := S512x512) ![0, 0] S128x512.size inb_S512x512_S128x512_0_0)
  | 1 => View.ld x (Rect.unit (s := S512x512) ![128, 0] S128x512.size inb_S512x512_S128x512_128_0)
  | 2 => View.ld x (Rect.unit (s := S512x512) ![256, 0] S128x512.size inb_S512x512_S128x512_256_0)
  | 3 => View.ld x (Rect.unit (s := S512x512) ![384, 0] S128x512.size inb_S512x512_S128x512_384_0)

/-- The 128 lanes of a pair of heads of a running gradient. -/
def ocol (x : Vec F S512x512 .f32) : Fin 4 → Vec F S512x128 .f32
  | 0 => View.ld x (Rect.unit (s := S512x512) ![0, 0] S512x128.size inb_S512x512_S512x128_0_0)
  | 1 => View.ld x (Rect.unit (s := S512x512) ![0, 128] S512x128.size inb_S512x512_S512x128_0_128)
  | 2 => View.ld x (Rect.unit (s := S512x512) ![0, 256] S512x128.size inb_S512x512_S512x128_0_256)
  | 3 => View.ld x (Rect.unit (s := S512x512) ![0, 384] S512x128.size inb_S512x512_S512x128_0_384)

/-- The 128 rows of a pair of heads at the 512 columns from `o` on. -/
def qtile (o : ℕ) (x : Vec F S512x8192 .f32) (k : Fin 4) : Vec F S128x512 .f32 := fun y =>
  x (ix2 ⟨128 * k.val + (y 0).val, by have : (y 0).val < 128 := (y 0).isLt; omega⟩ ⟨(o + (y 1).val) % 8192, Nat.mod_lt _ (by norm_num)⟩)

/-- The eight rows at the 512 columns from `o` on. -/
def ctile (o : ℕ) (x : Vec F S8x8192 .f32) : Vec F S8x512 .f32 := fun y =>
  x (ix2 (y 0) ⟨(o + (y 1).val) % 8192, Nat.mod_lt _ (by norm_num)⟩)

theorem ld_qtile {o : ℕ} (x : Vec F S512x8192 .f32) (k : Fin 4) {f : Fin 2 → ℕ} (h : f = ![128 * k.val, o]) (inb) :
    View.ld x (Rect.unit (s := S512x8192) f S128x512.size inb) = qtile o x k := by
  subst h
  funext y
  have h1 : (y 1).val < 512 := (y 1).isLt
  have hi : o + 512 ≤ 8192 := inb 1
  refine congrArg x (funext fun d => ?_)
  match d with
  | ⟨0, _⟩ => exact Fin.ext (by show 128 * k.val + 1 * (y 0).val = 128 * k.val + (y 0).val; omega)
  | ⟨1, _⟩ => exact Fin.ext (by show o + 1 * (y 1).val = (o + (y 1).val) % 8192; omega)

theorem ld_ctile {o : ℕ} (x : Vec F S8x8192 .f32) {f : Fin 2 → ℕ} (h : f = ![0, o]) (inb) :
    View.ld x (Rect.unit (s := S8x8192) f S8x512.size inb) = ctile o x := by
  subst h
  funext y
  have h1 : (y 1).val < 512 := (y 1).isLt
  have hi : o + 512 ≤ 8192 := inb 1
  refine congrArg x (funext fun d => ?_)
  match d with
  | ⟨0, _⟩ => exact Fin.ext (by show 0 + 1 * (y 0).val = (y 0).val; omega)
  | ⟨1, _⟩ => exact Fin.ext (by show o + 1 * (y 1).val = (o + (y 1).val) % 8192; omega)

/-- Products over the 256 lanes. -/
def lg (a b : Vec F S512x256 .bf16) : FVec F S512x512 .f32 :=
  matmul dot_S512x256_S512x256_S512x512_1_1_0_0_n_n none (shapeCast S512x256 a shapeCasts_S512x256_S512x256)
    (shapeCast S512x256 b shapeCasts_S512x256_S512x256) (constant S512x512 .f32 0x00000000#32)

/-- Probabilities off the diagonal, -/
def prU (l : FVec F S512x512 .f32) : FVec F S512x512 .f32 := exp l
/-- and on it. -/
def prM (l : FVec F S512x512 .f32) : FVec F S512x512 .f32 :=
  select k0_pay133 (exp l) (broadcast S512x512 (Scalar.ofBits .f32 0x00000000#32))

def zero128 : FVec F S512x128 .f32 := broadcast S512x128 (Scalar.ofBits .f32 0x00000000#32)
def zero8 : FVec F S8x512 .f32 := broadcast S8x512 (Scalar.ofBits .f32 0x00000000#32)

/-- `acc + xᵀ b` over the 512 queries, on the first 128 lanes of `b`. -/
def accT (x : FVec F S512x512 .f32) (acc : FVec F S512x128 .f32) (b : Vec F S512x256 .bf16) : FVec F S512x128 .f32 :=
  addf acc (matmul dot_S512x512_S512x128_S512x128_1_0_0_1_n_n none (truncf .bf16 x bitsLt_bf16_f32)
    (extractStridedSlice S512x128 ![0, 0] (shapeCast S512x256 b shapeCasts_S512x256_S512x256) slices_S512x256_o0_0_S512x128)
    (constant S512x128 .f32 0x00000000#32))

/-- `k x / 8` over the 512 keys. -/
def dqT (k : Vec F S128x512 .bf16) (x : FVec F S512x512 .f32) : FVec F S128x512 .f32 :=
  matmul dot_S128x512_S512x512_S128x512_1_0_0_1_n_n none
    (mulf (shapeCast S128x512 k shapeCasts_S128x512_S128x512) (broadcast S128x512 (Scalar.ofBits .bf16 0x3E00#16)))
    (truncf .bf16 x bitsLt_bf16_f32) (constant S128x512 .f32 0x00000000#32)

/-- The sums over the keys, added to row `h`. -/
def dcqT (h : BitVec 32) (x : FVec F S512x512 .f32) (acc : FVec F S8x512 .f32) : FVec F S8x512 .f32 :=
  addf acc (select
    (broadcastTo S8x512 (shapeCast S8x1 (cmpi .eq (iota .tc S8x1 32 [0] iota_S8x1_d0_w32) (broadcast S8x1 h)) shapeCasts_S8x1_S8x1) broadcasts_S8x1_S8x512)
    (broadcastTo S8x512 (shapeCast S1x512 (shapeCast S1x512 (multiReduction .add [0] S512 x 0x00000000#32 reduces_S512x512_S512 (.inl rfl) rfl)
      shapeCasts_S512_S1x512) shapeCasts_S1x512_S1x512) broadcasts_S1x512_S8x512)
    (broadcast S8x512 (Scalar.ofBits .f32 0x00000000#32)))

/-- The sums over the queries, taken from lane `h`. -/
def dckT (h : BitVec 32) (x : FVec F S512x512 .f32) (acc : FVec F S512x128 .f32) : FVec F S512x128 .f32 :=
  subf acc (select
    (broadcastTo S512x128 (shapeCast S1x128 (cmpi .eq (iota .tc S1x128 32 [1] iota_S1x128_d1_w32) (broadcast S1x128 h)) shapeCasts_S1x128_S1x128) broadcasts_S1x128_S512x128)
    (broadcastTo S512x128 (shapeCast S512x1 (shapeCast S512x1 (multiReduction .add [1] S512 x 0x00000000#32 reduces_S512x512_S512_2 (.inl rfl) rfl)
      shapeCasts_S512_S512x1) shapeCasts_S512x1_S512x1) broadcasts_S512x1_S512x128)
    (broadcast S512x128 (Scalar.ofBits .f32 0x00000000#32)))

section Step

variable (pr : FVec F S512x512 .f32 → FVec F S512x512 .f32)
variable (x0 x1 : Vec F S512x1024 .bf16) (x2 : Vec F S512x512 .bf16) (x3 x4 : Vec F S512x2048 .bf16)

/-- Head `h`'s probabilities, keys by queries; the head is one of pair `p`'s. -/
def prH (p : Fin 4) (h : Fin 8) : FVec F S512x512 .f32 := pr (lg (kcol x0 p) (qcol x3 h))
/-- The gradients of its logits. -/
def dsH (p : Fin 4) (h : Fin 8) : FVec F S512x512 .f32 := mulf (prH pr x0 x3 p h) (lg (kcol x1 p) (qcol x4 h))

def dvP (p : Fin 4) (h h' : Fin 8) : FVec F S512x128 .f32 :=
  accT (prH pr x0 x3 p h') (accT (prH pr x0 x3 p h) zero128 (qcol x4 h)) (qcol x4 h')
def dkP (p : Fin 4) (h h' : Fin 8) : FVec F S512x128 .f32 :=
  accT (dsH pr x0 x1 x3 x4 p h') (accT (dsH pr x0 x1 x3 x4 p h) zero128 (qcol x3 h)) (qcol x3 h')
/-- The first head's rows are the first 64, the second's the others. -/
def dqP (p : Fin 4) (h h' : Fin 8) : FVec F S128x512 .f32 :=
  select (broadcastTo S128x512 (shapeCast S128x1 (cmpi .slt (iota .tc S128x1 32 [0] iota_S128x1_d0_w32) (broadcast S128x1 64#32)) shapeCasts_S128x1_S128x1)
      broadcasts_S128x1_S128x512)
    (dqT (krow x2 p) (dsH pr x0 x1 x3 x4 p h)) (dqT (krow x2 p) (dsH pr x0 x1 x3 x4 p h'))

def dcqA : FVec F S8x512 .f32 :=
  dcqT 7#32 (dsH pr x0 x1 x3 x4 3 7) (dcqT 6#32 (dsH pr x0 x1 x3 x4 3 6) (dcqT 5#32 (dsH pr x0 x1 x3 x4 2 5) (dcqT 4#32 (dsH pr x0 x1 x3 x4 2 4) (dcqT 3#32 (dsH pr x0 x1 x3 x4 1 3) (dcqT 2#32 (dsH pr x0 x1 x3 x4 1 2) (dcqT 1#32 (dsH pr x0 x1 x3 x4 0 1) (dcqT 0#32 (dsH pr x0 x1 x3 x4 0 0) zero8)))))))
def dckA : FVec F S512x128 .f32 :=
  dckT 7#32 (dsH pr x0 x1 x3 x4 3 7) (dckT 6#32 (dsH pr x0 x1 x3 x4 3 6) (dckT 5#32 (dsH pr x0 x1 x3 x4 2 5) (dckT 4#32 (dsH pr x0 x1 x3 x4 2 4) (dckT 3#32 (dsH pr x0 x1 x3 x4 1 3) (dckT 2#32 (dsH pr x0 x1 x3 x4 1 2) (dckT 1#32 (dsH pr x0 x1 x3 x4 0 1) (dckT 0#32 (dsH pr x0 x1 x3 x4 0 0) zero128)))))))

/-- The running gradients after the step. -/
def stepDk (b : Vec F S512x512 .f32) : Vec F S512x512 .f32 := glueCols ![shapeCast S512x128 (addf (ocol b 0) (dkP pr x0 x1 x3 x4 0 0 1)) shapeCasts_S512x128_S512x128, shapeCast S512x128 (addf (ocol b 1) (dkP pr x0 x1 x3 x4 1 2 3)) shapeCasts_S512x128_S512x128, shapeCast S512x128 (addf (ocol b 2) (dkP pr x0 x1 x3 x4 2 4 5)) shapeCasts_S512x128_S512x128, shapeCast S512x128 (addf (ocol b 3) (dkP pr x0 x1 x3 x4 3 6 7)) shapeCasts_S512x128_S512x128]
def stepDv (b : Vec F S512x512 .f32) : Vec F S512x512 .f32 := glueCols ![shapeCast S512x128 (addf (ocol b 0) (dvP pr x0 x3 x4 0 0 1)) shapeCasts_S512x128_S512x128, shapeCast S512x128 (addf (ocol b 1) (dvP pr x0 x3 x4 1 2 3)) shapeCasts_S512x128_S512x128, shapeCast S512x128 (addf (ocol b 2) (dvP pr x0 x3 x4 2 4 5)) shapeCasts_S512x128_S512x128, shapeCast S512x128 (addf (ocol b 3) (dvP pr x0 x3 x4 3 6 7)) shapeCasts_S512x128_S512x128]
def stepDck (b : Vec F S512x128 .f32) : Vec F S512x128 .f32 := shapeCast S512x128 (addf b (dckA pr x0 x1 x3 x4)) shapeCasts_S512x128_S512x128
def stepDq (o : ℕ) (b : Vec F S512x8192 .f32) : Vec F S512x8192 .f32 := glueRows o b ![addf (shapeCast S128x512 (qtile o b 0) shapeCasts_S128x512_S128x512) (dqP pr x0 x1 x2 x3 x4 0 0 1), addf (shapeCast S128x512 (qtile o b 1) shapeCasts_S128x512_S128x512) (dqP pr x0 x1 x2 x3 x4 1 2 3), addf (shapeCast S128x512 (qtile o b 2) shapeCasts_S128x512_S128x512) (dqP pr x0 x1 x2 x3 x4 2 4 5), addf (shapeCast S128x512 (qtile o b 3) shapeCasts_S128x512_S128x512) (dqP pr x0 x1 x2 x3 x4 3 6 7)]
def stepDcq (o : ℕ) (b : Vec F S8x8192 .f32) : Vec F S8x8192 .f32 := glueAt o b (addf (shapeCast S8x512 (ctile o b) shapeCasts_S8x512_S8x512) (dcqA pr x0 x1 x3 x4))

end Step

end Cert.KAttnIdeal.Gen

end
-- ==== Proof.Attn.StepM.lean ====
module

public import proofs.«01_k».proof.Proof.Attn.RunM
public import proofs.«01_k».proof.Proof.Attn.Tile

@[expose] public section

set_option maxRecDepth 16384

noncomputable section

namespace Cert.KAttnIdeal.Gen

open Idealize.ShloMosaic Idealize.ShloMosaic.TcCoe Idealize.ShloMosaic.Tactic Idealize.ShloMosaic.Shape
open Idealize.SL Idealize.SL.Sem Cert.Attn

variable {F : FTy → Type} [FloatOps F]

/-- What a running gradient holds after the clearing at the first point. -/
theorem base_read {m n : ℕ} {e : EltTy} {A : Memref sig .tc .vmem (⟨2, ![m, n]⟩ : Shape) e} (h : A.IsWhole)
    (x : (⟨2, ![m, n]⟩ : Shape).Idx → Elt F e) (p : Prop) [Decidable p] (inb) (z : (⟨2, ![m, n]⟩ : Shape).Idx → Elt F e) :
    View.read (Elt F) A.view (if _ : p then A.view.writes (Elt F) (h.unread x) [⟨Rect.unit (s := (⟨2, ![m, n]⟩ : Shape)) ![0, 0] ![m, n] inb, z⟩] else h.unread x)
      = if p then z else x := by
  split
  · exact read_full _ _ _ _ _
  · exact h.read_unread x

theorem runM_dk (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x512 .bf16) (harg5 : arg5.IsWhole) (arg6 : Memref sig .tc .vmem S512x2048 .bf16) (harg6 : arg6.IsWhole) (arg7 : Memref sig .tc .vmem S512x2048 .bf16) (harg7 : arg7.IsWhole) (arg8 : Memref sig .tc .vmem S8x128 .f32) (harg8 : arg8.IsWhole) (arg9 : Memref sig .tc .vmem S512x8192 .f32) (harg9 : arg9.IsWhole) (arg10 : Memref sig .tc .vmem S8x8192 .f32) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x128 .f32) (harg16 : arg16.IsWhole) (h3 : ¬k0_cond3 i = 1#1) (h4 : k0_cond4 i = 1#1) (x0 : Vec F S512x1024 .bf16) (x1 : Vec F S512x1024 .bf16) (x2 : Vec F S512x512 .bf16) (x3 : Vec F S512x2048 .bf16) (x4 : Vec F S512x2048 .bf16) (x5 : Vec F S8x128 .f32) (x6 : Vec F S512x8192 .f32) (x7 : Vec F S8x8192 .f32) (x8 : Vec F S512x512 .bf16) (x9 : Vec F S512x512 .bf16) (x10 : Vec F S512x128 .f32) (x11 : Vec F S512x512 .f32) (x12 : Vec F S512x512 .f32) (x13 : Vec F S512x128 .f32) : (runM c i arg3 harg3 arg4 harg4 arg5 harg5 arg6 harg6 arg7 harg7 arg8 harg8 arg9 harg9 arg10 harg10 arg11 harg11 arg12 harg12 arg13 harg13 arg14 harg14 arg15 harg15 arg16 harg16 h3 h4 x0 x1 x2 x3 x4 x5 x6 x7 x8 x9 x10 x11 x12 x13).2.2.2.2.2.1 = stepDk prM x0 x1 x3 x4 k0_pay3 := by
  refine (read_cols arg14.view _ _ _ _ _ _ _ _ _ _).trans ?_
  sl_unfold_words
  simp only [View.readAt_eq_ld, Memref.IsWhole.read_unread]
  rw [readCov_col3 arg14.view, readCov_col2 arg14.view, readCov_col1 arg14.view, readCov_col0 arg14.view]
  rfl

theorem runM_dv (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x512 .bf16) (harg5 : arg5.IsWhole) (arg6 : Memref sig .tc .vmem S512x2048 .bf16) (harg6 : arg6.IsWhole) (arg7 : Memref sig .tc .vmem S512x2048 .bf16) (harg7 : arg7.IsWhole) (arg8 : Memref sig .tc .vmem S8x128 .f32) (harg8 : arg8.IsWhole) (arg9 : Memref sig .tc .vmem S512x8192 .f32) (harg9 : arg9.IsWhole) (arg10 : Memref sig .tc .vmem S8x8192 .f32) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x128 .f32) (harg16 : arg16.IsWhole) (h3 : ¬k0_cond3 i = 1#1) (h4 : k0_cond4 i = 1#1) (x0 : Vec F S512x1024 .bf16) (x1 : Vec F S512x1024 .bf16) (x2 : Vec F S512x512 .bf16) (x3 : Vec F S512x2048 .bf16) (x4 : Vec F S512x2048 .bf16) (x5 : Vec F S8x128 .f32) (x6 : Vec F S512x8192 .f32) (x7 : Vec F S8x8192 .f32) (x8 : Vec F S512x512 .bf16) (x9 : Vec F S512x512 .bf16) (x10 : Vec F S512x128 .f32) (x11 : Vec F S512x512 .f32) (x12 : Vec F S512x512 .f32) (x13 : Vec F S512x128 .f32) : (runM c i arg3 harg3 arg4 harg4 arg5 harg5 arg6 harg6 arg7 harg7 arg8 harg8 arg9 harg9 arg10 harg10 arg11 harg11 arg12 harg12 arg13 harg13 arg14 harg14 arg15 harg15 arg16 harg16 h3 h4 x0 x1 x2 x3 x4 x5 x6 x7 x8 x9 x10 x11 x12 x13).2.2.2.2.2.2.1 = stepDv prM x0 x3 x4 k0_pay4 := by
  refine (read_cols arg15.view _ _ _ _ _ _ _ _ _ _).trans ?_
  sl_unfold_words
  simp only [View.readAt_eq_ld, Memref.IsWhole.read_unread]
  rw [readCov_col3 arg15.view, readCov_col2 arg15.view, readCov_col1 arg15.view, readCov_col0 arg15.view]
  rfl

theorem runM_dck (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x512 .bf16) (harg5 : arg5.IsWhole) (arg6 : Memref sig .tc .vmem S512x2048 .bf16) (harg6 : arg6.IsWhole) (arg7 : Memref sig .tc .vmem S512x2048 .bf16) (harg7 : arg7.IsWhole) (arg8 : Memref sig .tc .vmem S8x128 .f32) (harg8 : arg8.IsWhole) (arg9 : Memref sig .tc .vmem S512x8192 .f32) (harg9 : arg9.IsWhole) (arg10 : Memref sig .tc .vmem S8x8192 .f32) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x128 .f32) (harg16 : arg16.IsWhole) (h3 : ¬k0_cond3 i = 1#1) (h4 : k0_cond4 i = 1#1) (x0 : Vec F S512x1024 .bf16) (x1 : Vec F S512x1024 .bf16) (x2 : Vec F S512x512 .bf16) (x3 : Vec F S512x2048 .bf16) (x4 : Vec F S512x2048 .bf16) (x5 : Vec F S8x128 .f32) (x6 : Vec F S512x8192 .f32) (x7 : Vec F S8x8192 .f32) (x8 : Vec F S512x512 .bf16) (x9 : Vec F S512x512 .bf16) (x10 : Vec F S512x128 .f32) (x11 : Vec F S512x512 .f32) (x12 : Vec F S512x512 .f32) (x13 : Vec F S512x128 .f32) : (runM c i arg3 harg3 arg4 harg4 arg5 harg5 arg6 harg6 arg7 harg7 arg8 harg8 arg9 harg9 arg10 harg10 arg11 harg11 arg12 harg12 arg13 harg13 arg14 harg14 arg15 harg15 arg16 harg16 h3 h4 x0 x1 x2 x3 x4 x5 x6 x7 x8 x9 x10 x11 x12 x13).2.2.2.2.2.2.2.1 = stepDck prM x0 x1 x3 x4 k0_pay5 := by
  refine (read_full arg16.view _ _ _ _).trans ?_
  sl_unfold_words
  simp only [View.readAt_eq_ld, Memref.IsWhole.read_unread]
  rw [readCov_full arg16.view]
  rfl

theorem runM_dq (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x512 .bf16) (harg5 : arg5.IsWhole) (arg6 : Memref sig .tc .vmem S512x2048 .bf16) (harg6 : arg6.IsWhole) (arg7 : Memref sig .tc .vmem S512x2048 .bf16) (harg7 : arg7.IsWhole) (arg8 : Memref sig .tc .vmem S8x128 .f32) (harg8 : arg8.IsWhole) (arg9 : Memref sig .tc .vmem S512x8192 .f32) (harg9 : arg9.IsWhole) (arg10 : Memref sig .tc .vmem S8x8192 .f32) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x128 .f32) (harg16 : arg16.IsWhole) (h3 : ¬k0_cond3 i = 1#1) (h4 : k0_cond4 i = 1#1) (x0 : Vec F S512x1024 .bf16) (x1 : Vec F S512x1024 .bf16) (x2 : Vec F S512x512 .bf16) (x3 : Vec F S512x2048 .bf16) (x4 : Vec F S512x2048 .bf16) (x5 : Vec F S8x128 .f32) (x6 : Vec F S512x8192 .f32) (x7 : Vec F S8x8192 .f32) (x8 : Vec F S512x512 .bf16) (x9 : Vec F S512x512 .bf16) (x10 : Vec F S512x128 .f32) (x11 : Vec F S512x512 .f32) (x12 : Vec F S512x512 .f32) (x13 : Vec F S512x128 .f32) : (runM c i arg3 harg3 arg4 harg4 arg5 harg5 arg6 harg6 arg7 harg7 arg8 harg8 arg9 harg9 arg10 harg10 arg11 harg11 arg12 harg12 arg13 harg13 arg14 harg14 arg15 harg15 arg16 harg16 h3 h4 x0 x1 x2 x3 x4 x5 x6 x7 x8 x9 x10 x11 x12 x13).1 = stepDq prM x0 x1 x2 x3 x4 (512 * qb i) (if k0_cond1 i = 1#1 then k0_pay1 else x6) := by
  unfold stepDq
  rw [← ld_qtile (if k0_cond1 i = 1#1 then k0_pay1 else x6) 0 (off6_eq i) (k0_off6_inb i h4), ← ld_qtile (if k0_cond1 i = 1#1 then k0_pay1 else x6) 1 (off7_eq i) (k0_off7_inb i h4), ← ld_qtile (if k0_cond1 i = 1#1 then k0_pay1 else x6) 2 (off8_eq i) (k0_off8_inb i h4), ← ld_qtile (if k0_cond1 i = 1#1 then k0_pay1 else x6) 3 (off9_eq i) (k0_off9_inb i h4)]
  refine (read_rows arg9.view _ (off6_eq i) (off7_eq i) (off8_eq i) (off9_eq i) _ _ _ _ _ _ _ _).trans ?_
  sl_unfold_words
  simp only [View.readAt_eq_ld, Memref.IsWhole.read_unread]
  rw [← base_read harg9 x6 (k0_cond1 i = 1#1) inb_S512x8192_S512x8192_0_0 k0_pay1]
  rfl

theorem runM_dcq (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x512 .bf16) (harg5 : arg5.IsWhole) (arg6 : Memref sig .tc .vmem S512x2048 .bf16) (harg6 : arg6.IsWhole) (arg7 : Memref sig .tc .vmem S512x2048 .bf16) (harg7 : arg7.IsWhole) (arg8 : Memref sig .tc .vmem S8x128 .f32) (harg8 : arg8.IsWhole) (arg9 : Memref sig .tc .vmem S512x8192 .f32) (harg9 : arg9.IsWhole) (arg10 : Memref sig .tc .vmem S8x8192 .f32) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x128 .f32) (harg16 : arg16.IsWhole) (h3 : ¬k0_cond3 i = 1#1) (h4 : k0_cond4 i = 1#1) (x0 : Vec F S512x1024 .bf16) (x1 : Vec F S512x1024 .bf16) (x2 : Vec F S512x512 .bf16) (x3 : Vec F S512x2048 .bf16) (x4 : Vec F S512x2048 .bf16) (x5 : Vec F S8x128 .f32) (x6 : Vec F S512x8192 .f32) (x7 : Vec F S8x8192 .f32) (x8 : Vec F S512x512 .bf16) (x9 : Vec F S512x512 .bf16) (x10 : Vec F S512x128 .f32) (x11 : Vec F S512x512 .f32) (x12 : Vec F S512x512 .f32) (x13 : Vec F S512x128 .f32) : (runM c i arg3 harg3 arg4 harg4 arg5 harg5 arg6 harg6 arg7 harg7 arg8 harg8 arg9 harg9 arg10 harg10 arg11 harg11 arg12 harg12 arg13 harg13 arg14 harg14 arg15 harg15 arg16 harg16 h3 h4 x0 x1 x2 x3 x4 x5 x6 x7 x8 x9 x10 x11 x12 x13).2.1 = stepDcq prM x0 x1 x3 x4 (512 * qb i) (if k0_cond1 i = 1#1 then k0_pay2 else x7) := by
  unfold stepDcq
  rw [← ld_ctile (if k0_cond1 i = 1#1 then k0_pay2 else x7) (off10_eq i) (k0_off10_inb i h4)]
  refine (read_at arg10.view _ (off10_eq i) _ _).trans ?_
  sl_unfold_words
  simp only [View.readAt_eq_ld, Memref.IsWhole.read_unread]
  rw [← base_read harg10 x7 (k0_cond1 i = 1#1) inb_S8x8192_S8x8192_0_0 k0_pay2]
  rfl

theorem runM_out8 (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x512 .bf16) (harg5 : arg5.IsWhole) (arg6 : Memref sig .tc .vmem S512x2048 .bf16) (harg6 : arg6.IsWhole) (arg7 : Memref sig .tc .vmem S512x2048 .bf16) (harg7 : arg7.IsWhole) (arg8 : Memref sig .tc .vmem S8x128 .f32) (harg8 : arg8.IsWhole) (arg9 : Memref sig .tc .vmem S512x8192 .f32) (harg9 : arg9.IsWhole) (arg10 : Memref sig .tc .vmem S8x8192 .f32) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x128 .f32) (harg16 : arg16.IsWhole) (h3 : ¬k0_cond3 i = 1#1) (h4 : k0_cond4 i = 1#1) (x0 : Vec F S512x1024 .bf16) (x1 : Vec F S512x1024 .bf16) (x2 : Vec F S512x512 .bf16) (x3 : Vec F S512x2048 .bf16) (x4 : Vec F S512x2048 .bf16) (x5 : Vec F S8x128 .f32) (x6 : Vec F S512x8192 .f32) (x7 : Vec F S8x8192 .f32) (x8 : Vec F S512x512 .bf16) (x9 : Vec F S512x512 .bf16) (x10 : Vec F S512x128 .f32) (x11 : Vec F S512x512 .f32) (x12 : Vec F S512x512 .f32) (x13 : Vec F S512x128 .f32) : (runM c i arg3 harg3 arg4 harg4 arg5 harg5 arg6 harg6 arg7 harg7 arg8 harg8 arg9 harg9 arg10 harg10 arg11 harg11 arg12 harg12 arg13 harg13 arg14 harg14 arg15 harg15 arg16 harg16 h3 h4 x0 x1 x2 x3 x4 x5 x6 x7 x8 x9 x10 x11 x12 x13).2.2.1 = if k0_cond5 i = 1#1 then k0_pay8 (stepDk prM x0 x1 x3 x4 k0_pay3) else x8 := by
  show View.read (Elt F) arg11.view (if hc : k0_cond5 i = 1#1 then _ else _) = _
  split
  · refine (read_full arg11.view _ _ _ _).trans (congrArg k0_pay8 ?_)
    refine (readCov_cols arg14.view _ _ _ _ _ _ _ _ _ _).trans ?_
    sl_unfold_words
    simp only [View.readAt_eq_ld, Memref.IsWhole.read_unread]
    rw [readCov_col3 arg14.view, readCov_col2 arg14.view, readCov_col1 arg14.view, readCov_col0 arg14.view]
    rfl
  · exact harg11.read_unread _

theorem runM_out9 (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x512 .bf16) (harg5 : arg5.IsWhole) (arg6 : Memref sig .tc .vmem S512x2048 .bf16) (harg6 : arg6.IsWhole) (arg7 : Memref sig .tc .vmem S512x2048 .bf16) (harg7 : arg7.IsWhole) (arg8 : Memref sig .tc .vmem S8x128 .f32) (harg8 : arg8.IsWhole) (arg9 : Memref sig .tc .vmem S512x8192 .f32) (harg9 : arg9.IsWhole) (arg10 : Memref sig .tc .vmem S8x8192 .f32) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x128 .f32) (harg16 : arg16.IsWhole) (h3 : ¬k0_cond3 i = 1#1) (h4 : k0_cond4 i = 1#1) (x0 : Vec F S512x1024 .bf16) (x1 : Vec F S512x1024 .bf16) (x2 : Vec F S512x512 .bf16) (x3 : Vec F S512x2048 .bf16) (x4 : Vec F S512x2048 .bf16) (x5 : Vec F S8x128 .f32) (x6 : Vec F S512x8192 .f32) (x7 : Vec F S8x8192 .f32) (x8 : Vec F S512x512 .bf16) (x9 : Vec F S512x512 .bf16) (x10 : Vec F S512x128 .f32) (x11 : Vec F S512x512 .f32) (x12 : Vec F S512x512 .f32) (x13 : Vec F S512x128 .f32) : (runM c i arg3 harg3 arg4 harg4 arg5 harg5 arg6 harg6 arg7 harg7 arg8 harg8 arg9 harg9 arg10 harg10 arg11 harg11 arg12 harg12 arg13 harg13 arg14 harg14 arg15 harg15 arg16 harg16 h3 h4 x0 x1 x2 x3 x4 x5 x6 x7 x8 x9 x10 x11 x12 x13).2.2.2.1 = if k0_cond5 i = 1#1 then k0_pay9 (stepDv prM x0 x3 x4 k0_pay4) else x9 := by
  show View.read (Elt F) arg12.view (if hc : k0_cond5 i = 1#1 then _ else _) = _
  split
  · refine (read_full arg12.view _ _ _ _).trans (congrArg k0_pay9 ?_)
    refine (readCov_cols arg15.view _ _ _ _ _ _ _ _ _ _).trans ?_
    sl_unfold_words
    simp only [View.readAt_eq_ld, Memref.IsWhole.read_unread]
    rw [readCov_col3 arg15.view, readCov_col2 arg15.view, readCov_col1 arg15.view, readCov_col0 arg15.view]
    rfl
  · exact harg12.read_unread _

theorem runM_out10 (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x512 .bf16) (harg5 : arg5.IsWhole) (arg6 : Memref sig .tc .vmem S512x2048 .bf16) (harg6 : arg6.IsWhole) (arg7 : Memref sig .tc .vmem S512x2048 .bf16) (harg7 : arg7.IsWhole) (arg8 : Memref sig .tc .vmem S8x128 .f32) (harg8 : arg8.IsWhole) (arg9 : Memref sig .tc .vmem S512x8192 .f32) (harg9 : arg9.IsWhole) (arg10 : Memref sig .tc .vmem S8x8192 .f32) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x128 .f32) (harg16 : arg16.IsWhole) (h3 : ¬k0_cond3 i = 1#1) (h4 : k0_cond4 i = 1#1) (x0 : Vec F S512x1024 .bf16) (x1 : Vec F S512x1024 .bf16) (x2 : Vec F S512x512 .bf16) (x3 : Vec F S512x2048 .bf16) (x4 : Vec F S512x2048 .bf16) (x5 : Vec F S8x128 .f32) (x6 : Vec F S512x8192 .f32) (x7 : Vec F S8x8192 .f32) (x8 : Vec F S512x512 .bf16) (x9 : Vec F S512x512 .bf16) (x10 : Vec F S512x128 .f32) (x11 : Vec F S512x512 .f32) (x12 : Vec F S512x512 .f32) (x13 : Vec F S512x128 .f32) : (runM c i arg3 harg3 arg4 harg4 arg5 harg5 arg6 harg6 arg7 harg7 arg8 harg8 arg9 harg9 arg10 harg10 arg11 harg11 arg12 harg12 arg13 harg13 arg14 harg14 arg15 harg15 arg16 harg16 h3 h4 x0 x1 x2 x3 x4 x5 x6 x7 x8 x9 x10 x11 x12 x13).2.2.2.2.1 = if k0_cond5 i = 1#1 then stepDck prM x0 x1 x3 x4 k0_pay5 else x10 := by
  show View.read (Elt F) arg13.view (if hc : k0_cond5 i = 1#1 then _ else _) = _
  split
  · refine (read_full arg13.view _ _ _ _).trans ?_
    refine (readCov_full arg16.view _ _ _ _).trans ?_
    sl_unfold_words
    simp only [View.readAt_eq_ld, Memref.IsWhole.read_unread]
    rw [readCov_full arg16.view]
    rfl
  · exact harg13.read_unread _

end Cert.KAttnIdeal.Gen

end
-- ==== Proof.Attn.RunU.lean ====
module

public import proofs.«01_k».proof.Proof.Gen.KAttnIdeal.Skeleton
public import proofs.«01_k».proof.Proof.Attn.Grid

@[expose] public section

set_option maxRecDepth 16384

noncomputable section

namespace Cert.KAttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- What the body leaves in each buffer it stores into at a point below the diagonal: the step is not masked, with
    the proof that it does. The run finds the contents; `y6` and `y7` are the two running gradients by query, `y8` … `y10` the
    gradients by key as they leave, `y11` … `y13` the same while they run. -/
def runU (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x512 .bf16) (harg5 : arg5.IsWhole) (arg6 : Memref sig .tc .vmem S512x2048 .bf16) (harg6 : arg6.IsWhole) (arg7 : Memref sig .tc .vmem S512x2048 .bf16) (harg7 : arg7.IsWhole) (arg8 : Memref sig .tc .vmem S8x128 .f32) (harg8 : arg8.IsWhole) (arg9 : Memref sig .tc .vmem S512x8192 .f32) (harg9 : arg9.IsWhole) (arg10 : Memref sig .tc .vmem S8x8192 .f32) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x128 .f32) (harg16 : arg16.IsWhole)
    (h1 : ¬k0_cond1 i = 1#1) (h3 : k0_cond3 i = 1#1) (h4 : ¬k0_cond4 i = 1#1) (x0 : Vec F S512x1024 .bf16) (x1 : Vec F S512x1024 .bf16) (x2 : Vec F S512x512 .bf16) (x3 : Vec F S512x2048 .bf16) (x4 : Vec F S512x2048 .bf16) (x5 : Vec F S8x128 .f32) (x6 : Vec F S512x8192 .f32) (x7 : Vec F S8x8192 .f32) (x8 : Vec F S512x512 .bf16) (x9 : Vec F S512x512 .bf16) (x10 : Vec F S512x128 .f32) (x11 : Vec F S512x512 .f32) (x12 : Vec F S512x512 .f32) (x13 : Vec F S512x128 .f32) :
    Σ' (y6 : Vec F S512x8192 .f32) (y7 : Vec F S8x8192 .f32) (y8 : Vec F S512x512 .bf16) (y9 : Vec F S512x512 .bf16) (y10 : Vec F S512x128 .f32)
      (y11 : Vec F S512x512 .f32) (y12 : Vec F S512x512 .f32), { y13 : Vec F S512x128 .f32 // ∀ (E : Set ℕ) (K : PUnit → sProp 𝕄),
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare y6 ∗ owns (c : Thread nD τ) arg10 fullShare y7 ∗ owns (c : Thread nD τ) arg11 fullShare y8 ∗ owns (c : Thread nD τ) arg12 fullShare y9 ∗ owns (c : Thread nD τ) arg13 fullShare y10 ∗ owns (c : Thread nD τ) arg14 fullShare y11 ∗ owns (c : Thread nD τ) arg15 fullShare y12 ∗ owns (c : Thread nD τ) arg16 fullShare y13) -∗ K ⟨⟩))
      ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, ?_, ?_, fun E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13
    sl_exec (disch := first | sl_exact h3 | sl_exact h4 | sl_exact h1)
    sl_step
    iapply Hk
    isplitl [H0]
    · iexists _; isplitr; swap; · iexact H0
      ipureintro; exact harg3.read_unread _
    isplitl [H1]
    · iexists _; isplitr; swap; · iexact H1
      ipureintro; exact harg4.read_unread _
    isplitl [H2]
    · iexists _; isplitr; swap; · iexact H2
      ipureintro; exact harg5.read_unread _
    isplitl [H3]
    · iexists _; isplitr; swap; · iexact H3
      ipureintro; exact harg6.read_unread _
    isplitl [H4]
    · iexists _; isplitr; swap; · iexact H4
      ipureintro; exact harg7.read_unread _
    isplitl [H5]
    · iexists _; isplitr; swap; · iexact H5
      ipureintro; exact harg8.read_unread _
    isplitl [H6]
    · iexists _; isplitr; swap; · iexact H6
      ipureintro; exact rfl
    isplitl [H7]
    · iexists _; isplitr; swap; · iexact H7
      ipureintro; exact rfl
    isplitl [H8]
    · iexists _; isplitr; swap; · iexact H8
      ipureintro; exact rfl
    isplitl [H9]
    · iexists _; isplitr; swap; · iexact H9
      ipureintro; exact rfl
    isplitl [H10]
    · iexists _; isplitr; swap; · iexact H10
      ipureintro; exact rfl
    isplitl [H11]
    · iexists _; isplitr; swap; · iexact H11
      ipureintro; exact rfl
    isplitl [H12]
    · iexists _; isplitr; swap; · iexact H12
      ipureintro; exact rfl
    iexists _; isplitr; swap; · iexact H13
    ipureintro; exact rfl

end Cert.KAttnIdeal.Gen

end
-- ==== Proof.Attn.StepU.lean ====
module

public import proofs.«01_k».proof.Proof.Attn.RunU
public import proofs.«01_k».proof.Proof.Attn.Tile

@[expose] public section

set_option maxRecDepth 16384

noncomputable section

namespace Cert.KAttnIdeal.Gen

open Idealize.ShloMosaic Idealize.ShloMosaic.TcCoe Idealize.ShloMosaic.Tactic Idealize.ShloMosaic.Shape
open Idealize.SL Idealize.SL.Sem Cert.Attn

variable {F : FTy → Type} [FloatOps F]

theorem runU_dk (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x512 .bf16) (harg5 : arg5.IsWhole) (arg6 : Memref sig .tc .vmem S512x2048 .bf16) (harg6 : arg6.IsWhole) (arg7 : Memref sig .tc .vmem S512x2048 .bf16) (harg7 : arg7.IsWhole) (arg8 : Memref sig .tc .vmem S8x128 .f32) (harg8 : arg8.IsWhole) (arg9 : Memref sig .tc .vmem S512x8192 .f32) (harg9 : arg9.IsWhole) (arg10 : Memref sig .tc .vmem S8x8192 .f32) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x128 .f32) (harg16 : arg16.IsWhole) (h1 : ¬k0_cond1 i = 1#1) (h3 : k0_cond3 i = 1#1) (h4 : ¬k0_cond4 i = 1#1) (x0 : Vec F S512x1024 .bf16) (x1 : Vec F S512x1024 .bf16) (x2 : Vec F S512x512 .bf16) (x3 : Vec F S512x2048 .bf16) (x4 : Vec F S512x2048 .bf16) (x5 : Vec F S8x128 .f32) (x6 : Vec F S512x8192 .f32) (x7 : Vec F S8x8192 .f32) (x8 : Vec F S512x512 .bf16) (x9 : Vec F S512x512 .bf16) (x10 : Vec F S512x128 .f32) (x11 : Vec F S512x512 .f32) (x12 : Vec F S512x512 .f32) (x13 : Vec F S512x128 .f32) : (runU c i arg3 harg3 arg4 harg4 arg5 harg5 arg6 harg6 arg7 harg7 arg8 harg8 arg9 harg9 arg10 harg10 arg11 harg11 arg12 harg12 arg13 harg13 arg14 harg14 arg15 harg15 arg16 harg16 h1 h3 h4 x0 x1 x2 x3 x4 x5 x6 x7 x8 x9 x10 x11 x12 x13).2.2.2.2.2.1 = stepDk prU x0 x1 x3 x4 x11 := by
  refine (read_cols arg14.view _ _ _ _ _ _ _ _ _ _).trans ?_
  sl_unfold_words
  simp only [View.readAt_eq_ld, Memref.IsWhole.read_unread]
  rfl

theorem runU_dv (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x512 .bf16) (harg5 : arg5.IsWhole) (arg6 : Memref sig .tc .vmem S512x2048 .bf16) (harg6 : arg6.IsWhole) (arg7 : Memref sig .tc .vmem S512x2048 .bf16) (harg7 : arg7.IsWhole) (arg8 : Memref sig .tc .vmem S8x128 .f32) (harg8 : arg8.IsWhole) (arg9 : Memref sig .tc .vmem S512x8192 .f32) (harg9 : arg9.IsWhole) (arg10 : Memref sig .tc .vmem S8x8192 .f32) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x128 .f32) (harg16 : arg16.IsWhole) (h1 : ¬k0_cond1 i = 1#1) (h3 : k0_cond3 i = 1#1) (h4 : ¬k0_cond4 i = 1#1) (x0 : Vec F S512x1024 .bf16) (x1 : Vec F S512x1024 .bf16) (x2 : Vec F S512x512 .bf16) (x3 : Vec F S512x2048 .bf16) (x4 : Vec F S512x2048 .bf16) (x5 : Vec F S8x128 .f32) (x6 : Vec F S512x8192 .f32) (x7 : Vec F S8x8192 .f32) (x8 : Vec F S512x512 .bf16) (x9 : Vec F S512x512 .bf16) (x10 : Vec F S512x128 .f32) (x11 : Vec F S512x512 .f32) (x12 : Vec F S512x512 .f32) (x13 : Vec F S512x128 .f32) : (runU c i arg3 harg3 arg4 harg4 arg5 harg5 arg6 harg6 arg7 harg7 arg8 harg8 arg9 harg9 arg10 harg10 arg11 harg11 arg12 harg12 arg13 harg13 arg14 harg14 arg15 harg15 arg16 harg16 h1 h3 h4 x0 x1 x2 x3 x4 x5 x6 x7 x8 x9 x10 x11 x12 x13).2.2.2.2.2.2.1 = stepDv prU x0 x3 x4 x12 := by
  refine (read_cols arg15.view _ _ _ _ _ _ _ _ _ _).trans ?_
  sl_unfold_words
  simp only [View.readAt_eq_ld, Memref.IsWhole.read_unread]
  rfl

theorem runU_dck (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x512 .bf16) (harg5 : arg5.IsWhole) (arg6 : Memref sig .tc .vmem S512x2048 .bf16) (harg6 : arg6.IsWhole) (arg7 : Memref sig .tc .vmem S512x2048 .bf16) (harg7 : arg7.IsWhole) (arg8 : Memref sig .tc .vmem S8x128 .f32) (harg8 : arg8.IsWhole) (arg9 : Memref sig .tc .vmem S512x8192 .f32) (harg9 : arg9.IsWhole) (arg10 : Memref sig .tc .vmem S8x8192 .f32) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x128 .f32) (harg16 : arg16.IsWhole) (h1 : ¬k0_cond1 i = 1#1) (h3 : k0_cond3 i = 1#1) (h4 : ¬k0_cond4 i = 1#1) (x0 : Vec F S512x1024 .bf16) (x1 : Vec F S512x1024 .bf16) (x2 : Vec F S512x512 .bf16) (x3 : Vec F S512x2048 .bf16) (x4 : Vec F S512x2048 .bf16) (x5 : Vec F S8x128 .f32) (x6 : Vec F S512x8192 .f32) (x7 : Vec F S8x8192 .f32) (x8 : Vec F S512x512 .bf16) (x9 : Vec F S512x512 .bf16) (x10 : Vec F S512x128 .f32) (x11 : Vec F S512x512 .f32) (x12 : Vec F S512x512 .f32) (x13 : Vec F S512x128 .f32) : (runU c i arg3 harg3 arg4 harg4 arg5 harg5 arg6 harg6 arg7 harg7 arg8 harg8 arg9 harg9 arg10 harg10 arg11 harg11 arg12 harg12 arg13 harg13 arg14 harg14 arg15 harg15 arg16 harg16 h1 h3 h4 x0 x1 x2 x3 x4 x5 x6 x7 x8 x9 x10 x11 x12 x13).2.2.2.2.2.2.2.1 = stepDck prU x0 x1 x3 x4 x13 := by
  refine (read_full arg16.view _ _ _ _).trans ?_
  sl_unfold_words
  simp only [View.readAt_eq_ld, Memref.IsWhole.read_unread]
  exact congrArg (stepDck prU x0 x1 x3 x4) (View.ld_unit_zero (S := S512x128) off00 inb_S512x128_S512x128_0_0 x13)

theorem runU_dq (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x512 .bf16) (harg5 : arg5.IsWhole) (arg6 : Memref sig .tc .vmem S512x2048 .bf16) (harg6 : arg6.IsWhole) (arg7 : Memref sig .tc .vmem S512x2048 .bf16) (harg7 : arg7.IsWhole) (arg8 : Memref sig .tc .vmem S8x128 .f32) (harg8 : arg8.IsWhole) (arg9 : Memref sig .tc .vmem S512x8192 .f32) (harg9 : arg9.IsWhole) (arg10 : Memref sig .tc .vmem S8x8192 .f32) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x128 .f32) (harg16 : arg16.IsWhole) (h1 : ¬k0_cond1 i = 1#1) (h3 : k0_cond3 i = 1#1) (h4 : ¬k0_cond4 i = 1#1) (x0 : Vec F S512x1024 .bf16) (x1 : Vec F S512x1024 .bf16) (x2 : Vec F S512x512 .bf16) (x3 : Vec F S512x2048 .bf16) (x4 : Vec F S512x2048 .bf16) (x5 : Vec F S8x128 .f32) (x6 : Vec F S512x8192 .f32) (x7 : Vec F S8x8192 .f32) (x8 : Vec F S512x512 .bf16) (x9 : Vec F S512x512 .bf16) (x10 : Vec F S512x128 .f32) (x11 : Vec F S512x512 .f32) (x12 : Vec F S512x512 .f32) (x13 : Vec F S512x128 .f32) : (runU c i arg3 harg3 arg4 harg4 arg5 harg5 arg6 harg6 arg7 harg7 arg8 harg8 arg9 harg9 arg10 harg10 arg11 harg11 arg12 harg12 arg13 harg13 arg14 harg14 arg15 harg15 arg16 harg16 h1 h3 h4 x0 x1 x2 x3 x4 x5 x6 x7 x8 x9 x10 x11 x12 x13).1 = stepDq prU x0 x1 x2 x3 x4 (512 * qb i) x6 := by
  unfold stepDq
  rw [← ld_qtile x6 0 (off1_eq i) (k0_off1_inb i h3), ← ld_qtile x6 1 (off2_eq i) (k0_off2_inb i h3), ← ld_qtile x6 2 (off3_eq i) (k0_off3_inb i h3), ← ld_qtile x6 3 (off4_eq i) (k0_off4_inb i h3)]
  refine (read_rows arg9.view _ (off1_eq i) (off2_eq i) (off3_eq i) (off4_eq i) _ _ _ _ _ _ _ _).trans ?_
  sl_unfold_words
  simp only [View.readAt_eq_ld, Memref.IsWhole.read_unread]
  rfl

theorem runU_dcq (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x512 .bf16) (harg5 : arg5.IsWhole) (arg6 : Memref sig .tc .vmem S512x2048 .bf16) (harg6 : arg6.IsWhole) (arg7 : Memref sig .tc .vmem S512x2048 .bf16) (harg7 : arg7.IsWhole) (arg8 : Memref sig .tc .vmem S8x128 .f32) (harg8 : arg8.IsWhole) (arg9 : Memref sig .tc .vmem S512x8192 .f32) (harg9 : arg9.IsWhole) (arg10 : Memref sig .tc .vmem S8x8192 .f32) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x128 .f32) (harg16 : arg16.IsWhole) (h1 : ¬k0_cond1 i = 1#1) (h3 : k0_cond3 i = 1#1) (h4 : ¬k0_cond4 i = 1#1) (x0 : Vec F S512x1024 .bf16) (x1 : Vec F S512x1024 .bf16) (x2 : Vec F S512x512 .bf16) (x3 : Vec F S512x2048 .bf16) (x4 : Vec F S512x2048 .bf16) (x5 : Vec F S8x128 .f32) (x6 : Vec F S512x8192 .f32) (x7 : Vec F S8x8192 .f32) (x8 : Vec F S512x512 .bf16) (x9 : Vec F S512x512 .bf16) (x10 : Vec F S512x128 .f32) (x11 : Vec F S512x512 .f32) (x12 : Vec F S512x512 .f32) (x13 : Vec F S512x128 .f32) : (runU c i arg3 harg3 arg4 harg4 arg5 harg5 arg6 harg6 arg7 harg7 arg8 harg8 arg9 harg9 arg10 harg10 arg11 harg11 arg12 harg12 arg13 harg13 arg14 harg14 arg15 harg15 arg16 harg16 h1 h3 h4 x0 x1 x2 x3 x4 x5 x6 x7 x8 x9 x10 x11 x12 x13).2.1 = stepDcq prU x0 x1 x3 x4 (512 * qb i) x7 := by
  unfold stepDcq
  rw [← ld_ctile x7 (off5_eq i) (k0_off5_inb i h3)]
  refine (read_at arg10.view _ (off5_eq i) _ _).trans ?_
  sl_unfold_words
  simp only [View.readAt_eq_ld, Memref.IsWhole.read_unread]
  rfl

theorem runU_out8 (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x512 .bf16) (harg5 : arg5.IsWhole) (arg6 : Memref sig .tc .vmem S512x2048 .bf16) (harg6 : arg6.IsWhole) (arg7 : Memref sig .tc .vmem S512x2048 .bf16) (harg7 : arg7.IsWhole) (arg8 : Memref sig .tc .vmem S8x128 .f32) (harg8 : arg8.IsWhole) (arg9 : Memref sig .tc .vmem S512x8192 .f32) (harg9 : arg9.IsWhole) (arg10 : Memref sig .tc .vmem S8x8192 .f32) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x128 .f32) (harg16 : arg16.IsWhole) (h1 : ¬k0_cond1 i = 1#1) (h3 : k0_cond3 i = 1#1) (h4 : ¬k0_cond4 i = 1#1) (x0 : Vec F S512x1024 .bf16) (x1 : Vec F S512x1024 .bf16) (x2 : Vec F S512x512 .bf16) (x3 : Vec F S512x2048 .bf16) (x4 : Vec F S512x2048 .bf16) (x5 : Vec F S8x128 .f32) (x6 : Vec F S512x8192 .f32) (x7 : Vec F S8x8192 .f32) (x8 : Vec F S512x512 .bf16) (x9 : Vec F S512x512 .bf16) (x10 : Vec F S512x128 .f32) (x11 : Vec F S512x512 .f32) (x12 : Vec F S512x512 .f32) (x13 : Vec F S512x128 .f32) : (runU c i arg3 harg3 arg4 harg4 arg5 harg5 arg6 harg6 arg7 harg7 arg8 harg8 arg9 harg9 arg10 harg10 arg11 harg11 arg12 harg12 arg13 harg13 arg14 harg14 arg15 harg15 arg16 harg16 h1 h3 h4 x0 x1 x2 x3 x4 x5 x6 x7 x8 x9 x10 x11 x12 x13).2.2.1 = if k0_cond5 i = 1#1 then k0_pay8 (stepDk prU x0 x1 x3 x4 x11) else x8 := by
  show View.read (Elt F) arg11.view (if hc : k0_cond5 i = 1#1 then _ else _) = _
  split
  · refine (read_full arg11.view _ _ _ _).trans (congrArg k0_pay8 ?_)
    refine (readCov_cols arg14.view _ _ _ _ _ _ _ _ _ _).trans ?_
    sl_unfold_words
    simp only [View.readAt_eq_ld, Memref.IsWhole.read_unread]
    rfl
  · exact harg11.read_unread _

theorem runU_out9 (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x512 .bf16) (harg5 : arg5.IsWhole) (arg6 : Memref sig .tc .vmem S512x2048 .bf16) (harg6 : arg6.IsWhole) (arg7 : Memref sig .tc .vmem S512x2048 .bf16) (harg7 : arg7.IsWhole) (arg8 : Memref sig .tc .vmem S8x128 .f32) (harg8 : arg8.IsWhole) (arg9 : Memref sig .tc .vmem S512x8192 .f32) (harg9 : arg9.IsWhole) (arg10 : Memref sig .tc .vmem S8x8192 .f32) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x128 .f32) (harg16 : arg16.IsWhole) (h1 : ¬k0_cond1 i = 1#1) (h3 : k0_cond3 i = 1#1) (h4 : ¬k0_cond4 i = 1#1) (x0 : Vec F S512x1024 .bf16) (x1 : Vec F S512x1024 .bf16) (x2 : Vec F S512x512 .bf16) (x3 : Vec F S512x2048 .bf16) (x4 : Vec F S512x2048 .bf16) (x5 : Vec F S8x128 .f32) (x6 : Vec F S512x8192 .f32) (x7 : Vec F S8x8192 .f32) (x8 : Vec F S512x512 .bf16) (x9 : Vec F S512x512 .bf16) (x10 : Vec F S512x128 .f32) (x11 : Vec F S512x512 .f32) (x12 : Vec F S512x512 .f32) (x13 : Vec F S512x128 .f32) : (runU c i arg3 harg3 arg4 harg4 arg5 harg5 arg6 harg6 arg7 harg7 arg8 harg8 arg9 harg9 arg10 harg10 arg11 harg11 arg12 harg12 arg13 harg13 arg14 harg14 arg15 harg15 arg16 harg16 h1 h3 h4 x0 x1 x2 x3 x4 x5 x6 x7 x8 x9 x10 x11 x12 x13).2.2.2.1 = if k0_cond5 i = 1#1 then k0_pay9 (stepDv prU x0 x3 x4 x12) else x9 := by
  show View.read (Elt F) arg12.view (if hc : k0_cond5 i = 1#1 then _ else _) = _
  split
  · refine (read_full arg12.view _ _ _ _).trans (congrArg k0_pay9 ?_)
    refine (readCov_cols arg15.view _ _ _ _ _ _ _ _ _ _).trans ?_
    sl_unfold_words
    simp only [View.readAt_eq_ld, Memref.IsWhole.read_unread]
    rfl
  · exact harg12.read_unread _

theorem runU_out10 (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x512 .bf16) (harg5 : arg5.IsWhole) (arg6 : Memref sig .tc .vmem S512x2048 .bf16) (harg6 : arg6.IsWhole) (arg7 : Memref sig .tc .vmem S512x2048 .bf16) (harg7 : arg7.IsWhole) (arg8 : Memref sig .tc .vmem S8x128 .f32) (harg8 : arg8.IsWhole) (arg9 : Memref sig .tc .vmem S512x8192 .f32) (harg9 : arg9.IsWhole) (arg10 : Memref sig .tc .vmem S8x8192 .f32) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x128 .f32) (harg16 : arg16.IsWhole) (h1 : ¬k0_cond1 i = 1#1) (h3 : k0_cond3 i = 1#1) (h4 : ¬k0_cond4 i = 1#1) (x0 : Vec F S512x1024 .bf16) (x1 : Vec F S512x1024 .bf16) (x2 : Vec F S512x512 .bf16) (x3 : Vec F S512x2048 .bf16) (x4 : Vec F S512x2048 .bf16) (x5 : Vec F S8x128 .f32) (x6 : Vec F S512x8192 .f32) (x7 : Vec F S8x8192 .f32) (x8 : Vec F S512x512 .bf16) (x9 : Vec F S512x512 .bf16) (x10 : Vec F S512x128 .f32) (x11 : Vec F S512x512 .f32) (x12 : Vec F S512x512 .f32) (x13 : Vec F S512x128 .f32) : (runU c i arg3 harg3 arg4 harg4 arg5 harg5 arg6 harg6 arg7 harg7 arg8 harg8 arg9 harg9 arg10 harg10 arg11 harg11 arg12 harg12 arg13 harg13 arg14 harg14 arg15 harg15 arg16 harg16 h1 h3 h4 x0 x1 x2 x3 x4 x5 x6 x7 x8 x9 x10 x11 x12 x13).2.2.2.2.1 = if k0_cond5 i = 1#1 then stepDck prU x0 x1 x3 x4 x13 else x10 := by
  show View.read (Elt F) arg13.view (if hc : k0_cond5 i = 1#1 then _ else _) = _
  split
  · refine (read_full arg13.view _ _ _ _).trans ?_
    refine (readCov_full arg16.view _ _ _ _).trans ?_
    sl_unfold_words
    simp only [View.readAt_eq_ld, Memref.IsWhole.read_unread]
    exact congrArg (stepDck prU x0 x1 x3 x4) (View.ld_unit_zero (S := S512x128) off00 inb_S512x128_S512x128_0_0 x13)
  · exact harg13.read_unread _

end Cert.KAttnIdeal.Gen

end
-- ==== Proof.Attn.Body.lean ====
module

public import proofs.«01_k».proof.Proof.Attn.StepM
public import proofs.«01_k».proof.Proof.Attn.StepU

@[expose] public section

set_option maxRecDepth 16384

/-! # The body at any point: one step from whatever the buffers held -/

noncomputable section

namespace Cert.KAttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (F) in
/-- The running gradients: the queries', its decays', the keys', the values', the keys' decays'. -/
abbrev St : Type := Vec F S512x8192 .f32 × Vec F S8x8192 .f32 × Vec F S512x512 .f32 × Vec F S512x512 .f32 × Vec F S512x128 .f32

/-- The running gradients after the point: on the diagonal the keys' start afresh, at the first point the queries' too. -/
def step (i : grid0.Coords) (x0 x1 : Vec F S512x1024 .bf16) (x2 : Vec F S512x512 .bf16) (x3 x4 : Vec F S512x2048 .bf16) (s : St F) : St F :=
  if qb i = kb i then
    (stepDq prM x0 x1 x2 x3 x4 (512 * qb i) (if k0_cond1 i = 1#1 then k0_pay1 else s.1),
     stepDcq prM x0 x1 x3 x4 (512 * qb i) (if k0_cond1 i = 1#1 then k0_pay2 else s.2.1),
     stepDk prM x0 x1 x3 x4 k0_pay3, stepDv prM x0 x3 x4 k0_pay4, stepDck prM x0 x1 x3 x4 k0_pay5)
  else
    (stepDq prU x0 x1 x2 x3 x4 (512 * qb i) s.1, stepDcq prU x0 x1 x3 x4 (512 * qb i) s.2.1,
     stepDk prU x0 x1 x3 x4 s.2.2.1, stepDv prU x0 x3 x4 s.2.2.2.1, stepDck prU x0 x1 x3 x4 s.2.2.2.2)

/-- The first point is on the diagonal. -/
theorem not_cond1_of_ne (i : grid0.Coords) (h : qb i ≠ kb i) : ¬k0_cond1 i = 1#1 :=
  forall_pt (P := fun i => qb i ≠ kb i → ¬k0_cond1 i = 1#1) (by decide +kernel) i h

/-- The proof of a run whose found contents are known. -/
theorem of_run {A B C D A' B' C' D' : Type} {P : A → B → C → D → A' → B' → C' → D' → Prop}
    (R : Σ' (y6 : A) (y7 : B) (y8 : C) (y9 : D) (y10 : A') (y11 : B') (y12 : C'), { y13 : D' // P y6 y7 y8 y9 y10 y11 y12 y13 })
    {z6 z7 z8 z9 z10 z11 z12 z13} (h6 : R.1 = z6) (h7 : R.2.1 = z7) (h8 : R.2.2.1 = z8) (h9 : R.2.2.2.1 = z9) (h10 : R.2.2.2.2.1 = z10)
    (h11 : R.2.2.2.2.2.1 = z11) (h12 : R.2.2.2.2.2.2.1 = z12) (h13 : R.2.2.2.2.2.2.2.1 = z13) : P z6 z7 z8 z9 z10 z11 z12 z13 := by
  obtain ⟨y6, y7, y8, y9, y10, y11, y12, y13, r⟩ := R
  subst h6 h7 h8 h9 h10 h11 h12 h13
  exact r

theorem body_wp (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x512 .bf16) (harg5 : arg5.IsWhole) (arg6 : Memref sig .tc .vmem S512x2048 .bf16) (harg6 : arg6.IsWhole) (arg7 : Memref sig .tc .vmem S512x2048 .bf16) (harg7 : arg7.IsWhole) (arg8 : Memref sig .tc .vmem S8x128 .f32) (harg8 : arg8.IsWhole) (arg9 : Memref sig .tc .vmem S512x8192 .f32) (harg9 : arg9.IsWhole) (arg10 : Memref sig .tc .vmem S8x8192 .f32) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x128 .f32) (harg16 : arg16.IsWhole) (x0 : Vec F S512x1024 .bf16) (x1 : Vec F S512x1024 .bf16) (x2 : Vec F S512x512 .bf16) (x3 : Vec F S512x2048 .bf16) (x4 : Vec F S512x2048 .bf16) (x5 : Vec F S8x128 .f32) (x6 : Vec F S512x8192 .f32) (x7 : Vec F S8x8192 .f32) (x8 : Vec F S512x512 .bf16) (x9 : Vec F S512x512 .bf16) (x10 : Vec F S512x128 .f32) (x11 : Vec F S512x512 .f32) (x12 : Vec F S512x512 .f32) (x13 : Vec F S512x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (step i x0 x1 x2 x3 x4 (x6, x7, x11, x12, x13)).1 ∗ owns (c : Thread nD τ) arg10 fullShare (step i x0 x1 x2 x3 x4 (x6, x7, x11, x12, x13)).2.1 ∗ owns (c : Thread nD τ) arg11 fullShare (if k0_cond5 i = 1#1 then k0_pay8 (step i x0 x1 x2 x3 x4 (x6, x7, x11, x12, x13)).2.2.1 else x8) ∗ owns (c : Thread nD τ) arg12 fullShare (if k0_cond5 i = 1#1 then k0_pay9 (step i x0 x1 x2 x3 x4 (x6, x7, x11, x12, x13)).2.2.2.1 else x9) ∗ owns (c : Thread nD τ) arg13 fullShare (if k0_cond5 i = 1#1 then (step i x0 x1 x2 x3 x4 (x6, x7, x11, x12, x13)).2.2.2.2 else x10) ∗ owns (c : Thread nD τ) arg14 fullShare (step i x0 x1 x2 x3 x4 (x6, x7, x11, x12, x13)).2.2.1 ∗ owns (c : Thread nD τ) arg15 fullShare (step i x0 x1 x2 x3 x4 (x6, x7, x11, x12, x13)).2.2.2.1 ∗ owns (c : Thread nD τ) arg16 fullShare (step i x0 x1 x2 x3 x4 (x6, x7, x11, x12, x13)).2.2.2.2) -∗ K ⟨⟩))
      ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12 arg13 harg13 arg14 harg14 arg15 harg15 arg16 harg16) K := by
  by_cases h : qb i = kb i
  · unfold step; rw [if_pos h]
    exact of_run (runM c i arg3 harg3 arg4 harg4 arg5 harg5 arg6 harg6 arg7 harg7 arg8 harg8 arg9 harg9 arg10 harg10 arg11 harg11 arg12 harg12 arg13 harg13 arg14 harg14 arg15 harg15 arg16 harg16 (fun h3 => absurd ((cond3_iff i).mp h3) (by omega)) ((cond4_iff i).mpr h) x0 x1 x2 x3 x4 x5 x6 x7 x8 x9 x10 x11 x12 x13)
      (runM_dq c i arg3 harg3 arg4 harg4 arg5 harg5 arg6 harg6 arg7 harg7 arg8 harg8 arg9 harg9 arg10 harg10 arg11 harg11 arg12 harg12 arg13 harg13 arg14 harg14 arg15 harg15 arg16 harg16 (fun h3 => absurd ((cond3_iff i).mp h3) (by omega)) ((cond4_iff i).mpr h) x0 x1 x2 x3 x4 x5 x6 x7 x8 x9 x10 x11 x12 x13)
      (runM_dcq c i arg3 harg3 arg4 harg4 arg5 harg5 arg6 harg6 arg7 harg7 arg8 harg8 arg9 harg9 arg10 harg10 arg11 harg11 arg12 harg12 arg13 harg13 arg14 harg14 arg15 harg15 arg16 harg16 (fun h3 => absurd ((cond3_iff i).mp h3) (by omega)) ((cond4_iff i).mpr h) x0 x1 x2 x3 x4 x5 x6 x7 x8 x9 x10 x11 x12 x13)
      (runM_out8 c i arg3 harg3 arg4 harg4 arg5 harg5 arg6 harg6 arg7 harg7 arg8 harg8 arg9 harg9 arg10 harg10 arg11 harg11 arg12 harg12 arg13 harg13 arg14 harg14 arg15 harg15 arg16 harg16 (fun h3 => absurd ((cond3_iff i).mp h3) (by omega)) ((cond4_iff i).mpr h) x0 x1 x2 x3 x4 x5 x6 x7 x8 x9 x10 x11 x12 x13)
      (runM_out9 c i arg3 harg3 arg4 harg4 arg5 harg5 arg6 harg6 arg7 harg7 arg8 harg8 arg9 harg9 arg10 harg10 arg11 harg11 arg12 harg12 arg13 harg13 arg14 harg14 arg15 harg15 arg16 harg16 (fun h3 => absurd ((cond3_iff i).mp h3) (by omega)) ((cond4_iff i).mpr h) x0 x1 x2 x3 x4 x5 x6 x7 x8 x9 x10 x11 x12 x13)
      (runM_out10 c i arg3 harg3 arg4 harg4 arg5 harg5 arg6 harg6 arg7 harg7 arg8 harg8 arg9 harg9 arg10 harg10 arg11 harg11 arg12 harg12 arg13 harg13 arg14 harg14 arg15 harg15 arg16 harg16 (fun h3 => absurd ((cond3_iff i).mp h3) (by omega)) ((cond4_iff i).mpr h) x0 x1 x2 x3 x4 x5 x6 x7 x8 x9 x10 x11 x12 x13)
      (runM_dk c i arg3 harg3 arg4 harg4 arg5 harg5 arg6 harg6 arg7 harg7 arg8 harg8 arg9 harg9 arg10 harg10 arg11 harg11 arg12 harg12 arg13 harg13 arg14 harg14 arg15 harg15 arg16 harg16 (fun h3 => absurd ((cond3_iff i).mp h3) (by omega)) ((cond4_iff i).mpr h) x0 x1 x2 x3 x4 x5 x6 x7 x8 x9 x10 x11 x12 x13)
      (runM_dv c i arg3 harg3 arg4 harg4 arg5 harg5 arg6 harg6 arg7 harg7 arg8 harg8 arg9 harg9 arg10 harg10 arg11 harg11 arg12 harg12 arg13 harg13 arg14 harg14 arg15 harg15 arg16 harg16 (fun h3 => absurd ((cond3_iff i).mp h3) (by omega)) ((cond4_iff i).mpr h) x0 x1 x2 x3 x4 x5 x6 x7 x8 x9 x10 x11 x12 x13)
      (runM_dck c i arg3 harg3 arg4 harg4 arg5 harg5 arg6 harg6 arg7 harg7 arg8 harg8 arg9 harg9 arg10 harg10 arg11 harg11 arg12 harg12 arg13 harg13 arg14 harg14 arg15 harg15 arg16 harg16 (fun h3 => absurd ((cond3_iff i).mp h3) (by omega)) ((cond4_iff i).mpr h) x0 x1 x2 x3 x4 x5 x6 x7 x8 x9 x10 x11 x12 x13) E K

  · unfold step; rw [if_neg h]
    exact of_run (runU c i arg3 harg3 arg4 harg4 arg5 harg5 arg6 harg6 arg7 harg7 arg8 harg8 arg9 harg9 arg10 harg10 arg11 harg11 arg12 harg12 arg13 harg13 arg14 harg14 arg15 harg15 arg16 harg16 (not_cond1_of_ne i h) ((cond3_iff i).mpr (lt_of_le_of_ne (kb_le_qb i) (Ne.symm h))) (fun h4 => h ((cond4_iff i).mp h4)) x0 x1 x2 x3 x4 x5 x6 x7 x8 x9 x10 x11 x12 x13)
      (runU_dq c i arg3 harg3 arg4 harg4 arg5 harg5 arg6 harg6 arg7 harg7 arg8 harg8 arg9 harg9 arg10 harg10 arg11 harg11 arg12 harg12 arg13 harg13 arg14 harg14 arg15 harg15 arg16 harg16 (not_cond1_of_ne i h) ((cond3_iff i).mpr (lt_of_le_of_ne (kb_le_qb i) (Ne.symm h))) (fun h4 => h ((cond4_iff i).mp h4)) x0 x1 x2 x3 x4 x5 x6 x7 x8 x9 x10 x11 x12 x13)
      (runU_dcq c i arg3 harg3 arg4 harg4 arg5 harg5 arg6 harg6 arg7 harg7 arg8 harg8 arg9 harg9 arg10 harg10 arg11 harg11 arg12 harg12 arg13 harg13 arg14 harg14 arg15 harg15 arg16 harg16 (not_cond1_of_ne i h) ((cond3_iff i).mpr (lt_of_le_of_ne (kb_le_qb i) (Ne.symm h))) (fun h4 => h ((cond4_iff i).mp h4)) x0 x1 x2 x3 x4 x5 x6 x7 x8 x9 x10 x11 x12 x13)
      (runU_out8 c i arg3 harg3 arg4 harg4 arg5 harg5 arg6 harg6 arg7 harg7 arg8 harg8 arg9 harg9 arg10 harg10 arg11 harg11 arg12 harg12 arg13 harg13 arg14 harg14 arg15 harg15 arg16 harg16 (not_cond1_of_ne i h) ((cond3_iff i).mpr (lt_of_le_of_ne (kb_le_qb i) (Ne.symm h))) (fun h4 => h ((cond4_iff i).mp h4)) x0 x1 x2 x3 x4 x5 x6 x7 x8 x9 x10 x11 x12 x13)
      (runU_out9 c i arg3 harg3 arg4 harg4 arg5 harg5 arg6 harg6 arg7 harg7 arg8 harg8 arg9 harg9 arg10 harg10 arg11 harg11 arg12 harg12 arg13 harg13 arg14 harg14 arg15 harg15 arg16 harg16 (not_cond1_of_ne i h) ((cond3_iff i).mpr (lt_of_le_of_ne (kb_le_qb i) (Ne.symm h))) (fun h4 => h ((cond4_iff i).mp h4)) x0 x1 x2 x3 x4 x5 x6 x7 x8 x9 x10 x11 x12 x13)
      (runU_out10 c i arg3 harg3 arg4 harg4 arg5 harg5 arg6 harg6 arg7 harg7 arg8 harg8 arg9 harg9 arg10 harg10 arg11 harg11 arg12 harg12 arg13 harg13 arg14 harg14 arg15 harg15 arg16 harg16 (not_cond1_of_ne i h) ((cond3_iff i).mpr (lt_of_le_of_ne (kb_le_qb i) (Ne.symm h))) (fun h4 => h ((cond4_iff i).mp h4)) x0 x1 x2 x3 x4 x5 x6 x7 x8 x9 x10 x11 x12 x13)
      (runU_dk c i arg3 harg3 arg4 harg4 arg5 harg5 arg6 harg6 arg7 harg7 arg8 harg8 arg9 harg9 arg10 harg10 arg11 harg11 arg12 harg12 arg13 harg13 arg14 harg14 arg15 harg15 arg16 harg16 (not_cond1_of_ne i h) ((cond3_iff i).mpr (lt_of_le_of_ne (kb_le_qb i) (Ne.symm h))) (fun h4 => h ((cond4_iff i).mp h4)) x0 x1 x2 x3 x4 x5 x6 x7 x8 x9 x10 x11 x12 x13)
      (runU_dv c i arg3 harg3 arg4 harg4 arg5 harg5 arg6 harg6 arg7 harg7 arg8 harg8 arg9 harg9 arg10 harg10 arg11 harg11 arg12 harg12 arg13 harg13 arg14 harg14 arg15 harg15 arg16 harg16 (not_cond1_of_ne i h) ((cond3_iff i).mpr (lt_of_le_of_ne (kb_le_qb i) (Ne.symm h))) (fun h4 => h ((cond4_iff i).mp h4)) x0 x1 x2 x3 x4 x5 x6 x7 x8 x9 x10 x11 x12 x13)
      (runU_dck c i arg3 harg3 arg4 harg4 arg5 harg5 arg6 harg6 arg7 harg7 arg8 harg8 arg9 harg9 arg10 harg10 arg11 harg11 arg12 harg12 arg13 harg13 arg14 harg14 arg15 harg15 arg16 harg16 (not_cond1_of_ne i h) ((cond3_iff i).mpr (lt_of_le_of_ne (kb_le_qb i) (Ne.symm h))) (fun h4 => h ((cond4_iff i).mp h4)) x0 x1 x2 x3 x4 x5 x6 x7 x8 x9 x10 x11 x12 x13) E K

end Cert.KAttnIdeal.Gen

end
-- ==== Proof.Attn.Live.lean ====
module

public import proofs.«01_k».proof.Proof.Attn.Grid

@[expose] public section

set_option maxRecDepth 16384

/-! # Where the outputs' buffers are stored into and written back -/

noncomputable section

namespace Cert.KAttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- Windows 6 and 7 are stored into at every point. -/
theorem live0_6 (i : grid0.Coords) : cfg0.idle 6 i = false := by
  change idle0 6 i = false
  exact forall_pt (P := fun i => idle0 6 i = false) (by decide +kernel) i
theorem live0_7 (i : grid0.Coords) : cfg0.idle 7 i = false := by
  change idle0 7 i = false
  exact forall_pt (P := fun i => idle0 7 i = false) (by decide +kernel) i

/-- The keys' gradients are written back only where they are stored into. -/
theorem flush0_8 : ∀ t : Fin cfg0.N, (cfg0.win 8).flush t = true → k0_cond5 (grid0.coords t) = 1#1 :=
  (by decide +kernel : ∀ t : Fin grid0.N, win0_8.flush t = true → k0_cond5 (grid0.coords t) = 1#1)
theorem flush0_9 : ∀ t : Fin cfg0.N, (cfg0.win 9).flush t = true → k0_cond5 (grid0.coords t) = 1#1 :=
  (by decide +kernel : ∀ t : Fin grid0.N, win0_9.flush t = true → k0_cond5 (grid0.coords t) = 1#1)
theorem flush0_10 : ∀ t : Fin cfg0.N, (cfg0.win 10).flush t = true → k0_cond5 (grid0.coords t) = 1#1 :=
  (by decide +kernel : ∀ t : Fin grid0.N, win0_10.flush t = true → k0_cond5 (grid0.coords t) = 1#1)

theorem first_pt : ∀ t : Fin cfg0.N, t.val = 0 → qb (grid0.coords t) = kb (grid0.coords t) ∧ k0_cond1 (grid0.coords t) = 1#1 :=
  (by decide +kernel : ∀ t : Fin grid0.N, t.val = 0 → qb (grid0.coords t) = kb (grid0.coords t) ∧ k0_cond1 (grid0.coords t) = 1#1)

end Cert.KAttnIdeal.Gen

end
-- ==== Proof.Attn.Frame.lean ====
module

public import proofs.«01_k».proof.Proof.Attn.Body
public import proofs.«01_k».proof.Proof.Attn.Live
public import Idealize.ShloMosaic.Lib.Claim

@[expose] public section

set_option maxRecDepth 16384

/-! # The frame: the running gradients carried through the 136 points -/

noncomputable section

namespace Cert.KAttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every running gradient cleared. -/
def st0 : St F := (k0_pay1, k0_pay2, k0_pay3, k0_pay4, k0_pay5)

/-- One step at point `t`. -/
def stepAt (c : Dev nD) (t : Fin cfg0.N) (s : St F) : St F := step (grid0.coords t) (iblk m c 0 t) (iblk m c 1 t) (iblk m c 2 t) (iblk m c 3 t) (iblk m c 4 t) s

/-- The running gradients after point `n`. -/
def stAt (c : Dev nD) : (n : ℕ) → n < cfg0.N → St F
  | 0, hn => stepAt m c ⟨0, hn⟩ st0
  | n + 1, hn => stepAt m c ⟨n + 1, hn⟩ (stAt c n (Nat.lt_of_succ_lt hn))

/-- The first step forgets what the buffers held. -/
theorem stAt_first (c : Dev nD) (t : Fin cfg0.N) (h : t.val = 0) (s : St F) : stepAt m c t s = stAt m c t.val t.isLt := by
  obtain ⟨n, hn⟩ := t
  subst h
  obtain ⟨h1, h2⟩ := first_pt ⟨0, hn⟩ rfl
  show stepAt m c ⟨0, hn⟩ s = stepAt m c ⟨0, hn⟩ st0
  unfold stepAt step
  rw [if_pos h1, if_pos h1, if_pos h2, if_pos h2, if_pos h2, if_pos h2]

theorem stAt_pos (c : Dev nD) (t : Fin cfg0.N) (h : t.val ≠ 0) :
    stepAt m c t (stAt m c (t.val - 1) (Nat.lt_of_le_of_lt (Nat.sub_le _ _) t.isLt)) = stAt m c t.val t.isLt := by
  obtain ⟨n, hn⟩ := t
  cases n with
  | zero => exact absurd rfl h
  | succ n => rfl

/-- Before the first point the scratch buffers hold anything, afterwards the keys' running gradients. -/
def PhiS (c : Dev nD) : (n : ℕ) → n ≤ cfg0.N → sProp 𝕄
  | 0, _ => Pipeline.ΦA spec0 c
  | n + 1, hn => iprop(iprop(owns (c : Thread nD τ) (Memref.whole cc0_scratch0) fullShare (stAt m c n hn).2.2.1 ∗ owns (c : Thread nD τ) (Memref.whole cc0_scratch1) fullShare (stAt m c n hn).2.2.2.1 ∗ owns (c : Thread nD τ) (Memref.whole cc0_scratch2) fullShare (stAt m c n hn).2.2.2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) (Memref.whole cc0_scratch0) fullShare (stAt m c n hn).2.2.1 ∗ owns (c : Thread nD τ) (Memref.whole cc0_scratch1) fullShare (stAt m c n hn).2.2.2.1 ∗ owns (c : Thread nD τ) (Memref.whole cc0_scratch2) fullShare (stAt m c n hn).2.2.2.2) ∗ (∃ r, prngReg c r)) := rfl

theorem PhiS_pos (c : Dev nD) (n : ℕ) (h : n ≤ cfg0.N) (hz : n ≠ 0) :
    PhiS m c n h = iprop(iprop(owns (c : Thread nD τ) (Memref.whole cc0_scratch0) fullShare (stAt m c (n - 1) (by omega)).2.2.1 ∗ owns (c : Thread nD τ) (Memref.whole cc0_scratch1) fullShare (stAt m c (n - 1) (by omega)).2.2.2.1 ∗ owns (c : Thread nD τ) (Memref.whole cc0_scratch2) fullShare (stAt m c (n - 1) (by omega)).2.2.2.2) ∗ (∃ r, prngReg c r)) := by
  cases n with
  | zero => exact absurd rfl hz
  | succ n => rfl

theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d)) ∗ (∃ r, prngReg c r)) := by
  unfold Pipeline.ΦA; rw [scopedRest0_eq]; simp only [owns_whole]; try rfl

/-- The proof data: each input's buffer at its block, the outputs' at the running gradients. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (stAt m c t.val t.isLt).1
    | ⟨7, _⟩ => (stAt m c t.val t.isLt).2.1
    | ⟨8, _⟩ => k0_pay8 (stAt m c t.val t.isLt).2.2.1
    | ⟨9, _⟩ => k0_pay9 (stAt m c t.val t.isLt).2.2.2.1
    | ⟨10, _⟩ => (stAt m c t.val t.isLt).2.2.2.2
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (stAt m c t.val t.isLt).1 := by dsimp only [dats]
theorem after0_7 (c : Dev nD) (t : Fin cfg0.N) : (dats m 0 c).after 7 t = (stAt m c t.val t.isLt).2.1 := by dsimp only [dats]
theorem after0_8 (c : Dev nD) (t : Fin cfg0.N) : (dats m 0 c).after 8 t = k0_pay8 (stAt m c t.val t.isLt).2.2.1 := by dsimp only [dats]
theorem after0_9 (c : Dev nD) (t : Fin cfg0.N) : (dats m 0 c).after 9 t = k0_pay9 (stAt m c t.val t.isLt).2.2.2.1 := by dsimp only [dats]
theorem after0_10 (c : Dev nD) (t : Fin cfg0.N) : (dats m 0 c).after 10 t = (stAt m c t.val t.isLt).2.2.2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The queries' running gradients stay in their buffers until the last point. -/
theorem before0_6 (c : Dev nD) (t : Fin cfg0.N) (h : t.val ≠ 0) (d) :
    (dats m 0 c).before 6 t d = (stAt m c (t.val - 1) (Nat.lt_of_le_of_lt (Nat.sub_le _ _) t.isLt)).1 := by
  have hN : t.val < 136 := lt_of_lt_of_eq t.isLt (show cfg0.N = 136 from N_0)
  rw [Dat.before_out_kept _ 6 rfl t (by omega) (Bool.eq_false_iff.mpr fun h => by have := (flush0_6 _).mp h; dsimp only at this; omega)
    (fun _ => live0_6 _) (fun _ _ => rfl)]
  dsimp only [dats]
theorem before0_7 (c : Dev nD) (t : Fin cfg0.N) (h : t.val ≠ 0) (d) :
    (dats m 0 c).before 7 t d = (stAt m c (t.val - 1) (Nat.lt_of_le_of_lt (Nat.sub_le _ _) t.isLt)).2.1 := by
  have hN : t.val < 136 := lt_of_lt_of_eq t.isLt (show cfg0.N = 136 from N_0)
  rw [Dat.before_out_kept _ 7 rfl t (by omega) (Bool.eq_false_iff.mpr fun h => by have := (flush0_7 _).mp h; dsimp only at this; omega)
    (fun _ => live0_7 _) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- A buffer of the keys' gradients after the body: its gradient where the column of blocks ends, else what it held. -/
def leaves8 (c : Dev nD) (t : Fin cfg0.N) : sProp 𝕄 :=
  if k0_cond5 (grid0.coords t) = 1#1 then owns (c : Thread nD τ) (st0_8 t) fullShare ((dats m 0 c).after 8 t) else iprop(∃ d, owns (c : Thread nD τ) (st0_8 t) fullShare ((dats m 0 c).before 8 t d))
def leaves9 (c : Dev nD) (t : Fin cfg0.N) : sProp 𝕄 :=
  if k0_cond5 (grid0.coords t) = 1#1 then owns (c : Thread nD τ) (st0_9 t) fullShare ((dats m 0 c).after 9 t) else iprop(∃ d, owns (c : Thread nD τ) (st0_9 t) fullShare ((dats m 0 c).before 9 t d))
def leaves10 (c : Dev nD) (t : Fin cfg0.N) : sProp 𝕄 :=
  if k0_cond5 (grid0.coords t) = 1#1 then owns (c : Thread nD τ) (st0_10 t) fullShare ((dats m 0 c).after 10 t) else iprop(∃ d, owns (c : Thread nD τ) (st0_10 t) fullShare ((dats m 0 c).before 10 t d))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ leaves8 m c t ∗ leaves9 m c t ∗ leaves10 m c t)

theorem leaves8_intro (c : Dev nD) (t : Fin cfg0.N) (d) :
    owns (c : Thread nD τ) (st0_8 t) fullShare (if k0_cond5 (grid0.coords t) = 1#1 then k0_pay8 (stAt m c t.val t.isLt).2.2.1 else (dats m 0 c).before 8 t d) ⊢ (leaves8 m c t : sProp 𝕄) := by
  unfold leaves8
  split
  · rw [after0_8]
  · iintro H; iexists d; iexact H

theorem leaves9_intro (c : Dev nD) (t : Fin cfg0.N) (d) :
    owns (c : Thread nD τ) (st0_9 t) fullShare (if k0_cond5 (grid0.coords t) = 1#1 then k0_pay9 (stAt m c t.val t.isLt).2.2.2.1 else (dats m 0 c).before 9 t d) ⊢ (leaves9 m c t : sProp 𝕄) := by
  unfold leaves9
  split
  · rw [after0_9]
  · iintro H; iexists d; iexact H

theorem leaves10_intro (c : Dev nD) (t : Fin cfg0.N) (d) :
    owns (c : Thread nD τ) (st0_10 t) fullShare (if k0_cond5 (grid0.coords t) = 1#1 then (stAt m c t.val t.isLt).2.2.2.2 else (dats m 0 c).before 10 t d) ⊢ (leaves10 m c t : sProp 𝕄) := by
  unfold leaves10
  split
  · rw [after0_10]
  · iintro H; iexists d; iexact H

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6, after0_7]
  rw [show (dats m 0 c).Φ t.succ = PhiS m c (t.val + 1) t.isLt from rfl, PhiS_succ]
  by_cases hz : t.val = 0
  · rw [PhiS_castSucc m c t, PhiS_zero m c _ _ hz, PhiA0_eq]
    iintro ⟨⟨⟨⟨%s0, HS0⟩, ⟨%s1, HS1⟩, ⟨%s2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    have e := stAt_first m c t hz ((dats m 0 c).before 6 t d6, (dats m 0 c).before 7 t d7, s0, s1, s2)
    unfold stepAt at e
    rw [← e]
    iapply (body_wp c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) ((dats m 0 c).before 6 t d6) ((dats m 0 c).before 7 t d7) ((dats m 0 c).before 8 t d8) ((dats m 0 c).before 9 t d9) ((dats m 0 c).before 10 t d10) s0 s1 s2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    isplitl [HS2]; · iexact HS2
    iintro ⟨H0, H1, H2, H3, H4, H5, H6, H7, H8, H9, H10, HS0, HS1, HS2⟩
    rw [e]
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · iapply (leaves8_intro m c t d8); iexact H8
    isplitl [H9]
    · iapply (leaves9_intro m c t d9); iexact H9
    iapply (leaves10_intro m c t d10); iexact H10
  · rw [PhiS_castSucc m c t, PhiS_pos m c _ _ hz]
    simp only [before0_6 m c t hz, before0_7 m c t hz]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    have e := stAt_pos m c t hz
    unfold stepAt at e
    iapply (body_wp c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) _ _ ((dats m 0 c).before 8 t d8) ((dats m 0 c).before 9 t d9) ((dats m 0 c).before 10 t d10) _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    isplitl [HS2]; · iexact HS2
    iintro ⟨H0, H1, H2, H3, H4, H5, H6, H7, H8, H9, H10, HS0, HS1, HS2⟩
    rw [e]
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · iapply (leaves8_intro m c t d8); iexact H8
    isplitl [H9]
    · iapply (leaves9_intro m c t d9); iexact H9
    iapply (leaves10_intro m c t d10); iexact H10

end Cert.KAttnIdeal.Gen

end
-- ==== Proof.Attn.Math.lean ====
module

public import proofs.«01_k».proof.Proof.Kit

@[expose] public section

/-! # The gradient of causal attention over the reals

Eight heads of 64 columns over 8192 tokens; the logits of queries and keys gain the query's decay and lose the key's. -/

noncomputable section

namespace Cert.Attn

open Idealize.ShloMosaic

theorem coe_sum {ι : Type*} (s : Finset ι) (f : ι → ℝ) : ((∑ i ∈ s, f i : ℝ) : EReal) = ∑ i ∈ s, (f i : EReal) := by
  induction s using Finset.cons_induction with
  | empty => simp
  | cons a s ha ih => rw [Finset.sum_cons, Finset.sum_cons, EReal.coe_add, ih]

theorem coe_div (a : ℝ) {b : ℝ} (h : b ≠ 0) : Ideal.div (a : EReal) (b : EReal) = ((a / b : ℝ) : EReal) := by
  rw [Kit.div_coe _ h, ← EReal.coe_mul]; rfl

theorem eighth : Ideal.ofBits .f32 0x3E000000#32 = ((1 / 8 : ℝ) : EReal) := by
  simp [Ideal.ofBits, Ideal.ieee, -EReal.coe_mul]; norm_num
theorem eighth16 : Ideal.ofBits .bf16 0x3E00#16 = ((1 / 8 : ℝ) : EReal) := by
  simp [Ideal.ofBits, Ideal.ieee, -EReal.coe_mul]; norm_num

/-- Column `d` of head `h`. -/
abbrev hd (h : Fin 8) (d : Fin 64) : Fin 512 := ⟨h.val * 64 + d.val, by have := h.isLt; have := d.isLt; omega⟩
/-- The head of a column. -/
abbrev head (n : Fin 512) : Fin 8 := ⟨n.val / 64, by have := n.isLt; omega⟩

/-- Queries, keys, values, the output's gradient and the decays; what each query subtracts under the exponential. -/
structure In where
  q : Fin 8192 → Fin 512 → ℝ
  k : Fin 8192 → Fin 512 → ℝ
  v : Fin 8192 → Fin 512 → ℝ
  g : Fin 8192 → Fin 512 → ℝ
  c : Fin 8192 → Fin 8 → ℝ
  top : Fin 8 → Fin 8192 → ℝ

namespace In

variable (x : In) (h : Fin 8) (i j : Fin 8192)

def logit : ℝ := (∑ d, x.q i (hd h d) * (1 / 8) * x.k j (hd h d)) + x.c i h - x.c j h
def w : ℝ := if j ≤ i then Real.exp (x.logit h i j - x.top h i) else 0
def den : ℝ := ∑ j, x.w h i j
def pr : ℝ := x.w h i j / x.den h i
def dp : ℝ := ∑ d, x.g i (hd h d) * x.v j (hd h d)
def delta : ℝ := ∑ j, x.pr h i j * x.dp h i j
/-- The gradient of a logit. -/
def ds : ℝ := x.pr h i j * (x.dp h i j - x.delta h i)

def dq (n : Fin 512) : ℝ := (∑ j, x.ds (head n) i j * x.k j n) * (1 / 8)
def dk (n : Fin 512) : ℝ := ∑ i, x.ds (head n) i j * (x.q i n * (1 / 8))
def dv (n : Fin 512) : ℝ := ∑ i, x.pr (head n) i j * x.g i n
def dcq : ℝ := ∑ j, x.ds h i j
def dck : ℝ := -∑ i, x.ds h i j

theorem w_nonneg : 0 ≤ x.w h i j := by
  unfold w; split
  · exact (Real.exp_pos _).le
  · exact le_rfl

theorem den_pos : 0 < x.den h i :=
  Finset.sum_pos' (fun j _ => x.w_nonneg h i j) ⟨i, Finset.mem_univ _, by unfold w; rw [if_pos le_rfl]; exact Real.exp_pos _⟩

theorem pr_of_lt {i j : Fin 8192} (l : i < j) : x.pr h i j = 0 := by
  unfold pr w; rw [if_neg (not_le.mpr l), zero_div]
theorem ds_of_lt {i j : Fin 8192} (l : i < j) : x.ds h i j = 0 := by
  unfold ds; rw [x.pr_of_lt h l, zero_mul]

/-- The gradient of a logit, the quotient differentiated and the mask put last. -/
theorem ds_eq : (if j ≤ i then (x.dp h i j / x.den h i + -∑ j', x.dp h i j' * (1 / (x.den h i * x.den h i)) * x.w h i j') * x.w h i j else 0)
    = x.ds h i j := by
  split
  · have hd := (x.den_pos h i).ne'
    have : ∑ j', x.dp h i j' * (1 / (x.den h i * x.den h i)) * x.w h i j' = x.delta h i / x.den h i := by
      unfold delta pr
      rw [Finset.sum_div]
      refine Finset.sum_congr rfl fun j' _ => ?_
      field_simp
    rw [this]
    unfold ds pr
    field_simp
    ring
  · rename_i l
    exact (x.ds_of_lt h (not_le.mp l)).symm

/-- A probability from its logarithm. -/
theorem pr_exp {i j : Fin 8192} (l : j ≤ i) :
    Real.exp ((∑ d, x.q i (hd h d) * (1 / 8) * x.k j (hd h d)) - x.c j h - (x.top h i + Real.log (x.den h i) - x.c i h)) = x.pr h i j := by
  unfold pr w logit
  rw [if_pos l]
  conv_rhs => rw [← Real.exp_log (x.den_pos h i), ← Real.exp_sub]
  congr 1; ring

/-- The output's row against its gradient. -/
theorem delta_eq : ∑ d, x.g i (hd h d) * ∑ j, x.v j (hd h d) * x.pr h i j = x.delta h i := by
  unfold delta dp
  simp only [Finset.mul_sum]
  rw [Finset.sum_comm]
  exact Finset.sum_congr rfl fun j _ => Finset.sum_congr rfl fun d _ => by ring

end In

/-! ## Sums gathered block by block -/

/-- The part of a sum over the first `n` indices. -/
def upto (f : Fin 8192 → ℝ) (n : ℕ) : ℝ := ∑ i, if i.val < n then f i else 0

theorem upto_all (f : Fin 8192 → ℝ) : upto f 8192 = ∑ i, f i :=
  Finset.sum_congr rfl fun i _ => if_pos i.isLt

theorem upto_zero (f : Fin 8192 → ℝ) (n : ℕ) (h : ∀ i : Fin 8192, i.val < n → f i = 0) : upto f n = 0 :=
  Finset.sum_eq_zero fun i _ => by split <;> [exact h i ‹_›; rfl]

/-- Row `r` of block `b`. -/
abbrev rowOf (b : ℕ) (hb : b < 16) (r : Fin 512) : Fin 8192 := ⟨b * 512 + r.val, by have := r.isLt; omega⟩

theorem upto_block (f : Fin 8192 → ℝ) (b : ℕ) (hb : b < 16) :
    upto f ((b + 1) * 512) = upto f (b * 512) + ∑ r, f (rowOf b hb r) := by
  unfold upto
  rw [Kit.sum_blocks 16 512 rfl, Kit.sum_blocks 16 512 rfl (fun i : Fin 8192 => if i.val < b * 512 then f i else 0),
    ← Finset.sum_add_sum_compl {(⟨b, hb⟩ : Fin 16)}, ← Finset.sum_add_sum_compl {(⟨b, hb⟩ : Fin 16)} (fun b' => ∑ r, _)]
  rw [Finset.sum_singleton, Finset.sum_singleton]
  have e1 : ∀ r : Fin 512, b * 512 + r.val < (b + 1) * 512 := fun r => by have := r.isLt; omega
  have e2 : ∀ r : Fin 512, ¬b * 512 + r.val < b * 512 := fun r => by omega
  simp only [e1, e2, if_true, if_false, Finset.sum_const_zero, zero_add]
  rw [add_comm]
  congr 1
  refine Finset.sum_congr rfl fun b' hb' => Finset.sum_congr rfl fun r _ => ?_
  have hne : b'.val ≠ b := fun e => by
    rw [Finset.mem_compl, Finset.mem_singleton] at hb'
    exact hb' (Fin.ext e)
  have := r.isLt
  by_cases l : b'.val * 512 + r.val < b * 512
  · rw [if_pos l, if_pos (by omega)]
  · rw [if_neg l, if_neg (by omega)]

end Cert.Attn

end
-- ==== Proof.Attn.Reference.lean ====
/- The reference's stages over finite arguments, as the real model of `Attn/Math.lean`. -/
module

public import proofs.«01_k».proof.Proof.Attn.Math
public import proofs.«01_k».proof.Proof.Gen.RAttnIdeal.Read
public import Idealize.ShloMosaic.Lib.WordCmp

@[expose] public section

noncomputable section

namespace Cert.Attn

open Cert.RAttnIdeal Cert.RAttnIdeal.Gen Cert.RAttnIdeal.Read Idealize.ShloMosaic

theorem neg_inf : Ideal.ofBits .f32 0xFF800000#32 = ⊥ := by simp [Ideal.ofBits, Ideal.ieee]
theorem coe_one_div {b : ℝ} (h : b ≠ 0) : Ideal.div 1 (b : EReal) = ((1 / b : ℝ) : EReal) := by
  rw [← EReal.coe_one, coe_div _ h]

theorem sel_one {α : Type} (a b : α) : Scalar.select 1#1 a b = a := rfl
theorem sel_zero {α : Type} (a b : α) : Scalar.select 0#1 a b = b := rfl

/-- The greatest of some extended reals below ⊤, not all ⊥, is a real. -/
theorem fold_max_real {ι : Type*} (s : Finset ι) (f : ι → EReal) (ht : ∀ a ∈ s, f a < ⊤) (hb : ∃ a ∈ s, ⊥ < f a) :
    s.fold max ⊥ f = ((s.fold max ⊥ f).toReal : EReal) :=
  (EReal.coe_toReal (ne_of_lt ((Finset.fold_max_lt _).mpr ⟨bot_lt_top, ht⟩)) (ne_of_gt ((Finset.lt_fold_max _).mpr (Or.inr hb)))).symm

variable (x0 x1 x2 : Vec Ideal S8192x512 .f32) (x3 : Vec Ideal S8192x8 .f32) (x4 : Vec Ideal S8192x512 .f32)

/-- The arguments are the model's numbers. -/
structure Args (x : In) : Prop where
  q : ∀ i n, x0 (ix2 i n) = (x.q i n : EReal)
  k : ∀ i n, x1 (ix2 i n) = (x.k i n : EReal)
  v : ∀ i n, x2 (ix2 i n) = (x.v i n : EReal)
  c : ∀ i h, x3 (ix2 i h) = (x.c i h : EReal)
  g : ∀ i n, x4 (ix2 i n) = (x.g i n : EReal)

/-- So are the greatest logits. -/
structure Holds (x : In) : Prop extends Args x0 x1 x2 x3 x4 x where
  top : ∀ h i, val_main_v21 (F := Ideal) x0 x1 x3 (ix2 h i) = (x.top h i : EReal)

variable {x0 x1 x2 x3 x4} {x : In}

theorem ref_mask (h : Fin 8) (i j : Fin 8192) : val_main_v20_1 (F := Ideal) (ix3 h i j) = if j ≤ i then 1#1 else 0#1 := by
  pointwise [val_main_v20_1, val_main_v19, val_main_v18, val_main_v17, val_main_v16, val_main_v15, val_main_v14, val_main_v13]
  have := i.isLt; have := j.isLt
  by_cases l : j ≤ i
  · rw [if_pos l, WordCmp.cmpi_sle_ofNat_eq_one_iff (by omega) (by omega)]; exact l
  · rw [if_neg l, WordCmp.cmpi_sle_ofNat_eq_zero_iff (by omega) (by omega)]; exact fun e => l e

theorem ref_logit (H : Args x0 x1 x2 x3 x4 x) (h : Fin 8) (i j : Fin 8192) :
    val_main_v12 (F := Ideal) x0 x1 x3 (ix3 h i j) = (x.logit h i j : EReal) := by
  pointwise [val_main_v12, val_main_v11, val_main_v10, val_main_v9, val_main_v8, val_main_v7, val_main_v6, val_main_v5, val_main_v4,
    val_main_v3, val_main_v2, val_main_v1, val_main_v0, val_main_cst]
  simp only [H.q, H.k, H.c, eighth]
  unfold In.logit
  simp only [EReal.coe_sub, EReal.coe_add, coe_sum, EReal.coe_mul]

theorem ref_masked (H : Args x0 x1 x2 x3 x4 x) (h : Fin 8) (i j : Fin 8192) :
    val_main_v20_0 (F := Ideal) x0 x1 x3 (ix3 h i j) = if j ≤ i then (x.logit h i j : EReal) else ⊥ := by
  pointwise [val_main_v20_0, val_main_call0_v2, val_main_call0_v0, val_main_cst_0]
  rw [ref_mask, ref_logit H]
  by_cases l : j ≤ i
  · rw [if_pos l, if_pos l]; rfl
  · rw [if_neg l, if_neg l]; exact neg_inf

theorem ref_top (H : Args x0 x1 x2 x3 x4 x) (h : Fin 8) (i : Fin 8192) :
    val_main_v21 (F := Ideal) x0 x1 x3 (ix2 h i) = ((val_main_v21 (F := Ideal) x0 x1 x3 (ix2 h i)).toReal : EReal) := by
  have e : val_main_v21 (F := Ideal) x0 x1 x3 (ix2 h i)
      = Finset.univ.fold max ⊥ fun j => val_main_v20_0 (F := Ideal) x0 x1 x3 (ix3 h i j) := by
    pointwise [val_main_v21]
    rw [show (val_main_cst_1 (F := Ideal) (Shape.Idx.first h_S_)) = ⊥ from neg_inf]
  rw [e]
  refine fold_max_real _ _ (fun j _ => ?_) ⟨i, Finset.mem_univ _, ?_⟩
  · rw [ref_masked H]; split
    · exact EReal.coe_lt_top _
    · exact bot_lt_top
  · rw [ref_masked H, if_pos le_rfl]; exact EReal.bot_lt_coe _

theorem ref_dp (H : Args x0 x1 x2 x3 x4 x) (h : Fin 8) (i j : Fin 8192) :
    val_main_v39 (F := Ideal) x2 x4 (ix3 h i j) = (x.dp h i j : EReal) := by
  pointwise [val_main_v39, val_main_v38, val_main_v37, val_main_v33]
  simp only [H.g, H.v]
  unfold In.dp
  simp only [coe_sum, EReal.coe_mul]

theorem ref_w (H : Holds x0 x1 x2 x3 x4 x) (h : Fin 8) (i j : Fin 8192) :
    val_main_v25 (F := Ideal) x0 x1 x3 (ix3 h i j) = (x.w h i j : EReal) := by
  pointwise [val_main_v25, val_main_v24, val_main_v23, val_main_v22]
  rw [ref_masked H.toArgs, H.top]
  unfold In.w
  split
  · rw [← EReal.coe_sub]; rfl
  · rw [EReal.bot_sub]; rfl

theorem ref_den (H : Holds x0 x1 x2 x3 x4 x) (h : Fin 8) (i : Fin 8192) (a : Fin 1) :
    val_main_v27 (F := Ideal) x0 x1 x3 (ix3 h i a) = (x.den h i : EReal) := by
  pointwise [val_main_v27, val_main_v26, val_main_cst_2]
  simp only [ref_w H]
  unfold In.den
  rw [coe_sum]

theorem ref_pr (H : Holds x0 x1 x2 x3 x4 x) (h : Fin 8) (i j : Fin 8192) :
    val_main_v29 (F := Ideal) x0 x1 x3 (ix3 h i j) = (x.pr h i j : EReal) := by
  pointwise [val_main_v29, val_main_v28]
  rw [ref_w H, ref_den H, coe_div _ (x.den_pos h i).ne']
  rfl

theorem ref_ds (H : Holds x0 x1 x2 x3 x4 x) (h : Fin 8) (i j : Fin 8192) :
    val_main_v55 (F := Ideal) x0 x1 x2 x3 x4 (ix3 h i j) = (x.ds h i j : EReal) := by
  pointwise [val_main_v55, val_main_call1_v0, val_main_call1_cst, val_main_v54, val_main_v53, val_main_v52, val_main_v51, val_main_v50,
    val_main_v49, val_main_v48, val_main_v47, val_main_v46, val_main_v45, val_main_v44, val_main_v43, val_main_v32, val_main_v31,
    val_main_v30, val_main_cst_3, val_main_cst_4, val_main_cst_5]
  simp only [ref_mask, ref_w H, ref_den H, ref_dp H.toArgs, coe_one_div (mul_pos (x.den_pos h i) (x.den_pos h i)).ne', Finset.univ_unique,
    Finset.sum_singleton, ← EReal.coe_mul, coe_div _ (x.den_pos h i).ne', ← coe_sum, ← EReal.coe_neg, ← EReal.coe_add]
  rw [← x.ds_eq h i j]
  by_cases l : j ≤ i
  · rw [if_pos l, if_pos l]; rfl
  · rw [if_neg l, if_neg l]; rfl

theorem ref_dq (H : Holds x0 x1 x2 x3 x4 x) (n : Fin 512) (i : Fin 8192) :
    val_main_v73 (F := Ideal) x0 x1 x2 x3 x4 (ix2 n i) = (x.dq i n : EReal) := by
  pointwise [val_main_v73, val_main_v72, val_main_v71, val_main_v70, val_main_v68, val_main_v67, val_main_v3, val_main_cst_10]
  simp only [ref_ds H, H.k, eighth]
  unfold In.dq
  simp only [coe_sum, EReal.coe_mul]

theorem ref_dcq (H : Holds x0 x1 x2 x3 x4 x) (h : Fin 8) (i : Fin 8192) :
    val_main_v74 (F := Ideal) x0 x1 x2 x3 x4 (ix2 h i) = (x.dcq h i : EReal) := by
  pointwise [val_main_v74, val_main_v64, val_main_v63, val_main_v62, val_main_v61, val_main_cst_8, val_main_cst_9]
  simp only [ref_ds H, Finset.univ_unique, Finset.sum_singleton]
  unfold In.dcq
  rw [coe_sum]

theorem ref_dk (H : Holds x0 x1 x2 x3 x4 x) (j : Fin 8192) (n : Fin 512) :
    val_main_v75 (F := Ideal) x0 x1 x2 x3 x4 (ix2 j n) = (x.dk j n : EReal) := by
  pointwise [val_main_v75, val_main_v69, val_main_v66, val_main_v65, val_main_v2, val_main_v1, val_main_v0, val_main_cst]
  simp only [ref_ds H, H.q, eighth]
  unfold In.dk
  simp only [coe_sum, EReal.coe_mul]

theorem ref_dv (H : Holds x0 x1 x2 x3 x4 x) (j : Fin 8192) (n : Fin 512) :
    val_main_v76 (F := Ideal) x0 x1 x3 x4 (ix2 j n) = (x.dv j n : EReal) := by
  pointwise [val_main_v76, val_main_v42, val_main_v41, val_main_v40, val_main_v38, val_main_v37]
  simp only [ref_pr H, H.g]
  unfold In.dv
  simp only [coe_sum, EReal.coe_mul]
  exact Finset.sum_congr rfl fun i _ => mul_comm _ _

/-- The keys' decays, in the first eight of 128 columns. -/
theorem ref_dck (H : Holds x0 x1 x2 x3 x4 x) (j : Fin 8192) (h : Fin 8) :
    val_main_v60 (F := Ideal) x0 x1 x2 x3 x4 (ix2 j h) = (x.dck h j : EReal) := by
  pointwise [val_main_v60, val_main_v59, val_main_v58, val_main_v57, val_main_v56, val_main_cst_6, val_main_cst_7]
  simp only [ref_ds H, Finset.univ_unique, Finset.sum_singleton]
  unfold In.dck
  rw [← Finset.sum_neg_distrib, coe_sum]
  simp only [EReal.coe_neg]

theorem ref_padded (H : Holds x0 x1 x2 x3 x4 x) (j : Fin 8192) (l : Fin 128) :
    val_main_v77 (F := Ideal) x0 x1 x2 x3 x4 (ix2 j l) = ((if h : l.val < 8 then x.dck ⟨l.val, h⟩ j else 0 : ℝ) : EReal) := by
  pointwise [val_main_v77, val_main_call2_v0, val_main_c]
  split
  · exact ref_dck H j _
  · show (((0#32 : BitVec 32).toInt : ℝ) : EReal) = ((0 : ℝ) : EReal)
    norm_num

end Cert.Attn

end
-- ==== Proof.Attn.Host.lean ====
module

public import proofs.«01_k».proof.Proof.Attn.Frame
public import proofs.«01_k».proof.Proof.Attn.Reference
public import Idealize.ShloMosaic.Lib.StableHlo.RunRead

@[expose] public section

set_option maxRecDepth 16384

noncomputable section

namespace Cert.KAttnIdeal.Gen

open Cert.KAttnIdeal Idealize.ShloMosaic Idealize.ShloMosaic.TcCoe Idealize.SL.Sem Cert.Attn

variable (m : (ℓ : Loc nD τ sig) → Buf (Elt Ideal) ℓ) (c : Dev nD)

abbrev A0 : Vec Ideal S8192x512 .f32 := m ((c : Thread nD τ).loc main_arg0)
abbrev A1 : Vec Ideal S8192x512 .f32 := m ((c : Thread nD τ).loc main_arg1)
abbrev A2 : Vec Ideal S8192x512 .f32 := m ((c : Thread nD τ).loc main_arg2)
abbrev A3 : Vec Ideal S8192x8 .f32 := m ((c : Thread nD τ).loc main_arg3)
abbrev A4 : Vec Ideal S8192x512 .f32 := m ((c : Thread nD τ).loc main_arg4)

/-- The buffers once the saved values are made. -/
abbrev saved (m : (ℓ : Loc nD τ sig) → Buf (Elt Ideal) ℓ) (c : Dev nD) : Valuation τ sig (Elt Ideal) :=
  StableHlo.after (List.flatten [hostOps0, hostOps0_1, hostOps0_2]) (fun b => m (c, b))

/-- The numbers in three bf16 pieces. -/
def pieces (y : FVec Ideal S8192x8 .f32) : FVec Ideal S8192x8x3 .f32 :=
  let a : FVec Ideal S8192x8 .f32 := extf .f32 (truncf .bf16 y bitsLt_bf16_f32) bitsLt_bf16_f32
  let r := subf y a
  let b : FVec Ideal S8192x8 .f32 := extf .f32 (truncf .bf16 r bitsLt_bf16_f32) bitsLt_bf16_f32
  let s := subf r b
  let d : FVec Ideal S8192x8 .f32 := extf .f32 (truncf .bf16 s bitsLt_bf16_f32) bitsLt_bf16_f32
  let wide (z : FVec Ideal S8192x8 .f32) : FVec Ideal S8192x8x1 .f32 := broadcastInDim S8192x8x1 ![0, 1] bcast_S8192x8_S8192x8x1_0_1 z
  concatenate S8192x8x3 2 [⟨S8192x8x1, wide a⟩, ⟨S8192x8x1, wide b⟩, ⟨S8192x8x1, wide d⟩] concatenates_S8192x8x1_S8192x8x1_S8192x8x1_S8192x8x3_d2

/-- The heads of odd number. -/
def odd : Vec Ideal S1x8x1 .i1 :=
  cmpi .eq (andi (iotaInDim S1x8x1 32 1) (broadcastInDim S1x8x1 ![] bcast_S_S1x8x1 (constantI S_ 32 1#32))) (broadcastInDim S1x8x1 ![] bcast_S_S1x8x1 (constantI S_ 32 1#32))

def saved_lsec (t d : FVec Ideal S8x8192x1 .f32) (y : FVec Ideal S8192x8 .f32) : FVec Ideal S8192x8 .f32 :=
  subf (transpose S8192x8 [1, 0] (shapeCast S8x8192 (addf t (Host.log d)) shapeCasts_S8x8192x1_S8x8192) transposes_S8x8192_S8192x8_1_0) y

def saved_delta (g v : FVec Ideal S8192x512 .f32) (p : FVec Ideal S8x8192x8192 .f32) : FVec Ideal S8192x8 .f32 :=
  Host.reduceAdd (shapeCast S8192x8x64 (mulf g (shapeCast S8192x512 (transpose S8192x8x64 [2, 0, 1]
    (Host.dotGeneral dot_S8192x8x64_S8x8192x8192_S8x64x8192_0_2_2_1_1_0 none (shapeCast S8192x8x64 v shapeCasts_S8192x512_S8192x8x64) p : FVec Ideal S8x64x8192 .f32)
    transposes_S8x64x8192_S8192x8x64_2_0_1) shapeCasts_S8192x8x64_S8192x512)) shapeCasts_S8192x512_S8192x8x64)
    (constant (F := Ideal) S_ .f32 0x00000000#32) reducesTo_S8192x8x64_S8192x8_d2 h_S_

theorem saved_v32 : (saved m c (Proc.devRef .tc main_v32) : FVec Ideal S8192x8 .f32)
    = saved_lsec (Cert.RAttnIdeal.Read.val_main_v22 (F := Ideal) (A0 m c) (A1 m c) (A3 m c)) (Cert.RAttnIdeal.Read.val_main_v27 (F := Ideal) (A0 m c) (A1 m c) (A3 m c)) (A3 m c) := by
  unfold saved hostOps0 hostOps0_1 hostOps0_2
  after_reads_simp
  rfl

theorem saved_v41 : (saved m c (Proc.devRef .tc main_v41) : FVec Ideal S8192x8 .f32)
    = saved_delta (A4 m c) (A2 m c) (Cert.RAttnIdeal.Read.val_main_v29 (F := Ideal) (A0 m c) (A1 m c) (A3 m c)) := by
  unfold saved hostOps0 hostOps0_1 hostOps0_2
  after_reads_simp
  rfl

theorem saved_v46 : (saved m c (Proc.devRef .tc main_v46) : Vec Ideal S1x8x1 .i1) = odd := by
  unfold saved hostOps0 hostOps0_1 hostOps0_2
  after_reads_simp
  rfl

theorem saved_v62 : (saved m c (Proc.devRef .tc main_v62) : FVec Ideal S8192x4x6 .f32)
    = Host.negf (F := Ideal) (φ := .f32) (shapeCast S8192x4x6 (pieces (A3 m c)) shapeCasts_S8192x8x3_S8192x4x6) := by
  unfold saved hostOps0 hostOps0_1 hostOps0_2
  after_reads_simp
  rfl

theorem saved_v63 : (saved m c (Proc.devRef .tc main_v63) : FVec Ideal S8192x4x119 .f32)
    = broadcastInDim S8192x4x119 ![] bcast_S_S8192x4x119 (constant (F := Ideal) S_ .f32 0x00000000#32) := by
  unfold saved hostOps0 hostOps0_1 hostOps0_2
  after_reads_simp

theorem saved_v65 : (saved m c (Proc.devRef .tc main_v65) : FVec Ideal S8192x512 .f32)
    = mulf (A0 m c) (broadcastInDim S8192x512 ![] bcast_S_S8192x512 (constant (F := Ideal) S_ .f32 0x3E000000#32)) := by
  unfold saved hostOps0 hostOps0_1 hostOps0_2
  after_reads_simp

theorem saved_v66 : (saved m c (Proc.devRef .tc main_v66) : FVec Ideal S8192x8x3 .f32)
    = broadcastInDim S8192x8x3 ![] bcast_S_S8192x8x3 (constant (F := Ideal) S_ .f32 0x3F800000#32) := by
  unfold saved hostOps0 hostOps0_1 hostOps0_2
  after_reads_simp

theorem saved_cst_8 : (saved m c (Proc.devRef .tc main_cst_8) : FVec Ideal S_ .f32) = constant (F := Ideal) S_ .f32 0x00000000#32 := by
  unfold saved hostOps0 hostOps0_1 hostOps0_2
  after_reads_simp

theorem saved_arg1 : (saved m c (Proc.devRef .tc main_arg1) : FVec Ideal S8192x512 .f32) = A1 m c := by
  unfold saved hostOps0 hostOps0_1 hostOps0_2
  after_reads_simp

theorem saved_arg2 : (saved m c (Proc.devRef .tc main_arg2) : FVec Ideal S8192x512 .f32) = A2 m c := by
  unfold saved hostOps0 hostOps0_1 hostOps0_2
  after_reads_simp

theorem saved_arg4 : (saved m c (Proc.devRef .tc main_arg4) : FVec Ideal S8192x512 .f32) = A4 m c := by
  unfold saved hostOps0 hostOps0_1 hostOps0_2
  after_reads_simp

/-- A key or value row by pairs of heads: its 128 lanes, the pieces of −c, ones, zeros. -/
def keys (y : FVec Ideal S8192x512 .f32) (n : FVec Ideal S8192x4x6 .f32) (z : FVec Ideal S8192x4x119 .f32) : FVec Ideal S8192x1024 .bf16 :=
  truncf .bf16 (shapeCast S8192x1024 (concatenate S8192x4x256 2 [⟨S8192x4x128, shapeCast S8192x4x128 y shapeCasts_S8192x512_S8192x4x128⟩, ⟨S8192x4x6, n⟩,
    ⟨S8192x4x3, broadcastInDim S8192x4x3 ![] bcast_S_S8192x4x3 (constant (F := Ideal) S_ .f32 0x3F800000#32)⟩, ⟨S8192x4x119, z⟩]
    concatenates_S8192x4x128_S8192x4x6_S8192x4x3_S8192x4x119_S8192x4x256_d2) shapeCasts_S8192x4x256_S8192x1024) bitsLt_bf16_f32

/-- The numbers of the heads of even number, and of odd. -/
def half0 (o : Vec Ideal S1x8x1 .i1) (y : FVec Ideal S8192x8x64 .f32) : FVec Ideal S8192x8x64 .f32 :=
  select (broadcastInDim S8192x8x64 ![0, 1, 2] bcast_S1x8x1_S8192x8x64_0_1_2 o) (broadcastInDim S8192x8x64 ![] bcast_S_S8192x8x64 (constant (F := Ideal) S_ .f32 0x00000000#32)) y
def half1 (o : Vec Ideal S1x8x1 .i1) (y : FVec Ideal S8192x8x64 .f32) : FVec Ideal S8192x8x64 .f32 :=
  select (broadcastInDim S8192x8x64 ![0, 1, 2] bcast_S1x8x1_S8192x8x64_0_1_2 o) y (broadcastInDim S8192x8x64 ![] bcast_S_S8192x8x64 (constant (F := Ideal) S_ .f32 0x00000000#32))
def ones0 (z : FVec Ideal S_ .f32) (o : Vec Ideal S1x8x1 .i1) (y : FVec Ideal S8192x8x3 .f32) : FVec Ideal S8192x8x3 .f32 :=
  select (broadcastInDim S8192x8x3 ![0, 1, 2] bcast_S1x8x1_S8192x8x3_0_1_2 o) (broadcastInDim S8192x8x3 ![] bcast_S_S8192x8x3 z) y
def ones1 (o : Vec Ideal S1x8x1 .i1) (y : FVec Ideal S8192x8x3 .f32) : FVec Ideal S8192x8x3 .f32 :=
  select (broadcastInDim S8192x8x3 ![0, 1, 2] bcast_S1x8x1_S8192x8x3_0_1_2 o) y (broadcastInDim S8192x8x3 ![] bcast_S_S8192x8x3 (constant (F := Ideal) S_ .f32 0x00000000#32))

/-- A query row by heads: halves, selectors of −c, the pieces of −lsec, zeros. -/
def queries (z : FVec Ideal S_ .f32) (o : Vec Ideal S1x8x1 .i1) (y : FVec Ideal S8192x512 .f32) (u : FVec Ideal S8192x8x3 .f32) (l : FVec Ideal S8192x8 .f32) : FVec Ideal S8192x2048 .bf16 :=
  truncf .bf16 (shapeCast S8192x2048 (concatenate S8192x8x256 2 [⟨S8192x8x64, half0 o (shapeCast S8192x8x64 y shapeCasts_S8192x512_S8192x8x64)⟩,
    ⟨S8192x8x64, half1 o (shapeCast S8192x8x64 y shapeCasts_S8192x512_S8192x8x64)⟩, ⟨S8192x8x3, ones0 z o u⟩, ⟨S8192x8x3, ones1 o u⟩, ⟨S8192x8x3, pieces (Host.negf l)⟩,
    ⟨S8192x8x119, broadcastInDim S8192x8x119 ![] bcast_S_S8192x8x119 (constant (F := Ideal) S_ .f32 0x00000000#32)⟩]
    concatenates_S8192x8x64_S8192x8x64_S8192x8x3_S8192x8x3_S8192x8x3_S8192x8x119_S8192x8x256_d2) shapeCasts_S8192x8x256_S8192x2048) bitsLt_bf16_f32

/-- A row of output gradients likewise, the selectors zero. -/
def grads (o : Vec Ideal S1x8x1 .i1) (y : FVec Ideal S8192x512 .f32) (l : FVec Ideal S8192x8 .f32) : FVec Ideal S8192x2048 .bf16 :=
  truncf .bf16 (shapeCast S8192x2048 (concatenate S8192x8x256 2 [⟨S8192x8x64, half0 o (shapeCast S8192x8x64 y shapeCasts_S8192x512_S8192x8x64)⟩,
    ⟨S8192x8x64, half1 o (shapeCast S8192x8x64 y shapeCasts_S8192x512_S8192x8x64)⟩,
    ⟨S8192x8x6, broadcastInDim S8192x8x6 ![] bcast_S_S8192x8x6 (constant (F := Ideal) S_ .f32 0x00000000#32)⟩, ⟨S8192x8x3, pieces (Host.negf l)⟩,
    ⟨S8192x8x119, broadcastInDim S8192x8x119 ![] bcast_S_S8192x8x119 (constant (F := Ideal) S_ .f32 0x00000000#32)⟩]
    concatenates_S8192x8x64_S8192x8x64_S8192x8x6_S8192x8x3_S8192x8x119_S8192x8x256_d2) shapeCasts_S8192x8x256_S8192x2048) bitsLt_bf16_f32

/-- The kernel's operands, once the saved values are made. -/
abbrev operands (W : Valuation τ sig (Elt Ideal)) : Valuation τ sig (Elt Ideal) :=
  StableHlo.after (List.flatten [hostOps0_3, hostOps0_4, hostOps0_5, hostOps0_6, hostOps0_7, hostOps0_8, hostOps0_9, hostOps0_10, hostOps0_11, hostOps0_12,
    hostOps0_13, hostOps0_14]) W

theorem V_eq (b : Ref sig .tc) : V m c b = operands (saved m c) (Proc.devRef .tc b) := by
  unfold V operands saved
  rw [← StableHlo.after_append]; rfl

/-! What the kernel reads. -/

variable (W : Valuation τ sig (Elt Ideal))

theorem operands_v116 : (operands W (Proc.devRef .tc main_v116) : FVec Ideal S8192x1024 .bf16)
    = keys (W (Proc.devRef .tc main_arg1)) (W (Proc.devRef .tc main_v62)) (W (Proc.devRef .tc main_v63)) := by
  unfold operands hostOps0_3 hostOps0_4 hostOps0_5 hostOps0_6 hostOps0_7 hostOps0_8 hostOps0_9 hostOps0_10 hostOps0_11 hostOps0_12 hostOps0_13 hostOps0_14
  after_reads_simp
  rfl

theorem operands_v121 : (operands W (Proc.devRef .tc main_v121) : FVec Ideal S8192x1024 .bf16)
    = keys (W (Proc.devRef .tc main_arg2)) (W (Proc.devRef .tc main_v62)) (W (Proc.devRef .tc main_v63)) := by
  unfold operands hostOps0_3 hostOps0_4 hostOps0_5 hostOps0_6 hostOps0_7 hostOps0_8 hostOps0_9 hostOps0_10 hostOps0_11 hostOps0_12 hostOps0_13 hostOps0_14
  after_reads_simp
  rfl

theorem operands_v123 : (operands W (Proc.devRef .tc main_v123) : FVec Ideal S512x8192 .bf16)
    = transpose S512x8192 [1, 0] (truncf (F := Ideal) .bf16 (W (Proc.devRef .tc main_arg1) : FVec Ideal S8192x512 .f32) bitsLt_bf16_f32) transposes_S8192x512_S512x8192_1_0 := by
  unfold operands hostOps0_3 hostOps0_4 hostOps0_5 hostOps0_6 hostOps0_7 hostOps0_8 hostOps0_9 hostOps0_10 hostOps0_11 hostOps0_12 hostOps0_13 hostOps0_14
  after_reads_simp

theorem operands_v124 : (operands W (Proc.devRef .tc main_v124) : FVec Ideal S8192x2048 .bf16)
    = queries (W (Proc.devRef .tc main_cst_8)) (W (Proc.devRef .tc main_v46)) (W (Proc.devRef .tc main_v65)) (W (Proc.devRef .tc main_v66)) (W (Proc.devRef .tc main_v32)) := by
  unfold operands hostOps0_3 hostOps0_4 hostOps0_5 hostOps0_6 hostOps0_7 hostOps0_8 hostOps0_9 hostOps0_10 hostOps0_11 hostOps0_12 hostOps0_13 hostOps0_14
  after_reads_simp
  rfl

theorem operands_v125 : (operands W (Proc.devRef .tc main_v125) : FVec Ideal S8192x2048 .bf16)
    = grads (W (Proc.devRef .tc main_v46)) (W (Proc.devRef .tc main_arg4)) (W (Proc.devRef .tc main_v41)) := by
  unfold operands hostOps0_3 hostOps0_4 hostOps0_5 hostOps0_6 hostOps0_7 hostOps0_8 hostOps0_9 hostOps0_10 hostOps0_11 hostOps0_12 hostOps0_13 hostOps0_14
  after_reads_simp
  rfl

theorem operands_v126 : (operands W (Proc.devRef .tc main_v126) : FVec Ideal S8x128 .f32)
    = broadcastInDim S8x128 ![] bcast_S_S8x128 (constant (F := Ideal) S_ .f32 0x00000000#32) := by
  unfold operands hostOps0_3 hostOps0_4 hostOps0_5 hostOps0_6 hostOps0_7 hostOps0_8 hostOps0_9 hostOps0_10 hostOps0_11 hostOps0_12 hostOps0_13 hostOps0_14
  after_reads_simp

theorem V_v116 : (V m c main_v116 : FVec Ideal S8192x1024 .bf16) = keys (A1 m c)
    (Host.negf (F := Ideal) (φ := .f32) (shapeCast S8192x4x6 (pieces (A3 m c)) shapeCasts_S8192x8x3_S8192x4x6)) (broadcastInDim S8192x4x119 ![] bcast_S_S8192x4x119 (constant (F := Ideal) S_ .f32 0x00000000#32)) := by
  rw [V_eq]; refine (operands_v116 _).trans ?_; rw [saved_arg1, saved_v62, saved_v63]

theorem V_v121 : (V m c main_v121 : FVec Ideal S8192x1024 .bf16) = keys (A2 m c)
    (Host.negf (F := Ideal) (φ := .f32) (shapeCast S8192x4x6 (pieces (A3 m c)) shapeCasts_S8192x8x3_S8192x4x6)) (broadcastInDim S8192x4x119 ![] bcast_S_S8192x4x119 (constant (F := Ideal) S_ .f32 0x00000000#32)) := by
  rw [V_eq]; refine (operands_v121 _).trans ?_; rw [saved_arg2, saved_v62, saved_v63]

theorem V_v123 : (V m c main_v123 : FVec Ideal S512x8192 .bf16)
    = transpose S512x8192 [1, 0] (truncf (F := Ideal) .bf16 (A1 m c) bitsLt_bf16_f32) transposes_S8192x512_S512x8192_1_0 := by
  rw [V_eq]; refine (operands_v123 _).trans ?_; rw [saved_arg1]

theorem V_v124 : (V m c main_v124 : FVec Ideal S8192x2048 .bf16)
    = queries (constant (F := Ideal) S_ .f32 0x00000000#32) odd (mulf (A0 m c) (broadcastInDim S8192x512 ![] bcast_S_S8192x512 (constant (F := Ideal) S_ .f32 0x3E000000#32)))
      (broadcastInDim S8192x8x3 ![] bcast_S_S8192x8x3 (constant (F := Ideal) S_ .f32 0x3F800000#32)) (saved m c (Proc.devRef .tc main_v32)) := by
  rw [V_eq]; refine (operands_v124 _).trans ?_; rw [saved_cst_8, saved_v46, saved_v65, saved_v66]

theorem V_v125 : (V m c main_v125 : FVec Ideal S8192x2048 .bf16) = grads odd (A4 m c) (saved m c (Proc.devRef .tc main_v41)) := by
  rw [V_eq]; refine (operands_v125 _).trans ?_; rw [saved_v46, saved_arg4]

theorem V_v126 : (V m c main_v126 : FVec Ideal S8x128 .f32) = broadcastInDim S8x128 ![] bcast_S_S8x128 (constant (F := Ideal) S_ .f32 0x00000000#32) := by
  rw [V_eq]; exact operands_v126 _

end Cert.KAttnIdeal.Gen

end
-- ==== Proof.Attn.Lanes.lean ====
/- The kernel's operands, lane by lane, as the real model of `Attn/Math.lean`. -/
module

public import proofs.«01_k».proof.Proof.Attn.Host

@[expose] public section

set_option maxRecDepth 16384

noncomputable section

namespace Cert.Attn

/-- A lane of a key or value row of a pair of heads. -/
def keyLane (y : Fin 512 → ℝ) (g : Fin 8 → ℝ) (p : Fin 4) (l : Fin 256) : ℝ :=
  if h : l.val < 128 then y ⟨p.val * 128 + l.val, by have := p.isLt; omega⟩
  else if h : l.val - 128 < 6 then -(if (l.val - 128) % 3 = 0 then g ⟨p.val * 2 + (l.val - 128) / 3, by have := p.isLt; omega⟩ else 0)
  else if l.val - 128 - 6 < 3 then 1 else 0

/-- A lane of a query row or of one of output gradients of a head: `u` stands where −c is added. -/
def queryLane (y : Fin 512 → ℝ) (u b : ℝ) (h : Fin 8) (l : Fin 256) : ℝ :=
  if _ : l.val < 64 then (if h.val % 2 = 1 then 0 else y ⟨h.val * 64 + l.val, by have := h.isLt; omega⟩)
  else if _ : l.val - 64 < 64 then (if h.val % 2 = 1 then y ⟨h.val * 64 + (l.val - 64), by have := h.isLt; omega⟩ else 0)
  else if l.val - 64 - 64 < 3 then (if h.val % 2 = 1 then 0 else u)
  else if l.val - 64 - 64 - 3 < 3 then (if h.val % 2 = 1 then u else 0)
  else if l.val - 64 - 64 - 3 - 3 < 3 then -(if l.val - 64 - 64 - 3 - 3 = 0 then b else 0)
  else 0

theorem queryLane_zero (y : Fin 512 → ℝ) (b : ℝ) (h : Fin 8) (l : Fin 256) : queryLane y 0 b h l =
    if _ : l.val < 64 then (if h.val % 2 = 1 then 0 else y ⟨h.val * 64 + l.val, by have := h.isLt; omega⟩)
    else if _ : l.val - 64 < 64 then (if h.val % 2 = 1 then y ⟨h.val * 64 + (l.val - 64), by have := h.isLt; omega⟩ else 0)
    else if l.val - 64 - 64 < 6 then 0
    else if l.val - 64 - 64 - 6 < 3 then -(if l.val - 64 - 64 - 6 = 0 then b else 0)
    else 0 := by
  unfold queryLane
  simp only [ite_self]
  refine dite_congr rfl (fun _ => rfl) fun _ => dite_congr rfl (fun _ => rfl) fun _ => ?_
  have e : l.val - 64 - 64 - 3 - 3 = l.val - 64 - 64 - 6 := by omega
  rw [e]
  by_cases a : l.val - 64 - 64 < 6
  · rw [if_pos a]
    split
    · rfl
    · rw [if_pos (by omega)]
  · rw [if_neg a, if_neg (by omega), if_neg (by omega)]

theorem sum_lanes (f : Fin 256 → ℝ) : ∑ l, f l = (∑ d : Fin 64, f ⟨d.val, by omega⟩) + ((∑ d : Fin 64, f ⟨64 + d.val, by omega⟩)
    + ((∑ d : Fin 9, f ⟨64 + (64 + d.val), by omega⟩) + ∑ d : Fin 119, f ⟨64 + (64 + (9 + d.val)), by omega⟩)) := by
  rw [show ∑ l, f l = ∑ l : Fin (64 + (64 + (9 + 119))), f l from rfl, Fin.sum_univ_add, Fin.sum_univ_add, Fin.sum_univ_add]
  rfl

/-- A query lane by lane with its pair's keys. -/
theorem sum_query_key (yq yk : Fin 512 → ℝ) (u b : ℝ) (g : Fin 8 → ℝ) (h : Fin 8) (p : Fin 4) (hp : h.val / 2 = p.val) :
    ∑ l, queryLane yq u b h l * keyLane yk g p l = (∑ d, yq (hd h d) * yk (hd h d)) - u * g h - b := by
  rw [sum_lanes]
  have z : ∑ d : Fin 119, queryLane yq u b h ⟨64 + (64 + (9 + d.val)), by omega⟩ * keyLane yk g p ⟨64 + (64 + (9 + d.val)), by omega⟩ = 0 := by
    refine Finset.sum_eq_zero fun d _ => ?_
    unfold queryLane
    rw [dif_neg (by simp), dif_neg (by simp), if_neg (by simp; omega), if_neg (by simp; omega), if_neg (by simp; omega), zero_mul]
  rw [z, add_zero]
  simp only [Fin.sum_univ_succ (n := 8), Fin.sum_univ_succ (n := 7), Fin.sum_univ_succ (n := 6), Fin.sum_univ_succ (n := 5), Fin.sum_univ_succ (n := 4),
    Fin.sum_univ_succ (n := 3), Fin.sum_univ_succ (n := 2), Fin.sum_univ_succ (n := 1), Fin.sum_univ_succ (n := 0)]
  have hh := h.isLt
  by_cases o : h.val % 2 = 1
  · have e : (p.val * 2 + 1 : ℕ) = h.val := by omega
    simp [queryLane, keyLane, o]
    rw [show (⟨p.val * 2 + 1, by omega⟩ : Fin 8) = h from Fin.ext e, sub_sub, sub_eq_add_neg, neg_add]
    refine congrArg (· + _) (Finset.sum_congr rfl fun d _ => ?_)
    have hd' := d.isLt
    rw [dif_pos (by omega)]
    rw [show (⟨p.val * 128 + (64 + d.val), by omega⟩ : Fin 512) = hd h d from Fin.ext (show p.val * 128 + (64 + d.val) = h.val * 64 + d.val by omega)]
  · have e : (p.val * 2 : ℕ) = h.val := by omega
    simp [queryLane, keyLane, o]
    rw [show (⟨p.val * 2, by omega⟩ : Fin 8) = h from Fin.ext e, sub_sub, sub_eq_add_neg, neg_add]
    refine congrArg (· + _) (Finset.sum_congr rfl fun d _ => ?_)
    have hd' := d.isLt
    rw [dif_pos (by omega)]
    rw [show (⟨p.val * 128 + d.val, by omega⟩ : Fin 512) = hd h d from Fin.ext (show p.val * 128 + d.val = h.val * 64 + d.val by omega)]

end Cert.Attn

namespace Cert.KAttnIdeal.Gen

open Cert.KAttnIdeal Idealize.ShloMosaic Idealize.ShloMosaic.TcCoe Idealize.SL.Sem Cert.Attn

theorem pieces_real (y : FVec Ideal S8192x8 .f32) (i : Fin 8192) (h : Fin 8) (r : ℝ) (e : y (ix2 i h) = (r : EReal)) (a : Fin 3) :
    pieces y (ix3 i h a) = ((if a.val = 0 then r else 0 : ℝ) : EReal) := by
  unfold pieces
  pointwise []
  rw [e, ← EReal.coe_sub, ← EReal.coe_sub, sub_self, sub_self]
  have := a.isLt
  by_cases z : a.val = 0
  · rw [dif_pos (by omega), if_pos z]
  · rw [dif_neg (by omega), if_neg z]; split <;> rfl

theorem odd_apply (h : Fin 8) : odd (ix3 (0 : Fin 1) h (0 : Fin 1)) = if h.val % 2 = 1 then 1#1 else 0#1 := by
  unfold odd
  pointwise []
  fin_cases h <;> rfl

theorem keys_real (y : FVec Ideal S8192x512 .f32) (b : FVec Ideal S8192x8 .f32) (r : Fin 8192 → Fin 512 → ℝ) (g : Fin 8192 → Fin 8 → ℝ)
    (hy : ∀ i n, y (ix2 i n) = (r i n : EReal)) (hb : ∀ i h, b (ix2 i h) = (g i h : EReal)) (j : Fin 8192) (p : Fin 4) (l : Fin 256) :
    keys y (Host.negf (F := Ideal) (φ := .f32) (shapeCast S8192x4x6 (pieces b) shapeCasts_S8192x8x3_S8192x4x6))
      (broadcastInDim S8192x4x119 ![] bcast_S_S8192x4x119 (constant (F := Ideal) S_ .f32 0x00000000#32)) (ix2 j ⟨p.val * 256 + l.val, by have := p.isLt; omega⟩)
    = (keyLane (r j) (g j) p l : EReal) := by
  unfold keys
  pointwise []
  have hl := l.isLt
  have hp := p.isLt
  have e1 : (p.val * 256 + l.val) / 256 = p.val := by omega
  have e2 : (p.val * 256 + l.val) % 256 = l.val := by omega
  simp only [e1, e2, hy]
  unfold keyLane
  split
  · rfl
  · split
    · rw [pieces_real b _ _ _ (hb _ _), ← EReal.coe_neg]
    · split <;> rfl

theorem queries_real (y : FVec Ideal S8192x512 .f32) (b : FVec Ideal S8192x8 .f32) (r : Fin 8192 → Fin 512 → ℝ) (g : Fin 8192 → Fin 8 → ℝ)
    (hy : ∀ i n, y (ix2 i n) = (r i n : EReal)) (hb : ∀ i h, b (ix2 i h) = (g i h : EReal)) (i : Fin 8192) (h : Fin 8) (l : Fin 256) :
    queries (constant (F := Ideal) S_ .f32 0x00000000#32) odd (mulf y (broadcastInDim S8192x512 ![] bcast_S_S8192x512 (constant (F := Ideal) S_ .f32 0x3E000000#32)))
      (broadcastInDim S8192x8x3 ![] bcast_S_S8192x8x3 (constant (F := Ideal) S_ .f32 0x3F800000#32)) b (ix2 i ⟨h.val * 256 + l.val, by have := h.isLt; omega⟩)
    = (queryLane (fun n => r i n * (1/8)) 1 (g i h) h l : EReal) := by
  unfold queries half0 half1 ones0 ones1
  pointwise []
  have hl := l.isLt
  simp only [hy, odd_apply, eighth, ← EReal.coe_mul]
  unfold queryLane
  split
  · split <;> rfl
  · split
    · split <;> rfl
    · split
      · split <;> rfl
      · split
        · split <;> rfl
        · split
          · rw [pieces_real (Host.negf b) i h (-g i h) (by rw [EReal.coe_neg, ← hb]; rfl)]
            split <;> simp
          · rfl

theorem grads_real (y : FVec Ideal S8192x512 .f32) (b : FVec Ideal S8192x8 .f32) (r : Fin 8192 → Fin 512 → ℝ) (g : Fin 8192 → Fin 8 → ℝ)
    (hy : ∀ i n, y (ix2 i n) = (r i n : EReal)) (hb : ∀ i h, b (ix2 i h) = (g i h : EReal)) (i : Fin 8192) (h : Fin 8) (l : Fin 256) :
    grads odd y b (ix2 i ⟨h.val * 256 + l.val, by have := h.isLt; omega⟩) = (queryLane (r i) 0 (g i h) h l : EReal) := by
  unfold grads half0 half1
  pointwise []
  have hl := l.isLt
  simp only [hy, odd_apply]
  rw [queryLane_zero]
  split
  · split <;> rfl
  · split
    · split <;> rfl
    · split
      · rfl
      · split
        · rw [pieces_real (Host.negf b) i h (-g i h) (by rw [EReal.coe_neg, ← hb]; rfl)]
          split <;> simp
        · rfl

theorem lsec_real (t d : FVec Ideal S8x8192x1 .f32) (y : FVec Ideal S8192x8 .f32) (i : Fin 8192) (h : Fin 8) :
    saved_lsec t d y (ix2 i h) = t (ix3 h i 0) + Ideal.log (d (ix3 h i 0)) - y (ix2 i h) := by
  unfold saved_lsec
  pointwise []

theorem delta_real (g v : FVec Ideal S8192x512 .f32) (p : FVec Ideal S8x8192x8192 .f32) (i : Fin 8192) (h : Fin 8) :
    saved_delta g v p (ix2 i h) = ∑ d : Fin 64, g (ix2 i (hd h d)) * ∑ j, v (ix2 j (hd h d)) * p (ix3 h i j) := by
  unfold saved_delta
  pointwise []

end Cert.KAttnIdeal.Gen

end
-- ==== Proof.Attn.Real.lean ====
/- One step on a pair of blocks, as the real model of `Attn/Math.lean`. -/
module

public import proofs.«01_k».proof.Proof.Attn.Lanes
public import proofs.«01_k».proof.Proof.Attn.Tile

@[expose] public section

set_option maxRecDepth 16384

noncomputable section

namespace Cert.Attn

/-- What a query subtracts under the exponential. -/
def In.lsec (x : In) (i : Fin 8192) (h : Fin 8) : ℝ := x.top h i + Real.log (x.den h i) - x.c i h

end Cert.Attn

namespace Cert.KAttnIdeal.Gen

open Cert.KAttnIdeal Idealize.ShloMosaic Idealize.ShloMosaic.TcCoe Idealize.SL.Sem Cert.Attn

/-- The operands are the model's numbers at keys `J` and queries `I`. -/
structure Tiles (x : In) (J I : Fin 512 → Fin 8192) (x0 x1 : Vec Ideal S512x1024 .bf16) (x2 : Vec Ideal S512x512 .bf16) (x3 x4 : Vec Ideal S512x2048 .bf16) : Prop where
  k : ∀ r (p : Fin 4) (l : Fin 256), x0 (ix2 r ⟨p.val * 256 + l.val, by have := p.isLt; omega⟩) = (keyLane (x.k (J r)) (x.c (J r)) p l : EReal)
  v : ∀ r (p : Fin 4) (l : Fin 256), x1 (ix2 r ⟨p.val * 256 + l.val, by have := p.isLt; omega⟩) = (keyLane (x.v (J r)) (x.c (J r)) p l : EReal)
  t : ∀ n r, x2 (ix2 n r) = (x.k (J r) n : EReal)
  q : ∀ s (h : Fin 8) (l : Fin 256), x3 (ix2 s ⟨h.val * 256 + l.val, by have := h.isLt; omega⟩) = (queryLane (fun n => x.q (I s) n * (1 / 8)) 1 (x.lsec (I s) h) h l : EReal)
  g : ∀ s (h : Fin 8) (l : Fin 256), x4 (ix2 s ⟨h.val * 256 + l.val, by have := h.isLt; omega⟩) = (queryLane (x.g (I s)) 0 (x.delta h (I s)) h l : EReal)

/-- A load of a block of an array reads it at the offset. -/
theorem ld_at {α : Type} {m n R C o₀ o₁ : ℕ} (x : (⟨2, ![m, n]⟩ : Shape).Idx → α) (inb) (r : Fin R) (l : Fin C) (a : Fin m) (b : Fin n) (ha : a.val = o₀ + r.val) (hb : b.val = o₁ + l.val) :
    x ((Rect.unit (s := (⟨2, ![m, n]⟩ : Shape)) ![o₀, o₁] ![R, C] inb).toLoadRect.idx (ix2 r l)) = x (ix2 a b) :=
  congrArg x (funext fun d => match d with
    | ⟨0, _⟩ => Fin.ext (by show o₀ + 1 * r.val = a.val; omega)
    | ⟨1, _⟩ => Fin.ext (by show o₁ + 1 * l.val = b.val; omega))

theorem kcol_apply (x : Vec Ideal S512x1024 .bf16) (p : Fin 4) (r : Fin 512) (l : Fin 256) :
    kcol x p (ix2 r l) = x (ix2 r ⟨p.val * 256 + l.val, by have := p.isLt; omega⟩) := by
  fin_cases p <;> exact ld_at x _ r l r _ (by omega) (by dsimp only)

theorem qcol_apply (x : Vec Ideal S512x2048 .bf16) (h : Fin 8) (r : Fin 512) (l : Fin 256) :
    qcol x h (ix2 r l) = x (ix2 r ⟨h.val * 256 + l.val, by have := h.isLt; omega⟩) := by
  fin_cases h <;> exact ld_at x _ r l r _ (by omega) (by dsimp only)

theorem krow_apply (x : Vec Ideal S512x512 .bf16) (p : Fin 4) (l : Fin 128) (r : Fin 512) :
    krow x p (ix2 l r) = x (ix2 ⟨p.val * 128 + l.val, by have := p.isLt; omega⟩ r) := by
  fin_cases p <;> exact ld_at x _ l r _ r (by dsimp only) (by omega)

theorem ocol_apply (x : Vec Ideal S512x512 .f32) (p : Fin 4) (r : Fin 512) (l : Fin 128) :
    ocol x p (ix2 r l) = x (ix2 r ⟨p.val * 128 + l.val, by have := p.isLt; omega⟩) := by
  fin_cases p <;> exact ld_at x _ r l r _ (by omega) (by dsimp only)

theorem lg_apply (a b : Vec Ideal S512x256 .bf16) (r s : Fin 512) : lg a b (ix2 r s) = ∑ l : Fin 256, a (ix2 r l) * b (ix2 s l) := by
  unfold lg
  pointwise []

theorem prU_apply (l : FVec Ideal S512x512 .f32) (r s : Fin 512) : prU l (ix2 r s) = Ideal.exp (l (ix2 r s)) := by
  unfold prU
  pointwise []

theorem prM_apply (l : FVec Ideal S512x512 .f32) (r s : Fin 512) : prM l (ix2 r s) = if r ≤ s then Ideal.exp (l (ix2 r s)) else 0 := by
  unfold prM
  pointwise [k0_pay133]
  have := r.isLt; have := s.isLt
  by_cases h : r ≤ s
  · rw [if_pos h, (WordCmp.cmpi_sle_ofNat_eq_one_iff (by omega) (by omega)).mpr h]; rfl
  · rw [if_neg h, (WordCmp.cmpi_sle_ofNat_eq_zero_iff (by omega) (by omega)).mpr h]; rfl

theorem accT_apply (x : FVec Ideal S512x512 .f32) (acc : FVec Ideal S512x128 .f32) (b : Vec Ideal S512x256 .bf16) (r : Fin 512) (l : Fin 128) :
    accT x acc b (ix2 r l) = acc (ix2 r l) + ∑ s : Fin 512, x (ix2 r s) * b (ix2 s ⟨l.val, by omega⟩) := by
  unfold accT
  pointwise []

theorem dqT_apply (k : Vec Ideal S128x512 .bf16) (x : FVec Ideal S512x512 .f32) (l : Fin 128) (s : Fin 512) :
    dqT k x (ix2 l s) = ∑ r : Fin 512, k (ix2 l r) * ((1 / 8 : ℝ) : EReal) * x (ix2 r s) := by
  unfold dqT
  pointwise []
  simp only [eighth16]

theorem dcqT_apply (n : ℕ) (hn : n < 8) (x : FVec Ideal S512x512 .f32) (acc : FVec Ideal S8x512 .f32) (a : Fin 8) (s : Fin 512) :
    dcqT (BitVec.ofNat 32 n) x acc (ix2 a s) = acc (ix2 a s) + if a.val = n then ∑ r : Fin 512, x (ix2 r s) else 0 := by
  unfold dcqT
  pointwise []
  have := a.isLt
  by_cases h : a.val = n
  · rw [if_pos h, (WordCmp.cmpi_eq_ofNat_eq_one_iff (by omega) (by omega)).mpr h]; rfl
  · rw [if_neg h, (WordCmp.cmpi_eq_ofNat_eq_zero_iff (by omega) (by omega)).mpr h]; rfl

theorem dckT_apply (n : ℕ) (hn : n < 8) (x : FVec Ideal S512x512 .f32) (acc : FVec Ideal S512x128 .f32) (r : Fin 512) (l : Fin 128) :
    dckT (BitVec.ofNat 32 n) x acc (ix2 r l) = acc (ix2 r l) - if l.val = n then ∑ s : Fin 512, x (ix2 r s) else 0 := by
  unfold dckT
  pointwise []
  have := l.isLt
  by_cases h : l.val = n
  · rw [if_pos h, (WordCmp.cmpi_eq_ofNat_eq_one_iff (by omega) (by omega)).mpr h]; rfl
  · rw [if_neg h, (WordCmp.cmpi_eq_ofNat_eq_zero_iff (by omega) (by omega)).mpr h]; rfl

theorem dqP_apply (pr x0 x1 x2 x3 x4) (p : Fin 4) (h h' : Fin 8) (l : Fin 128) (s : Fin 512) :
    dqP (F := Ideal) pr x0 x1 x2 x3 x4 p h h' (ix2 l s) = if l.val < 64 then dqT (krow x2 p) (dsH pr x0 x1 x3 x4 p h) (ix2 l s)
      else dqT (krow x2 p) (dsH pr x0 x1 x3 x4 p h') (ix2 l s) := by
  unfold dqP
  pointwise []
  have := l.isLt
  by_cases h : l.val < 64
  · rw [if_pos h, (WordCmp.cmpi_slt_ofNat_eq_one_iff (b := 64) (by omega) (by omega)).mpr h]; rfl
  · rw [if_neg h, (WordCmp.cmpi_slt_ofNat_eq_zero_iff (b := 64) (by omega) (by omega)).mpr h]; rfl

/-! What the heads make. -/

section Heads

variable {x : In} {J I : Fin 512 → Fin 8192} {x0 x1 : Vec Ideal S512x1024 .bf16} {x2 : Vec Ideal S512x512 .bf16} {x3 x4 : Vec Ideal S512x2048 .bf16}
variable {pr : FVec Ideal S512x512 .f32 → FVec Ideal S512x512 .f32}

theorem logit_real (T : Tiles x J I x0 x1 x2 x3 x4) (p : Fin 4) (h : Fin 8) (hp : h.val / 2 = p.val) (r s : Fin 512) :
    lg (kcol x0 p) (qcol x3 h) (ix2 r s)
      = (((∑ d, x.q (I s) (hd h d) * (1 / 8) * x.k (J r) (hd h d)) - x.c (J r) h - x.lsec (I s) h : ℝ) : EReal) := by
  rw [lg_apply]
  simp only [kcol_apply, qcol_apply, T.k, T.q, ← EReal.coe_mul, ← coe_sum]
  rw [← one_mul (x.c (J r) h), ← sum_query_key (fun n => x.q (I s) n * (1 / 8)) (x.k (J r)) 1 (x.lsec (I s) h) (x.c (J r)) h p hp]
  simp only [mul_comm]

theorem dp_real (T : Tiles x J I x0 x1 x2 x3 x4) (p : Fin 4) (h : Fin 8) (hp : h.val / 2 = p.val) (r s : Fin 512) :
    lg (kcol x1 p) (qcol x4 h) (ix2 r s) = ((x.dp h (I s) (J r) - x.delta h (I s) : ℝ) : EReal) := by
  rw [lg_apply]
  simp only [kcol_apply, qcol_apply, T.v, T.g, ← EReal.coe_mul, ← coe_sum]
  have e := sum_query_key (x.g (I s)) (x.v (J r)) 0 (x.delta h (I s)) (x.c (J r)) h p hp
  rw [zero_mul, sub_zero] at e
  unfold In.dp
  rw [← e]
  simp only [mul_comm]

/-- The probabilities are masked where the model's are. -/
def Masks (pr : FVec Ideal S512x512 .f32 → FVec Ideal S512x512 .f32) (J I : Fin 512 → Fin 8192) : Prop :=
  ∀ l r s, pr l (ix2 r s) = if J r ≤ I s then Ideal.exp (l (ix2 r s)) else 0

theorem prH_real (T : Tiles x J I x0 x1 x2 x3 x4) (M : Masks pr J I) (p : Fin 4) (h : Fin 8) (hp : h.val / 2 = p.val) (r s : Fin 512) :
    prH pr x0 x3 p h (ix2 r s) = (x.pr h (I s) (J r) : EReal) := by
  unfold prH
  rw [M, logit_real T p h hp]
  split
  · rw [Ideal.exp_coe, ← x.pr_exp h ‹_›]; rfl
  · rw [x.pr_of_lt h (not_le.mp ‹_›)]; rfl

theorem dsH_real (T : Tiles x J I x0 x1 x2 x3 x4) (M : Masks pr J I) (p : Fin 4) (h : Fin 8) (hp : h.val / 2 = p.val) (r s : Fin 512) :
    dsH pr x0 x1 x3 x4 p h (ix2 r s) = (x.ds h (I s) (J r) : EReal) := by
  unfold dsH
  pointwise []
  rw [prH_real T M p h hp, dp_real T p h hp, ← EReal.coe_mul]; rfl

/-- The head of a lane of a pair of heads. -/
theorem queryLane_low (y : Fin 512 → ℝ) (u b : ℝ) (p : Fin 4) (h : Fin 8) (hp : h.val / 2 = p.val) (l : Fin 128) :
    queryLane y u b h ⟨l.val, by omega⟩ = if h = head ⟨p.val * 128 + l.val, by have := p.isLt; omega⟩ then y ⟨p.val * 128 + l.val, by have := p.isLt; omega⟩ else 0 := by
  have hh := h.isLt; have hl := l.isLt; have hpp := p.isLt
  unfold queryLane
  by_cases a : l.val < 64
  · rw [dif_pos a]
    by_cases o : h.val % 2 = 1
    · rw [if_pos o, if_neg (fun e => by have := congrArg Fin.val e; dsimp only at this; omega)]
    · rw [if_neg o, if_pos (Fin.ext (by dsimp only; omega))]
      exact congrArg y (Fin.ext (by dsimp only; omega))
  · rw [dif_neg a, dif_pos (by dsimp only; omega)]
    by_cases o : h.val % 2 = 1
    · rw [if_pos o, if_pos (Fin.ext (by dsimp only; omega))]
      exact congrArg y (Fin.ext (by dsimp only; omega))
    · rw [if_neg o, if_neg (fun e => by have := congrArg Fin.val e; dsimp only at this; omega)]

theorem pair_real (f : Fin 8 → FVec Ideal S512x512 .f32) (r' : Fin 8 → Fin 512 → Fin 512 → ℝ) (b : Vec Ideal S512x2048 .bf16) (y : Fin 512 → Fin 512 → ℝ) (u e : ℝ) (e' : Fin 512 → Fin 8 → ℝ)
    (p : Fin 4) (h h' : Fin 8) (hp : h.val = 2 * p.val) (hp' : h'.val = 2 * p.val + 1)
    (hf : ∀ g : Fin 8, g.val / 2 = p.val → ∀ r s, f g (ix2 r s) = (r' g r s : EReal))
    (hb : ∀ s (h : Fin 8) (l : Fin 256), b (ix2 s ⟨h.val * 256 + l.val, by have := h.isLt; omega⟩) = (queryLane (y s) u (e' s h) h l : EReal)) (r : Fin 512) (l : Fin 128) :
    accT (f h') (accT (f h) zero128 (qcol b h)) (qcol b h') (ix2 r l)
      = ((∑ s, r' (head ⟨p.val * 128 + l.val, by have := p.isLt; omega⟩) r s * y s ⟨p.val * 128 + l.val, by have := p.isLt; omega⟩ : ℝ) : EReal) := by
  rw [accT_apply, accT_apply]
  have z : (zero128 : FVec Ideal S512x128 .f32) (ix2 r l) = 0 := by unfold zero128; pointwise []
  rw [z, zero_add]
  have q : h.val / 2 = p.val := by omega
  have q' : h'.val / 2 = p.val := by omega
  have b' : ∀ s (h : Fin 8), b (ix2 s ⟨h.val * 256 + l.val, by have := h.isLt; omega⟩) = (queryLane (y s) u (e' s h) h ⟨l.val, by omega⟩ : EReal) :=
    fun s h => hb s h ⟨l.val, by omega⟩
  simp only [qcol_apply, hf h q, hf h' q', b', queryLane_low _ _ _ p h q, queryLane_low _ _ _ p h' q', ← EReal.coe_mul, ← coe_sum, ← EReal.coe_add, ← Finset.sum_add_distrib]
  have hl := l.isLt; have hpp := p.isLt
  refine congrArg Real.toEReal (Finset.sum_congr rfl fun s _ => ?_)
  by_cases a : l.val < 64
  · rw [if_pos (Fin.ext (by dsimp only; omega)), if_neg (fun e => by have := congrArg Fin.val e; dsimp only at this; omega), mul_zero, add_zero]
    exact congrArg (fun a => r' a r s * y s _) (Fin.ext (show h.val = (p.val * 128 + l.val) / 64 by omega))
  · rw [if_neg (fun e => by have := congrArg Fin.val e; dsimp only at this; omega), if_pos (Fin.ext (by dsimp only; omega)), mul_zero, zero_add]
    exact congrArg (fun a => r' a r s * y s _) (Fin.ext (show h'.val = (p.val * 128 + l.val) / 64 by omega))

/-- The two heads of a pair. -/
abbrev fst (p : Fin 4) : Fin 8 := ⟨2 * p.val, by have := p.isLt; omega⟩
abbrev snd (p : Fin 4) : Fin 8 := ⟨2 * p.val + 1, by have := p.isLt; omega⟩
/-- Column `l` of a pair of heads. -/
abbrev pl (p : Fin 4) (l : Fin 128) : Fin 512 := ⟨p.val * 128 + l.val, by have := p.isLt; omega⟩

theorem dvP_real (T : Tiles x J I x0 x1 x2 x3 x4) (M : Masks pr J I) (p : Fin 4) (r : Fin 512) (l : Fin 128) :
    dvP pr x0 x3 x4 p (fst p) (snd p) (ix2 r l) = ((∑ s, x.pr (head (pl p l)) (I s) (J r) * x.g (I s) (pl p l) : ℝ) : EReal) :=
  pair_real (fun h => prH pr x0 x3 p h) (fun h r s => x.pr h (I s) (J r)) x4 (fun s => x.g (I s)) 0 0 (fun s h => x.delta h (I s)) p (fst p) (snd p) rfl rfl
    (fun g hg r s => prH_real T M p g hg r s) T.g r l

theorem dkP_real (T : Tiles x J I x0 x1 x2 x3 x4) (M : Masks pr J I) (p : Fin 4) (r : Fin 512) (l : Fin 128) :
    dkP pr x0 x1 x3 x4 p (fst p) (snd p) (ix2 r l) = ((∑ s, x.ds (head (pl p l)) (I s) (J r) * (x.q (I s) (pl p l) * (1 / 8)) : ℝ) : EReal) :=
  pair_real (fun h => dsH pr x0 x1 x3 x4 p h) (fun h r s => x.ds h (I s) (J r)) x3 (fun s n => x.q (I s) n * (1 / 8)) 1 0 (fun s h => x.lsec (I s) h) p (fst p) (snd p) rfl rfl
    (fun g hg r s => dsH_real T M p g hg r s) T.q r l

theorem dqP_real (T : Tiles x J I x0 x1 x2 x3 x4) (M : Masks pr J I) (p : Fin 4) (l : Fin 128) (s : Fin 512) :
    dqP pr x0 x1 x2 x3 x4 p (fst p) (snd p) (ix2 l s) = ((∑ r, x.k (J r) (pl p l) * (1 / 8) * x.ds (head (pl p l)) (I s) (J r) : ℝ) : EReal) := by
  have hl := l.isLt; have hp := p.isLt
  rw [dqP_apply, coe_sum]
  split
  · rw [dqT_apply]
    refine Finset.sum_congr rfl fun r _ => ?_
    rw [krow_apply, T.t, dsH_real T M p (fst p) (by dsimp only; omega), show fst p = head (pl p l) from Fin.ext (by dsimp only; omega), EReal.coe_mul, EReal.coe_mul]
  · rw [dqT_apply]
    refine Finset.sum_congr rfl fun r _ => ?_
    rw [krow_apply, T.t, dsH_real T M p (snd p) (by dsimp only; omega), show snd p = head (pl p l) from Fin.ext (by dsimp only; omega), EReal.coe_mul, EReal.coe_mul]

theorem dcqA_real (T : Tiles x J I x0 x1 x2 x3 x4) (M : Masks pr J I) (h : Fin 8) (s : Fin 512) :
    dcqA pr x0 x1 x3 x4 (ix2 h s) = ((∑ r, x.ds h (I s) (J r) : ℝ) : EReal) := by
  have z : (zero8 : FVec Ideal S8x512 .f32) (ix2 h s) = 0 := by unfold zero8; pointwise []
  unfold dcqA
  rw [dcqT_apply 7 (by omega), dcqT_apply 6 (by omega), dcqT_apply 5 (by omega), dcqT_apply 4 (by omega), dcqT_apply 3 (by omega), dcqT_apply 2 (by omega), dcqT_apply 1 (by omega),
    dcqT_apply 0 (by omega), z]
  simp only [dsH_real T M 0 0 rfl, dsH_real T M 0 1 rfl, dsH_real T M 1 2 rfl, dsH_real T M 1 3 rfl, dsH_real T M 2 4 rfl, dsH_real T M 2 5 rfl, dsH_real T M 3 6 rfl,
    dsH_real T M 3 7 rfl, ← coe_sum]
  fin_cases h <;> simp

theorem dckA_real (T : Tiles x J I x0 x1 x2 x3 x4) (M : Masks pr J I) (r : Fin 512) (l : Fin 128) :
    dckA pr x0 x1 x3 x4 (ix2 r l) = ((if h : l.val < 8 then -∑ s, x.ds ⟨l.val, h⟩ (I s) (J r) else 0 : ℝ) : EReal) := by
  have z : (zero128 : FVec Ideal S512x128 .f32) (ix2 r l) = 0 := by unfold zero128; pointwise []
  unfold dckA
  rw [dckT_apply 7 (by omega), dckT_apply 6 (by omega), dckT_apply 5 (by omega), dckT_apply 4 (by omega), dckT_apply 3 (by omega), dckT_apply 2 (by omega), dckT_apply 1 (by omega),
    dckT_apply 0 (by omega), z]
  simp only [dsH_real T M 0 0 rfl, dsH_real T M 0 1 rfl, dsH_real T M 1 2 rfl, dsH_real T M 1 3 rfl, dsH_real T M 2 4 rfl, dsH_real T M 2 5 rfl, dsH_real T M 3 6 rfl,
    dsH_real T M 3 7 rfl, ← coe_sum]
  by_cases h : l.val < 8
  · rw [dif_pos h]
    obtain ⟨l, hl⟩ := l
    change l < 8 at h
    interval_cases l <;> simp
  · rw [dif_neg h]
    simp only [show ¬l.val = 0 by omega, show ¬l.val = 1 by omega, show ¬l.val = 2 by omega, show ¬l.val = 3 by omega, show ¬l.val = 4 by omega, show ¬l.val = 5 by omega,
      show ¬l.val = 6 by omega, show ¬l.val = 7 by omega, if_false, sub_zero, EReal.coe_zero]

end Heads

end Cert.KAttnIdeal.Gen

end
-- ==== Proof.Attn.Blocks.lean ====
/- The blocks that a point of the grid reads, as the real model. -/
module

public import proofs.«01_k».proof.Proof.Attn.Real
public import proofs.«01_k».proof.Proof.Attn.Frame

@[expose] public section

set_option maxRecDepth 16384

noncomputable section

namespace Cert.KAttnIdeal.Gen

open Cert.KAttnIdeal Idealize.ShloMosaic Idealize.ShloMosaic.TcCoe Idealize.SL.Sem Cert.Attn

/-- A point's blocks of queries and keys. -/
abbrev QB (t : Fin cfg0.N) : ℕ := qb (grid0.coords t)
abbrev KB (t : Fin cfg0.N) : ℕ := kb (grid0.coords t)

theorem idx_blocks : ∀ t : Fin cfg0.N, (win0_0.index t 0 = KB t ∧ win0_0.index t 1 = 0) ∧ (win0_1.index t 0 = KB t ∧ win0_1.index t 1 = 0) ∧
    (win0_2.index t 0 = 0 ∧ win0_2.index t 1 = KB t) ∧ (win0_3.index t 0 = QB t ∧ win0_3.index t 1 = 0) ∧ (win0_4.index t 0 = QB t ∧ win0_4.index t 1 = 0) :=
  (by decide +kernel : ∀ t : Fin grid0.N, _)

variable (m : (ℓ : Loc nD τ sig) → Buf (Elt Ideal) ℓ) (c : Dev nD)

theorem iblk0 (t : Fin cfg0.N) (r : Fin 512) (l : Fin 1024) :
    iblk m c 0 t (ix2 r l) = (V m c main_v116 : Vec Ideal S8192x1024 .bf16) (ix2 (rowOf (KB t) (kb_lt _) r) l) := by
  unfold iblk
  rw [View.read_apply]
  show V m c main_v116 _ = _
  congr 1
  funext a
  apply Fin.ext
  match a with
  | ⟨0, _⟩ => show win0_0.index t 0 * 512 + 1 * r.val = KB t * 512 + r.val; rw [(idx_blocks t).1.1]; omega
  | ⟨1, _⟩ => show win0_0.index t 1 * 1024 + 1 * l.val = l.val; rw [(idx_blocks t).1.2]; omega

theorem iblk1 (t : Fin cfg0.N) (r : Fin 512) (l : Fin 1024) :
    iblk m c 1 t (ix2 r l) = (V m c main_v121 : Vec Ideal S8192x1024 .bf16) (ix2 (rowOf (KB t) (kb_lt _) r) l) := by
  unfold iblk
  rw [View.read_apply]
  show V m c main_v121 _ = _
  congr 1
  funext a
  apply Fin.ext
  match a with
  | ⟨0, _⟩ => show win0_1.index t 0 * 512 + 1 * r.val = KB t * 512 + r.val; rw [(idx_blocks t).2.1.1]; omega
  | ⟨1, _⟩ => show win0_1.index t 1 * 1024 + 1 * l.val = l.val; rw [(idx_blocks t).2.1.2]; omega

theorem iblk2 (t : Fin cfg0.N) (n r : Fin 512) :
    iblk m c 2 t (ix2 n r) = (V m c main_v123 : Vec Ideal S512x8192 .bf16) (ix2 n (rowOf (KB t) (kb_lt _) r)) := by
  unfold iblk
  rw [View.read_apply]
  show V m c main_v123 _ = _
  congr 1
  funext a
  apply Fin.ext
  match a with
  | ⟨0, _⟩ => show win0_2.index t 0 * 512 + 1 * n.val = n.val; rw [(idx_blocks t).2.2.1.1]; omega
  | ⟨1, _⟩ => show win0_2.index t 1 * 512 + 1 * r.val = KB t * 512 + r.val; rw [(idx_blocks t).2.2.1.2]; omega

theorem iblk3 (t : Fin cfg0.N) (r : Fin 512) (l : Fin 2048) :
    iblk m c 3 t (ix2 r l) = (V m c main_v124 : Vec Ideal S8192x2048 .bf16) (ix2 (rowOf (QB t) (qb_lt _) r) l) := by
  unfold iblk
  rw [View.read_apply]
  show V m c main_v124 _ = _
  congr 1
  funext a
  apply Fin.ext
  match a with
  | ⟨0, _⟩ => show win0_3.index t 0 * 512 + 1 * r.val = QB t * 512 + r.val; rw [(idx_blocks t).2.2.2.1.1]; omega
  | ⟨1, _⟩ => show win0_3.index t 1 * 2048 + 1 * l.val = l.val; rw [(idx_blocks t).2.2.2.1.2]; omega

theorem iblk4 (t : Fin cfg0.N) (r : Fin 512) (l : Fin 2048) :
    iblk m c 4 t (ix2 r l) = (V m c main_v125 : Vec Ideal S8192x2048 .bf16) (ix2 (rowOf (QB t) (qb_lt _) r) l) := by
  unfold iblk
  rw [View.read_apply]
  show V m c main_v125 _ = _
  congr 1
  funext a
  apply Fin.ext
  match a with
  | ⟨0, _⟩ => show win0_4.index t 0 * 512 + 1 * r.val = QB t * 512 + r.val; rw [(idx_blocks t).2.2.2.2.1]; omega
  | ⟨1, _⟩ => show win0_4.index t 1 * 2048 + 1 * l.val = l.val; rw [(idx_blocks t).2.2.2.2.2]; omega

variable {m c} {x : In}

/-- The memory holds the model's numbers. -/
abbrev In.On (x : In) (m : (ℓ : Loc nD τ sig) → Buf (Elt Ideal) ℓ) (c : Dev nD) : Prop := Holds (A0 m c) (A1 m c) (A2 m c) (A3 m c) (A4 m c) x

theorem lsec_saved (H : In.On x m c) (i : Fin 8192) (h : Fin 8) : (saved m c (Proc.devRef .tc main_v32) : Vec Ideal S8192x8 .f32) (ix2 i h) = (x.lsec i h : EReal) := by
  rw [saved_v32, lsec_real, ref_den H, H.c]
  pointwise [Cert.RAttnIdeal.Read.val_main_v22]
  rw [H.top, Ideal.log_coe, if_neg (not_le.mpr (x.den_pos h i))]
  unfold In.lsec
  rw [EReal.coe_sub, EReal.coe_add]

theorem delta_saved (H : In.On x m c) (i : Fin 8192) (h : Fin 8) : (saved m c (Proc.devRef .tc main_v41) : Vec Ideal S8192x8 .f32) (ix2 i h) = (x.delta h i : EReal) := by
  rw [saved_v41, delta_real]
  simp only [H.g, H.v, ref_pr H, ← EReal.coe_mul, ← coe_sum]
  rw [x.delta_eq]

theorem tiles (H : In.On x m c) (t : Fin cfg0.N) :
    Tiles x (rowOf (KB t) (kb_lt _)) (rowOf (QB t) (qb_lt _)) (iblk m c 0 t) (iblk m c 1 t) (iblk m c 2 t) (iblk m c 3 t) (iblk m c 4 t) where
  k r p l := by rw [iblk0, V_v116]; exact keys_real _ _ _ _ H.k H.c _ p l
  v r p l := by rw [iblk1, V_v121]; exact keys_real _ _ _ _ H.v H.c _ p l
  t n r := by
    rw [iblk2, V_v123]
    pointwise []
    exact H.k _ _
  q s h l := by rw [iblk3, V_v124]; exact queries_real _ _ _ _ H.q (lsec_saved H) _ h l
  g s h l := by rw [iblk4, V_v125]; exact grads_real _ _ _ (fun i h => x.delta h i) H.g (delta_saved H) _ h l

/-- Off the diagonal every key of the block precedes every query, on it the mask says which. -/
theorem masksU (t : Fin cfg0.N) (h : QB t ≠ KB t) : Masks prU (rowOf (KB t) (kb_lt _)) (rowOf (QB t) (qb_lt _)) := fun l r s => by
  have : KB t ≤ QB t := kb_le_qb (grid0.coords t)
  have := r.isLt; have := s.isLt
  rw [prU_apply, if_pos (Fin.le_def.mpr (show KB t * 512 + r.val ≤ QB t * 512 + s.val by omega))]
theorem masksM (t : Fin cfg0.N) (h : QB t = KB t) : Masks prM (rowOf (KB t) (kb_lt _)) (rowOf (QB t) (qb_lt _)) := fun l r s => by
  rw [prM_apply]
  refine if_congr ?_ rfl rfl
  rw [Fin.le_def, Fin.le_def]
  show r.val ≤ s.val ↔ KB t * 512 + r.val ≤ QB t * 512 + s.val
  omega

end Cert.KAttnIdeal.Gen

end
-- ==== Proof.Attn.Sums.lean ====
/- The running gradients as partial sums of the real model. -/
module

public import proofs.«01_k».proof.Proof.Attn.Blocks

@[expose] public section

set_option maxRecDepth 16384

noncomputable section

namespace Cert.KAttnIdeal.Gen

open Cert.KAttnIdeal Idealize.ShloMosaic Idealize.ShloMosaic.TcCoe Idealize.SL.Sem Cert.Attn

/-! ## What a step adds -/

section Step

variable {x : In} {J I : Fin 512 → Fin 8192} {x0 x1 : Vec Ideal S512x1024 .bf16} {x2 : Vec Ideal S512x512 .bf16} {x3 x4 : Vec Ideal S512x2048 .bf16}
variable {pr : FVec Ideal S512x512 .f32 → FVec Ideal S512x512 .f32}

theorem glueCols_apply {α : Type} {n : ℕ} (w : Fin 4 → (⟨2, ![n, 128]⟩ : Shape).Idx → α) (r : Fin n) (p : Fin 4) (l : Fin 128) :
    glueCols w (ix2 r (pl p l)) = w p (ix2 r l) := by
  have := p.isLt; have := l.isLt
  show w ⟨(p.val * 128 + l.val) / 128, _⟩ (ix2 r ⟨(p.val * 128 + l.val) % 128, _⟩) = _
  rw [show (⟨(p.val * 128 + l.val) / 128, by omega⟩ : Fin 4) = p from Fin.ext (by dsimp only; omega),
    show (⟨(p.val * 128 + l.val) % 128, by omega⟩ : Fin 128) = l from Fin.ext (by dsimp only; omega)]

theorem exists_pl (n : Fin 512) : ∃ p l, n = pl p l :=
  ⟨⟨n.val / 128, by have := n.isLt; omega⟩, ⟨n.val % 128, by omega⟩, Fin.ext (by dsimp only; omega)⟩

theorem add_cols (u w : FVec Ideal S512x128 .f32) (r : Fin 512) (l : Fin 128) :
    shapeCast S512x128 (addf u w) shapeCasts_S512x128_S512x128 (ix2 r l) = u (ix2 r l) + w (ix2 r l) := by pointwise []

theorem stepDk_real (T : Tiles x J I x0 x1 x2 x3 x4) (M : Masks pr J I) (b : Vec Ideal S512x512 .f32) (r n : Fin 512) :
    stepDk pr x0 x1 x3 x4 b (ix2 r n) = b (ix2 r n) + ((∑ s, x.ds (head n) (I s) (J r) * (x.q (I s) n * (1 / 8)) : ℝ) : EReal) := by
  obtain ⟨p, l, rfl⟩ := exists_pl n
  unfold stepDk
  rw [glueCols_apply]
  fin_cases p
  · exact (add_cols _ _ r l).trans (congrArg₂ (· + ·) (ocol_apply b 0 r l) (dkP_real T M 0 r l))
  · exact (add_cols _ _ r l).trans (congrArg₂ (· + ·) (ocol_apply b 1 r l) (dkP_real T M 1 r l))
  · exact (add_cols _ _ r l).trans (congrArg₂ (· + ·) (ocol_apply b 2 r l) (dkP_real T M 2 r l))
  · exact (add_cols _ _ r l).trans (congrArg₂ (· + ·) (ocol_apply b 3 r l) (dkP_real T M 3 r l))

theorem stepDv_real (T : Tiles x J I x0 x1 x2 x3 x4) (M : Masks pr J I) (b : Vec Ideal S512x512 .f32) (r n : Fin 512) :
    stepDv pr x0 x3 x4 b (ix2 r n) = b (ix2 r n) + ((∑ s, x.pr (head n) (I s) (J r) * x.g (I s) n : ℝ) : EReal) := by
  obtain ⟨p, l, rfl⟩ := exists_pl n
  unfold stepDv
  rw [glueCols_apply]
  fin_cases p
  · exact (add_cols _ _ r l).trans (congrArg₂ (· + ·) (ocol_apply b 0 r l) (dvP_real T M 0 r l))
  · exact (add_cols _ _ r l).trans (congrArg₂ (· + ·) (ocol_apply b 1 r l) (dvP_real T M 1 r l))
  · exact (add_cols _ _ r l).trans (congrArg₂ (· + ·) (ocol_apply b 2 r l) (dvP_real T M 2 r l))
  · exact (add_cols _ _ r l).trans (congrArg₂ (· + ·) (ocol_apply b 3 r l) (dvP_real T M 3 r l))

theorem stepDck_real (T : Tiles x J I x0 x1 x2 x3 x4) (M : Masks pr J I) (b : Vec Ideal S512x128 .f32) (r : Fin 512) (l : Fin 128) :
    stepDck pr x0 x1 x3 x4 b (ix2 r l) = b (ix2 r l) + ((∑ s, if h : l.val < 8 then -x.ds ⟨l.val, h⟩ (I s) (J r) else 0 : ℝ) : EReal) := by
  unfold stepDck
  rw [add_cols, dckA_real T M]
  congr 2
  split
  · rw [Finset.sum_neg_distrib]
  · rw [Finset.sum_const_zero]

theorem glueRows_in (B : ℕ) (hB : B < 16) (b : Vec Ideal S512x8192 .f32) (w : Fin 4 → FVec Ideal S128x512 .f32) (p : Fin 4) (l : Fin 128) (s : Fin 512) :
    glueRows (512 * B) b w (ix2 (pl p l) (rowOf B hB s)) = w p (ix2 l s) := by
  have := p.isLt; have := l.isLt; have := s.isLt
  refine (dif_pos (show 512 * B ≤ B * 512 + s.val ∧ B * 512 + s.val < 512 * B + 512 by omega)).trans ?_
  exact congr (congrArg w (Fin.ext (show (p.val * 128 + l.val) / 128 = p.val by omega)))
    (congrArg₂ (fun (u : Fin 128) (v : Fin 512) => ix2 u v) (Fin.ext (show (p.val * 128 + l.val) % 128 = l.val by omega)) (Fin.ext (show B * 512 + s.val - 512 * B = s.val by omega)))

theorem glueAt_in (B : ℕ) (hB : B < 16) (b : Vec Ideal S8x8192 .f32) (w : FVec Ideal S8x512 .f32) (h : Fin 8) (s : Fin 512) :
    glueAt (512 * B) b w (ix2 h (rowOf B hB s)) = w (ix2 h s) := by
  have := s.isLt
  refine (dif_pos (show 512 * B ≤ B * 512 + s.val ∧ B * 512 + s.val < 512 * B + 512 by omega)).trans ?_
  exact congrArg w (congrArg (fun v : Fin 512 => ix2 h v) (Fin.ext (show B * 512 + s.val - 512 * B = s.val by omega)))

theorem add_rows (u w : FVec Ideal S128x512 .f32) (l : Fin 128) (s : Fin 512) :
    addf (shapeCast S128x512 u shapeCasts_S128x512_S128x512) w (ix2 l s) = u (ix2 l s) + w (ix2 l s) := by pointwise []

theorem add_heads (u w : FVec Ideal S8x512 .f32) (h : Fin 8) (s : Fin 512) :
    addf (shapeCast S8x512 u shapeCasts_S8x512_S8x512) w (ix2 h s) = u (ix2 h s) + w (ix2 h s) := by pointwise []

theorem qtile_apply (B : ℕ) (hB : B < 16) (b : Vec Ideal S512x8192 .f32) (p : Fin 4) (l : Fin 128) (s : Fin 512) :
    qtile (512 * B) b p (ix2 l s) = b (ix2 (pl p l) (rowOf B hB s)) := by
  unfold qtile
  refine congrArg b (funext fun a => match a with
    | ⟨0, _⟩ => Fin.ext (by show 128 * p.val + l.val = p.val * 128 + l.val; omega)
    | ⟨1, _⟩ => Fin.ext (by show (512 * B + s.val) % 8192 = B * 512 + s.val; have := s.isLt; omega))

theorem ctile_apply (B : ℕ) (hB : B < 16) (b : Vec Ideal S8x8192 .f32) (h : Fin 8) (s : Fin 512) :
    ctile (512 * B) b (ix2 h s) = b (ix2 h (rowOf B hB s)) := by
  unfold ctile
  refine congrArg b (funext fun a => match a with
    | ⟨0, _⟩ => rfl
    | ⟨1, _⟩ => Fin.ext (by show (512 * B + s.val) % 8192 = B * 512 + s.val; have := s.isLt; omega))

theorem exists_row (B : ℕ) (hB : B < 16) (i : Fin 8192) (h : i.val / 512 = B) : ∃ s, i = rowOf B hB s :=
  ⟨⟨i.val % 512, by omega⟩, Fin.ext (by dsimp only [rowOf]; omega)⟩

theorem stepDq_real (T : Tiles x J I x0 x1 x2 x3 x4) (M : Masks pr J I) (B : ℕ) (hB : B < 16) (hI : I = rowOf B hB) (b : Vec Ideal S512x8192 .f32) (n : Fin 512) (i : Fin 8192) :
    stepDq pr x0 x1 x2 x3 x4 (512 * B) b (ix2 n i)
      = b (ix2 n i) + if i.val / 512 = B then ((∑ r, x.k (J r) n * (1 / 8) * x.ds (head n) i (J r) : ℝ) : EReal) else 0 := by
  obtain ⟨p, l, rfl⟩ := exists_pl n
  unfold stepDq
  by_cases h : i.val / 512 = B
  · rw [if_pos h]
    obtain ⟨s, rfl⟩ := exists_row B hB i h
    rw [glueRows_in]
    subst hI
    fin_cases p
    · exact (add_rows _ _ l s).trans (congrArg₂ (· + ·) (qtile_apply B hB b 0 l s) (dqP_real T M 0 l s))
    · exact (add_rows _ _ l s).trans (congrArg₂ (· + ·) (qtile_apply B hB b 1 l s) (dqP_real T M 1 l s))
    · exact (add_rows _ _ l s).trans (congrArg₂ (· + ·) (qtile_apply B hB b 2 l s) (dqP_real T M 2 l s))
    · exact (add_rows _ _ l s).trans (congrArg₂ (· + ·) (qtile_apply B hB b 3 l s) (dqP_real T M 3 l s))
  · rw [if_neg h, add_zero]
    exact dif_neg (show ¬(512 * B ≤ i.val ∧ i.val < 512 * B + 512) by omega)

theorem stepDcq_real (T : Tiles x J I x0 x1 x2 x3 x4) (M : Masks pr J I) (B : ℕ) (hB : B < 16) (hI : I = rowOf B hB) (b : Vec Ideal S8x8192 .f32) (h : Fin 8) (i : Fin 8192) :
    stepDcq pr x0 x1 x3 x4 (512 * B) b (ix2 h i) = b (ix2 h i) + if i.val / 512 = B then ((∑ r, x.ds h i (J r) : ℝ) : EReal) else 0 := by
  unfold stepDcq
  by_cases hh : i.val / 512 = B
  · rw [if_pos hh]
    obtain ⟨s, rfl⟩ := exists_row B hB i hh
    rw [glueAt_in, add_heads, ctile_apply B hB]
    subst hI
    rw [dcqA_real T M]
  · rw [if_neg hh, add_zero]
    exact dif_neg (show ¬(512 * B ≤ i.val ∧ i.val < 512 * B + 512) by omega)

end Step

end Cert.KAttnIdeal.Gen

end
-- ==== Proof.Attn.Accum.lean ====
/- What the five running gradients hold: partial sums over the queries while a key block lasts, and after the last point
   the sums over all keys. -/
module

public import proofs.«01_k».proof.Proof.Attn.Sums
public import proofs.«01_k».proof.Proof.Attn.Frame

@[expose] public section

set_option maxRecDepth 16384

noncomputable section

namespace Cert.KAttnIdeal.Gen

open Cert.KAttnIdeal Idealize.ShloMosaic Idealize.ShloMosaic.TcCoe Idealize.SL.Sem Cert.Attn

/-! ## The order of the points -/

/-- Off the diagonal, the point before is the same key block's, one query block earlier. -/
theorem before_pt : ∀ t : Fin cfg0.N, QB t ≠ KB t → ∃ h : t.val - 1 < cfg0.N, t.val ≠ 0 ∧ KB ⟨t.val - 1, h⟩ = KB t ∧ QB ⟨t.val - 1, h⟩ + 1 = QB t :=
  (by decide +kernel : ∀ t : Fin grid0.N, qb (grid0.coords t) ≠ kb (grid0.coords t) → ∃ h : t.val - 1 < grid0.N,
    t.val ≠ 0 ∧ kb (grid0.coords ⟨t.val - 1, h⟩) = kb (grid0.coords t) ∧ qb (grid0.coords ⟨t.val - 1, h⟩) + 1 = qb (grid0.coords t))

theorem start_pt : ∀ t : Fin cfg0.N, k0_cond1 (grid0.coords t) = 1#1 → t.val = 0 :=
  (by decide +kernel : ∀ t : Fin grid0.N, k0_cond1 (grid0.coords t) = 1#1 → t.val = 0)

/-- The point of a query block and a key block no later. -/
def ptOf (B b : ℕ) : ℕ := if b < 8 then 17 * b + (B - b) else 17 * (15 - b) + (B + 1)

theorem ptOf_lt : ∀ B b : Fin 16, b ≤ B → ptOf B.val b.val < cfg0.N :=
  (by decide +kernel : ∀ B b : Fin 16, b ≤ B → ptOf B.val b.val < grid0.N)

theorem blocks_ptOf : ∀ B b : Fin 16, b ≤ B → ∀ h : ptOf B.val b.val < cfg0.N, QB ⟨ptOf B.val b.val, h⟩ = B.val ∧ KB ⟨ptOf B.val b.val, h⟩ = b.val :=
  (by decide +kernel : ∀ B b : Fin 16, b ≤ B → ∀ h : ptOf B.val b.val < grid0.N,
    qb (grid0.coords ⟨ptOf B.val b.val, h⟩) = B.val ∧ kb (grid0.coords ⟨ptOf B.val b.val, h⟩) = b.val)

theorem ptOf_blocks : ∀ t : Fin cfg0.N, ptOf (QB t) (KB t) = t.val :=
  (by decide +kernel : ∀ t : Fin grid0.N, ptOf (qb (grid0.coords t)) (kb (grid0.coords t)) = t.val)

theorem size_grid : cfg0.N = 136 := (by decide +kernel : grid0.N = 136)

/-- A sum over the points of a query block is one over the key blocks no later. -/
theorem sum_points (B : Fin 16) (g : Fin 16 → ℝ) :
    ∑ t : Fin cfg0.N, (if QB t = B.val then g ⟨KB t, kb_lt _⟩ else 0) = ∑ b : Fin 16, if b ≤ B then g b else 0 := by
  rw [← Finset.sum_filter, ← Finset.sum_filter]
  refine Finset.sum_bij' (fun t _ => ⟨KB t, kb_lt _⟩) (fun b hb => ⟨ptOf B.val b.val, ptOf_lt B b (Finset.mem_filter.mp hb).2⟩) ?_ ?_ ?_ ?_ ?_
  · intro t ht
    have e := (Finset.mem_filter.mp ht).2
    exact Finset.mem_filter.mpr ⟨Finset.mem_univ _, Fin.le_def.mpr (e ▸ kb_le_qb (grid0.coords t) : KB t ≤ B.val)⟩
  · intro b hb
    exact Finset.mem_filter.mpr ⟨Finset.mem_univ _, (blocks_ptOf B b (Finset.mem_filter.mp hb).2 _).1⟩
  · intro t ht
    have e := (Finset.mem_filter.mp ht).2
    exact Fin.ext ((congrArg (fun a => ptOf a (KB t)) e.symm).trans (ptOf_blocks t))
  · intro b hb
    exact Fin.ext (blocks_ptOf B b (Finset.mem_filter.mp hb).2 _).2
  · intro t _
    rfl

/-! ## Growing sums -/

/-- A block that starts afresh on the diagonal and takes in the next query block at each later point. -/
theorem grow (F : Fin 8192 → Fin 8192 → ℝ) (hF : ∀ i j, i < j → F i j = 0) (f : Fin cfg0.N → Fin 512 → EReal)
    (h0 : ∀ t r, QB t = KB t → f t r = ((∑ s, F (rowOf (QB t) (qb_lt _) s) (rowOf (KB t) (kb_lt _) r) : ℝ) : EReal))
    (h1 : ∀ t t' : Fin cfg0.N, ∀ r, QB t ≠ KB t → t'.val = t.val - 1 → t.val ≠ 0 →
      f t r = f t' r + ((∑ s, F (rowOf (QB t) (qb_lt _) s) (rowOf (KB t) (kb_lt _) r) : ℝ) : EReal)) :
    ∀ (n : ℕ) (hn : n < cfg0.N) (r : Fin 512), f ⟨n, hn⟩ r = ((upto (fun i => F i (rowOf (KB ⟨n, hn⟩) (kb_lt _) r)) ((QB ⟨n, hn⟩ + 1) * 512) : ℝ) : EReal) := by
  intro n
  induction n using Nat.strong_induction_on with
  | _ n ih =>
    intro hn r
    rw [upto_block _ _ (qb_lt (grid0.coords ⟨n, hn⟩))]
    by_cases h : QB ⟨n, hn⟩ = KB ⟨n, hn⟩
    · rw [h0 _ _ h, upto_zero _ (QB ⟨n, hn⟩ * 512) fun i hi => hF _ _ (Fin.lt_def.mpr (by rw [h] at hi; show i.val < KB ⟨n, hn⟩ * 512 + r.val; omega)), zero_add]
    · obtain ⟨hp, hne, hk, hq⟩ := before_pt ⟨n, hn⟩ h
      have hpos : n ≠ 0 := hne
      have e := ih (n - 1) (by omega) hp r
      rw [h1 ⟨n, hn⟩ ⟨n - 1, hp⟩ r h rfl hne, e, EReal.coe_add]
      refine congrArg (· + _) (congrArg Real.toEReal ?_)
      have row : rowOf (KB ⟨n - 1, hp⟩) (kb_lt _) r = rowOf (KB ⟨n, hn⟩) (kb_lt _) r := Fin.ext (congrArg (fun a => a * 512 + r.val) hk)
      exact congrArg₂ (fun a b => upto (fun i => F i a) (b * 512)) row hq

/-- At the last query block the sum is whole. -/
theorem grow_whole (F : Fin 8192 → Fin 8192 → ℝ) (t : Fin cfg0.N) (h : QB t = 15) (r : Fin 512) :
    upto (fun i => F i (rowOf (KB t) (kb_lt _) r)) ((QB t + 1) * 512) = ∑ i, F i (rowOf (KB t) (kb_lt _) r) := by
  rw [h]; exact upto_all _

/-- An array that takes in, at each point, a block of keys for the block of queries: whole after the last point. -/
theorem spread (G : Fin 8192 → Fin 8192 → ℝ) (hG : ∀ i j, i < j → G i j = 0) (i : Fin 8192) (f : (n : ℕ) → n < cfg0.N → EReal)
    (h0 : ∀ h : 0 < cfg0.N, f 0 h = if i.val / 512 = QB ⟨0, h⟩ then ((∑ r, G i (rowOf (KB ⟨0, h⟩) (kb_lt _) r) : ℝ) : EReal) else 0)
    (hs : ∀ n (h : n + 1 < cfg0.N), f (n + 1) h = f n (Nat.lt_of_succ_lt h) + if i.val / 512 = QB ⟨n + 1, h⟩ then ((∑ r, G i (rowOf (KB ⟨n + 1, h⟩) (kb_lt _) r) : ℝ) : EReal) else 0)
    (hl : 135 < cfg0.N) : f 135 hl = ((∑ j, G i j : ℝ) : EReal) := by
  have hi := i.isLt
  rw [Kit.chain_eq_sum f (fun t => if i.val / 512 = QB t then ((∑ r, G i (rowOf (KB t) (kb_lt _) r) : ℝ) : EReal) else 0) h0 hs 135 hl]
  have e := sum_points ⟨i.val / 512, by omega⟩ fun b => ∑ r, G i (rowOf b.val b.isLt r)
  have all : ∑ b : Fin 16, (if b ≤ (⟨i.val / 512, by omega⟩ : Fin 16) then ∑ r, G i (rowOf b.val b.isLt r) else 0) = ∑ j, G i j := by
    rw [Kit.sum_blocks 16 512 (by norm_num) (fun j => G i j)]
    refine Finset.sum_congr rfl fun b _ => ?_
    split
    · rfl
    · rename_i hb
      refine (Finset.sum_eq_zero fun r _ => hG _ _ (Fin.lt_def.mpr ?_)).symm
      have hb' : i.val / 512 < b.val := Fin.lt_def.mp (not_le.mp hb)
      show i.val < b.val * 512 + r.val
      omega
  rw [← all, ← e, coe_sum]
  refine Finset.sum_bij (fun s _ => ⟨s.val, by rw [size_grid]; exact s.isLt⟩) (fun _ _ => Finset.mem_univ _) (fun a _ b _ hab => Fin.ext (Fin.mk.inj hab))
    (fun t _ => ⟨⟨t.val, lt_of_lt_of_eq t.isLt size_grid⟩, Finset.mem_univ _, rfl⟩) fun s _ => ?_
  by_cases hq : i.val / 512 = QB ⟨s.val, by rw [size_grid]; exact s.isLt⟩
  · rw [if_pos hq, if_pos hq.symm]
  · rw [if_neg hq, if_neg (Ne.symm hq)]; rfl

/-! ## The running gradients -/

theorem zero1 (y : S512x8192.Idx) : k0_pay1 (F := Ideal) y = 0 := by pointwise [k0_pay1]
theorem zero2 (y : S8x8192.Idx) : k0_pay2 (F := Ideal) y = 0 := by pointwise [k0_pay2]
theorem zero3 (r n : Fin 512) : k0_pay3 (F := Ideal) (ix2 r n) = 0 := by pointwise [k0_pay3]
theorem zero4 (r n : Fin 512) : k0_pay4 (F := Ideal) (ix2 r n) = 0 := by pointwise [k0_pay4]
theorem zero5 (r : Fin 512) (l : Fin 128) : k0_pay5 (F := Ideal) (ix2 r l) = 0 := by pointwise [k0_pay5]

variable (m : (ℓ : Loc nD τ sig) → Buf (Elt Ideal) ℓ) (c : Dev nD) {x : In}

/-- What the point finds: nothing that counts at first, later what the point before left. -/
theorem stAt_eq (t : Fin cfg0.N) : ∃ s, stAt m c t.val t.isLt = stepAt m c t s ∧ ∀ t' : Fin cfg0.N, t'.val = t.val - 1 → t.val ≠ 0 → s = stAt m c t'.val t'.isLt := by
  by_cases h : t.val = 0
  · exact ⟨st0, (stAt_first m c t h _).symm, fun _ _ hn => absurd h hn⟩
  · refine ⟨_, (stAt_pos m c t h).symm, fun t' e _ => ?_⟩
    obtain ⟨v, hv⟩ := t'
    subst e
    rfl

theorem step_diag (t : Fin cfg0.N) (h : QB t = KB t) (s : St Ideal) : stepAt m c t s =
    (stepDq prM (iblk m c 0 t) (iblk m c 1 t) (iblk m c 2 t) (iblk m c 3 t) (iblk m c 4 t) (512 * QB t) (if k0_cond1 (grid0.coords t) = 1#1 then k0_pay1 (F := Ideal) else s.1),
     stepDcq prM (iblk m c 0 t) (iblk m c 1 t) (iblk m c 3 t) (iblk m c 4 t) (512 * QB t) (if k0_cond1 (grid0.coords t) = 1#1 then k0_pay2 (F := Ideal) else s.2.1),
     stepDk prM (iblk m c 0 t) (iblk m c 1 t) (iblk m c 3 t) (iblk m c 4 t) (k0_pay3 (F := Ideal)), stepDv prM (iblk m c 0 t) (iblk m c 3 t) (iblk m c 4 t) (k0_pay4 (F := Ideal)),
     stepDck prM (iblk m c 0 t) (iblk m c 1 t) (iblk m c 3 t) (iblk m c 4 t) (k0_pay5 (F := Ideal))) := by
  unfold stepAt step
  exact if_pos h

theorem step_off (t : Fin cfg0.N) (h : QB t ≠ KB t) (s : St Ideal) : stepAt m c t s =
    (stepDq prU (iblk m c 0 t) (iblk m c 1 t) (iblk m c 2 t) (iblk m c 3 t) (iblk m c 4 t) (512 * QB t) s.1,
     stepDcq prU (iblk m c 0 t) (iblk m c 1 t) (iblk m c 3 t) (iblk m c 4 t) (512 * QB t) s.2.1,
     stepDk prU (iblk m c 0 t) (iblk m c 1 t) (iblk m c 3 t) (iblk m c 4 t) s.2.2.1, stepDv prU (iblk m c 0 t) (iblk m c 3 t) (iblk m c 4 t) s.2.2.2.1,
     stepDck prU (iblk m c 0 t) (iblk m c 1 t) (iblk m c 3 t) (iblk m c 4 t) s.2.2.2.2) := by
  unfold stepAt step
  exact if_neg h

/-- The gradient of the keys so far. -/
theorem sum_dk (H : In.On x m c) (t : Fin cfg0.N) (h15 : QB t = 15) (r n : Fin 512) :
    (stAt m c t.val t.isLt).2.2.1 (ix2 r n) = (x.dk (rowOf (KB t) (kb_lt _) r) n : EReal) := by
  refine (grow (fun i j => x.ds (head n) i j * (x.q i n * (1 / 8))) (fun i j l => by rw [x.ds_of_lt _ l, zero_mul]) (fun t r => (stAt m c t.val t.isLt).2.2.1 (ix2 r n))
    (fun t r h => ?_) (fun t t' r h e hn => ?_) t.val t.isLt r).trans (congrArg Real.toEReal (grow_whole (fun i j => x.ds (head n) i j * (x.q i n * (1 / 8))) t h15 r))
  · obtain ⟨s, hs, -⟩ := stAt_eq m c t
    rw [hs, step_diag m c t h]
    exact (stepDk_real (tiles H t) (masksM t h) _ r n).trans (by rw [zero3, zero_add])
  · obtain ⟨s, hs, hp⟩ := stAt_eq m c t
    rw [hs, step_off m c t h, ← hp t' e hn]
    exact stepDk_real (tiles H t) (masksU t h) _ r n

/-- … of the values, -/
theorem sum_dv (H : In.On x m c) (t : Fin cfg0.N) (h15 : QB t = 15) (r n : Fin 512) :
    (stAt m c t.val t.isLt).2.2.2.1 (ix2 r n) = (x.dv (rowOf (KB t) (kb_lt _) r) n : EReal) := by
  refine (grow (fun i j => x.pr (head n) i j * x.g i n) (fun i j l => by rw [x.pr_of_lt _ l, zero_mul]) (fun t r => (stAt m c t.val t.isLt).2.2.2.1 (ix2 r n))
    (fun t r h => ?_) (fun t t' r h e hn => ?_) t.val t.isLt r).trans (congrArg Real.toEReal (grow_whole (fun i j => x.pr (head n) i j * x.g i n) t h15 r))
  · obtain ⟨s, hs, -⟩ := stAt_eq m c t
    rw [hs, step_diag m c t h]
    exact (stepDv_real (tiles H t) (masksM t h) _ r n).trans (by rw [zero4, zero_add])
  · obtain ⟨s, hs, hp⟩ := stAt_eq m c t
    rw [hs, step_off m c t h, ← hp t' e hn]
    exact stepDv_real (tiles H t) (masksU t h) _ r n

/-- … of the keys' cumulative gates: eight lanes, zeros beyond. -/
theorem sum_dck (H : In.On x m c) (t : Fin cfg0.N) (h15 : QB t = 15) (r : Fin 512) (l : Fin 128) :
    (stAt m c t.val t.isLt).2.2.2.2 (ix2 r l) = ((if h : l.val < 8 then x.dck ⟨l.val, h⟩ (rowOf (KB t) (kb_lt _) r) else 0 : ℝ) : EReal) := by
  have masked : ∀ i j : Fin 8192, i < j → (if h : l.val < 8 then -x.ds ⟨l.val, h⟩ i j else 0) = 0 := fun i j lt => by
    split
    · rw [x.ds_of_lt _ lt, neg_zero]
    · rfl
  refine (grow (fun i j => if h : l.val < 8 then -x.ds ⟨l.val, h⟩ i j else 0) masked (fun t r => (stAt m c t.val t.isLt).2.2.2.2 (ix2 r l))
    (fun t r h => ?_) (fun t t' r h e hn => ?_) t.val t.isLt r).trans (congrArg Real.toEReal
      ((grow_whole (fun i j => if h : l.val < 8 then -x.ds ⟨l.val, h⟩ i j else 0) t h15 r).trans ?_))
  · obtain ⟨s, hs, -⟩ := stAt_eq m c t
    rw [hs, step_diag m c t h]
    exact (stepDck_real (tiles H t) (masksM t h) _ r l).trans (by rw [zero5, zero_add])
  · obtain ⟨s, hs, hp⟩ := stAt_eq m c t
    rw [hs, step_off m c t h, ← hp t' e hn]
    exact stepDck_real (tiles H t) (masksU t h) _ r l
  · split
    · exact Finset.sum_neg_distrib _
    · exact Finset.sum_const_zero

/-- One step of the queries' gradient. -/
theorem step_dq (H : In.On x m c) (t : Fin cfg0.N) (s : St Ideal) (n : Fin 512) (i : Fin 8192) : (stepAt m c t s).1 (ix2 n i)
    = (if k0_cond1 (grid0.coords t) = 1#1 then 0 else s.1 (ix2 n i))
      + if i.val / 512 = QB t then ((∑ r, x.k (rowOf (KB t) (kb_lt _) r) n * (1 / 8) * x.ds (head n) i (rowOf (KB t) (kb_lt _) r) : ℝ) : EReal) else 0 := by
  by_cases h : QB t = KB t
  · rw [step_diag m c t h]
    refine (stepDq_real (tiles H t) (masksM t h) (QB t) (qb_lt _) rfl _ n i).trans (congrArg (· + _) ?_)
    split
    · exact zero1 _
    · rfl
  · rw [step_off m c t h, if_neg (not_cond1_of_ne (grid0.coords t) h)]
    exact stepDq_real (tiles H t) (masksU t h) (QB t) (qb_lt _) rfl _ n i

/-- One step of the gradient of the queries' cumulative gates. -/
theorem step_dcq (H : In.On x m c) (t : Fin cfg0.N) (s : St Ideal) (h : Fin 8) (i : Fin 8192) : (stepAt m c t s).2.1 (ix2 h i)
    = (if k0_cond1 (grid0.coords t) = 1#1 then 0 else s.2.1 (ix2 h i))
      + if i.val / 512 = QB t then ((∑ r, x.ds h i (rowOf (KB t) (kb_lt _) r) : ℝ) : EReal) else 0 := by
  by_cases e : QB t = KB t
  · rw [step_diag m c t e]
    refine (stepDcq_real (tiles H t) (masksM t e) (QB t) (qb_lt _) rfl _ h i).trans (congrArg (· + _) ?_)
    split
    · exact zero2 _
    · rfl
  · rw [step_off m c t e, if_neg (not_cond1_of_ne (grid0.coords t) e)]
    exact stepDcq_real (tiles H t) (masksU t e) (QB t) (qb_lt _) rfl _ h i

theorem first_cond (h : 0 < cfg0.N) : k0_cond1 (grid0.coords (⟨0, h⟩ : Fin cfg0.N)) = 1#1 := (first_pt ⟨0, h⟩ rfl).2
theorem later_cond (n : ℕ) (h : n + 1 < cfg0.N) : ¬k0_cond1 (grid0.coords (⟨n + 1, h⟩ : Fin cfg0.N)) = 1#1 := fun e => Nat.succ_ne_zero n (start_pt ⟨n + 1, h⟩ e)

theorem sum_dq (H : In.On x m c) (n : Fin 512) (i : Fin 8192) (hl : 135 < cfg0.N) : (stAt m c 135 hl).1 (ix2 n i) = (x.dq i n : EReal) := by
  refine (spread (fun i j => x.k j n * (1 / 8) * x.ds (head n) i j) (fun i j l => by rw [x.ds_of_lt _ l, mul_zero]) i (fun t h => (stAt m c t h).1 (ix2 n i))
    (fun h => ?_) (fun t h => ?_) hl).trans (congrArg Real.toEReal ?_)
  · exact (step_dq m c H ⟨0, h⟩ st0 n i).trans (by rw [if_pos (first_cond h), zero_add])
  · exact (step_dq m c H ⟨t + 1, h⟩ _ n i).trans (by rw [if_neg (later_cond t h)])
  · unfold In.dq
    rw [Finset.sum_mul]
    exact Finset.sum_congr rfl fun j _ => by ring

theorem sum_dcq (H : In.On x m c) (h : Fin 8) (i : Fin 8192) (hl : 135 < cfg0.N) : (stAt m c 135 hl).2.1 (ix2 h i) = (x.dcq h i : EReal) := by
  refine (spread (fun i j => x.ds h i j) (fun i j l => x.ds_of_lt _ l) i (fun t e => (stAt m c t e).2.1 (ix2 h i))
    (fun e => ?_) (fun t e => ?_) hl)
  · exact (step_dcq m c H ⟨0, e⟩ st0 h i).trans (by rw [if_pos (first_cond e), zero_add])
  · exact (step_dcq m c H ⟨t + 1, e⟩ _ h i).trans (by rw [if_neg (later_cond t e)])

end Cert.KAttnIdeal.Gen

end
-- ==== Proof.Attn.Run.lean ====
module

public import proofs.«01_k».proof.Proof.Attn.Frame
public import Idealize.ShloMosaic.Lib.Claim

@[expose] public section

set_option maxRecDepth 16384

/-! # The run of the whole program -/

noncomputable section

namespace Cert.KAttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost leaves8 leaves9 leaves10
  dsimp only
  rw [show idle0 6 (grid0.coords t) = false from live0_6 _]
  by_cases h : k0_cond5 (grid0.coords t) = 1#1
  · have hi : (!(k0_cond5 (grid0.coords t) == 1#1)) = false := by rw [h]; rfl
    rw [if_pos h, if_pos h, if_pos h, show idle0 8 (grid0.coords t) = false from hi]
  · have hi : (!(k0_cond5 (grid0.coords t) == 1#1)) = true := by
      rw [show (k0_cond5 (grid0.coords t) == 1#1) = false from beq_eq_false_iff_ne.mpr h]; rfl
    rw [if_neg h, if_neg h, if_neg h, show idle0 8 (grid0.coords t) = true from hi,
      show (win0 8).flush t = false from Bool.eq_false_iff.mpr fun hf => h (flush0_8 t hf),
      show (win0 9).flush t = false from Bool.eq_false_iff.mpr fun hf => h (flush0_9 t hf),
      show (win0 10).flush t = false from Bool.eq_false_iff.mpr fun hf => h (flush0_10 t hf)]

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  have hN : (Fin.last cfg0.N).val ≠ 0 := by rw [Fin.val_last]; have : cfg0.N = 136 := N_0; omega
  rw [show (dats m 0 c).Φ (Fin.last cfg0.N) = PhiS m c (Fin.last cfg0.N).val (Nat.le_of_lt_succ (Fin.last cfg0.N).isLt) from rfl, PhiS_pos m c _ _ hN, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KAttnIdeal.Gen

end
-- ==== Proof.Attn.Arrays.lean ====
/- The five arrays the attention's backward call leaves. -/
module

public import proofs.«01_k».proof.Proof.Attn.Accum
public import proofs.«01_k».proof.Proof.Attn.Run
public import Idealize.ShloMosaic.Lib.Pipeline.Value

@[expose] public section

set_option maxRecDepth 16384

noncomputable section

namespace Cert.KAttnIdeal.Gen

open Cert.KAttnIdeal Idealize.ShloMosaic Idealize.ShloMosaic.TcCoe Idealize.SL.Sem Cert.Attn
open Idealize.ShloMosaic.Pipeline (Dat)

/-! ## Where the blocks lie -/

theorem idx_keys : ∀ t : Fin cfg0.N, (win0_8.index t 0 = KB t ∧ win0_8.index t 1 = 0) ∧ (win0_9.index t 0 = KB t ∧ win0_9.index t 1 = 0) ∧
    (win0_10.index t 0 = KB t ∧ win0_10.index t 1 = 0) :=
  (by decide +kernel : ∀ t : Fin grid0.N, (win0_8.index t 0 = kb (grid0.coords t) ∧ win0_8.index t 1 = 0) ∧
    (win0_9.index t 0 = kb (grid0.coords t) ∧ win0_9.index t 1 = 0) ∧ (win0_10.index t 0 = kb (grid0.coords t) ∧ win0_10.index t 1 = 0))

theorem idx_queries : ∀ t : Fin cfg0.N, (win0_6.index t 0 = 0 ∧ win0_6.index t 1 = 0) ∧ (win0_7.index t 0 = 0 ∧ win0_7.index t 1 = 0) :=
  (by decide +kernel : ∀ t : Fin grid0.N, (win0_6.index t 0 = 0 ∧ win0_6.index t 1 = 0) ∧ (win0_7.index t 0 = 0 ∧ win0_7.index t 1 = 0))

/-- The last point of a key block. -/
def endOf (b : Fin 16) : Fin cfg0.N := ⟨ptOf 15 b.val, ptOf_lt 15 b (Fin.le_def.mpr (show b.val ≤ 15 by have := b.isLt; omega))⟩

theorem endOf_blocks (b : Fin 16) : QB (endOf b) = 15 ∧ KB (endOf b) = b.val :=
  blocks_ptOf 15 b (Fin.le_def.mpr (show b.val ≤ 15 by have := b.isLt; omega)) _

theorem flush_end : ∀ b : Fin 16, (cfg0.win 8).flush (endOf b) = true ∧ (cfg0.win 9).flush (endOf b) = true ∧ (cfg0.win 10).flush (endOf b) = true :=
  (by decide +kernel : ∀ b : Fin 16, win0_8.flush (endOf b) = true ∧ win0_9.flush (endOf b) = true ∧ win0_10.flush (endOf b) = true)

/-- Two ends of the same key block are one point. -/
theorem end_unique (t t' : Fin cfg0.N) (h : k0_cond5 (grid0.coords t) = 1#1) (h' : k0_cond5 (grid0.coords t') = 1#1) (e : KB t = KB t') : t = t' := by
  have q := (cond5_iff _).mp h
  have q' := (cond5_iff _).mp h'
  refine Fin.ext ((ptOf_blocks t).symm.trans (Eq.trans ?_ (ptOf_blocks t')))
  exact congrArg₂ ptOf (q.trans q'.symm) e

theorem disjoint8 (t t' : Fin cfg0.N) (h : (cfg0.win 8).flush t = true) (h' : (cfg0.win 8).flush t' = true) (ne : t ≠ t') :
    Disjoint ((cfg0.win 8).blk t).view.set ((cfg0.win 8).blk t').view.set :=
  (cfg0.win 8).disjoint_blk fun e => ne (end_unique t t' (flush0_8 t h) (flush0_8 t' h')
    ((idx_keys t).1.1.symm.trans ((congrFun e 0).trans (idx_keys t').1.1)))

theorem disjoint9 (t t' : Fin cfg0.N) (h : (cfg0.win 9).flush t = true) (h' : (cfg0.win 9).flush t' = true) (ne : t ≠ t') :
    Disjoint ((cfg0.win 9).blk t).view.set ((cfg0.win 9).blk t').view.set :=
  (cfg0.win 9).disjoint_blk fun e => ne (end_unique t t' (flush0_9 t h) (flush0_9 t' h')
    ((idx_keys t).2.1.1.symm.trans ((congrFun e 0).trans (idx_keys t').2.1.1)))

theorem disjoint10 (t t' : Fin cfg0.N) (h : (cfg0.win 10).flush t = true) (h' : (cfg0.win 10).flush t' = true) (ne : t ≠ t') :
    Disjoint ((cfg0.win 10).blk t).view.set ((cfg0.win 10).blk t').view.set :=
  (cfg0.win 10).disjoint_blk fun e => ne (end_unique t t' (flush0_10 t h) (flush0_10 t' h')
    ((idx_keys t).2.2.1.symm.trans ((congrFun e 0).trans (idx_keys t').2.2.1)))

/-- A window written back at the last point only has no second block to meet. -/
theorem last_only (w : Fin cfg0.W) (hf : ∀ t, (cfg0.win w).flush t = true → t.val % 136 = 135) (t t' : Fin cfg0.N)
    (h : (cfg0.win w).flush t = true) (h' : (cfg0.win w).flush t' = true) (e : t ≠ t') :
    Disjoint ((cfg0.win w).blk t).view.set ((cfg0.win w).blk t').view.set := by
  have := hf t h; have := hf t' h'; have := lt_of_lt_of_eq t.isLt size_grid; have := lt_of_lt_of_eq t'.isLt size_grid
  exact absurd (Fin.ext (by omega)) e

theorem lt_last : 135 < cfg0.N := by rw [size_grid]; norm_num
abbrev last : Fin cfg0.N := ⟨135, lt_last⟩

/-! ## The arrays -/

variable (m : (ℓ : Loc nD τ sig) → Buf (Elt Ideal) ℓ) (ρ : Dev nD → PrngReg) (c : Dev nD) {x : In}

theorem result6 (H : In.On x m c) (n : Fin 512) (i : Fin 8192) : (dats m 0 c).arrAt 6 cfg0.N (ix2 n i) = (x.dq i n : EReal) := by
  have h := (dats m 0 c).arrAt_emb_eq_flushed 6 (last_only 6 fun t => (flush0_6 t).mp) last ((flush0_6 _).mpr rfl) (ix2 n i)
  have f : (dats m 0 c).flushed 6 last = (cfg0.win 6).cut (grid0.coords last) (stAt m c 135 lt_last).1 := by
    show (cfg0.win 6).cut (grid0.coords last) ((dats m 0 c).after 6 last) = _
    rw [after0_6]
  rw [f] at h
  refine (congrArg _ ?_).trans (h.trans (sum_dq m c H n i lt_last))
  funext a
  apply Fin.ext
  match a with
  | ⟨0, _⟩ => show n.val = win0_6.index last 0 * 512 + 1 * n.val; rw [(idx_queries last).1.1]; omega
  | ⟨1, _⟩ => show i.val = win0_6.index last 1 * 8192 + 1 * i.val; rw [(idx_queries last).1.2]; omega

theorem result7 (H : In.On x m c) (n : Fin 8) (i : Fin 8192) : (dats m 0 c).arrAt 7 cfg0.N (ix2 n i) = (x.dcq n i : EReal) := by
  have h := (dats m 0 c).arrAt_emb_eq_flushed 7 (last_only 7 fun t => (flush0_7 t).mp) last ((flush0_7 _).mpr rfl) (ix2 n i)
  have f : (dats m 0 c).flushed 7 last = (cfg0.win 7).cut (grid0.coords last) (stAt m c 135 lt_last).2.1 := by
    show (cfg0.win 7).cut (grid0.coords last) ((dats m 0 c).after 7 last) = _
    rw [after0_7]
  rw [f] at h
  refine (congrArg _ ?_).trans (h.trans (sum_dcq m c H n i lt_last))
  funext a
  apply Fin.ext
  match a with
  | ⟨0, _⟩ => show n.val = win0_7.index last 0 * 8 + 1 * n.val; rw [(idx_queries last).2.1]; omega
  | ⟨1, _⟩ => show i.val = win0_7.index last 1 * 8192 + 1 * i.val; rw [(idx_queries last).2.2]; omega

/-- A key's row: its block's last point and its place there. -/
theorem exists_key (j : Fin 8192) : ∃ b : Fin 16, ∃ r, j = rowOf (KB (endOf b)) (kb_lt _) r := by
  have hj := j.isLt
  refine ⟨⟨j.val / 512, by omega⟩, ⟨j.val % 512, by omega⟩, Fin.ext ?_⟩
  show j.val = KB (endOf ⟨j.val / 512, by omega⟩) * 512 + j.val % 512
  rw [(endOf_blocks ⟨j.val / 512, by omega⟩).2]
  show j.val = j.val / 512 * 512 + j.val % 512
  omega

theorem result8 (H : In.On x m c) (j : Fin 8192) (n : Fin 512) : (dats m 0 c).arrAt 8 cfg0.N (ix2 j n) = (x.dk j n : EReal) := by
  obtain ⟨b, r, rfl⟩ := exists_key j
  have h := (dats m 0 c).arrAt_emb_eq_flushed 8 disjoint8 (endOf b) (flush_end b).1 (ix2 r n)
  have f : (dats m 0 c).flushed 8 (endOf b) = (cfg0.win 8).cut (grid0.coords (endOf b)) (k0_pay8 (stAt m c (endOf b).val (endOf b).isLt).2.2.1) := by
    show (cfg0.win 8).cut (grid0.coords (endOf b)) ((dats m 0 c).after 8 (endOf b)) = _
    rw [after0_8]
  rw [f] at h
  have cast : ∀ y : Vec Ideal S512x512 .f32, k0_pay8 y (ix2 r n) = y (ix2 r n) := fun y => by pointwise [k0_pay8]
  refine (congrArg _ ?_).trans (h.trans ((cast _).trans (sum_dk m c H (endOf b) (endOf_blocks b).1 r n)))
  funext a
  apply Fin.ext
  match a with
  | ⟨0, _⟩ => show KB (endOf b) * 512 + r.val = win0_8.index (endOf b) 0 * 512 + 1 * r.val; rw [(idx_keys (endOf b)).1.1]; omega
  | ⟨1, _⟩ => show n.val = win0_8.index (endOf b) 1 * 512 + 1 * n.val; rw [(idx_keys (endOf b)).1.2]; omega

theorem result9 (H : In.On x m c) (j : Fin 8192) (n : Fin 512) : (dats m 0 c).arrAt 9 cfg0.N (ix2 j n) = (x.dv j n : EReal) := by
  obtain ⟨b, r, rfl⟩ := exists_key j
  have h := (dats m 0 c).arrAt_emb_eq_flushed 9 disjoint9 (endOf b) (flush_end b).2.1 (ix2 r n)
  have f : (dats m 0 c).flushed 9 (endOf b) = (cfg0.win 9).cut (grid0.coords (endOf b)) (k0_pay9 (stAt m c (endOf b).val (endOf b).isLt).2.2.2.1) := by
    show (cfg0.win 9).cut (grid0.coords (endOf b)) ((dats m 0 c).after 9 (endOf b)) = _
    rw [after0_9]
  rw [f] at h
  have cast : ∀ y : Vec Ideal S512x512 .f32, k0_pay9 y (ix2 r n) = y (ix2 r n) := fun y => by pointwise [k0_pay9]
  refine (congrArg _ ?_).trans (h.trans ((cast _).trans (sum_dv m c H (endOf b) (endOf_blocks b).1 r n)))
  funext a
  apply Fin.ext
  match a with
  | ⟨0, _⟩ => show KB (endOf b) * 512 + r.val = win0_9.index (endOf b) 0 * 512 + 1 * r.val; rw [(idx_keys (endOf b)).2.1.1]; omega
  | ⟨1, _⟩ => show n.val = win0_9.index (endOf b) 1 * 512 + 1 * n.val; rw [(idx_keys (endOf b)).2.1.2]; omega

theorem result10 (H : In.On x m c) (j : Fin 8192) (l : Fin 128) :
    (dats m 0 c).arrAt 10 cfg0.N (ix2 j l) = ((if h : l.val < 8 then x.dck ⟨l.val, h⟩ j else 0 : ℝ) : EReal) := by
  obtain ⟨b, r, rfl⟩ := exists_key j
  have h := (dats m 0 c).arrAt_emb_eq_flushed 10 disjoint10 (endOf b) (flush_end b).2.2 (ix2 r l)
  have f : (dats m 0 c).flushed 10 (endOf b) = (cfg0.win 10).cut (grid0.coords (endOf b)) (stAt m c (endOf b).val (endOf b).isLt).2.2.2.2 := by
    show (cfg0.win 10).cut (grid0.coords (endOf b)) ((dats m 0 c).after 10 (endOf b)) = _
    rw [after0_10]
  rw [f] at h
  refine (congrArg _ ?_).trans (h.trans (sum_dck m c H (endOf b) (endOf_blocks b).1 r l))
  funext a
  apply Fin.ext
  match a with
  | ⟨0, _⟩ => show KB (endOf b) * 512 + r.val = win0_10.index (endOf b) 0 * 512 + 1 * r.val; rw [(idx_keys (endOf b)).2.2.1]; omega
  | ⟨1, _⟩ => show l.val = win0_10.index (endOf b) 1 * 128 + 1 * l.val; rw [(idx_keys (endOf b)).2.2.2]; omega

/-- The run with its five arrays named, the arguments unchanged. -/
theorem run_arrays : θ_run defs (onTc (τ := τ) (main (F := Ideal))) ⟨m, fun _ => 0, ρ⟩ fun r => ∀ c : Dev nD,
      r.2.mem ((c.tc : Thread nD τ).loc main_v127_0) = (dats m 0 c).arrAt 6 cfg0.N
      ∧ r.2.mem ((c.tc : Thread nD τ).loc main_v127_1) = (dats m 0 c).arrAt 7 cfg0.N
      ∧ r.2.mem ((c.tc : Thread nD τ).loc main_v127_2) = (dats m 0 c).arrAt 8 cfg0.N
      ∧ r.2.mem ((c.tc : Thread nD τ).loc main_v127_3) = (dats m 0 c).arrAt 9 cfg0.N
      ∧ r.2.mem ((c.tc : Thread nD τ).loc main_v127_4) = (dats m 0 c).arrAt 10 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h.1 c).1 6, (h.1 c).1 7, (h.1 c).1 8, (h.1 c).1 9, (h.1 c).1 10, h.2.1 c⟩)
    (θ_run_and (run_main m ρ) (frame m ρ))

end Cert.KAttnIdeal.Gen

end
-- ==== Proof.Attn.Finite.lean ====
/- What the precondition says: every argument is real. -/
module

public import proofs.«01_k».proof.Pre_finite_attn
public import proofs.«01_k».proof.Proof.Attn.Reference
public import Idealize.ShloMosaic.Lib.ReduceAll
public import Idealize.ShloMosaic.Lib.Affine

@[expose] public section

set_option maxRecDepth 16384

noncomputable section

namespace Cert.Pre_finite_attn

open Idealize.ShloMosaic

instance facts : Facts where
  bcast_S_S8192x512 := by decide
  reducesTo_S8192x512_S_d0_1 := by decide
  h_S_ := by decide
  bcast_S_S8192x8 := by decide
  reducesTo_S8192x8_S_d0_1 := by decide

end Cert.Pre_finite_attn

namespace Cert.Attn

open Idealize.ShloMosaic Cert.Pre_finite_attn Cert.Pre_finite_attn.Facts

theorem pos_inf : Ideal.ofBits .f32 0x7F800000#32 = ⊤ := by simp [Ideal.ofBits, Ideal.ieee]

/-- A number below infinity in absolute value is real. -/
theorem real_of_bounded (a : EReal) (h : BitVec.ofBool (decide ((FloatOps.absf (F := Ideal) (φ := .f32) a : EReal) < Ideal.ofBits .f32 0x7F800000#32)) = 1#1) : a = (a.toReal : EReal) := by
  have lt : max a (-a) < ⊤ := by
    rw [pos_inf] at h
    by_contra hn
    rw [show decide ((FloatOps.absf (F := Ideal) (φ := .f32) a : EReal) < ⊤) = false from decide_eq_false hn] at h
    exact absurd h (by decide)
  obtain ⟨l, r⟩ := max_lt_iff.mp lt
  exact (EReal.coe_toReal l.ne fun e => r.ne (by rw [e]; rfl)).symm

theorem real_wide (a : FVec Ideal Pre_finite_attn.S8192x512 .f32) (z : Pre_finite_attn.S_.Idx)
    (h : Host.reduce IntOp.andi (cmpf .olt (Host.absf a) (broadcastInDim Pre_finite_attn.S8192x512 ![] bcast_S_S8192x512 (constant (F := Ideal) Pre_finite_attn.S_ .f32 0x7F800000#32)))
      (constantI Pre_finite_attn.S_ 1 1#1) reducesTo_S8192x512_S_d0_1 h_S_ z = 1#1) (i : Fin 8192) (n : Fin 512) : a (ix2 i n) = ((a (ix2 i n)).toReal : EReal) := by
  have e := Host.reduce_andi_all _ _ _ _ z h (ix2 i n)
  revert e
  pointwise []
  exact real_of_bounded _

theorem real_narrow (a : FVec Ideal Pre_finite_attn.S8192x8 .f32) (z : Pre_finite_attn.S_.Idx)
    (h : Host.reduce IntOp.andi (cmpf .olt (Host.absf a) (broadcastInDim Pre_finite_attn.S8192x8 ![] bcast_S_S8192x8 (constant (F := Ideal) Pre_finite_attn.S_ .f32 0x7F800000#32)))
      (constantI Pre_finite_attn.S_ 1 1#1) reducesTo_S8192x8_S_d0_1 h_S_ z = 1#1) (i : Fin 8192) (n : Fin 8) : a (ix2 i n) = ((a (ix2 i n)).toReal : EReal) := by
  have e := Host.reduce_andi_all _ _ _ _ z h (ix2 i n)
  revert e
  pointwise []
  exact real_of_bounded _

/-- The real model of five arrays and of the greatest logits. -/
def inOf (x0 x1 x2 : FVec Ideal Pre_finite_attn.S8192x512 .f32) (x3 : FVec Ideal Pre_finite_attn.S8192x8 .f32) (x4 : FVec Ideal Pre_finite_attn.S8192x512 .f32) (top : Fin 8 → Fin 8192 → ℝ) : In where
  q i n := (x0 (ix2 i n)).toReal
  k i n := (x1 (ix2 i n)).toReal
  v i n := (x2 (ix2 i n)).toReal
  c i h := (x3 (ix2 i h)).toReal
  g i n := (x4 (ix2 i n)).toReal
  top := top

/-- Under the precondition the arrays are their model's numbers, -/
theorem args_of_finite (x0 x1 x2 : FVec Ideal Pre_finite_attn.S8192x512 .f32) (x3 : FVec Ideal Pre_finite_attn.S8192x8 .f32) (x4 : FVec Ideal Pre_finite_attn.S8192x512 .f32)
    (h : Pre_finite_attn.fn x0 x1 x2 x3 x4 = fun _ => 1#1) (top : Fin 8 → Fin 8192 → ℝ) : Args x0 x1 x2 x3 x4 (inOf x0 x1 x2 x3 x4 top) := by
  have z : Pre_finite_attn.S_.Idx := fun a => a.elim0
  have e := congrFun h z
  dsimp only [Pre_finite_attn.fn, Pre_finite_attn.fn_part1] at e
  obtain ⟨e, h4⟩ := IntOp.andi_eq_one.mp e
  obtain ⟨e, h3⟩ := IntOp.andi_eq_one.mp e
  obtain ⟨e, h2⟩ := IntOp.andi_eq_one.mp e
  obtain ⟨h0, h1⟩ := IntOp.andi_eq_one.mp e
  exact ⟨real_wide x0 z h0, real_wide x1 z h1, real_wide x2 z h2, real_narrow x3 z h3, real_wide x4 z h4⟩

theorem holds_of_top (x0 x1 x2 : FVec Ideal Pre_finite_attn.S8192x512 .f32) (x3 : FVec Ideal Pre_finite_attn.S8192x8 .f32) (x4 : FVec Ideal Pre_finite_attn.S8192x512 .f32) (f : RAttnIdeal.S8x8192.Idx → EReal) (hf : RAttnIdeal.Read.val_main_v21 (F := Ideal) x0 x1 x3 = f)
    (H : ∀ top, Args x0 x1 x2 x3 x4 (inOf x0 x1 x2 x3 x4 top)) (ht : ∀ a i, f (ix2 a i) = ((f (ix2 a i)).toReal : EReal)) :
    ∃ x : In, Holds x0 x1 x2 x3 x4 x :=
  ⟨inOf x0 x1 x2 x3 x4 fun a i => (f (ix2 a i)).toReal, { toArgs := H _, top := fun a i => (congrFun hf _).trans (ht a i) }⟩

/-- … and so are the greatest logits. -/
theorem holds_of_finite (x0 x1 x2 : FVec Ideal Pre_finite_attn.S8192x512 .f32) (x3 : FVec Ideal Pre_finite_attn.S8192x8 .f32) (x4 : FVec Ideal Pre_finite_attn.S8192x512 .f32)
    (h : Pre_finite_attn.fn x0 x1 x2 x3 x4 = fun _ => 1#1) : ∃ x : In, Holds x0 x1 x2 x3 x4 x :=
  holds_of_top x0 x1 x2 x3 x4 _ rfl (args_of_finite x0 x1 x2 x3 x4 h) fun a i => ref_top (args_of_finite x0 x1 x2 x3 x4 h fun _ _ => 0) a i

end Cert.Attn

end
-- ==== Proof.Attn.Claim.lean ====
/- The claims about the attention's backward call: its one run (`Attn/Run.lean`) carries both frames, and its arrays meet
   the reference's at the real model of `Attn/Math.lean`. -/
module

public import proofs.«01_k».proof.Defs
public import proofs.«01_k».proof.Proof.Gen.KAttn
public import proofs.«01_k».proof.Proof.Gen.RAttnIdeal.Run
public import proofs.«01_k».proof.Proof.Attn.Arrays
public import proofs.«01_k».proof.Proof.Attn.Finite
public import Idealize.ShloMosaic.Adequacy
public import Idealize.ShloMosaic.Lib.Tactic

@[expose] public section

noncomputable section

namespace Cert.Attn

open Idealize.ShloMosaic Idealize.ShloMosaic.Tactic Idealize.ShloMosaic.TcCoe Idealize.SL.Sem

/-- The program and its idealization have the same text (no rule applies). -/
theorem same : Cert.quiescent_KAttn =
    ∀ (m : (ℓ : Loc Cert.KAttnIdeal.nD Cert.KAttnIdeal.τ Cert.KAttnIdeal.sig) → Buf (Elt Bits) ℓ) (g : Dev Cert.KAttnIdeal.nD → PrngReg), True →
      θ_run (Cert.KAttnIdeal.defs (F := Bits)) (onTc (τ := Cert.KAttnIdeal.τ) (Cert.KAttnIdeal.main (F := Bits))) ⟨m, fun _ => 0, g⟩ (fun r => (∀ c : Dev Cert.KAttnIdeal.nD,
        r.2.mem ((c.tc : Thread Cert.KAttnIdeal.nD Cert.KAttnIdeal.τ).loc Cert.KAttnIdeal.main_arg0) = m ((c.tc : Thread Cert.KAttnIdeal.nD Cert.KAttnIdeal.τ).loc Cert.KAttnIdeal.main_arg0)
        ∧ r.2.mem ((c.tc : Thread Cert.KAttnIdeal.nD Cert.KAttnIdeal.τ).loc Cert.KAttnIdeal.main_arg1) = m ((c.tc : Thread Cert.KAttnIdeal.nD Cert.KAttnIdeal.τ).loc Cert.KAttnIdeal.main_arg1)
        ∧ r.2.mem ((c.tc : Thread Cert.KAttnIdeal.nD Cert.KAttnIdeal.τ).loc Cert.KAttnIdeal.main_arg2) = m ((c.tc : Thread Cert.KAttnIdeal.nD Cert.KAttnIdeal.τ).loc Cert.KAttnIdeal.main_arg2)
        ∧ r.2.mem ((c.tc : Thread Cert.KAttnIdeal.nD Cert.KAttnIdeal.τ).loc Cert.KAttnIdeal.main_arg3) = m ((c.tc : Thread Cert.KAttnIdeal.nD Cert.KAttnIdeal.τ).loc Cert.KAttnIdeal.main_arg3)
        ∧ r.2.mem ((c.tc : Thread Cert.KAttnIdeal.nD Cert.KAttnIdeal.τ).loc Cert.KAttnIdeal.main_arg4) = m ((c.tc : Thread Cert.KAttnIdeal.nD Cert.KAttnIdeal.τ).loc Cert.KAttnIdeal.main_arg4))
        ∧ r.2.sem = fun _ => 0) := by
  sl_kernel_rfl

theorem frame_kernel : Cert.quiescent_KAttn := same.mpr fun m ρ _ => Cert.KAttnIdeal.Gen.frame (F := Bits) m ρ
theorem frame_ideal : Cert.quiescent_KAttnIdeal := fun m ρ _ => Cert.KAttnIdeal.Gen.frame m ρ
theorem frame_reference : Cert.quiescent_RAttnIdeal := fun m ρ _ =>
  (θ_run Cert.RAttnIdeal.defs _ _).mono (fun r h => ⟨fun c => (h c).2.2.2.2.2, sem_eq_zero_of_no_sems (by decide) r.2⟩)
    (Cert.RAttnIdeal.Value.run (F := Ideal) m ρ)
theorem frame_ideal_finite : Cert.quiescent_KAttnIdeal_pre_finite_attn := fun m ρ _ => frame_ideal m ρ trivial
theorem frame_reference_finite : Cert.quiescent_RAttnIdeal_pre_finite_attn := fun m ρ _ => frame_reference m ρ trivial

theorem algebraic : Cert.algebraic_KAttnIdeal_RAttnIdeal_pre_finite_attn := by
  intro m ρ m' ρ' hpre hagree
  refine ⟨fun c => (Cert.KAttnIdeal.Gen.dats m 0 c).arrAt 6 Cert.KAttnIdeal.cfg0.N, fun c => (Cert.KAttnIdeal.Gen.dats m 0 c).arrAt 7 Cert.KAttnIdeal.cfg0.N,
    fun c => (Cert.KAttnIdeal.Gen.dats m 0 c).arrAt 8 Cert.KAttnIdeal.cfg0.N, fun c => (Cert.KAttnIdeal.Gen.dats m 0 c).arrAt 9 Cert.KAttnIdeal.cfg0.N,
    fun c => (Cert.KAttnIdeal.Gen.dats m 0 c).arrAt 10 Cert.KAttnIdeal.cfg0.N,
    Cert.KAttnIdeal.Gen.run_arrays m ρ, (θ_run Cert.RAttnIdeal.defs _ _).mono (fun r h c => ?_) (Cert.RAttnIdeal.Value.run (F := Ideal) m' ρ')⟩
  obtain ⟨h0, h1, h2, h3, h4, h⟩ := h c
  obtain ⟨a0, a1, a2, a3, a4⟩ := hagree c
  obtain ⟨x, H⟩ := holds_of_finite _ _ _ _ _ (hpre c)
  refine ⟨h0.trans ((Cert.RAttnIdeal.Read.val_main_v73_eq ..).trans (Kit.mat_ext fun i d => ?_)),
    h1.trans ((Cert.RAttnIdeal.Read.val_main_v74_eq ..).trans (Kit.mat_ext fun i d => ?_)),
    h2.trans ((Cert.RAttnIdeal.Read.val_main_v75_eq ..).trans (Kit.mat_ext fun i d => ?_)),
    h3.trans ((Cert.RAttnIdeal.Read.val_main_v76_eq ..).trans (Kit.mat_ext fun i d => ?_)),
    h4.trans ((Cert.RAttnIdeal.Read.val_main_v77_eq ..).trans (Kit.mat_ext fun i d => ?_)), h⟩
  all_goals simp only [a0, a1, a2, a3, a4]
  · exact (ref_dq H i d).trans (Cert.KAttnIdeal.Gen.result6 m c H i d).symm
  · exact (ref_dcq H i d).trans (Cert.KAttnIdeal.Gen.result7 m c H i d).symm
  · exact (ref_dk H i d).trans (Cert.KAttnIdeal.Gen.result8 m c H i d).symm
  · exact (ref_dv H i d).trans (Cert.KAttnIdeal.Gen.result9 m c H i d).symm
  · exact (ref_padded H i d).trans (Cert.KAttnIdeal.Gen.result10 m c H i d).symm

end Cert.Attn

end
-- ==== Proof.Ffnf.Row.lean ====
/- The feed-forward block's forward call: one token's normed row, its hidden layer, the product and the block's output
   as formulas of the block's input, and the reference's four results as these formulas. The hidden layer's 4096
   entries are eight blocks of 512, named by block and column as in `Ffn/Row.lean`, which has the hidden layer (`f1Of`)
   and the product (`ffOf`) already. -/
module

public import proofs.«01_k».proof.Proof.Ffn.Row
public import proofs.«01_k».proof.Proof.Gen.RFfnfIdeal.Read

@[expose] public section

noncomputable section

namespace Cert.Ffnf

open Idealize.ShloMosaic
open Cert.Ffn (Weights col f1Of ffOf)

variable (θ : Weights) (h : Fin 1024 → EReal) (d : Fin 1024)

/-- The normed row. -/
def c2 : EReal := h d * Kit.rstd 1024 h * θ.pre d
/-- The block's output: its input and the product's normed row. -/
def h2 : EReal := h d + ffOf θ d h * Kit.rstd 1024 (fun k => ffOf θ k h) * θ.post d

/-! ## The reference -/

section Reference
open Cert.RFfnfIdeal Cert.RFfnfIdeal.Gen Cert.RFfnfIdeal.Read
variable (x0 : Vec Ideal S8192x1024 .f32) (x1 : Vec Ideal S1x1024 .f32) (x2 : Vec Ideal S1024x4096 .f32)
  (x3 : Vec Ideal S4096x1024 .f32) (x4 : Vec Ideal S1x1024 .f32)

/-- The parameters and token `i`'s row, as the arguments hold them. -/
def wts : Weights := ⟨fun k j q => x2 (ix2 k (col j q)), fun j q k => x3 (ix2 (col j q) k), fun d => x4 (ix2 0 d),
  fun d => x1 (ix2 0 d)⟩
def tok (i : Fin 8192) : Fin 1024 → EReal := fun k => x0 (ix2 i k)

theorem c2_ref (i : Fin 8192) (d : Fin 1024) :
    val_main_v16 (F := Ideal) x0 x1 (ix2 i d) = c2 (wts x1 x2 x3 x4) (tok x0 i) d := by
  pointwise [val_main_v16, val_main_v11, val_main_v10, val_main_v9, val_main_v8, val_main_v7, val_main_v6, val_main_v5,
    val_main_v4, val_main_v3, val_main_v2, val_main_v1, val_main_v0, val_main_cst, val_main_cst_0, val_main_cst_1]
  simp only [Kit.rsqrt_1024 fun k => x0 (ix2 i k)]
  rfl

theorem hidden_ref (i : Fin 8192) (j : Fin 8) (q : Fin 512) :
    val_main_v12 (F := Ideal) x0 x1 x2 (ix2 i (col j q)) = f1Of (wts x1 x2 x3 x4) j q (tok x0 i) := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]
  simp only [Kit.rsqrt_1024 fun k => x0 (ix2 i k)]
  rfl

theorem f1_ref (i : Fin 8192) (j : Fin 8) (q : Fin 512) :
    val_main_v17 (F := Ideal) x0 x1 x2 (ix2 i (col j q)) = f1Of (wts x1 x2 x3 x4) j q (tok x0 i) :=
  hidden_ref x0 x1 x2 x3 x4 i j q

theorem ff_ref (i : Fin 8192) (d : Fin 1024) :
    val_main_v15 (F := Ideal) x0 x1 x2 x3 (ix2 i d) = ffOf (wts x1 x2 x3 x4) d (tok x0 i) := by
  pointwise [val_main_v15, val_main_v14, val_main_v13, val_main_call0_v0, val_main_call0_cst]
  rw [Kit.sum_blocks 8 512 rfl]
  unfold ffOf
  refine Finset.sum_congr rfl fun j _ => Finset.sum_congr rfl fun q _ => ?_
  rw [hidden_ref x0 x1 x2 x3 x4 i j q]
  rfl

theorem h2_ref (i : Fin 8192) (d : Fin 1024) :
    val_main_v30 (F := Ideal) x0 x1 x2 x3 x4 (ix2 i d) = h2 (wts x1 x2 x3 x4) (tok x0 i) d := by
  pointwise [val_main_v30, val_main_v29, val_main_v28, val_main_v27, val_main_v26, val_main_v25, val_main_v24, val_main_v23,
    val_main_v22, val_main_v21, val_main_v20, val_main_v19, val_main_v18, val_main_cst_2, val_main_cst_3, val_main_cst_4]
  simp only [ff_ref x0 x1 x2 x3 x4, Kit.rsqrt_1024 fun k => ffOf (wts x1 x2 x3 x4) k (tok x0 i)]
  rfl

end Reference

end Cert.Ffnf

end
-- ==== Proof.Ffnf.Value.lean ====
/- The feed-forward block's forward call at the ideal instance: what each grid point leaves in its four output buffers as
   the printed payloads of the blocks it reads, those as the formulas of `Ffnf/Row.lean` of their rows, and the arrays
   the points write back. A point walks the hidden layer in eight blocks of 512 columns: `w1s`, `w2s` are the pieces of
   the weights it reads then. -/
module

public import proofs.«01_k».proof.Proof.Ffnf.Row
public import proofs.«01_k».proof.Proof.Gen.KFfnfIdeal.Value

@[expose] public section

set_option maxRecDepth 16384

noncomputable section

namespace Cert.KFfnfIdeal.Points

open Cert.KFfnfIdeal Cert.KFfnfIdeal.Gen Idealize.ShloMosaic Idealize.ShloMosaic.TcCoe Idealize.SL.Sem
open Cert.Ffn (Weights col f1Of ffOf)
open Cert.Ffnf (c2 h2 wts tok)

theorem N16 : cfg0.N = 16 := N_0
theorem hz : (![0, 0] : Fin 2 → Nat) = fun _ => 0 := funext fun a => by fin_cases a <;> rfl

/-! ## The eight blocks of the hidden layer -/

section Pieces
variable {F : FTy → Type} [FloatOps F]

def w1s (X : Vec F S8x1024x512 .bf16) (j : Fin 8) : Vec F S1x1024x512 .bf16 := fun i => X (ix3 j (i 1) (i 2))
def w2s (X : Vec F S8x512x1024 .bf16) (j : Fin 8) : Vec F S1x512x1024 .bf16 := fun i => X (ix3 j (i 1) (i 2))

theorem ld_w1s (X : Vec F S8x1024x512 .bf16) (j : ℕ) (h) :
    View.ld X (Rect.unit (s := S8x1024x512) ![j, 0, 0] S1x1024x512.size h) = w1s X ⟨j, Nat.lt_of_succ_le (h 0)⟩ := by
  funext i
  refine congrArg X (funext fun a => Fin.ext ?_)
  match a with
  | ⟨0, _⟩ => show j + 1 * (i 0).val = j; have : (i 0).val < 1 := (i 0).isLt; omega
  | ⟨1, _⟩ => show 0 + 1 * (i 1).val = (i 1).val; omega
  | ⟨2, _⟩ => show 0 + 1 * (i 2).val = (i 2).val; omega

theorem ld_w2s (X : Vec F S8x512x1024 .bf16) (j : ℕ) (h) :
    View.ld X (Rect.unit (s := S8x512x1024) ![j, 0, 0] S1x512x1024.size h) = w2s X ⟨j, Nat.lt_of_succ_le (h 0)⟩ := by
  funext i
  refine congrArg X (funext fun a => Fin.ext ?_)
  match a with
  | ⟨0, _⟩ => show j + 1 * (i 0).val = j; have : (i 0).val < 1 := (i 0).isLt; omega
  | ⟨1, _⟩ => show 0 + 1 * (i 1).val = (i 1).val; omega
  | ⟨2, _⟩ => show 0 + 1 * (i 2).val = (i 2).val; omega

end Pieces

/-! ## What a point leaves -/

section Payloads
variable (X : Vec Ideal S512x1024 .f32) (G : Vec Ideal S1x1024 .f32) (W1 : Vec Ideal S8x1024x512 .bf16)
  (W2 : Vec Ideal S8x512x1024 .bf16) (P : Vec Ideal S1x1024 .f32)

/-- The normed rows, and the product of the first block of the hidden layer. -/
abbrev normed : FVec Ideal S512x1024 .bf16 := k0_pay2 X G
abbrev first : FVec Ideal S512x1024 .f32 := k0_pay5 X G (w1s W1 0) (w2s W2 0)
/-- From the normed rows `B` and the product `A` of the first block: the product of the first six, -/
abbrev upto5 (B : FVec Ideal S512x1024 .bf16) (A : FVec Ideal S512x1024 .f32) : FVec Ideal S512x1024 .f32 :=
  k0_pay19 B (k0_pay11 B A (k0_pay6 (w1s W1 1)) (constant S512x512 .f32 0x00000000#32) (w2s W2 1) (w1s W1 2) (w2s W2 2))
    (k0_pay14 B (w1s W1 3)) (w2s W2 3) (w1s W1 4) (w2s W2 4) (w1s W1 5) (w2s W2 5)
/-- … and of all eight. -/
abbrev prod (B : FVec Ideal S512x1024 .bf16) (A : FVec Ideal S512x1024 .f32) : FVec Ideal S512x1024 .f32 :=
  k0_pay24 B (upto5 W1 W2 B A) (w1s W1 6) (w2s W2 6) (w1s W1 7) (w2s W2 7)

/-- What a point stores of the hidden layer: a piece a block, the last one first. -/
abbrev pieces : List (View.Piece (Elt Ideal) S512x4096 .bf16) :=
  [⟨r0_24, k0_pay23 (normed X G) (w1s W1 7)⟩, ⟨r0_21, k0_pay21 (normed X G) (w1s W1 6)⟩,
   ⟨r0_18, k0_pay18 (normed X G) (w1s W1 5)⟩, ⟨r0_15, k0_pay16 (normed X G) (w1s W1 4)⟩,
   ⟨r0_12, k0_pay13 (normed X G) (w1s W1 3)⟩, ⟨r0_9, k0_pay10 (normed X G) (w1s W1 2)⟩,
   ⟨r0_6, k0_pay8 (normed X G) (k0_pay6 (w1s W1 1)) (constant S512x512 .f32 0x00000000#32)⟩,
   ⟨r0_3, k0_pay4 X G (w1s W1 0)⟩]

theorem out5 : out0_5 X G W1 W2 P = normed X G := by
  unfold out0_5
  rw [View.canon_unit_zero (S := S512x1024) hz]
  simp only [View.ld_unit_zero (S := S512x1024) hz, View.ld_unit_zero (S := S1x1024) hz]

theorem out6 : out0_6 X G W1 W2 P = View.canon (pieces X G W1) := by
  unfold out0_6 k0_pay28 k0_pay27 k0_pay26
  simp only [View.ld_unit_zero (S := S512x1024) hz, View.ld_unit_zero (S := S1x1024) hz, ld_w1s]
  rfl

theorem out7 : out0_7 X G W1 W2 P = prod W1 W2 (normed X G) (first X G W1 W2) := by
  unfold out0_7 k0_pay29 k0_pay28 k0_pay27 k0_pay26
  rw [View.canon_unit_zero (S := S512x1024) hz]
  simp only [View.ld_unit_zero (S := S512x1024) hz, View.ld_unit_zero (S := S1x1024) hz, ld_w1s, ld_w2s]
  rfl

theorem out8 : out0_8 X G W1 W2 P = k0_pay1 X (prod W1 W2 (normed X G) (first X G W1 W2)) P
    (k0_pay25 (normed X G) (upto5 W1 W2 (normed X G) (first X G W1 W2)) (w1s W1 6) (w2s W2 6) (w1s W1 7) (w2s W2 7)) := by
  unfold out0_8 k0_pay29 k0_pay28 k0_pay27 k0_pay26
  rw [View.canon_unit_zero (S := S512x1024) hz]
  simp only [View.ld_unit_zero (S := S512x1024) hz, View.ld_unit_zero (S := S1x1024) hz, ld_w1s, ld_w2s]
  rfl

/-! ## … at an index -/

abbrev weights : Weights := ⟨fun k j q => W1 (ix3 j k q), fun j q k => W2 (ix3 j q k), fun d => P (ix2 0 d), fun d => G (ix2 0 d)⟩
abbrev row (r : Fin 512) : Fin 1024 → EReal := fun k => X (ix2 r k)

theorem w1s_apply (j : Fin 8) (a : Fin 1) (k : Fin 1024) (q : Fin 512) : w1s (F := Ideal) W1 j (ix3 a k q) = W1 (ix3 j k q) := rfl
theorem w2s_apply (j : Fin 8) (a : Fin 1) (q : Fin 512) (k : Fin 1024) : w2s (F := Ideal) W2 j (ix3 a q k) = W2 (ix3 j q k) := rfl

theorem c2_apply (r : Fin 512) (d : Fin 1024) : normed X G (ix2 r d) = c2 (weights G W1 W2 P) (row X r) d := by
  pointwise [k0_pay2]
  simp only [Kit.rsqrt_1024 fun k => X (ix2 r k)]
  rfl

/-- A hidden column, from the normed rows `B`. -/
def hid (B : Vec Ideal S512x1024 .bf16) (r : Fin 512) (j : Fin 8) (q : Fin 512) : EReal := ∑ k, B (ix2 r k) * W1 (ix3 j k q)
/-- What block `j` of the hidden layer adds to the product. -/
def part (B : Vec Ideal S512x1024 .bf16) (r : Fin 512) (d : Fin 1024) (j : Fin 8) : EReal :=
  ∑ q, max (hid W1 B r j q) 0 * max (hid W1 B r j q) 0 * W2 (ix3 j q d)

theorem hid_eq (r : Fin 512) (j : Fin 8) (q : Fin 512) : hid W1 (normed X G) r j q = f1Of (weights G W1 W2 P) j q (row X r) := by
  unfold hid
  simp only [c2_apply X G W1 W2 P]
  rfl

theorem first_apply (r : Fin 512) (d : Fin 1024) : first X G W1 W2 (ix2 r d) = part W1 W2 (normed X G) r d 0 := by
  pointwise [k0_pay5, k0_pay3]
  simp only [w1s_apply, w2s_apply]
  rfl

theorem prod_apply (B : Vec Ideal S512x1024 .bf16) (A : Vec Ideal S512x1024 .f32) (r : Fin 512) (d : Fin 1024)
    (hA : A (ix2 r d) = part W1 W2 B r d 0) : prod W1 W2 B A (ix2 r d) = ∑ j, part W1 W2 B r d j := by
  pointwise [k0_pay24, k0_pay22, k0_pay20, k0_pay19, k0_pay17, k0_pay15, k0_pay14, k0_pay12, k0_pay11, k0_pay9, k0_pay7, k0_pay6]
  simp only [w1s_apply, w2s_apply, hA, Fin.sum_univ_eight]
  rfl

theorem ff_apply (r : Fin 512) (d : Fin 1024) :
    prod W1 W2 (normed X G) (first X G W1 W2) (ix2 r d) = ffOf (weights G W1 W2 P) d (row X r) := by
  rw [prod_apply W1 W2 _ _ r d (first_apply X G W1 W2 r d)]
  unfold part
  simp only [hid_eq X G W1 W2 P]
  rfl

theorem h2_apply (r : Fin 512) (d : Fin 1024) : k0_pay1 X (prod W1 W2 (normed X G) (first X G W1 W2)) P
    (k0_pay25 (normed X G) (upto5 W1 W2 (normed X G) (first X G W1 W2)) (w1s W1 6) (w2s W2 6) (w1s W1 7) (w2s W2 7)) (ix2 r d)
      = h2 (weights G W1 W2 P) (row X r) d := by
  pointwise [k0_pay1, k0_pay25]
  simp only [ff_apply X G W1 W2 P, Kit.rsqrt_1024 fun k => ffOf (weights G W1 W2 P) k (row X r)]
  rfl

/-- The stored pieces of the hidden layer, at block `j`'s column `q`. -/
theorem f1_apply (r : Fin 512) (j : Fin 8) (q : Fin 512) :
    View.canon (pieces X G W1) (ix2 r (col j q)) = f1Of (weights G W1 W2 P) j q (row X r) := by
  rw [← hid_eq]
  let H : S512x4096.Idx → EReal := fun y =>
    hid W1 (normed X G) (y 0) ⟨(y 1).val / 512, by have : (y 1).val < 4096 := (y 1).isLt; omega⟩ ⟨(y 1).val % 512, Nat.mod_lt _ (by decide)⟩
  have hH : ∀ (o : ℕ) (h) (j : Fin 8) (_ : o = j.val * 512) (V : FVec Ideal S512x512 .bf16)
      (_ : ∀ r q, V (ix2 r q) = hid W1 (normed X G) r j q) (x : S512x512.Idx),
      V x = H ((Rect.unit (s := S512x4096) ![0, o] S512x512.size h).emb x) := by
    intro o h j ho V hV x
    have e0 : x = ix2 (x 0) (x 1) := by
      funext a
      match a with
      | ⟨0, _⟩ => rfl
      | ⟨1, _⟩ => rfl
    have l1 : (x 1).val < 512 := (x 1).isLt
    refine (congrArg V e0).trans ((hV _ _).trans ?_)
    show hid W1 _ _ _ _ = hid W1 _ _ _ _
    congr 1
    · exact Fin.ext (show (x 0).val = 0 + 1 * (x 0).val by omega)
    · exact Fin.ext (show j.val = (o + 1 * (x 1).val) / 512 by omega)
    · exact Fin.ext (show (x 1).val = (o + 1 * (x 1).val) % 512 by omega)
  refine (View.canon_apply_of_pieces (Val := Elt Ideal) H (pieces X G W1) ?_ _
    (View.cover_of_tiledL (pieces X G W1) S512x512.size (by sl_kernel_rfl) _)).trans ?_
  · intro p hp
    simp only [pieces, List.mem_cons, List.not_mem_nil, or_false] at hp
    rcases hp with rfl | rfl | rfl | rfl | rfl | rfl | rfl | rfl
    · exact hH 3584 (by decide) 7 rfl _ fun r q => by pointwise [k0_pay23, k0_pay22]; simp only [w1s_apply]; rfl
    · exact hH 3072 (by decide) 6 rfl _ fun r q => by pointwise [k0_pay21, k0_pay20]; simp only [w1s_apply]; rfl
    · exact hH 2560 (by decide) 5 rfl _ fun r q => by pointwise [k0_pay18, k0_pay17]; simp only [w1s_apply]; rfl
    · exact hH 2048 (by decide) 4 rfl _ fun r q => by pointwise [k0_pay16, k0_pay15]; simp only [w1s_apply]; rfl
    · exact hH 1536 (by decide) 3 rfl _ fun r q => by pointwise [k0_pay13, k0_pay12]; simp only [w1s_apply]; rfl
    · exact hH 1024 (by decide) 2 rfl _ fun r q => by pointwise [k0_pay10, k0_pay9]; simp only [w1s_apply]; rfl
    · exact hH 512 (by decide) 1 rfl _ fun r q => by pointwise [k0_pay8, k0_pay7, k0_pay6]; simp only [w1s_apply]; rfl
    · exact hH 0 (by decide) 0 rfl _ fun r q => by pointwise [k0_pay4, k0_pay3]; simp only [w1s_apply]; rfl
  · show hid W1 _ _ _ _ = hid W1 _ _ _ _
    congr 1
    · exact Fin.ext (show (j.val * 512 + q.val) / 512 = j.val by have := q.isLt; omega)
    · exact Fin.ext (show (j.val * 512 + q.val) % 512 = q.val by have := q.isLt; omega)

end Payloads

/-! ## The blocks a point reads -/

variable (m : (ℓ : Loc nD τ sig) → Buf (Elt Ideal) ℓ) (c : Dev nD)

/-- Row `r` of point `t`'s block is this row of the array. -/
abbrev at_ (t : Fin cfg0.N) (r : Fin 512) : Fin 8192 :=
  ⟨t.val * 512 + r.val, by have := t.isLt; have := r.isLt; have : cfg0.N = 16 := N16; omega⟩

theorem idx_rows : ∀ t : Fin cfg0.N, (win0_0.index t 0 = t.val ∧ win0_0.index t 1 = 0) ∧
    (win0_5.index t 0 = t.val ∧ win0_5.index t 1 = 0) ∧
    (win0_6.index t 0 = t.val ∧ win0_6.index t 1 = 0) ∧
    (win0_7.index t 0 = t.val ∧ win0_7.index t 1 = 0) ∧
    (win0_8.index t 0 = t.val ∧ win0_8.index t 1 = 0) :=
  (by decide +kernel : ∀ t : Fin grid0.N, _)
theorem idx_whole : ∀ t : Fin cfg0.N, (win0_1.index t 0 = 0 ∧ win0_1.index t 1 = 0) ∧
    (win0_4.index t 0 = 0 ∧ win0_4.index t 1 = 0) ∧
    (win0_2.index t 0 = 0 ∧ win0_2.index t 1 = 0 ∧ win0_2.index t 2 = 0) ∧
    (win0_3.index t 0 = 0 ∧ win0_3.index t 1 = 0 ∧ win0_3.index t 2 = 0) :=
  (by decide +kernel : ∀ t : Fin grid0.N, _)

/-- The arguments. -/
abbrev A0 : Vec Ideal S8192x1024 .f32 := m ((c : Thread nD τ).loc main_arg0)
abbrev A1 : Vec Ideal S1x1024 .f32 := m ((c : Thread nD τ).loc main_arg1)
abbrev A2 : Vec Ideal S1024x4096 .f32 := m ((c : Thread nD τ).loc main_arg2)
abbrev A3 : Vec Ideal S4096x1024 .f32 := m ((c : Thread nD τ).loc main_arg3)
abbrev A4 : Vec Ideal S1x1024 .f32 := m ((c : Thread nD τ).loc main_arg4)

theorem iblk0 (t : Fin cfg0.N) (r : Fin 512) (k : Fin 1024) : iblk m c 0 t (ix2 r k) = A0 m c (ix2 (at_ t r) k) := by
  unfold iblk
  rw [View.read_apply]
  show V m c main_arg0 _ = _
  rw [V_main_arg0]
  congr 1
  funext a
  apply Fin.ext
  match a with
  | ⟨0, _⟩ => show win0_0.index t 0 * 512 + 1 * r.val = t.val * 512 + r.val; rw [(idx_rows t).1.1]; omega
  | ⟨1, _⟩ => show win0_0.index t 1 * 1024 + 1 * k.val = k.val; rw [(idx_rows t).1.2]; omega

theorem iblk1 (t : Fin cfg0.N) (k : Fin 1) (d : Fin 1024) : iblk m c 1 t (ix2 k d) = A1 m c (ix2 k d) := by
  unfold iblk
  rw [View.read_apply]
  show V m c main_arg1 _ = _
  rw [V_main_arg1]
  congr 1
  funext a
  apply Fin.ext
  match a with
  | ⟨0, _⟩ => show win0_1.index t 0 * 1 + 1 * k.val = k.val; rw [(idx_whole t).1.1]; omega
  | ⟨1, _⟩ => show win0_1.index t 1 * 1024 + 1 * d.val = d.val; rw [(idx_whole t).1.2]; omega

theorem iblk2 (t : Fin cfg0.N) (j : Fin 8) (k : Fin 1024) (q : Fin 512) :
    iblk m c 2 t (ix3 j k q) = A2 m c (ix2 k (col j q)) := by
  unfold iblk
  rw [View.read_apply]
  show V m c main_v2 _ = _
  have e : (V m c main_v2 : Vec Ideal S8x1024x512 .bf16) = transpose S8x1024x512 [1, 0, 2]
      (shapeCast S1024x8x512 (A2 m c) shapeCasts_S1024x4096_S1024x8x512) transposes_S1024x8x512_S8x1024x512_1_0_2 := by
    unfold V hostOps0
    after_results_simp
    rfl
  rw [e, show ((cfg0.win 2).blk t).view.emb (ix3 j k q) = ix3 j k q from ?_]
  · pointwise
  funext a
  apply Fin.ext
  match a with
  | ⟨0, _⟩ => show win0_2.index t 0 * 8 + 1 * j.val = j.val; rw [(idx_whole t).2.2.1.1]; omega
  | ⟨1, _⟩ => show win0_2.index t 1 * 1024 + 1 * k.val = k.val; rw [(idx_whole t).2.2.1.2.1]; omega
  | ⟨2, _⟩ => show win0_2.index t 2 * 512 + 1 * q.val = q.val; rw [(idx_whole t).2.2.1.2.2]; omega

theorem iblk3 (t : Fin cfg0.N) (j : Fin 8) (q : Fin 512) (k : Fin 1024) :
    iblk m c 3 t (ix3 j q k) = A3 m c (ix2 (col j q) k) := by
  unfold iblk
  rw [View.read_apply]
  show V m c main_v4 _ = _
  have e : (V m c main_v4 : Vec Ideal S8x512x1024 .bf16) = shapeCast S8x512x1024 (A3 m c) shapeCasts_S4096x1024_S8x512x1024 := by
    unfold V hostOps0
    after_results_simp
    rfl
  rw [e, show ((cfg0.win 3).blk t).view.emb (ix3 j q k) = ix3 j q k from ?_]
  · pointwise
  funext a
  apply Fin.ext
  match a with
  | ⟨0, _⟩ => show win0_3.index t 0 * 8 + 1 * j.val = j.val; rw [(idx_whole t).2.2.2.1]; omega
  | ⟨1, _⟩ => show win0_3.index t 1 * 512 + 1 * q.val = q.val; rw [(idx_whole t).2.2.2.2.1]; omega
  | ⟨2, _⟩ => show win0_3.index t 2 * 1024 + 1 * k.val = k.val; rw [(idx_whole t).2.2.2.2.2]; omega

theorem iblk4 (t : Fin cfg0.N) (k : Fin 1) (d : Fin 1024) : iblk m c 4 t (ix2 k d) = A4 m c (ix2 k d) := by
  unfold iblk
  rw [View.read_apply]
  show V m c main_arg4 _ = _
  rw [V_main_arg4]
  congr 1
  funext a
  apply Fin.ext
  match a with
  | ⟨0, _⟩ => show win0_4.index t 0 * 1 + 1 * k.val = k.val; rw [(idx_whole t).2.1.1]; omega
  | ⟨1, _⟩ => show win0_4.index t 1 * 1024 + 1 * d.val = d.val; rw [(idx_whole t).2.1.2]; omega

/-- The block's parameters and its token `i`, as the arguments hold them. -/
abbrev ws : Weights := wts (A1 m c) (A2 m c) (A3 m c) (A4 m c)
abbrev tk (i : Fin 8192) : Fin 1024 → EReal := tok (A0 m c) i

theorem weights_eq (t : Fin cfg0.N) : weights (iblk m c 1 t) (iblk m c 2 t) (iblk m c 3 t) (iblk m c 4 t) = ws m c := by
  simp only [weights, iblk1, iblk2, iblk3, iblk4]; rfl
theorem row_eq (t : Fin cfg0.N) (r : Fin 512) : row (iblk m c 0 t) r = tk m c (at_ t r) := by
  funext k
  exact iblk0 m c t r k

/-! ## The four results -/

/-- The point whose block holds token `i`, and the token's row there. -/
abbrev pt (i : Fin 8192) : Fin cfg0.N := ⟨i.val / 512, by rw [N16]; have := i.isLt; omega⟩
abbrev rw_ (i : Fin 8192) : Fin 512 := ⟨i.val % 512, Nat.mod_lt _ (by decide)⟩
theorem at_pt (i : Fin 8192) : at_ (pt i) (rw_ i) = i := Fin.ext (by show i.val / 512 * 512 + i.val % 512 = i.val; omega)

theorem result5 (i : Fin 8192) (d : Fin 1024) : (dats m 0 c).arrAt 5 cfg0.N (ix2 i d) = c2 (ws m c) (tk m c i) d := by
  have h := (dats m 0 c).arrAt_emb_eq_flushed 5 Value.disjoint5 (pt i) (flush0_5 _) (ix2 (rw_ i) d)
  rw [Value.flushed5] at h
  have hv : out0_5 (iblk m c 0 (pt i)) (iblk m c 1 (pt i)) (iblk m c 2 (pt i)) (iblk m c 3 (pt i)) (iblk m c 4 (pt i)) (ix2 (rw_ i) d) = c2 (ws m c) (tk m c i) d := by
    have e := c2_apply (iblk m c 0 (pt i)) (iblk m c 1 (pt i)) (iblk m c 2 (pt i)) (iblk m c 3 (pt i)) (iblk m c 4 (pt i)) (rw_ i) d
    rw [weights_eq, row_eq, at_pt] at e
    exact (congrFun (out5 ..) _).trans e
  generalize out0_5 (iblk m c 0 (pt i)) (iblk m c 1 (pt i)) (iblk m c 2 (pt i)) (iblk m c 3 (pt i)) (iblk m c 4 (pt i)) = Y at h hv
  refine (congrArg _ ?_).trans (h.trans hv)
  funext a
  apply Fin.ext
  match a with
  | ⟨0, _⟩ =>
    show i.val = win0_5.index _ 0 * 512 + 1 * (i.val % 512)
    rw [(idx_rows _).2.1.1]; show i.val = i.val / 512 * 512 + 1 * (i.val % 512); omega
  | ⟨1, _⟩ =>
    show d.val = win0_5.index _ 1 * 1024 + 1 * d.val
    rw [(idx_rows _).2.1.2]; omega

theorem result6 (i : Fin 8192) (j : Fin 8) (q : Fin 512) : (dats m 0 c).arrAt 6 cfg0.N (ix2 i (col j q)) = f1Of (ws m c) j q (tk m c i) := by
  have h := (dats m 0 c).arrAt_emb_eq_flushed 6 Value.disjoint6 (pt i) (flush0_6 _) (ix2 (rw_ i) (col j q))
  rw [Value.flushed6] at h
  have hv : out0_6 (iblk m c 0 (pt i)) (iblk m c 1 (pt i)) (iblk m c 2 (pt i)) (iblk m c 3 (pt i)) (iblk m c 4 (pt i)) (ix2 (rw_ i) (col j q)) = f1Of (ws m c) j q (tk m c i) := by
    have e := f1_apply (iblk m c 0 (pt i)) (iblk m c 1 (pt i)) (iblk m c 2 (pt i)) (iblk m c 3 (pt i)) (iblk m c 4 (pt i)) (rw_ i) j q
    rw [weights_eq, row_eq, at_pt] at e
    exact (congrFun (out6 ..) _).trans e
  generalize out0_6 (iblk m c 0 (pt i)) (iblk m c 1 (pt i)) (iblk m c 2 (pt i)) (iblk m c 3 (pt i)) (iblk m c 4 (pt i)) = Y at h hv
  refine (congrArg _ ?_).trans (h.trans hv)
  funext a
  apply Fin.ext
  match a with
  | ⟨0, _⟩ =>
    show i.val = win0_6.index _ 0 * 512 + 1 * (i.val % 512)
    rw [(idx_rows _).2.2.1.1]; show i.val = i.val / 512 * 512 + 1 * (i.val % 512); omega
  | ⟨1, _⟩ =>
    show (col j q).val = win0_6.index _ 1 * 4096 + 1 * (col j q).val
    rw [(idx_rows _).2.2.1.2]; omega

theorem result7 (i : Fin 8192) (d : Fin 1024) : (dats m 0 c).arrAt 7 cfg0.N (ix2 i d) = ffOf (ws m c) d (tk m c i) := by
  have h := (dats m 0 c).arrAt_emb_eq_flushed 7 Value.disjoint7 (pt i) (flush0_7 _) (ix2 (rw_ i) d)
  rw [Value.flushed7] at h
  have hv : out0_7 (iblk m c 0 (pt i)) (iblk m c 1 (pt i)) (iblk m c 2 (pt i)) (iblk m c 3 (pt i)) (iblk m c 4 (pt i)) (ix2 (rw_ i) d) = ffOf (ws m c) d (tk m c i) := by
    have e := ff_apply (iblk m c 0 (pt i)) (iblk m c 1 (pt i)) (iblk m c 2 (pt i)) (iblk m c 3 (pt i)) (iblk m c 4 (pt i)) (rw_ i) d
    rw [weights_eq, row_eq, at_pt] at e
    exact (congrFun (out7 ..) _).trans e
  generalize out0_7 (iblk m c 0 (pt i)) (iblk m c 1 (pt i)) (iblk m c 2 (pt i)) (iblk m c 3 (pt i)) (iblk m c 4 (pt i)) = Y at h hv
  refine (congrArg _ ?_).trans (h.trans hv)
  funext a
  apply Fin.ext
  match a with
  | ⟨0, _⟩ =>
    show i.val = win0_7.index _ 0 * 512 + 1 * (i.val % 512)
    rw [(idx_rows _).2.2.2.1.1]; show i.val = i.val / 512 * 512 + 1 * (i.val % 512); omega
  | ⟨1, _⟩ =>
    show d.val = win0_7.index _ 1 * 1024 + 1 * d.val
    rw [(idx_rows _).2.2.2.1.2]; omega

theorem result8 (i : Fin 8192) (d : Fin 1024) : (dats m 0 c).arrAt 8 cfg0.N (ix2 i d) = h2 (ws m c) (tk m c i) d := by
  have h := (dats m 0 c).arrAt_emb_eq_flushed 8 Value.disjoint8 (pt i) (flush0_8 _) (ix2 (rw_ i) d)
  rw [Value.flushed8] at h
  have hv : out0_8 (iblk m c 0 (pt i)) (iblk m c 1 (pt i)) (iblk m c 2 (pt i)) (iblk m c 3 (pt i)) (iblk m c 4 (pt i)) (ix2 (rw_ i) d) = h2 (ws m c) (tk m c i) d := by
    have e := h2_apply (iblk m c 0 (pt i)) (iblk m c 1 (pt i)) (iblk m c 2 (pt i)) (iblk m c 3 (pt i)) (iblk m c 4 (pt i)) (rw_ i) d
    rw [weights_eq, row_eq, at_pt] at e
    exact (congrFun (out8 ..) _).trans e
  generalize out0_8 (iblk m c 0 (pt i)) (iblk m c 1 (pt i)) (iblk m c 2 (pt i)) (iblk m c 3 (pt i)) (iblk m c 4 (pt i)) = Y at h hv
  refine (congrArg _ ?_).trans (h.trans hv)
  funext a
  apply Fin.ext
  match a with
  | ⟨0, _⟩ =>
    show i.val = win0_8.index _ 0 * 512 + 1 * (i.val % 512)
    rw [(idx_rows _).2.2.2.2.1]; show i.val = i.val / 512 * 512 + 1 * (i.val % 512); omega
  | ⟨1, _⟩ =>
    show d.val = win0_8.index _ 1 * 1024 + 1 * d.val
    rw [(idx_rows _).2.2.2.2.2]; omega

end Cert.KFfnfIdeal.Points

end
-- ==== Proof.Ffnf.Claim.lean ====
/- The claims about the feed-forward forward call: the frames are the generated runs', the value the four results of
   `Ffnf/Value.lean` against the reference's in `Ffnf/Row.lean`. -/
module

public import proofs.«01_k».proof.Defs
public import proofs.«01_k».proof.Proof.Gen.KFfnf.Frame
public import proofs.«01_k».proof.Proof.Gen.RFfnfIdeal.Run
public import proofs.«01_k».proof.Proof.Ffnf.Value

@[expose] public section

noncomputable section

namespace Cert.Ffnf

open Idealize.ShloMosaic Idealize.ShloMosaic.TcCoe Idealize.SL.Sem
open Cert.KFfnfIdeal (cfg0)
open Cert.KFfnfIdeal.Gen (dats)
open Cert.Ffn (col)

theorem frame_kernel : Cert.quiescent_KFfnf := fun m ρ _ => Cert.KFfnf.Gen.frame m ρ
theorem frame_ideal : Cert.quiescent_KFfnfIdeal := fun m ρ _ => Cert.KFfnfIdeal.Gen.frame m ρ
theorem frame_reference : Cert.quiescent_RFfnfIdeal := fun m ρ _ =>
  (θ_run Cert.RFfnfIdeal.defs _ _).mono (fun r h => ⟨fun c => (h c).2.2.2.2, sem_eq_zero_of_no_sems (by decide) r.2⟩)
    (Cert.RFfnfIdeal.Value.run (F := Ideal) m ρ)

/-- A hidden column lies in one of the eight blocks. -/
theorem col_eq (n : Fin 4096) : n = col ⟨n.val / 512, by have := n.isLt; omega⟩ ⟨n.val % 512, Nat.mod_lt _ (by decide)⟩ :=
  Fin.ext (by show n.val = n.val / 512 * 512 + n.val % 512; omega)

theorem algebraic : Cert.algebraic_KFfnfIdeal_RFfnfIdeal := by
  intro m ρ m' ρ' _ hagree
  refine ⟨fun c => (dats m 0 c).arrAt 5 cfg0.N, fun c => (dats m 0 c).arrAt 6 cfg0.N, fun c => (dats m 0 c).arrAt 7 cfg0.N,
    fun c => (dats m 0 c).arrAt 8 cfg0.N, Cert.KFfnfIdeal.Value.run_blocks m ρ,
    (θ_run Cert.RFfnfIdeal.defs _ _).mono (fun r h c => ?_) (Cert.RFfnfIdeal.Value.run (F := Ideal) m' ρ')⟩
  obtain ⟨h0, h1, h2, h3, h⟩ := h c
  obtain ⟨a0, a1, a2, a3, a4⟩ := hagree c
  refine ⟨h0.trans ((Cert.RFfnfIdeal.Read.val_main_v16_eq ..).trans (Kit.mat_ext fun i d => ?_)),
    h1.trans ((Cert.RFfnfIdeal.Read.val_main_v17_eq ..).trans (Kit.mat_ext fun i n => ?_)),
    h2.trans ((Cert.RFfnfIdeal.Read.val_main_v15_eq ..).trans (Kit.mat_ext fun i d => ?_)),
    h3.trans ((Cert.RFfnfIdeal.Read.val_main_v30_eq ..).trans (Kit.mat_ext fun i d => ?_)), h⟩
  all_goals simp only [a0, a1, a2, a3, a4]
  · exact (c2_ref ..).trans (Cert.KFfnfIdeal.Points.result5 m c i d).symm
  · rw [col_eq n]
    exact (f1_ref ..).trans (Cert.KFfnfIdeal.Points.result6 m c i _ _).symm
  · exact (ff_ref ..).trans (Cert.KFfnfIdeal.Points.result7 m c i d).symm
  · exact (h2_ref ..).trans (Cert.KFfnfIdeal.Points.result8 m c i d).symm

end Cert.Ffnf

end
-- ==== Proof.Inprojf.Row.lean ====
/- The in-projection's forward call: one token's normed row and its columns of the projection as formulas, and the
   reference's six results as these formulas. -/
module

public import proofs.«01_k».proof.Proof.Kit
public import proofs.«01_k».proof.Proof.Gen.RInprojfIdeal.Read

@[expose] public section

noncomputable section

namespace Cert.Inprojf

open Idealize.ShloMosaic

variable (W : Fin 1024 → Fin 2568 → EReal) (g x : Fin 1024 → EReal)

/-- The normed row. -/
def nrm (d : Fin 1024) : EReal := x d * Kit.rstd 1024 x * g d
/-- A column of the projection: the queries', keys' and values' 512 each, the forget gate's 8, then the gating unit's. -/
def z (n : Fin 2568) : EReal := ∑ k, nrm g x k * W k n
/-- A row of the values' array: a head has 128, its 64 values, then 64 whose first is ones and whose others are zeros. -/
def vt (n : Fin 1024) : EReal :=
  if h : n.val % 128 < 64 then z W g x ⟨1024 + (n.val / 128 * 64 + n.val % 128), by have := n.isLt; omega⟩
  else if _h : n.val % 128 - 64 < 1 then 1 else 0
/-- A column of the forget gate's array: its 8, and zeros. -/
def fz (n : Fin 128) : EReal := if h : n.val < 8 then z W g x ⟨1536 + n.val, by omega⟩ else 0

/-! ## The reference -/

section Reference
open Cert.RInprojfIdeal Cert.RInprojfIdeal.Gen Cert.RInprojfIdeal.Read
variable (x0 : Vec Ideal S8192x1024 .f32) (x1 : Vec Ideal S1x1024 .f32) (x2 : Vec Ideal S1024x2568 .f32)

/-- The parameters and token `i`'s row, as the arguments hold them. -/
def wts : Fin 1024 → Fin 2568 → EReal := fun k n => x2 (ix2 k n)
def gain : Fin 1024 → EReal := fun k => x1 (ix2 0 k)
def tok (i : Fin 8192) : Fin 1024 → EReal := fun k => x0 (ix2 i k)

theorem nrm_ref (i : Fin 8192) (d : Fin 1024) : val_main_v30 (F := Ideal) x0 x1 (ix2 i d) = nrm (gain x1) (tok x0 i) d := by
  pointwise [val_main_v30, val_main_v11, val_main_v10, val_main_v9, val_main_v8, val_main_v7, val_main_v6, val_main_v5,
    val_main_v4, val_main_v3, val_main_v2, val_main_v1, val_main_v0, val_main_cst, val_main_cst_0, val_main_cst_1]
  simp only [Kit.rsqrt_1024 fun k => x0 (ix2 i k)]
  rfl

theorem z_ref (i : Fin 8192) (n : Fin 2568) : val_main_v12 (F := Ideal) x0 x1 x2 (ix2 i n) = z (wts x2) (gain x1) (tok x0 i) n := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]
  simp only [Kit.rsqrt_1024 fun k => x0 (ix2 i k)]
  rfl

theorem qkv_ref (i : Fin 8192) (n : Fin 1536) : val_main_v23 (F := Ideal) x0 x1 x2 (ix2 i n)
    = z (wts x2) (gain x1) (tok x0 i) ⟨n.val, by have := n.isLt; omega⟩ := by
  pointwise [val_main_v23, val_main_v22]
  simp only [z_ref]

theorem kt_ref (i : Fin 8192) (n : Fin 512) : val_main_v26 (F := Ideal) x0 x1 x2 (ix2 n i)
    = z (wts x2) (gain x1) (tok x0 i) ⟨512 + n.val, by have := n.isLt; omega⟩ := by
  pointwise [val_main_v26, val_main_v25, val_main_v24]
  simp only [z_ref]

theorem us_ref (i : Fin 8192) (n : Fin 1024) : val_main_v29 (F := Ideal) x0 x1 x2 (ix2 i n)
    = z (wts x2) (gain x1) (tok x0 i) ⟨1544 + n.val, by have := n.isLt; omega⟩ := by
  pointwise [val_main_v29]
  simp only [z_ref]

theorem fz_ref (i : Fin 8192) (n : Fin 128) : val_main_v21 (F := Ideal) x0 x1 x2 (ix2 i n)
    = fz (wts x2) (gain x1) (tok x0 i) n := by
  pointwise [val_main_v21, val_main_v20, val_main_v19, val_main_cst_4]
  simp only [z_ref]
  rfl

theorem vt_ref (i : Fin 8192) (n : Fin 1024) : val_main_v28 (F := Ideal) x0 x1 x2 (ix2 n i)
    = vt (wts x2) (gain x1) (tok x0 i) n := by
  pointwise [val_main_v28, val_main_v27, val_main_v18, val_main_v17, val_main_v16, val_main_v15, val_main_v14,
    val_main_v13, val_main_cst_2, val_main_cst_3]
  simp only [z_ref]
  rfl

end Reference

end Cert.Inprojf

end
-- ==== Proof.Inprojf.Value.lean ====
/- The in-projection's forward call at the ideal instance: what each grid point leaves in its six output buffers as the
   printed payloads of the blocks it reads, those as the formulas of `Inprojf/Row.lean` of their rows, and the arrays the
   points write back. A point holds 512 tokens and the whole projection, transposed: its rows are the columns the results
   take, the queries', keys' and values' 1536 first, the gating unit's 1024, and the forget gate's 8 with 120 of zeros. -/
module

public import proofs.«01_k».proof.Proof.Inprojf.Row
public import proofs.«01_k».proof.Proof.Gen.KInprojfIdeal.Value

@[expose] public section

set_option maxRecDepth 16384

noncomputable section

namespace Cert.KInprojfIdeal.Points

open Cert.KInprojfIdeal Cert.KInprojfIdeal.Gen Idealize.ShloMosaic Idealize.ShloMosaic.TcCoe Idealize.SL.Sem
open Cert.Inprojf (nrm z vt fz wts gain tok)

theorem N16 : cfg0.N = 16 := N_0
theorem hz : (![0, 0] : Fin 2 → Nat) = fun _ => 0 := funext fun a => by fin_cases a <;> rfl

/-! ## What a point leaves -/

section Payloads
variable (X : Vec Ideal S512x1024 .f32) (G : Vec Ideal S1x1024 .f32) (W : Vec Ideal S2688x1024 .bf16)

/-- The normed rows. -/
abbrev normed : FVec Ideal S512x1024 .bf16 := k0_pay6 X G
/-- The values of all heads, and the same turned over. -/
abbrev vals : FVec Ideal S512x512 .bf16 := k0_pay13 (normed X G) (k0_pay11 (View.ld W r0_7)) (constant S512x512 .f32 0x00000000#32)
abbrev valsT : FVec Ideal S512x512 .bf16 := k0_pay14 (normed X G) (k0_pay11 (View.ld W r0_7)) (constant S512x512 .f32 0x00000000#32)
/-- A head's values, of the first five heads. -/
abbrev head (f : FVec Ideal S512x1024 .bf16 → FVec Ideal S512x1024 .bf16 → FVec Ideal S512x512 .f32 → FVec Ideal S64x512 .bf16) :
    FVec Ideal S64x512 .bf16 := f (normed X G) (k0_pay11 (View.ld W r0_7)) (constant S512x512 .f32 0x00000000#32)

/-- The 64 rows below a head's values. -/
abbrev ones : FVec Ideal S64x512 .bf16 := k0_pay15

/-- What a point stores of the first and of the third result, the last piece first. -/
abbrev pieces3 : List (View.Piece (Elt Ideal) S512x1536 .bf16) :=
  [⟨r0_8, vals X G W⟩, ⟨r0_5, k0_pay9 X G (View.ld W r0_4)⟩, ⟨r0_3, k0_pay7 X G (View.ld W r0_2)⟩]
abbrev pieces5 : List (View.Piece (Elt Ideal) S1024x512 .bf16) :=
  [⟨r0_24, ones⟩, ⟨r0_23, k0_pay3 (valsT X G W)⟩, ⟨r0_22, ones⟩, ⟨r0_21, k0_pay2 (valsT X G W)⟩,
   ⟨r0_20, ones⟩, ⟨r0_19, k0_pay1 (valsT X G W)⟩, ⟨r0_18, ones⟩, ⟨r0_17, head X G W k0_pay20⟩,
   ⟨r0_16, ones⟩, ⟨r0_15, head X G W k0_pay19⟩, ⟨r0_14, ones⟩, ⟨r0_13, head X G W k0_pay18⟩,
   ⟨r0_12, ones⟩, ⟨r0_11, head X G W k0_pay17⟩, ⟨r0_10, ones⟩, ⟨r0_9, head X G W k0_pay16⟩]

theorem out3 : out0_3 X G W = View.canon (pieces3 X G W) := by
  unfold out0_3 k0_pay23 k0_pay22 k0_pay21
  simp only [View.ld_unit_zero (S := S512x1024) hz, View.ld_unit_zero (S := S1x1024) hz]

theorem out4 : out0_4 X G W = k0_pay10 X G (View.ld W r0_4) := by
  unfold out0_4
  rw [View.canon_unit_zero (S := S512x512) hz]
  simp only [View.ld_unit_zero (S := S512x1024) hz, View.ld_unit_zero (S := S1x1024) hz]

theorem out5 : out0_5 X G W = View.canon (pieces5 X G W) := by
  unfold out0_5 k0_pay25 k0_pay24 k0_pay23 k0_pay22 k0_pay21
  simp only [View.ld_unit_zero (S := S512x1024) hz, View.ld_unit_zero (S := S1x1024) hz]

theorem out6 : out0_6 X G W = k0_pay4 (normed X G) (View.ld W r0_25) := by
  unfold out0_6 k0_pay22
  rw [View.canon_unit_zero (S := S512x1024) hz]
  simp only [View.ld_unit_zero (S := S512x1024) hz, View.ld_unit_zero (S := S1x1024) hz]

theorem out7 : out0_7 X G W = k0_pay5 (normed X G) (View.ld W r0_26) := by
  unfold out0_7 k0_pay22
  rw [View.canon_unit_zero (S := S512x128) hz]
  simp only [View.ld_unit_zero (S := S512x1024) hz, View.ld_unit_zero (S := S1x1024) hz]

theorem out8 : out0_8 X G W = normed X G := by
  unfold out0_8
  rw [View.canon_unit_zero (S := S512x1024) hz]
  simp only [View.ld_unit_zero (S := S512x1024) hz, View.ld_unit_zero (S := S1x1024) hz]

/-! ## … at an index -/

/-- The product of a normed row and one row of the projection. -/
def prd (r : Fin 512) (n : Fin 2688) : EReal := ∑ k, normed X G (ix2 r k) * W (ix2 n k)

theorem normed_apply (r : Fin 512) (d : Fin 1024) :
    normed X G (ix2 r d) = nrm (fun k => G (ix2 0 k)) (fun k => X (ix2 r k)) d := by
  pointwise [k0_pay6]
  simp only [Kit.rsqrt_1024 fun k => X (ix2 r k)]
  rfl

/-- A row of a piece of the projection. -/
theorem ld_rows {n o : ℕ} (h) (q : Fin n) (k : Fin 1024) :
    View.ld W (Rect.unit (s := S2688x1024) ![o, 0] ![n, 1024] h) (ix2 q k)
      = W (ix2 ⟨o + q.val, by have h0 : o + n ≤ 2688 := h 0; have := q.isLt; omega⟩ k) := by
  refine congrArg W (funext fun a => Fin.ext ?_)
  match a with
  | ⟨0, _⟩ => show o + 1 * q.val = o + q.val; omega
  | ⟨1, _⟩ => show 0 + 1 * k.val = k.val; omega

section Payload
variable (N : Vec Ideal S512x1024 .bf16) (V : Vec Ideal S512x1024 .bf16) (r q : Fin 512)
theorem q_apply : k0_pay7 X G V (ix2 r q) = ∑ k, normed X G (ix2 r k) * V (ix2 q k) := by
  pointwise [k0_pay7]
theorem k_apply : k0_pay9 X G V (ix2 r q) = ∑ k, normed X G (ix2 r k) * V (ix2 q k) := by
  pointwise [k0_pay9, k0_pay8]
theorem kT_apply : k0_pay10 X G V (ix2 q r) = ∑ k, normed X G (ix2 r k) * V (ix2 q k) := by
  pointwise [k0_pay10, k0_pay8]
theorem v_apply : k0_pay13 N (k0_pay11 V) (constant S512x512 .f32 0x00000000#32) (ix2 r q) = ∑ k, N (ix2 r k) * V (ix2 q k) := by
  pointwise [k0_pay13, k0_pay12, k0_pay11]
theorem vT_apply : k0_pay14 N (k0_pay11 V) (constant S512x512 .f32 0x00000000#32) (ix2 q r) = ∑ k, N (ix2 r k) * V (ix2 q k) := by
  pointwise [k0_pay14, k0_pay12, k0_pay11]
theorem us_apply (U : Vec Ideal S1024x1024 .bf16) (n : Fin 1024) : k0_pay4 N U (ix2 r n) = ∑ k, N (ix2 r k) * U (ix2 n k) := by
  pointwise [k0_pay4]
theorem fz_apply (U : Vec Ideal S128x1024 .bf16) (n : Fin 128) : k0_pay5 N U (ix2 r n) = ∑ k, N (ix2 r k) * U (ix2 n k) := by
  pointwise [k0_pay5]
/-- The rows below a head's values: ones, then zeros. -/
theorem one_apply (s : Fin 64) : k0_pay15 (F := Ideal) (ix2 s r) = if s.val < 1 then 1 else 0 := by
  pointwise [k0_pay15]
  fin_cases s <;> rfl
end Payload

theorem valsT_apply (r q : Fin 512) : valsT X G W (ix2 q r) = prd X G W r ⟨1024 + q.val, by have := q.isLt; omega⟩ := by
  refine (vT_apply ..).trans ?_
  unfold prd
  exact Finset.sum_congr rfl fun k _ => congrArg _ (ld_rows ..)

/-- The first result's pieces, at a column. -/
theorem qkv_apply (r : Fin 512) (n : Fin 1536) :
    View.canon (pieces3 X G W) (ix2 r n) = prd X G W r ⟨n.val, by have := n.isLt; omega⟩ := by
  let H : S512x1536.Idx → EReal := fun y => prd X G W (y 0) ⟨(y 1).val, by have : (y 1).val < 1536 := (y 1).isLt; omega⟩
  have hH : ∀ (o : ℕ) (h) (ho : o + 512 ≤ 1536) (V : FVec Ideal S512x512 .bf16)
      (_ : ∀ r q : Fin 512, V (ix2 r q) = prd X G W r ⟨o + q.val, by have := q.isLt; omega⟩) (x : S512x512.Idx),
      V x = H ((Rect.unit (s := S512x1536) ![0, o] S512x512.size h).emb x) := by
    intro o h ho V hV x
    have e0 : x = ix2 (x 0) (x 1) := by
      funext a
      match a with
      | ⟨0, _⟩ => rfl
      | ⟨1, _⟩ => rfl
    refine (congrArg V e0).trans ((hV _ _).trans ?_)
    show prd X G W _ _ = prd X G W _ _
    congr 1
    · exact Fin.ext (show (x 0).val = 0 + 1 * (x 0).val by omega)
    · exact Fin.ext (show o + (x 1).val = o + 1 * (x 1).val by omega)
  refine (View.canon_apply_of_pieces (Val := Elt Ideal) H (pieces3 X G W) ?_ _
    (View.cover_of_tiledL (pieces3 X G W) S512x512.size (by sl_kernel_rfl) _)).trans rfl
  intro p hp
  simp only [pieces3, List.mem_cons, List.not_mem_nil, or_false] at hp
  rcases hp with rfl | rfl | rfl
  · exact hH 1024 (by decide) (by decide) _ fun r q => (v_apply ..).trans (Finset.sum_congr rfl fun k _ => congrArg _ (ld_rows ..))
  · exact hH 512 (by decide) (by decide) _ fun r q => (k_apply ..).trans (Finset.sum_congr rfl fun k _ => congrArg _ (ld_rows ..))
  · exact hH 0 (by decide) (by decide) _ fun r q => (q_apply ..).trans (Finset.sum_congr rfl fun k _ => congrArg _ (ld_rows ..))

/-- A row of the values' array, from the products. -/
def vrow (r : Fin 512) (n : Fin 1024) : EReal :=
  if h : n.val % 128 < 64 then prd X G W r ⟨1024 + (n.val / 128 * 64 + n.val % 128), by have := n.isLt; omega⟩
  else if _h : n.val % 128 - 64 < 1 then 1 else 0

theorem vrow_lo (r : Fin 512) (n : Fin 1024) (h : n.val % 128 < 64) : vrow X G W r n
    = prd X G W r ⟨1024 + (n.val / 128 * 64 + n.val % 128), by have := n.isLt; omega⟩ := dif_pos h
theorem vrow_hi (r : Fin 512) (n : Fin 1024) (h : ¬ n.val % 128 < 64) : vrow X G W r n
    = if n.val % 128 - 64 < 1 then 1 else 0 := dif_neg h

/-- The third result's pieces, at a row. -/
theorem vt_apply (r : Fin 512) (n : Fin 1024) : View.canon (pieces5 X G W) (ix2 n r) = vrow X G W r n := by
  let H : S1024x512.Idx → EReal := fun y => vrow X G W (y 1) (y 0)
  have e0 : ∀ x : S64x512.Idx, x = ix2 (x 0) (x 1) := fun x => by
    funext a
    match a with
    | ⟨0, _⟩ => rfl
    | ⟨1, _⟩ => rfl
  have hH : ∀ (o : ℕ) (h) (j : Fin 8) (_ : o = j.val * 128) (V : FVec Ideal S64x512 .bf16)
      (_ : ∀ (s : Fin 64) (r : Fin 512), V (ix2 s r) = prd X G W r ⟨1024 + (j.val * 64 + s.val), by have := s.isLt; have := j.isLt; omega⟩)
      (x : S64x512.Idx), V x = H ((Rect.unit (s := S1024x512) ![o, 0] S64x512.size h).emb x) := by
    intro o h j ho V hV x
    have l0 : (x 0).val < 64 := (x 0).isLt
    refine (congrArg V (e0 x)).trans ((hV _ _).trans ?_)
    refine Eq.trans ?_ (vrow_lo X G W _ _ (show (o + 1 * (x 0).val) % 128 < 64 by omega)).symm
    congr 1
    · exact Fin.ext (show (x 1).val = 0 + 1 * (x 1).val by omega)
    · exact Fin.ext (show 1024 + (j.val * 64 + (x 0).val) = 1024 + ((o + 1 * (x 0).val) / 128 * 64 + (o + 1 * (x 0).val) % 128) by omega)
  have h1 : ∀ (o : ℕ) (h) (j : Fin 8) (_ : o = j.val * 128 + 64) (x : S64x512.Idx),
      k0_pay15 (F := Ideal) x = H ((Rect.unit (s := S1024x512) ![o, 0] S64x512.size h).emb x) := by
    intro o h j ho x
    have l0 : (x 0).val < 64 := (x 0).isLt
    refine (congrArg (k0_pay15 (F := Ideal)) (e0 x)).trans ((one_apply ..).trans ?_)
    refine Eq.trans ?_ (vrow_hi X G W _ _ (show ¬ (o + 1 * (x 0).val) % 128 < 64 by omega)).symm
    by_cases hs : (x 0).val < 1
    · exact (if_pos hs).trans (if_pos (show (o + 1 * (x 0).val) % 128 - 64 < 1 by omega)).symm
    · exact (if_neg hs).trans (if_neg (show ¬ (o + 1 * (x 0).val) % 128 - 64 < 1 by omega)).symm
  refine (View.canon_apply_of_pieces (Val := Elt Ideal) H (pieces5 X G W) ?_ _
    (View.cover_of_tiledL (pieces5 X G W) S64x512.size (by sl_kernel_rfl) _)).trans rfl
  intro p hp
  simp only [pieces5, List.mem_cons, List.not_mem_nil, or_false] at hp
  rcases hp with rfl | rfl | rfl | rfl | rfl | rfl | rfl | rfl | rfl | rfl | rfl | rfl | rfl | rfl | rfl | rfl
  · exact h1 960 (by decide) 7 rfl
  · exact hH 896 (by decide) 7 rfl _ fun s r => by pointwise [k0_pay3]; exact (valsT_apply X G W r _).trans (congrArg _ (Fin.ext (by dsimp only)))
  · exact h1 832 (by decide) 6 rfl
  · exact hH 768 (by decide) 6 rfl _ fun s r => by pointwise [k0_pay2]; exact (valsT_apply X G W r _).trans (congrArg _ (Fin.ext (by dsimp only)))
  · exact h1 704 (by decide) 5 rfl
  · exact hH 640 (by decide) 5 rfl _ fun s r => by pointwise [k0_pay1]; exact (valsT_apply X G W r _).trans (congrArg _ (Fin.ext (by dsimp only)))
  · exact h1 576 (by decide) 4 rfl
  · exact hH 512 (by decide) 4 rfl _ fun s r => by pointwise [k0_pay20]; exact (valsT_apply X G W r _).trans (congrArg _ (Fin.ext (by dsimp only)))
  · exact h1 448 (by decide) 3 rfl
  · exact hH 384 (by decide) 3 rfl _ fun s r => by pointwise [k0_pay19]; exact (valsT_apply X G W r _).trans (congrArg _ (Fin.ext (by dsimp only)))
  · exact h1 320 (by decide) 2 rfl
  · exact hH 256 (by decide) 2 rfl _ fun s r => by pointwise [k0_pay18]; exact (valsT_apply X G W r _).trans (congrArg _ (Fin.ext (by dsimp only)))
  · exact h1 192 (by decide) 1 rfl
  · exact hH 128 (by decide) 1 rfl _ fun s r => by pointwise [k0_pay17]; exact (valsT_apply X G W r _).trans (congrArg _ (Fin.ext (by dsimp only)))
  · exact h1 64 (by decide) 0 rfl
  · exact hH 0 (by decide) 0 rfl _ fun s r => by pointwise [k0_pay16]; exact (valsT_apply X G W r _).trans (congrArg _ (Fin.ext (by dsimp only)))

end Payloads

/-! ## The blocks a point reads -/

variable (m : (ℓ : Loc nD τ sig) → Buf (Elt Ideal) ℓ) (c : Dev nD)

/-- Row `r` of point `t`'s block is this row of the array. -/
abbrev at_ (t : Fin cfg0.N) (r : Fin 512) : Fin 8192 :=
  ⟨t.val * 512 + r.val, by have := t.isLt; have := r.isLt; have : cfg0.N = 16 := N16; omega⟩

theorem idx_rows : ∀ t : Fin cfg0.N, (win0_0.index t 0 = t.val ∧ win0_0.index t 1 = 0) ∧
    (win0_3.index t 0 = t.val ∧ win0_3.index t 1 = 0) ∧
    (win0_6.index t 0 = t.val ∧ win0_6.index t 1 = 0) ∧
    (win0_7.index t 0 = t.val ∧ win0_7.index t 1 = 0) ∧
    (win0_8.index t 0 = t.val ∧ win0_8.index t 1 = 0) :=
  (by decide +kernel : ∀ t : Fin grid0.N, _)
theorem idx_cols : ∀ t : Fin cfg0.N, (win0_4.index t 0 = 0 ∧ win0_4.index t 1 = t.val) ∧
    (win0_5.index t 0 = 0 ∧ win0_5.index t 1 = t.val) ∧
    (win0_1.index t 0 = 0 ∧ win0_1.index t 1 = 0) ∧ (win0_2.index t 0 = 0 ∧ win0_2.index t 1 = 0) :=
  (by decide +kernel : ∀ t : Fin grid0.N, _)

/-- The arguments. -/
abbrev A0 : Vec Ideal S8192x1024 .f32 := m ((c : Thread nD τ).loc main_arg0)
abbrev A1 : Vec Ideal S1x1024 .f32 := m ((c : Thread nD τ).loc main_arg1)
abbrev A2 : Vec Ideal S1024x2568 .f32 := m ((c : Thread nD τ).loc main_arg2)

theorem iblk0 (t : Fin cfg0.N) (r : Fin 512) (k : Fin 1024) : iblk m c 0 t (ix2 r k) = A0 m c (ix2 (at_ t r) k) := by
  unfold iblk
  rw [View.read_apply]
  show V m c main_arg0 _ = _
  rw [V_main_arg0]
  congr 1
  funext a
  apply Fin.ext
  match a with
  | ⟨0, _⟩ => show win0_0.index t 0 * 512 + 1 * r.val = t.val * 512 + r.val; rw [(idx_rows t).1.1]; omega
  | ⟨1, _⟩ => show win0_0.index t 1 * 1024 + 1 * k.val = k.val; rw [(idx_rows t).1.2]; omega

theorem iblk1 (t : Fin cfg0.N) (k : Fin 1) (d : Fin 1024) : iblk m c 1 t (ix2 k d) = A1 m c (ix2 k d) := by
  unfold iblk
  rw [View.read_apply]
  show V m c main_arg1 _ = _
  rw [V_main_arg1]
  congr 1
  funext a
  apply Fin.ext
  match a with
  | ⟨0, _⟩ => show win0_1.index t 0 * 1 + 1 * k.val = k.val; rw [(idx_cols t).2.2.1.1]; omega
  | ⟨1, _⟩ => show win0_1.index t 1 * 1024 + 1 * d.val = d.val; rw [(idx_cols t).2.2.1.2]; omega

theorem iblk2 (t : Fin cfg0.N) (r : Fin 2688) (k : Fin 1024) : iblk m c 2 t (ix2 r k) =
    if h : r.val < 1536 then A2 m c (ix2 k ⟨r.val, by omega⟩) else
    if h : r.val - 1536 < 1024 then A2 m c (ix2 k ⟨1544 + (r.val - 1536), by omega⟩) else
    if h : r.val - 1536 - 1024 < 8 then A2 m c (ix2 k ⟨1536 + (r.val - 1536 - 1024), by omega⟩) else 0 := by
  unfold iblk
  rw [View.read_apply]
  show V m c main_v6 _ = _
  have e : (V m c main_v6 : Vec Ideal S2688x1024 .bf16) = concatenate S2688x1024 0
      [⟨S1536x1024, extractStridedSlice S1536x1024 ![0, 0] (truncf .bf16 (transpose S2568x1024 [1, 0] (A2 m c) transposes_S1024x2568_S2568x1024_1_0)
        bitsLt_bf16_f32 : FVec Ideal S2568x1024 .bf16) slices_S2568x1024_S1536x1024_0_0⟩,
       ⟨S1024x1024, extractStridedSlice S1024x1024 ![1544, 0] (truncf .bf16 (transpose S2568x1024 [1, 0] (A2 m c) transposes_S1024x2568_S2568x1024_1_0)
        bitsLt_bf16_f32 : FVec Ideal S2568x1024 .bf16) slices_S2568x1024_S1024x1024_1544_0⟩,
       ⟨S8x1024, extractStridedSlice S8x1024 ![1536, 0] (truncf .bf16 (transpose S2568x1024 [1, 0] (A2 m c) transposes_S1024x2568_S2568x1024_1_0)
        bitsLt_bf16_f32 : FVec Ideal S2568x1024 .bf16) slices_S2568x1024_S8x1024_1536_0⟩,
       ⟨S120x1024, broadcastInDim S120x1024 ![] bcast_S_S120x1024 (constant (F := Ideal) S_ .bf16 0x0000#16)⟩]
      concatenates_S1536x1024_S1024x1024_S8x1024_S120x1024_S2688x1024_d0 := by
    unfold V hostOps0
    after_results_simp
    rfl
  rw [e, show ((cfg0.win 2).blk t).view.emb (ix2 r k) = ix2 r k from ?_]
  · pointwise
  funext a
  apply Fin.ext
  match a with
  | ⟨0, _⟩ => show win0_2.index t 0 * 2688 + 1 * r.val = r.val; rw [(idx_cols t).2.2.2.1]; omega
  | ⟨1, _⟩ => show win0_2.index t 1 * 1024 + 1 * k.val = k.val; rw [(idx_cols t).2.2.2.2]; omega

/-- The parameters and token `i`, as the arguments hold them. -/
abbrev ws : Fin 1024 → Fin 2568 → EReal := wts (A2 m c)
abbrev gn : Fin 1024 → EReal := gain (A1 m c)
abbrev tk (i : Fin 8192) : Fin 1024 → EReal := tok (A0 m c) i

theorem normed_eq (t : Fin cfg0.N) (r : Fin 512) (d : Fin 1024) :
    normed (iblk m c 0 t) (iblk m c 1 t) (ix2 r d) = nrm (gn m c) (tk m c (at_ t r)) d := by
  refine (normed_apply ..).trans ?_
  simp only [iblk0, iblk1]
  rfl

theorem prd_qkv (t : Fin cfg0.N) (r : Fin 512) (n : ℕ) (h : n < 1536) :
    prd (iblk m c 0 t) (iblk m c 1 t) (iblk m c 2 t) r ⟨n, by omega⟩ = z (ws m c) (gn m c) (tk m c (at_ t r)) ⟨n, by omega⟩ := by
  unfold prd z
  refine Finset.sum_congr rfl fun k _ => ?_
  rw [normed_eq, iblk2, dif_pos h]
  rfl

theorem prd_us (t : Fin cfg0.N) (r : Fin 512) (n : ℕ) (h : n < 1024) :
    prd (iblk m c 0 t) (iblk m c 1 t) (iblk m c 2 t) r ⟨1536 + n, by omega⟩
      = z (ws m c) (gn m c) (tk m c (at_ t r)) ⟨1544 + n, by omega⟩ := by
  unfold prd z
  refine Finset.sum_congr rfl fun k _ => ?_
  rw [normed_eq, iblk2, dif_neg (by dsimp only; omega), dif_pos (by dsimp only; omega)]
  exact congrArg _ (congrArg (ws m c k) (Fin.ext (by dsimp only; omega)))

theorem prd_fz (t : Fin cfg0.N) (r : Fin 512) (n : Fin 128) :
    prd (iblk m c 0 t) (iblk m c 1 t) (iblk m c 2 t) r ⟨2560 + n.val, by have := n.isLt; omega⟩
      = fz (ws m c) (gn m c) (tk m c (at_ t r)) n := by
  have ln := n.isLt
  unfold prd fz
  by_cases h : n.val < 8
  · rw [dif_pos h]
    unfold z
    refine Finset.sum_congr rfl fun k _ => ?_
    rw [normed_eq, iblk2, dif_neg (by dsimp only; omega), dif_neg (by dsimp only; omega), dif_pos (by dsimp only; omega)]
    exact congrArg _ (congrArg (ws m c k) (Fin.ext (by dsimp only; omega)))
  · rw [dif_neg h]
    refine Finset.sum_eq_zero fun k _ => ?_
    rw [iblk2, dif_neg (by dsimp only; omega), dif_neg (by dsimp only; omega), dif_neg (by dsimp only; omega), mul_zero]

theorem vrow_eq (t : Fin cfg0.N) (r : Fin 512) (n : Fin 1024) :
    vrow (iblk m c 0 t) (iblk m c 1 t) (iblk m c 2 t) r n = vt (ws m c) (gn m c) (tk m c (at_ t r)) n := by
  have ln := n.isLt
  unfold vrow vt
  by_cases h : n.val % 128 < 64
  · rw [dif_pos h, dif_pos h]
    exact prd_qkv m c t r _ (by omega)
  · rw [dif_neg h, dif_neg h]

/-! ## The six results -/

/-- The point whose block holds token `i`, and the token's row there. -/
abbrev pt (i : Fin 8192) : Fin cfg0.N := ⟨i.val / 512, by rw [N16]; have := i.isLt; omega⟩
abbrev rw_ (i : Fin 8192) : Fin 512 := ⟨i.val % 512, Nat.mod_lt _ (by decide)⟩
theorem at_pt (i : Fin 8192) : at_ (pt i) (rw_ i) = i := Fin.ext (by show i.val / 512 * 512 + i.val % 512 = i.val; omega)

theorem result3 (i : Fin 8192) (n : Fin 1536) : (dats m 0 c).arrAt 3 cfg0.N (ix2 i n) = z (ws m c) (gn m c) (tk m c i) ⟨n.val, by have := n.isLt; omega⟩ := by
  have h := (dats m 0 c).arrAt_emb_eq_flushed 3 Value.disjoint3 (pt i) (flush0_3 _) (ix2 (rw_ i) n)
  rw [Value.flushed3] at h
  have hv : out0_3 (iblk m c 0 (pt i)) (iblk m c 1 (pt i)) (iblk m c 2 (pt i)) (ix2 (rw_ i) n) = z (ws m c) (gn m c) (tk m c i) ⟨n.val, by have := n.isLt; omega⟩ := by
    have e := prd_qkv m c (pt i) (rw_ i) n.val n.isLt
    rw [at_pt] at e
    exact (congrFun (out3 ..) _).trans ((qkv_apply ..).trans e)
  generalize out0_3 (iblk m c 0 (pt i)) (iblk m c 1 (pt i)) (iblk m c 2 (pt i)) = Y at h hv
  refine (congrArg _ ?_).trans (h.trans hv)
  funext a
  apply Fin.ext
  match a with
  | ⟨0, _⟩ =>
    show i.val = win0_3.index _ 0 * 512 + 1 * (i.val % 512)
    rw [(idx_rows _).2.1.1]; show i.val = i.val / 512 * 512 + 1 * (i.val % 512); omega
  | ⟨1, _⟩ =>
    show n.val = win0_3.index _ 1 * 1536 + 1 * n.val
    rw [(idx_rows _).2.1.2]; omega

theorem result4 (i : Fin 8192) (n : Fin 512) : (dats m 0 c).arrAt 4 cfg0.N (ix2 n i) = z (ws m c) (gn m c) (tk m c i) ⟨512 + n.val, by have := n.isLt; omega⟩ := by
  have h := (dats m 0 c).arrAt_emb_eq_flushed 4 Value.disjoint4 (pt i) (flush0_4 _) (ix2 n (rw_ i))
  rw [Value.flushed4] at h
  have hv : out0_4 (iblk m c 0 (pt i)) (iblk m c 1 (pt i)) (iblk m c 2 (pt i)) (ix2 n (rw_ i)) = z (ws m c) (gn m c) (tk m c i) ⟨512 + n.val, by have := n.isLt; omega⟩ := by
    have e := prd_qkv m c (pt i) (rw_ i) (512 + n.val) (by have := n.isLt; omega)
    rw [at_pt] at e
    exact (congrFun (out4 ..) _).trans ((kT_apply ..).trans ((Finset.sum_congr rfl fun k _ => congrArg _ (ld_rows ..)).trans e))
  generalize out0_4 (iblk m c 0 (pt i)) (iblk m c 1 (pt i)) (iblk m c 2 (pt i)) = Y at h hv
  refine (congrArg _ ?_).trans (h.trans hv)
  funext a
  apply Fin.ext
  match a with
  | ⟨0, _⟩ =>
    show n.val = win0_4.index _ 0 * 512 + 1 * n.val
    rw [(idx_cols _).1.1]; omega
  | ⟨1, _⟩ =>
    show i.val = win0_4.index _ 1 * 512 + 1 * (i.val % 512)
    rw [(idx_cols _).1.2]; show i.val = i.val / 512 * 512 + 1 * (i.val % 512); omega

theorem result5 (i : Fin 8192) (n : Fin 1024) : (dats m 0 c).arrAt 5 cfg0.N (ix2 n i) = vt (ws m c) (gn m c) (tk m c i) n := by
  have h := (dats m 0 c).arrAt_emb_eq_flushed 5 Value.disjoint5 (pt i) (flush0_5 _) (ix2 n (rw_ i))
  rw [Value.flushed5] at h
  have hv : out0_5 (iblk m c 0 (pt i)) (iblk m c 1 (pt i)) (iblk m c 2 (pt i)) (ix2 n (rw_ i)) = vt (ws m c) (gn m c) (tk m c i) n := by
    have e := vrow_eq m c (pt i) (rw_ i) n
    rw [at_pt] at e
    exact (congrFun (out5 ..) _).trans ((vt_apply ..).trans e)
  generalize out0_5 (iblk m c 0 (pt i)) (iblk m c 1 (pt i)) (iblk m c 2 (pt i)) = Y at h hv
  refine (congrArg _ ?_).trans (h.trans hv)
  funext a
  apply Fin.ext
  match a with
  | ⟨0, _⟩ =>
    show n.val = win0_5.index _ 0 * 1024 + 1 * n.val
    rw [(idx_cols _).2.1.1]; omega
  | ⟨1, _⟩ =>
    show i.val = win0_5.index _ 1 * 512 + 1 * (i.val % 512)
    rw [(idx_cols _).2.1.2]; show i.val = i.val / 512 * 512 + 1 * (i.val % 512); omega

theorem result6 (i : Fin 8192) (n : Fin 1024) : (dats m 0 c).arrAt 6 cfg0.N (ix2 i n) = z (ws m c) (gn m c) (tk m c i) ⟨1544 + n.val, by have := n.isLt; omega⟩ := by
  have h := (dats m 0 c).arrAt_emb_eq_flushed 6 Value.disjoint6 (pt i) (flush0_6 _) (ix2 (rw_ i) n)
  rw [Value.flushed6] at h
  have hv : out0_6 (iblk m c 0 (pt i)) (iblk m c 1 (pt i)) (iblk m c 2 (pt i)) (ix2 (rw_ i) n) = z (ws m c) (gn m c) (tk m c i) ⟨1544 + n.val, by have := n.isLt; omega⟩ := by
    have e := prd_us m c (pt i) (rw_ i) n.val n.isLt
    rw [at_pt] at e
    exact (congrFun (out6 ..) _).trans ((us_apply ..).trans ((Finset.sum_congr rfl fun k _ => congrArg _ (ld_rows ..)).trans e))
  generalize out0_6 (iblk m c 0 (pt i)) (iblk m c 1 (pt i)) (iblk m c 2 (pt i)) = Y at h hv
  refine (congrArg _ ?_).trans (h.trans hv)
  funext a
  apply Fin.ext
  match a with
  | ⟨0, _⟩ =>
    show i.val = win0_6.index _ 0 * 512 + 1 * (i.val % 512)
    rw [(idx_rows _).2.2.1.1]; show i.val = i.val / 512 * 512 + 1 * (i.val % 512); omega
  | ⟨1, _⟩ =>
    show n.val = win0_6.index _ 1 * 1024 + 1 * n.val
    rw [(idx_rows _).2.2.1.2]; omega

theorem result7 (i : Fin 8192) (n : Fin 128) : (dats m 0 c).arrAt 7 cfg0.N (ix2 i n) = fz (ws m c) (gn m c) (tk m c i) n := by
  have h := (dats m 0 c).arrAt_emb_eq_flushed 7 Value.disjoint7 (pt i) (flush0_7 _) (ix2 (rw_ i) n)
  rw [Value.flushed7] at h
  have hv : out0_7 (iblk m c 0 (pt i)) (iblk m c 1 (pt i)) (iblk m c 2 (pt i)) (ix2 (rw_ i) n) = fz (ws m c) (gn m c) (tk m c i) n := by
    have e := prd_fz m c (pt i) (rw_ i) n
    rw [at_pt] at e
    exact (congrFun (out7 ..) _).trans ((fz_apply ..).trans ((Finset.sum_congr rfl fun k _ => congrArg _ (ld_rows ..)).trans e))
  generalize out0_7 (iblk m c 0 (pt i)) (iblk m c 1 (pt i)) (iblk m c 2 (pt i)) = Y at h hv
  refine (congrArg _ ?_).trans (h.trans hv)
  funext a
  apply Fin.ext
  match a with
  | ⟨0, _⟩ =>
    show i.val = win0_7.index _ 0 * 512 + 1 * (i.val % 512)
    rw [(idx_rows _).2.2.2.1.1]; show i.val = i.val / 512 * 512 + 1 * (i.val % 512); omega
  | ⟨1, _⟩ =>
    show n.val = win0_7.index _ 1 * 128 + 1 * n.val
    rw [(idx_rows _).2.2.2.1.2]; omega

theorem result8 (i : Fin 8192) (n : Fin 1024) : (dats m 0 c).arrAt 8 cfg0.N (ix2 i n) = nrm (gn m c) (tk m c i) n := by
  have h := (dats m 0 c).arrAt_emb_eq_flushed 8 Value.disjoint8 (pt i) (flush0_8 _) (ix2 (rw_ i) n)
  rw [Value.flushed8] at h
  have hv : out0_8 (iblk m c 0 (pt i)) (iblk m c 1 (pt i)) (iblk m c 2 (pt i)) (ix2 (rw_ i) n) = nrm (gn m c) (tk m c i) n := by
    have e := normed_eq m c (pt i) (rw_ i) n
    rw [at_pt] at e
    exact (congrFun (out8 ..) _).trans (e)
  generalize out0_8 (iblk m c 0 (pt i)) (iblk m c 1 (pt i)) (iblk m c 2 (pt i)) = Y at h hv
  refine (congrArg _ ?_).trans (h.trans hv)
  funext a
  apply Fin.ext
  match a with
  | ⟨0, _⟩ =>
    show i.val = win0_8.index _ 0 * 512 + 1 * (i.val % 512)
    rw [(idx_rows _).2.2.2.2.1]; show i.val = i.val / 512 * 512 + 1 * (i.val % 512); omega
  | ⟨1, _⟩ =>
    show n.val = win0_8.index _ 1 * 1024 + 1 * n.val
    rw [(idx_rows _).2.2.2.2.2]; omega

end Cert.KInprojfIdeal.Points

end
-- ==== Proof.Inprojf.Claim.lean ====
/- The claims about the in-projection's forward call: the frames are the generated runs', the value the six results of
   `Inprojf/Value.lean` against the reference's in `Inprojf/Row.lean`. -/
module

public import proofs.«01_k».proof.Defs
public import proofs.«01_k».proof.Proof.Gen.KInprojf.Frame
public import proofs.«01_k».proof.Proof.Gen.RInprojfIdeal.Run
public import proofs.«01_k».proof.Proof.Inprojf.Value

@[expose] public section

noncomputable section

namespace Cert.Inprojf

open Idealize.ShloMosaic Idealize.ShloMosaic.TcCoe Idealize.SL.Sem
open Cert.KInprojfIdeal (cfg0)
open Cert.KInprojfIdeal.Gen (dats)

theorem frame_kernel : Cert.quiescent_KInprojf := fun m ρ _ => Cert.KInprojf.Gen.frame m ρ
theorem frame_ideal : Cert.quiescent_KInprojfIdeal := fun m ρ _ => Cert.KInprojfIdeal.Gen.frame m ρ
theorem frame_reference : Cert.quiescent_RInprojfIdeal := fun m ρ _ =>
  (θ_run Cert.RInprojfIdeal.defs _ _).mono (fun r h => ⟨fun c => (h c).2.2.2.2.2.2, sem_eq_zero_of_no_sems (by decide) r.2⟩)
    (Cert.RInprojfIdeal.Value.run (F := Ideal) m ρ)

theorem algebraic : Cert.algebraic_KInprojfIdeal_RInprojfIdeal := by
  intro m ρ m' ρ' _ hagree
  refine ⟨fun c => (dats m 0 c).arrAt 3 cfg0.N, fun c => (dats m 0 c).arrAt 4 cfg0.N, fun c => (dats m 0 c).arrAt 5 cfg0.N,
    fun c => (dats m 0 c).arrAt 6 cfg0.N, fun c => (dats m 0 c).arrAt 7 cfg0.N, fun c => (dats m 0 c).arrAt 8 cfg0.N,
    Cert.KInprojfIdeal.Value.run_blocks m ρ,
    (θ_run Cert.RInprojfIdeal.defs _ _).mono (fun r h c => ?_) (Cert.RInprojfIdeal.Value.run (F := Ideal) m' ρ')⟩
  obtain ⟨h0, h1, h2, h3, h4, h5, h⟩ := h c
  obtain ⟨a0, a1, a2⟩ := hagree c
  refine ⟨h0.trans ((Cert.RInprojfIdeal.Read.val_main_v23_eq ..).trans (Kit.mat_ext fun i n => ?_)),
    h1.trans ((Cert.RInprojfIdeal.Read.val_main_v26_eq ..).trans (Kit.mat_ext fun n i => ?_)),
    h2.trans ((Cert.RInprojfIdeal.Read.val_main_v28_eq ..).trans (Kit.mat_ext fun n i => ?_)),
    h3.trans ((Cert.RInprojfIdeal.Read.val_main_v29_eq ..).trans (Kit.mat_ext fun i n => ?_)),
    h4.trans ((Cert.RInprojfIdeal.Read.val_main_v21_eq ..).trans (Kit.mat_ext fun i n => ?_)),
    h5.trans ((Cert.RInprojfIdeal.Read.val_main_v30_eq ..).trans (Kit.mat_ext fun i d => ?_)), h⟩
  all_goals simp only [a0, a1, a2]
  · exact (qkv_ref ..).trans (Cert.KInprojfIdeal.Points.result3 m c i n).symm
  · exact (kt_ref ..).trans (Cert.KInprojfIdeal.Points.result4 m c i n).symm
  · exact (vt_ref ..).trans (Cert.KInprojfIdeal.Points.result5 m c i n).symm
  · exact (us_ref ..).trans (Cert.KInprojfIdeal.Points.result6 m c i n).symm
  · exact (fz_ref ..).trans (Cert.KInprojfIdeal.Points.result7 m c i n).symm
  · exact (nrm_ref ..).trans (Cert.KInprojfIdeal.Points.result8 m c i d).symm

end Cert.Inprojf

end
-- ==== Proof.lean ====
module

public import proofs.«01_k».proof.Defs
public import proofs.«01_k».proof.Proof.Gen.KPle
public import proofs.«01_k».proof.Proof.Gen.KPle.Frame
public import proofs.«01_k».proof.Proof.Gen.KPleIdeal
public import proofs.«01_k».proof.Proof.Gen.KPleIdeal.Frame
public import proofs.«01_k».proof.Proof.Gen.KPleIdeal.Value
public import proofs.«01_k».proof.Proof.Gen.RPleIdeal
public import proofs.«01_k».proof.Proof.Gen.RPleIdeal.Run
public import proofs.«01_k».proof.Proof.Gen.RPleIdeal.Read
public import proofs.«01_k».proof.Proof.Gen.KFfn
public import proofs.«01_k».proof.Proof.Gen.KFfn.Frame
public import proofs.«01_k».proof.Proof.Gen.KFfnIdeal
public import proofs.«01_k».proof.Proof.Gen.KFfnIdeal.Frame
public import proofs.«01_k».proof.Proof.Gen.KFfnIdeal.Value
public import proofs.«01_k».proof.Proof.Gen.RFfnIdeal
public import proofs.«01_k».proof.Proof.Gen.RFfnIdeal.Run
public import proofs.«01_k».proof.Proof.Gen.RFfnIdeal.Read
public import proofs.«01_k».proof.Proof.Gen.KInproj
public import proofs.«01_k».proof.Proof.Gen.KInproj.Frame
public import proofs.«01_k».proof.Proof.Gen.KInprojIdeal
public import proofs.«01_k».proof.Proof.Gen.KInprojIdeal.Frame
public import proofs.«01_k».proof.Proof.Gen.KInprojIdeal.Value
public import proofs.«01_k».proof.Proof.Gen.RInprojIdeal
public import proofs.«01_k».proof.Proof.Gen.RInprojIdeal.Run
public import proofs.«01_k».proof.Proof.Gen.RInprojIdeal.Read
public import proofs.«01_k».proof.Proof.Gen.KFgate
public import proofs.«01_k».proof.Proof.Gen.KFgate.Frame
public import proofs.«01_k».proof.Proof.Gen.KFgateIdeal
public import proofs.«01_k».proof.Proof.Gen.KFgateIdeal.Frame
public import proofs.«01_k».proof.Proof.Gen.KFgateIdeal.Value
public import proofs.«01_k».proof.Proof.Gen.RFgateIdeal
public import proofs.«01_k».proof.Proof.Gen.RFgateIdeal.Run
public import proofs.«01_k».proof.Proof.Gen.RFgateIdeal.Read
public import proofs.«01_k».proof.Proof.Gen.KMix
public import proofs.«01_k».proof.Proof.Gen.KMix.Frame
public import proofs.«01_k».proof.Proof.Gen.KMixIdeal
public import proofs.«01_k».proof.Proof.Gen.KMixIdeal.Frame
public import proofs.«01_k».proof.Proof.Gen.KMixIdeal.Value
public import proofs.«01_k».proof.Proof.Gen.RMixIdeal
public import proofs.«01_k».proof.Proof.Gen.RMixIdeal.Run
public import proofs.«01_k».proof.Proof.Gen.RMixIdeal.Read
public import proofs.«01_k».proof.Proof.Gen.KAttn
public import proofs.«01_k».proof.Proof.Gen.KAttnIdeal
public import proofs.«01_k».proof.Proof.Gen.RAttnIdeal
public import proofs.«01_k».proof.Proof.Gen.RAttnIdeal.Run
public import proofs.«01_k».proof.Proof.Gen.RAttnIdeal.Read
public import proofs.«01_k».proof.Proof.Gen.KFfnf
public import proofs.«01_k».proof.Proof.Gen.KFfnf.Frame
public import proofs.«01_k».proof.Proof.Gen.KFfnfIdeal
public import proofs.«01_k».proof.Proof.Gen.KFfnfIdeal.Frame
public import proofs.«01_k».proof.Proof.Gen.KFfnfIdeal.Value
public import proofs.«01_k».proof.Proof.Gen.RFfnfIdeal
public import proofs.«01_k».proof.Proof.Gen.RFfnfIdeal.Run
public import proofs.«01_k».proof.Proof.Gen.RFfnfIdeal.Read
public import proofs.«01_k».proof.Proof.Gen.KInprojf
public import proofs.«01_k».proof.Proof.Gen.KInprojf.Frame
public import proofs.«01_k».proof.Proof.Gen.KInprojfIdeal
public import proofs.«01_k».proof.Proof.Gen.KInprojfIdeal.Frame
public import proofs.«01_k».proof.Proof.Gen.KInprojfIdeal.Value
public import proofs.«01_k».proof.Proof.Gen.RInprojfIdeal
public import proofs.«01_k».proof.Proof.Gen.RInprojfIdeal.Run
public import proofs.«01_k».proof.Proof.Gen.RInprojfIdeal.Read
public import proofs.«01_k».proof.Proof.Ple.Claim
public import proofs.«01_k».proof.Proof.Ffn.Claim
public import proofs.«01_k».proof.Proof.Inproj.Claim
public import proofs.«01_k».proof.Proof.Fgate.Claim
public import proofs.«01_k».proof.Proof.Mix.Claim
public import proofs.«01_k».proof.Proof.Attn.Claim
public import proofs.«01_k».proof.Proof.Ffnf.Claim
public import proofs.«01_k».proof.Proof.Inprojf.Claim
public import Idealize.ShloMosaic.Adequacy
public import Idealize.ShloMosaic.Init

@[expose] public section

noncomputable section

namespace Cert.Proof

open Idealize.ShloMosaic Idealize.SL.Sem

theorem claim : Cert.Claim := ⟨Cert.KPle.Gen.facts, Cert.KPleIdeal.Gen.facts, Cert.RPleIdeal.Gen.facts, Cert.KFfn.Gen.facts, Cert.KFfnIdeal.Gen.facts, Cert.RFfnIdeal.Gen.facts, Cert.KInproj.Gen.facts, Cert.KInprojIdeal.Gen.facts, Cert.RInprojIdeal.Gen.facts, Cert.KFgate.Gen.facts, Cert.KFgateIdeal.Gen.facts, Cert.RFgateIdeal.Gen.facts, Cert.KMix.Gen.facts, Cert.KMixIdeal.Gen.facts, Cert.RMixIdeal.Gen.facts, Cert.KAttn.Gen.facts, Cert.KAttnIdeal.Gen.facts, Cert.RAttnIdeal.Gen.facts, Cert.KFfnf.Gen.facts, Cert.KFfnfIdeal.Gen.facts, Cert.RFfnfIdeal.Gen.facts, Cert.KInprojf.Gen.facts, Cert.KInprojfIdeal.Gen.facts, Cert.RInprojfIdeal.Gen.facts, Cert.Pre_finite_attn.facts,
  Cert.Ple.frame_kernel, Cert.Ple.frame_ideal, Cert.Ple.frame_reference,
  Cert.Ffn.frame_kernel, Cert.Ffn.frame_ideal, Cert.Ffn.frame_reference,
  Cert.Inproj.frame_kernel, Cert.Inproj.frame_ideal, Cert.Inproj.frame_reference,
  Cert.Fgate.frame_kernel, Cert.Fgate.frame_ideal, Cert.Fgate.frame_reference,
  Cert.Mix.frame_kernel, Cert.Mix.frame_ideal, Cert.Mix.frame_reference,
  Cert.Attn.frame_kernel, Cert.Attn.frame_ideal, Cert.Attn.frame_ideal_finite, Cert.Attn.frame_reference, Cert.Attn.frame_reference_finite,
  Cert.Ffnf.frame_kernel, Cert.Ffnf.frame_ideal, Cert.Ffnf.frame_reference,
  Cert.Inprojf.frame_kernel, Cert.Inprojf.frame_ideal, Cert.Inprojf.frame_reference,
  trivial, Cert.Ple.algebraic,
  trivial, Cert.Ffn.algebraic,
  trivial, Cert.Inproj.algebraic,
  trivial, Cert.Fgate.algebraic,
  trivial, Cert.Mix.algebraic,
  trivial, Cert.Attn.algebraic,
  trivial, Cert.Ffnf.algebraic,
  trivial, Cert.Inprojf.algebraic⟩

end Cert.Proof

end
